-- ==== Defs.lean ====
def Pre_Attn6 (m : (ℓ : Loc Cert.Attn6.nD Cert.Attn6.τ Cert.Attn6.sig) → Buf (Elt Bits) ℓ) : Prop :=
  True

def Pre_Attn6Ideal (m : (ℓ : Loc Cert.Attn6Ideal.nD Cert.Attn6Ideal.τ Cert.Attn6Ideal.sig) → Buf (Elt Ideal) ℓ) : Prop :=
  True

def Pre_Attn6Ideal_finite [hPre_finite : Cert.Pre_finite.Facts] (m : (ℓ : Loc Cert.Attn6Ideal.nD Cert.Attn6Ideal.τ Cert.Attn6Ideal.sig) → Buf (Elt Ideal) ℓ) : Prop :=
  ∀ c : Dev Cert.Attn6Ideal.nD,
    (Cert.Pre_finite.fn (F := Ideal) (m ((c.tc : Thread Cert.Attn6Ideal.nD Cert.Attn6Ideal.τ).loc Cert.Attn6Ideal.main_arg0)) (m ((c.tc : Thread Cert.Attn6Ideal.nD Cert.Attn6Ideal.τ).loc Cert.Attn6Ideal.main_arg1)) (m ((c.tc : Thread Cert.Attn6Ideal.nD Cert.Attn6Ideal.τ).loc Cert.Attn6Ideal.main_arg2)) (m ((c.tc : Thread Cert.Attn6Ideal.nD Cert.Attn6Ideal.τ).loc Cert.Attn6Ideal.main_arg3))) = (fun _ => 1#1)

def Pre_AttnGrad6Ideal (m : (ℓ : Loc Cert.AttnGrad6Ideal.nD Cert.AttnGrad6Ideal.τ Cert.AttnGrad6Ideal.sig) → Buf (Elt Ideal) ℓ) : Prop :=
  True

def Pre_AttnGrad6Ideal_finite [hPre_finite : Cert.Pre_finite.Facts] (m : (ℓ : Loc Cert.AttnGrad6Ideal.nD Cert.AttnGrad6Ideal.τ Cert.AttnGrad6Ideal.sig) → Buf (Elt Ideal) ℓ) : Prop :=
  ∀ c : Dev Cert.AttnGrad6Ideal.nD,
    (Cert.Pre_finite.fn (F := Ideal) (m ((c.tc : Thread Cert.AttnGrad6Ideal.nD Cert.AttnGrad6Ideal.τ).loc Cert.AttnGrad6Ideal.main_arg0)) (m ((c.tc : Thread Cert.AttnGrad6Ideal.nD Cert.AttnGrad6Ideal.τ).loc Cert.AttnGrad6Ideal.main_arg1)) (m ((c.tc : Thread Cert.AttnGrad6Ideal.nD Cert.AttnGrad6Ideal.τ).loc Cert.AttnGrad6Ideal.main_arg2)) (m ((c.tc : Thread Cert.AttnGrad6Ideal.nD Cert.AttnGrad6Ideal.τ).loc Cert.AttnGrad6Ideal.main_arg3))) = (fun _ => 1#1)

def Pre_Attn4 (m : (ℓ : Loc Cert.Attn4.nD Cert.Attn4.τ Cert.Attn4.sig) → Buf (Elt Bits) ℓ) : Prop :=
  True

def Pre_Attn4Ideal (m : (ℓ : Loc Cert.Attn4Ideal.nD Cert.Attn4Ideal.τ Cert.Attn4Ideal.sig) → Buf (Elt Ideal) ℓ) : Prop :=
  True

def Pre_Attn4Ideal_finite_later [hPre_finite_later : Cert.Pre_finite_later.Facts] (m : (ℓ : Loc Cert.Attn4Ideal.nD Cert.Attn4Ideal.τ Cert.Attn4Ideal.sig) → Buf (Elt Ideal) ℓ) : Prop :=
  ∀ c : Dev Cert.Attn4Ideal.nD,
    (Cert.Pre_finite_later.fn (F := Ideal) (m ((c.tc : Thread Cert.Attn4Ideal.nD Cert.Attn4Ideal.τ).loc Cert.Attn4Ideal.main_arg0)) (m ((c.tc : Thread Cert.Attn4Ideal.nD Cert.Attn4Ideal.τ).loc Cert.Attn4Ideal.main_arg1)) (m ((c.tc : Thread Cert.Attn4Ideal.nD Cert.Attn4Ideal.τ).loc Cert.Attn4Ideal.main_arg2)) (m ((c.tc : Thread Cert.Attn4Ideal.nD Cert.Attn4Ideal.τ).loc Cert.Attn4Ideal.main_arg3)) (m ((c.tc : Thread Cert.Attn4Ideal.nD Cert.Attn4Ideal.τ).loc Cert.Attn4Ideal.main_arg4)) (m ((c.tc : Thread Cert.Attn4Ideal.nD Cert.Attn4Ideal.τ).loc Cert.Attn4Ideal.main_arg5)) (m ((c.tc : Thread Cert.Attn4Ideal.nD Cert.Attn4Ideal.τ).loc Cert.Attn4Ideal.main_arg6)) (m ((c.tc : Thread Cert.Attn4Ideal.nD Cert.Attn4Ideal.τ).loc Cert.Attn4Ideal.main_arg7))) = (fun _ => 1#1)

def Pre_AttnGrad4Ideal (m : (ℓ : Loc Cert.AttnGrad4Ideal.nD Cert.AttnGrad4Ideal.τ Cert.AttnGrad4Ideal.sig) → Buf (Elt Ideal) ℓ) : Prop :=
  True

def Pre_AttnGrad4Ideal_finite_later [hPre_finite_later : Cert.Pre_finite_later.Facts] (m : (ℓ : Loc Cert.AttnGrad4Ideal.nD Cert.AttnGrad4Ideal.τ Cert.AttnGrad4Ideal.sig) → Buf (Elt Ideal) ℓ) : Prop :=
  ∀ c : Dev Cert.AttnGrad4Ideal.nD,
    (Cert.Pre_finite_later.fn (F := Ideal) (m ((c.tc : Thread Cert.AttnGrad4Ideal.nD Cert.AttnGrad4Ideal.τ).loc Cert.AttnGrad4Ideal.main_arg0)) (m ((c.tc : Thread Cert.AttnGrad4Ideal.nD Cert.AttnGrad4Ideal.τ).loc Cert.AttnGrad4Ideal.main_arg1)) (m ((c.tc : Thread Cert.AttnGrad4Ideal.nD Cert.AttnGrad4Ideal.τ).loc Cert.AttnGrad4Ideal.main_arg2)) (m ((c.tc : Thread Cert.AttnGrad4Ideal.nD Cert.AttnGrad4Ideal.τ).loc Cert.AttnGrad4Ideal.main_arg3)) (m ((c.tc : Thread Cert.AttnGrad4Ideal.nD Cert.AttnGrad4Ideal.τ).loc Cert.AttnGrad4Ideal.main_arg4)) (m ((c.tc : Thread Cert.AttnGrad4Ideal.nD Cert.AttnGrad4Ideal.τ).loc Cert.AttnGrad4Ideal.main_arg5)) (m ((c.tc : Thread Cert.AttnGrad4Ideal.nD Cert.AttnGrad4Ideal.τ).loc Cert.AttnGrad4Ideal.main_arg6)) (m ((c.tc : Thread Cert.AttnGrad4Ideal.nD Cert.AttnGrad4Ideal.τ).loc Cert.AttnGrad4Ideal.main_arg7))) = (fun _ => 1#1)

def Pre_Attn2 (m : (ℓ : Loc Cert.Attn2.nD Cert.Attn2.τ Cert.Attn2.sig) → Buf (Elt Bits) ℓ) : Prop :=
  True

def Pre_Attn2Ideal (m : (ℓ : Loc Cert.Attn2Ideal.nD Cert.Attn2Ideal.τ Cert.Attn2Ideal.sig) → Buf (Elt Ideal) ℓ) : Prop :=
  True

def Pre_Attn2Ideal_finite_later [hPre_finite_later : Cert.Pre_finite_later.Facts] (m : (ℓ : Loc Cert.Attn2Ideal.nD Cert.Attn2Ideal.τ Cert.Attn2Ideal.sig) → Buf (Elt Ideal) ℓ) : Prop :=
  ∀ c : Dev Cert.Attn2Ideal.nD,
    (Cert.Pre_finite_later.fn (F := Ideal) (m ((c.tc : Thread Cert.Attn2Ideal.nD Cert.Attn2Ideal.τ).loc Cert.Attn2Ideal.main_arg0)) (m ((c.tc : Thread Cert.Attn2Ideal.nD Cert.Attn2Ideal.τ).loc Cert.Attn2Ideal.main_arg1)) (m ((c.tc : Thread Cert.Attn2Ideal.nD Cert.Attn2Ideal.τ).loc Cert.Attn2Ideal.main_arg2)) (m ((c.tc : Thread Cert.Attn2Ideal.nD Cert.Attn2Ideal.τ).loc Cert.Attn2Ideal.main_arg3)) (m ((c.tc : Thread Cert.Attn2Ideal.nD Cert.Attn2Ideal.τ).loc Cert.Attn2Ideal.main_arg4)) (m ((c.tc : Thread Cert.Attn2Ideal.nD Cert.Attn2Ideal.τ).loc Cert.Attn2Ideal.main_arg5)) (m ((c.tc : Thread Cert.Attn2Ideal.nD Cert.Attn2Ideal.τ).loc Cert.Attn2Ideal.main_arg6)) (m ((c.tc : Thread Cert.Attn2Ideal.nD Cert.Attn2Ideal.τ).loc Cert.Attn2Ideal.main_arg7))) = (fun _ => 1#1)

def Pre_AttnGrad2Ideal (m : (ℓ : Loc Cert.AttnGrad2Ideal.nD Cert.AttnGrad2Ideal.τ Cert.AttnGrad2Ideal.sig) → Buf (Elt Ideal) ℓ) : Prop :=
  True

def Pre_AttnGrad2Ideal_finite_later [hPre_finite_later : Cert.Pre_finite_later.Facts] (m : (ℓ : Loc Cert.AttnGrad2Ideal.nD Cert.AttnGrad2Ideal.τ Cert.AttnGrad2Ideal.sig) → Buf (Elt Ideal) ℓ) : Prop :=
  ∀ c : Dev Cert.AttnGrad2Ideal.nD,
    (Cert.Pre_finite_later.fn (F := Ideal) (m ((c.tc : Thread Cert.AttnGrad2Ideal.nD Cert.AttnGrad2Ideal.τ).loc Cert.AttnGrad2Ideal.main_arg0)) (m ((c.tc : Thread Cert.AttnGrad2Ideal.nD Cert.AttnGrad2Ideal.τ).loc Cert.AttnGrad2Ideal.main_arg1)) (m ((c.tc : Thread Cert.AttnGrad2Ideal.nD Cert.AttnGrad2Ideal.τ).loc Cert.AttnGrad2Ideal.main_arg2)) (m ((c.tc : Thread Cert.AttnGrad2Ideal.nD Cert.AttnGrad2Ideal.τ).loc Cert.AttnGrad2Ideal.main_arg3)) (m ((c.tc : Thread Cert.AttnGrad2Ideal.nD Cert.AttnGrad2Ideal.τ).loc Cert.AttnGrad2Ideal.main_arg4)) (m ((c.tc : Thread Cert.AttnGrad2Ideal.nD Cert.AttnGrad2Ideal.τ).loc Cert.AttnGrad2Ideal.main_arg5)) (m ((c.tc : Thread Cert.AttnGrad2Ideal.nD Cert.AttnGrad2Ideal.τ).loc Cert.AttnGrad2Ideal.main_arg6)) (m ((c.tc : Thread Cert.AttnGrad2Ideal.nD Cert.AttnGrad2Ideal.τ).loc Cert.AttnGrad2Ideal.main_arg7))) = (fun _ => 1#1)

def Pre_Attn0 (m : (ℓ : Loc Cert.Attn0.nD Cert.Attn0.τ Cert.Attn0.sig) → Buf (Elt Bits) ℓ) : Prop :=
  True

def Pre_Attn0Ideal (m : (ℓ : Loc Cert.Attn0Ideal.nD Cert.Attn0Ideal.τ Cert.Attn0Ideal.sig) → Buf (Elt Ideal) ℓ) : Prop :=
  True

def Pre_Attn0Ideal_finite_later [hPre_finite_later : Cert.Pre_finite_later.Facts] (m : (ℓ : Loc Cert.Attn0Ideal.nD Cert.Attn0Ideal.τ Cert.Attn0Ideal.sig) → Buf (Elt Ideal) ℓ) : Prop :=
  ∀ c : Dev Cert.Attn0Ideal.nD,
    (Cert.Pre_finite_later.fn (F := Ideal) (m ((c.tc : Thread Cert.Attn0Ideal.nD Cert.Attn0Ideal.τ).loc Cert.Attn0Ideal.main_arg0)) (m ((c.tc : Thread Cert.Attn0Ideal.nD Cert.Attn0Ideal.τ).loc Cert.Attn0Ideal.main_arg1)) (m ((c.tc : Thread Cert.Attn0Ideal.nD Cert.Attn0Ideal.τ).loc Cert.Attn0Ideal.main_arg2)) (m ((c.tc : Thread Cert.Attn0Ideal.nD Cert.Attn0Ideal.τ).loc Cert.Attn0Ideal.main_arg3)) (m ((c.tc : Thread Cert.Attn0Ideal.nD Cert.Attn0Ideal.τ).loc Cert.Attn0Ideal.main_arg4)) (m ((c.tc : Thread Cert.Attn0Ideal.nD Cert.Attn0Ideal.τ).loc Cert.Attn0Ideal.main_arg5)) (m ((c.tc : Thread Cert.Attn0Ideal.nD Cert.Attn0Ideal.τ).loc Cert.Attn0Ideal.main_arg6)) (m ((c.tc : Thread Cert.Attn0Ideal.nD Cert.Attn0Ideal.τ).loc Cert.Attn0Ideal.main_arg7))) = (fun _ => 1#1)

def Pre_AttnGrad0Ideal (m : (ℓ : Loc Cert.AttnGrad0Ideal.nD Cert.AttnGrad0Ideal.τ Cert.AttnGrad0Ideal.sig) → Buf (Elt Ideal) ℓ) : Prop :=
  True

def Pre_AttnGrad0Ideal_finite_later [hPre_finite_later : Cert.Pre_finite_later.Facts] (m : (ℓ : Loc Cert.AttnGrad0Ideal.nD Cert.AttnGrad0Ideal.τ Cert.AttnGrad0Ideal.sig) → Buf (Elt Ideal) ℓ) : Prop :=
  ∀ c : Dev Cert.AttnGrad0Ideal.nD,
    (Cert.Pre_finite_later.fn (F := Ideal) (m ((c.tc : Thread Cert.AttnGrad0Ideal.nD Cert.AttnGrad0Ideal.τ).loc Cert.AttnGrad0Ideal.main_arg0)) (m ((c.tc : Thread Cert.AttnGrad0Ideal.nD Cert.AttnGrad0Ideal.τ).loc Cert.AttnGrad0Ideal.main_arg1)) (m ((c.tc : Thread Cert.AttnGrad0Ideal.nD Cert.AttnGrad0Ideal.τ).loc Cert.AttnGrad0Ideal.main_arg2)) (m ((c.tc : Thread Cert.AttnGrad0Ideal.nD Cert.AttnGrad0Ideal.τ).loc Cert.AttnGrad0Ideal.main_arg3)) (m ((c.tc : Thread Cert.AttnGrad0Ideal.nD Cert.AttnGrad0Ideal.τ).loc Cert.AttnGrad0Ideal.main_arg4)) (m ((c.tc : Thread Cert.AttnGrad0Ideal.nD Cert.AttnGrad0Ideal.τ).loc Cert.AttnGrad0Ideal.main_arg5)) (m ((c.tc : Thread Cert.AttnGrad0Ideal.nD Cert.AttnGrad0Ideal.τ).loc Cert.AttnGrad0Ideal.main_arg6)) (m ((c.tc : Thread Cert.AttnGrad0Ideal.nD Cert.AttnGrad0Ideal.τ).loc Cert.AttnGrad0Ideal.main_arg7))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWRefIdeal (m : (ℓ : Loc Cert.ProjWRefIdeal.nD Cert.ProjWRefIdeal.τ Cert.ProjWRefIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXRefIdeal (m : (ℓ : Loc Cert.ProjXRefIdeal.nD Cert.ProjXRefIdeal.τ Cert.ProjXRefIdeal.sig) → Buf (Elt Ideal) ℓ) : Prop :=
  True

def Pre_KvW (m : (ℓ : Loc Cert.KvW.nD Cert.KvW.τ Cert.KvW.sig) → Buf (Elt Bits) ℓ) : Prop :=
  True

def Pre_KvWIdeal (m : (ℓ : Loc Cert.KvWIdeal.nD Cert.KvWIdeal.τ Cert.KvWIdeal.sig) → Buf (Elt Ideal) ℓ) : Prop :=
  True

def Pre_KvWRefIdeal (m : (ℓ : Loc Cert.KvWRefIdeal.nD Cert.KvWRefIdeal.τ Cert.KvWRefIdeal.sig) → Buf (Elt Ideal) ℓ) : Prop :=
  True

def Pre_KvX (m : (ℓ : Loc Cert.KvX.nD Cert.KvX.τ Cert.KvX.sig) → Buf (Elt Bits) ℓ) : Prop :=
  True

def Pre_KvXIdeal (m : (ℓ : Loc Cert.KvXIdeal.nD Cert.KvXIdeal.τ Cert.KvXIdeal.sig) → Buf (Elt Ideal) ℓ) : Prop :=
  True

def Pre_KvXRefIdeal (m : (ℓ : Loc Cert.KvXRefIdeal.nD Cert.KvXRefIdeal.τ Cert.KvXRefIdeal.sig) → Buf (Elt Ideal) ℓ) : Prop :=
  True

def Pre_PleW (m : (ℓ : Loc Cert.PleW.nD Cert.PleW.τ Cert.PleW.sig) → Buf (Elt Bits) ℓ) : Prop :=
  True

def Pre_PleWIdeal (m : (ℓ : Loc Cert.PleWIdeal.nD Cert.PleWIdeal.τ Cert.PleWIdeal.sig) → Buf (Elt Ideal) ℓ) : Prop :=
  True

def Pre_PleWRefIdeal (m : (ℓ : Loc Cert.PleWRefIdeal.nD Cert.PleWRefIdeal.τ Cert.PleWRefIdeal.sig) → Buf (Elt Ideal) ℓ) : Prop :=
  True

def Pre_StepRows (m : (ℓ : Loc Cert.StepRows.nD Cert.StepRows.τ Cert.StepRows.sig) → Buf (Elt Bits) ℓ) : Prop :=
  True

def Pre_StepRowsIdeal (m : (ℓ : Loc Cert.StepRowsIdeal.nD Cert.StepRowsIdeal.τ Cert.StepRowsIdeal.sig) → Buf (Elt Ideal) ℓ) : Prop :=
  True

def Pre_StepRowsRefIdeal (m : (ℓ : Loc Cert.StepRowsRefIdeal.nD Cert.StepRowsRefIdeal.τ Cert.StepRowsRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepKvf (m : (ℓ : Loc Cert.StepKvf.nD Cert.StepKvf.τ Cert.StepKvf.sig) → Buf (Elt Bits) ℓ) : Prop :=
  True

def Pre_StepKvfIdeal (m : (ℓ : Loc Cert.StepKvfIdeal.nD Cert.StepKvfIdeal.τ Cert.StepKvfIdeal.sig) → Buf (Elt Ideal) ℓ) : Prop :=
  True

def Pre_StepKvfRefIdeal (m : (ℓ : Loc Cert.StepKvfRefIdeal.nD Cert.StepKvfRefIdeal.τ Cert.StepKvfRefIdeal.sig) → Buf (Elt Ideal) ℓ) : Prop :=
  True

def Pre_StepLb (m : (ℓ : Loc Cert.StepLb.nD Cert.StepLb.τ Cert.StepLb.sig) → Buf (Elt Bits) ℓ) : Prop :=
  True

def Pre_StepLbIdeal (m : (ℓ : Loc Cert.StepLbIdeal.nD Cert.StepLbIdeal.τ Cert.StepLbIdeal.sig) → Buf (Elt Ideal) ℓ) : Prop :=
  True

def Pre_StepLbRefIdeal (m : (ℓ : Loc Cert.StepLbRefIdeal.nD Cert.StepLbRefIdeal.τ Cert.StepLbRefIdeal.sig) → Buf (Elt Ideal) ℓ) : Prop :=
  True

def Pre_StepGate (m : (ℓ : Loc Cert.StepGate.nD Cert.StepGate.τ Cert.StepGate.sig) → Buf (Elt Bits) ℓ) : Prop :=
  True

def Pre_StepGateIdeal (m : (ℓ : Loc Cert.StepGateIdeal.nD Cert.StepGateIdeal.τ Cert.StepGateIdeal.sig) → Buf (Elt Ideal) ℓ) : Prop :=
  True

def Pre_StepGateRefIdeal (m : (ℓ : Loc Cert.StepGateRefIdeal.nD Cert.StepGateRefIdeal.τ Cert.StepGateRefIdeal.sig) → Buf (Elt Ideal) ℓ) : Prop :=
  True

def Pre_StepPle (m : (ℓ : Loc Cert.StepPle.nD Cert.StepPle.τ Cert.StepPle.sig) → Buf (Elt Bits) ℓ) : Prop :=
  True

def Pre_StepPleIdeal (m : (ℓ : Loc Cert.StepPleIdeal.nD Cert.StepPleIdeal.τ Cert.StepPleIdeal.sig) → Buf (Elt Ideal) ℓ) : Prop :=
  True

def Pre_StepPleRefIdeal (m : (ℓ : Loc Cert.StepPleRefIdeal.nD Cert.StepPleRefIdeal.τ Cert.StepPleRefIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownRefIdeal (m : (ℓ : Loc Cert.StepDownRefIdeal.nD Cert.StepDownRefIdeal.τ Cert.StepDownRefIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallRefIdeal (m : (ℓ : Loc Cert.StepSmallRefIdeal.nD Cert.StepSmallRefIdeal.τ Cert.StepSmallRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def quiescent_Attn6 [hAttn6 : Cert.Attn6.Facts] : Prop :=
  ∀ (m : (ℓ : Loc Cert.Attn6.nD Cert.Attn6.τ Cert.Attn6.sig) → Buf (Elt Bits) ℓ) (g : Dev Cert.Attn6.nD → PrngReg), Pre_Attn6 m →
    θ_run (Cert.Attn6.defs (F := Bits)) (onTc (τ := Cert.Attn6.τ) (Cert.Attn6.main (F := Bits))) ⟨m, fun _ => 0, g⟩ (fun r => (∀ c : Dev Cert.Attn6.nD,
      r.2.mem ((c.tc : Thread Cert.Attn6.nD Cert.Attn6.τ).loc Cert.Attn6.main_arg0) = m ((c.tc : Thread Cert.Attn6.nD Cert.Attn6.τ).loc Cert.Attn6.main_arg0)
      ∧ r.2.mem ((c.tc : Thread Cert.Attn6.nD Cert.Attn6.τ).loc Cert.Attn6.main_arg1) = m ((c.tc : Thread Cert.Attn6.nD Cert.Attn6.τ).loc Cert.Attn6.main_arg1)
      ∧ r.2.mem ((c.tc : Thread Cert.Attn6.nD Cert.Attn6.τ).loc Cert.Attn6.main_arg2) = m ((c.tc : Thread Cert.Attn6.nD Cert.Attn6.τ).loc Cert.Attn6.main_arg2)
      ∧ r.2.mem ((c.tc : Thread Cert.Attn6.nD Cert.Attn6.τ).loc Cert.Attn6.main_arg3) = m ((c.tc : Thread Cert.Attn6.nD Cert.Attn6.τ).loc Cert.Attn6.main_arg3))
      ∧ r.2.sem = fun _ => 0)

def quiescent_Attn6Ideal [hAttn6Ideal : Cert.Attn6Ideal.Facts] : Prop :=
  ∀ (m : (ℓ : Loc Cert.Attn6Ideal.nD Cert.Attn6Ideal.τ Cert.Attn6Ideal.sig) → Buf (Elt Ideal) ℓ) (g : Dev Cert.Attn6Ideal.nD → PrngReg), Pre_Attn6Ideal m →
    θ_run (Cert.Attn6Ideal.defs (F := Ideal)) (onTc (τ := Cert.Attn6Ideal.τ) (Cert.Attn6Ideal.main (F := Ideal))) ⟨m, fun _ => 0, g⟩ (fun r => (∀ c : Dev Cert.Attn6Ideal.nD,
      r.2.mem ((c.tc : Thread Cert.Attn6Ideal.nD Cert.Attn6Ideal.τ).loc Cert.Attn6Ideal.main_arg0) = m ((c.tc : Thread Cert.Attn6Ideal.nD Cert.Attn6Ideal.τ).loc Cert.Attn6Ideal.main_arg0)
      ∧ r.2.mem ((c.tc : Thread Cert.Attn6Ideal.nD Cert.Attn6Ideal.τ).loc Cert.Attn6Ideal.main_arg1) = m ((c.tc : Thread Cert.Attn6Ideal.nD Cert.Attn6Ideal.τ).loc Cert.Attn6Ideal.main_arg1)
      ∧ r.2.mem ((c.tc : Thread Cert.Attn6Ideal.nD Cert.Attn6Ideal.τ).loc Cert.Attn6Ideal.main_arg2) = m ((c.tc : Thread Cert.Attn6Ideal.nD Cert.Attn6Ideal.τ).loc Cert.Attn6Ideal.main_arg2)
      ∧ r.2.mem ((c.tc : Thread Cert.Attn6Ideal.nD Cert.Attn6Ideal.τ).loc Cert.Attn6Ideal.main_arg3) = m ((c.tc : Thread Cert.Attn6Ideal.nD Cert.Attn6Ideal.τ).loc Cert.Attn6Ideal.main_arg3))
      ∧ r.2.sem = fun _ => 0)

def quiescent_Attn6Ideal_pre_finite [hAttn6Ideal : Cert.Attn6Ideal.Facts] [hPre_finite : Cert.Pre_finite.Facts] : Prop :=
  ∀ (m : (ℓ : Loc Cert.Attn6Ideal.nD Cert.Attn6Ideal.τ Cert.Attn6Ideal.sig) → Buf (Elt Ideal) ℓ) (g : Dev Cert.Attn6Ideal.nD → PrngReg), Pre_Attn6Ideal_finite m →
    θ_run (Cert.Attn6Ideal.defs (F := Ideal)) (onTc (τ := Cert.Attn6Ideal.τ) (Cert.Attn6Ideal.main (F := Ideal))) ⟨m, fun _ => 0, g⟩ (fun r => (∀ c : Dev Cert.Attn6Ideal.nD,
      r.2.mem ((c.tc : Thread Cert.Attn6Ideal.nD Cert.Attn6Ideal.τ).loc Cert.Attn6Ideal.main_arg0) = m ((c.tc : Thread Cert.Attn6Ideal.nD Cert.Attn6Ideal.τ).loc Cert.Attn6Ideal.main_arg0)
      ∧ r.2.mem ((c.tc : Thread Cert.Attn6Ideal.nD Cert.Attn6Ideal.τ).loc Cert.Attn6Ideal.main_arg1) = m ((c.tc : Thread Cert.Attn6Ideal.nD Cert.Attn6Ideal.τ).loc Cert.Attn6Ideal.main_arg1)
      ∧ r.2.mem ((c.tc : Thread Cert.Attn6Ideal.nD Cert.Attn6Ideal.τ).loc Cert.Attn6Ideal.main_arg2) = m ((c.tc : Thread Cert.Attn6Ideal.nD Cert.Attn6Ideal.τ).loc Cert.Attn6Ideal.main_arg2)
      ∧ r.2.mem ((c.tc : Thread Cert.Attn6Ideal.nD Cert.Attn6Ideal.τ).loc Cert.Attn6Ideal.main_arg3) = m ((c.tc : Thread Cert.Attn6Ideal.nD Cert.Attn6Ideal.τ).loc Cert.Attn6Ideal.main_arg3))
      ∧ r.2.sem = fun _ => 0)

def quiescent_AttnGrad6Ideal [hAttnGrad6Ideal : Cert.AttnGrad6Ideal.Facts] : Prop :=
  ∀ (m : (ℓ : Loc Cert.AttnGrad6Ideal.nD Cert.AttnGrad6Ideal.τ Cert.AttnGrad6Ideal.sig) → Buf (Elt Ideal) ℓ) (g : Dev Cert.AttnGrad6Ideal.nD → PrngReg), Pre_AttnGrad6Ideal m →
    θ_run (Cert.AttnGrad6Ideal.defs (F := Ideal)) (onTc (τ := Cert.AttnGrad6Ideal.τ) (Cert.AttnGrad6Ideal.main (F := Ideal))) ⟨m, fun _ => 0, g⟩ (fun r => (∀ c : Dev Cert.AttnGrad6Ideal.nD,
      r.2.mem ((c.tc : Thread Cert.AttnGrad6Ideal.nD Cert.AttnGrad6Ideal.τ).loc Cert.AttnGrad6Ideal.main_arg0) = m ((c.tc : Thread Cert.AttnGrad6Ideal.nD Cert.AttnGrad6Ideal.τ).loc Cert.AttnGrad6Ideal.main_arg0)
      ∧ r.2.mem ((c.tc : Thread Cert.AttnGrad6Ideal.nD Cert.AttnGrad6Ideal.τ).loc Cert.AttnGrad6Ideal.main_arg1) = m ((c.tc : Thread Cert.AttnGrad6Ideal.nD Cert.AttnGrad6Ideal.τ).loc Cert.AttnGrad6Ideal.main_arg1)
      ∧ r.2.mem ((c.tc : Thread Cert.AttnGrad6Ideal.nD Cert.AttnGrad6Ideal.τ).loc Cert.AttnGrad6Ideal.main_arg2) = m ((c.tc : Thread Cert.AttnGrad6Ideal.nD Cert.AttnGrad6Ideal.τ).loc Cert.AttnGrad6Ideal.main_arg2)
      ∧ r.2.mem ((c.tc : Thread Cert.AttnGrad6Ideal.nD Cert.AttnGrad6Ideal.τ).loc Cert.AttnGrad6Ideal.main_arg3) = m ((c.tc : Thread Cert.AttnGrad6Ideal.nD Cert.AttnGrad6Ideal.τ).loc Cert.AttnGrad6Ideal.main_arg3))
      ∧ r.2.sem = fun _ => 0)

def quiescent_AttnGrad6Ideal_pre_finite [hAttnGrad6Ideal : Cert.AttnGrad6Ideal.Facts] [hPre_finite : Cert.Pre_finite.Facts] : Prop :=
  ∀ (m : (ℓ : Loc Cert.AttnGrad6Ideal.nD Cert.AttnGrad6Ideal.τ Cert.AttnGrad6Ideal.sig) → Buf (Elt Ideal) ℓ) (g : Dev Cert.AttnGrad6Ideal.nD → PrngReg), Pre_AttnGrad6Ideal_finite m →
    θ_run (Cert.AttnGrad6Ideal.defs (F := Ideal)) (onTc (τ := Cert.AttnGrad6Ideal.τ) (Cert.AttnGrad6Ideal.main (F := Ideal))) ⟨m, fun _ => 0, g⟩ (fun r => (∀ c : Dev Cert.AttnGrad6Ideal.nD,
      r.2.mem ((c.tc : Thread Cert.AttnGrad6Ideal.nD Cert.AttnGrad6Ideal.τ).loc Cert.AttnGrad6Ideal.main_arg0) = m ((c.tc : Thread Cert.AttnGrad6Ideal.nD Cert.AttnGrad6Ideal.τ).loc Cert.AttnGrad6Ideal.main_arg0)
      ∧ r.2.mem ((c.tc : Thread Cert.AttnGrad6Ideal.nD Cert.AttnGrad6Ideal.τ).loc Cert.AttnGrad6Ideal.main_arg1) = m ((c.tc : Thread Cert.AttnGrad6Ideal.nD Cert.AttnGrad6Ideal.τ).loc Cert.AttnGrad6Ideal.main_arg1)
      ∧ r.2.mem ((c.tc : Thread Cert.AttnGrad6Ideal.nD Cert.AttnGrad6Ideal.τ).loc Cert.AttnGrad6Ideal.main_arg2) = m ((c.tc : Thread Cert.AttnGrad6Ideal.nD Cert.AttnGrad6Ideal.τ).loc Cert.AttnGrad6Ideal.main_arg2)
      ∧ r.2.mem ((c.tc : Thread Cert.AttnGrad6Ideal.nD Cert.AttnGrad6Ideal.τ).loc Cert.AttnGrad6Ideal.main_arg3) = m ((c.tc : Thread Cert.AttnGrad6Ideal.nD Cert.AttnGrad6Ideal.τ).loc Cert.AttnGrad6Ideal.main_arg3))
      ∧ r.2.sem = fun _ => 0)

def quiescent_Attn4 [hAttn4 : Cert.Attn4.Facts] : Prop :=
  ∀ (m : (ℓ : Loc Cert.Attn4.nD Cert.Attn4.τ Cert.Attn4.sig) → Buf (Elt Bits) ℓ) (g : Dev Cert.Attn4.nD → PrngReg), Pre_Attn4 m →
    θ_run (Cert.Attn4.defs (F := Bits)) (onTc (τ := Cert.Attn4.τ) (Cert.Attn4.main (F := Bits))) ⟨m, fun _ => 0, g⟩ (fun r => (∀ c : Dev Cert.Attn4.nD,
      r.2.mem ((c.tc : Thread Cert.Attn4.nD Cert.Attn4.τ).loc Cert.Attn4.main_arg0) = m ((c.tc : Thread Cert.Attn4.nD Cert.Attn4.τ).loc Cert.Attn4.main_arg0)
      ∧ r.2.mem ((c.tc : Thread Cert.Attn4.nD Cert.Attn4.τ).loc Cert.Attn4.main_arg1) = m ((c.tc : Thread Cert.Attn4.nD Cert.Attn4.τ).loc Cert.Attn4.main_arg1)
      ∧ r.2.mem ((c.tc : Thread Cert.Attn4.nD Cert.Attn4.τ).loc Cert.Attn4.main_arg2) = m ((c.tc : Thread Cert.Attn4.nD Cert.Attn4.τ).loc Cert.Attn4.main_arg2)
      ∧ r.2.mem ((c.tc : Thread Cert.Attn4.nD Cert.Attn4.τ).loc Cert.Attn4.main_arg3) = m ((c.tc : Thread Cert.Attn4.nD Cert.Attn4.τ).loc Cert.Attn4.main_arg3)
      ∧ r.2.mem ((c.tc : Thread Cert.Attn4.nD Cert.Attn4.τ).loc Cert.Attn4.main_arg4) = m ((c.tc : Thread Cert.Attn4.nD Cert.Attn4.τ).loc Cert.Attn4.main_arg4)
      ∧ r.2.mem ((c.tc : Thread Cert.Attn4.nD Cert.Attn4.τ).loc Cert.Attn4.main_arg5) = m ((c.tc : Thread Cert.Attn4.nD Cert.Attn4.τ).loc Cert.Attn4.main_arg5)
      ∧ r.2.mem ((c.tc : Thread Cert.Attn4.nD Cert.Attn4.τ).loc Cert.Attn4.main_arg6) = m ((c.tc : Thread Cert.Attn4.nD Cert.Attn4.τ).loc Cert.Attn4.main_arg6)
      ∧ r.2.mem ((c.tc : Thread Cert.Attn4.nD Cert.Attn4.τ).loc Cert.Attn4.main_arg7) = m ((c.tc : Thread Cert.Attn4.nD Cert.Attn4.τ).loc Cert.Attn4.main_arg7))
      ∧ r.2.sem = fun _ => 0)

def quiescent_Attn4Ideal [hAttn4Ideal : Cert.Attn4Ideal.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
      ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
      ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2)
      ∧ r.2.mem ((c.tc : Thread Cert.Attn4Ideal.nD Cert.Attn4Ideal.τ).loc Cert.Attn4Ideal.main_arg3) = m ((c.tc : Thread Cert.Attn4Ideal.nD Cert.Attn4Ideal.τ).loc Cert.Attn4Ideal.main_arg3)
      ∧ r.2.mem ((c.tc : Thread Cert.Attn4Ideal.nD Cert.Attn4Ideal.τ).loc Cert.Attn4Ideal.main_arg4) = m ((c.tc : Thread Cert.Attn4Ideal.nD Cert.Attn4Ideal.τ).loc Cert.Attn4Ideal.main_arg4)
      ∧ r.2.mem ((c.tc : Thread Cert.Attn4Ideal.nD Cert.Attn4Ideal.τ).loc Cert.Attn4Ideal.main_arg5) = m ((c.tc : Thread Cert.Attn4Ideal.nD Cert.Attn4Ideal.τ).loc Cert.Attn4Ideal.main_arg5)
      ∧ r.2.mem ((c.tc : Thread Cert.Attn4Ideal.nD Cert.Attn4Ideal.τ).loc Cert.Attn4Ideal.main_arg6) = m ((c.tc : Thread Cert.Attn4Ideal.nD Cert.Attn4Ideal.τ).loc Cert.Attn4Ideal.main_arg6)
      ∧ r.2.mem ((c.tc : Thread Cert.Attn4Ideal.nD Cert.Attn4Ideal.τ).loc Cert.Attn4Ideal.main_arg7) = m ((c.tc : Thread Cert.Attn4Ideal.nD Cert.Attn4Ideal.τ).loc Cert.Attn4Ideal.main_arg7))
      ∧ r.2.sem = fun _ => 0)

def quiescent_Attn4Ideal_pre_finite_later [hAttn4Ideal : Cert.Attn4Ideal.Facts] [hPre_finite_later : Cert.Pre_finite_later.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal_finite_later m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
      ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
      ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2)
      ∧ r.2.mem ((c.tc : Thread Cert.Attn4Ideal.nD Cert.Attn4Ideal.τ).loc Cert.Attn4Ideal.main_arg3) = m ((c.tc : Thread Cert.Attn4Ideal.nD Cert.Attn4Ideal.τ).loc Cert.Attn4Ideal.main_arg3)
      ∧ r.2.mem ((c.tc : Thread Cert.Attn4Ideal.nD Cert.Attn4Ideal.τ).loc Cert.Attn4Ideal.main_arg4) = m ((c.tc : Thread Cert.Attn4Ideal.nD Cert.Attn4Ideal.τ).loc Cert.Attn4Ideal.main_arg4)
      ∧ r.2.mem ((c.tc : Thread Cert.Attn4Ideal.nD Cert.Attn4Ideal.τ).loc Cert.Attn4Ideal.main_arg5) = m ((c.tc : Thread Cert.Attn4Ideal.nD Cert.Attn4Ideal.τ).loc Cert.Attn4Ideal.main_arg5)
      ∧ r.2.mem ((c.tc : Thread Cert.Attn4Ideal.nD Cert.Attn4Ideal.τ).loc Cert.Attn4Ideal.main_arg6) = m ((c.tc : Thread Cert.Attn4Ideal.nD Cert.Attn4Ideal.τ).loc Cert.Attn4Ideal.main_arg6)
      ∧ r.2.mem ((c.tc : Thread Cert.Attn4Ideal.nD Cert.Attn4Ideal.τ).loc Cert.Attn4Ideal.main_arg7) = m ((c.tc : Thread Cert.Attn4Ideal.nD Cert.Attn4Ideal.τ).loc Cert.Attn4Ideal.main_arg7))
      ∧ r.2.sem = fun _ => 0)

def quiescent_AttnGrad4Ideal [hAttnGrad4Ideal : Cert.AttnGrad4Ideal.Facts] : Prop :=
  ∀ (m : (ℓ : Loc Cert.AttnGrad4Ideal.nD Cert.AttnGrad4Ideal.τ Cert.AttnGrad4Ideal.sig) → Buf (Elt Ideal) ℓ) (g : Dev Cert.AttnGrad4Ideal.nD → PrngReg), Pre_AttnGrad4Ideal m →
    θ_run (Cert.AttnGrad4Ideal.defs (F := Ideal)) (onTc (τ := Cert.AttnGrad4Ideal.τ) (Cert.AttnGrad4Ideal.main (F := Ideal))) ⟨m, fun _ => 0, g⟩ (fun r => (∀ c : Dev Cert.AttnGrad4Ideal.nD,
      r.2.mem ((c.tc : Thread Cert.AttnGrad4Ideal.nD Cert.AttnGrad4Ideal.τ).loc Cert.AttnGrad4Ideal.main_arg0) = m ((c.tc : Thread Cert.AttnGrad4Ideal.nD Cert.AttnGrad4Ideal.τ).loc Cert.AttnGrad4Ideal.main_arg0)
      ∧ r.2.mem ((c.tc : Thread Cert.AttnGrad4Ideal.nD Cert.AttnGrad4Ideal.τ).loc Cert.AttnGrad4Ideal.main_arg1) = m ((c.tc : Thread Cert.AttnGrad4Ideal.nD Cert.AttnGrad4Ideal.τ).loc Cert.AttnGrad4Ideal.main_arg1)
      ∧ r.2.mem ((c.tc : Thread Cert.AttnGrad4Ideal.nD Cert.AttnGrad4Ideal.τ).loc Cert.AttnGrad4Ideal.main_arg2) = m ((c.tc : Thread Cert.AttnGrad4Ideal.nD Cert.AttnGrad4Ideal.τ).loc Cert.AttnGrad4Ideal.main_arg2)
      ∧ r.2.mem ((c.tc : Thread Cert.AttnGrad4Ideal.nD Cert.AttnGrad4Ideal.τ).loc Cert.AttnGrad4Ideal.main_arg3) = m ((c.tc : Thread Cert.AttnGrad4Ideal.nD Cert.AttnGrad4Ideal.τ).loc Cert.AttnGrad4Ideal.main_arg3)
      ∧ r.2.mem ((c.tc : Thread Cert.AttnGrad4Ideal.nD Cert.AttnGrad4Ideal.τ).loc Cert.AttnGrad4Ideal.main_arg4) = m ((c.tc : Thread Cert.AttnGrad4Ideal.nD Cert.AttnGrad4Ideal.τ).loc Cert.AttnGrad4Ideal.main_arg4)
      ∧ r.2.mem ((c.tc : Thread Cert.AttnGrad4Ideal.nD Cert.AttnGrad4Ideal.τ).loc Cert.AttnGrad4Ideal.main_arg5) = m ((c.tc : Thread Cert.AttnGrad4Ideal.nD Cert.AttnGrad4Ideal.τ).loc Cert.AttnGrad4Ideal.main_arg5)
      ∧ r.2.mem ((c.tc : Thread Cert.AttnGrad4Ideal.nD Cert.AttnGrad4Ideal.τ).loc Cert.AttnGrad4Ideal.main_arg6) = m ((c.tc : Thread Cert.AttnGrad4Ideal.nD Cert.AttnGrad4Ideal.τ).loc Cert.AttnGrad4Ideal.main_arg6)
      ∧ r.2.mem ((c.tc : Thread Cert.AttnGrad4Ideal.nD Cert.AttnGrad4Ideal.τ).loc Cert.AttnGrad4Ideal.main_arg7) = m ((c.tc : Thread Cert.AttnGrad4Ideal.nD Cert.AttnGrad4Ideal.τ).loc Cert.AttnGrad4Ideal.main_arg7))
      ∧ r.2.sem = fun _ => 0)

def quiescent_AttnGrad4Ideal_pre_finite_later [hAttnGrad4Ideal : Cert.AttnGrad4Ideal.Facts] [hPre_finite_later : Cert.Pre_finite_later.Facts] : Prop :=
  ∀ (m : (ℓ : Loc Cert.AttnGrad4Ideal.nD Cert.AttnGrad4Ideal.τ Cert.AttnGrad4Ideal.sig) → Buf (Elt Ideal) ℓ) (g : Dev Cert.AttnGrad4Ideal.nD → PrngReg), Pre_AttnGrad4Ideal_finite_later m →
    θ_run (Cert.AttnGrad4Ideal.defs (F := Ideal)) (onTc (τ := Cert.AttnGrad4Ideal.τ) (Cert.AttnGrad4Ideal.main (F := Ideal))) ⟨m, fun _ => 0, g⟩ (fun r => (∀ c : Dev Cert.AttnGrad4Ideal.nD,
      r.2.mem ((c.tc : Thread Cert.AttnGrad4Ideal.nD Cert.AttnGrad4Ideal.τ).loc Cert.AttnGrad4Ideal.main_arg0) = m ((c.tc : Thread Cert.AttnGrad4Ideal.nD Cert.AttnGrad4Ideal.τ).loc Cert.AttnGrad4Ideal.main_arg0)
      ∧ r.2.mem ((c.tc : Thread Cert.AttnGrad4Ideal.nD Cert.AttnGrad4Ideal.τ).loc Cert.AttnGrad4Ideal.main_arg1) = m ((c.tc : Thread Cert.AttnGrad4Ideal.nD Cert.AttnGrad4Ideal.τ).loc Cert.AttnGrad4Ideal.main_arg1)
      ∧ r.2.mem ((c.tc : Thread Cert.AttnGrad4Ideal.nD Cert.AttnGrad4Ideal.τ).loc Cert.AttnGrad4Ideal.main_arg2) = m ((c.tc : Thread Cert.AttnGrad4Ideal.nD Cert.AttnGrad4Ideal.τ).loc Cert.AttnGrad4Ideal.main_arg2)
      ∧ r.2.mem ((c.tc : Thread Cert.AttnGrad4Ideal.nD Cert.AttnGrad4Ideal.τ).loc Cert.AttnGrad4Ideal.main_arg3) = m ((c.tc : Thread Cert.AttnGrad4Ideal.nD Cert.AttnGrad4Ideal.τ).loc Cert.AttnGrad4Ideal.main_arg3)
      ∧ r.2.mem ((c.tc : Thread Cert.AttnGrad4Ideal.nD Cert.AttnGrad4Ideal.τ).loc Cert.AttnGrad4Ideal.main_arg4) = m ((c.tc : Thread Cert.AttnGrad4Ideal.nD Cert.AttnGrad4Ideal.τ).loc Cert.AttnGrad4Ideal.main_arg4)
      ∧ r.2.mem ((c.tc : Thread Cert.AttnGrad4Ideal.nD Cert.AttnGrad4Ideal.τ).loc Cert.AttnGrad4Ideal.main_arg5) = m ((c.tc : Thread Cert.AttnGrad4Ideal.nD Cert.AttnGrad4Ideal.τ).loc Cert.AttnGrad4Ideal.main_arg5)
      ∧ r.2.mem ((c.tc : Thread Cert.AttnGrad4Ideal.nD Cert.AttnGrad4Ideal.τ).loc Cert.AttnGrad4Ideal.main_arg6) = m ((c.tc : Thread Cert.AttnGrad4Ideal.nD Cert.AttnGrad4Ideal.τ).loc Cert.AttnGrad4Ideal.main_arg6)
      ∧ r.2.mem ((c.tc : Thread Cert.AttnGrad4Ideal.nD Cert.AttnGrad4Ideal.τ).loc Cert.AttnGrad4Ideal.main_arg7) = m ((c.tc : Thread Cert.AttnGrad4Ideal.nD Cert.AttnGrad4Ideal.τ).loc Cert.AttnGrad4Ideal.main_arg7))
      ∧ r.2.sem = fun _ => 0)

def quiescent_Attn2 [hAttn2 : Cert.Attn2.Facts] : Prop :=
  ∀ (m : (ℓ : Loc Cert.Attn2.nD Cert.Attn2.τ Cert.Attn2.sig) → Buf (Elt Bits) ℓ) (g : Dev Cert.Attn2.nD → PrngReg), Pre_Attn2 m →
    θ_run (Cert.Attn2.defs (F := Bits)) (onTc (τ := Cert.Attn2.τ) (Cert.Attn2.main (F := Bits))) ⟨m, fun _ => 0, g⟩ (fun r => (∀ c : Dev Cert.Attn2.nD,
      r.2.mem ((c.tc : Thread Cert.Attn2.nD Cert.Attn2.τ).loc Cert.Attn2.main_arg0) = m ((c.tc : Thread Cert.Attn2.nD Cert.Attn2.τ).loc Cert.Attn2.main_arg0)
      ∧ r.2.mem ((c.tc : Thread Cert.Attn2.nD Cert.Attn2.τ).loc Cert.Attn2.main_arg1) = m ((c.tc : Thread Cert.Attn2.nD Cert.Attn2.τ).loc Cert.Attn2.main_arg1)
      ∧ r.2.mem ((c.tc : Thread Cert.Attn2.nD Cert.Attn2.τ).loc Cert.Attn2.main_arg2) = m ((c.tc : Thread Cert.Attn2.nD Cert.Attn2.τ).loc Cert.Attn2.main_arg2)
      ∧ r.2.mem ((c.tc : Thread Cert.Attn2.nD Cert.Attn2.τ).loc Cert.Attn2.main_arg3) = m ((c.tc : Thread Cert.Attn2.nD Cert.Attn2.τ).loc Cert.Attn2.main_arg3)
      ∧ r.2.mem ((c.tc : Thread Cert.Attn2.nD Cert.Attn2.τ).loc Cert.Attn2.main_arg4) = m ((c.tc : Thread Cert.Attn2.nD Cert.Attn2.τ).loc Cert.Attn2.main_arg4)
      ∧ r.2.mem ((c.tc : Thread Cert.Attn2.nD Cert.Attn2.τ).loc Cert.Attn2.main_arg5) = m ((c.tc : Thread Cert.Attn2.nD Cert.Attn2.τ).loc Cert.Attn2.main_arg5)
      ∧ r.2.mem ((c.tc : Thread Cert.Attn2.nD Cert.Attn2.τ).loc Cert.Attn2.main_arg6) = m ((c.tc : Thread Cert.Attn2.nD Cert.Attn2.τ).loc Cert.Attn2.main_arg6)
      ∧ r.2.mem ((c.tc : Thread Cert.Attn2.nD Cert.Attn2.τ).loc Cert.Attn2.main_arg7) = m ((c.tc : Thread Cert.Attn2.nD Cert.Attn2.τ).loc Cert.Attn2.main_arg7))
      ∧ r.2.sem = fun _ => 0)

def quiescent_Attn2Ideal [hAttn2Ideal : Cert.Attn2Ideal.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0)
      ∧ r.2.mem ((c.tc : Thread Cert.Attn2Ideal.nD Cert.Attn2Ideal.τ).loc Cert.Attn2Ideal.main_arg1) = m ((c.tc : Thread Cert.Attn2Ideal.nD Cert.Attn2Ideal.τ).loc Cert.Attn2Ideal.main_arg1)
      ∧ r.2.mem ((c.tc : Thread Cert.Attn2Ideal.nD Cert.Attn2Ideal.τ).loc Cert.Attn2Ideal.main_arg2) = m ((c.tc : Thread Cert.Attn2Ideal.nD Cert.Attn2Ideal.τ).loc Cert.Attn2Ideal.main_arg2)
      ∧ r.2.mem ((c.tc : Thread Cert.Attn2Ideal.nD Cert.Attn2Ideal.τ).loc Cert.Attn2Ideal.main_arg3) = m ((c.tc : Thread Cert.Attn2Ideal.nD Cert.Attn2Ideal.τ).loc Cert.Attn2Ideal.main_arg3)
      ∧ r.2.mem ((c.tc : Thread Cert.Attn2Ideal.nD Cert.Attn2Ideal.τ).loc Cert.Attn2Ideal.main_arg4) = m ((c.tc : Thread Cert.Attn2Ideal.nD Cert.Attn2Ideal.τ).loc Cert.Attn2Ideal.main_arg4)
      ∧ r.2.mem ((c.tc : Thread Cert.Attn2Ideal.nD Cert.Attn2Ideal.τ).loc Cert.Attn2Ideal.main_arg5) = m ((c.tc : Thread Cert.Attn2Ideal.nD Cert.Attn2Ideal.τ).loc Cert.Attn2Ideal.main_arg5)
      ∧ r.2.mem ((c.tc : Thread Cert.Attn2Ideal.nD Cert.Attn2Ideal.τ).loc Cert.Attn2Ideal.main_arg6) = m ((c.tc : Thread Cert.Attn2Ideal.nD Cert.Attn2Ideal.τ).loc Cert.Attn2Ideal.main_arg6)
      ∧ r.2.mem ((c.tc : Thread Cert.Attn2Ideal.nD Cert.Attn2Ideal.τ).loc Cert.Attn2Ideal.main_arg7) = m ((c.tc : Thread Cert.Attn2Ideal.nD Cert.Attn2Ideal.τ).loc Cert.Attn2Ideal.main_arg7))
      ∧ r.2.sem = fun _ => 0)

def quiescent_Attn2Ideal_pre_finite_later [hAttn2Ideal : Cert.Attn2Ideal.Facts] [hPre_finite_later : Cert.Pre_finite_later.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal_finite_later m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0)
      ∧ r.2.mem ((c.tc : Thread Cert.Attn2Ideal.nD Cert.Attn2Ideal.τ).loc Cert.Attn2Ideal.main_arg1) = m ((c.tc : Thread Cert.Attn2Ideal.nD Cert.Attn2Ideal.τ).loc Cert.Attn2Ideal.main_arg1)
      ∧ r.2.mem ((c.tc : Thread Cert.Attn2Ideal.nD Cert.Attn2Ideal.τ).loc Cert.Attn2Ideal.main_arg2) = m ((c.tc : Thread Cert.Attn2Ideal.nD Cert.Attn2Ideal.τ).loc Cert.Attn2Ideal.main_arg2)
      ∧ r.2.mem ((c.tc : Thread Cert.Attn2Ideal.nD Cert.Attn2Ideal.τ).loc Cert.Attn2Ideal.main_arg3) = m ((c.tc : Thread Cert.Attn2Ideal.nD Cert.Attn2Ideal.τ).loc Cert.Attn2Ideal.main_arg3)
      ∧ r.2.mem ((c.tc : Thread Cert.Attn2Ideal.nD Cert.Attn2Ideal.τ).loc Cert.Attn2Ideal.main_arg4) = m ((c.tc : Thread Cert.Attn2Ideal.nD Cert.Attn2Ideal.τ).loc Cert.Attn2Ideal.main_arg4)
      ∧ r.2.mem ((c.tc : Thread Cert.Attn2Ideal.nD Cert.Attn2Ideal.τ).loc Cert.Attn2Ideal.main_arg5) = m ((c.tc : Thread Cert.Attn2Ideal.nD Cert.Attn2Ideal.τ).loc Cert.Attn2Ideal.main_arg5)
      ∧ r.2.mem ((c.tc : Thread Cert.Attn2Ideal.nD Cert.Attn2Ideal.τ).loc Cert.Attn2Ideal.main_arg6) = m ((c.tc : Thread Cert.Attn2Ideal.nD Cert.Attn2Ideal.τ).loc Cert.Attn2Ideal.main_arg6)
      ∧ r.2.mem ((c.tc : Thread Cert.Attn2Ideal.nD Cert.Attn2Ideal.τ).loc Cert.Attn2Ideal.main_arg7) = m ((c.tc : Thread Cert.Attn2Ideal.nD Cert.Attn2Ideal.τ).loc Cert.Attn2Ideal.main_arg7))
      ∧ r.2.sem = fun _ => 0)

def quiescent_AttnGrad2Ideal [hAttnGrad2Ideal : Cert.AttnGrad2Ideal.Facts] : Prop :=
  ∀ (m : (ℓ : Loc Cert.AttnGrad2Ideal.nD Cert.AttnGrad2Ideal.τ Cert.AttnGrad2Ideal.sig) → Buf (Elt Ideal) ℓ) (g : Dev Cert.AttnGrad2Ideal.nD → PrngReg), Pre_AttnGrad2Ideal m →
    θ_run (Cert.AttnGrad2Ideal.defs (F := Ideal)) (onTc (τ := Cert.AttnGrad2Ideal.τ) (Cert.AttnGrad2Ideal.main (F := Ideal))) ⟨m, fun _ => 0, g⟩ (fun r => (∀ c : Dev Cert.AttnGrad2Ideal.nD,
      r.2.mem ((c.tc : Thread Cert.AttnGrad2Ideal.nD Cert.AttnGrad2Ideal.τ).loc Cert.AttnGrad2Ideal.main_arg0) = m ((c.tc : Thread Cert.AttnGrad2Ideal.nD Cert.AttnGrad2Ideal.τ).loc Cert.AttnGrad2Ideal.main_arg0)
      ∧ r.2.mem ((c.tc : Thread Cert.AttnGrad2Ideal.nD Cert.AttnGrad2Ideal.τ).loc Cert.AttnGrad2Ideal.main_arg1) = m ((c.tc : Thread Cert.AttnGrad2Ideal.nD Cert.AttnGrad2Ideal.τ).loc Cert.AttnGrad2Ideal.main_arg1)
      ∧ r.2.mem ((c.tc : Thread Cert.AttnGrad2Ideal.nD Cert.AttnGrad2Ideal.τ).loc Cert.AttnGrad2Ideal.main_arg2) = m ((c.tc : Thread Cert.AttnGrad2Ideal.nD Cert.AttnGrad2Ideal.τ).loc Cert.AttnGrad2Ideal.main_arg2)
      ∧ r.2.mem ((c.tc : Thread Cert.AttnGrad2Ideal.nD Cert.AttnGrad2Ideal.τ).loc Cert.AttnGrad2Ideal.main_arg3) = m ((c.tc : Thread Cert.AttnGrad2Ideal.nD Cert.AttnGrad2Ideal.τ).loc Cert.AttnGrad2Ideal.main_arg3)
      ∧ r.2.mem ((c.tc : Thread Cert.AttnGrad2Ideal.nD Cert.AttnGrad2Ideal.τ).loc Cert.AttnGrad2Ideal.main_arg4) = m ((c.tc : Thread Cert.AttnGrad2Ideal.nD Cert.AttnGrad2Ideal.τ).loc Cert.AttnGrad2Ideal.main_arg4)
      ∧ r.2.mem ((c.tc : Thread Cert.AttnGrad2Ideal.nD Cert.AttnGrad2Ideal.τ).loc Cert.AttnGrad2Ideal.main_arg5) = m ((c.tc : Thread Cert.AttnGrad2Ideal.nD Cert.AttnGrad2Ideal.τ).loc Cert.AttnGrad2Ideal.main_arg5)
      ∧ r.2.mem ((c.tc : Thread Cert.AttnGrad2Ideal.nD Cert.AttnGrad2Ideal.τ).loc Cert.AttnGrad2Ideal.main_arg6) = m ((c.tc : Thread Cert.AttnGrad2Ideal.nD Cert.AttnGrad2Ideal.τ).loc Cert.AttnGrad2Ideal.main_arg6)
      ∧ r.2.mem ((c.tc : Thread Cert.AttnGrad2Ideal.nD Cert.AttnGrad2Ideal.τ).loc Cert.AttnGrad2Ideal.main_arg7) = m ((c.tc : Thread Cert.AttnGrad2Ideal.nD Cert.AttnGrad2Ideal.τ).loc Cert.AttnGrad2Ideal.main_arg7))
      ∧ r.2.sem = fun _ => 0)

def quiescent_AttnGrad2Ideal_pre_finite_later [hAttnGrad2Ideal : Cert.AttnGrad2Ideal.Facts] [hPre_finite_later : Cert.Pre_finite_later.Facts] : Prop :=
  ∀ (m : (ℓ : Loc Cert.AttnGrad2Ideal.nD Cert.AttnGrad2Ideal.τ Cert.AttnGrad2Ideal.sig) → Buf (Elt Ideal) ℓ) (g : Dev Cert.AttnGrad2Ideal.nD → PrngReg), Pre_AttnGrad2Ideal_finite_later m →
    θ_run (Cert.AttnGrad2Ideal.defs (F := Ideal)) (onTc (τ := Cert.AttnGrad2Ideal.τ) (Cert.AttnGrad2Ideal.main (F := Ideal))) ⟨m, fun _ => 0, g⟩ (fun r => (∀ c : Dev Cert.AttnGrad2Ideal.nD,
      r.2.mem ((c.tc : Thread Cert.AttnGrad2Ideal.nD Cert.AttnGrad2Ideal.τ).loc Cert.AttnGrad2Ideal.main_arg0) = m ((c.tc : Thread Cert.AttnGrad2Ideal.nD Cert.AttnGrad2Ideal.τ).loc Cert.AttnGrad2Ideal.main_arg0)
      ∧ r.2.mem ((c.tc : Thread Cert.AttnGrad2Ideal.nD Cert.AttnGrad2Ideal.τ).loc Cert.AttnGrad2Ideal.main_arg1) = m ((c.tc : Thread Cert.AttnGrad2Ideal.nD Cert.AttnGrad2Ideal.τ).loc Cert.AttnGrad2Ideal.main_arg1)
      ∧ r.2.mem ((c.tc : Thread Cert.AttnGrad2Ideal.nD Cert.AttnGrad2Ideal.τ).loc Cert.AttnGrad2Ideal.main_arg2) = m ((c.tc : Thread Cert.AttnGrad2Ideal.nD Cert.AttnGrad2Ideal.τ).loc Cert.AttnGrad2Ideal.main_arg2)
      ∧ r.2.mem ((c.tc : Thread Cert.AttnGrad2Ideal.nD Cert.AttnGrad2Ideal.τ).loc Cert.AttnGrad2Ideal.main_arg3) = m ((c.tc : Thread Cert.AttnGrad2Ideal.nD Cert.AttnGrad2Ideal.τ).loc Cert.AttnGrad2Ideal.main_arg3)
      ∧ r.2.mem ((c.tc : Thread Cert.AttnGrad2Ideal.nD Cert.AttnGrad2Ideal.τ).loc Cert.AttnGrad2Ideal.main_arg4) = m ((c.tc : Thread Cert.AttnGrad2Ideal.nD Cert.AttnGrad2Ideal.τ).loc Cert.AttnGrad2Ideal.main_arg4)
      ∧ r.2.mem ((c.tc : Thread Cert.AttnGrad2Ideal.nD Cert.AttnGrad2Ideal.τ).loc Cert.AttnGrad2Ideal.main_arg5) = m ((c.tc : Thread Cert.AttnGrad2Ideal.nD Cert.AttnGrad2Ideal.τ).loc Cert.AttnGrad2Ideal.main_arg5)
      ∧ r.2.mem ((c.tc : Thread Cert.AttnGrad2Ideal.nD Cert.AttnGrad2Ideal.τ).loc Cert.AttnGrad2Ideal.main_arg6) = m ((c.tc : Thread Cert.AttnGrad2Ideal.nD Cert.AttnGrad2Ideal.τ).loc Cert.AttnGrad2Ideal.main_arg6)
      ∧ r.2.mem ((c.tc : Thread Cert.AttnGrad2Ideal.nD Cert.AttnGrad2Ideal.τ).loc Cert.AttnGrad2Ideal.main_arg7) = m ((c.tc : Thread Cert.AttnGrad2Ideal.nD Cert.AttnGrad2Ideal.τ).loc Cert.AttnGrad2Ideal.main_arg7))
      ∧ r.2.sem = fun _ => 0)

def quiescent_Attn0 [hAttn0 : Cert.Attn0.Facts] : Prop :=
  ∀ (m : (ℓ : Loc Cert.Attn0.nD Cert.Attn0.τ Cert.Attn0.sig) → Buf (Elt Bits) ℓ) (g : Dev Cert.Attn0.nD → PrngReg), Pre_Attn0 m →
    θ_run (Cert.Attn0.defs (F := Bits)) (onTc (τ := Cert.Attn0.τ) (Cert.Attn0.main (F := Bits))) ⟨m, fun _ => 0, g⟩ (fun r => (∀ c : Dev Cert.Attn0.nD,
      r.2.mem ((c.tc : Thread Cert.Attn0.nD Cert.Attn0.τ).loc Cert.Attn0.main_arg0) = m ((c.tc : Thread Cert.Attn0.nD Cert.Attn0.τ).loc Cert.Attn0.main_arg0)
      ∧ r.2.mem ((c.tc : Thread Cert.Attn0.nD Cert.Attn0.τ).loc Cert.Attn0.main_arg1) = m ((c.tc : Thread Cert.Attn0.nD Cert.Attn0.τ).loc Cert.Attn0.main_arg1)
      ∧ r.2.mem ((c.tc : Thread Cert.Attn0.nD Cert.Attn0.τ).loc Cert.Attn0.main_arg2) = m ((c.tc : Thread Cert.Attn0.nD Cert.Attn0.τ).loc Cert.Attn0.main_arg2)
      ∧ r.2.mem ((c.tc : Thread Cert.Attn0.nD Cert.Attn0.τ).loc Cert.Attn0.main_arg3) = m ((c.tc : Thread Cert.Attn0.nD Cert.Attn0.τ).loc Cert.Attn0.main_arg3)
      ∧ r.2.mem ((c.tc : Thread Cert.Attn0.nD Cert.Attn0.τ).loc Cert.Attn0.main_arg4) = m ((c.tc : Thread Cert.Attn0.nD Cert.Attn0.τ).loc Cert.Attn0.main_arg4)
      ∧ r.2.mem ((c.tc : Thread Cert.Attn0.nD Cert.Attn0.τ).loc Cert.Attn0.main_arg5) = m ((c.tc : Thread Cert.Attn0.nD Cert.Attn0.τ).loc Cert.Attn0.main_arg5)
      ∧ r.2.mem ((c.tc : Thread Cert.Attn0.nD Cert.Attn0.τ).loc Cert.Attn0.main_arg6) = m ((c.tc : Thread Cert.Attn0.nD Cert.Attn0.τ).loc Cert.Attn0.main_arg6)
      ∧ r.2.mem ((c.tc : Thread Cert.Attn0.nD Cert.Attn0.τ).loc Cert.Attn0.main_arg7) = m ((c.tc : Thread Cert.Attn0.nD Cert.Attn0.τ).loc Cert.Attn0.main_arg7))
      ∧ r.2.sem = fun _ => 0)

def quiescent_Attn0Ideal [hAttn0Ideal : Cert.Attn0Ideal.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0)
      ∧ r.2.mem ((c.tc : Thread Cert.Attn0Ideal.nD Cert.Attn0Ideal.τ).loc Cert.Attn0Ideal.main_arg1) = m ((c.tc : Thread Cert.Attn0Ideal.nD Cert.Attn0Ideal.τ).loc Cert.Attn0Ideal.main_arg1)
      ∧ r.2.mem ((c.tc : Thread Cert.Attn0Ideal.nD Cert.Attn0Ideal.τ).loc Cert.Attn0Ideal.main_arg2) = m ((c.tc : Thread Cert.Attn0Ideal.nD Cert.Attn0Ideal.τ).loc Cert.Attn0Ideal.main_arg2)
      ∧ r.2.mem ((c.tc : Thread Cert.Attn0Ideal.nD Cert.Attn0Ideal.τ).loc Cert.Attn0Ideal.main_arg3) = m ((c.tc : Thread Cert.Attn0Ideal.nD Cert.Attn0Ideal.τ).loc Cert.Attn0Ideal.main_arg3)
      ∧ r.2.mem ((c.tc : Thread Cert.Attn0Ideal.nD Cert.Attn0Ideal.τ).loc Cert.Attn0Ideal.main_arg4) = m ((c.tc : Thread Cert.Attn0Ideal.nD Cert.Attn0Ideal.τ).loc Cert.Attn0Ideal.main_arg4)
      ∧ r.2.mem ((c.tc : Thread Cert.Attn0Ideal.nD Cert.Attn0Ideal.τ).loc Cert.Attn0Ideal.main_arg5) = m ((c.tc : Thread Cert.Attn0Ideal.nD Cert.Attn0Ideal.τ).loc Cert.Attn0Ideal.main_arg5)
      ∧ r.2.mem ((c.tc : Thread Cert.Attn0Ideal.nD Cert.Attn0Ideal.τ).loc Cert.Attn0Ideal.main_arg6) = m ((c.tc : Thread Cert.Attn0Ideal.nD Cert.Attn0Ideal.τ).loc Cert.Attn0Ideal.main_arg6)
      ∧ r.2.mem ((c.tc : Thread Cert.Attn0Ideal.nD Cert.Attn0Ideal.τ).loc Cert.Attn0Ideal.main_arg7) = m ((c.tc : Thread Cert.Attn0Ideal.nD Cert.Attn0Ideal.τ).loc Cert.Attn0Ideal.main_arg7))
      ∧ r.2.sem = fun _ => 0)

def quiescent_Attn0Ideal_pre_finite_later [hAttn0Ideal : Cert.Attn0Ideal.Facts] [hPre_finite_later : Cert.Pre_finite_later.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal_finite_later m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0)
      ∧ r.2.mem ((c.tc : Thread Cert.Attn0Ideal.nD Cert.Attn0Ideal.τ).loc Cert.Attn0Ideal.main_arg1) = m ((c.tc : Thread Cert.Attn0Ideal.nD Cert.Attn0Ideal.τ).loc Cert.Attn0Ideal.main_arg1)
      ∧ r.2.mem ((c.tc : Thread Cert.Attn0Ideal.nD Cert.Attn0Ideal.τ).loc Cert.Attn0Ideal.main_arg2) = m ((c.tc : Thread Cert.Attn0Ideal.nD Cert.Attn0Ideal.τ).loc Cert.Attn0Ideal.main_arg2)
      ∧ r.2.mem ((c.tc : Thread Cert.Attn0Ideal.nD Cert.Attn0Ideal.τ).loc Cert.Attn0Ideal.main_arg3) = m ((c.tc : Thread Cert.Attn0Ideal.nD Cert.Attn0Ideal.τ).loc Cert.Attn0Ideal.main_arg3)
      ∧ r.2.mem ((c.tc : Thread Cert.Attn0Ideal.nD Cert.Attn0Ideal.τ).loc Cert.Attn0Ideal.main_arg4) = m ((c.tc : Thread Cert.Attn0Ideal.nD Cert.Attn0Ideal.τ).loc Cert.Attn0Ideal.main_arg4)
      ∧ r.2.mem ((c.tc : Thread Cert.Attn0Ideal.nD Cert.Attn0Ideal.τ).loc Cert.Attn0Ideal.main_arg5) = m ((c.tc : Thread Cert.Attn0Ideal.nD Cert.Attn0Ideal.τ).loc Cert.Attn0Ideal.main_arg5)
      ∧ r.2.mem ((c.tc : Thread Cert.Attn0Ideal.nD Cert.Attn0Ideal.τ).loc Cert.Attn0Ideal.main_arg6) = m ((c.tc : Thread Cert.Attn0Ideal.nD Cert.Attn0Ideal.τ).loc Cert.Attn0Ideal.main_arg6)
      ∧ r.2.mem ((c.tc : Thread Cert.Attn0Ideal.nD Cert.Attn0Ideal.τ).loc Cert.Attn0Ideal.main_arg7) = m ((c.tc : Thread Cert.Attn0Ideal.nD Cert.Attn0Ideal.τ).loc Cert.Attn0Ideal.main_arg7))
      ∧ r.2.sem = fun _ => 0)

def quiescent_AttnGrad0Ideal [hAttnGrad0Ideal : Cert.AttnGrad0Ideal.Facts] : Prop :=
  ∀ (m : (ℓ : Loc Cert.AttnGrad0Ideal.nD Cert.AttnGrad0Ideal.τ Cert.AttnGrad0Ideal.sig) → Buf (Elt Ideal) ℓ) (g : Dev Cert.AttnGrad0Ideal.nD → PrngReg), Pre_AttnGrad0Ideal m →
    θ_run (Cert.AttnGrad0Ideal.defs (F := Ideal)) (onTc (τ := Cert.AttnGrad0Ideal.τ) (Cert.AttnGrad0Ideal.main (F := Ideal))) ⟨m, fun _ => 0, g⟩ (fun r => (∀ c : Dev Cert.AttnGrad0Ideal.nD,
      r.2.mem ((c.tc : Thread Cert.AttnGrad0Ideal.nD Cert.AttnGrad0Ideal.τ).loc Cert.AttnGrad0Ideal.main_arg0) = m ((c.tc : Thread Cert.AttnGrad0Ideal.nD Cert.AttnGrad0Ideal.τ).loc Cert.AttnGrad0Ideal.main_arg0)
      ∧ r.2.mem ((c.tc : Thread Cert.AttnGrad0Ideal.nD Cert.AttnGrad0Ideal.τ).loc Cert.AttnGrad0Ideal.main_arg1) = m ((c.tc : Thread Cert.AttnGrad0Ideal.nD Cert.AttnGrad0Ideal.τ).loc Cert.AttnGrad0Ideal.main_arg1)
      ∧ r.2.mem ((c.tc : Thread Cert.AttnGrad0Ideal.nD Cert.AttnGrad0Ideal.τ).loc Cert.AttnGrad0Ideal.main_arg2) = m ((c.tc : Thread Cert.AttnGrad0Ideal.nD Cert.AttnGrad0Ideal.τ).loc Cert.AttnGrad0Ideal.main_arg2)
      ∧ r.2.mem ((c.tc : Thread Cert.AttnGrad0Ideal.nD Cert.AttnGrad0Ideal.τ).loc Cert.AttnGrad0Ideal.main_arg3) = m ((c.tc : Thread Cert.AttnGrad0Ideal.nD Cert.AttnGrad0Ideal.τ).loc Cert.AttnGrad0Ideal.main_arg3)
      ∧ r.2.mem ((c.tc : Thread Cert.AttnGrad0Ideal.nD Cert.AttnGrad0Ideal.τ).loc Cert.AttnGrad0Ideal.main_arg4) = m ((c.tc : Thread Cert.AttnGrad0Ideal.nD Cert.AttnGrad0Ideal.τ).loc Cert.AttnGrad0Ideal.main_arg4)
      ∧ r.2.mem ((c.tc : Thread Cert.AttnGrad0Ideal.nD Cert.AttnGrad0Ideal.τ).loc Cert.AttnGrad0Ideal.main_arg5) = m ((c.tc : Thread Cert.AttnGrad0Ideal.nD Cert.AttnGrad0Ideal.τ).loc Cert.AttnGrad0Ideal.main_arg5)
      ∧ r.2.mem ((c.tc : Thread Cert.AttnGrad0Ideal.nD Cert.AttnGrad0Ideal.τ).loc Cert.AttnGrad0Ideal.main_arg6) = m ((c.tc : Thread Cert.AttnGrad0Ideal.nD Cert.AttnGrad0Ideal.τ).loc Cert.AttnGrad0Ideal.main_arg6)
      ∧ r.2.mem ((c.tc : Thread Cert.AttnGrad0Ideal.nD Cert.AttnGrad0Ideal.τ).loc Cert.AttnGrad0Ideal.main_arg7) = m ((c.tc : Thread Cert.AttnGrad0Ideal.nD Cert.AttnGrad0Ideal.τ).loc Cert.AttnGrad0Ideal.main_arg7))
      ∧ r.2.sem = fun _ => 0)

def quiescent_AttnGrad0Ideal_pre_finite_later [hAttnGrad0Ideal : Cert.AttnGrad0Ideal.Facts] [hPre_finite_later : Cert.Pre_finite_later.Facts] : Prop :=
  ∀ (m : (ℓ : Loc Cert.AttnGrad0Ideal.nD Cert.AttnGrad0Ideal.τ Cert.AttnGrad0Ideal.sig) → Buf (Elt Ideal) ℓ) (g : Dev Cert.AttnGrad0Ideal.nD → PrngReg), Pre_AttnGrad0Ideal_finite_later m →
    θ_run (Cert.AttnGrad0Ideal.defs (F := Ideal)) (onTc (τ := Cert.AttnGrad0Ideal.τ) (Cert.AttnGrad0Ideal.main (F := Ideal))) ⟨m, fun _ => 0, g⟩ (fun r => (∀ c : Dev Cert.AttnGrad0Ideal.nD,
      r.2.mem ((c.tc : Thread Cert.AttnGrad0Ideal.nD Cert.AttnGrad0Ideal.τ).loc Cert.AttnGrad0Ideal.main_arg0) = m ((c.tc : Thread Cert.AttnGrad0Ideal.nD Cert.AttnGrad0Ideal.τ).loc Cert.AttnGrad0Ideal.main_arg0)
      ∧ r.2.mem ((c.tc : Thread Cert.AttnGrad0Ideal.nD Cert.AttnGrad0Ideal.τ).loc Cert.AttnGrad0Ideal.main_arg1) = m ((c.tc : Thread Cert.AttnGrad0Ideal.nD Cert.AttnGrad0Ideal.τ).loc Cert.AttnGrad0Ideal.main_arg1)
      ∧ r.2.mem ((c.tc : Thread Cert.AttnGrad0Ideal.nD Cert.AttnGrad0Ideal.τ).loc Cert.AttnGrad0Ideal.main_arg2) = m ((c.tc : Thread Cert.AttnGrad0Ideal.nD Cert.AttnGrad0Ideal.τ).loc Cert.AttnGrad0Ideal.main_arg2)
      ∧ r.2.mem ((c.tc : Thread Cert.AttnGrad0Ideal.nD Cert.AttnGrad0Ideal.τ).loc Cert.AttnGrad0Ideal.main_arg3) = m ((c.tc : Thread Cert.AttnGrad0Ideal.nD Cert.AttnGrad0Ideal.τ).loc Cert.AttnGrad0Ideal.main_arg3)
      ∧ r.2.mem ((c.tc : Thread Cert.AttnGrad0Ideal.nD Cert.AttnGrad0Ideal.τ).loc Cert.AttnGrad0Ideal.main_arg4) = m ((c.tc : Thread Cert.AttnGrad0Ideal.nD Cert.AttnGrad0Ideal.τ).loc Cert.AttnGrad0Ideal.main_arg4)
      ∧ r.2.mem ((c.tc : Thread Cert.AttnGrad0Ideal.nD Cert.AttnGrad0Ideal.τ).loc Cert.AttnGrad0Ideal.main_arg5) = m ((c.tc : Thread Cert.AttnGrad0Ideal.nD Cert.AttnGrad0Ideal.τ).loc Cert.AttnGrad0Ideal.main_arg5)
      ∧ r.2.mem ((c.tc : Thread Cert.AttnGrad0Ideal.nD Cert.AttnGrad0Ideal.τ).loc Cert.AttnGrad0Ideal.main_arg6) = m ((c.tc : Thread Cert.AttnGrad0Ideal.nD Cert.AttnGrad0Ideal.τ).loc Cert.AttnGrad0Ideal.main_arg6)
      ∧ r.2.mem ((c.tc : Thread Cert.AttnGrad0Ideal.nD Cert.AttnGrad0Ideal.τ).loc Cert.AttnGrad0Ideal.main_arg7) = m ((c.tc : Thread Cert.AttnGrad0Ideal.nD Cert.AttnGrad0Ideal.τ).loc Cert.AttnGrad0Ideal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1)
      ∧ r.2.mem ((c.tc : Thread Cert.DownX.nD Cert.DownX.τ).loc Cert.DownX.main_arg2) = m ((c.tc : Thread Cert.DownX.nD Cert.DownX.τ).loc Cert.DownX.main_arg2))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
      ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1)
      ∧ r.2.mem ((c.tc : Thread Cert.DownXRefIdeal.nD Cert.DownXRefIdeal.τ).loc Cert.DownXRefIdeal.main_arg2) = m ((c.tc : Thread Cert.DownXRefIdeal.nD Cert.DownXRefIdeal.τ).loc Cert.DownXRefIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ r.2.sem = fun _ => 0)

def quiescent_ProjWRefIdeal [hProjWRefIdeal : Cert.ProjWRefIdeal.Facts] : Prop :=
  ∀ (m : (ℓ : Loc Cert.ProjWRefIdeal.nD Cert.ProjWRefIdeal.τ Cert.ProjWRefIdeal.sig) → Buf (Elt Ideal) ℓ) (g : Dev Cert.ProjWRefIdeal.nD → PrngReg), Pre_ProjWRefIdeal m →
    θ_run (Cert.ProjWRefIdeal.defs (F := Ideal)) (onTc (τ := Cert.ProjWRefIdeal.τ) (Cert.ProjWRefIdeal.main (F := Ideal))) ⟨m, fun _ => 0, g⟩ (fun r => (∀ c : Dev Cert.ProjWRefIdeal.nD,
      r.2.mem ((c.tc : Thread Cert.ProjWRefIdeal.nD Cert.ProjWRefIdeal.τ).loc Cert.ProjWRefIdeal.main_arg0) = m ((c.tc : Thread Cert.ProjWRefIdeal.nD Cert.ProjWRefIdeal.τ).loc Cert.ProjWRefIdeal.main_arg0)
      ∧ r.2.mem ((c.tc : Thread Cert.ProjWRefIdeal.nD Cert.ProjWRefIdeal.τ).loc Cert.ProjWRefIdeal.main_arg1) = m ((c.tc : Thread Cert.ProjWRefIdeal.nD Cert.ProjWRefIdeal.τ).loc Cert.ProjWRefIdeal.main_arg1))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ r.2.sem = fun _ => 0)

def quiescent_ProjXRefIdeal [hProjXRefIdeal : Cert.ProjXRefIdeal.Facts] : Prop :=
  ∀ (m : (ℓ : Loc Cert.ProjXRefIdeal.nD Cert.ProjXRefIdeal.τ Cert.ProjXRefIdeal.sig) → Buf (Elt Ideal) ℓ) (g : Dev Cert.ProjXRefIdeal.nD → PrngReg), Pre_ProjXRefIdeal m →
    θ_run (Cert.ProjXRefIdeal.defs (F := Ideal)) (onTc (τ := Cert.ProjXRefIdeal.τ) (Cert.ProjXRefIdeal.main (F := Ideal))) ⟨m, fun _ => 0, g⟩ (fun r => (∀ c : Dev Cert.ProjXRefIdeal.nD,
      r.2.mem ((c.tc : Thread Cert.ProjXRefIdeal.nD Cert.ProjXRefIdeal.τ).loc Cert.ProjXRefIdeal.main_arg0) = m ((c.tc : Thread Cert.ProjXRefIdeal.nD Cert.ProjXRefIdeal.τ).loc Cert.ProjXRefIdeal.main_arg0)
      ∧ r.2.mem ((c.tc : Thread Cert.ProjXRefIdeal.nD Cert.ProjXRefIdeal.τ).loc Cert.ProjXRefIdeal.main_arg1) = m ((c.tc : Thread Cert.ProjXRefIdeal.nD Cert.ProjXRefIdeal.τ).loc Cert.ProjXRefIdeal.main_arg1))
      ∧ r.2.sem = fun _ => 0)

def quiescent_KvW [hKvW : Cert.KvW.Facts] : Prop :=
  ∀ (m : (ℓ : Loc Cert.KvW.nD Cert.KvW.τ Cert.KvW.sig) → Buf (Elt Bits) ℓ) (g : Dev Cert.KvW.nD → PrngReg), Pre_KvW m →
    θ_run (Cert.KvW.defs (F := Bits)) (onTc (τ := Cert.KvW.τ) (Cert.KvW.main (F := Bits))) ⟨m, fun _ => 0, g⟩ (fun r => (∀ c : Dev Cert.KvW.nD,
      r.2.mem ((c.tc : Thread Cert.KvW.nD Cert.KvW.τ).loc Cert.KvW.main_arg0) = m ((c.tc : Thread Cert.KvW.nD Cert.KvW.τ).loc Cert.KvW.main_arg0)
      ∧ r.2.mem ((c.tc : Thread Cert.KvW.nD Cert.KvW.τ).loc Cert.KvW.main_arg1) = m ((c.tc : Thread Cert.KvW.nD Cert.KvW.τ).loc Cert.KvW.main_arg1))
      ∧ r.2.sem = fun _ => 0)

def quiescent_KvWIdeal [hKvWIdeal : Cert.KvWIdeal.Facts] : Prop :=
  ∀ (m : (ℓ : Loc Cert.KvWIdeal.nD Cert.KvWIdeal.τ Cert.KvWIdeal.sig) → Buf (Elt Ideal) ℓ) (g : Dev Cert.KvWIdeal.nD → PrngReg), Pre_KvWIdeal m →
    θ_run (Cert.KvWIdeal.defs (F := Ideal)) (onTc (τ := Cert.KvWIdeal.τ) (Cert.KvWIdeal.main (F := Ideal))) ⟨m, fun _ => 0, g⟩ (fun r => (∀ c : Dev Cert.KvWIdeal.nD,
      r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
      ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ r.2.sem = fun _ => 0)

def quiescent_KvWRefIdeal [hKvWRefIdeal : Cert.KvWRefIdeal.Facts] : Prop :=
  ∀ (m : (ℓ : Loc Cert.KvWRefIdeal.nD Cert.KvWRefIdeal.τ Cert.KvWRefIdeal.sig) → Buf (Elt Ideal) ℓ) (g : Dev Cert.KvWRefIdeal.nD → PrngReg), Pre_KvWRefIdeal m →
    θ_run (Cert.KvWRefIdeal.defs (F := Ideal)) (onTc (τ := Cert.KvWRefIdeal.τ) (Cert.KvWRefIdeal.main (F := Ideal))) ⟨m, fun _ => 0, g⟩ (fun r => (∀ c : Dev Cert.KvWRefIdeal.nD,
      r.2.mem ((c.tc : Thread Cert.KvWRefIdeal.nD Cert.KvWRefIdeal.τ).loc Cert.KvWRefIdeal.main_arg0) = m ((c.tc : Thread Cert.KvWRefIdeal.nD Cert.KvWRefIdeal.τ).loc Cert.KvWRefIdeal.main_arg0)
      ∧ r.2.mem ((c.tc : Thread Cert.KvWRefIdeal.nD Cert.KvWRefIdeal.τ).loc Cert.KvWRefIdeal.main_arg1) = m ((c.tc : Thread Cert.KvWRefIdeal.nD Cert.KvWRefIdeal.τ).loc Cert.KvWRefIdeal.main_arg1))
      ∧ r.2.sem = fun _ => 0)

def quiescent_KvX [hKvX : Cert.KvX.Facts] : Prop :=
  ∀ (m : (ℓ : Loc Cert.KvX.nD Cert.KvX.τ Cert.KvX.sig) → Buf (Elt Bits) ℓ) (g : Dev Cert.KvX.nD → PrngReg), Pre_KvX m →
    θ_run (Cert.KvX.defs (F := Bits)) (onTc (τ := Cert.KvX.τ) (Cert.KvX.main (F := Bits))) ⟨m, fun _ => 0, g⟩ (fun r => (∀ c : Dev Cert.KvX.nD,
      r.2.mem ((c.tc : Thread Cert.KvX.nD Cert.KvX.τ).loc Cert.KvX.main_arg0) = m ((c.tc : Thread Cert.KvX.nD Cert.KvX.τ).loc Cert.KvX.main_arg0)
      ∧ r.2.mem ((c.tc : Thread Cert.KvX.nD Cert.KvX.τ).loc Cert.KvX.main_arg1) = m ((c.tc : Thread Cert.KvX.nD Cert.KvX.τ).loc Cert.KvX.main_arg1)
      ∧ r.2.mem ((c.tc : Thread Cert.KvX.nD Cert.KvX.τ).loc Cert.KvX.main_arg2) = m ((c.tc : Thread Cert.KvX.nD Cert.KvX.τ).loc Cert.KvX.main_arg2))
      ∧ r.2.sem = fun _ => 0)

def quiescent_KvXIdeal [hKvXIdeal : Cert.KvXIdeal.Facts] : Prop :=
  ∀ (m : (ℓ : Loc Cert.KvXIdeal.nD Cert.KvXIdeal.τ Cert.KvXIdeal.sig) → Buf (Elt Ideal) ℓ) (g : Dev Cert.KvXIdeal.nD → PrngReg), Pre_KvXIdeal m →
    θ_run (Cert.KvXIdeal.defs (F := Ideal)) (onTc (τ := Cert.KvXIdeal.τ) (Cert.KvXIdeal.main (F := Ideal))) ⟨m, fun _ => 0, g⟩ (fun r => (∀ c : Dev Cert.KvXIdeal.nD,
      r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
      ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1)
      ∧ r.2.mem ((c.tc : Thread Cert.KvXIdeal.nD Cert.KvXIdeal.τ).loc Cert.KvXIdeal.main_arg2) = m ((c.tc : Thread Cert.KvXIdeal.nD Cert.KvXIdeal.τ).loc Cert.KvXIdeal.main_arg2))
      ∧ r.2.sem = fun _ => 0)

def quiescent_KvXRefIdeal [hKvXRefIdeal : Cert.KvXRefIdeal.Facts] : Prop :=
  ∀ (m : (ℓ : Loc Cert.KvXRefIdeal.nD Cert.KvXRefIdeal.τ Cert.KvXRefIdeal.sig) → Buf (Elt Ideal) ℓ) (g : Dev Cert.KvXRefIdeal.nD → PrngReg), Pre_KvXRefIdeal m →
    θ_run (Cert.KvXRefIdeal.defs (F := Ideal)) (onTc (τ := Cert.KvXRefIdeal.τ) (Cert.KvXRefIdeal.main (F := Ideal))) ⟨m, fun _ => 0, g⟩ (fun r => (∀ c : Dev Cert.KvXRefIdeal.nD,
      r.2.mem ((c.tc : Thread Cert.KvXRefIdeal.nD Cert.KvXRefIdeal.τ).loc Cert.KvXRefIdeal.main_arg0) = m ((c.tc : Thread Cert.KvXRefIdeal.nD Cert.KvXRefIdeal.τ).loc Cert.KvXRefIdeal.main_arg0)
      ∧ r.2.mem ((c.tc : Thread Cert.KvXRefIdeal.nD Cert.KvXRefIdeal.τ).loc Cert.KvXRefIdeal.main_arg1) = m ((c.tc : Thread Cert.KvXRefIdeal.nD Cert.KvXRefIdeal.τ).loc Cert.KvXRefIdeal.main_arg1)
      ∧ r.2.mem ((c.tc : Thread Cert.KvXRefIdeal.nD Cert.KvXRefIdeal.τ).loc Cert.KvXRefIdeal.main_arg2) = m ((c.tc : Thread Cert.KvXRefIdeal.nD Cert.KvXRefIdeal.τ).loc Cert.KvXRefIdeal.main_arg2))
      ∧ r.2.sem = fun _ => 0)

def quiescent_PleW [hPleW : Cert.PleW.Facts] : Prop :=
  ∀ (m : (ℓ : Loc Cert.PleW.nD Cert.PleW.τ Cert.PleW.sig) → Buf (Elt Bits) ℓ) (g : Dev Cert.PleW.nD → PrngReg), Pre_PleW m →
    θ_run (Cert.PleW.defs (F := Bits)) (onTc (τ := Cert.PleW.τ) (Cert.PleW.main (F := Bits))) ⟨m, fun _ => 0, g⟩ (fun r => (∀ c : Dev Cert.PleW.nD,
      r.2.mem ((c.tc : Thread Cert.PleW.nD Cert.PleW.τ).loc Cert.PleW.main_arg0) = m ((c.tc : Thread Cert.PleW.nD Cert.PleW.τ).loc Cert.PleW.main_arg0)
      ∧ r.2.mem ((c.tc : Thread Cert.PleW.nD Cert.PleW.τ).loc Cert.PleW.main_arg1) = m ((c.tc : Thread Cert.PleW.nD Cert.PleW.τ).loc Cert.PleW.main_arg1))
      ∧ r.2.sem = fun _ => 0)

def quiescent_PleWIdeal [hPleWIdeal : Cert.PleWIdeal.Facts] : Prop :=
  ∀ (m : (ℓ : Loc Cert.PleWIdeal.nD Cert.PleWIdeal.τ Cert.PleWIdeal.sig) → Buf (Elt Ideal) ℓ) (g : Dev Cert.PleWIdeal.nD → PrngReg), Pre_PleWIdeal m →
    θ_run (Cert.PleWIdeal.defs (F := Ideal)) (onTc (τ := Cert.PleWIdeal.τ) (Cert.PleWIdeal.main (F := Ideal))) ⟨m, fun _ => 0, g⟩ (fun r => (∀ c : Dev Cert.PleWIdeal.nD,
      r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
      ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1))
      ∧ r.2.sem = fun _ => 0)

def quiescent_PleWRefIdeal [hPleWRefIdeal : Cert.PleWRefIdeal.Facts] : Prop :=
  ∀ (m : (ℓ : Loc Cert.PleWRefIdeal.nD Cert.PleWRefIdeal.τ Cert.PleWRefIdeal.sig) → Buf (Elt Ideal) ℓ) (g : Dev Cert.PleWRefIdeal.nD → PrngReg), Pre_PleWRefIdeal m →
    θ_run (Cert.PleWRefIdeal.defs (F := Ideal)) (onTc (τ := Cert.PleWRefIdeal.τ) (Cert.PleWRefIdeal.main (F := Ideal))) ⟨m, fun _ => 0, g⟩ (fun r => (∀ c : Dev Cert.PleWRefIdeal.nD,
      r.2.mem ((c.tc : Thread Cert.PleWRefIdeal.nD Cert.PleWRefIdeal.τ).loc Cert.PleWRefIdeal.main_arg0) = m ((c.tc : Thread Cert.PleWRefIdeal.nD Cert.PleWRefIdeal.τ).loc Cert.PleWRefIdeal.main_arg0)
      ∧ r.2.mem ((c.tc : Thread Cert.PleWRefIdeal.nD Cert.PleWRefIdeal.τ).loc Cert.PleWRefIdeal.main_arg1) = m ((c.tc : Thread Cert.PleWRefIdeal.nD Cert.PleWRefIdeal.τ).loc Cert.PleWRefIdeal.main_arg1))
      ∧ r.2.sem = fun _ => 0)

def quiescent_StepRows [hStepRows : Cert.StepRows.Facts] : Prop :=
  ∀ (m : (ℓ : Loc Cert.StepRows.nD Cert.StepRows.τ Cert.StepRows.sig) → Buf (Elt Bits) ℓ) (g : Dev Cert.StepRows.nD → PrngReg), Pre_StepRows m →
    θ_run (Cert.StepRows.defs (F := Bits)) (onTc (τ := Cert.StepRows.τ) (Cert.StepRows.main (F := Bits))) ⟨m, fun _ => 0, g⟩ (fun r => (∀ c : Dev Cert.StepRows.nD,
      r.2.mem ((c.tc : Thread Cert.StepRows.nD Cert.StepRows.τ).loc Cert.StepRows.main_arg0) = m ((c.tc : Thread Cert.StepRows.nD Cert.StepRows.τ).loc Cert.StepRows.main_arg0)
      ∧ r.2.mem ((c.tc : Thread Cert.StepRows.nD Cert.StepRows.τ).loc Cert.StepRows.main_arg1) = m ((c.tc : Thread Cert.StepRows.nD Cert.StepRows.τ).loc Cert.StepRows.main_arg1)
      ∧ r.2.mem ((c.tc : Thread Cert.StepRows.nD Cert.StepRows.τ).loc Cert.StepRows.main_arg2) = m ((c.tc : Thread Cert.StepRows.nD Cert.StepRows.τ).loc Cert.StepRows.main_arg2)
      ∧ r.2.mem ((c.tc : Thread Cert.StepRows.nD Cert.StepRows.τ).loc Cert.StepRows.main_arg3) = m ((c.tc : Thread Cert.StepRows.nD Cert.StepRows.τ).loc Cert.StepRows.main_arg3))
      ∧ r.2.sem = fun _ => 0)

def quiescent_StepRowsIdeal [hStepRowsIdeal : Cert.StepRowsIdeal.Facts] : Prop :=
  ∀ (m : (ℓ : Loc Cert.StepRowsIdeal.nD Cert.StepRowsIdeal.τ Cert.StepRowsIdeal.sig) → Buf (Elt Ideal) ℓ) (g : Dev Cert.StepRowsIdeal.nD → PrngReg), Pre_StepRowsIdeal m →
    θ_run (Cert.StepRowsIdeal.defs (F := Ideal)) (onTc (τ := Cert.StepRowsIdeal.τ) (Cert.StepRowsIdeal.main (F := Ideal))) ⟨m, fun _ => 0, g⟩ (fun r => (∀ c : Dev Cert.StepRowsIdeal.nD,
      r.2.mem ((c.tc : Thread Cert.StepRowsIdeal.nD Cert.StepRowsIdeal.τ).loc Cert.StepRowsIdeal.main_arg0) = m ((c.tc : Thread Cert.StepRowsIdeal.nD Cert.StepRowsIdeal.τ).loc Cert.StepRowsIdeal.main_arg0)
      ∧ r.2.mem ((c.tc : Thread Cert.StepRowsIdeal.nD Cert.StepRowsIdeal.τ).loc Cert.StepRowsIdeal.main_arg1) = m ((c.tc : Thread Cert.StepRowsIdeal.nD Cert.StepRowsIdeal.τ).loc Cert.StepRowsIdeal.main_arg1)
      ∧ r.2.mem ((c.tc : Thread Cert.StepRowsIdeal.nD Cert.StepRowsIdeal.τ).loc Cert.StepRowsIdeal.main_arg2) = m ((c.tc : Thread Cert.StepRowsIdeal.nD Cert.StepRowsIdeal.τ).loc Cert.StepRowsIdeal.main_arg2)
      ∧ r.2.mem ((c.tc : Thread Cert.StepRowsIdeal.nD Cert.StepRowsIdeal.τ).loc Cert.StepRowsIdeal.main_arg3) = m ((c.tc : Thread Cert.StepRowsIdeal.nD Cert.StepRowsIdeal.τ).loc Cert.StepRowsIdeal.main_arg3))
      ∧ r.2.sem = fun _ => 0)

def quiescent_StepRowsRefIdeal [hStepRowsRefIdeal : Cert.StepRowsRefIdeal.Facts] : Prop :=
  ∀ (m : (ℓ : Loc Cert.StepRowsRefIdeal.nD Cert.StepRowsRefIdeal.τ Cert.StepRowsRefIdeal.sig) → Buf (Elt Ideal) ℓ) (g : Dev Cert.StepRowsRefIdeal.nD → PrngReg), Pre_StepRowsRefIdeal m →
    θ_run (Cert.StepRowsRefIdeal.defs (F := Ideal)) (onTc (τ := Cert.StepRowsRefIdeal.τ) (Cert.StepRowsRefIdeal.main (F := Ideal))) ⟨m, fun _ => 0, g⟩ (fun r => (∀ c : Dev Cert.StepRowsRefIdeal.nD,
      r.2.mem ((c.tc : Thread Cert.StepRowsRefIdeal.nD Cert.StepRowsRefIdeal.τ).loc Cert.StepRowsRefIdeal.main_arg0) = m ((c.tc : Thread Cert.StepRowsRefIdeal.nD Cert.StepRowsRefIdeal.τ).loc Cert.StepRowsRefIdeal.main_arg0)
      ∧ r.2.mem ((c.tc : Thread Cert.StepRowsRefIdeal.nD Cert.StepRowsRefIdeal.τ).loc Cert.StepRowsRefIdeal.main_arg1) = m ((c.tc : Thread Cert.StepRowsRefIdeal.nD Cert.StepRowsRefIdeal.τ).loc Cert.StepRowsRefIdeal.main_arg1)
      ∧ r.2.mem ((c.tc : Thread Cert.StepRowsRefIdeal.nD Cert.StepRowsRefIdeal.τ).loc Cert.StepRowsRefIdeal.main_arg2) = m ((c.tc : Thread Cert.StepRowsRefIdeal.nD Cert.StepRowsRefIdeal.τ).loc Cert.StepRowsRefIdeal.main_arg2)
      ∧ r.2.mem ((c.tc : Thread Cert.StepRowsRefIdeal.nD Cert.StepRowsRefIdeal.τ).loc Cert.StepRowsRefIdeal.main_arg3) = m ((c.tc : Thread Cert.StepRowsRefIdeal.nD Cert.StepRowsRefIdeal.τ).loc Cert.StepRowsRefIdeal.main_arg3))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3))
      ∧ r.2.sem = fun _ => 0)

def quiescent_StepKvf [hStepKvf : Cert.StepKvf.Facts] : Prop :=
  ∀ (m : (ℓ : Loc Cert.StepKvf.nD Cert.StepKvf.τ Cert.StepKvf.sig) → Buf (Elt Bits) ℓ) (g : Dev Cert.StepKvf.nD → PrngReg), Pre_StepKvf m →
    θ_run (Cert.StepKvf.defs (F := Bits)) (onTc (τ := Cert.StepKvf.τ) (Cert.StepKvf.main (F := Bits))) ⟨m, fun _ => 0, g⟩ (fun r => (∀ c : Dev Cert.StepKvf.nD,
      r.2.mem ((c.tc : Thread Cert.StepKvf.nD Cert.StepKvf.τ).loc Cert.StepKvf.main_arg0) = m ((c.tc : Thread Cert.StepKvf.nD Cert.StepKvf.τ).loc Cert.StepKvf.main_arg0)
      ∧ r.2.mem ((c.tc : Thread Cert.StepKvf.nD Cert.StepKvf.τ).loc Cert.StepKvf.main_arg1) = m ((c.tc : Thread Cert.StepKvf.nD Cert.StepKvf.τ).loc Cert.StepKvf.main_arg1)
      ∧ r.2.mem ((c.tc : Thread Cert.StepKvf.nD Cert.StepKvf.τ).loc Cert.StepKvf.main_arg2) = m ((c.tc : Thread Cert.StepKvf.nD Cert.StepKvf.τ).loc Cert.StepKvf.main_arg2)
      ∧ r.2.mem ((c.tc : Thread Cert.StepKvf.nD Cert.StepKvf.τ).loc Cert.StepKvf.main_arg3) = m ((c.tc : Thread Cert.StepKvf.nD Cert.StepKvf.τ).loc Cert.StepKvf.main_arg3))
      ∧ r.2.sem = fun _ => 0)

def quiescent_StepKvfIdeal [hStepKvfIdeal : Cert.StepKvfIdeal.Facts] : Prop :=
  ∀ (m : (ℓ : Loc Cert.StepKvfIdeal.nD Cert.StepKvfIdeal.τ Cert.StepKvfIdeal.sig) → Buf (Elt Ideal) ℓ) (g : Dev Cert.StepKvfIdeal.nD → PrngReg), Pre_StepKvfIdeal m →
    θ_run (Cert.StepKvfIdeal.defs (F := Ideal)) (onTc (τ := Cert.StepKvfIdeal.τ) (Cert.StepKvfIdeal.main (F := Ideal))) ⟨m, fun _ => 0, g⟩ (fun r => (∀ c : Dev Cert.StepKvfIdeal.nD,
      r.2.mem ((c.tc : Thread Cert.StepKvfIdeal.nD Cert.StepKvfIdeal.τ).loc Cert.StepKvfIdeal.main_arg0) = m ((c.tc : Thread Cert.StepKvfIdeal.nD Cert.StepKvfIdeal.τ).loc Cert.StepKvfIdeal.main_arg0)
      ∧ r.2.mem ((c.tc : Thread Cert.StepKvfIdeal.nD Cert.StepKvfIdeal.τ).loc Cert.StepKvfIdeal.main_arg1) = m ((c.tc : Thread Cert.StepKvfIdeal.nD Cert.StepKvfIdeal.τ).loc Cert.StepKvfIdeal.main_arg1)
      ∧ r.2.mem ((c.tc : Thread Cert.StepKvfIdeal.nD Cert.StepKvfIdeal.τ).loc Cert.StepKvfIdeal.main_arg2) = m ((c.tc : Thread Cert.StepKvfIdeal.nD Cert.StepKvfIdeal.τ).loc Cert.StepKvfIdeal.main_arg2)
      ∧ r.2.mem ((c.tc : Thread Cert.StepKvfIdeal.nD Cert.StepKvfIdeal.τ).loc Cert.StepKvfIdeal.main_arg3) = m ((c.tc : Thread Cert.StepKvfIdeal.nD Cert.StepKvfIdeal.τ).loc Cert.StepKvfIdeal.main_arg3))
      ∧ r.2.sem = fun _ => 0)

def quiescent_StepKvfRefIdeal [hStepKvfRefIdeal : Cert.StepKvfRefIdeal.Facts] : Prop :=
  ∀ (m : (ℓ : Loc Cert.StepKvfRefIdeal.nD Cert.StepKvfRefIdeal.τ Cert.StepKvfRefIdeal.sig) → Buf (Elt Ideal) ℓ) (g : Dev Cert.StepKvfRefIdeal.nD → PrngReg), Pre_StepKvfRefIdeal m →
    θ_run (Cert.StepKvfRefIdeal.defs (F := Ideal)) (onTc (τ := Cert.StepKvfRefIdeal.τ) (Cert.StepKvfRefIdeal.main (F := Ideal))) ⟨m, fun _ => 0, g⟩ (fun r => (∀ c : Dev Cert.StepKvfRefIdeal.nD,
      r.2.mem ((c.tc : Thread Cert.StepKvfRefIdeal.nD Cert.StepKvfRefIdeal.τ).loc Cert.StepKvfRefIdeal.main_arg0) = m ((c.tc : Thread Cert.StepKvfRefIdeal.nD Cert.StepKvfRefIdeal.τ).loc Cert.StepKvfRefIdeal.main_arg0)
      ∧ r.2.mem ((c.tc : Thread Cert.StepKvfRefIdeal.nD Cert.StepKvfRefIdeal.τ).loc Cert.StepKvfRefIdeal.main_arg1) = m ((c.tc : Thread Cert.StepKvfRefIdeal.nD Cert.StepKvfRefIdeal.τ).loc Cert.StepKvfRefIdeal.main_arg1)
      ∧ r.2.mem ((c.tc : Thread Cert.StepKvfRefIdeal.nD Cert.StepKvfRefIdeal.τ).loc Cert.StepKvfRefIdeal.main_arg2) = m ((c.tc : Thread Cert.StepKvfRefIdeal.nD Cert.StepKvfRefIdeal.τ).loc Cert.StepKvfRefIdeal.main_arg2)
      ∧ r.2.mem ((c.tc : Thread Cert.StepKvfRefIdeal.nD Cert.StepKvfRefIdeal.τ).loc Cert.StepKvfRefIdeal.main_arg3) = m ((c.tc : Thread Cert.StepKvfRefIdeal.nD Cert.StepKvfRefIdeal.τ).loc Cert.StepKvfRefIdeal.main_arg3))
      ∧ r.2.sem = fun _ => 0)

def quiescent_StepLb [hStepLb : Cert.StepLb.Facts] : Prop :=
  ∀ (m : (ℓ : Loc Cert.StepLb.nD Cert.StepLb.τ Cert.StepLb.sig) → Buf (Elt Bits) ℓ) (g : Dev Cert.StepLb.nD → PrngReg), Pre_StepLb m →
    θ_run (Cert.StepLb.defs (F := Bits)) (onTc (τ := Cert.StepLb.τ) (Cert.StepLb.main (F := Bits))) ⟨m, fun _ => 0, g⟩ (fun r => (∀ c : Dev Cert.StepLb.nD,
      r.2.mem ((c.tc : Thread Cert.StepLb.nD Cert.StepLb.τ).loc Cert.StepLb.main_arg0) = m ((c.tc : Thread Cert.StepLb.nD Cert.StepLb.τ).loc Cert.StepLb.main_arg0)
      ∧ r.2.mem ((c.tc : Thread Cert.StepLb.nD Cert.StepLb.τ).loc Cert.StepLb.main_arg1) = m ((c.tc : Thread Cert.StepLb.nD Cert.StepLb.τ).loc Cert.StepLb.main_arg1)
      ∧ r.2.mem ((c.tc : Thread Cert.StepLb.nD Cert.StepLb.τ).loc Cert.StepLb.main_arg2) = m ((c.tc : Thread Cert.StepLb.nD Cert.StepLb.τ).loc Cert.StepLb.main_arg2)
      ∧ r.2.mem ((c.tc : Thread Cert.StepLb.nD Cert.StepLb.τ).loc Cert.StepLb.main_arg3) = m ((c.tc : Thread Cert.StepLb.nD Cert.StepLb.τ).loc Cert.StepLb.main_arg3))
      ∧ r.2.sem = fun _ => 0)

def quiescent_StepLbIdeal [hStepLbIdeal : Cert.StepLbIdeal.Facts] : Prop :=
  ∀ (m : (ℓ : Loc Cert.StepLbIdeal.nD Cert.StepLbIdeal.τ Cert.StepLbIdeal.sig) → Buf (Elt Ideal) ℓ) (g : Dev Cert.StepLbIdeal.nD → PrngReg), Pre_StepLbIdeal m →
    θ_run (Cert.StepLbIdeal.defs (F := Ideal)) (onTc (τ := Cert.StepLbIdeal.τ) (Cert.StepLbIdeal.main (F := Ideal))) ⟨m, fun _ => 0, g⟩ (fun r => (∀ c : Dev Cert.StepLbIdeal.nD,
      r.2.mem ((c.tc : Thread Cert.StepLbIdeal.nD Cert.StepLbIdeal.τ).loc Cert.StepLbIdeal.main_arg0) = m ((c.tc : Thread Cert.StepLbIdeal.nD Cert.StepLbIdeal.τ).loc Cert.StepLbIdeal.main_arg0)
      ∧ r.2.mem ((c.tc : Thread Cert.StepLbIdeal.nD Cert.StepLbIdeal.τ).loc Cert.StepLbIdeal.main_arg1) = m ((c.tc : Thread Cert.StepLbIdeal.nD Cert.StepLbIdeal.τ).loc Cert.StepLbIdeal.main_arg1)
      ∧ r.2.mem ((c.tc : Thread Cert.StepLbIdeal.nD Cert.StepLbIdeal.τ).loc Cert.StepLbIdeal.main_arg2) = m ((c.tc : Thread Cert.StepLbIdeal.nD Cert.StepLbIdeal.τ).loc Cert.StepLbIdeal.main_arg2)
      ∧ r.2.mem ((c.tc : Thread Cert.StepLbIdeal.nD Cert.StepLbIdeal.τ).loc Cert.StepLbIdeal.main_arg3) = m ((c.tc : Thread Cert.StepLbIdeal.nD Cert.StepLbIdeal.τ).loc Cert.StepLbIdeal.main_arg3))
      ∧ r.2.sem = fun _ => 0)

def quiescent_StepLbRefIdeal [hStepLbRefIdeal : Cert.StepLbRefIdeal.Facts] : Prop :=
  ∀ (m : (ℓ : Loc Cert.StepLbRefIdeal.nD Cert.StepLbRefIdeal.τ Cert.StepLbRefIdeal.sig) → Buf (Elt Ideal) ℓ) (g : Dev Cert.StepLbRefIdeal.nD → PrngReg), Pre_StepLbRefIdeal m →
    θ_run (Cert.StepLbRefIdeal.defs (F := Ideal)) (onTc (τ := Cert.StepLbRefIdeal.τ) (Cert.StepLbRefIdeal.main (F := Ideal))) ⟨m, fun _ => 0, g⟩ (fun r => (∀ c : Dev Cert.StepLbRefIdeal.nD,
      r.2.mem ((c.tc : Thread Cert.StepLbRefIdeal.nD Cert.StepLbRefIdeal.τ).loc Cert.StepLbRefIdeal.main_arg0) = m ((c.tc : Thread Cert.StepLbRefIdeal.nD Cert.StepLbRefIdeal.τ).loc Cert.StepLbRefIdeal.main_arg0)
      ∧ r.2.mem ((c.tc : Thread Cert.StepLbRefIdeal.nD Cert.StepLbRefIdeal.τ).loc Cert.StepLbRefIdeal.main_arg1) = m ((c.tc : Thread Cert.StepLbRefIdeal.nD Cert.StepLbRefIdeal.τ).loc Cert.StepLbRefIdeal.main_arg1)
      ∧ r.2.mem ((c.tc : Thread Cert.StepLbRefIdeal.nD Cert.StepLbRefIdeal.τ).loc Cert.StepLbRefIdeal.main_arg2) = m ((c.tc : Thread Cert.StepLbRefIdeal.nD Cert.StepLbRefIdeal.τ).loc Cert.StepLbRefIdeal.main_arg2)
      ∧ r.2.mem ((c.tc : Thread Cert.StepLbRefIdeal.nD Cert.StepLbRefIdeal.τ).loc Cert.StepLbRefIdeal.main_arg3) = m ((c.tc : Thread Cert.StepLbRefIdeal.nD Cert.StepLbRefIdeal.τ).loc Cert.StepLbRefIdeal.main_arg3))
      ∧ r.2.sem = fun _ => 0)

def quiescent_StepGate [hStepGate : Cert.StepGate.Facts] : Prop :=
  ∀ (m : (ℓ : Loc Cert.StepGate.nD Cert.StepGate.τ Cert.StepGate.sig) → Buf (Elt Bits) ℓ) (g : Dev Cert.StepGate.nD → PrngReg), Pre_StepGate m →
    θ_run (Cert.StepGate.defs (F := Bits)) (onTc (τ := Cert.StepGate.τ) (Cert.StepGate.main (F := Bits))) ⟨m, fun _ => 0, g⟩ (fun r => (∀ c : Dev Cert.StepGate.nD,
      r.2.mem ((c.tc : Thread Cert.StepGate.nD Cert.StepGate.τ).loc Cert.StepGate.main_arg0) = m ((c.tc : Thread Cert.StepGate.nD Cert.StepGate.τ).loc Cert.StepGate.main_arg0)
      ∧ r.2.mem ((c.tc : Thread Cert.StepGate.nD Cert.StepGate.τ).loc Cert.StepGate.main_arg1) = m ((c.tc : Thread Cert.StepGate.nD Cert.StepGate.τ).loc Cert.StepGate.main_arg1)
      ∧ r.2.mem ((c.tc : Thread Cert.StepGate.nD Cert.StepGate.τ).loc Cert.StepGate.main_arg2) = m ((c.tc : Thread Cert.StepGate.nD Cert.StepGate.τ).loc Cert.StepGate.main_arg2)
      ∧ r.2.mem ((c.tc : Thread Cert.StepGate.nD Cert.StepGate.τ).loc Cert.StepGate.main_arg3) = m ((c.tc : Thread Cert.StepGate.nD Cert.StepGate.τ).loc Cert.StepGate.main_arg3)
      ∧ r.2.mem ((c.tc : Thread Cert.StepGate.nD Cert.StepGate.τ).loc Cert.StepGate.main_arg4) = m ((c.tc : Thread Cert.StepGate.nD Cert.StepGate.τ).loc Cert.StepGate.main_arg4))
      ∧ r.2.sem = fun _ => 0)

def quiescent_StepGateIdeal [hStepGateIdeal : Cert.StepGateIdeal.Facts] : Prop :=
  ∀ (m : (ℓ : Loc Cert.StepGateIdeal.nD Cert.StepGateIdeal.τ Cert.StepGateIdeal.sig) → Buf (Elt Ideal) ℓ) (g : Dev Cert.StepGateIdeal.nD → PrngReg), Pre_StepGateIdeal m →
    θ_run (Cert.StepGateIdeal.defs (F := Ideal)) (onTc (τ := Cert.StepGateIdeal.τ) (Cert.StepGateIdeal.main (F := Ideal))) ⟨m, fun _ => 0, g⟩ (fun r => (∀ c : Dev Cert.StepGateIdeal.nD,
      r.2.mem ((c.tc : Thread Cert.StepGateIdeal.nD Cert.StepGateIdeal.τ).loc Cert.StepGateIdeal.main_arg0) = m ((c.tc : Thread Cert.StepGateIdeal.nD Cert.StepGateIdeal.τ).loc Cert.StepGateIdeal.main_arg0)
      ∧ r.2.mem ((c.tc : Thread Cert.StepGateIdeal.nD Cert.StepGateIdeal.τ).loc Cert.StepGateIdeal.main_arg1) = m ((c.tc : Thread Cert.StepGateIdeal.nD Cert.StepGateIdeal.τ).loc Cert.StepGateIdeal.main_arg1)
      ∧ r.2.mem ((c.tc : Thread Cert.StepGateIdeal.nD Cert.StepGateIdeal.τ).loc Cert.StepGateIdeal.main_arg2) = m ((c.tc : Thread Cert.StepGateIdeal.nD Cert.StepGateIdeal.τ).loc Cert.StepGateIdeal.main_arg2)
      ∧ r.2.mem ((c.tc : Thread Cert.StepGateIdeal.nD Cert.StepGateIdeal.τ).loc Cert.StepGateIdeal.main_arg3) = m ((c.tc : Thread Cert.StepGateIdeal.nD Cert.StepGateIdeal.τ).loc Cert.StepGateIdeal.main_arg3)
      ∧ r.2.mem ((c.tc : Thread Cert.StepGateIdeal.nD Cert.StepGateIdeal.τ).loc Cert.StepGateIdeal.main_arg4) = m ((c.tc : Thread Cert.StepGateIdeal.nD Cert.StepGateIdeal.τ).loc Cert.StepGateIdeal.main_arg4))
      ∧ r.2.sem = fun _ => 0)

def quiescent_StepGateRefIdeal [hStepGateRefIdeal : Cert.StepGateRefIdeal.Facts] : Prop :=
  ∀ (m : (ℓ : Loc Cert.StepGateRefIdeal.nD Cert.StepGateRefIdeal.τ Cert.StepGateRefIdeal.sig) → Buf (Elt Ideal) ℓ) (g : Dev Cert.StepGateRefIdeal.nD → PrngReg), Pre_StepGateRefIdeal m →
    θ_run (Cert.StepGateRefIdeal.defs (F := Ideal)) (onTc (τ := Cert.StepGateRefIdeal.τ) (Cert.StepGateRefIdeal.main (F := Ideal))) ⟨m, fun _ => 0, g⟩ (fun r => (∀ c : Dev Cert.StepGateRefIdeal.nD,
      r.2.mem ((c.tc : Thread Cert.StepGateRefIdeal.nD Cert.StepGateRefIdeal.τ).loc Cert.StepGateRefIdeal.main_arg0) = m ((c.tc : Thread Cert.StepGateRefIdeal.nD Cert.StepGateRefIdeal.τ).loc Cert.StepGateRefIdeal.main_arg0)
      ∧ r.2.mem ((c.tc : Thread Cert.StepGateRefIdeal.nD Cert.StepGateRefIdeal.τ).loc Cert.StepGateRefIdeal.main_arg1) = m ((c.tc : Thread Cert.StepGateRefIdeal.nD Cert.StepGateRefIdeal.τ).loc Cert.StepGateRefIdeal.main_arg1)
      ∧ r.2.mem ((c.tc : Thread Cert.StepGateRefIdeal.nD Cert.StepGateRefIdeal.τ).loc Cert.StepGateRefIdeal.main_arg2) = m ((c.tc : Thread Cert.StepGateRefIdeal.nD Cert.StepGateRefIdeal.τ).loc Cert.StepGateRefIdeal.main_arg2)
      ∧ r.2.mem ((c.tc : Thread Cert.StepGateRefIdeal.nD Cert.StepGateRefIdeal.τ).loc Cert.StepGateRefIdeal.main_arg3) = m ((c.tc : Thread Cert.StepGateRefIdeal.nD Cert.StepGateRefIdeal.τ).loc Cert.StepGateRefIdeal.main_arg3)
      ∧ r.2.mem ((c.tc : Thread Cert.StepGateRefIdeal.nD Cert.StepGateRefIdeal.τ).loc Cert.StepGateRefIdeal.main_arg4) = m ((c.tc : Thread Cert.StepGateRefIdeal.nD Cert.StepGateRefIdeal.τ).loc Cert.StepGateRefIdeal.main_arg4))
      ∧ r.2.sem = fun _ => 0)

def quiescent_StepPle [hStepPle : Cert.StepPle.Facts] : Prop :=
  ∀ (m : (ℓ : Loc Cert.StepPle.nD Cert.StepPle.τ Cert.StepPle.sig) → Buf (Elt Bits) ℓ) (g : Dev Cert.StepPle.nD → PrngReg), Pre_StepPle m →
    θ_run (Cert.StepPle.defs (F := Bits)) (onTc (τ := Cert.StepPle.τ) (Cert.StepPle.main (F := Bits))) ⟨m, fun _ => 0, g⟩ (fun r => (∀ c : Dev Cert.StepPle.nD,
      r.2.mem ((c.tc : Thread Cert.StepPle.nD Cert.StepPle.τ).loc Cert.StepPle.main_arg0) = m ((c.tc : Thread Cert.StepPle.nD Cert.StepPle.τ).loc Cert.StepPle.main_arg0)
      ∧ r.2.mem ((c.tc : Thread Cert.StepPle.nD Cert.StepPle.τ).loc Cert.StepPle.main_arg1) = m ((c.tc : Thread Cert.StepPle.nD Cert.StepPle.τ).loc Cert.StepPle.main_arg1)
      ∧ r.2.mem ((c.tc : Thread Cert.StepPle.nD Cert.StepPle.τ).loc Cert.StepPle.main_arg2) = m ((c.tc : Thread Cert.StepPle.nD Cert.StepPle.τ).loc Cert.StepPle.main_arg2)
      ∧ r.2.mem ((c.tc : Thread Cert.StepPle.nD Cert.StepPle.τ).loc Cert.StepPle.main_arg3) = m ((c.tc : Thread Cert.StepPle.nD Cert.StepPle.τ).loc Cert.StepPle.main_arg3)
      ∧ r.2.mem ((c.tc : Thread Cert.StepPle.nD Cert.StepPle.τ).loc Cert.StepPle.main_arg4) = m ((c.tc : Thread Cert.StepPle.nD Cert.StepPle.τ).loc Cert.StepPle.main_arg4))
      ∧ r.2.sem = fun _ => 0)

def quiescent_StepPleIdeal [hStepPleIdeal : Cert.StepPleIdeal.Facts] : Prop :=
  ∀ (m : (ℓ : Loc Cert.StepPleIdeal.nD Cert.StepPleIdeal.τ Cert.StepPleIdeal.sig) → Buf (Elt Ideal) ℓ) (g : Dev Cert.StepPleIdeal.nD → PrngReg), Pre_StepPleIdeal m →
    θ_run (Cert.StepPleIdeal.defs (F := Ideal)) (onTc (τ := Cert.StepPleIdeal.τ) (Cert.StepPleIdeal.main (F := Ideal))) ⟨m, fun _ => 0, g⟩ (fun r => (∀ c : Dev Cert.StepPleIdeal.nD,
      r.2.mem ((c.tc : Thread Cert.StepPleIdeal.nD Cert.StepPleIdeal.τ).loc Cert.StepPleIdeal.main_arg0) = m ((c.tc : Thread Cert.StepPleIdeal.nD Cert.StepPleIdeal.τ).loc Cert.StepPleIdeal.main_arg0)
      ∧ r.2.mem ((c.tc : Thread Cert.StepPleIdeal.nD Cert.StepPleIdeal.τ).loc Cert.StepPleIdeal.main_arg1) = m ((c.tc : Thread Cert.StepPleIdeal.nD Cert.StepPleIdeal.τ).loc Cert.StepPleIdeal.main_arg1)
      ∧ r.2.mem ((c.tc : Thread Cert.StepPleIdeal.nD Cert.StepPleIdeal.τ).loc Cert.StepPleIdeal.main_arg2) = m ((c.tc : Thread Cert.StepPleIdeal.nD Cert.StepPleIdeal.τ).loc Cert.StepPleIdeal.main_arg2)
      ∧ r.2.mem ((c.tc : Thread Cert.StepPleIdeal.nD Cert.StepPleIdeal.τ).loc Cert.StepPleIdeal.main_arg3) = m ((c.tc : Thread Cert.StepPleIdeal.nD Cert.StepPleIdeal.τ).loc Cert.StepPleIdeal.main_arg3)
      ∧ r.2.mem ((c.tc : Thread Cert.StepPleIdeal.nD Cert.StepPleIdeal.τ).loc Cert.StepPleIdeal.main_arg4) = m ((c.tc : Thread Cert.StepPleIdeal.nD Cert.StepPleIdeal.τ).loc Cert.StepPleIdeal.main_arg4))
      ∧ r.2.sem = fun _ => 0)

def quiescent_StepPleRefIdeal [hStepPleRefIdeal : Cert.StepPleRefIdeal.Facts] : Prop :=
  ∀ (m : (ℓ : Loc Cert.StepPleRefIdeal.nD Cert.StepPleRefIdeal.τ Cert.StepPleRefIdeal.sig) → Buf (Elt Ideal) ℓ) (g : Dev Cert.StepPleRefIdeal.nD → PrngReg), Pre_StepPleRefIdeal m →
    θ_run (Cert.StepPleRefIdeal.defs (F := Ideal)) (onTc (τ := Cert.StepPleRefIdeal.τ) (Cert.StepPleRefIdeal.main (F := Ideal))) ⟨m, fun _ => 0, g⟩ (fun r => (∀ c : Dev Cert.StepPleRefIdeal.nD,
      r.2.mem ((c.tc : Thread Cert.StepPleRefIdeal.nD Cert.StepPleRefIdeal.τ).loc Cert.StepPleRefIdeal.main_arg0) = m ((c.tc : Thread Cert.StepPleRefIdeal.nD Cert.StepPleRefIdeal.τ).loc Cert.StepPleRefIdeal.main_arg0)
      ∧ r.2.mem ((c.tc : Thread Cert.StepPleRefIdeal.nD Cert.StepPleRefIdeal.τ).loc Cert.StepPleRefIdeal.main_arg1) = m ((c.tc : Thread Cert.StepPleRefIdeal.nD Cert.StepPleRefIdeal.τ).loc Cert.StepPleRefIdeal.main_arg1)
      ∧ r.2.mem ((c.tc : Thread Cert.StepPleRefIdeal.nD Cert.StepPleRefIdeal.τ).loc Cert.StepPleRefIdeal.main_arg2) = m ((c.tc : Thread Cert.StepPleRefIdeal.nD Cert.StepPleRefIdeal.τ).loc Cert.StepPleRefIdeal.main_arg2)
      ∧ r.2.mem ((c.tc : Thread Cert.StepPleRefIdeal.nD Cert.StepPleRefIdeal.τ).loc Cert.StepPleRefIdeal.main_arg3) = m ((c.tc : Thread Cert.StepPleRefIdeal.nD Cert.StepPleRefIdeal.τ).loc Cert.StepPleRefIdeal.main_arg3)
      ∧ r.2.mem ((c.tc : Thread Cert.StepPleRefIdeal.nD Cert.StepPleRefIdeal.τ).loc Cert.StepPleRefIdeal.main_arg4) = m ((c.tc : Thread Cert.StepPleRefIdeal.nD Cert.StepPleRefIdeal.τ).loc Cert.StepPleRefIdeal.main_arg4))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3)
      ∧ r.2.mem ((c.tc : Thread Cert.StepDown.nD Cert.StepDown.τ).loc Cert.StepDown.main_arg4) = m ((c.tc : Thread Cert.StepDown.nD Cert.StepDown.τ).loc Cert.StepDown.main_arg4))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
      ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4))
      ∧ r.2.sem = fun _ => 0)

def quiescent_StepDownRefIdeal [hStepDownRefIdeal : Cert.StepDownRefIdeal.Facts] : Prop :=
  ∀ (m : (ℓ : Loc Cert.StepDownRefIdeal.nD Cert.StepDownRefIdeal.τ Cert.StepDownRefIdeal.sig) → Buf (Elt Ideal) ℓ) (g : Dev Cert.StepDownRefIdeal.nD → PrngReg), Pre_StepDownRefIdeal m →
    θ_run (Cert.StepDownRefIdeal.defs (F := Ideal)) (onTc (τ := Cert.StepDownRefIdeal.τ) (Cert.StepDownRefIdeal.main (F := Ideal))) ⟨m, fun _ => 0, g⟩ (fun r => (∀ c : Dev Cert.StepDownRefIdeal.nD,
      r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
      ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
      ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
      ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3)
      ∧ r.2.mem ((c.tc : Thread Cert.StepDownRefIdeal.nD Cert.StepDownRefIdeal.τ).loc Cert.StepDownRefIdeal.main_arg4) = m ((c.tc : Thread Cert.StepDownRefIdeal.nD Cert.StepDownRefIdeal.τ).loc Cert.StepDownRefIdeal.main_arg4))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3)
      ∧ r.2.mem ((c.tc : Thread Cert.StepUp.nD Cert.StepUp.τ).loc Cert.StepUp.main_arg4) = m ((c.tc : Thread Cert.StepUp.nD Cert.StepUp.τ).loc Cert.StepUp.main_arg4))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
      ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3)
      ∧ r.2.mem ((c.tc : Thread Cert.StepUpRefIdeal.nD Cert.StepUpRefIdeal.τ).loc Cert.StepUpRefIdeal.main_arg4) = m ((c.tc : Thread Cert.StepUpRefIdeal.nD Cert.StepUpRefIdeal.τ).loc Cert.StepUpRefIdeal.main_arg4))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3)
      ∧ r.2.mem ((c.tc : Thread Cert.StepSmall.nD Cert.StepSmall.τ).loc Cert.StepSmall.main_arg4) = m ((c.tc : Thread Cert.StepSmall.nD Cert.StepSmall.τ).loc Cert.StepSmall.main_arg4)
      ∧ r.2.mem ((c.tc : Thread Cert.StepSmall.nD Cert.StepSmall.τ).loc Cert.StepSmall.main_arg5) = m ((c.tc : Thread Cert.StepSmall.nD Cert.StepSmall.τ).loc Cert.StepSmall.main_arg5)
      ∧ r.2.mem ((c.tc : Thread Cert.StepSmall.nD Cert.StepSmall.τ).loc Cert.StepSmall.main_arg6) = m ((c.tc : Thread Cert.StepSmall.nD Cert.StepSmall.τ).loc Cert.StepSmall.main_arg6)
      ∧ r.2.mem ((c.tc : Thread Cert.StepSmall.nD Cert.StepSmall.τ).loc Cert.StepSmall.main_arg7) = m ((c.tc : Thread Cert.StepSmall.nD Cert.StepSmall.τ).loc Cert.StepSmall.main_arg7)
      ∧ r.2.mem ((c.tc : Thread Cert.StepSmall.nD Cert.StepSmall.τ).loc Cert.StepSmall.main_arg8) = m ((c.tc : Thread Cert.StepSmall.nD Cert.StepSmall.τ).loc Cert.StepSmall.main_arg8)
      ∧ r.2.mem ((c.tc : Thread Cert.StepSmall.nD Cert.StepSmall.τ).loc Cert.StepSmall.main_arg9) = m ((c.tc : Thread Cert.StepSmall.nD Cert.StepSmall.τ).loc Cert.StepSmall.main_arg9)
      ∧ r.2.mem ((c.tc : Thread Cert.StepSmall.nD Cert.StepSmall.τ).loc Cert.StepSmall.main_arg10) = m ((c.tc : Thread Cert.StepSmall.nD Cert.StepSmall.τ).loc Cert.StepSmall.main_arg10)
      ∧ r.2.mem ((c.tc : Thread Cert.StepSmall.nD Cert.StepSmall.τ).loc Cert.StepSmall.main_arg11) = m ((c.tc : Thread Cert.StepSmall.nD Cert.StepSmall.τ).loc Cert.StepSmall.main_arg11)
      ∧ r.2.mem ((c.tc : Thread Cert.StepSmall.nD Cert.StepSmall.τ).loc Cert.StepSmall.main_arg12) = m ((c.tc : Thread Cert.StepSmall.nD Cert.StepSmall.τ).loc Cert.StepSmall.main_arg12)
      ∧ r.2.mem ((c.tc : Thread Cert.StepSmall.nD Cert.StepSmall.τ).loc Cert.StepSmall.main_arg13) = m ((c.tc : Thread Cert.StepSmall.nD Cert.StepSmall.τ).loc Cert.StepSmall.main_arg13)
      ∧ r.2.mem ((c.tc : Thread Cert.StepSmall.nD Cert.StepSmall.τ).loc Cert.StepSmall.main_arg14) = m ((c.tc : Thread Cert.StepSmall.nD Cert.StepSmall.τ).loc Cert.StepSmall.main_arg14)
      ∧ r.2.mem ((c.tc : Thread Cert.StepSmall.nD Cert.StepSmall.τ).loc Cert.StepSmall.main_arg15) = m ((c.tc : Thread Cert.StepSmall.nD Cert.StepSmall.τ).loc Cert.StepSmall.main_arg15)
      ∧ r.2.mem ((c.tc : Thread Cert.StepSmall.nD Cert.StepSmall.τ).loc Cert.StepSmall.main_arg16) = m ((c.tc : Thread Cert.StepSmall.nD Cert.StepSmall.τ).loc Cert.StepSmall.main_arg16)
      ∧ r.2.mem ((c.tc : Thread Cert.StepSmall.nD Cert.StepSmall.τ).loc Cert.StepSmall.main_arg17) = m ((c.tc : Thread Cert.StepSmall.nD Cert.StepSmall.τ).loc Cert.StepSmall.main_arg17)
      ∧ r.2.mem ((c.tc : Thread Cert.StepSmall.nD Cert.StepSmall.τ).loc Cert.StepSmall.main_arg18) = m ((c.tc : Thread Cert.StepSmall.nD Cert.StepSmall.τ).loc Cert.StepSmall.main_arg18)
      ∧ r.2.mem ((c.tc : Thread Cert.StepSmall.nD Cert.StepSmall.τ).loc Cert.StepSmall.main_arg19) = m ((c.tc : Thread Cert.StepSmall.nD Cert.StepSmall.τ).loc Cert.StepSmall.main_arg19)
      ∧ r.2.mem ((c.tc : Thread Cert.StepSmall.nD Cert.StepSmall.τ).loc Cert.StepSmall.main_arg20) = m ((c.tc : Thread Cert.StepSmall.nD Cert.StepSmall.τ).loc Cert.StepSmall.main_arg20)
      ∧ r.2.mem ((c.tc : Thread Cert.StepSmall.nD Cert.StepSmall.τ).loc Cert.StepSmall.main_arg21) = m ((c.tc : Thread Cert.StepSmall.nD Cert.StepSmall.τ).loc Cert.StepSmall.main_arg21))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
      ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
      ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
      ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
      ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
      ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
      ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
      ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
      ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
      ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
      ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
      ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
      ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
      ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
      ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
      ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
      ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
      ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
      ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21))
      ∧ r.2.sem = fun _ => 0)

def quiescent_StepSmallRefIdeal [hStepSmallRefIdeal : Cert.StepSmallRefIdeal.Facts] : Prop :=
  ∀ (m : (ℓ : Loc Cert.StepSmallRefIdeal.nD Cert.StepSmallRefIdeal.τ Cert.StepSmallRefIdeal.sig) → Buf (Elt Ideal) ℓ) (g : Dev Cert.StepSmallRefIdeal.nD → PrngReg), Pre_StepSmallRefIdeal m →
    θ_run (Cert.StepSmallRefIdeal.defs (F := Ideal)) (onTc (τ := Cert.StepSmallRefIdeal.τ) (Cert.StepSmallRefIdeal.main (F := Ideal))) ⟨m, fun _ => 0, g⟩ (fun r => (∀ c : Dev Cert.StepSmallRefIdeal.nD,
      r.2.mem ((c.tc : Thread Cert.StepSmallRefIdeal.nD Cert.StepSmallRefIdeal.τ).loc Cert.StepSmallRefIdeal.main_arg0) = m ((c.tc : Thread Cert.StepSmallRefIdeal.nD Cert.StepSmallRefIdeal.τ).loc Cert.StepSmallRefIdeal.main_arg0)
      ∧ r.2.mem ((c.tc : Thread Cert.StepSmallRefIdeal.nD Cert.StepSmallRefIdeal.τ).loc Cert.StepSmallRefIdeal.main_arg1) = m ((c.tc : Thread Cert.StepSmallRefIdeal.nD Cert.StepSmallRefIdeal.τ).loc Cert.StepSmallRefIdeal.main_arg1)
      ∧ r.2.mem ((c.tc : Thread Cert.StepSmallRefIdeal.nD Cert.StepSmallRefIdeal.τ).loc Cert.StepSmallRefIdeal.main_arg2) = m ((c.tc : Thread Cert.StepSmallRefIdeal.nD Cert.StepSmallRefIdeal.τ).loc Cert.StepSmallRefIdeal.main_arg2)
      ∧ r.2.mem ((c.tc : Thread Cert.StepSmallRefIdeal.nD Cert.StepSmallRefIdeal.τ).loc Cert.StepSmallRefIdeal.main_arg3) = m ((c.tc : Thread Cert.StepSmallRefIdeal.nD Cert.StepSmallRefIdeal.τ).loc Cert.StepSmallRefIdeal.main_arg3)
      ∧ r.2.mem ((c.tc : Thread Cert.StepSmallRefIdeal.nD Cert.StepSmallRefIdeal.τ).loc Cert.StepSmallRefIdeal.main_arg4) = m ((c.tc : Thread Cert.StepSmallRefIdeal.nD Cert.StepSmallRefIdeal.τ).loc Cert.StepSmallRefIdeal.main_arg4)
      ∧ r.2.mem ((c.tc : Thread Cert.StepSmallRefIdeal.nD Cert.StepSmallRefIdeal.τ).loc Cert.StepSmallRefIdeal.main_arg5) = m ((c.tc : Thread Cert.StepSmallRefIdeal.nD Cert.StepSmallRefIdeal.τ).loc Cert.StepSmallRefIdeal.main_arg5)
      ∧ r.2.mem ((c.tc : Thread Cert.StepSmallRefIdeal.nD Cert.StepSmallRefIdeal.τ).loc Cert.StepSmallRefIdeal.main_arg6) = m ((c.tc : Thread Cert.StepSmallRefIdeal.nD Cert.StepSmallRefIdeal.τ).loc Cert.StepSmallRefIdeal.main_arg6)
      ∧ r.2.mem ((c.tc : Thread Cert.StepSmallRefIdeal.nD Cert.StepSmallRefIdeal.τ).loc Cert.StepSmallRefIdeal.main_arg7) = m ((c.tc : Thread Cert.StepSmallRefIdeal.nD Cert.StepSmallRefIdeal.τ).loc Cert.StepSmallRefIdeal.main_arg7)
      ∧ r.2.mem ((c.tc : Thread Cert.StepSmallRefIdeal.nD Cert.StepSmallRefIdeal.τ).loc Cert.StepSmallRefIdeal.main_arg8) = m ((c.tc : Thread Cert.StepSmallRefIdeal.nD Cert.StepSmallRefIdeal.τ).loc Cert.StepSmallRefIdeal.main_arg8)
      ∧ r.2.mem ((c.tc : Thread Cert.StepSmallRefIdeal.nD Cert.StepSmallRefIdeal.τ).loc Cert.StepSmallRefIdeal.main_arg9) = m ((c.tc : Thread Cert.StepSmallRefIdeal.nD Cert.StepSmallRefIdeal.τ).loc Cert.StepSmallRefIdeal.main_arg9)
      ∧ r.2.mem ((c.tc : Thread Cert.StepSmallRefIdeal.nD Cert.StepSmallRefIdeal.τ).loc Cert.StepSmallRefIdeal.main_arg10) = m ((c.tc : Thread Cert.StepSmallRefIdeal.nD Cert.StepSmallRefIdeal.τ).loc Cert.StepSmallRefIdeal.main_arg10)
      ∧ r.2.mem ((c.tc : Thread Cert.StepSmallRefIdeal.nD Cert.StepSmallRefIdeal.τ).loc Cert.StepSmallRefIdeal.main_arg11) = m ((c.tc : Thread Cert.StepSmallRefIdeal.nD Cert.StepSmallRefIdeal.τ).loc Cert.StepSmallRefIdeal.main_arg11)
      ∧ r.2.mem ((c.tc : Thread Cert.StepSmallRefIdeal.nD Cert.StepSmallRefIdeal.τ).loc Cert.StepSmallRefIdeal.main_arg12) = m ((c.tc : Thread Cert.StepSmallRefIdeal.nD Cert.StepSmallRefIdeal.τ).loc Cert.StepSmallRefIdeal.main_arg12)
      ∧ r.2.mem ((c.tc : Thread Cert.StepSmallRefIdeal.nD Cert.StepSmallRefIdeal.τ).loc Cert.StepSmallRefIdeal.main_arg13) = m ((c.tc : Thread Cert.StepSmallRefIdeal.nD Cert.StepSmallRefIdeal.τ).loc Cert.StepSmallRefIdeal.main_arg13)
      ∧ r.2.mem ((c.tc : Thread Cert.StepSmallRefIdeal.nD Cert.StepSmallRefIdeal.τ).loc Cert.StepSmallRefIdeal.main_arg14) = m ((c.tc : Thread Cert.StepSmallRefIdeal.nD Cert.StepSmallRefIdeal.τ).loc Cert.StepSmallRefIdeal.main_arg14)
      ∧ r.2.mem ((c.tc : Thread Cert.StepSmallRefIdeal.nD Cert.StepSmallRefIdeal.τ).loc Cert.StepSmallRefIdeal.main_arg15) = m ((c.tc : Thread Cert.StepSmallRefIdeal.nD Cert.StepSmallRefIdeal.τ).loc Cert.StepSmallRefIdeal.main_arg15)
      ∧ r.2.mem ((c.tc : Thread Cert.StepSmallRefIdeal.nD Cert.StepSmallRefIdeal.τ).loc Cert.StepSmallRefIdeal.main_arg16) = m ((c.tc : Thread Cert.StepSmallRefIdeal.nD Cert.StepSmallRefIdeal.τ).loc Cert.StepSmallRefIdeal.main_arg16)
      ∧ r.2.mem ((c.tc : Thread Cert.StepSmallRefIdeal.nD Cert.StepSmallRefIdeal.τ).loc Cert.StepSmallRefIdeal.main_arg17) = m ((c.tc : Thread Cert.StepSmallRefIdeal.nD Cert.StepSmallRefIdeal.τ).loc Cert.StepSmallRefIdeal.main_arg17)
      ∧ r.2.mem ((c.tc : Thread Cert.StepSmallRefIdeal.nD Cert.StepSmallRefIdeal.τ).loc Cert.StepSmallRefIdeal.main_arg18) = m ((c.tc : Thread Cert.StepSmallRefIdeal.nD Cert.StepSmallRefIdeal.τ).loc Cert.StepSmallRefIdeal.main_arg18)
      ∧ r.2.mem ((c.tc : Thread Cert.StepSmallRefIdeal.nD Cert.StepSmallRefIdeal.τ).loc Cert.StepSmallRefIdeal.main_arg19) = m ((c.tc : Thread Cert.StepSmallRefIdeal.nD Cert.StepSmallRefIdeal.τ).loc Cert.StepSmallRefIdeal.main_arg19)
      ∧ r.2.mem ((c.tc : Thread Cert.StepSmallRefIdeal.nD Cert.StepSmallRefIdeal.τ).loc Cert.StepSmallRefIdeal.main_arg20) = m ((c.tc : Thread Cert.StepSmallRefIdeal.nD Cert.StepSmallRefIdeal.τ).loc Cert.StepSmallRefIdeal.main_arg20)
      ∧ r.2.mem ((c.tc : Thread Cert.StepSmallRefIdeal.nD Cert.StepSmallRefIdeal.τ).loc Cert.StepSmallRefIdeal.main_arg21) = m ((c.tc : Thread Cert.StepSmallRefIdeal.nD Cert.StepSmallRefIdeal.τ).loc Cert.StepSmallRefIdeal.main_arg21))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4))
      ∧ r.2.sem = fun _ => 0)

def preserves_Attn6_Attn6Ideal : Prop :=
  IdealRules.named_const.Statement Cert.Attn6Ideal.κ "mask" .f32 0xF149F2CA#32 ⊥

def algebraic_Attn6Ideal_AttnGrad6Ideal_on_rows_written_pre_finite [hAttn6Ideal : Cert.Attn6Ideal.Facts] [hAttnGrad6Ideal : Cert.AttnGrad6Ideal.Facts] [hPre_finite : Cert.Pre_finite.Facts] [hOn_rows_written : Cert.On_rows_written.Facts] : Prop :=
  ∀ (m : (ℓ : Loc Cert.Attn6Ideal.nD Cert.Attn6Ideal.τ Cert.Attn6Ideal.sig) → Buf (Elt Ideal) ℓ) (g : Dev Cert.Attn6Ideal.nD → PrngReg)
    (m' : (ℓ : Loc Cert.AttnGrad6Ideal.nD Cert.AttnGrad6Ideal.τ Cert.AttnGrad6Ideal.sig) → Buf (Elt Ideal) ℓ) (g' : Dev Cert.AttnGrad6Ideal.nD → PrngReg), Pre_Attn6Ideal_finite m →
    (∀ c : Dev Cert.Attn6Ideal.nD,
      m' ((c.tc : Thread Cert.AttnGrad6Ideal.nD Cert.AttnGrad6Ideal.τ).loc Cert.AttnGrad6Ideal.main_arg0) = m ((c.tc : Thread Cert.Attn6Ideal.nD Cert.Attn6Ideal.τ).loc Cert.Attn6Ideal.main_arg0)
      ∧ m' ((c.tc : Thread Cert.AttnGrad6Ideal.nD Cert.AttnGrad6Ideal.τ).loc Cert.AttnGrad6Ideal.main_arg1) = m ((c.tc : Thread Cert.Attn6Ideal.nD Cert.Attn6Ideal.τ).loc Cert.Attn6Ideal.main_arg1)
      ∧ m' ((c.tc : Thread Cert.AttnGrad6Ideal.nD Cert.AttnGrad6Ideal.τ).loc Cert.AttnGrad6Ideal.main_arg2) = m ((c.tc : Thread Cert.Attn6Ideal.nD Cert.Attn6Ideal.τ).loc Cert.Attn6Ideal.main_arg2)
      ∧ m' ((c.tc : Thread Cert.AttnGrad6Ideal.nD Cert.AttnGrad6Ideal.τ).loc Cert.AttnGrad6Ideal.main_arg3) = m ((c.tc : Thread Cert.Attn6Ideal.nD Cert.Attn6Ideal.τ).loc Cert.Attn6Ideal.main_arg3)) →
    ∃ (v0 : (c : Dev Cert.Attn6Ideal.nD) → Buf (Elt Ideal) ((c.tc : Thread Cert.Attn6Ideal.nD Cert.Attn6Ideal.τ).loc Cert.Attn6Ideal.main_v32_0)) (v1 : (c : Dev Cert.Attn6Ideal.nD) → Buf (Elt Ideal) ((c.tc : Thread Cert.Attn6Ideal.nD Cert.Attn6Ideal.τ).loc Cert.Attn6Ideal.main_v32_1)) (v2 : (c : Dev Cert.Attn6Ideal.nD) → Buf (Elt Ideal) ((c.tc : Thread Cert.Attn6Ideal.nD Cert.Attn6Ideal.τ).loc Cert.Attn6Ideal.main_v32_2)) (v3 : (c : Dev Cert.Attn6Ideal.nD) → Buf (Elt Ideal) ((c.tc : Thread Cert.Attn6Ideal.nD Cert.Attn6Ideal.τ).loc Cert.Attn6Ideal.main_v32_3)),
      θ_run (Cert.Attn6Ideal.defs (F := Ideal)) (onTc (τ := Cert.Attn6Ideal.τ) (Cert.Attn6Ideal.main (F := Ideal))) ⟨m, fun _ => 0, g⟩ (fun r => ∀ c : Dev Cert.Attn6Ideal.nD,
          (∀ i : (⟨2, ![2048, 2048]⟩ : Shape).Idx, (Cert.On_rows_written.fn (F := Ideal) (m ((c.tc : Thread Cert.Attn6Ideal.nD Cert.Attn6Ideal.τ).loc Cert.Attn6Ideal.main_arg0)) (m ((c.tc : Thread Cert.Attn6Ideal.nD Cert.Attn6Ideal.τ).loc Cert.Attn6Ideal.main_arg1)) (m ((c.tc : Thread Cert.Attn6Ideal.nD Cert.Attn6Ideal.τ).loc Cert.Attn6Ideal.main_arg2)) (m ((c.tc : Thread Cert.Attn6Ideal.nD Cert.Attn6Ideal.τ).loc Cert.Attn6Ideal.main_arg3))).1 i = 1#1 → r.2.mem ((c.tc : Thread Cert.Attn6Ideal.nD Cert.Attn6Ideal.τ).loc Cert.Attn6Ideal.main_v32_0) i = v0 c i)
          ∧ (∀ i : (⟨2, ![2048, 2048]⟩ : Shape).Idx, (Cert.On_rows_written.fn (F := Ideal) (m ((c.tc : Thread Cert.Attn6Ideal.nD Cert.Attn6Ideal.τ).loc Cert.Attn6Ideal.main_arg0)) (m ((c.tc : Thread Cert.Attn6Ideal.nD Cert.Attn6Ideal.τ).loc Cert.Attn6Ideal.main_arg1)) (m ((c.tc : Thread Cert.Attn6Ideal.nD Cert.Attn6Ideal.τ).loc Cert.Attn6Ideal.main_arg2)) (m ((c.tc : Thread Cert.Attn6Ideal.nD Cert.Attn6Ideal.τ).loc Cert.Attn6Ideal.main_arg3))).2.1 i = 1#1 → r.2.mem ((c.tc : Thread Cert.Attn6Ideal.nD Cert.Attn6Ideal.τ).loc Cert.Attn6Ideal.main_v32_1) i = v1 c i)
          ∧ (∀ i : (⟨2, ![2048, 2048]⟩ : Shape).Idx, (Cert.On_rows_written.fn (F := Ideal) (m ((c.tc : Thread Cert.Attn6Ideal.nD Cert.Attn6Ideal.τ).loc Cert.Attn6Ideal.main_arg0)) (m ((c.tc : Thread Cert.Attn6Ideal.nD Cert.Attn6Ideal.τ).loc Cert.Attn6Ideal.main_arg1)) (m ((c.tc : Thread Cert.Attn6Ideal.nD Cert.Attn6Ideal.τ).loc Cert.Attn6Ideal.main_arg2)) (m ((c.tc : Thread Cert.Attn6Ideal.nD Cert.Attn6Ideal.τ).loc Cert.Attn6Ideal.main_arg3))).2.2.1 i = 1#1 → r.2.mem ((c.tc : Thread Cert.Attn6Ideal.nD Cert.Attn6Ideal.τ).loc Cert.Attn6Ideal.main_v32_2) i = v2 c i)
          ∧ (∀ i : (⟨3, ![16, 1, 2048]⟩ : Shape).Idx, (Cert.On_rows_written.fn (F := Ideal) (m ((c.tc : Thread Cert.Attn6Ideal.nD Cert.Attn6Ideal.τ).loc Cert.Attn6Ideal.main_arg0)) (m ((c.tc : Thread Cert.Attn6Ideal.nD Cert.Attn6Ideal.τ).loc Cert.Attn6Ideal.main_arg1)) (m ((c.tc : Thread Cert.Attn6Ideal.nD Cert.Attn6Ideal.τ).loc Cert.Attn6Ideal.main_arg2)) (m ((c.tc : Thread Cert.Attn6Ideal.nD Cert.Attn6Ideal.τ).loc Cert.Attn6Ideal.main_arg3))).2.2.2 i = 1#1 → r.2.mem ((c.tc : Thread Cert.Attn6Ideal.nD Cert.Attn6Ideal.τ).loc Cert.Attn6Ideal.main_v32_3) i = v3 c i)
          ∧ r.2.mem ((c.tc : Thread Cert.Attn6Ideal.nD Cert.Attn6Ideal.τ).loc Cert.Attn6Ideal.main_arg0) = m ((c.tc : Thread Cert.Attn6Ideal.nD Cert.Attn6Ideal.τ).loc Cert.Attn6Ideal.main_arg0)
          ∧ r.2.mem ((c.tc : Thread Cert.Attn6Ideal.nD Cert.Attn6Ideal.τ).loc Cert.Attn6Ideal.main_arg1) = m ((c.tc : Thread Cert.Attn6Ideal.nD Cert.Attn6Ideal.τ).loc Cert.Attn6Ideal.main_arg1)
          ∧ r.2.mem ((c.tc : Thread Cert.Attn6Ideal.nD Cert.Attn6Ideal.τ).loc Cert.Attn6Ideal.main_arg2) = m ((c.tc : Thread Cert.Attn6Ideal.nD Cert.Attn6Ideal.τ).loc Cert.Attn6Ideal.main_arg2)
          ∧ r.2.mem ((c.tc : Thread Cert.Attn6Ideal.nD Cert.Attn6Ideal.τ).loc Cert.Attn6Ideal.main_arg3) = m ((c.tc : Thread Cert.Attn6Ideal.nD Cert.Attn6Ideal.τ).loc Cert.Attn6Ideal.main_arg3))
      ∧ θ_run (Cert.AttnGrad6Ideal.defs (F := Ideal)) (onTc (τ := Cert.AttnGrad6Ideal.τ) (Cert.AttnGrad6Ideal.main (F := Ideal))) ⟨m', fun _ => 0, g'⟩ (fun r => ∀ c : Dev Cert.AttnGrad6Ideal.nD,
          (∀ i : (⟨2, ![2048, 2048]⟩ : Shape).Idx, (Cert.On_rows_written.fn (F := Ideal) (m ((c.tc : Thread Cert.Attn6Ideal.nD Cert.Attn6Ideal.τ).loc Cert.Attn6Ideal.main_arg0)) (m ((c.tc : Thread Cert.Attn6Ideal.nD Cert.Attn6Ideal.τ).loc Cert.Attn6Ideal.main_arg1)) (m ((c.tc : Thread Cert.Attn6Ideal.nD Cert.Attn6Ideal.τ).loc Cert.Attn6Ideal.main_arg2)) (m ((c.tc : Thread Cert.Attn6Ideal.nD Cert.Attn6Ideal.τ).loc Cert.Attn6Ideal.main_arg3))).1 i = 1#1 → r.2.mem ((c.tc : Thread Cert.AttnGrad6Ideal.nD Cert.AttnGrad6Ideal.τ).loc Cert.AttnGrad6Ideal.main_v100) i = v0 c i)
          ∧ (∀ i : (⟨2, ![2048, 2048]⟩ : Shape).Idx, (Cert.On_rows_written.fn (F := Ideal) (m ((c.tc : Thread Cert.Attn6Ideal.nD Cert.Attn6Ideal.τ).loc Cert.Attn6Ideal.main_arg0)) (m ((c.tc : Thread Cert.Attn6Ideal.nD Cert.Attn6Ideal.τ).loc Cert.Attn6Ideal.main_arg1)) (m ((c.tc : Thread Cert.Attn6Ideal.nD Cert.Attn6Ideal.τ).loc Cert.Attn6Ideal.main_arg2)) (m ((c.tc : Thread Cert.Attn6Ideal.nD Cert.Attn6Ideal.τ).loc Cert.Attn6Ideal.main_arg3))).2.1 i = 1#1 → r.2.mem ((c.tc : Thread Cert.AttnGrad6Ideal.nD Cert.AttnGrad6Ideal.τ).loc Cert.AttnGrad6Ideal.main_v93) i = v1 c i)
          ∧ (∀ i : (⟨2, ![2048, 2048]⟩ : Shape).Idx, (Cert.On_rows_written.fn (F := Ideal) (m ((c.tc : Thread Cert.Attn6Ideal.nD Cert.Attn6Ideal.τ).loc Cert.Attn6Ideal.main_arg0)) (m ((c.tc : Thread Cert.Attn6Ideal.nD Cert.Attn6Ideal.τ).loc Cert.Attn6Ideal.main_arg1)) (m ((c.tc : Thread Cert.Attn6Ideal.nD Cert.Attn6Ideal.τ).loc Cert.Attn6Ideal.main_arg2)) (m ((c.tc : Thread Cert.Attn6Ideal.nD Cert.Attn6Ideal.τ).loc Cert.Attn6Ideal.main_arg3))).2.2.1 i = 1#1 → r.2.mem ((c.tc : Thread Cert.AttnGrad6Ideal.nD Cert.AttnGrad6Ideal.τ).loc Cert.AttnGrad6Ideal.main_v92) i = v2 c i)
          ∧ (∀ i : (⟨3, ![16, 1, 2048]⟩ : Shape).Idx, (Cert.On_rows_written.fn (F := Ideal) (m ((c.tc : Thread Cert.Attn6Ideal.nD Cert.Attn6Ideal.τ).loc Cert.Attn6Ideal.main_arg0)) (m ((c.tc : Thread Cert.Attn6Ideal.nD Cert.Attn6Ideal.τ).loc Cert.Attn6Ideal.main_arg1)) (m ((c.tc : Thread Cert.Attn6Ideal.nD Cert.Attn6Ideal.τ).loc Cert.Attn6Ideal.main_arg2)) (m ((c.tc : Thread Cert.Attn6Ideal.nD Cert.Attn6Ideal.τ).loc Cert.Attn6Ideal.main_arg3))).2.2.2 i = 1#1 → r.2.mem ((c.tc : Thread Cert.AttnGrad6Ideal.nD Cert.AttnGrad6Ideal.τ).loc Cert.AttnGrad6Ideal.main_v98) i = v3 c i)
          ∧ r.2.mem ((c.tc : Thread Cert.AttnGrad6Ideal.nD Cert.AttnGrad6Ideal.τ).loc Cert.AttnGrad6Ideal.main_arg0) = m' ((c.tc : Thread Cert.AttnGrad6Ideal.nD Cert.AttnGrad6Ideal.τ).loc Cert.AttnGrad6Ideal.main_arg0)
          ∧ r.2.mem ((c.tc : Thread Cert.AttnGrad6Ideal.nD Cert.AttnGrad6Ideal.τ).loc Cert.AttnGrad6Ideal.main_arg1) = m' ((c.tc : Thread Cert.AttnGrad6Ideal.nD Cert.AttnGrad6Ideal.τ).loc Cert.AttnGrad6Ideal.main_arg1)
          ∧ r.2.mem ((c.tc : Thread Cert.AttnGrad6Ideal.nD Cert.AttnGrad6Ideal.τ).loc Cert.AttnGrad6Ideal.main_arg2) = m' ((c.tc : Thread Cert.AttnGrad6Ideal.nD Cert.AttnGrad6Ideal.τ).loc Cert.AttnGrad6Ideal.main_arg2)
          ∧ r.2.mem ((c.tc : Thread Cert.AttnGrad6Ideal.nD Cert.AttnGrad6Ideal.τ).loc Cert.AttnGrad6Ideal.main_arg3) = m' ((c.tc : Thread Cert.AttnGrad6Ideal.nD Cert.AttnGrad6Ideal.τ).loc Cert.AttnGrad6Ideal.main_arg3))

def preserves_Attn4_Attn4Ideal : Prop :=
  IdealRules.named_const.Statement Cert.Attn4Ideal.κ "mask" .f32 0xF149F2CA#32 ⊥

def algebraic_Attn4Ideal_AttnGrad4Ideal_pre_finite_later [hAttn4Ideal : Cert.Attn4Ideal.Facts] [hAttnGrad4Ideal : Cert.AttnGrad4Ideal.Facts] [hPre_finite_later : Cert.Pre_finite_later.Facts] : Prop :=
  ∀ (m : (ℓ : Loc Cert.Attn4Ideal.nD Cert.Attn4Ideal.τ Cert.Attn4Ideal.sig) → Buf (Elt Ideal) ℓ) (g : Dev Cert.Attn4Ideal.nD → PrngReg)
    (m' : (ℓ : Loc Cert.AttnGrad4Ideal.nD Cert.AttnGrad4Ideal.τ Cert.AttnGrad4Ideal.sig) → Buf (Elt Ideal) ℓ) (g' : Dev Cert.AttnGrad4Ideal.nD → PrngReg), Pre_Attn4Ideal_finite_later m →
    (∀ c : Dev Cert.Attn4Ideal.nD,
      m' ((c.tc : Thread Cert.AttnGrad4Ideal.nD Cert.AttnGrad4Ideal.τ).loc Cert.AttnGrad4Ideal.main_arg0) = m ((c.tc : Thread Cert.Attn4Ideal.nD Cert.Attn4Ideal.τ).loc Cert.Attn4Ideal.main_arg0)
      ∧ m' ((c.tc : Thread Cert.AttnGrad4Ideal.nD Cert.AttnGrad4Ideal.τ).loc Cert.AttnGrad4Ideal.main_arg1) = m ((c.tc : Thread Cert.Attn4Ideal.nD Cert.Attn4Ideal.τ).loc Cert.Attn4Ideal.main_arg1)
      ∧ m' ((c.tc : Thread Cert.AttnGrad4Ideal.nD Cert.AttnGrad4Ideal.τ).loc Cert.AttnGrad4Ideal.main_arg2) = m ((c.tc : Thread Cert.Attn4Ideal.nD Cert.Attn4Ideal.τ).loc Cert.Attn4Ideal.main_arg2)
      ∧ m' ((c.tc : Thread Cert.AttnGrad4Ideal.nD Cert.AttnGrad4Ideal.τ).loc Cert.AttnGrad4Ideal.main_arg3) = m ((c.tc : Thread Cert.Attn4Ideal.nD Cert.Attn4Ideal.τ).loc Cert.Attn4Ideal.main_arg3)
      ∧ m' ((c.tc : Thread Cert.AttnGrad4Ideal.nD Cert.AttnGrad4Ideal.τ).loc Cert.AttnGrad4Ideal.main_arg4) = m ((c.tc : Thread Cert.Attn4Ideal.nD Cert.Attn4Ideal.τ).loc Cert.Attn4Ideal.main_arg4)
      ∧ m' ((c.tc : Thread Cert.AttnGrad4Ideal.nD Cert.AttnGrad4Ideal.τ).loc Cert.AttnGrad4Ideal.main_arg5) = m ((c.tc : Thread Cert.Attn4Ideal.nD Cert.Attn4Ideal.τ).loc Cert.Attn4Ideal.main_arg5)
      ∧ m' ((c.tc : Thread Cert.AttnGrad4Ideal.nD Cert.AttnGrad4Ideal.τ).loc Cert.AttnGrad4Ideal.main_arg6) = m ((c.tc : Thread Cert.Attn4Ideal.nD Cert.Attn4Ideal.τ).loc Cert.Attn4Ideal.main_arg6)
      ∧ m' ((c.tc : Thread Cert.AttnGrad4Ideal.nD Cert.AttnGrad4Ideal.τ).loc Cert.AttnGrad4Ideal.main_arg7) = m ((c.tc : Thread Cert.Attn4Ideal.nD Cert.Attn4Ideal.τ).loc Cert.Attn4Ideal.main_arg7)) →
    ∃ (v0 : (c : Dev Cert.Attn4Ideal.nD) → Buf (Elt Ideal) ((c.tc : Thread Cert.Attn4Ideal.nD Cert.Attn4Ideal.τ).loc Cert.Attn4Ideal.main_v32_0)) (v1 : (c : Dev Cert.Attn4Ideal.nD) → Buf (Elt Ideal) ((c.tc : Thread Cert.Attn4Ideal.nD Cert.Attn4Ideal.τ).loc Cert.Attn4Ideal.main_v32_1)) (v2 : (c : Dev Cert.Attn4Ideal.nD) → Buf (Elt Ideal) ((c.tc : Thread Cert.Attn4Ideal.nD Cert.Attn4Ideal.τ).loc Cert.Attn4Ideal.main_v32_2)) (v3 : (c : Dev Cert.Attn4Ideal.nD) → Buf (Elt Ideal) ((c.tc : Thread Cert.Attn4Ideal.nD Cert.Attn4Ideal.τ).loc Cert.Attn4Ideal.main_v32_3)),
      θ_run (Cert.Attn4Ideal.defs (F := Ideal)) (onTc (τ := Cert.Attn4Ideal.τ) (Cert.Attn4Ideal.main (F := Ideal))) ⟨m, fun _ => 0, g⟩ (fun r => ∀ c : Dev Cert.Attn4Ideal.nD,
          r.2.mem ((c.tc : Thread Cert.Attn4Ideal.nD Cert.Attn4Ideal.τ).loc Cert.Attn4Ideal.main_v32_0) = v0 c
          ∧ r.2.mem ((c.tc : Thread Cert.Attn4Ideal.nD Cert.Attn4Ideal.τ).loc Cert.Attn4Ideal.main_v32_1) = v1 c
          ∧ r.2.mem ((c.tc : Thread Cert.Attn4Ideal.nD Cert.Attn4Ideal.τ).loc Cert.Attn4Ideal.main_v32_2) = v2 c
          ∧ r.2.mem ((c.tc : Thread Cert.Attn4Ideal.nD Cert.Attn4Ideal.τ).loc Cert.Attn4Ideal.main_v32_3) = v3 c
          ∧ r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
          ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
          ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2)
          ∧ r.2.mem ((c.tc : Thread Cert.Attn4Ideal.nD Cert.Attn4Ideal.τ).loc Cert.Attn4Ideal.main_arg3) = m ((c.tc : Thread Cert.Attn4Ideal.nD Cert.Attn4Ideal.τ).loc Cert.Attn4Ideal.main_arg3)
          ∧ r.2.mem ((c.tc : Thread Cert.Attn4Ideal.nD Cert.Attn4Ideal.τ).loc Cert.Attn4Ideal.main_arg4) = m ((c.tc : Thread Cert.Attn4Ideal.nD Cert.Attn4Ideal.τ).loc Cert.Attn4Ideal.main_arg4)
          ∧ r.2.mem ((c.tc : Thread Cert.Attn4Ideal.nD Cert.Attn4Ideal.τ).loc Cert.Attn4Ideal.main_arg5) = m ((c.tc : Thread Cert.Attn4Ideal.nD Cert.Attn4Ideal.τ).loc Cert.Attn4Ideal.main_arg5)
          ∧ r.2.mem ((c.tc : Thread Cert.Attn4Ideal.nD Cert.Attn4Ideal.τ).loc Cert.Attn4Ideal.main_arg6) = m ((c.tc : Thread Cert.Attn4Ideal.nD Cert.Attn4Ideal.τ).loc Cert.Attn4Ideal.main_arg6)
          ∧ r.2.mem ((c.tc : Thread Cert.Attn4Ideal.nD Cert.Attn4Ideal.τ).loc Cert.Attn4Ideal.main_arg7) = m ((c.tc : Thread Cert.Attn4Ideal.nD Cert.Attn4Ideal.τ).loc Cert.Attn4Ideal.main_arg7))
      ∧ θ_run (Cert.AttnGrad4Ideal.defs (F := Ideal)) (onTc (τ := Cert.AttnGrad4Ideal.τ) (Cert.AttnGrad4Ideal.main (F := Ideal))) ⟨m', fun _ => 0, g'⟩ (fun r => ∀ c : Dev Cert.AttnGrad4Ideal.nD,
          r.2.mem ((c.tc : Thread Cert.AttnGrad4Ideal.nD Cert.AttnGrad4Ideal.τ).loc Cert.AttnGrad4Ideal.main_v102) = v0 c
          ∧ r.2.mem ((c.tc : Thread Cert.AttnGrad4Ideal.nD Cert.AttnGrad4Ideal.τ).loc Cert.AttnGrad4Ideal.main_v106) = v1 c
          ∧ r.2.mem ((c.tc : Thread Cert.AttnGrad4Ideal.nD Cert.AttnGrad4Ideal.τ).loc Cert.AttnGrad4Ideal.main_v110) = v2 c
          ∧ r.2.mem ((c.tc : Thread Cert.AttnGrad4Ideal.nD Cert.AttnGrad4Ideal.τ).loc Cert.AttnGrad4Ideal.main_v114) = v3 c
          ∧ r.2.mem ((c.tc : Thread Cert.AttnGrad4Ideal.nD Cert.AttnGrad4Ideal.τ).loc Cert.AttnGrad4Ideal.main_arg0) = m' ((c.tc : Thread Cert.AttnGrad4Ideal.nD Cert.AttnGrad4Ideal.τ).loc Cert.AttnGrad4Ideal.main_arg0)
          ∧ r.2.mem ((c.tc : Thread Cert.AttnGrad4Ideal.nD Cert.AttnGrad4Ideal.τ).loc Cert.AttnGrad4Ideal.main_arg1) = m' ((c.tc : Thread Cert.AttnGrad4Ideal.nD Cert.AttnGrad4Ideal.τ).loc Cert.AttnGrad4Ideal.main_arg1)
          ∧ r.2.mem ((c.tc : Thread Cert.AttnGrad4Ideal.nD Cert.AttnGrad4Ideal.τ).loc Cert.AttnGrad4Ideal.main_arg2) = m' ((c.tc : Thread Cert.AttnGrad4Ideal.nD Cert.AttnGrad4Ideal.τ).loc Cert.AttnGrad4Ideal.main_arg2)
          ∧ r.2.mem ((c.tc : Thread Cert.AttnGrad4Ideal.nD Cert.AttnGrad4Ideal.τ).loc Cert.AttnGrad4Ideal.main_arg3) = m' ((c.tc : Thread Cert.AttnGrad4Ideal.nD Cert.AttnGrad4Ideal.τ).loc Cert.AttnGrad4Ideal.main_arg3)
          ∧ r.2.mem ((c.tc : Thread Cert.AttnGrad4Ideal.nD Cert.AttnGrad4Ideal.τ).loc Cert.AttnGrad4Ideal.main_arg4) = m' ((c.tc : Thread Cert.AttnGrad4Ideal.nD Cert.AttnGrad4Ideal.τ).loc Cert.AttnGrad4Ideal.main_arg4)
          ∧ r.2.mem ((c.tc : Thread Cert.AttnGrad4Ideal.nD Cert.AttnGrad4Ideal.τ).loc Cert.AttnGrad4Ideal.main_arg5) = m' ((c.tc : Thread Cert.AttnGrad4Ideal.nD Cert.AttnGrad4Ideal.τ).loc Cert.AttnGrad4Ideal.main_arg5)
          ∧ r.2.mem ((c.tc : Thread Cert.AttnGrad4Ideal.nD Cert.AttnGrad4Ideal.τ).loc Cert.AttnGrad4Ideal.main_arg6) = m' ((c.tc : Thread Cert.AttnGrad4Ideal.nD Cert.AttnGrad4Ideal.τ).loc Cert.AttnGrad4Ideal.main_arg6)
          ∧ r.2.mem ((c.tc : Thread Cert.AttnGrad4Ideal.nD Cert.AttnGrad4Ideal.τ).loc Cert.AttnGrad4Ideal.main_arg7) = m' ((c.tc : Thread Cert.AttnGrad4Ideal.nD Cert.AttnGrad4Ideal.τ).loc Cert.AttnGrad4Ideal.main_arg7))

def preserves_Attn2_Attn2Ideal : Prop :=
  IdealRules.named_const.Statement Cert.Attn2Ideal.κ "mask" .f32 0xF149F2CA#32 ⊥

def algebraic_Attn2Ideal_AttnGrad2Ideal_pre_finite_later [hAttn2Ideal : Cert.Attn2Ideal.Facts] [hAttnGrad2Ideal : Cert.AttnGrad2Ideal.Facts] [hPre_finite_later : Cert.Pre_finite_later.Facts] : Prop :=
  ∀ (m : (ℓ : Loc Cert.Attn2Ideal.nD Cert.Attn2Ideal.τ Cert.Attn2Ideal.sig) → Buf (Elt Ideal) ℓ) (g : Dev Cert.Attn2Ideal.nD → PrngReg)
    (m' : (ℓ : Loc Cert.AttnGrad2Ideal.nD Cert.AttnGrad2Ideal.τ Cert.AttnGrad2Ideal.sig) → Buf (Elt Ideal) ℓ) (g' : Dev Cert.AttnGrad2Ideal.nD → PrngReg), Pre_Attn2Ideal_finite_later m →
    (∀ c : Dev Cert.Attn2Ideal.nD,
      m' ((c.tc : Thread Cert.AttnGrad2Ideal.nD Cert.AttnGrad2Ideal.τ).loc Cert.AttnGrad2Ideal.main_arg0) = m ((c.tc : Thread Cert.Attn2Ideal.nD Cert.Attn2Ideal.τ).loc Cert.Attn2Ideal.main_arg0)
      ∧ m' ((c.tc : Thread Cert.AttnGrad2Ideal.nD Cert.AttnGrad2Ideal.τ).loc Cert.AttnGrad2Ideal.main_arg1) = m ((c.tc : Thread Cert.Attn2Ideal.nD Cert.Attn2Ideal.τ).loc Cert.Attn2Ideal.main_arg1)
      ∧ m' ((c.tc : Thread Cert.AttnGrad2Ideal.nD Cert.AttnGrad2Ideal.τ).loc Cert.AttnGrad2Ideal.main_arg2) = m ((c.tc : Thread Cert.Attn2Ideal.nD Cert.Attn2Ideal.τ).loc Cert.Attn2Ideal.main_arg2)
      ∧ m' ((c.tc : Thread Cert.AttnGrad2Ideal.nD Cert.AttnGrad2Ideal.τ).loc Cert.AttnGrad2Ideal.main_arg3) = m ((c.tc : Thread Cert.Attn2Ideal.nD Cert.Attn2Ideal.τ).loc Cert.Attn2Ideal.main_arg3)
      ∧ m' ((c.tc : Thread Cert.AttnGrad2Ideal.nD Cert.AttnGrad2Ideal.τ).loc Cert.AttnGrad2Ideal.main_arg4) = m ((c.tc : Thread Cert.Attn2Ideal.nD Cert.Attn2Ideal.τ).loc Cert.Attn2Ideal.main_arg4)
      ∧ m' ((c.tc : Thread Cert.AttnGrad2Ideal.nD Cert.AttnGrad2Ideal.τ).loc Cert.AttnGrad2Ideal.main_arg5) = m ((c.tc : Thread Cert.Attn2Ideal.nD Cert.Attn2Ideal.τ).loc Cert.Attn2Ideal.main_arg5)
      ∧ m' ((c.tc : Thread Cert.AttnGrad2Ideal.nD Cert.AttnGrad2Ideal.τ).loc Cert.AttnGrad2Ideal.main_arg6) = m ((c.tc : Thread Cert.Attn2Ideal.nD Cert.Attn2Ideal.τ).loc Cert.Attn2Ideal.main_arg6)
      ∧ m' ((c.tc : Thread Cert.AttnGrad2Ideal.nD Cert.AttnGrad2Ideal.τ).loc Cert.AttnGrad2Ideal.main_arg7) = m ((c.tc : Thread Cert.Attn2Ideal.nD Cert.Attn2Ideal.τ).loc Cert.Attn2Ideal.main_arg7)) →
    ∃ (v0 : (c : Dev Cert.Attn2Ideal.nD) → Buf (Elt Ideal) ((c.tc : Thread Cert.Attn2Ideal.nD Cert.Attn2Ideal.τ).loc Cert.Attn2Ideal.main_v32_0)) (v1 : (c : Dev Cert.Attn2Ideal.nD) → Buf (Elt Ideal) ((c.tc : Thread Cert.Attn2Ideal.nD Cert.Attn2Ideal.τ).loc Cert.Attn2Ideal.main_v32_1)) (v2 : (c : Dev Cert.Attn2Ideal.nD) → Buf (Elt Ideal) ((c.tc : Thread Cert.Attn2Ideal.nD Cert.Attn2Ideal.τ).loc Cert.Attn2Ideal.main_v32_2)) (v3 : (c : Dev Cert.Attn2Ideal.nD) → Buf (Elt Ideal) ((c.tc : Thread Cert.Attn2Ideal.nD Cert.Attn2Ideal.τ).loc Cert.Attn2Ideal.main_v32_3)),
      θ_run (Cert.Attn2Ideal.defs (F := Ideal)) (onTc (τ := Cert.Attn2Ideal.τ) (Cert.Attn2Ideal.main (F := Ideal))) ⟨m, fun _ => 0, g⟩ (fun r => ∀ c : Dev Cert.Attn2Ideal.nD,
          r.2.mem ((c.tc : Thread Cert.Attn2Ideal.nD Cert.Attn2Ideal.τ).loc Cert.Attn2Ideal.main_v32_0) = v0 c
          ∧ r.2.mem ((c.tc : Thread Cert.Attn2Ideal.nD Cert.Attn2Ideal.τ).loc Cert.Attn2Ideal.main_v32_1) = v1 c
          ∧ r.2.mem ((c.tc : Thread Cert.Attn2Ideal.nD Cert.Attn2Ideal.τ).loc Cert.Attn2Ideal.main_v32_2) = v2 c
          ∧ r.2.mem ((c.tc : Thread Cert.Attn2Ideal.nD Cert.Attn2Ideal.τ).loc Cert.Attn2Ideal.main_v32_3) = v3 c
          ∧ r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0)
          ∧ r.2.mem ((c.tc : Thread Cert.Attn2Ideal.nD Cert.Attn2Ideal.τ).loc Cert.Attn2Ideal.main_arg1) = m ((c.tc : Thread Cert.Attn2Ideal.nD Cert.Attn2Ideal.τ).loc Cert.Attn2Ideal.main_arg1)
          ∧ r.2.mem ((c.tc : Thread Cert.Attn2Ideal.nD Cert.Attn2Ideal.τ).loc Cert.Attn2Ideal.main_arg2) = m ((c.tc : Thread Cert.Attn2Ideal.nD Cert.Attn2Ideal.τ).loc Cert.Attn2Ideal.main_arg2)
          ∧ r.2.mem ((c.tc : Thread Cert.Attn2Ideal.nD Cert.Attn2Ideal.τ).loc Cert.Attn2Ideal.main_arg3) = m ((c.tc : Thread Cert.Attn2Ideal.nD Cert.Attn2Ideal.τ).loc Cert.Attn2Ideal.main_arg3)
          ∧ r.2.mem ((c.tc : Thread Cert.Attn2Ideal.nD Cert.Attn2Ideal.τ).loc Cert.Attn2Ideal.main_arg4) = m ((c.tc : Thread Cert.Attn2Ideal.nD Cert.Attn2Ideal.τ).loc Cert.Attn2Ideal.main_arg4)
          ∧ r.2.mem ((c.tc : Thread Cert.Attn2Ideal.nD Cert.Attn2Ideal.τ).loc Cert.Attn2Ideal.main_arg5) = m ((c.tc : Thread Cert.Attn2Ideal.nD Cert.Attn2Ideal.τ).loc Cert.Attn2Ideal.main_arg5)
          ∧ r.2.mem ((c.tc : Thread Cert.Attn2Ideal.nD Cert.Attn2Ideal.τ).loc Cert.Attn2Ideal.main_arg6) = m ((c.tc : Thread Cert.Attn2Ideal.nD Cert.Attn2Ideal.τ).loc Cert.Attn2Ideal.main_arg6)
          ∧ r.2.mem ((c.tc : Thread Cert.Attn2Ideal.nD Cert.Attn2Ideal.τ).loc Cert.Attn2Ideal.main_arg7) = m ((c.tc : Thread Cert.Attn2Ideal.nD Cert.Attn2Ideal.τ).loc Cert.Attn2Ideal.main_arg7))
      ∧ θ_run (Cert.AttnGrad2Ideal.defs (F := Ideal)) (onTc (τ := Cert.AttnGrad2Ideal.τ) (Cert.AttnGrad2Ideal.main (F := Ideal))) ⟨m', fun _ => 0, g'⟩ (fun r => ∀ c : Dev Cert.AttnGrad2Ideal.nD,
          r.2.mem ((c.tc : Thread Cert.AttnGrad2Ideal.nD Cert.AttnGrad2Ideal.τ).loc Cert.AttnGrad2Ideal.main_v102) = v0 c
          ∧ r.2.mem ((c.tc : Thread Cert.AttnGrad2Ideal.nD Cert.AttnGrad2Ideal.τ).loc Cert.AttnGrad2Ideal.main_v106) = v1 c
          ∧ r.2.mem ((c.tc : Thread Cert.AttnGrad2Ideal.nD Cert.AttnGrad2Ideal.τ).loc Cert.AttnGrad2Ideal.main_v110) = v2 c
          ∧ r.2.mem ((c.tc : Thread Cert.AttnGrad2Ideal.nD Cert.AttnGrad2Ideal.τ).loc Cert.AttnGrad2Ideal.main_v114) = v3 c
          ∧ r.2.mem ((c.tc : Thread Cert.AttnGrad2Ideal.nD Cert.AttnGrad2Ideal.τ).loc Cert.AttnGrad2Ideal.main_arg0) = m' ((c.tc : Thread Cert.AttnGrad2Ideal.nD Cert.AttnGrad2Ideal.τ).loc Cert.AttnGrad2Ideal.main_arg0)
          ∧ r.2.mem ((c.tc : Thread Cert.AttnGrad2Ideal.nD Cert.AttnGrad2Ideal.τ).loc Cert.AttnGrad2Ideal.main_arg1) = m' ((c.tc : Thread Cert.AttnGrad2Ideal.nD Cert.AttnGrad2Ideal.τ).loc Cert.AttnGrad2Ideal.main_arg1)
          ∧ r.2.mem ((c.tc : Thread Cert.AttnGrad2Ideal.nD Cert.AttnGrad2Ideal.τ).loc Cert.AttnGrad2Ideal.main_arg2) = m' ((c.tc : Thread Cert.AttnGrad2Ideal.nD Cert.AttnGrad2Ideal.τ).loc Cert.AttnGrad2Ideal.main_arg2)
          ∧ r.2.mem ((c.tc : Thread Cert.AttnGrad2Ideal.nD Cert.AttnGrad2Ideal.τ).loc Cert.AttnGrad2Ideal.main_arg3) = m' ((c.tc : Thread Cert.AttnGrad2Ideal.nD Cert.AttnGrad2Ideal.τ).loc Cert.AttnGrad2Ideal.main_arg3)
          ∧ r.2.mem ((c.tc : Thread Cert.AttnGrad2Ideal.nD Cert.AttnGrad2Ideal.τ).loc Cert.AttnGrad2Ideal.main_arg4) = m' ((c.tc : Thread Cert.AttnGrad2Ideal.nD Cert.AttnGrad2Ideal.τ).loc Cert.AttnGrad2Ideal.main_arg4)
          ∧ r.2.mem ((c.tc : Thread Cert.AttnGrad2Ideal.nD Cert.AttnGrad2Ideal.τ).loc Cert.AttnGrad2Ideal.main_arg5) = m' ((c.tc : Thread Cert.AttnGrad2Ideal.nD Cert.AttnGrad2Ideal.τ).loc Cert.AttnGrad2Ideal.main_arg5)
          ∧ r.2.mem ((c.tc : Thread Cert.AttnGrad2Ideal.nD Cert.AttnGrad2Ideal.τ).loc Cert.AttnGrad2Ideal.main_arg6) = m' ((c.tc : Thread Cert.AttnGrad2Ideal.nD Cert.AttnGrad2Ideal.τ).loc Cert.AttnGrad2Ideal.main_arg6)
          ∧ r.2.mem ((c.tc : Thread Cert.AttnGrad2Ideal.nD Cert.AttnGrad2Ideal.τ).loc Cert.AttnGrad2Ideal.main_arg7) = m' ((c.tc : Thread Cert.AttnGrad2Ideal.nD Cert.AttnGrad2Ideal.τ).loc Cert.AttnGrad2Ideal.main_arg7))

def preserves_Attn0_Attn0Ideal : Prop :=
  IdealRules.named_const.Statement Cert.Attn0Ideal.κ "mask" .f32 0xF149F2CA#32 ⊥

def algebraic_Attn0Ideal_AttnGrad0Ideal_pre_finite_later [hAttn0Ideal : Cert.Attn0Ideal.Facts] [hAttnGrad0Ideal : Cert.AttnGrad0Ideal.Facts] [hPre_finite_later : Cert.Pre_finite_later.Facts] : Prop :=
  ∀ (m : (ℓ : Loc Cert.Attn0Ideal.nD Cert.Attn0Ideal.τ Cert.Attn0Ideal.sig) → Buf (Elt Ideal) ℓ) (g : Dev Cert.Attn0Ideal.nD → PrngReg)
    (m' : (ℓ : Loc Cert.AttnGrad0Ideal.nD Cert.AttnGrad0Ideal.τ Cert.AttnGrad0Ideal.sig) → Buf (Elt Ideal) ℓ) (g' : Dev Cert.AttnGrad0Ideal.nD → PrngReg), Pre_Attn0Ideal_finite_later m →
    (∀ c : Dev Cert.Attn0Ideal.nD,
      m' ((c.tc : Thread Cert.AttnGrad0Ideal.nD Cert.AttnGrad0Ideal.τ).loc Cert.AttnGrad0Ideal.main_arg0) = m ((c.tc : Thread Cert.Attn0Ideal.nD Cert.Attn0Ideal.τ).loc Cert.Attn0Ideal.main_arg0)
      ∧ m' ((c.tc : Thread Cert.AttnGrad0Ideal.nD Cert.AttnGrad0Ideal.τ).loc Cert.AttnGrad0Ideal.main_arg1) = m ((c.tc : Thread Cert.Attn0Ideal.nD Cert.Attn0Ideal.τ).loc Cert.Attn0Ideal.main_arg1)
      ∧ m' ((c.tc : Thread Cert.AttnGrad0Ideal.nD Cert.AttnGrad0Ideal.τ).loc Cert.AttnGrad0Ideal.main_arg2) = m ((c.tc : Thread Cert.Attn0Ideal.nD Cert.Attn0Ideal.τ).loc Cert.Attn0Ideal.main_arg2)
      ∧ m' ((c.tc : Thread Cert.AttnGrad0Ideal.nD Cert.AttnGrad0Ideal.τ).loc Cert.AttnGrad0Ideal.main_arg3) = m ((c.tc : Thread Cert.Attn0Ideal.nD Cert.Attn0Ideal.τ).loc Cert.Attn0Ideal.main_arg3)
      ∧ m' ((c.tc : Thread Cert.AttnGrad0Ideal.nD Cert.AttnGrad0Ideal.τ).loc Cert.AttnGrad0Ideal.main_arg4) = m ((c.tc : Thread Cert.Attn0Ideal.nD Cert.Attn0Ideal.τ).loc Cert.Attn0Ideal.main_arg4)
      ∧ m' ((c.tc : Thread Cert.AttnGrad0Ideal.nD Cert.AttnGrad0Ideal.τ).loc Cert.AttnGrad0Ideal.main_arg5) = m ((c.tc : Thread Cert.Attn0Ideal.nD Cert.Attn0Ideal.τ).loc Cert.Attn0Ideal.main_arg5)
      ∧ m' ((c.tc : Thread Cert.AttnGrad0Ideal.nD Cert.AttnGrad0Ideal.τ).loc Cert.AttnGrad0Ideal.main_arg6) = m ((c.tc : Thread Cert.Attn0Ideal.nD Cert.Attn0Ideal.τ).loc Cert.Attn0Ideal.main_arg6)
      ∧ m' ((c.tc : Thread Cert.AttnGrad0Ideal.nD Cert.AttnGrad0Ideal.τ).loc Cert.AttnGrad0Ideal.main_arg7) = m ((c.tc : Thread Cert.Attn0Ideal.nD Cert.Attn0Ideal.τ).loc Cert.Attn0Ideal.main_arg7)) →
    ∃ (v0 : (c : Dev Cert.Attn0Ideal.nD) → Buf (Elt Ideal) ((c.tc : Thread Cert.Attn0Ideal.nD Cert.Attn0Ideal.τ).loc Cert.Attn0Ideal.main_v32_0)) (v1 : (c : Dev Cert.Attn0Ideal.nD) → Buf (Elt Ideal) ((c.tc : Thread Cert.Attn0Ideal.nD Cert.Attn0Ideal.τ).loc Cert.Attn0Ideal.main_v32_1)) (v2 : (c : Dev Cert.Attn0Ideal.nD) → Buf (Elt Ideal) ((c.tc : Thread Cert.Attn0Ideal.nD Cert.Attn0Ideal.τ).loc Cert.Attn0Ideal.main_v32_2)) (v3 : (c : Dev Cert.Attn0Ideal.nD) → Buf (Elt Ideal) ((c.tc : Thread Cert.Attn0Ideal.nD Cert.Attn0Ideal.τ).loc Cert.Attn0Ideal.main_v32_3)),
      θ_run (Cert.Attn0Ideal.defs (F := Ideal)) (onTc (τ := Cert.Attn0Ideal.τ) (Cert.Attn0Ideal.main (F := Ideal))) ⟨m, fun _ => 0, g⟩ (fun r => ∀ c : Dev Cert.Attn0Ideal.nD,
          r.2.mem ((c.tc : Thread Cert.Attn0Ideal.nD Cert.Attn0Ideal.τ).loc Cert.Attn0Ideal.main_v32_0) = v0 c
          ∧ r.2.mem ((c.tc : Thread Cert.Attn0Ideal.nD Cert.Attn0Ideal.τ).loc Cert.Attn0Ideal.main_v32_1) = v1 c
          ∧ r.2.mem ((c.tc : Thread Cert.Attn0Ideal.nD Cert.Attn0Ideal.τ).loc Cert.Attn0Ideal.main_v32_2) = v2 c
          ∧ r.2.mem ((c.tc : Thread Cert.Attn0Ideal.nD Cert.Attn0Ideal.τ).loc Cert.Attn0Ideal.main_v32_3) = v3 c
          ∧ r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0)
          ∧ r.2.mem ((c.tc : Thread Cert.Attn0Ideal.nD Cert.Attn0Ideal.τ).loc Cert.Attn0Ideal.main_arg1) = m ((c.tc : Thread Cert.Attn0Ideal.nD Cert.Attn0Ideal.τ).loc Cert.Attn0Ideal.main_arg1)
          ∧ r.2.mem ((c.tc : Thread Cert.Attn0Ideal.nD Cert.Attn0Ideal.τ).loc Cert.Attn0Ideal.main_arg2) = m ((c.tc : Thread Cert.Attn0Ideal.nD Cert.Attn0Ideal.τ).loc Cert.Attn0Ideal.main_arg2)
          ∧ r.2.mem ((c.tc : Thread Cert.Attn0Ideal.nD Cert.Attn0Ideal.τ).loc Cert.Attn0Ideal.main_arg3) = m ((c.tc : Thread Cert.Attn0Ideal.nD Cert.Attn0Ideal.τ).loc Cert.Attn0Ideal.main_arg3)
          ∧ r.2.mem ((c.tc : Thread Cert.Attn0Ideal.nD Cert.Attn0Ideal.τ).loc Cert.Attn0Ideal.main_arg4) = m ((c.tc : Thread Cert.Attn0Ideal.nD Cert.Attn0Ideal.τ).loc Cert.Attn0Ideal.main_arg4)
          ∧ r.2.mem ((c.tc : Thread Cert.Attn0Ideal.nD Cert.Attn0Ideal.τ).loc Cert.Attn0Ideal.main_arg5) = m ((c.tc : Thread Cert.Attn0Ideal.nD Cert.Attn0Ideal.τ).loc Cert.Attn0Ideal.main_arg5)
          ∧ r.2.mem ((c.tc : Thread Cert.Attn0Ideal.nD Cert.Attn0Ideal.τ).loc Cert.Attn0Ideal.main_arg6) = m ((c.tc : Thread Cert.Attn0Ideal.nD Cert.Attn0Ideal.τ).loc Cert.Attn0Ideal.main_arg6)
          ∧ r.2.mem ((c.tc : Thread Cert.Attn0Ideal.nD Cert.Attn0Ideal.τ).loc Cert.Attn0Ideal.main_arg7) = m ((c.tc : Thread Cert.Attn0Ideal.nD Cert.Attn0Ideal.τ).loc Cert.Attn0Ideal.main_arg7))
      ∧ θ_run (Cert.AttnGrad0Ideal.defs (F := Ideal)) (onTc (τ := Cert.AttnGrad0Ideal.τ) (Cert.AttnGrad0Ideal.main (F := Ideal))) ⟨m', fun _ => 0, g'⟩ (fun r => ∀ c : Dev Cert.AttnGrad0Ideal.nD,
          r.2.mem ((c.tc : Thread Cert.AttnGrad0Ideal.nD Cert.AttnGrad0Ideal.τ).loc Cert.AttnGrad0Ideal.main_v98) = v0 c
          ∧ r.2.mem ((c.tc : Thread Cert.AttnGrad0Ideal.nD Cert.AttnGrad0Ideal.τ).loc Cert.AttnGrad0Ideal.main_v102) = v1 c
          ∧ r.2.mem ((c.tc : Thread Cert.AttnGrad0Ideal.nD Cert.AttnGrad0Ideal.τ).loc Cert.AttnGrad0Ideal.main_v106) = v2 c
          ∧ r.2.mem ((c.tc : Thread Cert.AttnGrad0Ideal.nD Cert.AttnGrad0Ideal.τ).loc Cert.AttnGrad0Ideal.main_v110) = v3 c
          ∧ r.2.mem ((c.tc : Thread Cert.AttnGrad0Ideal.nD Cert.AttnGrad0Ideal.τ).loc Cert.AttnGrad0Ideal.main_arg0) = m' ((c.tc : Thread Cert.AttnGrad0Ideal.nD Cert.AttnGrad0Ideal.τ).loc Cert.AttnGrad0Ideal.main_arg0)
          ∧ r.2.mem ((c.tc : Thread Cert.AttnGrad0Ideal.nD Cert.AttnGrad0Ideal.τ).loc Cert.AttnGrad0Ideal.main_arg1) = m' ((c.tc : Thread Cert.AttnGrad0Ideal.nD Cert.AttnGrad0Ideal.τ).loc Cert.AttnGrad0Ideal.main_arg1)
          ∧ r.2.mem ((c.tc : Thread Cert.AttnGrad0Ideal.nD Cert.AttnGrad0Ideal.τ).loc Cert.AttnGrad0Ideal.main_arg2) = m' ((c.tc : Thread Cert.AttnGrad0Ideal.nD Cert.AttnGrad0Ideal.τ).loc Cert.AttnGrad0Ideal.main_arg2)
          ∧ r.2.mem ((c.tc : Thread Cert.AttnGrad0Ideal.nD Cert.AttnGrad0Ideal.τ).loc Cert.AttnGrad0Ideal.main_arg3) = m' ((c.tc : Thread Cert.AttnGrad0Ideal.nD Cert.AttnGrad0Ideal.τ).loc Cert.AttnGrad0Ideal.main_arg3)
          ∧ r.2.mem ((c.tc : Thread Cert.AttnGrad0Ideal.nD Cert.AttnGrad0Ideal.τ).loc Cert.AttnGrad0Ideal.main_arg4) = m' ((c.tc : Thread Cert.AttnGrad0Ideal.nD Cert.AttnGrad0Ideal.τ).loc Cert.AttnGrad0Ideal.main_arg4)
          ∧ r.2.mem ((c.tc : Thread Cert.AttnGrad0Ideal.nD Cert.AttnGrad0Ideal.τ).loc Cert.AttnGrad0Ideal.main_arg5) = m' ((c.tc : Thread Cert.AttnGrad0Ideal.nD Cert.AttnGrad0Ideal.τ).loc Cert.AttnGrad0Ideal.main_arg5)
          ∧ r.2.mem ((c.tc : Thread Cert.AttnGrad0Ideal.nD Cert.AttnGrad0Ideal.τ).loc Cert.AttnGrad0Ideal.main_arg6) = m' ((c.tc : Thread Cert.AttnGrad0Ideal.nD Cert.AttnGrad0Ideal.τ).loc Cert.AttnGrad0Ideal.main_arg6)
          ∧ r.2.mem ((c.tc : Thread Cert.AttnGrad0Ideal.nD Cert.AttnGrad0Ideal.τ).loc Cert.AttnGrad0Ideal.main_arg7) = m' ((c.tc : Thread Cert.AttnGrad0Ideal.nD Cert.AttnGrad0Ideal.τ).loc Cert.AttnGrad0Ideal.main_arg7))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v5) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v4) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v7) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)
      ∧ m' ((c.tc : Thread Cert.DownXRefIdeal.nD Cert.DownXRefIdeal.τ).loc Cert.DownXRefIdeal.main_arg2) = m ((c.tc : Thread Cert.DownXIdeal.nD Cert.DownXIdeal.τ).loc Cert.DownXIdeal.main_arg2)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
          ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v16) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1)
          ∧ r.2.mem ((c.tc : Thread Cert.DownXRefIdeal.nD Cert.DownXRefIdeal.τ).loc Cert.DownXRefIdeal.main_arg2) = m' ((c.tc : Thread Cert.DownXRefIdeal.nD Cert.DownXRefIdeal.τ).loc Cert.DownXRefIdeal.main_arg2))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v8) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v7) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v10) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v9) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1))

def preserves_ProjW_ProjWIdeal : Prop :=
  True

def algebraic_ProjWIdeal_ProjWRefIdeal [hProjWIdeal : Cert.ProjWIdeal.Facts] [hProjWRefIdeal : Cert.ProjWRefIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWRefIdeal.nD Cert.ProjWRefIdeal.τ Cert.ProjWRefIdeal.sig) → Buf (Elt Ideal) ℓ) (g' : Dev Cert.ProjWRefIdeal.nD → PrngReg), Pre_ProjWIdeal m →
    (∀ c : Dev Cert.ProjWIdeal.nD,
      m' ((c.tc : Thread Cert.ProjWRefIdeal.nD Cert.ProjWRefIdeal.τ).loc Cert.ProjWRefIdeal.main_arg0) = m ((c.tc : Thread Cert.ProjWIdeal.nD Cert.ProjWIdeal.τ).loc Cert.ProjWIdeal.main_arg0)
      ∧ m' ((c.tc : Thread Cert.ProjWRefIdeal.nD Cert.ProjWRefIdeal.τ).loc Cert.ProjWRefIdeal.main_arg1) = m ((c.tc : Thread Cert.ProjWIdeal.nD Cert.ProjWIdeal.τ).loc Cert.ProjWIdeal.main_arg1)) →
    ∃ (v0 : (c : Dev Cert.ProjWIdeal.nD) → Buf (Elt Ideal) ((c.tc : Thread Cert.ProjWIdeal.nD Cert.ProjWIdeal.τ).loc Cert.ProjWIdeal.main_v0)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v0) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ θ_run (Cert.ProjWRefIdeal.defs (F := Ideal)) (onTc (τ := Cert.ProjWRefIdeal.τ) (Cert.ProjWRefIdeal.main (F := Ideal))) ⟨m', fun _ => 0, g'⟩ (fun r => ∀ c : Dev Cert.ProjWRefIdeal.nD,
          r.2.mem ((c.tc : Thread Cert.ProjWRefIdeal.nD Cert.ProjWRefIdeal.τ).loc Cert.ProjWRefIdeal.main_v7) = v0 c
          ∧ r.2.mem ((c.tc : Thread Cert.ProjWRefIdeal.nD Cert.ProjWRefIdeal.τ).loc Cert.ProjWRefIdeal.main_arg0) = m' ((c.tc : Thread Cert.ProjWRefIdeal.nD Cert.ProjWRefIdeal.τ).loc Cert.ProjWRefIdeal.main_arg0)
          ∧ r.2.mem ((c.tc : Thread Cert.ProjWRefIdeal.nD Cert.ProjWRefIdeal.τ).loc Cert.ProjWRefIdeal.main_arg1) = m' ((c.tc : Thread Cert.ProjWRefIdeal.nD Cert.ProjWRefIdeal.τ).loc Cert.ProjWRefIdeal.main_arg1))

def preserves_ProjX_ProjXIdeal : Prop :=
  True

def algebraic_ProjXIdeal_ProjXRefIdeal [hProjXIdeal : Cert.ProjXIdeal.Facts] [hProjXRefIdeal : Cert.ProjXRefIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXRefIdeal.nD Cert.ProjXRefIdeal.τ Cert.ProjXRefIdeal.sig) → Buf (Elt Ideal) ℓ) (g' : Dev Cert.ProjXRefIdeal.nD → PrngReg), Pre_ProjXIdeal m →
    (∀ c : Dev Cert.ProjXIdeal.nD,
      m' ((c.tc : Thread Cert.ProjXRefIdeal.nD Cert.ProjXRefIdeal.τ).loc Cert.ProjXRefIdeal.main_arg0) = m ((c.tc : Thread Cert.ProjXIdeal.nD Cert.ProjXIdeal.τ).loc Cert.ProjXIdeal.main_arg0)
      ∧ m' ((c.tc : Thread Cert.ProjXRefIdeal.nD Cert.ProjXRefIdeal.τ).loc Cert.ProjXRefIdeal.main_arg1) = m ((c.tc : Thread Cert.ProjXIdeal.nD Cert.ProjXIdeal.τ).loc Cert.ProjXIdeal.main_arg1)) →
    ∃ (v0 : (c : Dev Cert.ProjXIdeal.nD) → Buf (Elt Ideal) ((c.tc : Thread Cert.ProjXIdeal.nD Cert.ProjXIdeal.τ).loc Cert.ProjXIdeal.main_v0)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v0) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ θ_run (Cert.ProjXRefIdeal.defs (F := Ideal)) (onTc (τ := Cert.ProjXRefIdeal.τ) (Cert.ProjXRefIdeal.main (F := Ideal))) ⟨m', fun _ => 0, g'⟩ (fun r => ∀ c : Dev Cert.ProjXRefIdeal.nD,
          r.2.mem ((c.tc : Thread Cert.ProjXRefIdeal.nD Cert.ProjXRefIdeal.τ).loc Cert.ProjXRefIdeal.main_v6) = v0 c
          ∧ r.2.mem ((c.tc : Thread Cert.ProjXRefIdeal.nD Cert.ProjXRefIdeal.τ).loc Cert.ProjXRefIdeal.main_arg0) = m' ((c.tc : Thread Cert.ProjXRefIdeal.nD Cert.ProjXRefIdeal.τ).loc Cert.ProjXRefIdeal.main_arg0)
          ∧ r.2.mem ((c.tc : Thread Cert.ProjXRefIdeal.nD Cert.ProjXRefIdeal.τ).loc Cert.ProjXRefIdeal.main_arg1) = m' ((c.tc : Thread Cert.ProjXRefIdeal.nD Cert.ProjXRefIdeal.τ).loc Cert.ProjXRefIdeal.main_arg1))

def preserves_KvW_KvWIdeal : Prop :=
  True

def algebraic_KvWIdeal_KvWRefIdeal [hKvWIdeal : Cert.KvWIdeal.Facts] [hKvWRefIdeal : Cert.KvWRefIdeal.Facts] : Prop :=
  ∀ (m : (ℓ : Loc Cert.KvWIdeal.nD Cert.KvWIdeal.τ Cert.KvWIdeal.sig) → Buf (Elt Ideal) ℓ) (g : Dev Cert.KvWIdeal.nD → PrngReg)
    (m' : (ℓ : Loc Cert.KvWRefIdeal.nD Cert.KvWRefIdeal.τ Cert.KvWRefIdeal.sig) → Buf (Elt Ideal) ℓ) (g' : Dev Cert.KvWRefIdeal.nD → PrngReg), Pre_KvWIdeal m →
    (∀ c : Dev Cert.KvWIdeal.nD,
      m' ((c.tc : Thread Cert.KvWRefIdeal.nD Cert.KvWRefIdeal.τ).loc Cert.KvWRefIdeal.main_arg0) = m ((c.tc : Thread Cert.KvWIdeal.nD Cert.KvWIdeal.τ).loc Cert.KvWIdeal.main_arg0)
      ∧ m' ((c.tc : Thread Cert.KvWRefIdeal.nD Cert.KvWRefIdeal.τ).loc Cert.KvWRefIdeal.main_arg1) = m ((c.tc : Thread Cert.KvWIdeal.nD Cert.KvWIdeal.τ).loc Cert.KvWIdeal.main_arg1)) →
    ∃ (v0 : (c : Dev Cert.KvWIdeal.nD) → Buf (Elt Ideal) ((c.tc : Thread Cert.KvWIdeal.nD Cert.KvWIdeal.τ).loc Cert.KvWIdeal.main_v0)),
      θ_run (Cert.KvWIdeal.defs (F := Ideal)) (onTc (τ := Cert.KvWIdeal.τ) (Cert.KvWIdeal.main (F := Ideal))) ⟨m, fun _ => 0, g⟩ (fun r => ∀ c : Dev Cert.KvWIdeal.nD,
          r.2.mem ((c.tc : Thread Cert.KvWIdeal.nD Cert.KvWIdeal.τ).loc Cert.KvWIdeal.main_v0) = v0 c
          ∧ r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
          ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ θ_run (Cert.KvWRefIdeal.defs (F := Ideal)) (onTc (τ := Cert.KvWRefIdeal.τ) (Cert.KvWRefIdeal.main (F := Ideal))) ⟨m', fun _ => 0, g'⟩ (fun r => ∀ c : Dev Cert.KvWRefIdeal.nD,
          r.2.mem ((c.tc : Thread Cert.KvWRefIdeal.nD Cert.KvWRefIdeal.τ).loc Cert.KvWRefIdeal.main_v8) = v0 c
          ∧ r.2.mem ((c.tc : Thread Cert.KvWRefIdeal.nD Cert.KvWRefIdeal.τ).loc Cert.KvWRefIdeal.main_arg0) = m' ((c.tc : Thread Cert.KvWRefIdeal.nD Cert.KvWRefIdeal.τ).loc Cert.KvWRefIdeal.main_arg0)
          ∧ r.2.mem ((c.tc : Thread Cert.KvWRefIdeal.nD Cert.KvWRefIdeal.τ).loc Cert.KvWRefIdeal.main_arg1) = m' ((c.tc : Thread Cert.KvWRefIdeal.nD Cert.KvWRefIdeal.τ).loc Cert.KvWRefIdeal.main_arg1))

def preserves_KvX_KvXIdeal : Prop :=
  True

def algebraic_KvXIdeal_KvXRefIdeal [hKvXIdeal : Cert.KvXIdeal.Facts] [hKvXRefIdeal : Cert.KvXRefIdeal.Facts] : Prop :=
  ∀ (m : (ℓ : Loc Cert.KvXIdeal.nD Cert.KvXIdeal.τ Cert.KvXIdeal.sig) → Buf (Elt Ideal) ℓ) (g : Dev Cert.KvXIdeal.nD → PrngReg)
    (m' : (ℓ : Loc Cert.KvXRefIdeal.nD Cert.KvXRefIdeal.τ Cert.KvXRefIdeal.sig) → Buf (Elt Ideal) ℓ) (g' : Dev Cert.KvXRefIdeal.nD → PrngReg), Pre_KvXIdeal m →
    (∀ c : Dev Cert.KvXIdeal.nD,
      m' ((c.tc : Thread Cert.KvXRefIdeal.nD Cert.KvXRefIdeal.τ).loc Cert.KvXRefIdeal.main_arg0) = m ((c.tc : Thread Cert.KvXIdeal.nD Cert.KvXIdeal.τ).loc Cert.KvXIdeal.main_arg0)
      ∧ m' ((c.tc : Thread Cert.KvXRefIdeal.nD Cert.KvXRefIdeal.τ).loc Cert.KvXRefIdeal.main_arg1) = m ((c.tc : Thread Cert.KvXIdeal.nD Cert.KvXIdeal.τ).loc Cert.KvXIdeal.main_arg1)
      ∧ m' ((c.tc : Thread Cert.KvXRefIdeal.nD Cert.KvXRefIdeal.τ).loc Cert.KvXRefIdeal.main_arg2) = m ((c.tc : Thread Cert.KvXIdeal.nD Cert.KvXIdeal.τ).loc Cert.KvXIdeal.main_arg2)) →
    ∃ (v0 : (c : Dev Cert.KvXIdeal.nD) → Buf (Elt Ideal) ((c.tc : Thread Cert.KvXIdeal.nD Cert.KvXIdeal.τ).loc Cert.KvXIdeal.main_v0)),
      θ_run (Cert.KvXIdeal.defs (F := Ideal)) (onTc (τ := Cert.KvXIdeal.τ) (Cert.KvXIdeal.main (F := Ideal))) ⟨m, fun _ => 0, g⟩ (fun r => ∀ c : Dev Cert.KvXIdeal.nD,
          r.2.mem ((c.tc : Thread Cert.KvXIdeal.nD Cert.KvXIdeal.τ).loc Cert.KvXIdeal.main_v0) = v0 c
          ∧ r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
          ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1)
          ∧ r.2.mem ((c.tc : Thread Cert.KvXIdeal.nD Cert.KvXIdeal.τ).loc Cert.KvXIdeal.main_arg2) = m ((c.tc : Thread Cert.KvXIdeal.nD Cert.KvXIdeal.τ).loc Cert.KvXIdeal.main_arg2))
      ∧ θ_run (Cert.KvXRefIdeal.defs (F := Ideal)) (onTc (τ := Cert.KvXRefIdeal.τ) (Cert.KvXRefIdeal.main (F := Ideal))) ⟨m', fun _ => 0, g'⟩ (fun r => ∀ c : Dev Cert.KvXRefIdeal.nD,
          r.2.mem ((c.tc : Thread Cert.KvXRefIdeal.nD Cert.KvXRefIdeal.τ).loc Cert.KvXRefIdeal.main_v20) = v0 c
          ∧ r.2.mem ((c.tc : Thread Cert.KvXRefIdeal.nD Cert.KvXRefIdeal.τ).loc Cert.KvXRefIdeal.main_arg0) = m' ((c.tc : Thread Cert.KvXRefIdeal.nD Cert.KvXRefIdeal.τ).loc Cert.KvXRefIdeal.main_arg0)
          ∧ r.2.mem ((c.tc : Thread Cert.KvXRefIdeal.nD Cert.KvXRefIdeal.τ).loc Cert.KvXRefIdeal.main_arg1) = m' ((c.tc : Thread Cert.KvXRefIdeal.nD Cert.KvXRefIdeal.τ).loc Cert.KvXRefIdeal.main_arg1)
          ∧ r.2.mem ((c.tc : Thread Cert.KvXRefIdeal.nD Cert.KvXRefIdeal.τ).loc Cert.KvXRefIdeal.main_arg2) = m' ((c.tc : Thread Cert.KvXRefIdeal.nD Cert.KvXRefIdeal.τ).loc Cert.KvXRefIdeal.main_arg2))

def preserves_PleW_PleWIdeal : Prop :=
  True

def algebraic_PleWIdeal_PleWRefIdeal [hPleWIdeal : Cert.PleWIdeal.Facts] [hPleWRefIdeal : Cert.PleWRefIdeal.Facts] : Prop :=
  ∀ (m : (ℓ : Loc Cert.PleWIdeal.nD Cert.PleWIdeal.τ Cert.PleWIdeal.sig) → Buf (Elt Ideal) ℓ) (g : Dev Cert.PleWIdeal.nD → PrngReg)
    (m' : (ℓ : Loc Cert.PleWRefIdeal.nD Cert.PleWRefIdeal.τ Cert.PleWRefIdeal.sig) → Buf (Elt Ideal) ℓ) (g' : Dev Cert.PleWRefIdeal.nD → PrngReg), Pre_PleWIdeal m →
    (∀ c : Dev Cert.PleWIdeal.nD,
      m' ((c.tc : Thread Cert.PleWRefIdeal.nD Cert.PleWRefIdeal.τ).loc Cert.PleWRefIdeal.main_arg0) = m ((c.tc : Thread Cert.PleWIdeal.nD Cert.PleWIdeal.τ).loc Cert.PleWIdeal.main_arg0)
      ∧ m' ((c.tc : Thread Cert.PleWRefIdeal.nD Cert.PleWRefIdeal.τ).loc Cert.PleWRefIdeal.main_arg1) = m ((c.tc : Thread Cert.PleWIdeal.nD Cert.PleWIdeal.τ).loc Cert.PleWIdeal.main_arg1)) →
    ∃ (v0 : (c : Dev Cert.PleWIdeal.nD) → Buf (Elt Ideal) ((c.tc : Thread Cert.PleWIdeal.nD Cert.PleWIdeal.τ).loc Cert.PleWIdeal.main_v0)),
      θ_run (Cert.PleWIdeal.defs (F := Ideal)) (onTc (τ := Cert.PleWIdeal.τ) (Cert.PleWIdeal.main (F := Ideal))) ⟨m, fun _ => 0, g⟩ (fun r => ∀ c : Dev Cert.PleWIdeal.nD,
          r.2.mem ((c.tc : Thread Cert.PleWIdeal.nD Cert.PleWIdeal.τ).loc Cert.PleWIdeal.main_v0) = v0 c
          ∧ r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
          ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1))
      ∧ θ_run (Cert.PleWRefIdeal.defs (F := Ideal)) (onTc (τ := Cert.PleWRefIdeal.τ) (Cert.PleWRefIdeal.main (F := Ideal))) ⟨m', fun _ => 0, g'⟩ (fun r => ∀ c : Dev Cert.PleWRefIdeal.nD,
          r.2.mem ((c.tc : Thread Cert.PleWRefIdeal.nD Cert.PleWRefIdeal.τ).loc Cert.PleWRefIdeal.main_v8) = v0 c
          ∧ r.2.mem ((c.tc : Thread Cert.PleWRefIdeal.nD Cert.PleWRefIdeal.τ).loc Cert.PleWRefIdeal.main_arg0) = m' ((c.tc : Thread Cert.PleWRefIdeal.nD Cert.PleWRefIdeal.τ).loc Cert.PleWRefIdeal.main_arg0)
          ∧ r.2.mem ((c.tc : Thread Cert.PleWRefIdeal.nD Cert.PleWRefIdeal.τ).loc Cert.PleWRefIdeal.main_arg1) = m' ((c.tc : Thread Cert.PleWRefIdeal.nD Cert.PleWRefIdeal.τ).loc Cert.PleWRefIdeal.main_arg1))

def preserves_StepRows_StepRowsIdeal : Prop :=
  True

def algebraic_StepRowsIdeal_StepRowsRefIdeal [hStepRowsIdeal : Cert.StepRowsIdeal.Facts] [hStepRowsRefIdeal : Cert.StepRowsRefIdeal.Facts] : Prop :=
  ∀ (m : (ℓ : Loc Cert.StepRowsIdeal.nD Cert.StepRowsIdeal.τ Cert.StepRowsIdeal.sig) → Buf (Elt Ideal) ℓ) (g : Dev Cert.StepRowsIdeal.nD → PrngReg)
    (m' : (ℓ : Loc Cert.StepRowsRefIdeal.nD Cert.StepRowsRefIdeal.τ Cert.StepRowsRefIdeal.sig) → Buf (Elt Ideal) ℓ) (g' : Dev Cert.StepRowsRefIdeal.nD → PrngReg), Pre_StepRowsIdeal m →
    (∀ c : Dev Cert.StepRowsIdeal.nD,
      m' ((c.tc : Thread Cert.StepRowsRefIdeal.nD Cert.StepRowsRefIdeal.τ).loc Cert.StepRowsRefIdeal.main_arg0) = m ((c.tc : Thread Cert.StepRowsIdeal.nD Cert.StepRowsIdeal.τ).loc Cert.StepRowsIdeal.main_arg0)
      ∧ m' ((c.tc : Thread Cert.StepRowsRefIdeal.nD Cert.StepRowsRefIdeal.τ).loc Cert.StepRowsRefIdeal.main_arg1) = m ((c.tc : Thread Cert.StepRowsIdeal.nD Cert.StepRowsIdeal.τ).loc Cert.StepRowsIdeal.main_arg1)
      ∧ m' ((c.tc : Thread Cert.StepRowsRefIdeal.nD Cert.StepRowsRefIdeal.τ).loc Cert.StepRowsRefIdeal.main_arg2) = m ((c.tc : Thread Cert.StepRowsIdeal.nD Cert.StepRowsIdeal.τ).loc Cert.StepRowsIdeal.main_arg2)
      ∧ m' ((c.tc : Thread Cert.StepRowsRefIdeal.nD Cert.StepRowsRefIdeal.τ).loc Cert.StepRowsRefIdeal.main_arg3) = m ((c.tc : Thread Cert.StepRowsIdeal.nD Cert.StepRowsIdeal.τ).loc Cert.StepRowsIdeal.main_arg3)) →
    ∃ (v0 : (c : Dev Cert.StepRowsIdeal.nD) → Buf (Elt Ideal) ((c.tc : Thread Cert.StepRowsIdeal.nD Cert.StepRowsIdeal.τ).loc Cert.StepRowsIdeal.main_v0_0)) (v1 : (c : Dev Cert.StepRowsIdeal.nD) → Buf (Elt Ideal) ((c.tc : Thread Cert.StepRowsIdeal.nD Cert.StepRowsIdeal.τ).loc Cert.StepRowsIdeal.main_v0_1)) (v2 : (c : Dev Cert.StepRowsIdeal.nD) → Buf (Elt Ideal) ((c.tc : Thread Cert.StepRowsIdeal.nD Cert.StepRowsIdeal.τ).loc Cert.StepRowsIdeal.main_v0_2)) (v3 : (c : Dev Cert.StepRowsIdeal.nD) → Buf (Elt Ideal) ((c.tc : Thread Cert.StepRowsIdeal.nD Cert.StepRowsIdeal.τ).loc Cert.StepRowsIdeal.main_v0_3)),
      θ_run (Cert.StepRowsIdeal.defs (F := Ideal)) (onTc (τ := Cert.StepRowsIdeal.τ) (Cert.StepRowsIdeal.main (F := Ideal))) ⟨m, fun _ => 0, g⟩ (fun r => ∀ c : Dev Cert.StepRowsIdeal.nD,
          r.2.mem ((c.tc : Thread Cert.StepRowsIdeal.nD Cert.StepRowsIdeal.τ).loc Cert.StepRowsIdeal.main_v0_0) = v0 c
          ∧ r.2.mem ((c.tc : Thread Cert.StepRowsIdeal.nD Cert.StepRowsIdeal.τ).loc Cert.StepRowsIdeal.main_v0_1) = v1 c
          ∧ r.2.mem ((c.tc : Thread Cert.StepRowsIdeal.nD Cert.StepRowsIdeal.τ).loc Cert.StepRowsIdeal.main_v0_2) = v2 c
          ∧ r.2.mem ((c.tc : Thread Cert.StepRowsIdeal.nD Cert.StepRowsIdeal.τ).loc Cert.StepRowsIdeal.main_v0_3) = v3 c
          ∧ r.2.mem ((c.tc : Thread Cert.StepRowsIdeal.nD Cert.StepRowsIdeal.τ).loc Cert.StepRowsIdeal.main_arg0) = m ((c.tc : Thread Cert.StepRowsIdeal.nD Cert.StepRowsIdeal.τ).loc Cert.StepRowsIdeal.main_arg0)
          ∧ r.2.mem ((c.tc : Thread Cert.StepRowsIdeal.nD Cert.StepRowsIdeal.τ).loc Cert.StepRowsIdeal.main_arg1) = m ((c.tc : Thread Cert.StepRowsIdeal.nD Cert.StepRowsIdeal.τ).loc Cert.StepRowsIdeal.main_arg1)
          ∧ r.2.mem ((c.tc : Thread Cert.StepRowsIdeal.nD Cert.StepRowsIdeal.τ).loc Cert.StepRowsIdeal.main_arg2) = m ((c.tc : Thread Cert.StepRowsIdeal.nD Cert.StepRowsIdeal.τ).loc Cert.StepRowsIdeal.main_arg2)
          ∧ r.2.mem ((c.tc : Thread Cert.StepRowsIdeal.nD Cert.StepRowsIdeal.τ).loc Cert.StepRowsIdeal.main_arg3) = m ((c.tc : Thread Cert.StepRowsIdeal.nD Cert.StepRowsIdeal.τ).loc Cert.StepRowsIdeal.main_arg3))
      ∧ θ_run (Cert.StepRowsRefIdeal.defs (F := Ideal)) (onTc (τ := Cert.StepRowsRefIdeal.τ) (Cert.StepRowsRefIdeal.main (F := Ideal))) ⟨m', fun _ => 0, g'⟩ (fun r => ∀ c : Dev Cert.StepRowsRefIdeal.nD,
          r.2.mem ((c.tc : Thread Cert.StepRowsRefIdeal.nD Cert.StepRowsRefIdeal.τ).loc Cert.StepRowsRefIdeal.main_v2) = v0 c
          ∧ r.2.mem ((c.tc : Thread Cert.StepRowsRefIdeal.nD Cert.StepRowsRefIdeal.τ).loc Cert.StepRowsRefIdeal.main_v26) = v1 c
          ∧ r.2.mem ((c.tc : Thread Cert.StepRowsRefIdeal.nD Cert.StepRowsRefIdeal.τ).loc Cert.StepRowsRefIdeal.main_v7) = v2 c
          ∧ r.2.mem ((c.tc : Thread Cert.StepRowsRefIdeal.nD Cert.StepRowsRefIdeal.τ).loc Cert.StepRowsRefIdeal.main_v13) = v3 c
          ∧ r.2.mem ((c.tc : Thread Cert.StepRowsRefIdeal.nD Cert.StepRowsRefIdeal.τ).loc Cert.StepRowsRefIdeal.main_arg0) = m' ((c.tc : Thread Cert.StepRowsRefIdeal.nD Cert.StepRowsRefIdeal.τ).loc Cert.StepRowsRefIdeal.main_arg0)
          ∧ r.2.mem ((c.tc : Thread Cert.StepRowsRefIdeal.nD Cert.StepRowsRefIdeal.τ).loc Cert.StepRowsRefIdeal.main_arg1) = m' ((c.tc : Thread Cert.StepRowsRefIdeal.nD Cert.StepRowsRefIdeal.τ).loc Cert.StepRowsRefIdeal.main_arg1)
          ∧ r.2.mem ((c.tc : Thread Cert.StepRowsRefIdeal.nD Cert.StepRowsRefIdeal.τ).loc Cert.StepRowsRefIdeal.main_arg2) = m' ((c.tc : Thread Cert.StepRowsRefIdeal.nD Cert.StepRowsRefIdeal.τ).loc Cert.StepRowsRefIdeal.main_arg2)
          ∧ r.2.mem ((c.tc : Thread Cert.StepRowsRefIdeal.nD Cert.StepRowsRefIdeal.τ).loc Cert.StepRowsRefIdeal.main_arg3) = m' ((c.tc : Thread Cert.StepRowsRefIdeal.nD Cert.StepRowsRefIdeal.τ).loc Cert.StepRowsRefIdeal.main_arg3))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v2) = v0 c
          ∧ r.2.mem ((c.tc : Thread Cert.StepInRefIdeal.nD Cert.StepInRefIdeal.τ).loc Cert.StepInRefIdeal.main_v26) = v1 c
          ∧ r.2.mem ((c.tc : Thread Cert.StepInRefIdeal.nD Cert.StepInRefIdeal.τ).loc Cert.StepInRefIdeal.main_v7) = v2 c
          ∧ r.2.mem ((c.tc : Thread Cert.StepInRefIdeal.nD Cert.StepInRefIdeal.τ).loc Cert.StepInRefIdeal.main_v13) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3))

def preserves_StepKvf_StepKvfIdeal : Prop :=
  True

def algebraic_StepKvfIdeal_StepKvfRefIdeal [hStepKvfIdeal : Cert.StepKvfIdeal.Facts] [hStepKvfRefIdeal : Cert.StepKvfRefIdeal.Facts] : Prop :=
  ∀ (m : (ℓ : Loc Cert.StepKvfIdeal.nD Cert.StepKvfIdeal.τ Cert.StepKvfIdeal.sig) → Buf (Elt Ideal) ℓ) (g : Dev Cert.StepKvfIdeal.nD → PrngReg)
    (m' : (ℓ : Loc Cert.StepKvfRefIdeal.nD Cert.StepKvfRefIdeal.τ Cert.StepKvfRefIdeal.sig) → Buf (Elt Ideal) ℓ) (g' : Dev Cert.StepKvfRefIdeal.nD → PrngReg), Pre_StepKvfIdeal m →
    (∀ c : Dev Cert.StepKvfIdeal.nD,
      m' ((c.tc : Thread Cert.StepKvfRefIdeal.nD Cert.StepKvfRefIdeal.τ).loc Cert.StepKvfRefIdeal.main_arg0) = m ((c.tc : Thread Cert.StepKvfIdeal.nD Cert.StepKvfIdeal.τ).loc Cert.StepKvfIdeal.main_arg0)
      ∧ m' ((c.tc : Thread Cert.StepKvfRefIdeal.nD Cert.StepKvfRefIdeal.τ).loc Cert.StepKvfRefIdeal.main_arg1) = m ((c.tc : Thread Cert.StepKvfIdeal.nD Cert.StepKvfIdeal.τ).loc Cert.StepKvfIdeal.main_arg1)
      ∧ m' ((c.tc : Thread Cert.StepKvfRefIdeal.nD Cert.StepKvfRefIdeal.τ).loc Cert.StepKvfRefIdeal.main_arg2) = m ((c.tc : Thread Cert.StepKvfIdeal.nD Cert.StepKvfIdeal.τ).loc Cert.StepKvfIdeal.main_arg2)
      ∧ m' ((c.tc : Thread Cert.StepKvfRefIdeal.nD Cert.StepKvfRefIdeal.τ).loc Cert.StepKvfRefIdeal.main_arg3) = m ((c.tc : Thread Cert.StepKvfIdeal.nD Cert.StepKvfIdeal.τ).loc Cert.StepKvfIdeal.main_arg3)) →
    ∃ (v0 : (c : Dev Cert.StepKvfIdeal.nD) → Buf (Elt Ideal) ((c.tc : Thread Cert.StepKvfIdeal.nD Cert.StepKvfIdeal.τ).loc Cert.StepKvfIdeal.main_v0_0)) (v1 : (c : Dev Cert.StepKvfIdeal.nD) → Buf (Elt Ideal) ((c.tc : Thread Cert.StepKvfIdeal.nD Cert.StepKvfIdeal.τ).loc Cert.StepKvfIdeal.main_v0_1)) (v2 : (c : Dev Cert.StepKvfIdeal.nD) → Buf (Elt Ideal) ((c.tc : Thread Cert.StepKvfIdeal.nD Cert.StepKvfIdeal.τ).loc Cert.StepKvfIdeal.main_v0_2)) (v3 : (c : Dev Cert.StepKvfIdeal.nD) → Buf (Elt Ideal) ((c.tc : Thread Cert.StepKvfIdeal.nD Cert.StepKvfIdeal.τ).loc Cert.StepKvfIdeal.main_v0_3)),
      θ_run (Cert.StepKvfIdeal.defs (F := Ideal)) (onTc (τ := Cert.StepKvfIdeal.τ) (Cert.StepKvfIdeal.main (F := Ideal))) ⟨m, fun _ => 0, g⟩ (fun r => ∀ c : Dev Cert.StepKvfIdeal.nD,
          r.2.mem ((c.tc : Thread Cert.StepKvfIdeal.nD Cert.StepKvfIdeal.τ).loc Cert.StepKvfIdeal.main_v0_0) = v0 c
          ∧ r.2.mem ((c.tc : Thread Cert.StepKvfIdeal.nD Cert.StepKvfIdeal.τ).loc Cert.StepKvfIdeal.main_v0_1) = v1 c
          ∧ r.2.mem ((c.tc : Thread Cert.StepKvfIdeal.nD Cert.StepKvfIdeal.τ).loc Cert.StepKvfIdeal.main_v0_2) = v2 c
          ∧ r.2.mem ((c.tc : Thread Cert.StepKvfIdeal.nD Cert.StepKvfIdeal.τ).loc Cert.StepKvfIdeal.main_v0_3) = v3 c
          ∧ r.2.mem ((c.tc : Thread Cert.StepKvfIdeal.nD Cert.StepKvfIdeal.τ).loc Cert.StepKvfIdeal.main_arg0) = m ((c.tc : Thread Cert.StepKvfIdeal.nD Cert.StepKvfIdeal.τ).loc Cert.StepKvfIdeal.main_arg0)
          ∧ r.2.mem ((c.tc : Thread Cert.StepKvfIdeal.nD Cert.StepKvfIdeal.τ).loc Cert.StepKvfIdeal.main_arg1) = m ((c.tc : Thread Cert.StepKvfIdeal.nD Cert.StepKvfIdeal.τ).loc Cert.StepKvfIdeal.main_arg1)
          ∧ r.2.mem ((c.tc : Thread Cert.StepKvfIdeal.nD Cert.StepKvfIdeal.τ).loc Cert.StepKvfIdeal.main_arg2) = m ((c.tc : Thread Cert.StepKvfIdeal.nD Cert.StepKvfIdeal.τ).loc Cert.StepKvfIdeal.main_arg2)
          ∧ r.2.mem ((c.tc : Thread Cert.StepKvfIdeal.nD Cert.StepKvfIdeal.τ).loc Cert.StepKvfIdeal.main_arg3) = m ((c.tc : Thread Cert.StepKvfIdeal.nD Cert.StepKvfIdeal.τ).loc Cert.StepKvfIdeal.main_arg3))
      ∧ θ_run (Cert.StepKvfRefIdeal.defs (F := Ideal)) (onTc (τ := Cert.StepKvfRefIdeal.τ) (Cert.StepKvfRefIdeal.main (F := Ideal))) ⟨m', fun _ => 0, g'⟩ (fun r => ∀ c : Dev Cert.StepKvfRefIdeal.nD,
          r.2.mem ((c.tc : Thread Cert.StepKvfRefIdeal.nD Cert.StepKvfRefIdeal.τ).loc Cert.StepKvfRefIdeal.main_v2) = v0 c
          ∧ r.2.mem ((c.tc : Thread Cert.StepKvfRefIdeal.nD Cert.StepKvfRefIdeal.τ).loc Cert.StepKvfRefIdeal.main_v26) = v1 c
          ∧ r.2.mem ((c.tc : Thread Cert.StepKvfRefIdeal.nD Cert.StepKvfRefIdeal.τ).loc Cert.StepKvfRefIdeal.main_v7) = v2 c
          ∧ r.2.mem ((c.tc : Thread Cert.StepKvfRefIdeal.nD Cert.StepKvfRefIdeal.τ).loc Cert.StepKvfRefIdeal.main_v13) = v3 c
          ∧ r.2.mem ((c.tc : Thread Cert.StepKvfRefIdeal.nD Cert.StepKvfRefIdeal.τ).loc Cert.StepKvfRefIdeal.main_arg0) = m' ((c.tc : Thread Cert.StepKvfRefIdeal.nD Cert.StepKvfRefIdeal.τ).loc Cert.StepKvfRefIdeal.main_arg0)
          ∧ r.2.mem ((c.tc : Thread Cert.StepKvfRefIdeal.nD Cert.StepKvfRefIdeal.τ).loc Cert.StepKvfRefIdeal.main_arg1) = m' ((c.tc : Thread Cert.StepKvfRefIdeal.nD Cert.StepKvfRefIdeal.τ).loc Cert.StepKvfRefIdeal.main_arg1)
          ∧ r.2.mem ((c.tc : Thread Cert.StepKvfRefIdeal.nD Cert.StepKvfRefIdeal.τ).loc Cert.StepKvfRefIdeal.main_arg2) = m' ((c.tc : Thread Cert.StepKvfRefIdeal.nD Cert.StepKvfRefIdeal.τ).loc Cert.StepKvfRefIdeal.main_arg2)
          ∧ r.2.mem ((c.tc : Thread Cert.StepKvfRefIdeal.nD Cert.StepKvfRefIdeal.τ).loc Cert.StepKvfRefIdeal.main_arg3) = m' ((c.tc : Thread Cert.StepKvfRefIdeal.nD Cert.StepKvfRefIdeal.τ).loc Cert.StepKvfRefIdeal.main_arg3))

def preserves_StepLb_StepLbIdeal : Prop :=
  True

def algebraic_StepLbIdeal_StepLbRefIdeal [hStepLbIdeal : Cert.StepLbIdeal.Facts] [hStepLbRefIdeal : Cert.StepLbRefIdeal.Facts] : Prop :=
  ∀ (m : (ℓ : Loc Cert.StepLbIdeal.nD Cert.StepLbIdeal.τ Cert.StepLbIdeal.sig) → Buf (Elt Ideal) ℓ) (g : Dev Cert.StepLbIdeal.nD → PrngReg)
    (m' : (ℓ : Loc Cert.StepLbRefIdeal.nD Cert.StepLbRefIdeal.τ Cert.StepLbRefIdeal.sig) → Buf (Elt Ideal) ℓ) (g' : Dev Cert.StepLbRefIdeal.nD → PrngReg), Pre_StepLbIdeal m →
    (∀ c : Dev Cert.StepLbIdeal.nD,
      m' ((c.tc : Thread Cert.StepLbRefIdeal.nD Cert.StepLbRefIdeal.τ).loc Cert.StepLbRefIdeal.main_arg0) = m ((c.tc : Thread Cert.StepLbIdeal.nD Cert.StepLbIdeal.τ).loc Cert.StepLbIdeal.main_arg0)
      ∧ m' ((c.tc : Thread Cert.StepLbRefIdeal.nD Cert.StepLbRefIdeal.τ).loc Cert.StepLbRefIdeal.main_arg1) = m ((c.tc : Thread Cert.StepLbIdeal.nD Cert.StepLbIdeal.τ).loc Cert.StepLbIdeal.main_arg1)
      ∧ m' ((c.tc : Thread Cert.StepLbRefIdeal.nD Cert.StepLbRefIdeal.τ).loc Cert.StepLbRefIdeal.main_arg2) = m ((c.tc : Thread Cert.StepLbIdeal.nD Cert.StepLbIdeal.τ).loc Cert.StepLbIdeal.main_arg2)
      ∧ m' ((c.tc : Thread Cert.StepLbRefIdeal.nD Cert.StepLbRefIdeal.τ).loc Cert.StepLbRefIdeal.main_arg3) = m ((c.tc : Thread Cert.StepLbIdeal.nD Cert.StepLbIdeal.τ).loc Cert.StepLbIdeal.main_arg3)) →
    ∃ (v0 : (c : Dev Cert.StepLbIdeal.nD) → Buf (Elt Ideal) ((c.tc : Thread Cert.StepLbIdeal.nD Cert.StepLbIdeal.τ).loc Cert.StepLbIdeal.main_v0_0)) (v1 : (c : Dev Cert.StepLbIdeal.nD) → Buf (Elt Ideal) ((c.tc : Thread Cert.StepLbIdeal.nD Cert.StepLbIdeal.τ).loc Cert.StepLbIdeal.main_v0_1)) (v2 : (c : Dev Cert.StepLbIdeal.nD) → Buf (Elt Ideal) ((c.tc : Thread Cert.StepLbIdeal.nD Cert.StepLbIdeal.τ).loc Cert.StepLbIdeal.main_v0_2)) (v3 : (c : Dev Cert.StepLbIdeal.nD) → Buf (Elt Ideal) ((c.tc : Thread Cert.StepLbIdeal.nD Cert.StepLbIdeal.τ).loc Cert.StepLbIdeal.main_v0_3)),
      θ_run (Cert.StepLbIdeal.defs (F := Ideal)) (onTc (τ := Cert.StepLbIdeal.τ) (Cert.StepLbIdeal.main (F := Ideal))) ⟨m, fun _ => 0, g⟩ (fun r => ∀ c : Dev Cert.StepLbIdeal.nD,
          r.2.mem ((c.tc : Thread Cert.StepLbIdeal.nD Cert.StepLbIdeal.τ).loc Cert.StepLbIdeal.main_v0_0) = v0 c
          ∧ r.2.mem ((c.tc : Thread Cert.StepLbIdeal.nD Cert.StepLbIdeal.τ).loc Cert.StepLbIdeal.main_v0_1) = v1 c
          ∧ r.2.mem ((c.tc : Thread Cert.StepLbIdeal.nD Cert.StepLbIdeal.τ).loc Cert.StepLbIdeal.main_v0_2) = v2 c
          ∧ r.2.mem ((c.tc : Thread Cert.StepLbIdeal.nD Cert.StepLbIdeal.τ).loc Cert.StepLbIdeal.main_v0_3) = v3 c
          ∧ r.2.mem ((c.tc : Thread Cert.StepLbIdeal.nD Cert.StepLbIdeal.τ).loc Cert.StepLbIdeal.main_arg0) = m ((c.tc : Thread Cert.StepLbIdeal.nD Cert.StepLbIdeal.τ).loc Cert.StepLbIdeal.main_arg0)
          ∧ r.2.mem ((c.tc : Thread Cert.StepLbIdeal.nD Cert.StepLbIdeal.τ).loc Cert.StepLbIdeal.main_arg1) = m ((c.tc : Thread Cert.StepLbIdeal.nD Cert.StepLbIdeal.τ).loc Cert.StepLbIdeal.main_arg1)
          ∧ r.2.mem ((c.tc : Thread Cert.StepLbIdeal.nD Cert.StepLbIdeal.τ).loc Cert.StepLbIdeal.main_arg2) = m ((c.tc : Thread Cert.StepLbIdeal.nD Cert.StepLbIdeal.τ).loc Cert.StepLbIdeal.main_arg2)
          ∧ r.2.mem ((c.tc : Thread Cert.StepLbIdeal.nD Cert.StepLbIdeal.τ).loc Cert.StepLbIdeal.main_arg3) = m ((c.tc : Thread Cert.StepLbIdeal.nD Cert.StepLbIdeal.τ).loc Cert.StepLbIdeal.main_arg3))
      ∧ θ_run (Cert.StepLbRefIdeal.defs (F := Ideal)) (onTc (τ := Cert.StepLbRefIdeal.τ) (Cert.StepLbRefIdeal.main (F := Ideal))) ⟨m', fun _ => 0, g'⟩ (fun r => ∀ c : Dev Cert.StepLbRefIdeal.nD,
          r.2.mem ((c.tc : Thread Cert.StepLbRefIdeal.nD Cert.StepLbRefIdeal.τ).loc Cert.StepLbRefIdeal.main_v1) = v0 c
          ∧ r.2.mem ((c.tc : Thread Cert.StepLbRefIdeal.nD Cert.StepLbRefIdeal.τ).loc Cert.StepLbRefIdeal.main_v25) = v1 c
          ∧ r.2.mem ((c.tc : Thread Cert.StepLbRefIdeal.nD Cert.StepLbRefIdeal.τ).loc Cert.StepLbRefIdeal.main_v6) = v2 c
          ∧ r.2.mem ((c.tc : Thread Cert.StepLbRefIdeal.nD Cert.StepLbRefIdeal.τ).loc Cert.StepLbRefIdeal.main_v12) = v3 c
          ∧ r.2.mem ((c.tc : Thread Cert.StepLbRefIdeal.nD Cert.StepLbRefIdeal.τ).loc Cert.StepLbRefIdeal.main_arg0) = m' ((c.tc : Thread Cert.StepLbRefIdeal.nD Cert.StepLbRefIdeal.τ).loc Cert.StepLbRefIdeal.main_arg0)
          ∧ r.2.mem ((c.tc : Thread Cert.StepLbRefIdeal.nD Cert.StepLbRefIdeal.τ).loc Cert.StepLbRefIdeal.main_arg1) = m' ((c.tc : Thread Cert.StepLbRefIdeal.nD Cert.StepLbRefIdeal.τ).loc Cert.StepLbRefIdeal.main_arg1)
          ∧ r.2.mem ((c.tc : Thread Cert.StepLbRefIdeal.nD Cert.StepLbRefIdeal.τ).loc Cert.StepLbRefIdeal.main_arg2) = m' ((c.tc : Thread Cert.StepLbRefIdeal.nD Cert.StepLbRefIdeal.τ).loc Cert.StepLbRefIdeal.main_arg2)
          ∧ r.2.mem ((c.tc : Thread Cert.StepLbRefIdeal.nD Cert.StepLbRefIdeal.τ).loc Cert.StepLbRefIdeal.main_arg3) = m' ((c.tc : Thread Cert.StepLbRefIdeal.nD Cert.StepLbRefIdeal.τ).loc Cert.StepLbRefIdeal.main_arg3))

def preserves_StepGate_StepGateIdeal : Prop :=
  True

def algebraic_StepGateIdeal_StepGateRefIdeal [hStepGateIdeal : Cert.StepGateIdeal.Facts] [hStepGateRefIdeal : Cert.StepGateRefIdeal.Facts] : Prop :=
  ∀ (m : (ℓ : Loc Cert.StepGateIdeal.nD Cert.StepGateIdeal.τ Cert.StepGateIdeal.sig) → Buf (Elt Ideal) ℓ) (g : Dev Cert.StepGateIdeal.nD → PrngReg)
    (m' : (ℓ : Loc Cert.StepGateRefIdeal.nD Cert.StepGateRefIdeal.τ Cert.StepGateRefIdeal.sig) → Buf (Elt Ideal) ℓ) (g' : Dev Cert.StepGateRefIdeal.nD → PrngReg), Pre_StepGateIdeal m →
    (∀ c : Dev Cert.StepGateIdeal.nD,
      m' ((c.tc : Thread Cert.StepGateRefIdeal.nD Cert.StepGateRefIdeal.τ).loc Cert.StepGateRefIdeal.main_arg0) = m ((c.tc : Thread Cert.StepGateIdeal.nD Cert.StepGateIdeal.τ).loc Cert.StepGateIdeal.main_arg0)
      ∧ m' ((c.tc : Thread Cert.StepGateRefIdeal.nD Cert.StepGateRefIdeal.τ).loc Cert.StepGateRefIdeal.main_arg1) = m ((c.tc : Thread Cert.StepGateIdeal.nD Cert.StepGateIdeal.τ).loc Cert.StepGateIdeal.main_arg1)
      ∧ m' ((c.tc : Thread Cert.StepGateRefIdeal.nD Cert.StepGateRefIdeal.τ).loc Cert.StepGateRefIdeal.main_arg2) = m ((c.tc : Thread Cert.StepGateIdeal.nD Cert.StepGateIdeal.τ).loc Cert.StepGateIdeal.main_arg2)
      ∧ m' ((c.tc : Thread Cert.StepGateRefIdeal.nD Cert.StepGateRefIdeal.τ).loc Cert.StepGateRefIdeal.main_arg3) = m ((c.tc : Thread Cert.StepGateIdeal.nD Cert.StepGateIdeal.τ).loc Cert.StepGateIdeal.main_arg3)
      ∧ m' ((c.tc : Thread Cert.StepGateRefIdeal.nD Cert.StepGateRefIdeal.τ).loc Cert.StepGateRefIdeal.main_arg4) = m ((c.tc : Thread Cert.StepGateIdeal.nD Cert.StepGateIdeal.τ).loc Cert.StepGateIdeal.main_arg4)) →
    ∃ (v0 : (c : Dev Cert.StepGateIdeal.nD) → Buf (Elt Ideal) ((c.tc : Thread Cert.StepGateIdeal.nD Cert.StepGateIdeal.τ).loc Cert.StepGateIdeal.main_v0_0)) (v1 : (c : Dev Cert.StepGateIdeal.nD) → Buf (Elt Ideal) ((c.tc : Thread Cert.StepGateIdeal.nD Cert.StepGateIdeal.τ).loc Cert.StepGateIdeal.main_v0_1)) (v2 : (c : Dev Cert.StepGateIdeal.nD) → Buf (Elt Ideal) ((c.tc : Thread Cert.StepGateIdeal.nD Cert.StepGateIdeal.τ).loc Cert.StepGateIdeal.main_v0_2)) (v3 : (c : Dev Cert.StepGateIdeal.nD) → Buf (Elt Ideal) ((c.tc : Thread Cert.StepGateIdeal.nD Cert.StepGateIdeal.τ).loc Cert.StepGateIdeal.main_v0_3)),
      θ_run (Cert.StepGateIdeal.defs (F := Ideal)) (onTc (τ := Cert.StepGateIdeal.τ) (Cert.StepGateIdeal.main (F := Ideal))) ⟨m, fun _ => 0, g⟩ (fun r => ∀ c : Dev Cert.StepGateIdeal.nD,
          r.2.mem ((c.tc : Thread Cert.StepGateIdeal.nD Cert.StepGateIdeal.τ).loc Cert.StepGateIdeal.main_v0_0) = v0 c
          ∧ r.2.mem ((c.tc : Thread Cert.StepGateIdeal.nD Cert.StepGateIdeal.τ).loc Cert.StepGateIdeal.main_v0_1) = v1 c
          ∧ r.2.mem ((c.tc : Thread Cert.StepGateIdeal.nD Cert.StepGateIdeal.τ).loc Cert.StepGateIdeal.main_v0_2) = v2 c
          ∧ r.2.mem ((c.tc : Thread Cert.StepGateIdeal.nD Cert.StepGateIdeal.τ).loc Cert.StepGateIdeal.main_v0_3) = v3 c
          ∧ r.2.mem ((c.tc : Thread Cert.StepGateIdeal.nD Cert.StepGateIdeal.τ).loc Cert.StepGateIdeal.main_arg0) = m ((c.tc : Thread Cert.StepGateIdeal.nD Cert.StepGateIdeal.τ).loc Cert.StepGateIdeal.main_arg0)
          ∧ r.2.mem ((c.tc : Thread Cert.StepGateIdeal.nD Cert.StepGateIdeal.τ).loc Cert.StepGateIdeal.main_arg1) = m ((c.tc : Thread Cert.StepGateIdeal.nD Cert.StepGateIdeal.τ).loc Cert.StepGateIdeal.main_arg1)
          ∧ r.2.mem ((c.tc : Thread Cert.StepGateIdeal.nD Cert.StepGateIdeal.τ).loc Cert.StepGateIdeal.main_arg2) = m ((c.tc : Thread Cert.StepGateIdeal.nD Cert.StepGateIdeal.τ).loc Cert.StepGateIdeal.main_arg2)
          ∧ r.2.mem ((c.tc : Thread Cert.StepGateIdeal.nD Cert.StepGateIdeal.τ).loc Cert.StepGateIdeal.main_arg3) = m ((c.tc : Thread Cert.StepGateIdeal.nD Cert.StepGateIdeal.τ).loc Cert.StepGateIdeal.main_arg3)
          ∧ r.2.mem ((c.tc : Thread Cert.StepGateIdeal.nD Cert.StepGateIdeal.τ).loc Cert.StepGateIdeal.main_arg4) = m ((c.tc : Thread Cert.StepGateIdeal.nD Cert.StepGateIdeal.τ).loc Cert.StepGateIdeal.main_arg4))
      ∧ θ_run (Cert.StepGateRefIdeal.defs (F := Ideal)) (onTc (τ := Cert.StepGateRefIdeal.τ) (Cert.StepGateRefIdeal.main (F := Ideal))) ⟨m', fun _ => 0, g'⟩ (fun r => ∀ c : Dev Cert.StepGateRefIdeal.nD,
          r.2.mem ((c.tc : Thread Cert.StepGateRefIdeal.nD Cert.StepGateRefIdeal.τ).loc Cert.StepGateRefIdeal.main_v6) = v0 c
          ∧ r.2.mem ((c.tc : Thread Cert.StepGateRefIdeal.nD Cert.StepGateRefIdeal.τ).loc Cert.StepGateRefIdeal.main_v30) = v1 c
          ∧ r.2.mem ((c.tc : Thread Cert.StepGateRefIdeal.nD Cert.StepGateRefIdeal.τ).loc Cert.StepGateRefIdeal.main_v11) = v2 c
          ∧ r.2.mem ((c.tc : Thread Cert.StepGateRefIdeal.nD Cert.StepGateRefIdeal.τ).loc Cert.StepGateRefIdeal.main_v17) = v3 c
          ∧ r.2.mem ((c.tc : Thread Cert.StepGateRefIdeal.nD Cert.StepGateRefIdeal.τ).loc Cert.StepGateRefIdeal.main_arg0) = m' ((c.tc : Thread Cert.StepGateRefIdeal.nD Cert.StepGateRefIdeal.τ).loc Cert.StepGateRefIdeal.main_arg0)
          ∧ r.2.mem ((c.tc : Thread Cert.StepGateRefIdeal.nD Cert.StepGateRefIdeal.τ).loc Cert.StepGateRefIdeal.main_arg1) = m' ((c.tc : Thread Cert.StepGateRefIdeal.nD Cert.StepGateRefIdeal.τ).loc Cert.StepGateRefIdeal.main_arg1)
          ∧ r.2.mem ((c.tc : Thread Cert.StepGateRefIdeal.nD Cert.StepGateRefIdeal.τ).loc Cert.StepGateRefIdeal.main_arg2) = m' ((c.tc : Thread Cert.StepGateRefIdeal.nD Cert.StepGateRefIdeal.τ).loc Cert.StepGateRefIdeal.main_arg2)
          ∧ r.2.mem ((c.tc : Thread Cert.StepGateRefIdeal.nD Cert.StepGateRefIdeal.τ).loc Cert.StepGateRefIdeal.main_arg3) = m' ((c.tc : Thread Cert.StepGateRefIdeal.nD Cert.StepGateRefIdeal.τ).loc Cert.StepGateRefIdeal.main_arg3)
          ∧ r.2.mem ((c.tc : Thread Cert.StepGateRefIdeal.nD Cert.StepGateRefIdeal.τ).loc Cert.StepGateRefIdeal.main_arg4) = m' ((c.tc : Thread Cert.StepGateRefIdeal.nD Cert.StepGateRefIdeal.τ).loc Cert.StepGateRefIdeal.main_arg4))

def preserves_StepPle_StepPleIdeal : Prop :=
  True

def algebraic_StepPleIdeal_StepPleRefIdeal [hStepPleIdeal : Cert.StepPleIdeal.Facts] [hStepPleRefIdeal : Cert.StepPleRefIdeal.Facts] : Prop :=
  ∀ (m : (ℓ : Loc Cert.StepPleIdeal.nD Cert.StepPleIdeal.τ Cert.StepPleIdeal.sig) → Buf (Elt Ideal) ℓ) (g : Dev Cert.StepPleIdeal.nD → PrngReg)
    (m' : (ℓ : Loc Cert.StepPleRefIdeal.nD Cert.StepPleRefIdeal.τ Cert.StepPleRefIdeal.sig) → Buf (Elt Ideal) ℓ) (g' : Dev Cert.StepPleRefIdeal.nD → PrngReg), Pre_StepPleIdeal m →
    (∀ c : Dev Cert.StepPleIdeal.nD,
      m' ((c.tc : Thread Cert.StepPleRefIdeal.nD Cert.StepPleRefIdeal.τ).loc Cert.StepPleRefIdeal.main_arg0) = m ((c.tc : Thread Cert.StepPleIdeal.nD Cert.StepPleIdeal.τ).loc Cert.StepPleIdeal.main_arg0)
      ∧ m' ((c.tc : Thread Cert.StepPleRefIdeal.nD Cert.StepPleRefIdeal.τ).loc Cert.StepPleRefIdeal.main_arg1) = m ((c.tc : Thread Cert.StepPleIdeal.nD Cert.StepPleIdeal.τ).loc Cert.StepPleIdeal.main_arg1)
      ∧ m' ((c.tc : Thread Cert.StepPleRefIdeal.nD Cert.StepPleRefIdeal.τ).loc Cert.StepPleRefIdeal.main_arg2) = m ((c.tc : Thread Cert.StepPleIdeal.nD Cert.StepPleIdeal.τ).loc Cert.StepPleIdeal.main_arg2)
      ∧ m' ((c.tc : Thread Cert.StepPleRefIdeal.nD Cert.StepPleRefIdeal.τ).loc Cert.StepPleRefIdeal.main_arg3) = m ((c.tc : Thread Cert.StepPleIdeal.nD Cert.StepPleIdeal.τ).loc Cert.StepPleIdeal.main_arg3)
      ∧ m' ((c.tc : Thread Cert.StepPleRefIdeal.nD Cert.StepPleRefIdeal.τ).loc Cert.StepPleRefIdeal.main_arg4) = m ((c.tc : Thread Cert.StepPleIdeal.nD Cert.StepPleIdeal.τ).loc Cert.StepPleIdeal.main_arg4)) →
    ∃ (v0 : (c : Dev Cert.StepPleIdeal.nD) → Buf (Elt Ideal) ((c.tc : Thread Cert.StepPleIdeal.nD Cert.StepPleIdeal.τ).loc Cert.StepPleIdeal.main_v0_0)) (v1 : (c : Dev Cert.StepPleIdeal.nD) → Buf (Elt Ideal) ((c.tc : Thread Cert.StepPleIdeal.nD Cert.StepPleIdeal.τ).loc Cert.StepPleIdeal.main_v0_1)) (v2 : (c : Dev Cert.StepPleIdeal.nD) → Buf (Elt Ideal) ((c.tc : Thread Cert.StepPleIdeal.nD Cert.StepPleIdeal.τ).loc Cert.StepPleIdeal.main_v0_2)) (v3 : (c : Dev Cert.StepPleIdeal.nD) → Buf (Elt Ideal) ((c.tc : Thread Cert.StepPleIdeal.nD Cert.StepPleIdeal.τ).loc Cert.StepPleIdeal.main_v0_3)),
      θ_run (Cert.StepPleIdeal.defs (F := Ideal)) (onTc (τ := Cert.StepPleIdeal.τ) (Cert.StepPleIdeal.main (F := Ideal))) ⟨m, fun _ => 0, g⟩ (fun r => ∀ c : Dev Cert.StepPleIdeal.nD,
          r.2.mem ((c.tc : Thread Cert.StepPleIdeal.nD Cert.StepPleIdeal.τ).loc Cert.StepPleIdeal.main_v0_0) = v0 c
          ∧ r.2.mem ((c.tc : Thread Cert.StepPleIdeal.nD Cert.StepPleIdeal.τ).loc Cert.StepPleIdeal.main_v0_1) = v1 c
          ∧ r.2.mem ((c.tc : Thread Cert.StepPleIdeal.nD Cert.StepPleIdeal.τ).loc Cert.StepPleIdeal.main_v0_2) = v2 c
          ∧ r.2.mem ((c.tc : Thread Cert.StepPleIdeal.nD Cert.StepPleIdeal.τ).loc Cert.StepPleIdeal.main_v0_3) = v3 c
          ∧ r.2.mem ((c.tc : Thread Cert.StepPleIdeal.nD Cert.StepPleIdeal.τ).loc Cert.StepPleIdeal.main_arg0) = m ((c.tc : Thread Cert.StepPleIdeal.nD Cert.StepPleIdeal.τ).loc Cert.StepPleIdeal.main_arg0)
          ∧ r.2.mem ((c.tc : Thread Cert.StepPleIdeal.nD Cert.StepPleIdeal.τ).loc Cert.StepPleIdeal.main_arg1) = m ((c.tc : Thread Cert.StepPleIdeal.nD Cert.StepPleIdeal.τ).loc Cert.StepPleIdeal.main_arg1)
          ∧ r.2.mem ((c.tc : Thread Cert.StepPleIdeal.nD Cert.StepPleIdeal.τ).loc Cert.StepPleIdeal.main_arg2) = m ((c.tc : Thread Cert.StepPleIdeal.nD Cert.StepPleIdeal.τ).loc Cert.StepPleIdeal.main_arg2)
          ∧ r.2.mem ((c.tc : Thread Cert.StepPleIdeal.nD Cert.StepPleIdeal.τ).loc Cert.StepPleIdeal.main_arg3) = m ((c.tc : Thread Cert.StepPleIdeal.nD Cert.StepPleIdeal.τ).loc Cert.StepPleIdeal.main_arg3)
          ∧ r.2.mem ((c.tc : Thread Cert.StepPleIdeal.nD Cert.StepPleIdeal.τ).loc Cert.StepPleIdeal.main_arg4) = m ((c.tc : Thread Cert.StepPleIdeal.nD Cert.StepPleIdeal.τ).loc Cert.StepPleIdeal.main_arg4))
      ∧ θ_run (Cert.StepPleRefIdeal.defs (F := Ideal)) (onTc (τ := Cert.StepPleRefIdeal.τ) (Cert.StepPleRefIdeal.main (F := Ideal))) ⟨m', fun _ => 0, g'⟩ (fun r => ∀ c : Dev Cert.StepPleRefIdeal.nD,
          r.2.mem ((c.tc : Thread Cert.StepPleRefIdeal.nD Cert.StepPleRefIdeal.τ).loc Cert.StepPleRefIdeal.main_v6) = v0 c
          ∧ r.2.mem ((c.tc : Thread Cert.StepPleRefIdeal.nD Cert.StepPleRefIdeal.τ).loc Cert.StepPleRefIdeal.main_v30) = v1 c
          ∧ r.2.mem ((c.tc : Thread Cert.StepPleRefIdeal.nD Cert.StepPleRefIdeal.τ).loc Cert.StepPleRefIdeal.main_v11) = v2 c
          ∧ r.2.mem ((c.tc : Thread Cert.StepPleRefIdeal.nD Cert.StepPleRefIdeal.τ).loc Cert.StepPleRefIdeal.main_v17) = v3 c
          ∧ r.2.mem ((c.tc : Thread Cert.StepPleRefIdeal.nD Cert.StepPleRefIdeal.τ).loc Cert.StepPleRefIdeal.main_arg0) = m' ((c.tc : Thread Cert.StepPleRefIdeal.nD Cert.StepPleRefIdeal.τ).loc Cert.StepPleRefIdeal.main_arg0)
          ∧ r.2.mem ((c.tc : Thread Cert.StepPleRefIdeal.nD Cert.StepPleRefIdeal.τ).loc Cert.StepPleRefIdeal.main_arg1) = m' ((c.tc : Thread Cert.StepPleRefIdeal.nD Cert.StepPleRefIdeal.τ).loc Cert.StepPleRefIdeal.main_arg1)
          ∧ r.2.mem ((c.tc : Thread Cert.StepPleRefIdeal.nD Cert.StepPleRefIdeal.τ).loc Cert.StepPleRefIdeal.main_arg2) = m' ((c.tc : Thread Cert.StepPleRefIdeal.nD Cert.StepPleRefIdeal.τ).loc Cert.StepPleRefIdeal.main_arg2)
          ∧ r.2.mem ((c.tc : Thread Cert.StepPleRefIdeal.nD Cert.StepPleRefIdeal.τ).loc Cert.StepPleRefIdeal.main_arg3) = m' ((c.tc : Thread Cert.StepPleRefIdeal.nD Cert.StepPleRefIdeal.τ).loc Cert.StepPleRefIdeal.main_arg3)
          ∧ r.2.mem ((c.tc : Thread Cert.StepPleRefIdeal.nD Cert.StepPleRefIdeal.τ).loc Cert.StepPleRefIdeal.main_arg4) = m' ((c.tc : Thread Cert.StepPleRefIdeal.nD Cert.StepPleRefIdeal.τ).loc Cert.StepPleRefIdeal.main_arg4))

def preserves_StepDown_StepDownIdeal : Prop :=
  True

def algebraic_StepDownIdeal_StepDownRefIdeal [hStepDownIdeal : Cert.StepDownIdeal.Facts] [hStepDownRefIdeal : Cert.StepDownRefIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownRefIdeal.nD Cert.StepDownRefIdeal.τ Cert.StepDownRefIdeal.sig) → Buf (Elt Ideal) ℓ) (g' : Dev Cert.StepDownRefIdeal.nD → PrngReg), Pre_StepDownIdeal m →
    (∀ c : Dev Cert.StepDownIdeal.nD,
      m' ((c.tc : Thread Cert.StepDownRefIdeal.nD Cert.StepDownRefIdeal.τ).loc Cert.StepDownRefIdeal.main_arg0) = m ((c.tc : Thread Cert.StepDownIdeal.nD Cert.StepDownIdeal.τ).loc Cert.StepDownIdeal.main_arg0)
      ∧ m' ((c.tc : Thread Cert.StepDownRefIdeal.nD Cert.StepDownRefIdeal.τ).loc Cert.StepDownRefIdeal.main_arg1) = m ((c.tc : Thread Cert.StepDownIdeal.nD Cert.StepDownIdeal.τ).loc Cert.StepDownIdeal.main_arg1)
      ∧ m' ((c.tc : Thread Cert.StepDownRefIdeal.nD Cert.StepDownRefIdeal.τ).loc Cert.StepDownRefIdeal.main_arg2) = m ((c.tc : Thread Cert.StepDownIdeal.nD Cert.StepDownIdeal.τ).loc Cert.StepDownIdeal.main_arg2)
      ∧ m' ((c.tc : Thread Cert.StepDownRefIdeal.nD Cert.StepDownRefIdeal.τ).loc Cert.StepDownRefIdeal.main_arg3) = m ((c.tc : Thread Cert.StepDownIdeal.nD Cert.StepDownIdeal.τ).loc Cert.StepDownIdeal.main_arg3)
      ∧ m' ((c.tc : Thread Cert.StepDownRefIdeal.nD Cert.StepDownRefIdeal.τ).loc Cert.StepDownRefIdeal.main_arg4) = m ((c.tc : Thread Cert.StepDownIdeal.nD Cert.StepDownIdeal.τ).loc Cert.StepDownIdeal.main_arg4)) →
    ∃ (v0 : (c : Dev Cert.StepDownIdeal.nD) → Buf (Elt Ideal) ((c.tc : Thread Cert.StepDownIdeal.nD Cert.StepDownIdeal.τ).loc Cert.StepDownIdeal.main_v0_0)) (v1 : (c : Dev Cert.StepDownIdeal.nD) → Buf (Elt Ideal) ((c.tc : Thread Cert.StepDownIdeal.nD Cert.StepDownIdeal.τ).loc Cert.StepDownIdeal.main_v0_1)) (v2 : (c : Dev Cert.StepDownIdeal.nD) → Buf (Elt Ideal) ((c.tc : Thread Cert.StepDownIdeal.nD Cert.StepDownIdeal.τ).loc Cert.StepDownIdeal.main_v0_2)) (v3 : (c : Dev Cert.StepDownIdeal.nD) → Buf (Elt Ideal) ((c.tc : Thread Cert.StepDownIdeal.nD Cert.StepDownIdeal.τ).loc Cert.StepDownIdeal.main_v0_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v0_0) = v0 c
          ∧ r.2.mem ((c.tc : Thread Cert.StepDownIdeal.nD Cert.StepDownIdeal.τ).loc Cert.StepDownIdeal.main_v0_1) = v1 c
          ∧ r.2.mem ((c.tc : Thread Cert.StepDownIdeal.nD Cert.StepDownIdeal.τ).loc Cert.StepDownIdeal.main_v0_2) = v2 c
          ∧ r.2.mem ((c.tc : Thread Cert.StepDownIdeal.nD Cert.StepDownIdeal.τ).loc Cert.StepDownIdeal.main_v0_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
          ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4))
      ∧ θ_run (Cert.StepDownRefIdeal.defs (F := Ideal)) (onTc (τ := Cert.StepDownRefIdeal.τ) (Cert.StepDownRefIdeal.main (F := Ideal))) ⟨m', fun _ => 0, g'⟩ (fun r => ∀ c : Dev Cert.StepDownRefIdeal.nD,
          r.2.mem ((c.tc : Thread Cert.StepDownRefIdeal.nD Cert.StepDownRefIdeal.τ).loc Cert.StepDownRefIdeal.main_v6) = v0 c
          ∧ r.2.mem ((c.tc : Thread Cert.StepDownRefIdeal.nD Cert.StepDownRefIdeal.τ).loc Cert.StepDownRefIdeal.main_v30) = v1 c
          ∧ r.2.mem ((c.tc : Thread Cert.StepDownRefIdeal.nD Cert.StepDownRefIdeal.τ).loc Cert.StepDownRefIdeal.main_v11) = v2 c
          ∧ r.2.mem ((c.tc : Thread Cert.StepDownRefIdeal.nD Cert.StepDownRefIdeal.τ).loc Cert.StepDownRefIdeal.main_v17) = v3 c
          ∧ r.2.mem ((c.tc : Thread Cert.StepDownRefIdeal.nD Cert.StepDownRefIdeal.τ).loc Cert.StepDownRefIdeal.main_arg0) = m' ((c.tc : Thread Cert.StepDownRefIdeal.nD Cert.StepDownRefIdeal.τ).loc Cert.StepDownRefIdeal.main_arg0)
          ∧ r.2.mem ((c.tc : Thread Cert.StepDownRefIdeal.nD Cert.StepDownRefIdeal.τ).loc Cert.StepDownRefIdeal.main_arg1) = m' ((c.tc : Thread Cert.StepDownRefIdeal.nD Cert.StepDownRefIdeal.τ).loc Cert.StepDownRefIdeal.main_arg1)
          ∧ r.2.mem ((c.tc : Thread Cert.StepDownRefIdeal.nD Cert.StepDownRefIdeal.τ).loc Cert.StepDownRefIdeal.main_arg2) = m' ((c.tc : Thread Cert.StepDownRefIdeal.nD Cert.StepDownRefIdeal.τ).loc Cert.StepDownRefIdeal.main_arg2)
          ∧ r.2.mem ((c.tc : Thread Cert.StepDownRefIdeal.nD Cert.StepDownRefIdeal.τ).loc Cert.StepDownRefIdeal.main_arg3) = m' ((c.tc : Thread Cert.StepDownRefIdeal.nD Cert.StepDownRefIdeal.τ).loc Cert.StepDownRefIdeal.main_arg3)
          ∧ r.2.mem ((c.tc : Thread Cert.StepDownRefIdeal.nD Cert.StepDownRefIdeal.τ).loc Cert.StepDownRefIdeal.main_arg4) = m' ((c.tc : Thread Cert.StepDownRefIdeal.nD Cert.StepDownRefIdeal.τ).loc Cert.StepDownRefIdeal.main_arg4))

def preserves_StepUp_StepUpIdeal : Prop :=
  True

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)
      ∧ m' ((c.tc : Thread Cert.StepUpRefIdeal.nD Cert.StepUpRefIdeal.τ).loc Cert.StepUpRefIdeal.main_arg4) = m ((c.tc : Thread Cert.StepUpIdeal.nD Cert.StepUpIdeal.τ).loc Cert.StepUpIdeal.main_arg4)) →
    ∃ (v0 : (c : Dev Cert.StepUpIdeal.nD) → Buf (Elt Ideal) ((c.tc : Thread Cert.StepUpIdeal.nD Cert.StepUpIdeal.τ).loc Cert.StepUpIdeal.main_v0_0)) (v1 : (c : Dev Cert.StepUpIdeal.nD) → Buf (Elt Ideal) ((c.tc : Thread Cert.StepUpIdeal.nD Cert.StepUpIdeal.τ).loc Cert.StepUpIdeal.main_v0_1)) (v2 : (c : Dev Cert.StepUpIdeal.nD) → Buf (Elt Ideal) ((c.tc : Thread Cert.StepUpIdeal.nD Cert.StepUpIdeal.τ).loc Cert.StepUpIdeal.main_v0_2)) (v3 : (c : Dev Cert.StepUpIdeal.nD) → Buf (Elt Ideal) ((c.tc : Thread Cert.StepUpIdeal.nD Cert.StepUpIdeal.τ).loc Cert.StepUpIdeal.main_v0_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v0_0) = v0 c
          ∧ r.2.mem ((c.tc : Thread Cert.StepUpIdeal.nD Cert.StepUpIdeal.τ).loc Cert.StepUpIdeal.main_v0_1) = v1 c
          ∧ r.2.mem ((c.tc : Thread Cert.StepUpIdeal.nD Cert.StepUpIdeal.τ).loc Cert.StepUpIdeal.main_v0_2) = v2 c
          ∧ r.2.mem ((c.tc : Thread Cert.StepUpIdeal.nD Cert.StepUpIdeal.τ).loc Cert.StepUpIdeal.main_v0_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
          ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_v6) = v0 c
          ∧ r.2.mem ((c.tc : Thread Cert.StepUpRefIdeal.nD Cert.StepUpRefIdeal.τ).loc Cert.StepUpRefIdeal.main_v30) = v1 c
          ∧ r.2.mem ((c.tc : Thread Cert.StepUpRefIdeal.nD Cert.StepUpRefIdeal.τ).loc Cert.StepUpRefIdeal.main_v11) = v2 c
          ∧ r.2.mem ((c.tc : Thread Cert.StepUpRefIdeal.nD Cert.StepUpRefIdeal.τ).loc Cert.StepUpRefIdeal.main_v17) = v3 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3)
          ∧ r.2.mem ((c.tc : Thread Cert.StepUpRefIdeal.nD Cert.StepUpRefIdeal.τ).loc Cert.StepUpRefIdeal.main_arg4) = m' ((c.tc : Thread Cert.StepUpRefIdeal.nD Cert.StepUpRefIdeal.τ).loc Cert.StepUpRefIdeal.main_arg4))

def preserves_StepSmall_StepSmallIdeal : Prop :=
  True

def algebraic_StepSmallIdeal_StepSmallRefIdeal [hStepSmallIdeal : Cert.StepSmallIdeal.Facts] [hStepSmallRefIdeal : Cert.StepSmallRefIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallRefIdeal.nD Cert.StepSmallRefIdeal.τ Cert.StepSmallRefIdeal.sig) → Buf (Elt Ideal) ℓ) (g' : Dev Cert.StepSmallRefIdeal.nD → PrngReg), Pre_StepSmallIdeal m →
    (∀ c : Dev Cert.StepSmallIdeal.nD,
      m' ((c.tc : Thread Cert.StepSmallRefIdeal.nD Cert.StepSmallRefIdeal.τ).loc Cert.StepSmallRefIdeal.main_arg0) = m ((c.tc : Thread Cert.StepSmallIdeal.nD Cert.StepSmallIdeal.τ).loc Cert.StepSmallIdeal.main_arg0)
      ∧ m' ((c.tc : Thread Cert.StepSmallRefIdeal.nD Cert.StepSmallRefIdeal.τ).loc Cert.StepSmallRefIdeal.main_arg1) = m ((c.tc : Thread Cert.StepSmallIdeal.nD Cert.StepSmallIdeal.τ).loc Cert.StepSmallIdeal.main_arg1)
      ∧ m' ((c.tc : Thread Cert.StepSmallRefIdeal.nD Cert.StepSmallRefIdeal.τ).loc Cert.StepSmallRefIdeal.main_arg2) = m ((c.tc : Thread Cert.StepSmallIdeal.nD Cert.StepSmallIdeal.τ).loc Cert.StepSmallIdeal.main_arg2)
      ∧ m' ((c.tc : Thread Cert.StepSmallRefIdeal.nD Cert.StepSmallRefIdeal.τ).loc Cert.StepSmallRefIdeal.main_arg3) = m ((c.tc : Thread Cert.StepSmallIdeal.nD Cert.StepSmallIdeal.τ).loc Cert.StepSmallIdeal.main_arg3)
      ∧ m' ((c.tc : Thread Cert.StepSmallRefIdeal.nD Cert.StepSmallRefIdeal.τ).loc Cert.StepSmallRefIdeal.main_arg4) = m ((c.tc : Thread Cert.StepSmallIdeal.nD Cert.StepSmallIdeal.τ).loc Cert.StepSmallIdeal.main_arg4)
      ∧ m' ((c.tc : Thread Cert.StepSmallRefIdeal.nD Cert.StepSmallRefIdeal.τ).loc Cert.StepSmallRefIdeal.main_arg5) = m ((c.tc : Thread Cert.StepSmallIdeal.nD Cert.StepSmallIdeal.τ).loc Cert.StepSmallIdeal.main_arg5)
      ∧ m' ((c.tc : Thread Cert.StepSmallRefIdeal.nD Cert.StepSmallRefIdeal.τ).loc Cert.StepSmallRefIdeal.main_arg6) = m ((c.tc : Thread Cert.StepSmallIdeal.nD Cert.StepSmallIdeal.τ).loc Cert.StepSmallIdeal.main_arg6)
      ∧ m' ((c.tc : Thread Cert.StepSmallRefIdeal.nD Cert.StepSmallRefIdeal.τ).loc Cert.StepSmallRefIdeal.main_arg7) = m ((c.tc : Thread Cert.StepSmallIdeal.nD Cert.StepSmallIdeal.τ).loc Cert.StepSmallIdeal.main_arg7)
      ∧ m' ((c.tc : Thread Cert.StepSmallRefIdeal.nD Cert.StepSmallRefIdeal.τ).loc Cert.StepSmallRefIdeal.main_arg8) = m ((c.tc : Thread Cert.StepSmallIdeal.nD Cert.StepSmallIdeal.τ).loc Cert.StepSmallIdeal.main_arg8)
      ∧ m' ((c.tc : Thread Cert.StepSmallRefIdeal.nD Cert.StepSmallRefIdeal.τ).loc Cert.StepSmallRefIdeal.main_arg9) = m ((c.tc : Thread Cert.StepSmallIdeal.nD Cert.StepSmallIdeal.τ).loc Cert.StepSmallIdeal.main_arg9)
      ∧ m' ((c.tc : Thread Cert.StepSmallRefIdeal.nD Cert.StepSmallRefIdeal.τ).loc Cert.StepSmallRefIdeal.main_arg10) = m ((c.tc : Thread Cert.StepSmallIdeal.nD Cert.StepSmallIdeal.τ).loc Cert.StepSmallIdeal.main_arg10)
      ∧ m' ((c.tc : Thread Cert.StepSmallRefIdeal.nD Cert.StepSmallRefIdeal.τ).loc Cert.StepSmallRefIdeal.main_arg11) = m ((c.tc : Thread Cert.StepSmallIdeal.nD Cert.StepSmallIdeal.τ).loc Cert.StepSmallIdeal.main_arg11)
      ∧ m' ((c.tc : Thread Cert.StepSmallRefIdeal.nD Cert.StepSmallRefIdeal.τ).loc Cert.StepSmallRefIdeal.main_arg12) = m ((c.tc : Thread Cert.StepSmallIdeal.nD Cert.StepSmallIdeal.τ).loc Cert.StepSmallIdeal.main_arg12)
      ∧ m' ((c.tc : Thread Cert.StepSmallRefIdeal.nD Cert.StepSmallRefIdeal.τ).loc Cert.StepSmallRefIdeal.main_arg13) = m ((c.tc : Thread Cert.StepSmallIdeal.nD Cert.StepSmallIdeal.τ).loc Cert.StepSmallIdeal.main_arg13)
      ∧ m' ((c.tc : Thread Cert.StepSmallRefIdeal.nD Cert.StepSmallRefIdeal.τ).loc Cert.StepSmallRefIdeal.main_arg14) = m ((c.tc : Thread Cert.StepSmallIdeal.nD Cert.StepSmallIdeal.τ).loc Cert.StepSmallIdeal.main_arg14)
      ∧ m' ((c.tc : Thread Cert.StepSmallRefIdeal.nD Cert.StepSmallRefIdeal.τ).loc Cert.StepSmallRefIdeal.main_arg15) = m ((c.tc : Thread Cert.StepSmallIdeal.nD Cert.StepSmallIdeal.τ).loc Cert.StepSmallIdeal.main_arg15)
      ∧ m' ((c.tc : Thread Cert.StepSmallRefIdeal.nD Cert.StepSmallRefIdeal.τ).loc Cert.StepSmallRefIdeal.main_arg16) = m ((c.tc : Thread Cert.StepSmallIdeal.nD Cert.StepSmallIdeal.τ).loc Cert.StepSmallIdeal.main_arg16)
      ∧ m' ((c.tc : Thread Cert.StepSmallRefIdeal.nD Cert.StepSmallRefIdeal.τ).loc Cert.StepSmallRefIdeal.main_arg17) = m ((c.tc : Thread Cert.StepSmallIdeal.nD Cert.StepSmallIdeal.τ).loc Cert.StepSmallIdeal.main_arg17)
      ∧ m' ((c.tc : Thread Cert.StepSmallRefIdeal.nD Cert.StepSmallRefIdeal.τ).loc Cert.StepSmallRefIdeal.main_arg18) = m ((c.tc : Thread Cert.StepSmallIdeal.nD Cert.StepSmallIdeal.τ).loc Cert.StepSmallIdeal.main_arg18)
      ∧ m' ((c.tc : Thread Cert.StepSmallRefIdeal.nD Cert.StepSmallRefIdeal.τ).loc Cert.StepSmallRefIdeal.main_arg19) = m ((c.tc : Thread Cert.StepSmallIdeal.nD Cert.StepSmallIdeal.τ).loc Cert.StepSmallIdeal.main_arg19)
      ∧ m' ((c.tc : Thread Cert.StepSmallRefIdeal.nD Cert.StepSmallRefIdeal.τ).loc Cert.StepSmallRefIdeal.main_arg20) = m ((c.tc : Thread Cert.StepSmallIdeal.nD Cert.StepSmallIdeal.τ).loc Cert.StepSmallIdeal.main_arg20)
      ∧ m' ((c.tc : Thread Cert.StepSmallRefIdeal.nD Cert.StepSmallRefIdeal.τ).loc Cert.StepSmallRefIdeal.main_arg21) = m ((c.tc : Thread Cert.StepSmallIdeal.nD Cert.StepSmallIdeal.τ).loc Cert.StepSmallIdeal.main_arg21)) →
    ∃ (v0 : (c : Dev Cert.StepSmallIdeal.nD) → Buf (Elt Ideal) ((c.tc : Thread Cert.StepSmallIdeal.nD Cert.StepSmallIdeal.τ).loc Cert.StepSmallIdeal.main_v24_0)) (v1 : (c : Dev Cert.StepSmallIdeal.nD) → Buf (Elt Ideal) ((c.tc : Thread Cert.StepSmallIdeal.nD Cert.StepSmallIdeal.τ).loc Cert.StepSmallIdeal.main_v24_1)) (v2 : (c : Dev Cert.StepSmallIdeal.nD) → Buf (Elt Ideal) ((c.tc : Thread Cert.StepSmallIdeal.nD Cert.StepSmallIdeal.τ).loc Cert.StepSmallIdeal.main_v24_2)) (v3 : (c : Dev Cert.StepSmallIdeal.nD) → Buf (Elt Ideal) ((c.tc : Thread Cert.StepSmallIdeal.nD Cert.StepSmallIdeal.τ).loc Cert.StepSmallIdeal.main_v24_3)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v24_0) = v0 c
          ∧ r.2.mem ((c.tc : Thread Cert.StepSmallIdeal.nD Cert.StepSmallIdeal.τ).loc Cert.StepSmallIdeal.main_v24_1) = v1 c
          ∧ r.2.mem ((c.tc : Thread Cert.StepSmallIdeal.nD Cert.StepSmallIdeal.τ).loc Cert.StepSmallIdeal.main_v24_2) = v2 c
          ∧ r.2.mem ((c.tc : Thread Cert.StepSmallIdeal.nD Cert.StepSmallIdeal.τ).loc Cert.StepSmallIdeal.main_v24_3) = v3 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
          ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
          ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
          ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
          ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
          ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
          ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
          ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
          ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
          ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
          ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
          ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
          ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
          ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
          ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
          ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
          ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
          ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
          ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21))
      ∧ θ_run (Cert.StepSmallRefIdeal.defs (F := Ideal)) (onTc (τ := Cert.StepSmallRefIdeal.τ) (Cert.StepSmallRefIdeal.main (F := Ideal))) ⟨m', fun _ => 0, g'⟩ (fun r => ∀ c : Dev Cert.StepSmallRefIdeal.nD,
          r.2.mem ((c.tc : Thread Cert.StepSmallRefIdeal.nD Cert.StepSmallRefIdeal.τ).loc Cert.StepSmallRefIdeal.main_v22) = v0 c
          ∧ r.2.mem ((c.tc : Thread Cert.StepSmallRefIdeal.nD Cert.StepSmallRefIdeal.τ).loc Cert.StepSmallRefIdeal.main_v46) = v1 c
          ∧ r.2.mem ((c.tc : Thread Cert.StepSmallRefIdeal.nD Cert.StepSmallRefIdeal.τ).loc Cert.StepSmallRefIdeal.main_v27) = v2 c
          ∧ r.2.mem ((c.tc : Thread Cert.StepSmallRefIdeal.nD Cert.StepSmallRefIdeal.τ).loc Cert.StepSmallRefIdeal.main_v33) = v3 c
          ∧ r.2.mem ((c.tc : Thread Cert.StepSmallRefIdeal.nD Cert.StepSmallRefIdeal.τ).loc Cert.StepSmallRefIdeal.main_arg0) = m' ((c.tc : Thread Cert.StepSmallRefIdeal.nD Cert.StepSmallRefIdeal.τ).loc Cert.StepSmallRefIdeal.main_arg0)
          ∧ r.2.mem ((c.tc : Thread Cert.StepSmallRefIdeal.nD Cert.StepSmallRefIdeal.τ).loc Cert.StepSmallRefIdeal.main_arg1) = m' ((c.tc : Thread Cert.StepSmallRefIdeal.nD Cert.StepSmallRefIdeal.τ).loc Cert.StepSmallRefIdeal.main_arg1)
          ∧ r.2.mem ((c.tc : Thread Cert.StepSmallRefIdeal.nD Cert.StepSmallRefIdeal.τ).loc Cert.StepSmallRefIdeal.main_arg2) = m' ((c.tc : Thread Cert.StepSmallRefIdeal.nD Cert.StepSmallRefIdeal.τ).loc Cert.StepSmallRefIdeal.main_arg2)
          ∧ r.2.mem ((c.tc : Thread Cert.StepSmallRefIdeal.nD Cert.StepSmallRefIdeal.τ).loc Cert.StepSmallRefIdeal.main_arg3) = m' ((c.tc : Thread Cert.StepSmallRefIdeal.nD Cert.StepSmallRefIdeal.τ).loc Cert.StepSmallRefIdeal.main_arg3)
          ∧ r.2.mem ((c.tc : Thread Cert.StepSmallRefIdeal.nD Cert.StepSmallRefIdeal.τ).loc Cert.StepSmallRefIdeal.main_arg4) = m' ((c.tc : Thread Cert.StepSmallRefIdeal.nD Cert.StepSmallRefIdeal.τ).loc Cert.StepSmallRefIdeal.main_arg4)
          ∧ r.2.mem ((c.tc : Thread Cert.StepSmallRefIdeal.nD Cert.StepSmallRefIdeal.τ).loc Cert.StepSmallRefIdeal.main_arg5) = m' ((c.tc : Thread Cert.StepSmallRefIdeal.nD Cert.StepSmallRefIdeal.τ).loc Cert.StepSmallRefIdeal.main_arg5)
          ∧ r.2.mem ((c.tc : Thread Cert.StepSmallRefIdeal.nD Cert.StepSmallRefIdeal.τ).loc Cert.StepSmallRefIdeal.main_arg6) = m' ((c.tc : Thread Cert.StepSmallRefIdeal.nD Cert.StepSmallRefIdeal.τ).loc Cert.StepSmallRefIdeal.main_arg6)
          ∧ r.2.mem ((c.tc : Thread Cert.StepSmallRefIdeal.nD Cert.StepSmallRefIdeal.τ).loc Cert.StepSmallRefIdeal.main_arg7) = m' ((c.tc : Thread Cert.StepSmallRefIdeal.nD Cert.StepSmallRefIdeal.τ).loc Cert.StepSmallRefIdeal.main_arg7)
          ∧ r.2.mem ((c.tc : Thread Cert.StepSmallRefIdeal.nD Cert.StepSmallRefIdeal.τ).loc Cert.StepSmallRefIdeal.main_arg8) = m' ((c.tc : Thread Cert.StepSmallRefIdeal.nD Cert.StepSmallRefIdeal.τ).loc Cert.StepSmallRefIdeal.main_arg8)
          ∧ r.2.mem ((c.tc : Thread Cert.StepSmallRefIdeal.nD Cert.StepSmallRefIdeal.τ).loc Cert.StepSmallRefIdeal.main_arg9) = m' ((c.tc : Thread Cert.StepSmallRefIdeal.nD Cert.StepSmallRefIdeal.τ).loc Cert.StepSmallRefIdeal.main_arg9)
          ∧ r.2.mem ((c.tc : Thread Cert.StepSmallRefIdeal.nD Cert.StepSmallRefIdeal.τ).loc Cert.StepSmallRefIdeal.main_arg10) = m' ((c.tc : Thread Cert.StepSmallRefIdeal.nD Cert.StepSmallRefIdeal.τ).loc Cert.StepSmallRefIdeal.main_arg10)
          ∧ r.2.mem ((c.tc : Thread Cert.StepSmallRefIdeal.nD Cert.StepSmallRefIdeal.τ).loc Cert.StepSmallRefIdeal.main_arg11) = m' ((c.tc : Thread Cert.StepSmallRefIdeal.nD Cert.StepSmallRefIdeal.τ).loc Cert.StepSmallRefIdeal.main_arg11)
          ∧ r.2.mem ((c.tc : Thread Cert.StepSmallRefIdeal.nD Cert.StepSmallRefIdeal.τ).loc Cert.StepSmallRefIdeal.main_arg12) = m' ((c.tc : Thread Cert.StepSmallRefIdeal.nD Cert.StepSmallRefIdeal.τ).loc Cert.StepSmallRefIdeal.main_arg12)
          ∧ r.2.mem ((c.tc : Thread Cert.StepSmallRefIdeal.nD Cert.StepSmallRefIdeal.τ).loc Cert.StepSmallRefIdeal.main_arg13) = m' ((c.tc : Thread Cert.StepSmallRefIdeal.nD Cert.StepSmallRefIdeal.τ).loc Cert.StepSmallRefIdeal.main_arg13)
          ∧ r.2.mem ((c.tc : Thread Cert.StepSmallRefIdeal.nD Cert.StepSmallRefIdeal.τ).loc Cert.StepSmallRefIdeal.main_arg14) = m' ((c.tc : Thread Cert.StepSmallRefIdeal.nD Cert.StepSmallRefIdeal.τ).loc Cert.StepSmallRefIdeal.main_arg14)
          ∧ r.2.mem ((c.tc : Thread Cert.StepSmallRefIdeal.nD Cert.StepSmallRefIdeal.τ).loc Cert.StepSmallRefIdeal.main_arg15) = m' ((c.tc : Thread Cert.StepSmallRefIdeal.nD Cert.StepSmallRefIdeal.τ).loc Cert.StepSmallRefIdeal.main_arg15)
          ∧ r.2.mem ((c.tc : Thread Cert.StepSmallRefIdeal.nD Cert.StepSmallRefIdeal.τ).loc Cert.StepSmallRefIdeal.main_arg16) = m' ((c.tc : Thread Cert.StepSmallRefIdeal.nD Cert.StepSmallRefIdeal.τ).loc Cert.StepSmallRefIdeal.main_arg16)
          ∧ r.2.mem ((c.tc : Thread Cert.StepSmallRefIdeal.nD Cert.StepSmallRefIdeal.τ).loc Cert.StepSmallRefIdeal.main_arg17) = m' ((c.tc : Thread Cert.StepSmallRefIdeal.nD Cert.StepSmallRefIdeal.τ).loc Cert.StepSmallRefIdeal.main_arg17)
          ∧ r.2.mem ((c.tc : Thread Cert.StepSmallRefIdeal.nD Cert.StepSmallRefIdeal.τ).loc Cert.StepSmallRefIdeal.main_arg18) = m' ((c.tc : Thread Cert.StepSmallRefIdeal.nD Cert.StepSmallRefIdeal.τ).loc Cert.StepSmallRefIdeal.main_arg18)
          ∧ r.2.mem ((c.tc : Thread Cert.StepSmallRefIdeal.nD Cert.StepSmallRefIdeal.τ).loc Cert.StepSmallRefIdeal.main_arg19) = m' ((c.tc : Thread Cert.StepSmallRefIdeal.nD Cert.StepSmallRefIdeal.τ).loc Cert.StepSmallRefIdeal.main_arg19)
          ∧ r.2.mem ((c.tc : Thread Cert.StepSmallRefIdeal.nD Cert.StepSmallRefIdeal.τ).loc Cert.StepSmallRefIdeal.main_arg20) = m' ((c.tc : Thread Cert.StepSmallRefIdeal.nD Cert.StepSmallRefIdeal.τ).loc Cert.StepSmallRefIdeal.main_arg20)
          ∧ r.2.mem ((c.tc : Thread Cert.StepSmallRefIdeal.nD Cert.StepSmallRefIdeal.τ).loc Cert.StepSmallRefIdeal.main_arg21) = m' ((c.tc : Thread Cert.StepSmallRefIdeal.nD Cert.StepSmallRefIdeal.τ).loc Cert.StepSmallRefIdeal.main_arg21))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v38) = v0 c
          ∧ r.2.mem ((c.tc : Thread Cert.NormRefIdeal.nD Cert.NormRefIdeal.τ).loc Cert.NormRefIdeal.main_v40) = v1 c
          ∧ r.2.mem ((c.tc : Thread Cert.NormRefIdeal.nD Cert.NormRefIdeal.τ).loc Cert.NormRefIdeal.main_v41) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)) (v4 : (c : Dev Cert.TailIdeal.nD) → Buf (Elt Ideal) ((c.tc : Thread Cert.TailIdeal.nD Cert.TailIdeal.τ).loc Cert.TailIdeal.main_v0_4)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_v0_4) = v4 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v62) = v0 c
          ∧ r.2.mem ((c.tc : Thread Cert.TailRefIdeal.nD Cert.TailRefIdeal.τ).loc Cert.TailRefIdeal.main_v66) = v1 c
          ∧ r.2.mem ((c.tc : Thread Cert.TailRefIdeal.nD Cert.TailRefIdeal.τ).loc Cert.TailRefIdeal.main_v67) = v2 c
          ∧ r.2.mem ((c.tc : Thread Cert.TailRefIdeal.nD Cert.TailRefIdeal.τ).loc Cert.TailRefIdeal.main_v68) = v3 c
          ∧ r.2.mem ((c.tc : Thread Cert.TailRefIdeal.nD Cert.TailRefIdeal.τ).loc Cert.TailRefIdeal.main_v69) = v4 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4))

def Claim : Prop :=
  ∃ (hAttn6 : Cert.Attn6.Facts) (hAttn6Ideal : Cert.Attn6Ideal.Facts) (hAttnGrad6Ideal : Cert.AttnGrad6Ideal.Facts) (hAttn4 : Cert.Attn4.Facts) (hAttn4Ideal : Cert.Attn4Ideal.Facts) (hAttnGrad4Ideal : Cert.AttnGrad4Ideal.Facts) (hAttn2 : Cert.Attn2.Facts) (hAttn2Ideal : Cert.Attn2Ideal.Facts) (hAttnGrad2Ideal : Cert.AttnGrad2Ideal.Facts) (hAttn0 : Cert.Attn0.Facts) (hAttn0Ideal : Cert.Attn0Ideal.Facts) (hAttnGrad0Ideal : Cert.AttnGrad0Ideal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hIn : Cert.In.Facts) (hInIdeal : Cert.InIdeal.Facts) (hInRefIdeal : Cert.InRefIdeal.Facts) (hProj : Cert.Proj.Facts) (hProjIdeal : Cert.ProjIdeal.Facts) (hProjRefIdeal : Cert.ProjRefIdeal.Facts) (hKv : Cert.Kv.Facts) (hKvIdeal : Cert.KvIdeal.Facts) (hKvRefIdeal : Cert.KvRefIdeal.Facts) (hPle : Cert.Ple.Facts) (hPleIdeal : Cert.PleIdeal.Facts) (hPleRefIdeal : Cert.PleRefIdeal.Facts) (hDownW : Cert.DownW.Facts) (hDownWIdeal : Cert.DownWIdeal.Facts) (hDownWRefIdeal : Cert.DownWRefIdeal.Facts) (hDownX : Cert.DownX.Facts) (hDownXIdeal : Cert.DownXIdeal.Facts) (hDownXRefIdeal : Cert.DownXRefIdeal.Facts) (hUpW : Cert.UpW.Facts) (hUpWIdeal : Cert.UpWIdeal.Facts) (hUpWRefIdeal : Cert.UpWRefIdeal.Facts) (hUpX : Cert.UpX.Facts) (hUpXIdeal : Cert.UpXIdeal.Facts) (hUpXRefIdeal : Cert.UpXRefIdeal.Facts) (hInW : Cert.InW.Facts) (hInWIdeal : Cert.InWIdeal.Facts) (hInWRefIdeal : Cert.InWRefIdeal.Facts) (hInX : Cert.InX.Facts) (hInXIdeal : Cert.InXIdeal.Facts) (hInXRefIdeal : Cert.InXRefIdeal.Facts) (hProjW : Cert.ProjW.Facts) (hProjWIdeal : Cert.ProjWIdeal.Facts) (hProjWRefIdeal : Cert.ProjWRefIdeal.Facts) (hProjX : Cert.ProjX.Facts) (hProjXIdeal : Cert.ProjXIdeal.Facts) (hProjXRefIdeal : Cert.ProjXRefIdeal.Facts) (hKvW : Cert.KvW.Facts) (hKvWIdeal : Cert.KvWIdeal.Facts) (hKvWRefIdeal : Cert.KvWRefIdeal.Facts) (hKvX : Cert.KvX.Facts) (hKvXIdeal : Cert.KvXIdeal.Facts) (hKvXRefIdeal : Cert.KvXRefIdeal.Facts) (hPleW : Cert.PleW.Facts) (hPleWIdeal : Cert.PleWIdeal.Facts) (hPleWRefIdeal : Cert.PleWRefIdeal.Facts) (hStepRows : Cert.StepRows.Facts) (hStepRowsIdeal : Cert.StepRowsIdeal.Facts) (hStepRowsRefIdeal : Cert.StepRowsRefIdeal.Facts) (hStepIn : Cert.StepIn.Facts) (hStepInIdeal : Cert.StepInIdeal.Facts) (hStepInRefIdeal : Cert.StepInRefIdeal.Facts) (hStepKvf : Cert.StepKvf.Facts) (hStepKvfIdeal : Cert.StepKvfIdeal.Facts) (hStepKvfRefIdeal : Cert.StepKvfRefIdeal.Facts) (hStepLb : Cert.StepLb.Facts) (hStepLbIdeal : Cert.StepLbIdeal.Facts) (hStepLbRefIdeal : Cert.StepLbRefIdeal.Facts) (hStepGate : Cert.StepGate.Facts) (hStepGateIdeal : Cert.StepGateIdeal.Facts) (hStepGateRefIdeal : Cert.StepGateRefIdeal.Facts) (hStepPle : Cert.StepPle.Facts) (hStepPleIdeal : Cert.StepPleIdeal.Facts) (hStepPleRefIdeal : Cert.StepPleRefIdeal.Facts) (hStepDown : Cert.StepDown.Facts) (hStepDownIdeal : Cert.StepDownIdeal.Facts) (hStepDownRefIdeal : Cert.StepDownRefIdeal.Facts) (hStepUp : Cert.StepUp.Facts) (hStepUpIdeal : Cert.StepUpIdeal.Facts) (hStepUpRefIdeal : Cert.StepUpRefIdeal.Facts) (hStepSmall : Cert.StepSmall.Facts) (hStepSmallIdeal : Cert.StepSmallIdeal.Facts) (hStepSmallRefIdeal : Cert.StepSmallRefIdeal.Facts) (hNorm : Cert.Norm.Facts) (hNormIdeal : Cert.NormIdeal.Facts) (hNormRefIdeal : Cert.NormRefIdeal.Facts) (hTail : Cert.Tail.Facts) (hTailIdeal : Cert.TailIdeal.Facts) (hTailRefIdeal : Cert.TailRefIdeal.Facts) (hPre_finite : Cert.Pre_finite.Facts) (hPre_finite_later : Cert.Pre_finite_later.Facts) (hOn_rows_written : Cert.On_rows_written.Facts),
    quiescent_Attn6 (hAttn6 := hAttn6)
    ∧ quiescent_Attn6Ideal (hAttn6Ideal := hAttn6Ideal)
    ∧ quiescent_Attn6Ideal_pre_finite (hAttn6Ideal := hAttn6Ideal) (hPre_finite := hPre_finite)
    ∧ quiescent_AttnGrad6Ideal (hAttnGrad6Ideal := hAttnGrad6Ideal)
    ∧ quiescent_AttnGrad6Ideal_pre_finite (hAttnGrad6Ideal := hAttnGrad6Ideal) (hPre_finite := hPre_finite)
    ∧ quiescent_Attn4 (hAttn4 := hAttn4)
    ∧ quiescent_Attn4Ideal (hAttn4Ideal := hAttn4Ideal)
    ∧ quiescent_Attn4Ideal_pre_finite_later (hAttn4Ideal := hAttn4Ideal) (hPre_finite_later := hPre_finite_later)
    ∧ quiescent_AttnGrad4Ideal (hAttnGrad4Ideal := hAttnGrad4Ideal)
    ∧ quiescent_AttnGrad4Ideal_pre_finite_later (hAttnGrad4Ideal := hAttnGrad4Ideal) (hPre_finite_later := hPre_finite_later)
    ∧ quiescent_Attn2 (hAttn2 := hAttn2)
    ∧ quiescent_Attn2Ideal (hAttn2Ideal := hAttn2Ideal)
    ∧ quiescent_Attn2Ideal_pre_finite_later (hAttn2Ideal := hAttn2Ideal) (hPre_finite_later := hPre_finite_later)
    ∧ quiescent_AttnGrad2Ideal (hAttnGrad2Ideal := hAttnGrad2Ideal)
    ∧ quiescent_AttnGrad2Ideal_pre_finite_later (hAttnGrad2Ideal := hAttnGrad2Ideal) (hPre_finite_later := hPre_finite_later)
    ∧ quiescent_Attn0 (hAttn0 := hAttn0)
    ∧ quiescent_Attn0Ideal (hAttn0Ideal := hAttn0Ideal)
    ∧ quiescent_Attn0Ideal_pre_finite_later (hAttn0Ideal := hAttn0Ideal) (hPre_finite_later := hPre_finite_later)
    ∧ quiescent_AttnGrad0Ideal (hAttnGrad0Ideal := hAttnGrad0Ideal)
    ∧ quiescent_AttnGrad0Ideal_pre_finite_later (hAttnGrad0Ideal := hAttnGrad0Ideal) (hPre_finite_later := hPre_finite_later)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_In (hIn := hIn)
    ∧ quiescent_InIdeal (hInIdeal := hInIdeal)
    ∧ quiescent_InRefIdeal (hInRefIdeal := hInRefIdeal)
    ∧ quiescent_Proj (hProj := hProj)
    ∧ quiescent_ProjIdeal (hProjIdeal := hProjIdeal)
    ∧ quiescent_ProjRefIdeal (hProjRefIdeal := hProjRefIdeal)
    ∧ quiescent_Kv (hKv := hKv)
    ∧ quiescent_KvIdeal (hKvIdeal := hKvIdeal)
    ∧ quiescent_KvRefIdeal (hKvRefIdeal := hKvRefIdeal)
    ∧ quiescent_Ple (hPle := hPle)
    ∧ quiescent_PleIdeal (hPleIdeal := hPleIdeal)
    ∧ quiescent_PleRefIdeal (hPleRefIdeal := hPleRefIdeal)
    ∧ quiescent_DownW (hDownW := hDownW)
    ∧ quiescent_DownWIdeal (hDownWIdeal := hDownWIdeal)
    ∧ quiescent_DownWRefIdeal (hDownWRefIdeal := hDownWRefIdeal)
    ∧ quiescent_DownX (hDownX := hDownX)
    ∧ quiescent_DownXIdeal (hDownXIdeal := hDownXIdeal)
    ∧ quiescent_DownXRefIdeal (hDownXRefIdeal := hDownXRefIdeal)
    ∧ quiescent_UpW (hUpW := hUpW)
    ∧ quiescent_UpWIdeal (hUpWIdeal := hUpWIdeal)
    ∧ quiescent_UpWRefIdeal (hUpWRefIdeal := hUpWRefIdeal)
    ∧ quiescent_UpX (hUpX := hUpX)
    ∧ quiescent_UpXIdeal (hUpXIdeal := hUpXIdeal)
    ∧ quiescent_UpXRefIdeal (hUpXRefIdeal := hUpXRefIdeal)
    ∧ quiescent_InW (hInW := hInW)
    ∧ quiescent_InWIdeal (hInWIdeal := hInWIdeal)
    ∧ quiescent_InWRefIdeal (hInWRefIdeal := hInWRefIdeal)
    ∧ quiescent_InX (hInX := hInX)
    ∧ quiescent_InXIdeal (hInXIdeal := hInXIdeal)
    ∧ quiescent_InXRefIdeal (hInXRefIdeal := hInXRefIdeal)
    ∧ quiescent_ProjW (hProjW := hProjW)
    ∧ quiescent_ProjWIdeal (hProjWIdeal := hProjWIdeal)
    ∧ quiescent_ProjWRefIdeal (hProjWRefIdeal := hProjWRefIdeal)
    ∧ quiescent_ProjX (hProjX := hProjX)
    ∧ quiescent_ProjXIdeal (hProjXIdeal := hProjXIdeal)
    ∧ quiescent_ProjXRefIdeal (hProjXRefIdeal := hProjXRefIdeal)
    ∧ quiescent_KvW (hKvW := hKvW)
    ∧ quiescent_KvWIdeal (hKvWIdeal := hKvWIdeal)
    ∧ quiescent_KvWRefIdeal (hKvWRefIdeal := hKvWRefIdeal)
    ∧ quiescent_KvX (hKvX := hKvX)
    ∧ quiescent_KvXIdeal (hKvXIdeal := hKvXIdeal)
    ∧ quiescent_KvXRefIdeal (hKvXRefIdeal := hKvXRefIdeal)
    ∧ quiescent_PleW (hPleW := hPleW)
    ∧ quiescent_PleWIdeal (hPleWIdeal := hPleWIdeal)
    ∧ quiescent_PleWRefIdeal (hPleWRefIdeal := hPleWRefIdeal)
    ∧ quiescent_StepRows (hStepRows := hStepRows)
    ∧ quiescent_StepRowsIdeal (hStepRowsIdeal := hStepRowsIdeal)
    ∧ quiescent_StepRowsRefIdeal (hStepRowsRefIdeal := hStepRowsRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepKvf (hStepKvf := hStepKvf)
    ∧ quiescent_StepKvfIdeal (hStepKvfIdeal := hStepKvfIdeal)
    ∧ quiescent_StepKvfRefIdeal (hStepKvfRefIdeal := hStepKvfRefIdeal)
    ∧ quiescent_StepLb (hStepLb := hStepLb)
    ∧ quiescent_StepLbIdeal (hStepLbIdeal := hStepLbIdeal)
    ∧ quiescent_StepLbRefIdeal (hStepLbRefIdeal := hStepLbRefIdeal)
    ∧ quiescent_StepGate (hStepGate := hStepGate)
    ∧ quiescent_StepGateIdeal (hStepGateIdeal := hStepGateIdeal)
    ∧ quiescent_StepGateRefIdeal (hStepGateRefIdeal := hStepGateRefIdeal)
    ∧ quiescent_StepPle (hStepPle := hStepPle)
    ∧ quiescent_StepPleIdeal (hStepPleIdeal := hStepPleIdeal)
    ∧ quiescent_StepPleRefIdeal (hStepPleRefIdeal := hStepPleRefIdeal)
    ∧ quiescent_StepDown (hStepDown := hStepDown)
    ∧ quiescent_StepDownIdeal (hStepDownIdeal := hStepDownIdeal)
    ∧ quiescent_StepDownRefIdeal (hStepDownRefIdeal := hStepDownRefIdeal)
    ∧ quiescent_StepUp (hStepUp := hStepUp)
    ∧ quiescent_StepUpIdeal (hStepUpIdeal := hStepUpIdeal)
    ∧ quiescent_StepUpRefIdeal (hStepUpRefIdeal := hStepUpRefIdeal)
    ∧ quiescent_StepSmall (hStepSmall := hStepSmall)
    ∧ quiescent_StepSmallIdeal (hStepSmallIdeal := hStepSmallIdeal)
    ∧ quiescent_StepSmallRefIdeal (hStepSmallRefIdeal := hStepSmallRefIdeal)
    ∧ quiescent_Norm (hNorm := hNorm)
    ∧ quiescent_NormIdeal (hNormIdeal := hNormIdeal)
    ∧ quiescent_NormRefIdeal (hNormRefIdeal := hNormRefIdeal)
    ∧ quiescent_Tail (hTail := hTail)
    ∧ quiescent_TailIdeal (hTailIdeal := hTailIdeal)
    ∧ quiescent_TailRefIdeal (hTailRefIdeal := hTailRefIdeal)
    ∧ preserves_Attn6_Attn6Ideal
    ∧ algebraic_Attn6Ideal_AttnGrad6Ideal_on_rows_written_pre_finite (hAttn6Ideal := hAttn6Ideal) (hAttnGrad6Ideal := hAttnGrad6Ideal) (hPre_finite := hPre_finite) (hOn_rows_written := hOn_rows_written)
    ∧ preserves_Attn4_Attn4Ideal
    ∧ algebraic_Attn4Ideal_AttnGrad4Ideal_pre_finite_later (hAttn4Ideal := hAttn4Ideal) (hAttnGrad4Ideal := hAttnGrad4Ideal) (hPre_finite_later := hPre_finite_later)
    ∧ preserves_Attn2_Attn2Ideal
    ∧ algebraic_Attn2Ideal_AttnGrad2Ideal_pre_finite_later (hAttn2Ideal := hAttn2Ideal) (hAttnGrad2Ideal := hAttnGrad2Ideal) (hPre_finite_later := hPre_finite_later)
    ∧ preserves_Attn0_Attn0Ideal
    ∧ algebraic_Attn0Ideal_AttnGrad0Ideal_pre_finite_later (hAttn0Ideal := hAttn0Ideal) (hAttnGrad0Ideal := hAttnGrad0Ideal) (hPre_finite_later := hPre_finite_later)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_In_InIdeal
    ∧ algebraic_InIdeal_InRefIdeal (hInIdeal := hInIdeal) (hInRefIdeal := hInRefIdeal)
    ∧ preserves_Proj_ProjIdeal
    ∧ algebraic_ProjIdeal_ProjRefIdeal (hProjIdeal := hProjIdeal) (hProjRefIdeal := hProjRefIdeal)
    ∧ preserves_Kv_KvIdeal
    ∧ algebraic_KvIdeal_KvRefIdeal (hKvIdeal := hKvIdeal) (hKvRefIdeal := hKvRefIdeal)
    ∧ preserves_Ple_PleIdeal
    ∧ algebraic_PleIdeal_PleRefIdeal (hPleIdeal := hPleIdeal) (hPleRefIdeal := hPleRefIdeal)
    ∧ preserves_DownW_DownWIdeal
    ∧ algebraic_DownWIdeal_DownWRefIdeal (hDownWIdeal := hDownWIdeal) (hDownWRefIdeal := hDownWRefIdeal)
    ∧ preserves_DownX_DownXIdeal
    ∧ algebraic_DownXIdeal_DownXRefIdeal (hDownXIdeal := hDownXIdeal) (hDownXRefIdeal := hDownXRefIdeal)
    ∧ preserves_UpW_UpWIdeal
    ∧ algebraic_UpWIdeal_UpWRefIdeal (hUpWIdeal := hUpWIdeal) (hUpWRefIdeal := hUpWRefIdeal)
    ∧ preserves_UpX_UpXIdeal
    ∧ algebraic_UpXIdeal_UpXRefIdeal (hUpXIdeal := hUpXIdeal) (hUpXRefIdeal := hUpXRefIdeal)
    ∧ preserves_InW_InWIdeal
    ∧ algebraic_InWIdeal_InWRefIdeal (hInWIdeal := hInWIdeal) (hInWRefIdeal := hInWRefIdeal)
    ∧ preserves_InX_InXIdeal
    ∧ algebraic_InXIdeal_InXRefIdeal (hInXIdeal := hInXIdeal) (hInXRefIdeal := hInXRefIdeal)
    ∧ preserves_ProjW_ProjWIdeal
    ∧ algebraic_ProjWIdeal_ProjWRefIdeal (hProjWIdeal := hProjWIdeal) (hProjWRefIdeal := hProjWRefIdeal)
    ∧ preserves_ProjX_ProjXIdeal
    ∧ algebraic_ProjXIdeal_ProjXRefIdeal (hProjXIdeal := hProjXIdeal) (hProjXRefIdeal := hProjXRefIdeal)
    ∧ preserves_KvW_KvWIdeal
    ∧ algebraic_KvWIdeal_KvWRefIdeal (hKvWIdeal := hKvWIdeal) (hKvWRefIdeal := hKvWRefIdeal)
    ∧ preserves_KvX_KvXIdeal
    ∧ algebraic_KvXIdeal_KvXRefIdeal (hKvXIdeal := hKvXIdeal) (hKvXRefIdeal := hKvXRefIdeal)
    ∧ preserves_PleW_PleWIdeal
    ∧ algebraic_PleWIdeal_PleWRefIdeal (hPleWIdeal := hPleWIdeal) (hPleWRefIdeal := hPleWRefIdeal)
    ∧ preserves_StepRows_StepRowsIdeal
    ∧ algebraic_StepRowsIdeal_StepRowsRefIdeal (hStepRowsIdeal := hStepRowsIdeal) (hStepRowsRefIdeal := hStepRowsRefIdeal)
    ∧ preserves_StepIn_StepInIdeal
    ∧ algebraic_StepInIdeal_StepInRefIdeal (hStepInIdeal := hStepInIdeal) (hStepInRefIdeal := hStepInRefIdeal)
    ∧ preserves_StepKvf_StepKvfIdeal
    ∧ algebraic_StepKvfIdeal_StepKvfRefIdeal (hStepKvfIdeal := hStepKvfIdeal) (hStepKvfRefIdeal := hStepKvfRefIdeal)
    ∧ preserves_StepLb_StepLbIdeal
    ∧ algebraic_StepLbIdeal_StepLbRefIdeal (hStepLbIdeal := hStepLbIdeal) (hStepLbRefIdeal := hStepLbRefIdeal)
    ∧ preserves_StepGate_StepGateIdeal
    ∧ algebraic_StepGateIdeal_StepGateRefIdeal (hStepGateIdeal := hStepGateIdeal) (hStepGateRefIdeal := hStepGateRefIdeal)
    ∧ preserves_StepPle_StepPleIdeal
    ∧ algebraic_StepPleIdeal_StepPleRefIdeal (hStepPleIdeal := hStepPleIdeal) (hStepPleRefIdeal := hStepPleRefIdeal)
    ∧ preserves_StepDown_StepDownIdeal
    ∧ algebraic_StepDownIdeal_StepDownRefIdeal (hStepDownIdeal := hStepDownIdeal) (hStepDownRefIdeal := hStepDownRefIdeal)
    ∧ preserves_StepUp_StepUpIdeal
    ∧ algebraic_StepUpIdeal_StepUpRefIdeal (hStepUpIdeal := hStepUpIdeal) (hStepUpRefIdeal := hStepUpRefIdeal)
    ∧ preserves_StepSmall_StepSmallIdeal
    ∧ algebraic_StepSmallIdeal_StepSmallRefIdeal (hStepSmallIdeal := hStepSmallIdeal) (hStepSmallRefIdeal := hStepSmallRefIdeal)
    ∧ preserves_Norm_NormIdeal
    ∧ algebraic_NormIdeal_NormRefIdeal (hNormIdeal := hNormIdeal) (hNormRefIdeal := hNormRefIdeal)
    ∧ preserves_Tail_TailIdeal
    ∧ algebraic_TailIdeal_TailRefIdeal (hTailIdeal := hTailIdeal) (hTailRefIdeal := hTailRefIdeal)
-- ==== On_rows_written.lean ====
abbrev S2048x2048 : Shape := ⟨2, ![2048, 2048]⟩
abbrev S2048x4096 : Shape := ⟨2, ![2048, 4096]⟩
abbrev S16x2048 : Shape := ⟨2, ![16, 2048]⟩
abbrev S_ : Shape := ⟨0, ![]⟩
abbrev S16x1x2048 : Shape := ⟨3, ![16, 1, 2048]⟩

class Facts : Prop where
  bcast_S_S2048x2048 : S_.BroadcastsInDim S2048x2048 (![] : Fin 0 → Fin S2048x2048.rank)
  bcast_S_S16x1x2048 : S_.BroadcastsInDim S16x1x2048 (![] : Fin 0 → Fin S16x1x2048.rank)

variable [Facts]

def fn {F : FTy → Type} [FloatOps F] (main_arg0 : FVec F S2048x2048 .f32) (main_arg1 : FVec F S2048x4096 .bf16) (main_arg2 : FVec F S16x2048 .f32) (main_arg3 : FVec F S2048x2048 .bf16) : IVec S2048x2048 1 × IVec S2048x2048 1 × IVec S2048x2048 1 × IVec S16x1x2048 1 :=
  let main_v0 : IVec S2048x2048 32 := iotaInDim S2048x2048 32 0
  let main_c : IVec S_ 32 := constantI S_ 32 1536#32
  let main_v1 : IVec S2048x2048 32 := broadcastInDim S2048x2048 ![] bcast_S_S2048x2048 main_c
  let main_v2 : IVec S2048x2048 1 := cmpi .sge main_v0 main_v1
  let main_c_0 : IVec S_ 1 := constantI S_ 1 1#1
  let main_v3 : IVec S2048x2048 1 := broadcastInDim S2048x2048 ![] bcast_S_S2048x2048 main_c_0
  let main_c_1 : IVec S_ 1 := constantI S_ 1 1#1
  let main_v4 : IVec S2048x2048 1 := broadcastInDim S2048x2048 ![] bcast_S_S2048x2048 main_c_1
  let main_c_2 : IVec S_ 1 := constantI S_ 1 1#1
  let main_v5 : IVec S16x1x2048 1 := broadcastInDim S16x1x2048 ![] bcast_S_S16x1x2048 main_c_2
  (main_v2, main_v3, main_v4, main_v5)
-- ==== Pre_finite.lean ====
abbrev S2048x2048 : Shape := ⟨2, ![2048, 2048]⟩
abbrev S2048x4096 : Shape := ⟨2, ![2048, 4096]⟩
abbrev S16x2048 : Shape := ⟨2, ![16, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bitsLt_bf16_f32 : FTy.bits .bf16 < FTy.bits .f32
  bcast_S_S2048x4096 : S_.BroadcastsInDim S2048x4096 (![] : Fin 0 → Fin S2048x4096.rank)
  reducesTo_S2048x4096_S_d0_1 : S2048x4096.ReducesTo [0, 1] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_v14 : IVec S_ 1) (main_v16 : FVec F S2048x2048 .f32) (main_cst_4 : FVec F S_ .f32) : IVec S_ 1 :=
  let main_v17 : FVec F S2048x2048 .f32 := broadcastInDim S2048x2048 ![] bcast_S_S2048x2048 main_cst_4
  let main_v18 : IVec S2048x2048 1 := cmpf .olt main_v16 main_v17
  let main_c_5 : IVec S_ 1 := constantI S_ 1 1#1
  let main_v19 : IVec S_ 1 := (fun x v => Host.reduce IntOp.andi x v reducesTo_S2048x2048_S_d0_1 h_S_) main_v18 main_c_5
  let main_v20 : IVec S_ 1 := andi main_v14 main_v19
  main_v20

def fn {F : FTy → Type} [FloatOps F] (main_arg0 : FVec F S2048x2048 .f32) (main_arg1 : FVec F S2048x4096 .bf16) (main_arg2 : FVec F S16x2048 .f32) (main_arg3 : FVec F S2048x2048 .bf16) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x4096 .f32 := (extf .f32 · bitsLt_bf16_f32) main_arg1
  let main_v5 : FVec F S2048x4096 .f32 := Host.absf main_v4
  let main_cst_0 : FVec F S_ .f32 := constant S_ .f32 0x7F800000#32
  let main_v6 : FVec F S2048x4096 .f32 := broadcastInDim S2048x4096 ![] bcast_S_S2048x4096 main_cst_0
  let main_v7 : IVec S2048x4096 1 := cmpf .olt main_v5 main_v6
  let main_c_1 : IVec S_ 1 := constantI S_ 1 1#1
  let main_v8 : IVec S_ 1 := (fun x v => Host.reduce IntOp.andi x v reducesTo_S2048x4096_S_d0_1 h_S_) main_v7 main_c_1
  let main_v9 : IVec S_ 1 := andi main_v3 main_v8
  let main_v10 : FVec F S16x2048 .f32 := Host.absf main_arg2
  let main_cst_2 : FVec F S_ .f32 := constant S_ .f32 0x7F800000#32
  let main_v11 : FVec F S16x2048 .f32 := broadcastInDim S16x2048 ![] bcast_S_S16x2048 main_cst_2
  let main_v12 : IVec S16x2048 1 := cmpf .olt main_v10 main_v11
  let main_c_3 : IVec S_ 1 := constantI S_ 1 1#1
  let main_v13 : IVec S_ 1 := (fun x v => Host.reduce IntOp.andi x v reducesTo_S16x2048_S_d0_1 h_S_) main_v12 main_c_3
  let main_v14 : IVec S_ 1 := andi main_v9 main_v13
  let main_v15 : FVec F S2048x2048 .f32 := (extf .f32 · bitsLt_bf16_f32) main_arg3
  let main_v16 : FVec F S2048x2048 .f32 := Host.absf main_v15
  let main_cst_4 : FVec F S_ .f32 := constant S_ .f32 0x7F800000#32
  fn_part1 (F := F) main_v14 main_v16 main_cst_4
-- ==== Pre_finite_later.lean ====
abbrev S2048x2048 : Shape := ⟨2, ![2048, 2048]⟩
abbrev S2048x4096 : Shape := ⟨2, ![2048, 4096]⟩
abbrev S16x2048 : Shape := ⟨2, ![16, 2048]⟩
abbrev S16x1x2048 : Shape := ⟨3, ![16, 1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bitsLt_bf16_f32 : FTy.bits .bf16 < FTy.bits .f32
  bcast_S_S2048x4096 : S_.BroadcastsInDim S2048x4096 (![] : Fin 0 → Fin S2048x4096.rank)
  reducesTo_S2048x4096_S_d0_1 : S2048x4096.ReducesTo [0, 1] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_v14 : IVec S_ 1) (main_v16 : FVec F S2048x2048 .f32) (main_cst_4 : FVec F S_ .f32) : IVec S_ 1 :=
  let main_v17 : FVec F S2048x2048 .f32 := broadcastInDim S2048x2048 ![] bcast_S_S2048x2048 main_cst_4
  let main_v18 : IVec S2048x2048 1 := cmpf .olt main_v16 main_v17
  let main_c_5 : IVec S_ 1 := constantI S_ 1 1#1
  let main_v19 : IVec S_ 1 := (fun x v => Host.reduce IntOp.andi x v reducesTo_S2048x2048_S_d0_1 h_S_) main_v18 main_c_5
  let main_v20 : IVec S_ 1 := andi main_v14 main_v19
  main_v20

def fn {F : FTy → Type} [FloatOps F] (main_arg0 : FVec F S2048x2048 .f32) (main_arg1 : FVec F S2048x4096 .bf16) (main_arg2 : FVec F S16x2048 .f32) (main_arg3 : FVec F S2048x2048 .bf16) (main_arg4 : FVec F S2048x2048 .bf16) (main_arg5 : FVec F S2048x2048 .f32) (main_arg6 : FVec F S2048x2048 .f32) (main_arg7 : FVec F S16x1x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x4096 .f32 := (extf .f32 · bitsLt_bf16_f32) main_arg1
  let main_v5 : FVec F S2048x4096 .f32 := Host.absf main_v4
  let main_cst_0 : FVec F S_ .f32 := constant S_ .f32 0x7F800000#32
  let main_v6 : FVec F S2048x4096 .f32 := broadcastInDim S2048x4096 ![] bcast_S_S2048x4096 main_cst_0
  let main_v7 : IVec S2048x4096 1 := cmpf .olt main_v5 main_v6
  let main_c_1 : IVec S_ 1 := constantI S_ 1 1#1
  let main_v8 : IVec S_ 1 := (fun x v => Host.reduce IntOp.andi x v reducesTo_S2048x4096_S_d0_1 h_S_) main_v7 main_c_1
  let main_v9 : IVec S_ 1 := andi main_v3 main_v8
  let main_v10 : FVec F S16x2048 .f32 := Host.absf main_arg2
  let main_cst_2 : FVec F S_ .f32 := constant S_ .f32 0x7F800000#32
  let main_v11 : FVec F S16x2048 .f32 := broadcastInDim S16x2048 ![] bcast_S_S16x2048 main_cst_2
  let main_v12 : IVec S16x2048 1 := cmpf .olt main_v10 main_v11
  let main_c_3 : IVec S_ 1 := constantI S_ 1 1#1
  let main_v13 : IVec S_ 1 := (fun x v => Host.reduce IntOp.andi x v reducesTo_S16x2048_S_d0_1 h_S_) main_v12 main_c_3
  let main_v14 : IVec S_ 1 := andi main_v9 main_v13
  let main_v15 : FVec F S2048x2048 .f32 := (extf .f32 · bitsLt_bf16_f32) main_arg3
  let main_v16 : FVec F S2048x2048 .f32 := Host.absf main_v15
  let main_cst_4 : FVec F S_ .f32 := constant S_ .f32 0x7F800000#32
  fn_part1 (F := F) main_v14 main_v16 main_cst_4
-- ==== Attn6.lean ====
abbrev S2048x2048 : Shape := ⟨2, ![2048, 2048]⟩
abbrev S2048x4096 : Shape := ⟨2, ![2048, 4096]⟩
abbrev S16x2048 : Shape := ⟨2, ![16, 2048]⟩
abbrev S16x2048x1 : Shape := ⟨3, ![16, 2048, 1]⟩
abbrev S16x1x2048 : Shape := ⟨3, ![16, 1, 2048]⟩
abbrev S2048x16x128 : Shape := ⟨3, ![2048, 16, 128]⟩
abbrev S_ : Shape := ⟨0, ![]⟩
abbrev S16x2048x2048 : Shape := ⟨3, ![16, 2048, 2048]⟩
abbrev S2048 : Shape := ⟨1, ![2048]⟩
abbrev S2048x1 : Shape := ⟨2, ![2048, 1]⟩
abbrev S1x2048 : Shape := ⟨2, ![1, 2048]⟩
abbrev S256x128 : Shape := ⟨2, ![256, 128]⟩
abbrev S2048x128 : Shape := ⟨2, ![2048, 128]⟩
abbrev S1x256x1 : Shape := ⟨3, ![1, 256, 1]⟩
abbrev S1x1x2048 : Shape := ⟨3, ![1, 1, 2048]⟩
abbrev S256x2048 : Shape := ⟨2, ![256, 2048]⟩
abbrev S256x1 : Shape := ⟨2, ![256, 1]⟩
abbrev S256 : Shape := ⟨1, ![256]⟩

abbrev nBuf : Space → Nat
  | .hbm => 47
  | .vmem => 25
  | .smem => 0
  | _ => 0

abbrev bufTy : (tb : Table) → Fin (tcTables nBuf tb) → BufTy
  | .hbm, ⟨0, _⟩ => ⟨S2048x2048, .f32⟩
  | .hbm, ⟨1, _⟩ => ⟨S2048x4096, .bf16⟩
  | .hbm, ⟨2, _⟩ => ⟨S16x2048, .f32⟩
  | .hbm, ⟨3, _⟩ => ⟨S2048x2048, .bf16⟩
  | .hbm, ⟨4, _⟩ => ⟨S16x2048x1, .f32⟩
  | .hbm, ⟨5, _⟩ => ⟨S16x1x2048, .f32⟩
  | .hbm, ⟨6, _⟩ => ⟨S2048x2048, .bf16⟩
  | .hbm, ⟨7, _⟩ => ⟨S2048x2048, .f32⟩
  | .hbm, ⟨8, _⟩ => ⟨S2048x16x128, .f32⟩
  | .hbm, ⟨9, _⟩ => ⟨S2048x16x128, .f32⟩
  | .hbm, ⟨10, _⟩ => ⟨S_, .f32⟩
  | .hbm, ⟨11, _⟩ => ⟨S2048x16x128, .f32⟩
  | .hbm, ⟨12, _⟩ => ⟨S2048x16x128, .f32⟩
  | .hbm, ⟨13, _⟩ => ⟨S16x2048x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S16x2048x2048, .i1⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S16x2048x1, .f32⟩
  | .hbm, ⟨42, _⟩ => ⟨S16x2048x1, .f32⟩
  | .hbm, ⟨43, _⟩ => ⟨S2048x2048, .bf16⟩
  | .hbm, ⟨44, _⟩ => ⟨S2048x2048, .f32⟩
  | .hbm, ⟨45, _⟩ => ⟨S2048x2048, .f32⟩
  | .hbm, ⟨46, _⟩ => ⟨S16x1x2048, .f32⟩
  | .local _ .vmem, ⟨0, _⟩ => ⟨S256x128, .f32⟩
  | .local _ .vmem, ⟨1, _⟩ => ⟨S256x128, .f32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x256x1, .f32⟩
  | .local _ .vmem, ⟨7, _⟩ => ⟨S1x256x1, .f32⟩
  | .local _ .vmem, ⟨8, _⟩ => ⟨S1x1x2048, .f32⟩
  | .local _ .vmem, ⟨9, _⟩ => ⟨S1x1x2048, .f32⟩
  | .local _ .vmem, ⟨10, _⟩ => ⟨S1x256x1, .f32⟩
  | .local _ .vmem, ⟨11, _⟩ => ⟨S1x256x1, .f32⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S1x1x2048, .f32⟩
  | .local _ .vmem, ⟨21, _⟩ => ⟨S1x1x2048, .f32⟩
  | .local _ .vmem, ⟨22, _⟩ => ⟨S2048x128, .f32⟩
  | .local _ .vmem, ⟨23, _⟩ => ⟨S2048x128, .f32⟩
  | .local _ .vmem, ⟨24, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev main_v32_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v67 : BitVec 1 := Scalar.cmpi .eq arg1 c1_i32
  let v68 : BitVec 32 := Scalar.extui v67
  let c0_i32_42 : BitVec 32 := 0#32
  let v69 : BitVec 1 := Scalar.cmpi .ne v68 c0_i32_42
  v69

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Attn6Ideal.lean ====
variable {F : FTy → Type} [FloatOps F] [Named F]
def κ : String → Option EReal := fun
  | "mask" => some ⊥
  | _ => none
-- ==== AttnGrad6Ideal.lean ====
abbrev S2048x2048 : Shape := ⟨2, ![2048, 2048]⟩
abbrev S2048x4096 : Shape := ⟨2, ![2048, 4096]⟩
abbrev S16x2048 : Shape := ⟨2, ![16, 2048]⟩
abbrev S512x2048 : Shape := ⟨2, ![512, 2048]⟩
abbrev S512x16x128 : Shape := ⟨3, ![512, 16, 128]⟩
abbrev S_ : Shape := ⟨0, ![]⟩
abbrev S2048x16x128 : Shape := ⟨3, ![2048, 16, 128]⟩
abbrev S16x512x2048 : Shape := ⟨3, ![16, 512, 2048]⟩
abbrev S16x512 : Shape := ⟨2, ![16, 512]⟩
abbrev S16x512x1 : Shape := ⟨3, ![16, 512, 1]⟩
abbrev S16x1x2048 : Shape := ⟨3, ![16, 1, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S16x128x512 : Shape := ⟨3, ![16, 128, 512]⟩
abbrev S16x128x2048 : Shape := ⟨3, ![16, 128, 2048]⟩
abbrev S16x2048x128 : Shape := ⟨3, ![16, 2048, 128]⟩
abbrev S16x512x128 : Shape := ⟨3, ![16, 512, 128]⟩
abbrev S1536x2048 : Shape := ⟨2, ![1536, 2048]⟩

abbrev nBuf : Space → Nat
  | .hbm => 134
  | .vmem => 0
  | .smem => 0
  | _ => 0

abbrev hbmTy0_0 (i : Nat) : BufTy := match i % 128 with
  | 0 => ⟨S2048x2048, .f32⟩
  | 1 => ⟨S2048x4096, .bf16⟩
  | 2 => ⟨S16x2048, .f32⟩
  | 3 => ⟨S2048x2048, .bf16⟩
  | 4 => ⟨S2048x2048, .bf16⟩
  | 5 => ⟨S2048x2048, .f32⟩
  | 6 => ⟨S2048x2048, .bf16⟩
  | 7 => ⟨S2048x2048, .f32⟩
  | 8 => ⟨S512x2048, .f32⟩
  | 9 => ⟨S512x16x128, .f32⟩
  | 10 => ⟨S_, .f32⟩
  | 11 => ⟨S512x16x128, .f32⟩
  | 12 => ⟨S512x16x128, .f32⟩
  | 13 => ⟨S2048x16x128, .f32⟩
  | 14 => ⟨S2048x16x128, .f32⟩
  | 15 => ⟨S16x512x2048, .f32⟩
  | 16 => ⟨S16x512, .f32⟩
  | 17 => ⟨S16x512x1, .f32⟩
  | 18 => ⟨S16x512x2048, .f32⟩
  | 19 => ⟨S16x512x2048, .f32⟩
  | 20 => ⟨S16x1x2048, .f32⟩
  | 21 => ⟨S16x512x2048, .f32⟩
  | 22 => ⟨S16x512x2048, .f32⟩
  | 23 => ⟨S512, .i32⟩
  | 24 => ⟨S_, .i32⟩
  | 25 => ⟨S512, .i32⟩
  | 26 => ⟨S512, .i32⟩
  | 27 => ⟨S512x1, .i32⟩
  | 28 => ⟨S2048, .i32⟩
  | 29 => ⟨S1x2048, .i32⟩
  | 30 => ⟨S512x2048, .i32⟩
  | 31 => ⟨S512x2048, .i32⟩
  | 32 => ⟨S512x2048, .i1⟩
  | 33 => ⟨S_, .f32⟩
  | 34 => ⟨S_, .f32⟩
  | 35 => ⟨S16x512x2048, .i1⟩
  | 36 => ⟨S16x512x2048, .f32⟩
  | 37 => ⟨S16x512x2048, .f32⟩
  | 38 => ⟨S_, .f32⟩
  | 39 => ⟨S16x512x2048, .f32⟩
  | 40 => ⟨S_, .f32⟩
  | 41 => ⟨S16x512, .f32⟩
  | 42 => ⟨S16x512x1, .f32⟩
  | 43 => ⟨S16x512x2048, .f32⟩
  | 44 => ⟨S16x512x2048, .i1⟩
  | 45 => ⟨S16x512x2048, .f32⟩
  | 46 => ⟨S_, .f32⟩
  | 47 => ⟨S16x512, .f32⟩
  | 48 => ⟨S_, .f32⟩
  | 49 => ⟨S16x512, .f32⟩
  | 50 => ⟨S16x512, .f32⟩
  | 51 => ⟨S_, .f32⟩
  | 52 => ⟨S16x512, .f32⟩
  | 53 => ⟨S16x512, .i1⟩
  | 54 => ⟨S_, .f32⟩
  | 55 => ⟨S16x512, .f32⟩
  | 56 => ⟨S16x512, .i1⟩
  | 57 => ⟨S_, .f32⟩
  | 58 => ⟨S16x512, .f32⟩
  | 59 => ⟨S_, .f32⟩
  | 60 => ⟨S16x512, .f32⟩
  | 61 => ⟨S_, .f32⟩
  | 62 => ⟨S16x512, .f32⟩
  | 63 => ⟨S16x512, .f32⟩
  | 64 => ⟨S16x512, .f32⟩
  | 65 => ⟨S16x512x1, .f32⟩
  | 66 => ⟨S16x512x2048, .f32⟩
  | 67 => ⟨S16x512x2048, .f32⟩
  | 68 => ⟨S16x512x2048, .f32⟩
  | 69 => ⟨S_, .f32⟩
  | 70 => ⟨S16x512, .f32⟩
  | 71 => ⟨S16x512x1, .f32⟩
  | 72 => ⟨S16x512x2048, .f32⟩
  | 73 => ⟨S16x512x2048, .f32⟩
  | 74 => ⟨S16x512x1, .f32⟩
  | 75 => ⟨S_, .f32⟩
  | 76 => ⟨S16x512x1, .f32⟩
  | 77 => ⟨S16x512x1, .f32⟩
  | 78 => ⟨S16x128x512, .f32⟩
  | 79 => ⟨S512x16x128, .f32⟩
  | 80 => ⟨S512x2048, .f32⟩
  | 81 => ⟨S512x2048, .bf16⟩
  | 82 => ⟨S512x2048, .f32⟩
  | 83 => ⟨S512x16x128, .f32⟩
  | 84 => ⟨S16x128x512, .f32⟩
  | 85 => ⟨S16x512x2048, .f32⟩
  | 86 => ⟨S16x128x2048, .f32⟩
  | 87 => ⟨S2048x16x128, .f32⟩
  | 88 => ⟨S16x512x2048, .f32⟩
  | 89 => ⟨S16x512x2048, .f32⟩
  | 90 => ⟨S16x512x2048, .f32⟩
  | 91 => ⟨S_, .f32⟩
  | 92 => ⟨S16x512, .f32⟩
  | 93 => ⟨S16x512x1, .f32⟩
  | 94 => ⟨S16x512x1, .f32⟩
  | 95 => ⟨S16x512x2048, .f32⟩
  | 96 => ⟨S16x512x2048, .f32⟩
  | 97 => ⟨S_, .f32⟩
  | 98 => ⟨S16x512, .f32⟩
  | 99 => ⟨S16x512x2048, .f32⟩
  | 100 => ⟨S16x512x2048, .f32⟩
  | 101 => ⟨S16x512x2048, .f32⟩
  | 102 => ⟨S_, .f32⟩
  | 103 => ⟨S16x512x2048, .f32⟩
  | 104 => ⟨S16x512x2048, .f32⟩
  | 105 => ⟨S16x512x2048, .f32⟩
  | 106 => ⟨S_, .f32⟩
  | 107 => ⟨S16x2048, .f32⟩
  | 108 => ⟨S16x1x2048, .f32⟩
  | 109 => ⟨S_, .f32⟩
  | 110 => ⟨S16x2048, .f32⟩
  | 111 => ⟨S_, .f32⟩
  | 112 => ⟨S16x512, .f32⟩
  | 113 => ⟨S16x512x1, .f32⟩
  | 114 => ⟨S_, .f32⟩
  | 115 => ⟨S16x512, .f32⟩
  | 116 => ⟨S_, .f32⟩
  | 117 => ⟨S16x2048, .f32⟩
  | 118 => ⟨S16x2048, .f32⟩
  | 119 => ⟨S16x2048x128, .f32⟩
  | 120 => ⟨S2048x16x128, .f32⟩
  | 121 => ⟨S16x512x128, .f32⟩
  | 122 => ⟨S512x16x128, .f32⟩
  | 123 => ⟨S2048x2048, .f32⟩
  | 124 => ⟨S2048x2048, .f32⟩
  | 125 => ⟨S_, .f32⟩
  | 126 => ⟨S512x16x128, .f32⟩
  | 127 => ⟨S512x16x128, .f32⟩
  | _ => ⟨S2048x2048, .f32⟩

abbrev hbmTy0_1 (i : Nat) : BufTy := match i % 128 with
  | 0 => ⟨S512x2048, .f32⟩
  | 1 => ⟨S512x2048, .bf16⟩
  | 2 => ⟨S16x1x2048, .f32⟩
  | 3 => ⟨S_, .bf16⟩
  | 4 => ⟨S1536x2048, .bf16⟩
  | 5 => ⟨S2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_call0_v0 : Ref sig .tc := ⟨.hbm, 34, rfl⟩
abbrev main_v27_1 : Ref sig .tc := ⟨.hbm, 35, rfl⟩
abbrev main_call0_v2 : Ref sig .tc := ⟨.hbm, 36, rfl⟩
abbrev main_v27_0 : Ref sig .tc := ⟨.hbm, 37, rfl⟩
abbrev main_call0_cst : Ref sig .tc := ⟨.hbm, 38, rfl⟩
abbrev main_v27_2 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call1_cst : Ref sig .tc := ⟨.hbm, 102, rfl⟩
abbrev main_call1_v0 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_19 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== Attn4.lean ====
abbrev S2048x2048 : Shape := ⟨2, ![2048, 2048]⟩
abbrev S2048x4096 : Shape := ⟨2, ![2048, 4096]⟩
abbrev S16x2048 : Shape := ⟨2, ![16, 2048]⟩
abbrev S16x1x2048 : Shape := ⟨3, ![16, 1, 2048]⟩
abbrev S16x2048x1 : Shape := ⟨3, ![16, 2048, 1]⟩
abbrev S2048x16x128 : Shape := ⟨3, ![2048, 16, 128]⟩
abbrev S_ : Shape := ⟨0, ![]⟩
abbrev S16x2048x2048 : Shape := ⟨3, ![16, 2048, 2048]⟩
abbrev S2048 : Shape := ⟨1, ![2048]⟩
abbrev S2048x1 : Shape := ⟨2, ![2048, 1]⟩
abbrev S1x2048 : Shape := ⟨2, ![1, 2048]⟩
abbrev S256x128 : Shape := ⟨2, ![256, 128]⟩
abbrev S1536x128 : Shape := ⟨2, ![1536, 128]⟩
abbrev S1x256x1 : Shape := ⟨3, ![1, 256, 1]⟩
abbrev S1x1x1536 : Shape := ⟨3, ![1, 1, 1536]⟩
abbrev S1x1536 : Shape := ⟨2, ![1, 1536]⟩
abbrev S256x1536 : Shape := ⟨2, ![256, 1536]⟩
abbrev S256x1 : Shape := ⟨2, ![256, 1]⟩
abbrev S256 : Shape := ⟨1, ![256]⟩
abbrev S1536 : Shape := ⟨1, ![1536]⟩

abbrev nBuf : Space → Nat
  | .hbm => 51
  | .vmem => 31
  | .smem => 0
  | _ => 0

abbrev bufTy : (tb : Table) → Fin (tcTables nBuf tb) → BufTy
  | .hbm, ⟨0, _⟩ => ⟨S2048x2048, .f32⟩
  | .hbm, ⟨1, _⟩ => ⟨S2048x4096, .bf16⟩
  | .hbm, ⟨2, _⟩ => ⟨S16x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S16x1x2048, .f32⟩
  | .hbm, ⟨8, _⟩ => ⟨S16x2048x1, .f32⟩
  | .hbm, ⟨9, _⟩ => ⟨S16x1x2048, .f32⟩
  | .hbm, ⟨10, _⟩ => ⟨S2048x2048, .bf16⟩
  | .hbm, ⟨11, _⟩ => ⟨S2048x2048, .f32⟩
  | .hbm, ⟨12, _⟩ => ⟨S2048x16x128, .f32⟩
  | .hbm, ⟨13, _⟩ => ⟨S2048x16x128, .f32⟩
  | .hbm, ⟨14, _⟩ => ⟨S_, .f32⟩
  | .hbm, ⟨15, _⟩ => ⟨S2048x16x128, .f32⟩
  | .hbm, ⟨16, _⟩ => ⟨S2048x16x128, .f32⟩
  | .hbm, ⟨17, _⟩ => ⟨S16x2048x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x1x2048, .f32⟩
  | .hbm, ⟨22, _⟩ => ⟨S16x2048x2048, .f32⟩
  | .hbm, ⟨23, _⟩ => ⟨S16x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S16x2048x2048, .i1⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x1, .f32⟩
  | .hbm, ⟨46, _⟩ => ⟨S16x2048x1, .f32⟩
  | .hbm, ⟨47, _⟩ => ⟨S2048x2048, .bf16⟩
  | .hbm, ⟨48, _⟩ => ⟨S2048x2048, .f32⟩
  | .hbm, ⟨49, _⟩ => ⟨S2048x2048, .f32⟩
  | .hbm, ⟨50, _⟩ => ⟨S16x1x2048, .f32⟩
  | .local _ .vmem, ⟨0, _⟩ => ⟨S256x128, .f32⟩
  | .local _ .vmem, ⟨1, _⟩ => ⟨S256x128, .f32⟩
  | .local _ .vmem, ⟨2, _⟩ => ⟨S1536x128, .bf16⟩
  | .local _ .vmem, ⟨3, _⟩ => ⟨S1536x128, .bf16⟩
  | .local _ .vmem, ⟨4, _⟩ => ⟨S1536x128, .bf16⟩
  | .local _ .vmem, ⟨5, _⟩ => ⟨S1536x128, .bf16⟩
  | .local _ .vmem, ⟨6, _⟩ => ⟨S1x256x1, .f32⟩
  | .local _ .vmem, ⟨7, _⟩ => ⟨S1x256x1, .f32⟩
  | .local _ .vmem, ⟨8, _⟩ => ⟨S1x1x1536, .f32⟩
  | .local _ .vmem, ⟨9, _⟩ => ⟨S1x1x1536, .f32⟩
  | .local _ .vmem, ⟨10, _⟩ => ⟨S1x256x1, .f32⟩
  | .local _ .vmem, ⟨11, _⟩ => ⟨S1x256x1, .f32⟩
  | .local _ .vmem, ⟨12, _⟩ => ⟨S256x128, .bf16⟩
  | .local _ .vmem, ⟨13, _⟩ => ⟨S256x128, .bf16⟩
  | .local _ .vmem, ⟨14, _⟩ => ⟨S1536x128, .f32⟩
  | .local _ .vmem, ⟨15, _⟩ => ⟨S1536x128, .f32⟩
  | .local _ .vmem, ⟨16, _⟩ => ⟨S1536x128, .f32⟩
  | .local _ .vmem, ⟨17, _⟩ => ⟨S1536x128, .f32⟩
  | .local _ .vmem, ⟨18, _⟩ => ⟨S1x1x1536, .f32⟩
  | .local _ .vmem, ⟨19, _⟩ => ⟨S1x1x1536, .f32⟩
  | .local _ .vmem, ⟨20, _⟩ => ⟨S256x128, .bf16⟩
  | .local _ .vmem, ⟨21, _⟩ => ⟨S256x128, .bf16⟩
  | .local _ .vmem, ⟨22, _⟩ => ⟨S1536x128, .f32⟩
  | .local _ .vmem, ⟨23, _⟩ => ⟨S1536x128, .f32⟩
  | .local _ .vmem, ⟨24, _⟩ => ⟨S1536x128, .f32⟩
  | .local _ .vmem, ⟨25, _⟩ => ⟨S1536x128, .f32⟩
  | .local _ .vmem, ⟨26, _⟩ => ⟨S1x1x1536, .f32⟩
  | .local _ .vmem, ⟨27, _⟩ => ⟨S1x1x1536, .f32⟩
  | .local _ .vmem, ⟨28, _⟩ => ⟨S1536x128, .f32⟩
  | .local _ .vmem, ⟨29, _⟩ => ⟨S1536x128, .f32⟩
  | .local _ .vmem, ⟨30, _⟩ => ⟨S1x1536, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v67 : BitVec 1 := Scalar.cmpi .eq arg1 c1_i32
  let v68 : BitVec 32 := Scalar.extui v67
  let c0_i32_42 : BitVec 32 := 0#32
  let v69 : BitVec 1 := Scalar.cmpi .ne v68 c0_i32_42
  v69

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1536x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1536x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1536x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1536x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Attn4Ideal.lean ====
abbrev S2048x2048 : Shape := ⟨2, ![2048, 2048]⟩
abbrev S2048x4096 : Shape := ⟨2, ![2048, 4096]⟩
abbrev S16x2048 : Shape := ⟨2, ![16, 2048]⟩
abbrev S16x1x2048 : Shape := ⟨3, ![16, 1, 2048]⟩
abbrev S16x2048x1 : Shape := ⟨3, ![16, 2048, 1]⟩
abbrev S2048x16x128 : Shape := ⟨3, ![2048, 16, 128]⟩
abbrev S_ : Shape := ⟨0, ![]⟩
abbrev S16x2048x2048 : Shape := ⟨3, ![16, 2048, 2048]⟩
abbrev S2048 : Shape := ⟨1, ![2048]⟩
abbrev S2048x1 : Shape := ⟨2, ![2048, 1]⟩
abbrev S1x2048 : Shape := ⟨2, ![1, 2048]⟩
abbrev S256x128 : Shape := ⟨2, ![256, 128]⟩
abbrev S1536x128 : Shape := ⟨2, ![1536, 128]⟩
abbrev S1x256x1 : Shape := ⟨3, ![1, 256, 1]⟩
abbrev S1x1x1536 : Shape := ⟨3, ![1, 1, 1536]⟩
abbrev S1x1536 : Shape := ⟨2, ![1, 1536]⟩
abbrev S256x1536 : Shape := ⟨2, ![256, 1536]⟩
abbrev S256x1 : Shape := ⟨2, ![256, 1]⟩
abbrev S256 : Shape := ⟨1, ![256]⟩
abbrev S1536 : Shape := ⟨1, ![1536]⟩

abbrev nBuf : Space → Nat
  | .hbm => 51
  | .vmem => 31
  | .smem => 0
  | _ => 0

abbrev bufTy : (tb : Table) → Fin (tcTables nBuf tb) → BufTy
  | .hbm, ⟨0, _⟩ => ⟨S2048x2048, .f32⟩
  | .hbm, ⟨1, _⟩ => ⟨S2048x4096, .bf16⟩
  | .hbm, ⟨2, _⟩ => ⟨S16x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S16x1x2048, .f32⟩
  | .hbm, ⟨8, _⟩ => ⟨S16x2048x1, .f32⟩
  | .hbm, ⟨9, _⟩ => ⟨S16x1x2048, .f32⟩
  | .hbm, ⟨10, _⟩ => ⟨S2048x2048, .bf16⟩
  | .hbm, ⟨11, _⟩ => ⟨S2048x2048, .f32⟩
  | .hbm, ⟨12, _⟩ => ⟨S2048x16x128, .f32⟩
  | .hbm, ⟨13, _⟩ => ⟨S2048x16x128, .f32⟩
  | .hbm, ⟨14, _⟩ => ⟨S_, .f32⟩
  | .hbm, ⟨15, _⟩ => ⟨S2048x16x128, .f32⟩
  | .hbm, ⟨16, _⟩ => ⟨S2048x16x128, .f32⟩
  | .hbm, ⟨17, _⟩ => ⟨S16x2048x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x1x2048, .f32⟩
  | .hbm, ⟨22, _⟩ => ⟨S16x2048x2048, .f32⟩
  | .hbm, ⟨23, _⟩ => ⟨S16x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S16x2048x2048, .i1⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x1, .f32⟩
  | .hbm, ⟨46, _⟩ => ⟨S16x2048x1, .f32⟩
  | .hbm, ⟨47, _⟩ => ⟨S2048x2048, .bf16⟩
  | .hbm, ⟨48, _⟩ => ⟨S2048x2048, .f32⟩
  | .hbm, ⟨49, _⟩ => ⟨S2048x2048, .f32⟩
  | .hbm, ⟨50, _⟩ => ⟨S16x1x2048, .f32⟩
  | .local _ .vmem, ⟨0, _⟩ => ⟨S256x128, .f32⟩
  | .local _ .vmem, ⟨1, _⟩ => ⟨S256x128, .f32⟩
  | .local _ .vmem, ⟨2, _⟩ => ⟨S1536x128, .bf16⟩
  | .local _ .vmem, ⟨3, _⟩ => ⟨S1536x128, .bf16⟩
  | .local _ .vmem, ⟨4, _⟩ => ⟨S1536x128, .bf16⟩
  | .local _ .vmem, ⟨5, _⟩ => ⟨S1536x128, .bf16⟩
  | .local _ .vmem, ⟨6, _⟩ => ⟨S1x256x1, .f32⟩
  | .local _ .vmem, ⟨7, _⟩ => ⟨S1x256x1, .f32⟩
  | .local _ .vmem, ⟨8, _⟩ => ⟨S1x1x1536, .f32⟩
  | .local _ .vmem, ⟨9, _⟩ => ⟨S1x1x1536, .f32⟩
  | .local _ .vmem, ⟨10, _⟩ => ⟨S1x256x1, .f32⟩
  | .local _ .vmem, ⟨11, _⟩ => ⟨S1x256x1, .f32⟩
  | .local _ .vmem, ⟨12, _⟩ => ⟨S256x128, .bf16⟩
  | .local _ .vmem, ⟨13, _⟩ => ⟨S256x128, .bf16⟩
  | .local _ .vmem, ⟨14, _⟩ => ⟨S1536x128, .f32⟩
  | .local _ .vmem, ⟨15, _⟩ => ⟨S1536x128, .f32⟩
  | .local _ .vmem, ⟨16, _⟩ => ⟨S1536x128, .f32⟩
  | .local _ .vmem, ⟨17, _⟩ => ⟨S1536x128, .f32⟩
  | .local _ .vmem, ⟨18, _⟩ => ⟨S1x1x1536, .f32⟩
  | .local _ .vmem, ⟨19, _⟩ => ⟨S1x1x1536, .f32⟩
  | .local _ .vmem, ⟨20, _⟩ => ⟨S256x128, .bf16⟩
  | .local _ .vmem, ⟨21, _⟩ => ⟨S256x128, .bf16⟩
  | .local _ .vmem, ⟨22, _⟩ => ⟨S1536x128, .f32⟩
  | .local _ .vmem, ⟨23, _⟩ => ⟨S1536x128, .f32⟩
  | .local _ .vmem, ⟨24, _⟩ => ⟨S1536x128, .f32⟩
  | .local _ .vmem, ⟨25, _⟩ => ⟨S1536x128, .f32⟩
  | .local _ .vmem, ⟨26, _⟩ => ⟨S1x1x1536, .f32⟩
  | .local _ .vmem, ⟨27, _⟩ => ⟨S1x1x1536, .f32⟩
  | .local _ .vmem, ⟨28, _⟩ => ⟨S1536x128, .f32⟩
  | .local _ .vmem, ⟨29, _⟩ => ⟨S1536x128, .f32⟩
  | .local _ .vmem, ⟨30, _⟩ => ⟨S1x1536, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F] [Named F]

def κ : String → Option EReal := fun
  | "mask" => some ⊥
  | _ => none

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v67 : BitVec 1 := Scalar.cmpi .eq arg1 c1_i32
  let v68 : BitVec 32 := Scalar.extui v67
  let c0_i32_42 : BitVec 32 := 0#32
  let v69 : BitVec 1 := Scalar.cmpi .ne v68 c0_i32_42
  v69

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1536x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1536x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1536x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1536x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== AttnGrad4Ideal.lean ====
abbrev S2048x2048 : Shape := ⟨2, ![2048, 2048]⟩
abbrev S2048x4096 : Shape := ⟨2, ![2048, 4096]⟩
abbrev S16x2048 : Shape := ⟨2, ![16, 2048]⟩
abbrev S16x1x2048 : Shape := ⟨3, ![16, 1, 2048]⟩
abbrev S1536x2048 : Shape := ⟨2, ![1536, 2048]⟩
abbrev S512x2048 : Shape := ⟨2, ![512, 2048]⟩
abbrev S16x1536 : Shape := ⟨2, ![16, 1536]⟩
abbrev S512x16x128 : Shape := ⟨3, ![512, 16, 128]⟩
abbrev S_ : Shape := ⟨0, ![]⟩
abbrev S1536x16x128 : Shape := ⟨3, ![1536, 16, 128]⟩
abbrev S16x512x1536 : Shape := ⟨3, ![16, 512, 1536]⟩
abbrev S16x512 : Shape := ⟨2, ![16, 512]⟩
abbrev S16x512x1 : Shape := ⟨3, ![16, 512, 1]⟩
abbrev S16x1x1536 : Shape := ⟨3, ![16, 1, 1536]⟩
abbrev S512 : Shape := ⟨1, ![512]⟩
abbrev S512x1 : Shape := ⟨2, ![512, 1]⟩
abbrev S1536 : Shape := ⟨1, ![1536]⟩
abbrev S1x1536 : Shape := ⟨2, ![1, 1536]⟩
abbrev S512x1536 : Shape := ⟨2, ![512, 1536]⟩
abbrev S16x128x512 : Shape := ⟨3, ![16, 128, 512]⟩
abbrev S16x128x1536 : Shape := ⟨3, ![16, 128, 1536]⟩
abbrev S16x1536x128 : Shape := ⟨3, ![16, 1536, 128]⟩
abbrev S16x512x128 : Shape := ⟨3, ![16, 512, 128]⟩
abbrev S1024x2048 : Shape := ⟨2, ![1024, 2048]⟩
abbrev S16x1x512 : Shape := ⟨3, ![16, 1, 512]⟩

abbrev nBuf : Space → Nat
  | .hbm => 151
  | .vmem => 0
  | .smem => 0
  | _ => 0

abbrev hbmTy0_0 (i : Nat) : BufTy := match i % 128 with
  | 0 => ⟨S2048x2048, .f32⟩
  | 1 => ⟨S2048x4096, .bf16⟩
  | 2 => ⟨S16x2048, .f32⟩
  | 3 => ⟨S2048x2048, .bf16⟩
  | 4 => ⟨S2048x2048, .bf16⟩
  | 5 => ⟨S2048x2048, .f32⟩
  | 6 => ⟨S2048x2048, .f32⟩
  | 7 => ⟨S16x1x2048, .f32⟩
  | 8 => ⟨S1536x2048, .bf16⟩
  | 9 => ⟨S1536x2048, .f32⟩
  | 10 => ⟨S1536x2048, .bf16⟩
  | 11 => ⟨S1536x2048, .f32⟩
  | 12 => ⟨S512x2048, .f32⟩
  | 13 => ⟨S16x1536, .f32⟩
  | 14 => ⟨S512x16x128, .f32⟩
  | 15 => ⟨S_, .f32⟩
  | 16 => ⟨S512x16x128, .f32⟩
  | 17 => ⟨S512x16x128, .f32⟩
  | 18 => ⟨S1536x16x128, .f32⟩
  | 19 => ⟨S1536x16x128, .f32⟩
  | 20 => ⟨S16x512x1536, .f32⟩
  | 21 => ⟨S16x512, .f32⟩
  | 22 => ⟨S16x512x1, .f32⟩
  | 23 => ⟨S16x512x1536, .f32⟩
  | 24 => ⟨S16x512x1536, .f32⟩
  | 25 => ⟨S16x1x1536, .f32⟩
  | 26 => ⟨S16x512x1536, .f32⟩
  | 27 => ⟨S16x512x1536, .f32⟩
  | 28 => ⟨S512, .i32⟩
  | 29 => ⟨S_, .i32⟩
  | 30 => ⟨S512, .i32⟩
  | 31 => ⟨S512, .i32⟩
  | 32 => ⟨S512x1, .i32⟩
  | 33 => ⟨S1536, .i32⟩
  | 34 => ⟨S1x1536, .i32⟩
  | 35 => ⟨S512x1536, .i32⟩
  | 36 => ⟨S512x1536, .i32⟩
  | 37 => ⟨S512x1536, .i1⟩
  | 38 => ⟨S_, .f32⟩
  | 39 => ⟨S_, .f32⟩
  | 40 => ⟨S16x512x1536, .i1⟩
  | 41 => ⟨S16x512x1536, .f32⟩
  | 42 => ⟨S16x512x1536, .f32⟩
  | 43 => ⟨S_, .f32⟩
  | 44 => ⟨S16x512x1536, .f32⟩
  | 45 => ⟨S_, .f32⟩
  | 46 => ⟨S16x512, .f32⟩
  | 47 => ⟨S16x512x1, .f32⟩
  | 48 => ⟨S16x512x1536, .f32⟩
  | 49 => ⟨S16x512x1536, .i1⟩
  | 50 => ⟨S16x512x1536, .f32⟩
  | 51 => ⟨S_, .f32⟩
  | 52 => ⟨S16x512, .f32⟩
  | 53 => ⟨S_, .f32⟩
  | 54 => ⟨S16x512, .f32⟩
  | 55 => ⟨S16x512, .f32⟩
  | 56 => ⟨S_, .f32⟩
  | 57 => ⟨S16x512, .f32⟩
  | 58 => ⟨S16x512, .i1⟩
  | 59 => ⟨S_, .f32⟩
  | 60 => ⟨S16x512, .f32⟩
  | 61 => ⟨S16x512, .i1⟩
  | 62 => ⟨S_, .f32⟩
  | 63 => ⟨S16x512, .f32⟩
  | 64 => ⟨S_, .f32⟩
  | 65 => ⟨S16x512, .f32⟩
  | 66 => ⟨S_, .f32⟩
  | 67 => ⟨S16x512, .f32⟩
  | 68 => ⟨S16x512, .f32⟩
  | 69 => ⟨S16x512, .f32⟩
  | 70 => ⟨S16x512x1, .f32⟩
  | 71 => ⟨S16x512x1536, .f32⟩
  | 72 => ⟨S16x512x1536, .f32⟩
  | 73 => ⟨S16x512x1536, .f32⟩
  | 74 => ⟨S_, .f32⟩
  | 75 => ⟨S16x512, .f32⟩
  | 76 => ⟨S16x512x1, .f32⟩
  | 77 => ⟨S16x512x1536, .f32⟩
  | 78 => ⟨S16x512x1536, .f32⟩
  | 79 => ⟨S16x512x1, .f32⟩
  | 80 => ⟨S_, .f32⟩
  | 81 => ⟨S16x512x1, .f32⟩
  | 82 => ⟨S16x512x1, .f32⟩
  | 83 => ⟨S16x128x512, .f32⟩
  | 84 => ⟨S512x16x128, .f32⟩
  | 85 => ⟨S512x2048, .f32⟩
  | 86 => ⟨S512x2048, .bf16⟩
  | 87 => ⟨S512x2048, .f32⟩
  | 88 => ⟨S512x16x128, .f32⟩
  | 89 => ⟨S16x128x512, .f32⟩
  | 90 => ⟨S16x512x1536, .f32⟩
  | 91 => ⟨S16x128x1536, .f32⟩
  | 92 => ⟨S1536x16x128, .f32⟩
  | 93 => ⟨S16x512x1536, .f32⟩
  | 94 => ⟨S16x512x1536, .f32⟩
  | 95 => ⟨S16x512x1536, .f32⟩
  | 96 => ⟨S_, .f32⟩
  | 97 => ⟨S16x512, .f32⟩
  | 98 => ⟨S16x512x1, .f32⟩
  | 99 => ⟨S16x512x1, .f32⟩
  | 100 => ⟨S16x512x1536, .f32⟩
  | 101 => ⟨S16x512x1536, .f32⟩
  | 102 => ⟨S_, .f32⟩
  | 103 => ⟨S16x512, .f32⟩
  | 104 => ⟨S16x512x1536, .f32⟩
  | 105 => ⟨S16x512x1536, .f32⟩
  | 106 => ⟨S16x512x1536, .f32⟩
  | 107 => ⟨S_, .f32⟩
  | 108 => ⟨S16x512x1536, .f32⟩
  | 109 => ⟨S16x512x1536, .f32⟩
  | 110 => ⟨S16x512x1536, .f32⟩
  | 111 => ⟨S_, .f32⟩
  | 112 => ⟨S16x1536, .f32⟩
  | 113 => ⟨S16x1x1536, .f32⟩
  | 114 => ⟨S_, .f32⟩
  | 115 => ⟨S16x1536, .f32⟩
  | 116 => ⟨S_, .f32⟩
  | 117 => ⟨S16x512, .f32⟩
  | 118 => ⟨S16x512x1, .f32⟩
  | 119 => ⟨S_, .f32⟩
  | 120 => ⟨S16x512, .f32⟩
  | 121 => ⟨S_, .f32⟩
  | 122 => ⟨S16x1536, .f32⟩
  | 123 => ⟨S16x1536, .f32⟩
  | 124 => ⟨S16x1536x128, .f32⟩
  | 125 => ⟨S1536x16x128, .f32⟩
  | 126 => ⟨S16x512x128, .f32⟩
  | 127 => ⟨S512x16x128, .f32⟩
  | _ => ⟨S2048x2048, .f32⟩

abbrev hbmTy0_1 (i : Nat) : BufTy := match i % 128 with
  | 0 => ⟨S1536x2048, .f32⟩
  | 1 => ⟨S1536x2048, .f32⟩
  | 2 => ⟨S_, .f32⟩
  | 3 => ⟨S512x16x128, .f32⟩
  | 4 => ⟨S512x16x128, .f32⟩
  | 5 => ⟨S512x2048, .f32⟩
  | 6 => ⟨S512x2048, .bf16⟩
  | 7 => ⟨S16x1x1536, .f32⟩
  | 8 => ⟨S1024x2048, .bf16⟩
  | 9 => ⟨S512x2048, .bf16⟩
  | 10 => ⟨S2048x2048, .bf16⟩
  | 11 => ⟨S1536x2048, .f32⟩
  | 12 => ⟨S1536x2048, .f32⟩
  | 13 => ⟨S512x2048, .f32⟩
  | 14 => ⟨S2048x2048, .f32⟩
  | 15 => ⟨S1536x2048, .f32⟩
  | 16 => ⟨S1536x2048, .f32⟩
  | 17 => ⟨S512x2048, .f32⟩
  | 18 => ⟨S2048x2048, .f32⟩
  | 19 => ⟨S16x1x1536, .f32⟩
  | 20 => ⟨S16x1x1536, .f32⟩
  | 21 => ⟨S16x1x512, .f32⟩
  | 22 => ⟨S16x1x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_call0_v0 : Ref sig .tc := ⟨.hbm, 39, rfl⟩
abbrev main_v28_1 : Ref sig .tc := ⟨.hbm, 40, rfl⟩
abbrev main_call0_v2 : Ref sig .tc := ⟨.hbm, 41, rfl⟩
abbrev main_v28_0 : Ref sig .tc := ⟨.hbm, 42, rfl⟩
abbrev main_call0_cst : Ref sig .tc := ⟨.hbm, 43, rfl⟩
abbrev main_v28_2 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_12 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call1_cst : Ref sig .tc := ⟨.hbm, 107, rfl⟩
abbrev main_call1_v0 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_cst_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩

abbrev nD : Nat := 1
abbrev τ : Topo := Topo.v7x

variable {F : FTy → Type} [FloatOps F]
-- ==== Attn2.lean ====
abbrev S2048x2048 : Shape := ⟨2, ![2048, 2048]⟩
abbrev S2048x4096 : Shape := ⟨2, ![2048, 4096]⟩
abbrev S16x2048 : Shape := ⟨2, ![16, 2048]⟩
abbrev S16x1x2048 : Shape := ⟨3, ![16, 1, 2048]⟩
abbrev S16x2048x1 : Shape := ⟨3, ![16, 2048, 1]⟩
abbrev S2048x16x128 : Shape := ⟨3, ![2048, 16, 128]⟩
abbrev S_ : Shape := ⟨0, ![]⟩
abbrev S16x2048x2048 : Shape := ⟨3, ![16, 2048, 2048]⟩
abbrev S2048 : Shape := ⟨1, ![2048]⟩
abbrev S2048x1 : Shape := ⟨2, ![2048, 1]⟩
abbrev S1x2048 : Shape := ⟨2, ![1, 2048]⟩
abbrev S256x128 : Shape := ⟨2, ![256, 128]⟩
abbrev S1024x128 : Shape := ⟨2, ![1024, 128]⟩
abbrev S1x256x1 : Shape := ⟨3, ![1, 256, 1]⟩
abbrev S1x1x1024 : Shape := ⟨3, ![1, 1, 1024]⟩
abbrev S1x1024 : Shape := ⟨2, ![1, 1024]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 51
  | .vmem => 31
  | .smem => 0
  | _ => 0

abbrev bufTy : (tb : Table) → Fin (tcTables nBuf tb) → BufTy
  | .hbm, ⟨0, _⟩ => ⟨S2048x2048, .f32⟩
  | .hbm, ⟨1, _⟩ => ⟨S2048x4096, .bf16⟩
  | .hbm, ⟨2, _⟩ => ⟨S16x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S16x1x2048, .f32⟩
  | .hbm, ⟨8, _⟩ => ⟨S16x2048x1, .f32⟩
  | .hbm, ⟨9, _⟩ => ⟨S16x1x2048, .f32⟩
  | .hbm, ⟨10, _⟩ => ⟨S2048x2048, .bf16⟩
  | .hbm, ⟨11, _⟩ => ⟨S2048x2048, .f32⟩
  | .hbm, ⟨12, _⟩ => ⟨S2048x16x128, .f32⟩
  | .hbm, ⟨13, _⟩ => ⟨S2048x16x128, .f32⟩
  | .hbm, ⟨14, _⟩ => ⟨S_, .f32⟩
  | .hbm, ⟨15, _⟩ => ⟨S2048x16x128, .f32⟩
  | .hbm, ⟨16, _⟩ => ⟨S2048x16x128, .f32⟩
  | .hbm, ⟨17, _⟩ => ⟨S16x2048x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x1x2048, .f32⟩
  | .hbm, ⟨22, _⟩ => ⟨S16x2048x2048, .f32⟩
  | .hbm, ⟨23, _⟩ => ⟨S16x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S16x2048x2048, .i1⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x1, .f32⟩
  | .hbm, ⟨46, _⟩ => ⟨S16x2048x1, .f32⟩
  | .hbm, ⟨47, _⟩ => ⟨S2048x2048, .bf16⟩
  | .hbm, ⟨48, _⟩ => ⟨S2048x2048, .f32⟩
  | .hbm, ⟨49, _⟩ => ⟨S2048x2048, .f32⟩
  | .hbm, ⟨50, _⟩ => ⟨S16x1x2048, .f32⟩
  | .local _ .vmem, ⟨0, _⟩ => ⟨S256x128, .f32⟩
  | .local _ .vmem, ⟨1, _⟩ => ⟨S256x128, .f32⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x256x1, .f32⟩
  | .local _ .vmem, ⟨7, _⟩ => ⟨S1x256x1, .f32⟩
  | .local _ .vmem, ⟨8, _⟩ => ⟨S1x1x1024, .f32⟩
  | .local _ .vmem, ⟨9, _⟩ => ⟨S1x1x1024, .f32⟩
  | .local _ .vmem, ⟨10, _⟩ => ⟨S1x256x1, .f32⟩
  | .local _ .vmem, ⟨11, _⟩ => ⟨S1x256x1, .f32⟩
  | .local _ .vmem, ⟨12, _⟩ => ⟨S256x128, .bf16⟩
  | .local _ .vmem, ⟨13, _⟩ => ⟨S256x128, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1x1x1024, .f32⟩
  | .local _ .vmem, ⟨19, _⟩ => ⟨S1x1x1024, .f32⟩
  | .local _ .vmem, ⟨20, _⟩ => ⟨S256x128, .bf16⟩
  | .local _ .vmem, ⟨21, _⟩ => ⟨S256x128, .bf16⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1x1x1024, .f32⟩
  | .local _ .vmem, ⟨27, _⟩ => ⟨S1x1x1024, .f32⟩
  | .local _ .vmem, ⟨28, _⟩ => ⟨S1024x128, .f32⟩
  | .local _ .vmem, ⟨29, _⟩ => ⟨S1024x128, .f32⟩
  | .local _ .vmem, ⟨30, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v67 : BitVec 1 := Scalar.cmpi .eq arg1 c1_i32
  let v68 : BitVec 32 := Scalar.extui v67
  let c0_i32_42 : BitVec 32 := 0#32
  let v69 : BitVec 1 := Scalar.cmpi .ne v68 c0_i32_42
  v69

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Attn2Ideal.lean ====
abbrev S2048x2048 : Shape := ⟨2, ![2048, 2048]⟩
abbrev S2048x4096 : Shape := ⟨2, ![2048, 4096]⟩
abbrev S16x2048 : Shape := ⟨2, ![16, 2048]⟩
abbrev S16x1x2048 : Shape := ⟨3, ![16, 1, 2048]⟩
abbrev S16x2048x1 : Shape := ⟨3, ![16, 2048, 1]⟩
abbrev S2048x16x128 : Shape := ⟨3, ![2048, 16, 128]⟩
abbrev S_ : Shape := ⟨0, ![]⟩
abbrev S16x2048x2048 : Shape := ⟨3, ![16, 2048, 2048]⟩
abbrev S2048 : Shape := ⟨1, ![2048]⟩
abbrev S2048x1 : Shape := ⟨2, ![2048, 1]⟩
abbrev S1x2048 : Shape := ⟨2, ![1, 2048]⟩
abbrev S256x128 : Shape := ⟨2, ![256, 128]⟩
abbrev S1024x128 : Shape := ⟨2, ![1024, 128]⟩
abbrev S1x256x1 : Shape := ⟨3, ![1, 256, 1]⟩
abbrev S1x1x1024 : Shape := ⟨3, ![1, 1, 1024]⟩
abbrev S1x1024 : Shape := ⟨2, ![1, 1024]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 51
  | .vmem => 31
  | .smem => 0
  | _ => 0

abbrev bufTy : (tb : Table) → Fin (tcTables nBuf tb) → BufTy
  | .hbm, ⟨0, _⟩ => ⟨S2048x2048, .f32⟩
  | .hbm, ⟨1, _⟩ => ⟨S2048x4096, .bf16⟩
  | .hbm, ⟨2, _⟩ => ⟨S16x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S16x1x2048, .f32⟩
  | .hbm, ⟨8, _⟩ => ⟨S16x2048x1, .f32⟩
  | .hbm, ⟨9, _⟩ => ⟨S16x1x2048, .f32⟩
  | .hbm, ⟨10, _⟩ => ⟨S2048x2048, .bf16⟩
  | .hbm, ⟨11, _⟩ => ⟨S2048x2048, .f32⟩
  | .hbm, ⟨12, _⟩ => ⟨S2048x16x128, .f32⟩
  | .hbm, ⟨13, _⟩ => ⟨S2048x16x128, .f32⟩
  | .hbm, ⟨14, _⟩ => ⟨S_, .f32⟩
  | .hbm, ⟨15, _⟩ => ⟨S2048x16x128, .f32⟩
  | .hbm, ⟨16, _⟩ => ⟨S2048x16x128, .f32⟩
  | .hbm, ⟨17, _⟩ => ⟨S16x2048x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x1x2048, .f32⟩
  | .hbm, ⟨22, _⟩ => ⟨S16x2048x2048, .f32⟩
  | .hbm, ⟨23, _⟩ => ⟨S16x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S16x2048x2048, .i1⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x1, .f32⟩
  | .hbm, ⟨46, _⟩ => ⟨S16x2048x1, .f32⟩
  | .hbm, ⟨47, _⟩ => ⟨S2048x2048, .bf16⟩
  | .hbm, ⟨48, _⟩ => ⟨S2048x2048, .f32⟩
  | .hbm, ⟨49, _⟩ => ⟨S2048x2048, .f32⟩
  | .hbm, ⟨50, _⟩ => ⟨S16x1x2048, .f32⟩
  | .local _ .vmem, ⟨0, _⟩ => ⟨S256x128, .f32⟩
  | .local _ .vmem, ⟨1, _⟩ => ⟨S256x128, .f32⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x256x1, .f32⟩
  | .local _ .vmem, ⟨7, _⟩ => ⟨S1x256x1, .f32⟩
  | .local _ .vmem, ⟨8, _⟩ => ⟨S1x1x1024, .f32⟩
  | .local _ .vmem, ⟨9, _⟩ => ⟨S1x1x1024, .f32⟩
  | .local _ .vmem, ⟨10, _⟩ => ⟨S1x256x1, .f32⟩
  | .local _ .vmem, ⟨11, _⟩ => ⟨S1x256x1, .f32⟩
  | .local _ .vmem, ⟨12, _⟩ => ⟨S256x128, .bf16⟩
  | .local _ .vmem, ⟨13, _⟩ => ⟨S256x128, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1x1x1024, .f32⟩
  | .local _ .vmem, ⟨19, _⟩ => ⟨S1x1x1024, .f32⟩
  | .local _ .vmem, ⟨20, _⟩ => ⟨S256x128, .bf16⟩
  | .local _ .vmem, ⟨21, _⟩ => ⟨S256x128, .bf16⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1x1x1024, .f32⟩
  | .local _ .vmem, ⟨27, _⟩ => ⟨S1x1x1024, .f32⟩
  | .local _ .vmem, ⟨28, _⟩ => ⟨S1024x128, .f32⟩
  | .local _ .vmem, ⟨29, _⟩ => ⟨S1024x128, .f32⟩
  | .local _ .vmem, ⟨30, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F] [Named F]

def κ : String → Option EReal := fun
  | "mask" => some ⊥
  | _ => none

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v67 : BitVec 1 := Scalar.cmpi .eq arg1 c1_i32
  let v68 : BitVec 32 := Scalar.extui v67
  let c0_i32_42 : BitVec 32 := 0#32
  let v69 : BitVec 1 := Scalar.cmpi .ne v68 c0_i32_42
  v69

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== AttnGrad2Ideal.lean ====
abbrev S2048x2048 : Shape := ⟨2, ![2048, 2048]⟩
abbrev S2048x4096 : Shape := ⟨2, ![2048, 4096]⟩
abbrev S16x2048 : Shape := ⟨2, ![16, 2048]⟩
abbrev S16x1x2048 : Shape := ⟨3, ![16, 1, 2048]⟩
abbrev S1024x2048 : Shape := ⟨2, ![1024, 2048]⟩
abbrev S512x2048 : Shape := ⟨2, ![512, 2048]⟩
abbrev S16x1024 : Shape := ⟨2, ![16, 1024]⟩
abbrev S512x16x128 : Shape := ⟨3, ![512, 16, 128]⟩
abbrev S_ : Shape := ⟨0, ![]⟩
abbrev S1024x16x128 : Shape := ⟨3, ![1024, 16, 128]⟩
abbrev S16x512x1024 : Shape := ⟨3, ![16, 512, 1024]⟩
abbrev S16x512 : Shape := ⟨2, ![16, 512]⟩
abbrev S16x512x1 : Shape := ⟨3, ![16, 512, 1]⟩
abbrev S16x1x1024 : Shape := ⟨3, ![16, 1, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S16x128x512 : Shape := ⟨3, ![16, 128, 512]⟩
abbrev S16x128x1024 : Shape := ⟨3, ![16, 128, 1024]⟩
abbrev S16x1024x128 : Shape := ⟨3, ![16, 1024, 128]⟩
abbrev S16x512x128 : Shape := ⟨3, ![16, 512, 128]⟩

abbrev nBuf : Space → Nat
  | .hbm => 151
  | .vmem => 0
  | .smem => 0
  | _ => 0

abbrev hbmTy0_0 (i : Nat) : BufTy := match i % 128 with
  | 0 => ⟨S2048x2048, .f32⟩
  | 1 => ⟨S2048x4096, .bf16⟩
  | 2 => ⟨S16x2048, .f32⟩
  | 3 => ⟨S2048x2048, .bf16⟩
  | 4 => ⟨S2048x2048, .bf16⟩
  | 5 => ⟨S2048x2048, .f32⟩
  | 6 => ⟨S2048x2048, .f32⟩
  | 7 => ⟨S16x1x2048, .f32⟩
  | 8 => ⟨S1024x2048, .bf16⟩
  | 9 => ⟨S1024x2048, .f32⟩
  | 10 => ⟨S1024x2048, .bf16⟩
  | 11 => ⟨S1024x2048, .f32⟩
  | 12 => ⟨S512x2048, .f32⟩
  | 13 => ⟨S16x1024, .f32⟩
  | 14 => ⟨S512x16x128, .f32⟩
  | 15 => ⟨S_, .f32⟩
  | 16 => ⟨S512x16x128, .f32⟩
  | 17 => ⟨S512x16x128, .f32⟩
  | 18 => ⟨S1024x16x128, .f32⟩
  | 19 => ⟨S1024x16x128, .f32⟩
  | 20 => ⟨S16x512x1024, .f32⟩
  | 21 => ⟨S16x512, .f32⟩
  | 22 => ⟨S16x512x1, .f32⟩
  | 23 => ⟨S16x512x1024, .f32⟩
  | 24 => ⟨S16x512x1024, .f32⟩
  | 25 => ⟨S16x1x1024, .f32⟩
  | 26 => ⟨S16x512x1024, .f32⟩
  | 27 => ⟨S16x512x1024, .f32⟩
  | 28 => ⟨S512, .i32⟩
  | 29 => ⟨S_, .i32⟩
  | 30 => ⟨S512, .i32⟩
  | 31 => ⟨S512, .i32⟩
  | 32 => ⟨S512x1, .i32⟩
  | 33 => ⟨S1024, .i32⟩
  | 34 => ⟨S1x1024, .i32⟩
  | 35 => ⟨S512x1024, .i32⟩
  | 36 => ⟨S512x1024, .i32⟩
  | 37 => ⟨S512x1024, .i1⟩
  | 38 => ⟨S_, .f32⟩
  | 39 => ⟨S_, .f32⟩
  | 40 => ⟨S16x512x1024, .i1⟩
  | 41 => ⟨S16x512x1024, .f32⟩
  | 42 => ⟨S16x512x1024, .f32⟩
  | 43 => ⟨S_, .f32⟩
  | 44 => ⟨S16x512x1024, .f32⟩
  | 45 => ⟨S_, .f32⟩
  | 46 => ⟨S16x512, .f32⟩
  | 47 => ⟨S16x512x1, .f32⟩
  | 48 => ⟨S16x512x1024, .f32⟩
  | 49 => ⟨S16x512x1024, .i1⟩
  | 50 => ⟨S16x512x1024, .f32⟩
  | 51 => ⟨S_, .f32⟩
  | 52 => ⟨S16x512, .f32⟩
  | 53 => ⟨S_, .f32⟩
  | 54 => ⟨S16x512, .f32⟩
  | 55 => ⟨S16x512, .f32⟩
  | 56 => ⟨S_, .f32⟩
  | 57 => ⟨S16x512, .f32⟩
  | 58 => ⟨S16x512, .i1⟩
  | 59 => ⟨S_, .f32⟩
  | 60 => ⟨S16x512, .f32⟩
  | 61 => ⟨S16x512, .i1⟩
  | 62 => ⟨S_, .f32⟩
  | 63 => ⟨S16x512, .f32⟩
  | 64 => ⟨S_, .f32⟩
  | 65 => ⟨S16x512, .f32⟩
  | 66 => ⟨S_, .f32⟩
  | 67 => ⟨S16x512, .f32⟩
  | 68 => ⟨S16x512, .f32⟩
  | 69 => ⟨S16x512, .f32⟩
  | 70 => ⟨S16x512x1, .f32⟩
  | 71 => ⟨S16x512x1024, .f32⟩
  | 72 => ⟨S16x512x1024, .f32⟩
  | 73 => ⟨S16x512x1024, .f32⟩
  | 74 => ⟨S_, .f32⟩
  | 75 => ⟨S16x512, .f32⟩
  | 76 => ⟨S16x512x1, .f32⟩
  | 77 => ⟨S16x512x1024, .f32⟩
  | 78 => ⟨S16x512x1024, .f32⟩
  | 79 => ⟨S16x512x1, .f32⟩
  | 80 => ⟨S_, .f32⟩
  | 81 => ⟨S16x512x1, .f32⟩
  | 82 => ⟨S16x512x1, .f32⟩
  | 83 => ⟨S16x128x512, .f32⟩
  | 84 => ⟨S512x16x128, .f32⟩
  | 85 => ⟨S512x2048, .f32⟩
  | 86 => ⟨S512x2048, .bf16⟩
  | 87 => ⟨S512x2048, .f32⟩
  | 88 => ⟨S512x16x128, .f32⟩
  | 89 => ⟨S16x128x512, .f32⟩
  | 90 => ⟨S16x512x1024, .f32⟩
  | 91 => ⟨S16x128x1024, .f32⟩
  | 92 => ⟨S1024x16x128, .f32⟩
  | 93 => ⟨S16x512x1024, .f32⟩
  | 94 => ⟨S16x512x1024, .f32⟩
  | 95 => ⟨S16x512x1024, .f32⟩
  | 96 => ⟨S_, .f32⟩
  | 97 => ⟨S16x512, .f32⟩
  | 98 => ⟨S16x512x1, .f32⟩
  | 99 => ⟨S16x512x1, .f32⟩
  | 100 => ⟨S16x512x1024, .f32⟩
  | 101 => ⟨S16x512x1024, .f32⟩
  | 102 => ⟨S_, .f32⟩
  | 103 => ⟨S16x512, .f32⟩
  | 104 => ⟨S16x512x1024, .f32⟩
  | 105 => ⟨S16x512x1024, .f32⟩
  | 106 => ⟨S16x512x1024, .f32⟩
  | 107 => ⟨S_, .f32⟩
  | 108 => ⟨S16x512x1024, .f32⟩
  | 109 => ⟨S16x512x1024, .f32⟩
  | 110 => ⟨S16x512x1024, .f32⟩
  | 111 => ⟨S_, .f32⟩
  | 112 => ⟨S16x1024, .f32⟩
  | 113 => ⟨S16x1x1024, .f32⟩
  | 114 => ⟨S_, .f32⟩
  | 115 => ⟨S16x1024, .f32⟩
  | 116 => ⟨S_, .f32⟩
  | 117 => ⟨S16x512, .f32⟩
  | 118 => ⟨S16x512x1, .f32⟩
  | 119 => ⟨S_, .f32⟩
  | 120 => ⟨S16x512, .f32⟩
  | 121 => ⟨S_, .f32⟩
  | 122 => ⟨S16x1024, .f32⟩
  | 123 => ⟨S16x1024, .f32⟩
  | 124 => ⟨S16x1024x128, .f32⟩
  | 125 => ⟨S1024x16x128, .f32⟩
  | 126 => ⟨S16x512x128, .f32⟩
  | 127 => ⟨S512x16x128, .f32⟩
  | _ => ⟨S2048x2048, .f32⟩

abbrev hbmTy0_1 (i : Nat) : BufTy := match i % 128 with
  | 0 => ⟨S1024x2048, .f32⟩
  | 1 => ⟨S1024x2048, .f32⟩
  | 2 => ⟨S_, .f32⟩
  | 3 => ⟨S512x16x128, .f32⟩
  | 4 => ⟨S512x16x128, .f32⟩
  | 5 => ⟨S512x2048, .f32⟩
  | 6 => ⟨S512x2048, .bf16⟩
  | 7 => ⟨S16x1x1024, .f32⟩
  | 8 => ⟨S512x2048, .bf16⟩
  | 9 => ⟨S1024x2048, .bf16⟩
  | 10 => ⟨S2048x2048, .bf16⟩
  | 11 => ⟨S1024x2048, .f32⟩
  | 12 => ⟨S1024x2048, .f32⟩
  | 13 => ⟨S1024x2048, .f32⟩
  | 14 => ⟨S2048x2048, .f32⟩
  | 15 => ⟨S1024x2048, .f32⟩
  | 16 => ⟨S1024x2048, .f32⟩
  | 17 => ⟨S1024x2048, .f32⟩
  | 18 => ⟨S2048x2048, .f32⟩
  | 19 => ⟨S16x1x1024, .f32⟩
  | 20 => ⟨S16x1x1024, .f32⟩
  | 21 => ⟨S16x1x1024, .f32⟩
  | 22 => ⟨S16x1x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_call0_v0 : Ref sig .tc := ⟨.hbm, 39, rfl⟩
abbrev main_v28_1 : Ref sig .tc := ⟨.hbm, 40, rfl⟩
abbrev main_call0_v2 : Ref sig .tc := ⟨.hbm, 41, rfl⟩
abbrev main_v28_0 : Ref sig .tc := ⟨.hbm, 42, rfl⟩
abbrev main_call0_cst : Ref sig .tc := ⟨.hbm, 43, rfl⟩
abbrev main_v28_2 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_12 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call1_cst : Ref sig .tc := ⟨.hbm, 107, rfl⟩
abbrev main_call1_v0 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_cst_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩

abbrev nD : Nat := 1
abbrev τ : Topo := Topo.v7x

variable {F : FTy → Type} [FloatOps F]
-- ==== Attn0.lean ====
abbrev S2048x2048 : Shape := ⟨2, ![2048, 2048]⟩
abbrev S2048x4096 : Shape := ⟨2, ![2048, 4096]⟩
abbrev S16x2048 : Shape := ⟨2, ![16, 2048]⟩
abbrev S16x1x2048 : Shape := ⟨3, ![16, 1, 2048]⟩
abbrev S16x2048x1 : Shape := ⟨3, ![16, 2048, 1]⟩
abbrev S2048x16x128 : Shape := ⟨3, ![2048, 16, 128]⟩
abbrev S_ : Shape := ⟨0, ![]⟩
abbrev S16x2048x2048 : Shape := ⟨3, ![16, 2048, 2048]⟩
abbrev S2048 : Shape := ⟨1, ![2048]⟩
abbrev S2048x1 : Shape := ⟨2, ![2048, 1]⟩
abbrev S1x2048 : Shape := ⟨2, ![1, 2048]⟩
abbrev S256x128 : Shape := ⟨2, ![256, 128]⟩
abbrev S512x128 : Shape := ⟨2, ![512, 128]⟩
abbrev S1x256x1 : Shape := ⟨3, ![1, 256, 1]⟩
abbrev S1x1x512 : Shape := ⟨3, ![1, 1, 512]⟩
abbrev S1x512 : Shape := ⟨2, ![1, 512]⟩
abbrev S256x512 : Shape := ⟨2, ![256, 512]⟩
abbrev S256x1 : Shape := ⟨2, ![256, 1]⟩
abbrev S256 : Shape := ⟨1, ![256]⟩
abbrev S512 : Shape := ⟨1, ![512]⟩

abbrev nBuf : Space → Nat
  | .hbm => 51
  | .vmem => 31
  | .smem => 0
  | _ => 0

abbrev bufTy : (tb : Table) → Fin (tcTables nBuf tb) → BufTy
  | .hbm, ⟨0, _⟩ => ⟨S2048x2048, .f32⟩
  | .hbm, ⟨1, _⟩ => ⟨S2048x4096, .bf16⟩
  | .hbm, ⟨2, _⟩ => ⟨S16x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S16x1x2048, .f32⟩
  | .hbm, ⟨8, _⟩ => ⟨S16x2048x1, .f32⟩
  | .hbm, ⟨9, _⟩ => ⟨S16x1x2048, .f32⟩
  | .hbm, ⟨10, _⟩ => ⟨S2048x2048, .bf16⟩
  | .hbm, ⟨11, _⟩ => ⟨S2048x2048, .f32⟩
  | .hbm, ⟨12, _⟩ => ⟨S2048x16x128, .f32⟩
  | .hbm, ⟨13, _⟩ => ⟨S2048x16x128, .f32⟩
  | .hbm, ⟨14, _⟩ => ⟨S_, .f32⟩
  | .hbm, ⟨15, _⟩ => ⟨S2048x16x128, .f32⟩
  | .hbm, ⟨16, _⟩ => ⟨S2048x16x128, .f32⟩
  | .hbm, ⟨17, _⟩ => ⟨S16x2048x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x1x2048, .f32⟩
  | .hbm, ⟨22, _⟩ => ⟨S16x2048x2048, .f32⟩
  | .hbm, ⟨23, _⟩ => ⟨S16x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S16x2048x2048, .i1⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x1, .f32⟩
  | .hbm, ⟨46, _⟩ => ⟨S16x2048x1, .f32⟩
  | .hbm, ⟨47, _⟩ => ⟨S2048x2048, .bf16⟩
  | .hbm, ⟨48, _⟩ => ⟨S2048x2048, .f32⟩
  | .hbm, ⟨49, _⟩ => ⟨S2048x2048, .f32⟩
  | .hbm, ⟨50, _⟩ => ⟨S16x1x2048, .f32⟩
  | .local _ .vmem, ⟨0, _⟩ => ⟨S256x128, .f32⟩
  | .local _ .vmem, ⟨1, _⟩ => ⟨S256x128, .f32⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x256x1, .f32⟩
  | .local _ .vmem, ⟨7, _⟩ => ⟨S1x256x1, .f32⟩
  | .local _ .vmem, ⟨8, _⟩ => ⟨S1x1x512, .f32⟩
  | .local _ .vmem, ⟨9, _⟩ => ⟨S1x1x512, .f32⟩
  | .local _ .vmem, ⟨10, _⟩ => ⟨S1x256x1, .f32⟩
  | .local _ .vmem, ⟨11, _⟩ => ⟨S1x256x1, .f32⟩
  | .local _ .vmem, ⟨12, _⟩ => ⟨S256x128, .bf16⟩
  | .local _ .vmem, ⟨13, _⟩ => ⟨S256x128, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x1x512, .f32⟩
  | .local _ .vmem, ⟨19, _⟩ => ⟨S1x1x512, .f32⟩
  | .local _ .vmem, ⟨20, _⟩ => ⟨S256x128, .bf16⟩
  | .local _ .vmem, ⟨21, _⟩ => ⟨S256x128, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S1x1x512, .f32⟩
  | .local _ .vmem, ⟨27, _⟩ => ⟨S1x1x512, .f32⟩
  | .local _ .vmem, ⟨28, _⟩ => ⟨S512x128, .f32⟩
  | .local _ .vmem, ⟨29, _⟩ => ⟨S512x128, .f32⟩
  | .local _ .vmem, ⟨30, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v67 : BitVec 1 := Scalar.cmpi .eq arg1 c1_i32
  let v68 : BitVec 32 := Scalar.extui v67
  let c0_i32_43 : BitVec 32 := 0#32
  let v69 : BitVec 1 := Scalar.cmpi .ne v68 c0_i32_43
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Attn0Ideal.lean ====
variable {F : FTy → Type} [FloatOps F] [Named F]
def κ : String → Option EReal := fun
  | "mask" => some ⊥
  | _ => none
-- ==== AttnGrad0Ideal.lean ====
abbrev S2048x2048 : Shape := ⟨2, ![2048, 2048]⟩
abbrev S2048x4096 : Shape := ⟨2, ![2048, 4096]⟩
abbrev S16x2048 : Shape := ⟨2, ![16, 2048]⟩
abbrev S16x1x2048 : Shape := ⟨3, ![16, 1, 2048]⟩
abbrev S512x2048 : Shape := ⟨2, ![512, 2048]⟩
abbrev S16x512 : Shape := ⟨2, ![16, 512]⟩
abbrev S512x16x128 : Shape := ⟨3, ![512, 16, 128]⟩
abbrev S_ : Shape := ⟨0, ![]⟩
abbrev S16x512x512 : Shape := ⟨3, ![16, 512, 512]⟩
abbrev S16x512x1 : Shape := ⟨3, ![16, 512, 1]⟩
abbrev S16x1x512 : Shape := ⟨3, ![16, 1, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x128x512 : Shape := ⟨3, ![16, 128, 512]⟩
abbrev S16x512x128 : Shape := ⟨3, ![16, 512, 128]⟩
abbrev S0x2048 : Shape := ⟨2, ![0, 2048]⟩
abbrev S1536x2048 : Shape := ⟨2, ![1536, 2048]⟩
abbrev S16x1x1536 : Shape := ⟨3, ![16, 1, 1536]⟩

abbrev nBuf : Space → Nat
  | .hbm => 145
  | .vmem => 0
  | .smem => 0
  | _ => 0

abbrev hbmTy0_0 (i : Nat) : BufTy := match i % 128 with
  | 0 => ⟨S2048x2048, .f32⟩
  | 1 => ⟨S2048x4096, .bf16⟩
  | 2 => ⟨S16x2048, .f32⟩
  | 3 => ⟨S2048x2048, .bf16⟩
  | 4 => ⟨S2048x2048, .bf16⟩
  | 5 => ⟨S2048x2048, .f32⟩
  | 6 => ⟨S2048x2048, .f32⟩
  | 7 => ⟨S16x1x2048, .f32⟩
  | 8 => ⟨S512x2048, .bf16⟩
  | 9 => ⟨S512x2048, .f32⟩
  | 10 => ⟨S512x2048, .bf16⟩
  | 11 => ⟨S512x2048, .f32⟩
  | 12 => ⟨S512x2048, .f32⟩
  | 13 => ⟨S16x512, .f32⟩
  | 14 => ⟨S512x16x128, .f32⟩
  | 15 => ⟨S_, .f32⟩
  | 16 => ⟨S512x16x128, .f32⟩
  | 17 => ⟨S512x16x128, .f32⟩
  | 18 => ⟨S512x16x128, .f32⟩
  | 19 => ⟨S512x16x128, .f32⟩
  | 20 => ⟨S16x512x512, .f32⟩
  | 21 => ⟨S16x512x1, .f32⟩
  | 22 => ⟨S16x512x512, .f32⟩
  | 23 => ⟨S16x512x512, .f32⟩
  | 24 => ⟨S16x1x512, .f32⟩
  | 25 => ⟨S16x512x512, .f32⟩
  | 26 => ⟨S16x512x512, .f32⟩
  | 27 => ⟨S512, .i32⟩
  | 28 => ⟨S512x1, .i32⟩
  | 29 => ⟨S512, .i32⟩
  | 30 => ⟨S1x512, .i32⟩
  | 31 => ⟨S512x512, .i32⟩
  | 32 => ⟨S512x512, .i32⟩
  | 33 => ⟨S512x512, .i1⟩
  | 34 => ⟨S_, .f32⟩
  | 35 => ⟨S_, .f32⟩
  | 36 => ⟨S16x512x512, .i1⟩
  | 37 => ⟨S16x512x512, .f32⟩
  | 38 => ⟨S16x512x512, .f32⟩
  | 39 => ⟨S_, .f32⟩
  | 40 => ⟨S16x512x512, .f32⟩
  | 41 => ⟨S_, .f32⟩
  | 42 => ⟨S16x512, .f32⟩
  | 43 => ⟨S16x512x1, .f32⟩
  | 44 => ⟨S16x512x512, .f32⟩
  | 45 => ⟨S16x512x512, .i1⟩
  | 46 => ⟨S16x512x512, .f32⟩
  | 47 => ⟨S_, .f32⟩
  | 48 => ⟨S16x512, .f32⟩
  | 49 => ⟨S_, .f32⟩
  | 50 => ⟨S16x512, .f32⟩
  | 51 => ⟨S16x512, .f32⟩
  | 52 => ⟨S_, .f32⟩
  | 53 => ⟨S16x512, .f32⟩
  | 54 => ⟨S16x512, .i1⟩
  | 55 => ⟨S_, .f32⟩
  | 56 => ⟨S16x512, .f32⟩
  | 57 => ⟨S16x512, .i1⟩
  | 58 => ⟨S_, .f32⟩
  | 59 => ⟨S16x512, .f32⟩
  | 60 => ⟨S_, .f32⟩
  | 61 => ⟨S16x512, .f32⟩
  | 62 => ⟨S_, .f32⟩
  | 63 => ⟨S16x512, .f32⟩
  | 64 => ⟨S16x512, .f32⟩
  | 65 => ⟨S16x512, .f32⟩
  | 66 => ⟨S16x512x1, .f32⟩
  | 67 => ⟨S16x512x512, .f32⟩
  | 68 => ⟨S16x512x512, .f32⟩
  | 69 => ⟨S16x512x512, .f32⟩
  | 70 => ⟨S_, .f32⟩
  | 71 => ⟨S16x512, .f32⟩
  | 72 => ⟨S16x512x1, .f32⟩
  | 73 => ⟨S16x512x512, .f32⟩
  | 74 => ⟨S16x512x512, .f32⟩
  | 75 => ⟨S16x512x1, .f32⟩
  | 76 => ⟨S_, .f32⟩
  | 77 => ⟨S16x512x1, .f32⟩
  | 78 => ⟨S16x512x1, .f32⟩
  | 79 => ⟨S16x128x512, .f32⟩
  | 80 => ⟨S512x16x128, .f32⟩
  | 81 => ⟨S512x2048, .f32⟩
  | 82 => ⟨S512x2048, .bf16⟩
  | 83 => ⟨S512x2048, .f32⟩
  | 84 => ⟨S512x16x128, .f32⟩
  | 85 => ⟨S16x128x512, .f32⟩
  | 86 => ⟨S16x512x512, .f32⟩
  | 87 => ⟨S16x128x512, .f32⟩
  | 88 => ⟨S512x16x128, .f32⟩
  | 89 => ⟨S16x512x512, .f32⟩
  | 90 => ⟨S16x512x512, .f32⟩
  | 91 => ⟨S16x512x512, .f32⟩
  | 92 => ⟨S_, .f32⟩
  | 93 => ⟨S16x512, .f32⟩
  | 94 => ⟨S16x512x1, .f32⟩
  | 95 => ⟨S16x512x1, .f32⟩
  | 96 => ⟨S16x512x512, .f32⟩
  | 97 => ⟨S16x512x512, .f32⟩
  | 98 => ⟨S_, .f32⟩
  | 99 => ⟨S16x512, .f32⟩
  | 100 => ⟨S16x512x512, .f32⟩
  | 101 => ⟨S16x512x512, .f32⟩
  | 102 => ⟨S16x512x512, .f32⟩
  | 103 => ⟨S_, .f32⟩
  | 104 => ⟨S16x512x512, .f32⟩
  | 105 => ⟨S16x512x512, .f32⟩
  | 106 => ⟨S16x512x512, .f32⟩
  | 107 => ⟨S_, .f32⟩
  | 108 => ⟨S16x512, .f32⟩
  | 109 => ⟨S16x1x512, .f32⟩
  | 110 => ⟨S_, .f32⟩
  | 111 => ⟨S16x512, .f32⟩
  | 112 => ⟨S_, .f32⟩
  | 113 => ⟨S16x512, .f32⟩
  | 114 => ⟨S16x512x1, .f32⟩
  | 115 => ⟨S_, .f32⟩
  | 116 => ⟨S16x512, .f32⟩
  | 117 => ⟨S16x512, .f32⟩
  | 118 => ⟨S16x512x128, .f32⟩
  | 119 => ⟨S512x16x128, .f32⟩
  | 120 => ⟨S16x512x128, .f32⟩
  | 121 => ⟨S512x16x128, .f32⟩
  | 122 => ⟨S512x2048, .f32⟩
  | 123 => ⟨S512x2048, .f32⟩
  | 124 => ⟨S_, .f32⟩
  | 125 => ⟨S512x16x128, .f32⟩
  | 126 => ⟨S512x16x128, .f32⟩
  | 127 => ⟨S512x2048, .f32⟩
  | _ => ⟨S2048x2048, .f32⟩

abbrev hbmTy0_1 (i : Nat) : BufTy := match i % 128 with
  | 0 => ⟨S512x2048, .bf16⟩
  | 1 => ⟨S16x1x512, .f32⟩
  | 2 => ⟨S0x2048, .bf16⟩
  | 3 => ⟨S1536x2048, .bf16⟩
  | 4 => ⟨S2048x2048, .bf16⟩
  | 5 => ⟨S512x2048, .f32⟩
  | 6 => ⟨S512x2048, .f32⟩
  | 7 => ⟨S1536x2048, .f32⟩
  | 8 => ⟨S2048x2048, .f32⟩
  | 9 => ⟨S512x2048, .f32⟩
  | 10 => ⟨S512x2048, .f32⟩
  | 11 => ⟨S1536x2048, .f32⟩
  | 12 => ⟨S2048x2048, .f32⟩
  | 13 => ⟨S16x1x512, .f32⟩
  | 14 => ⟨S16x1x512, .f32⟩
  | 15 => ⟨S16x1x1536, .f32⟩
  | 16 => ⟨S16x1x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_call0_v0 : Ref sig .tc := ⟨.hbm, 35, rfl⟩
abbrev main_v25_1 : Ref sig .tc := ⟨.hbm, 36, rfl⟩
abbrev main_call0_v2 : Ref sig .tc := ⟨.hbm, 37, rfl⟩
abbrev main_v25_0 : Ref sig .tc := ⟨.hbm, 38, rfl⟩
abbrev main_call0_cst : Ref sig .tc := ⟨.hbm, 39, rfl⟩
abbrev main_v25_2 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call1_cst : Ref sig .tc := ⟨.hbm, 103, rfl⟩
abbrev main_call1_v0 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_17 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩

abbrev nD : Nat := 1
abbrev τ : Topo := Topo.v7x

variable {F : FTy → Type} [FloatOps F]
-- ==== Up.lean ====
abbrev S2048x2048 : Shape := ⟨2, ![2048, 2048]⟩
abbrev S8x2048x1024 : Shape := ⟨3, ![8, 2048, 1024]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== UpRefIdeal.lean ====
abbrev S2048x2048 : Shape := ⟨2, ![2048, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S2048x8192, .bf16⟩
  | .hbm, ⟨11, _⟩ => ⟨S2048x8192, .f32⟩
  | .hbm, ⟨12, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Down.lean ====
abbrev S2048x8192 : Shape := ⟨2, ![2048, 8192]⟩
abbrev S1x8192x2048 : Shape := ⟨3, ![1, 8192, 2048]⟩
abbrev S2048x2048 : Shape := ⟨2, ![2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S1x8192x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 4], ![false, false, false, false]⟩

def k0_cond3 (i : grid0.Coords) : BitVec 1 :=
  let c0_i32 : BitVec 32 := 0#32
  let arg3 : BitVec 32 := BitVec.ofNat 32 (i 3).val
  let v0 : BitVec 32 := Scalar.addi c0_i32 arg3
  let c3_i32_8 : BitVec 32 := 3#32
  let v13 : BitVec 1 := Scalar.cmpi .eq v0 c3_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DownRefIdeal.lean ====
abbrev S2048x8192 : Shape := ⟨2, ![2048, 8192]⟩
abbrev S1x8192x2048 : Shape := ⟨3, ![1, 8192, 2048]⟩
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S1x8192x2048, .bf16⟩
  | .hbm, ⟨2, _⟩ => ⟨S8192x2048, .bf16⟩
  | .hbm, ⟨3, _⟩ => ⟨S2048x8192, .f32⟩
  | .hbm, ⟨4, _⟩ => ⟨S8192x2048, .f32⟩
  | .hbm, ⟨5, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== In.lean ====
abbrev S2048x2048 : Shape := ⟨2, ![2048, 2048]⟩
abbrev S8x2048x1024 : Shape := ⟨3, ![8, 2048, 1024]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== InRefIdeal.lean ====
abbrev S2048x2048 : Shape := ⟨2, ![2048, 2048]⟩
abbrev S8x2048x1024 : Shape := ⟨3, ![8, 2048, 1024]⟩
abbrev S2048x8x1024 : Shape := ⟨3, ![2048, 8, 1024]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S2048x2048, .f32⟩
  | .hbm, ⟨5, _⟩ => ⟨S2048x8192, .f32⟩
  | .hbm, ⟨6, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proj.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjRefIdeal.lean ====
abbrev S2048x2048 : Shape := ⟨2, ![2048, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kv.lean ====
abbrev S2048x2048 : Shape := ⟨2, ![2048, 2048]⟩
abbrev S2x2048x2048 : Shape := ⟨3, ![2, 2048, 2048]⟩
abbrev S2048x4096 : Shape := ⟨2, ![2048, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== KvRefIdeal.lean ====
abbrev S2048x2048 : Shape := ⟨2, ![2048, 2048]⟩
abbrev S2x2048x2048 : Shape := ⟨3, ![2, 2048, 2048]⟩
abbrev S2048x2x2048 : Shape := ⟨3, ![2048, 2, 2048]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2x2048, .bf16⟩
  | .hbm, ⟨3, _⟩ => ⟨S2048x4096, .bf16⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Ple.lean ====
abbrev S2048x256 : Shape := ⟨2, ![2048, 256]⟩
abbrev S8x256x256 : Shape := ⟨3, ![8, 256, 256]⟩
abbrev S2048x2048 : Shape := ⟨2, ![2048, 2048]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .bf16⟩
  | .hbm, ⟨1, _⟩ => ⟨S8x256x256, .bf16⟩
  | .hbm, ⟨2, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1024x256, .f32⟩
  | .local _ .vmem, ⟨5, _⟩ => ⟨S1024x256, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== PleRefIdeal.lean ====
abbrev S2048x256 : Shape := ⟨2, ![2048, 256]⟩
abbrev S8x256x256 : Shape := ⟨3, ![8, 256, 256]⟩
abbrev S256x8x256 : Shape := ⟨3, ![256, 8, 256]⟩
abbrev S256x2048 : Shape := ⟨2, ![256, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S8x256x256, .bf16⟩
  | .hbm, ⟨2, _⟩ => ⟨S256x8x256, .bf16⟩
  | .hbm, ⟨3, _⟩ => ⟨S256x2048, .bf16⟩
  | .hbm, ⟨4, _⟩ => ⟨S2048x256, .f32⟩
  | .hbm, ⟨5, _⟩ => ⟨S256x2048, .f32⟩
  | .hbm, ⟨6, _⟩ => ⟨S2048x2048, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownW.lean ====
abbrev S2048x8192 : Shape := ⟨2, ![2048, 8192]⟩
abbrev S2048x2048 : Shape := ⟨2, ![2048, 2048]⟩
abbrev S1x8192x2048 : Shape := ⟨3, ![1, 8192, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S1x8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DownWRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩
abbrev S1x8192x2048 : Shape := ⟨3, ![1, 8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | .hbm, ⟨10, _⟩ => ⟨S1x8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownX.lean ====
abbrev S2048x8192 : Shape := ⟨2, ![2048, 8192]⟩
abbrev S1x8192x2048 : Shape := ⟨3, ![1, 8192, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x8192, .bf16⟩
  | .hbm, ⟨1, _⟩ => ⟨S1x8192x2048, .bf16⟩
  | .hbm, ⟨2, _⟩ => ⟨S2048x2048, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== DownXRefIdeal.lean ====
abbrev S2048x8192 : Shape := ⟨2, ![2048, 8192]⟩
abbrev S1x8192x2048 : Shape := ⟨3, ![1, 8192, 2048]⟩
abbrev S2048x2048 : Shape := ⟨2, ![2048, 2048]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S1x8192x2048, .bf16⟩
  | .hbm, ⟨2, _⟩ => ⟨S2048x2048, .bf16⟩
  | .hbm, ⟨3, _⟩ => ⟨S2048x8192, .f32⟩
  | .hbm, ⟨4, _⟩ => ⟨S8192x2048, .bf16⟩
  | .hbm, ⟨5, _⟩ => ⟨S8192x2048, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S_, .f32⟩
  | .hbm, ⟨10, _⟩ => ⟨S2048x8192, .f32⟩
  | .hbm, ⟨11, _⟩ => ⟨S2048x8192, .i1⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x2048, .f32⟩
  | .hbm, ⟨17, _⟩ => ⟨S2048x8192, .f32⟩
  | .hbm, ⟨18, _⟩ => ⟨S2048x8192, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== UpW.lean ====
abbrev S2048x2048 : Shape := ⟨2, ![2048, 2048]⟩
abbrev S2048x8192 : Shape := ⟨2, ![2048, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== UpWRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | .hbm, ⟨11, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpX.lean ====
abbrev S8x2048x1024 : Shape := ⟨3, ![8, 2048, 1024]⟩
abbrev S2048x8192 : Shape := ⟨2, ![2048, 8192]⟩
abbrev S2048x2048 : Shape := ⟨2, ![2048, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x1024, .bf16⟩
  | .hbm, ⟨1, _⟩ => ⟨S2048x8192, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 4, 1], ![false, false, false, false]⟩

def k0_cond3 (i : grid0.Coords) : BitVec 1 :=
  let c0_i32 : BitVec 32 := 0#32
  let arg2 : BitVec 32 := BitVec.ofNat 32 (i 2).val
  let v0 : BitVec 32 := Scalar.addi c0_i32 arg2
  let c1_i32 : BitVec 32 := 1#32
  let v1 : BitVec 32 := Scalar.muli v0 c1_i32
  let arg3 : BitVec 32 := BitVec.ofNat 32 (i 3).val
  let v2 : BitVec 32 := Scalar.addi v1 arg3
  let c3_i32_13 : BitVec 32 := 3#32
  let v22 : BitVec 1 := Scalar.cmpi .eq v2 c3_i32_13
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== UpXRefIdeal.lean ====
abbrev S8x2048x1024 : Shape := ⟨3, ![8, 2048, 1024]⟩
abbrev S2048x8192 : Shape := ⟨2, ![2048, 8192]⟩
abbrev S2048x8x1024 : Shape := ⟨3, ![2048, 8, 1024]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S2048x8192, .bf16⟩
  | .hbm, ⟨2, _⟩ => ⟨S2048x8x1024, .bf16⟩
  | .hbm, ⟨3, _⟩ => ⟨S2048x8192, .bf16⟩
  | .hbm, ⟨4, _⟩ => ⟨S_, .f32⟩
  | .hbm, ⟨5, _⟩ => ⟨S2048x2048, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x2048, .f32⟩
  | .hbm, ⟨10, _⟩ => ⟨S2048x2048, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InW.lean ====
abbrev S2048x2048 : Shape := ⟨2, ![2048, 2048]⟩
abbrev S4x2048x2048 : Shape := ⟨3, ![4, 2048, 2048]⟩
abbrev S8x2048x1024 : Shape := ⟨3, ![8, 2048, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.muli v26 c1_i32_10
  let v28 : BitVec 32 := Scalar.addi v27 arg2
  let c0_i32_11 : BitVec 32 := 0#32
  ![v16.toNat, arg3.toNat, v28.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== InWRefIdeal.lean ====
abbrev S2048x2048 : Shape := ⟨2, ![2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S_, .f32⟩
  | .hbm, ⟨5, _⟩ => ⟨S2048x8192, .f32⟩
  | .hbm, ⟨6, _⟩ => ⟨S2048x2048, .f32⟩
  | .hbm, ⟨7, _⟩ => ⟨S2048x8192, .f32⟩
  | .hbm, ⟨8, _⟩ => ⟨S2048x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InX.lean ====
abbrev S8x2048x1024 : Shape := ⟨3, ![8, 2048, 1024]⟩
abbrev S4x2048x2048 : Shape := ⟨3, ![4, 2048, 2048]⟩
abbrev S2048x2048 : Shape := ⟨2, ![2048, 2048]⟩
abbrev S1x1024x2048 : Shape := ⟨3, ![1, 1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x1024, .bf16⟩
  | .hbm, ⟨1, _⟩ => ⟨S4x2048x2048, .bf16⟩
  | .hbm, ⟨2, _⟩ => ⟨S2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 4, 1], ![false, false, false, false]⟩

def k0_cond3 (i : grid0.Coords) : BitVec 1 :=
  let c0_i32 : BitVec 32 := 0#32
  let arg2 : BitVec 32 := BitVec.ofNat 32 (i 2).val
  let v0 : BitVec 32 := Scalar.addi c0_i32 arg2
  let c1_i32 : BitVec 32 := 1#32
  let v1 : BitVec 32 := Scalar.muli v0 c1_i32
  let arg3 : BitVec 32 := BitVec.ofNat 32 (i 3).val
  let v2 : BitVec 32 := Scalar.addi v1 arg3
  let c3_i32_15 : BitVec 32 := 3#32
  let v24 : BitVec 1 := Scalar.cmpi .eq v2 c3_i32_15
  let v25 : BitVec 32 := Scalar.extui v24
  let c0_i32_16 : BitVec 32 := 0#32
  let v26 : BitVec 1 := Scalar.cmpi .ne v25 c0_i32_16
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg2 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32_5 : BitVec 32 := 2#32
  let v18 : BitVec 32 := Scalar.muli arg2 c2_i32_5
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2_i32_12 : BitVec 32 := 2#32
  let v29 : BitVec 32 := Scalar.divsi v28 c2_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c2_i32_12 c0_i32_15
  let v36 : BitVec 32 := Scalar.extui v35
  let c0_i32_16 : BitVec 32 := 0#32
  let v37 : BitVec 1 := Scalar.cmpi .slt c2_i32_12 c0_i32_16
  let v38 : BitVec 32 := Scalar.extui v37
  let v39 : BitVec 32 := Scalar.subi v36 v38
  let v40 : BitVec 1 := Scalar.cmpi .ne v34 v39
  let v41 : BitVec 32 := Scalar.remsi v28 c2_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c1_i32_19 : BitVec 32 := 1#32
  let v46 : BitVec 32 := Scalar.muli v45 c1_i32_19
  let v47 : BitVec 32 := Scalar.addi v46 arg3
  let c0_i32_20 : BitVec 32 := 0#32
  ![v17.toNat, arg0.toNat, v47.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== InXRefIdeal.lean ====
abbrev S8x2048x1024 : Shape := ⟨3, ![8, 2048, 1024]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S2048x8x1024 : Shape := ⟨3, ![2048, 8, 1024]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S2048x8x1024, .bf16⟩
  | .hbm, ⟨5, _⟩ => ⟨S2048x8192, .bf16⟩
  | .hbm, ⟨6, _⟩ => ⟨S_, .f32⟩
  | .hbm, ⟨7, _⟩ => ⟨S2048x2048, .f32⟩
  | .hbm, ⟨8, _⟩ => ⟨S2048x8192, .f32⟩
  | .hbm, ⟨9, _⟩ => ⟨S2048x8192, .f32⟩
  | .hbm, ⟨10, _⟩ => ⟨S2048x8192, .f32⟩
  | .hbm, ⟨11, _⟩ => ⟨S2048x2048, .f32⟩
  | .hbm, ⟨12, _⟩ => ⟨S2048x2048, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ProjW.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjWRefIdeal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjX.lean ====
abbrev S1x2048x2048 : Shape := ⟨3, ![1, 2048, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== ProjXRefIdeal.lean ====
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S2048x2048, .bf16⟩
  | .hbm, ⟨2, _⟩ => ⟨S2048x2048, .bf16⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvW.lean ====
abbrev S2048x2048 : Shape := ⟨2, ![2048, 2048]⟩
abbrev S2x2048x2048 : Shape := ⟨3, ![2, 2048, 2048]⟩
abbrev S2048x1024 : Shape := ⟨2, ![2048, 1024]⟩
abbrev S1x2048x2048 : Shape := ⟨3, ![1, 2048, 2048]⟩
abbrev S1x1024x2048 : Shape := ⟨3, ![1, 1024, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x1024x2048, .bf16⟩
  | .local _ .vmem, ⟨5, _⟩ => ⟨S1x1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== KvWRefIdeal.lean ====
abbrev S2048x2048 : Shape := ⟨2, ![2048, 2048]⟩
abbrev S2x2048x2048 : Shape := ⟨3, ![2, 2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S_, .f32⟩
  | .hbm, ⟨3, _⟩ => ⟨S2x2048x2048, .f32⟩
  | .hbm, ⟨4, _⟩ => ⟨S2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KvX.lean ====
abbrev S2x2048x2048 : Shape := ⟨3, ![2, 2048, 2048]⟩
abbrev S2048x2048 : Shape := ⟨2, ![2048, 2048]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 4
  | .vmem => 9
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2048x2048, .f32⟩
  | .hbm, ⟨3, _⟩ => ⟨S2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 2, 1], ![false, false, false, false]⟩

def k0_cond3 (i : grid0.Coords) : BitVec 1 :=
  let c0_i32 : BitVec 32 := 0#32
  let arg2 : BitVec 32 := BitVec.ofNat 32 (i 2).val
  let v0 : BitVec 32 := Scalar.addi c0_i32 arg2
  let c1_i32 : BitVec 32 := 1#32
  let v1 : BitVec 32 := Scalar.muli v0 c1_i32
  let arg3 : BitVec 32 := BitVec.ofNat 32 (i 3).val
  let v2 : BitVec 32 := Scalar.addi v1 arg3
  let c1_i32_10 : BitVec 32 := 1#32
  let v16 : BitVec 1 := Scalar.cmpi .eq v2 c1_i32_10
  let v17 : BitVec 32 := Scalar.extui v16
  let c0_i32_11 : BitVec 32 := 0#32
  let v18 : BitVec 1 := Scalar.cmpi .ne v17 c0_i32_11
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== KvXRefIdeal.lean ====
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2048x2048, .f32⟩
  | .hbm, ⟨3, _⟩ => ⟨S1x2048x2048, .bf16⟩
  | .hbm, ⟨4, _⟩ => ⟨S2048x2048, .bf16⟩
  | .hbm, ⟨5, _⟩ => ⟨S1x2048x2048, .bf16⟩
  | .hbm, ⟨6, _⟩ => ⟨S2048x2048, .bf16⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S1x2048x2048, .bf16⟩
  | .hbm, ⟨14, _⟩ => ⟨S2048x2048, .bf16⟩
  | .hbm, ⟨15, _⟩ => ⟨S1x2048x2048, .bf16⟩
  | .hbm, ⟨16, _⟩ => ⟨S2048x2048, .bf16⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== PleW.lean ====
abbrev S2048x256 : Shape := ⟨2, ![2048, 256]⟩
abbrev S2048x2048 : Shape := ⟨2, ![2048, 2048]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S8x256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S1x256x256, .bf16⟩
  | .local _ .vmem, ⟨4, _⟩ => ⟨S1x256x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== PleWRefIdeal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩
abbrev S256x8x256 : Shape := ⟨3, ![256, 8, 256]⟩
abbrev S8x256x256 : Shape := ⟨3, ![8, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S_, .f32⟩
  | .hbm, ⟨3, _⟩ => ⟨S256x2048, .f32⟩
  | .hbm, ⟨4, _⟩ => ⟨S2048x256, .f32⟩
  | .hbm, ⟨5, _⟩ => ⟨S2048x2048, .f32⟩
  | .hbm, ⟨6, _⟩ => ⟨S2048x2048, .f32⟩
  | .hbm, ⟨7, _⟩ => ⟨S2048x256, .f32⟩
  | .hbm, ⟨8, _⟩ => ⟨S256x2048, .f32⟩
  | .hbm, ⟨9, _⟩ => ⟨S256x8x256, .f32⟩
  | .hbm, ⟨10, _⟩ => ⟨S8x256x256, .f32⟩
  | .hbm, ⟨11, _⟩ => ⟨S8x256x256, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== StepRows.lean ====
abbrev S8x256x2048 : Shape := ⟨3, ![8, 256, 2048]⟩
abbrev S1x256x2048 : Shape := ⟨3, ![1, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepRowsIdeal.lean ====
abbrev S8x256x2048 : Shape := ⟨3, ![8, 256, 2048]⟩
abbrev S1x256x2048 : Shape := ⟨3, ![1, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepRowsRefIdeal.lean ====
abbrev S8x256x2048 : Shape := ⟨3, ![8, 256, 2048]⟩
abbrev S1x256x2048 : Shape := ⟨3, ![1, 256, 2048]⟩
abbrev S_ : Shape := ⟨0, ![]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S_, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== StepIn.lean ====
abbrev S4x2048x1024 : Shape := ⟨3, ![4, 2048, 1024]⟩
abbrev S1x2048x1024 : Shape := ⟨3, ![1, 2048, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x1024, .bf16⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepInIdeal.lean ====
abbrev S4x2048x1024 : Shape := ⟨3, ![4, 2048, 1024]⟩
abbrev S1x2048x1024 : Shape := ⟨3, ![1, 2048, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x1024, .bf16⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepInRefIdeal.lean ====
abbrev S4x2048x1024 : Shape := ⟨3, ![4, 2048, 1024]⟩
abbrev S1x2048x1024 : Shape := ⟨3, ![1, 2048, 1024]⟩
abbrev S_ : Shape := ⟨0, ![]⟩
abbrev S2048x1024 : Shape := ⟨2, ![2048, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S4x2048x1024, .f32⟩
  | .hbm, ⟨5, _⟩ => ⟨S_, .f32⟩
  | .hbm, ⟨6, _⟩ => ⟨S2048x1024, .f32⟩
  | .hbm, ⟨7, _⟩ => ⟨S1x2048x1024, .f32⟩
  | .hbm, ⟨8, _⟩ => ⟨S_, .f32⟩
  | .hbm, ⟨9, _⟩ => ⟨S1x2048x1024, .f32⟩
  | .hbm, ⟨10, _⟩ => ⟨S1x2048x1024, .f32⟩
  | .hbm, ⟨11, _⟩ => ⟨S_, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S_, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1x2048x1024, .f32⟩
  | .hbm, ⟨40, _⟩ => ⟨S1x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== StepKvf.lean ====
abbrev S8x2048x514 : Shape := ⟨3, ![8, 2048, 514]⟩
abbrev S1x2048x514 : Shape := ⟨3, ![1, 2048, 514]⟩
abbrev S8x256x514 : Shape := ⟨3, ![8, 256, 514]⟩
abbrev S1x256x514 : Shape := ⟨3, ![1, 256, 514]⟩
abbrev S256x514 : Shape := ⟨2, ![256, 514]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x514, .bf16⟩
  | .hbm, ⟨1, _⟩ => ⟨S1x2048x514, .f32⟩
  | .hbm, ⟨2, _⟩ => ⟨S1x2048x514, .f32⟩
  | .hbm, ⟨3, _⟩ => ⟨S1x2048x514, .f32⟩
  | .hbm, ⟨4, _⟩ => ⟨S1x2048x514, .f32⟩
  | .hbm, ⟨5, _⟩ => ⟨S1x2048x514, .f32⟩
  | .hbm, ⟨6, _⟩ => ⟨S1x2048x514, .f32⟩
  | .hbm, ⟨7, _⟩ => ⟨S1x2048x514, .f32⟩
  | .local _ .vmem, ⟨0, _⟩ => ⟨S8x256x514, .bf16⟩
  | .local _ .vmem, ⟨1, _⟩ => ⟨S8x256x514, .bf16⟩
  | .local _ .vmem, ⟨2, _⟩ => ⟨S1x256x514, .f32⟩
  | .local _ .vmem, ⟨3, _⟩ => ⟨S1x256x514, .f32⟩
  | .local _ .vmem, ⟨4, _⟩ => ⟨S1x256x514, .f32⟩
  | .local _ .vmem, ⟨5, _⟩ => ⟨S1x256x514, .f32⟩
  | .local _ .vmem, ⟨6, _⟩ => ⟨S1x256x514, .f32⟩
  | .local _ .vmem, ⟨7, _⟩ => ⟨S1x256x514, .f32⟩
  | .local _ .vmem, ⟨8, _⟩ => ⟨S1x256x514, .f32⟩
  | .local _ .vmem, ⟨9, _⟩ => ⟨S1x256x514, .f32⟩
  | .local _ .vmem, ⟨10, _⟩ => ⟨S1x256x514, .f32⟩
  | .local _ .vmem, ⟨11, _⟩ => ⟨S1x256x514, .f32⟩
  | .local _ .vmem, ⟨12, _⟩ => ⟨S1x256x514, .f32⟩
  | .local _ .vmem, ⟨13, _⟩ => ⟨S1x256x514, .f32⟩
  | .local _ .vmem, ⟨14, _⟩ => ⟨S1x256x514, .f32⟩
  | .local _ .vmem, ⟨15, _⟩ => ⟨S1x256x514, .f32⟩
  | _, _ => ⟨S8x2048x514, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x514 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x514 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepKvfIdeal.lean ====
abbrev S8x2048x514 : Shape := ⟨3, ![8, 2048, 514]⟩
abbrev S1x2048x514 : Shape := ⟨3, ![1, 2048, 514]⟩
abbrev S8x256x514 : Shape := ⟨3, ![8, 256, 514]⟩
abbrev S1x256x514 : Shape := ⟨3, ![1, 256, 514]⟩
abbrev S256x514 : Shape := ⟨2, ![256, 514]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x514, .bf16⟩
  | .hbm, ⟨1, _⟩ => ⟨S1x2048x514, .f32⟩
  | .hbm, ⟨2, _⟩ => ⟨S1x2048x514, .f32⟩
  | .hbm, ⟨3, _⟩ => ⟨S1x2048x514, .f32⟩
  | .hbm, ⟨4, _⟩ => ⟨S1x2048x514, .f32⟩
  | .hbm, ⟨5, _⟩ => ⟨S1x2048x514, .f32⟩
  | .hbm, ⟨6, _⟩ => ⟨S1x2048x514, .f32⟩
  | .hbm, ⟨7, _⟩ => ⟨S1x2048x514, .f32⟩
  | .local _ .vmem, ⟨0, _⟩ => ⟨S8x256x514, .bf16⟩
  | .local _ .vmem, ⟨1, _⟩ => ⟨S8x256x514, .bf16⟩
  | .local _ .vmem, ⟨2, _⟩ => ⟨S1x256x514, .f32⟩
  | .local _ .vmem, ⟨3, _⟩ => ⟨S1x256x514, .f32⟩
  | .local _ .vmem, ⟨4, _⟩ => ⟨S1x256x514, .f32⟩
  | .local _ .vmem, ⟨5, _⟩ => ⟨S1x256x514, .f32⟩
  | .local _ .vmem, ⟨6, _⟩ => ⟨S1x256x514, .f32⟩
  | .local _ .vmem, ⟨7, _⟩ => ⟨S1x256x514, .f32⟩
  | .local _ .vmem, ⟨8, _⟩ => ⟨S1x256x514, .f32⟩
  | .local _ .vmem, ⟨9, _⟩ => ⟨S1x256x514, .f32⟩
  | .local _ .vmem, ⟨10, _⟩ => ⟨S1x256x514, .f32⟩
  | .local _ .vmem, ⟨11, _⟩ => ⟨S1x256x514, .f32⟩
  | .local _ .vmem, ⟨12, _⟩ => ⟨S1x256x514, .f32⟩
  | .local _ .vmem, ⟨13, _⟩ => ⟨S1x256x514, .f32⟩
  | .local _ .vmem, ⟨14, _⟩ => ⟨S1x256x514, .f32⟩
  | .local _ .vmem, ⟨15, _⟩ => ⟨S1x256x514, .f32⟩
  | _, _ => ⟨S8x2048x514, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x514 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x514 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepKvfRefIdeal.lean ====
abbrev S8x2048x514 : Shape := ⟨3, ![8, 2048, 514]⟩
abbrev S1x2048x514 : Shape := ⟨3, ![1, 2048, 514]⟩
abbrev S_ : Shape := ⟨0, ![]⟩
abbrev S2048x514 : Shape := ⟨2, ![2048, 514]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x514, .bf16⟩
  | .hbm, ⟨1, _⟩ => ⟨S1x2048x514, .f32⟩
  | .hbm, ⟨2, _⟩ => ⟨S1x2048x514, .f32⟩
  | .hbm, ⟨3, _⟩ => ⟨S1x2048x514, .f32⟩
  | .hbm, ⟨4, _⟩ => ⟨S8x2048x514, .f32⟩
  | .hbm, ⟨5, _⟩ => ⟨S_, .f32⟩
  | .hbm, ⟨6, _⟩ => ⟨S2048x514, .f32⟩
  | .hbm, ⟨7, _⟩ => ⟨S1x2048x514, .f32⟩
  | .hbm, ⟨8, _⟩ => ⟨S_, .f32⟩
  | .hbm, ⟨9, _⟩ => ⟨S1x2048x514, .f32⟩
  | .hbm, ⟨10, _⟩ => ⟨S1x2048x514, .f32⟩
  | .hbm, ⟨11, _⟩ => ⟨S_, .f32⟩
  | .hbm, ⟨12, _⟩ => ⟨S1x2048x514, .f32⟩
  | .hbm, ⟨13, _⟩ => ⟨S1x2048x514, .f32⟩
  | .hbm, ⟨14, _⟩ => ⟨S1x2048x514, .f32⟩
  | .hbm, ⟨15, _⟩ => ⟨S_, .f32⟩
  | .hbm, ⟨16, _⟩ => ⟨S1x2048x514, .f32⟩
  | .hbm, ⟨17, _⟩ => ⟨S1x2048x514, .f32⟩
  | .hbm, ⟨18, _⟩ => ⟨S1x2048x514, .f32⟩
  | .hbm, ⟨19, _⟩ => ⟨S_, .f32⟩
  | .hbm, ⟨20, _⟩ => ⟨S1x2048x514, .f32⟩
  | .hbm, ⟨21, _⟩ => ⟨S1x2048x514, .f32⟩
  | .hbm, ⟨22, _⟩ => ⟨S1x2048x514, .f32⟩
  | .hbm, ⟨23, _⟩ => ⟨S_, .f32⟩
  | .hbm, ⟨24, _⟩ => ⟨S1x2048x514, .f32⟩
  | .hbm, ⟨25, _⟩ => ⟨S1x2048x514, .f32⟩
  | .hbm, ⟨26, _⟩ => ⟨S_, .f32⟩
  | .hbm, ⟨27, _⟩ => ⟨S1x2048x514, .f32⟩
  | .hbm, ⟨28, _⟩ => ⟨S1x2048x514, .f32⟩
  | .hbm, ⟨29, _⟩ => ⟨S1x2048x514, .f32⟩
  | .hbm, ⟨30, _⟩ => ⟨S_, .f32⟩
  | .hbm, ⟨31, _⟩ => ⟨S1x2048x514, .f32⟩
  | .hbm, ⟨32, _⟩ => ⟨S1x2048x514, .f32⟩
  | .hbm, ⟨33, _⟩ => ⟨S1x2048x514, .f32⟩
  | .hbm, ⟨34, _⟩ => ⟨S_, .f32⟩
  | .hbm, ⟨35, _⟩ => ⟨S1x2048x514, .f32⟩
  | .hbm, ⟨36, _⟩ => ⟨S1x2048x514, .f32⟩
  | .hbm, ⟨37, _⟩ => ⟨S1x2048x514, .f32⟩
  | .hbm, ⟨38, _⟩ => ⟨S_, .f32⟩
  | .hbm, ⟨39, _⟩ => ⟨S1x2048x514, .f32⟩
  | .hbm, ⟨40, _⟩ => ⟨S1x2048x514, .f32⟩
  | _, _ => ⟨S8x2048x514, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== StepLb.lean ====
abbrev S8x2x256 : Shape := ⟨3, ![8, 2, 256]⟩
abbrev S1x2x256 : Shape := ⟨3, ![1, 2, 256]⟩
abbrev S2x256 : Shape := ⟨2, ![2, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .local _ .vmem, ⟨0, _⟩ => ⟨S8x2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | .local _ .vmem, ⟨7, _⟩ => ⟨S1x2x256, .f32⟩
  | _, _ => ⟨S8x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepLbRefIdeal.lean ====
abbrev S8x2x256 : Shape := ⟨3, ![8, 2, 256]⟩
abbrev S1x2x256 : Shape := ⟨3, ![1, 2, 256]⟩
abbrev S_ : Shape := ⟨0, ![]⟩
abbrev S2x256 : Shape := ⟨2, ![2, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S_, .f32⟩
  | .hbm, ⟨5, _⟩ => ⟨S2x256, .f32⟩
  | .hbm, ⟨6, _⟩ => ⟨S1x2x256, .f32⟩
  | .hbm, ⟨7, _⟩ => ⟨S_, .f32⟩
  | .hbm, ⟨8, _⟩ => ⟨S1x2x256, .f32⟩
  | .hbm, ⟨9, _⟩ => ⟨S1x2x256, .f32⟩
  | .hbm, ⟨10, _⟩ => ⟨S_, .f32⟩
  | .hbm, ⟨11, _⟩ => ⟨S1x2x256, .f32⟩
  | .hbm, ⟨12, _⟩ => ⟨S1x2x256, .f32⟩
  | .hbm, ⟨13, _⟩ => ⟨S1x2x256, .f32⟩
  | .hbm, ⟨14, _⟩ => ⟨S_, .f32⟩
  | .hbm, ⟨15, _⟩ => ⟨S1x2x256, .f32⟩
  | .hbm, ⟨16, _⟩ => ⟨S1x2x256, .f32⟩
  | .hbm, ⟨17, _⟩ => ⟨S1x2x256, .f32⟩
  | .hbm, ⟨18, _⟩ => ⟨S_, .f32⟩
  | .hbm, ⟨19, _⟩ => ⟨S1x2x256, .f32⟩
  | .hbm, ⟨20, _⟩ => ⟨S1x2x256, .f32⟩
  | .hbm, ⟨21, _⟩ => ⟨S1x2x256, .f32⟩
  | .hbm, ⟨22, _⟩ => ⟨S_, .f32⟩
  | .hbm, ⟨23, _⟩ => ⟨S1x2x256, .f32⟩
  | .hbm, ⟨24, _⟩ => ⟨S1x2x256, .f32⟩
  | .hbm, ⟨25, _⟩ => ⟨S_, .f32⟩
  | .hbm, ⟨26, _⟩ => ⟨S1x2x256, .f32⟩
  | .hbm, ⟨27, _⟩ => ⟨S1x2x256, .f32⟩
  | .hbm, ⟨28, _⟩ => ⟨S1x2x256, .f32⟩
  | .hbm, ⟨29, _⟩ => ⟨S_, .f32⟩
  | .hbm, ⟨30, _⟩ => ⟨S1x2x256, .f32⟩
  | .hbm, ⟨31, _⟩ => ⟨S1x2x256, .f32⟩
  | .hbm, ⟨32, _⟩ => ⟨S1x2x256, .f32⟩
  | .hbm, ⟨33, _⟩ => ⟨S_, .f32⟩
  | .hbm, ⟨34, _⟩ => ⟨S1x2x256, .f32⟩
  | .hbm, ⟨35, _⟩ => ⟨S1x2x256, .f32⟩
  | .hbm, ⟨36, _⟩ => ⟨S1x2x256, .f32⟩
  | .hbm, ⟨37, _⟩ => ⟨S_, .f32⟩
  | .hbm, ⟨38, _⟩ => ⟨S1x2x256, .f32⟩
  | .hbm, ⟨39, _⟩ => ⟨S1x2x256, .f32⟩
  | _, _ => ⟨S8x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepGate.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepGateIdeal.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepGateRefIdeal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== StepPle.lean ====
abbrev S8x256x256 : Shape := ⟨3, ![8, 256, 256]⟩
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepPleIdeal.lean ====
abbrev S8x256x256 : Shape := ⟨3, ![8, 256, 256]⟩
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepPleRefIdeal.lean ====
abbrev S8x256x256 : Shape := ⟨3, ![8, 256, 256]⟩
abbrev S2x256x256 : Shape := ⟨3, ![2, 256, 256]⟩
abbrev S_ : Shape := ⟨0, ![]⟩
abbrev S256x256 : Shape := ⟨2, ![256, 256]⟩
abbrev S1x256x256 : Shape := ⟨3, ![1, 256, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S8x256x256, .f32⟩
  | .hbm, ⟨6, _⟩ => ⟨S_, .f32⟩
  | .hbm, ⟨7, _⟩ => ⟨S256x256, .f32⟩
  | .hbm, ⟨8, _⟩ => ⟨S8x256x256, .f32⟩
  | .hbm, ⟨9, _⟩ => ⟨S_, .f32⟩
  | .hbm, ⟨10, _⟩ => ⟨S256x256, .f32⟩
  | .hbm, ⟨11, _⟩ => ⟨S1x256x256, .f32⟩
  | .hbm, ⟨12, _⟩ => ⟨S1x256x256, .f32⟩
  | .hbm, ⟨13, _⟩ => ⟨S2x256x256, .f32⟩
  | .hbm, ⟨14, _⟩ => ⟨S_, .f32⟩
  | .hbm, ⟨15, _⟩ => ⟨S2x256x256, .f32⟩
  | .hbm, ⟨16, _⟩ => ⟨S2x256x256, .f32⟩
  | .hbm, ⟨17, _⟩ => ⟨S_, .f32⟩
  | .hbm, ⟨18, _⟩ => ⟨S2x256x256, .f32⟩
  | .hbm, ⟨19, _⟩ => ⟨S2x256x256, .f32⟩
  | .hbm, ⟨20, _⟩ => ⟨S2x256x256, .f32⟩
  | .hbm, ⟨21, _⟩ => ⟨S_, .f32⟩
  | .hbm, ⟨22, _⟩ => ⟨S2x256x256, .f32⟩
  | .hbm, ⟨23, _⟩ => ⟨S2x256x256, .f32⟩
  | .hbm, ⟨24, _⟩ => ⟨S2x256x256, .f32⟩
  | .hbm, ⟨25, _⟩ => ⟨S_, .f32⟩
  | .hbm, ⟨26, _⟩ => ⟨S2x256x256, .f32⟩
  | .hbm, ⟨27, _⟩ => ⟨S2x256x256, .f32⟩
  | .hbm, ⟨28, _⟩ => ⟨S2x256x256, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S_, .f32⟩
  | .hbm, ⟨33, _⟩ => ⟨S2x256x256, .f32⟩
  | .hbm, ⟨34, _⟩ => ⟨S2x256x256, .f32⟩
  | .hbm, ⟨35, _⟩ => ⟨S2x256x256, .f32⟩
  | .hbm, ⟨36, _⟩ => ⟨S_, .f32⟩
  | .hbm, ⟨37, _⟩ => ⟨S2x256x256, .f32⟩
  | .hbm, ⟨38, _⟩ => ⟨S2x256x256, .f32⟩
  | .hbm, ⟨39, _⟩ => ⟨S2x256x256, .f32⟩
  | .hbm, ⟨40, _⟩ => ⟨S_, .f32⟩
  | .hbm, ⟨41, _⟩ => ⟨S2x256x256, .f32⟩
  | .hbm, ⟨42, _⟩ => ⟨S2x256x256, .f32⟩
  | .hbm, ⟨43, _⟩ => ⟨S2x256x256, .f32⟩
  | .hbm, ⟨44, _⟩ => ⟨S_, .f32⟩
  | .hbm, ⟨45, _⟩ => ⟨S2x256x256, .f32⟩
  | .hbm, ⟨46, _⟩ => ⟨S2x256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== StepDown.lean ====
abbrev S8x1024x2048 : Shape := ⟨3, ![8, 1024, 2048]⟩
abbrev S2x1024x2048 : Shape := ⟨3, ![2, 1024, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepDownIdeal.lean ====
abbrev S8x1024x2048 : Shape := ⟨3, ![8, 1024, 2048]⟩
abbrev S2x1024x2048 : Shape := ⟨3, ![2, 1024, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepDownRefIdeal.lean ====
abbrev S8x1024x2048 : Shape := ⟨3, ![8, 1024, 2048]⟩
abbrev S2x1024x2048 : Shape := ⟨3, ![2, 1024, 2048]⟩
abbrev S_ : Shape := ⟨0, ![]⟩
abbrev S1024x2048 : Shape := ⟨2, ![1024, 2048]⟩
abbrev S1x1024x2048 : Shape := ⟨3, ![1, 1024, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S8x1024x2048, .f32⟩
  | .hbm, ⟨6, _⟩ => ⟨S_, .f32⟩
  | .hbm, ⟨7, _⟩ => ⟨S1024x2048, .f32⟩
  | .hbm, ⟨8, _⟩ => ⟨S8x1024x2048, .f32⟩
  | .hbm, ⟨9, _⟩ => ⟨S_, .f32⟩
  | .hbm, ⟨10, _⟩ => ⟨S1024x2048, .f32⟩
  | .hbm, ⟨11, _⟩ => ⟨S1x1024x2048, .f32⟩
  | .hbm, ⟨12, _⟩ => ⟨S1x1024x2048, .f32⟩
  | .hbm, ⟨13, _⟩ => ⟨S2x1024x2048, .f32⟩
  | .hbm, ⟨14, _⟩ => ⟨S_, .f32⟩
  | .hbm, ⟨15, _⟩ => ⟨S2x1024x2048, .f32⟩
  | .hbm, ⟨16, _⟩ => ⟨S2x1024x2048, .f32⟩
  | .hbm, ⟨17, _⟩ => ⟨S_, .f32⟩
  | .hbm, ⟨18, _⟩ => ⟨S2x1024x2048, .f32⟩
  | .hbm, ⟨19, _⟩ => ⟨S2x1024x2048, .f32⟩
  | .hbm, ⟨20, _⟩ => ⟨S2x1024x2048, .f32⟩
  | .hbm, ⟨21, _⟩ => ⟨S_, .f32⟩
  | .hbm, ⟨22, _⟩ => ⟨S2x1024x2048, .f32⟩
  | .hbm, ⟨23, _⟩ => ⟨S2x1024x2048, .f32⟩
  | .hbm, ⟨24, _⟩ => ⟨S2x1024x2048, .f32⟩
  | .hbm, ⟨25, _⟩ => ⟨S_, .f32⟩
  | .hbm, ⟨26, _⟩ => ⟨S2x1024x2048, .f32⟩
  | .hbm, ⟨27, _⟩ => ⟨S2x1024x2048, .f32⟩
  | .hbm, ⟨28, _⟩ => ⟨S2x1024x2048, .f32⟩
  | .hbm, ⟨29, _⟩ => ⟨S_, .f32⟩
  | .hbm, ⟨30, _⟩ => ⟨S2x1024x2048, .f32⟩
  | .hbm, ⟨31, _⟩ => ⟨S2x1024x2048, .f32⟩
  | .hbm, ⟨32, _⟩ => ⟨S_, .f32⟩
  | .hbm, ⟨33, _⟩ => ⟨S2x1024x2048, .f32⟩
  | .hbm, ⟨34, _⟩ => ⟨S2x1024x2048, .f32⟩
  | .hbm, ⟨35, _⟩ => ⟨S2x1024x2048, .f32⟩
  | .hbm, ⟨36, _⟩ => ⟨S_, .f32⟩
  | .hbm, ⟨37, _⟩ => ⟨S2x1024x2048, .f32⟩
  | .hbm, ⟨38, _⟩ => ⟨S2x1024x2048, .f32⟩
  | .hbm, ⟨39, _⟩ => ⟨S2x1024x2048, .f32⟩
  | .hbm, ⟨40, _⟩ => ⟨S_, .f32⟩
  | .hbm, ⟨41, _⟩ => ⟨S2x1024x2048, .f32⟩
  | .hbm, ⟨42, _⟩ => ⟨S2x1024x2048, .f32⟩
  | .hbm, ⟨43, _⟩ => ⟨S2x1024x2048, .f32⟩
  | .hbm, ⟨44, _⟩ => ⟨S_, .f32⟩
  | .hbm, ⟨45, _⟩ => ⟨S2x1024x2048, .f32⟩
  | .hbm, ⟨46, _⟩ => ⟨S2x1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== StepUp.lean ====
abbrev S4x2048x1024 : Shape := ⟨3, ![4, 2048, 1024]⟩
abbrev S8x2048x1024 : Shape := ⟨3, ![8, 2048, 1024]⟩
abbrev S2x2048x1024 : Shape := ⟨3, ![2, 2048, 1024]⟩
abbrev S4x256x1024 : Shape := ⟨3, ![4, 256, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x1024, .bf16⟩
  | .hbm, ⟨1, _⟩ => ⟨S8x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepUpRefIdeal.lean ====
abbrev S4x2048x1024 : Shape := ⟨3, ![4, 2048, 1024]⟩
abbrev S8x2048x1024 : Shape := ⟨3, ![8, 2048, 1024]⟩
abbrev S2x2048x1024 : Shape := ⟨3, ![2, 2048, 1024]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S8x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S4x2048x1024, .f32⟩
  | .hbm, ⟨6, _⟩ => ⟨S_, .f32⟩
  | .hbm, ⟨7, _⟩ => ⟨S2048x1024, .f32⟩
  | .hbm, ⟨8, _⟩ => ⟨S8x2048x1024, .f32⟩
  | .hbm, ⟨9, _⟩ => ⟨S_, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1024, .f32⟩
  | .hbm, ⟨46, _⟩ => ⟨S2x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== StepSmall.lean ====
abbrev S8x136x128 : Shape := ⟨3, ![8, 136, 128]⟩
abbrev S2x2048 : Shape := ⟨2, ![2, 2048]⟩
abbrev S1x128 : Shape := ⟨2, ![1, 128]⟩
abbrev S2048 : Shape := ⟨1, ![2048]⟩
abbrev S16 : Shape := ⟨1, ![16]⟩
abbrev S4096 : Shape := ⟨1, ![4096]⟩
abbrev S128 : Shape := ⟨1, ![128]⟩
abbrev S16528 : Shape := ⟨1, ![16528]⟩
abbrev S_ : Shape := ⟨0, ![]⟩
abbrev S17408 : Shape := ⟨1, ![17408]⟩
abbrev S136x128 : Shape := ⟨2, ![136, 128]⟩
abbrev S1x136x128 : Shape := ⟨3, ![1, 136, 128]⟩

abbrev nBuf : Space → Nat
  | .hbm => 56
  | .vmem => 8
  | .smem => 0
  | _ => 0

abbrev bufTy : (tb : Table) → Fin (tcTables nBuf tb) → BufTy
  | .hbm, ⟨0, _⟩ => ⟨S8x136x128, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S1x128, .f32⟩
  | .hbm, ⟨5, _⟩ => ⟨S2048, .f32⟩
  | .hbm, ⟨6, _⟩ => ⟨S16, .f32⟩
  | .hbm, ⟨7, _⟩ => ⟨S2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S1x128, .f32⟩
  | .hbm, ⟨12, _⟩ => ⟨S2048, .f32⟩
  | .hbm, ⟨13, _⟩ => ⟨S16, .f32⟩
  | .hbm, ⟨14, _⟩ => ⟨S2048, .f32⟩
  | .hbm, ⟨15, _⟩ => ⟨S2x2048, .f32⟩
  | .hbm, ⟨16, _⟩ => ⟨S2x2048, .f32⟩
  | .hbm, ⟨17, _⟩ => ⟨S2x2048, .f32⟩
  | .hbm, ⟨18, _⟩ => ⟨S1x128, .f32⟩
  | .hbm, ⟨19, _⟩ => ⟨S2048, .f32⟩
  | .hbm, ⟨20, _⟩ => ⟨S16, .f32⟩
  | .hbm, ⟨21, _⟩ => ⟨S2048, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S128, .f32⟩
  | .hbm, ⟨26, _⟩ => ⟨S16528, .f32⟩
  | .hbm, ⟨27, _⟩ => ⟨S_, .i32⟩
  | .hbm, ⟨28, _⟩ => ⟨S_, .f32⟩
  | .hbm, ⟨29, _⟩ => ⟨S17408, .f32⟩
  | .hbm, ⟨30, _⟩ => ⟨S136x128, .f32⟩
  | .hbm, ⟨31, _⟩ => ⟨S1x136x128, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S128, .f32⟩
  | .hbm, ⟨36, _⟩ => ⟨S16528, .f32⟩
  | .hbm, ⟨37, _⟩ => ⟨S_, .i32⟩
  | .hbm, ⟨38, _⟩ => ⟨S_, .f32⟩
  | .hbm, ⟨39, _⟩ => ⟨S17408, .f32⟩
  | .hbm, ⟨40, _⟩ => ⟨S136x128, .f32⟩
  | .hbm, ⟨41, _⟩ => ⟨S1x136x128, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S128, .f32⟩
  | .hbm, ⟨46, _⟩ => ⟨S16528, .f32⟩
  | .hbm, ⟨47, _⟩ => ⟨S_, .i32⟩
  | .hbm, ⟨48, _⟩ => ⟨S_, .f32⟩
  | .hbm, ⟨49, _⟩ => ⟨S17408, .f32⟩
  | .hbm, ⟨50, _⟩ => ⟨S136x128, .f32⟩
  | .hbm, ⟨51, _⟩ => ⟨S1x136x128, .f32⟩
  | .hbm, ⟨52, _⟩ => ⟨S1x136x128, .f32⟩
  | .hbm, ⟨53, _⟩ => ⟨S1x136x128, .f32⟩
  | .hbm, ⟨54, _⟩ => ⟨S1x136x128, .f32⟩
  | .hbm, ⟨55, _⟩ => ⟨S1x136x128, .f32⟩
  | .local _ .vmem, ⟨0, _⟩ => ⟨S8x136x128, .f32⟩
  | .local _ .vmem, ⟨1, _⟩ => ⟨S1x136x128, .f32⟩
  | .local _ .vmem, ⟨2, _⟩ => ⟨S1x136x128, .f32⟩
  | .local _ .vmem, ⟨3, _⟩ => ⟨S1x136x128, .f32⟩
  | .local _ .vmem, ⟨4, _⟩ => ⟨S1x136x128, .f32⟩
  | .local _ .vmem, ⟨5, _⟩ => ⟨S1x136x128, .f32⟩
  | .local _ .vmem, ⟨6, _⟩ => ⟨S1x136x128, .f32⟩
  | .local _ .vmem, ⟨7, _⟩ => ⟨S1x136x128, .f32⟩
  | _, _ => ⟨S8x136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c : Ref sig .tc := ⟨.hbm, 27, rfl⟩
abbrev main_call0_v0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_call1_v0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_1 : Ref sig .tc := ⟨.hbm, 47, rfl⟩
abbrev main_call2_v0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24_0 : Ref sig .tc := ⟨.hbm, 52, rfl⟩
abbrev main_v24_1 : Ref sig .tc := ⟨.hbm, 53, rfl⟩
abbrev main_v24_2 : Ref sig .tc := ⟨.hbm, 54, rfl⟩
abbrev main_v24_3 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x136x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== StepSmallRefIdeal.lean ====
abbrev S8x136x128 : Shape := ⟨3, ![8, 136, 128]⟩
abbrev S2x2048 : Shape := ⟨2, ![2, 2048]⟩
abbrev S1x128 : Shape := ⟨2, ![1, 128]⟩
abbrev S2048 : Shape := ⟨1, ![2048]⟩
abbrev S16 : Shape := ⟨1, ![16]⟩
abbrev S4096 : Shape := ⟨1, ![4096]⟩
abbrev S128 : Shape := ⟨1, ![128]⟩
abbrev S16528 : Shape := ⟨1, ![16528]⟩
abbrev S_ : Shape := ⟨0, ![]⟩
abbrev S17408 : Shape := ⟨1, ![17408]⟩
abbrev S1x136x128 : Shape := ⟨3, ![1, 136, 128]⟩
abbrev S136x128 : Shape := ⟨2, ![136, 128]⟩

abbrev nBuf : Space → Nat
  | .hbm => 85
  | .vmem => 0
  | .smem => 0
  | _ => 0

abbrev bufTy : (tb : Table) → Fin (tcTables nBuf tb) → BufTy
  | .hbm, ⟨0, _⟩ => ⟨S8x136x128, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S1x128, .f32⟩
  | .hbm, ⟨5, _⟩ => ⟨S2048, .f32⟩
  | .hbm, ⟨6, _⟩ => ⟨S16, .f32⟩
  | .hbm, ⟨7, _⟩ => ⟨S2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S1x128, .f32⟩
  | .hbm, ⟨12, _⟩ => ⟨S2048, .f32⟩
  | .hbm, ⟨13, _⟩ => ⟨S16, .f32⟩
  | .hbm, ⟨14, _⟩ => ⟨S2048, .f32⟩
  | .hbm, ⟨15, _⟩ => ⟨S2x2048, .f32⟩
  | .hbm, ⟨16, _⟩ => ⟨S2x2048, .f32⟩
  | .hbm, ⟨17, _⟩ => ⟨S2x2048, .f32⟩
  | .hbm, ⟨18, _⟩ => ⟨S1x128, .f32⟩
  | .hbm, ⟨19, _⟩ => ⟨S2048, .f32⟩
  | .hbm, ⟨20, _⟩ => ⟨S16, .f32⟩
  | .hbm, ⟨21, _⟩ => ⟨S2048, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S128, .f32⟩
  | .hbm, ⟨26, _⟩ => ⟨S16528, .f32⟩
  | .hbm, ⟨27, _⟩ => ⟨S_, .i32⟩
  | .hbm, ⟨28, _⟩ => ⟨S_, .f32⟩
  | .hbm, ⟨29, _⟩ => ⟨S17408, .f32⟩
  | .hbm, ⟨30, _⟩ => ⟨S1x136x128, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S128, .f32⟩
  | .hbm, ⟨35, _⟩ => ⟨S16528, .f32⟩
  | .hbm, ⟨36, _⟩ => ⟨S_, .i32⟩
  | .hbm, ⟨37, _⟩ => ⟨S_, .f32⟩
  | .hbm, ⟨38, _⟩ => ⟨S17408, .f32⟩
  | .hbm, ⟨39, _⟩ => ⟨S1x136x128, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S128, .f32⟩
  | .hbm, ⟨44, _⟩ => ⟨S16528, .f32⟩
  | .hbm, ⟨45, _⟩ => ⟨S_, .i32⟩
  | .hbm, ⟨46, _⟩ => ⟨S_, .f32⟩
  | .hbm, ⟨47, _⟩ => ⟨S17408, .f32⟩
  | .hbm, ⟨48, _⟩ => ⟨S1x136x128, .f32⟩
  | .hbm, ⟨49, _⟩ => ⟨S_, .f32⟩
  | .hbm, ⟨50, _⟩ => ⟨S136x128, .f32⟩
  | .hbm, ⟨51, _⟩ => ⟨S1x136x128, .f32⟩
  | .hbm, ⟨52, _⟩ => ⟨S_, .f32⟩
  | .hbm, ⟨53, _⟩ => ⟨S1x136x128, .f32⟩
  | .hbm, ⟨54, _⟩ => ⟨S1x136x128, .f32⟩
  | .hbm, ⟨55, _⟩ => ⟨S_, .f32⟩
  | .hbm, ⟨56, _⟩ => ⟨S1x136x128, .f32⟩
  | .hbm, ⟨57, _⟩ => ⟨S1x136x128, .f32⟩
  | .hbm, ⟨58, _⟩ => ⟨S1x136x128, .f32⟩
  | .hbm, ⟨59, _⟩ => ⟨S_, .f32⟩
  | .hbm, ⟨60, _⟩ => ⟨S1x136x128, .f32⟩
  | .hbm, ⟨61, _⟩ => ⟨S1x136x128, .f32⟩
  | .hbm, ⟨62, _⟩ => ⟨S1x136x128, .f32⟩
  | .hbm, ⟨63, _⟩ => ⟨S_, .f32⟩
  | .hbm, ⟨64, _⟩ => ⟨S1x136x128, .f32⟩
  | .hbm, ⟨65, _⟩ => ⟨S1x136x128, .f32⟩
  | .hbm, ⟨66, _⟩ => ⟨S1x136x128, .f32⟩
  | .hbm, ⟨67, _⟩ => ⟨S_, .f32⟩
  | .hbm, ⟨68, _⟩ => ⟨S1x136x128, .f32⟩
  | .hbm, ⟨69, _⟩ => ⟨S1x136x128, .f32⟩
  | .hbm, ⟨70, _⟩ => ⟨S_, .f32⟩
  | .hbm, ⟨71, _⟩ => ⟨S1x136x128, .f32⟩
  | .hbm, ⟨72, _⟩ => ⟨S1x136x128, .f32⟩
  | .hbm, ⟨73, _⟩ => ⟨S1x136x128, .f32⟩
  | .hbm, ⟨74, _⟩ => ⟨S_, .f32⟩
  | .hbm, ⟨75, _⟩ => ⟨S1x136x128, .f32⟩
  | .hbm, ⟨76, _⟩ => ⟨S1x136x128, .f32⟩
  | .hbm, ⟨77, _⟩ => ⟨S1x136x128, .f32⟩
  | .hbm, ⟨78, _⟩ => ⟨S_, .f32⟩
  | .hbm, ⟨79, _⟩ => ⟨S1x136x128, .f32⟩
  | .hbm, ⟨80, _⟩ => ⟨S1x136x128, .f32⟩
  | .hbm, ⟨81, _⟩ => ⟨S1x136x128, .f32⟩
  | .hbm, ⟨82, _⟩ => ⟨S_, .f32⟩
  | .hbm, ⟨83, _⟩ => ⟨S1x136x128, .f32⟩
  | .hbm, ⟨84, _⟩ => ⟨S1x136x128, .f32⟩
  | _, _ => ⟨S8x136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c : Ref sig .tc := ⟨.hbm, 27, rfl⟩
abbrev main_call0_v0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c_0 : Ref sig .tc := ⟨.hbm, 36, rfl⟩
abbrev main_call1_v0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_call2_v0 : Ref sig .tc := ⟨.hbm, 46, rfl⟩
abbrev main_v19 : Ref sig .tc := ⟨.hbm, 47, rfl⟩
abbrev main_v20 : Ref sig .tc := ⟨.hbm, 48, rfl⟩
abbrev main_cst : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_6 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_8 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_v46 : Ref sig .tc := ⟨.hbm, 84, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .bf16⟩
  | .hbm, ⟨54, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Tail.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩

abbrev nBuf : Space → Nat
  | .hbm => 10
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S1x2048, .f32⟩
  | .hbm, ⟨9, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== TailRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S1x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S2048x2048, .f32⟩
  | .hbm, ⟨68, _⟩ => ⟨S2048x2048, .f32⟩
  | .hbm, ⟨69, _⟩ => ⟨S_, .f32⟩
  | .hbm, ⟨70, _⟩ => ⟨S2048, .f32⟩
  | .hbm, ⟨71, _⟩ => ⟨S2048x2048, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S2048x2048, .f32⟩
  | .hbm, ⟨76, _⟩ => ⟨S2048x2048, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S_, .f32⟩
  | .hbm, ⟨82, _⟩ => ⟨S2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .bf16⟩
  | .hbm, ⟨92, _⟩ => ⟨S2048x2048, .bf16⟩
  | .hbm, ⟨93, _⟩ => ⟨S1x2048, .f32⟩
  | .hbm, ⟨94, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_cst_11 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Proof.Softmax.lean ====
/- The mathematics of one row of causal attention and of its gradient, in the real numbers and in the extended reals:
   no program occurs here. A row r sees the positions j ≤ r; its weights are exp of the logits, normalized. Two ways of
   normalizing meet: by the saved log-sum (exp (s − (m + log Σ exp (s − m)))) and by division (exp (s − m) / Σ exp (s − m)). -/
module

public import Idealize.ShloMosaic.Lib.Pointwise

@[expose] public section

noncomputable section

namespace Cert.Softmax

open Idealize.ShloMosaic

/-- The arguments of the attention's gradient, as real numbers: the scale, the queries, the keys and values side by side,
    the running sums of the log gates per head, the gradient of the attention's result. -/
structure Inp where
  sc : ℝ
  q : ℕ → ℕ → ℝ
  kv : ℕ → ℕ → ℝ
  dc : ℕ → ℕ → ℝ
  dout : ℕ → ℕ → ℝ

variable (I : Inp)

/-- The logit of row `r` at position `j`, head `h`. -/
def logit (h r j : ℕ) : ℝ :=
  (∑ d : Fin 128, I.q r (h * 128 + d) * I.sc * I.kv j (h * 128 + d)) + I.dc h r - I.dc h j

/-- The sum of the exponentials of a row's visible logits. -/
def mass (h r : ℕ) : ℝ := ∑ j : Fin (r + 1), Real.exp (logit I h r j)

/-- The attention weight of row `r` at position `j`: nothing after the row. -/
def prob (h r j : ℕ) : ℝ := if j ≤ r then Real.exp (logit I h r j) / mass I h r else 0

/-- The gradient with respect to a weight. -/
def dprob (h r j : ℕ) : ℝ := ∑ d : Fin 128, I.dout r (h * 128 + d) * I.kv j (2048 + (h * 128 + d))

/-- The gradient with respect to a logit, the row's positions being the first `K`. -/
def dlogit (K h r j : ℕ) : ℝ :=
  prob I h r j * (dprob I h r j - ∑ j' : Fin K, prob I h r j' * dprob I h r j')

/-- A row's total weight is positive. -/
theorem mass_pos (h r : ℕ) : 0 < mass I h r :=
  Finset.sum_pos (fun _ _ => Real.exp_pos _) ⟨0, Finset.mem_univ _⟩

/-- A sum over `K` positions of what vanishes after `r` is the sum over the first `r + 1`. -/
theorem sum_visible (K r : ℕ) (hr : r < K) (f : ℕ → ℝ) :
    (∑ j : Fin K, if (j : ℕ) ≤ r then f j else 0) = ∑ j : Fin (r + 1), f j := by
  rw [Fin.sum_univ_eq_sum_range (fun j => if j ≤ r then f j else 0) K, Fin.sum_univ_eq_sum_range f (r + 1),
    ← Finset.sum_filter]
  refine Finset.sum_congr ?_ fun _ _ => rfl
  ext j
  simp only [Finset.mem_filter, Finset.mem_range]
  omega

/-- The unnormalized weight of a position relative to a bound `M`. -/
def weight (M : ℝ) (h r j : ℕ) : ℝ := if j ≤ r then Real.exp (logit I h r j - M) else 0

/-- The weights of a row, summed, as the row's mass under the shift. -/
theorem sum_weight (K : ℕ) (M : ℝ) (h r : ℕ) (hr : r < K) :
    ∑ j : Fin K, weight I M h r j = mass I h r * Real.exp (-M) := by
  unfold weight mass
  rw [sum_visible K r hr (fun j => Real.exp (logit I h r j - M)), Finset.sum_mul]
  exact Finset.sum_congr rfl fun j _ => by rw [← Real.exp_add, sub_eq_add_neg]

/-- A row's weights sum to a positive number. -/
theorem sum_weight_pos (K : ℕ) (M : ℝ) (h r : ℕ) (hr : r < K) : 0 < ∑ j : Fin K, weight I M h r j := by
  rw [sum_weight I K M h r hr]; exact mul_pos (mass_pos I h r) (Real.exp_pos _)

/-- Dividing by the sum of the weights is dividing by the mass. -/
theorem weight_div (K : ℕ) (M : ℝ) (h r j : ℕ) (hr : r < K) :
    weight I M h r j / ∑ j' : Fin K, weight I M h r j' = prob I h r j := by
  rw [sum_weight I K M h r hr]
  unfold weight prob
  split_ifs with hj
  · have h1 := (mass_pos I h r).ne'
    have h2 := (Real.exp_pos (-M)).ne'
    rw [sub_eq_add_neg, Real.exp_add, mul_div_mul_right _ _ h2]
  · rw [zero_div]

/-- Subtracting the log-sum under the exponential is dividing by the mass. -/
theorem exp_sub_lse (K : ℕ) (M : ℝ) (h r j : ℕ) (hr : r < K) (hj : j ≤ r) :
    Real.exp (logit I h r j - (M + Real.log (∑ j' : Fin K, weight I M h r j'))) = prob I h r j := by
  rw [sum_weight I K M h r hr, Real.log_mul (mass_pos I h r).ne' (Real.exp_pos _).ne', Real.log_exp]
  unfold prob
  rw [if_pos hj, show logit I h r j - (M + (Real.log (mass I h r) + -M)) = logit I h r j - Real.log (mass I h r) by ring,
    Real.exp_sub, Real.exp_log (mass_pos I h r)]

/-- The gradient through a quotient by the sum of the weights, as jax writes it. -/
theorem dlogit_of_quotient (K : ℕ) (M : ℝ) (h r j : ℕ) (hr : r < K) (Z : ℝ) (hZ : Z = ∑ j' : Fin K, weight I M h r j') :
    (dprob I h r j / Z + -∑ j' : Fin K, dprob I h r j' * (1 / (Z * Z)) * weight I M h r j') * weight I M h r j
      = dlogit I K h r j := by
  have hp : ∀ j, weight I M h r j = Z * prob I h r j := fun j => by
    rw [← weight_div I K M h r j hr, ← hZ, mul_div_cancel₀]
    rw [hZ]; exact (sum_weight_pos I K M h r hr).ne'
  have hZ0 : Z ≠ 0 := by rw [hZ]; exact (sum_weight_pos I K M h r hr).ne'
  simp only [hp]
  unfold dlogit
  have : ∑ j' : Fin K, dprob I h r j' * (1 / (Z * Z)) * (Z * prob I h r j')
      = (∑ j' : Fin K, prob I h r j' * dprob I h r j') / Z := by
    rw [Finset.sum_div]
    refine Finset.sum_congr rfl fun j' _ => ?_
    field_simp
  rw [this]
  field_simp
  ring

/-- A row's weights sum to one, so that the gradients of its logits sum to zero. -/
theorem sum_prob (K h r : ℕ) (hr : r < K) : ∑ j : Fin K, prob I h r j = 1 := by
  have h0 := (sum_weight_pos I K 0 h r hr).ne'
  have : ∑ j : Fin K, prob I h r j = ∑ j : Fin K, weight I 0 h r j / ∑ j' : Fin K, weight I 0 h r j' :=
    Finset.sum_congr rfl fun j _ => (weight_div I K 0 h r j hr).symm
  rw [this, ← Finset.sum_div, div_self h0]

/-- The logit gradients of a row sum to zero. -/
theorem sum_dlogit (K h r : ℕ) (hr : r < K) : ∑ j : Fin K, dlogit I K h r j = 0 := by
  unfold dlogit
  simp only [mul_sub]
  rw [Finset.sum_sub_distrib, ← Finset.sum_mul, sum_prob I K h r hr, one_mul, sub_self]

/-- A masked logit has no gradient. -/
theorem dlogit_hidden (K h r j : ℕ) (hj : ¬j ≤ r) : dlogit I K h r j = 0 := by
  unfold dlogit prob
  rw [if_neg hj, zero_mul]

/-! ## In the extended reals -/

/-- A finite sum of reals, read as extended reals. -/
theorem coe_sum {n : ℕ} (f : Fin n → ℝ) : ∑ j : Fin n, ((f j : ℝ) : EReal) = ((∑ j : Fin n, f j : ℝ) : EReal) :=
  (map_sum (⟨⟨Real.toEReal, EReal.coe_zero⟩, EReal.coe_add⟩ : ℝ →+ EReal) f Finset.univ).symm

/-- The logit as an extended real: −∞ after the row. -/
def logitE (h r j : ℕ) : EReal := if j ≤ r then ((logit I h r j : ℝ) : EReal) else ⊥

/-- The greatest of finitely many extended reals, none +∞ and one of them real, is real. -/
theorem fold_max_real {n : ℕ} (f : Fin n → EReal) (htop : ∀ j, f j ≠ ⊤) (j₀ : Fin n) (hbot : f j₀ ≠ ⊥) :
    ∃ M : ℝ, Finset.fold max ⊥ f Finset.univ = ((M : ℝ) : EReal) := by
  have hle : f j₀ ≤ Finset.fold max ⊥ f Finset.univ := Finset.le_fold_max (f j₀) |>.mpr (Or.inr ⟨j₀, Finset.mem_univ _, le_rfl⟩)
  have hlt : Finset.fold max ⊥ f Finset.univ < ⊤ :=
    Finset.fold_max_lt ⊤ |>.mpr ⟨bot_lt_top, fun j _ => lt_top_iff_ne_top.mpr (htop j)⟩
  refine ⟨(Finset.fold max ⊥ f Finset.univ).toReal, (EReal.coe_toReal hlt.ne fun hb => hbot ?_).symm⟩
  rw [hb] at hle; exact le_bot_iff.mp hle

/-- A row's greatest logit is real. -/
theorem fold_max_logit (K h r : ℕ) (hr : r < K) :
    ∃ M : ℝ, Finset.fold max ⊥ (fun j : Fin K => logitE I h r j) Finset.univ = ((M : ℝ) : EReal) := by
  refine fold_max_real _ (fun j => ?_) ⟨r, hr⟩ ?_
  · unfold logitE; split_ifs
    · exact EReal.coe_ne_top _
    · exact bot_ne_top
  · show logitE I h r r ≠ ⊥
    unfold logitE; rw [if_pos le_rfl]; exact EReal.coe_ne_bot _

/-- The exponential of a shifted logit is its weight; of a masked one, zero. -/
theorem exp_logitE_sub (M : ℝ) (h r j : ℕ) : Ideal.exp (logitE I h r j - ((M : ℝ) : EReal)) = ((weight I M h r j : ℝ) : EReal) := by
  unfold logitE weight
  split_ifs
  · rw [← EReal.coe_sub, Ideal.exp_coe]
  · rw [EReal.bot_sub, Ideal.exp_bot]; rfl

/-- The kernel's weight: the exponential of a logit less the row's log-sum. -/
theorem exp_logitE_lse (K : ℕ) (M : ℝ) (h r j : ℕ) (hr : r < K) :
    Ideal.exp (logitE I h r j - (((M : ℝ) : EReal) + ((Real.log (∑ j' : Fin K, weight I M h r j') : ℝ) : EReal)))
      = ((prob I h r j : ℝ) : EReal) := by
  rw [← EReal.coe_add, exp_logitE_sub]
  unfold weight
  split_ifs with hj
  · exact congrArg _ (exp_sub_lse I K M h r j hr hj)
  · unfold prob; rw [if_neg hj]

/-- The logarithm of a positive real. -/
theorem log_coe_pos (x : ℝ) (hx : 0 < x) : Ideal.log ((x : ℝ) : EReal) = ((Real.log x : ℝ) : EReal) := by
  rw [Ideal.log_coe, if_neg (not_le.mpr hx)]

/-- The quotient of reals, the divisor not zero. -/
theorem div_coe_ne (x y : ℝ) (hy : y ≠ 0) : Ideal.div ((x : ℝ) : EReal) ((y : ℝ) : EReal) = ((x / y : ℝ) : EReal) := by
  rw [Ideal.div_coe hy, ← EReal.coe_mul, mul_one_div]

/-- A visible logit, computed on coerced reals. -/
theorem coe_logit (h r j : ℕ) :
    (∑ d : Fin 128, ((I.q r (h * 128 + d) : ℝ) : EReal) * ((I.sc : ℝ) : EReal) * ((I.kv j (h * 128 + d) : ℝ) : EReal))
        + ((I.dc h r : ℝ) : EReal) - ((I.dc h j : ℝ) : EReal) = ((logit I h r j : ℝ) : EReal) := by
  simp only [← EReal.coe_mul, coe_sum, ← EReal.coe_add, ← EReal.coe_sub]
  rfl

/-- The gradient of a weight, computed on coerced reals. -/
theorem coe_dprob (h r j : ℕ) :
    (∑ d : Fin 128, ((I.dout r (h * 128 + d) : ℝ) : EReal) * ((I.kv j (2048 + (h * 128 + d)) : ℝ) : EReal))
      = ((dprob I h r j : ℝ) : EReal) := by
  simp only [← EReal.coe_mul, coe_sum]
  rfl

/-- A row's greatest logit, as a real number. -/
def rowMax (K h r : ℕ) : ℝ := (Finset.fold max ⊥ (fun j : Fin K => logitE I h r j) Finset.univ).toReal

/-- The row maximum, taken among extended reals. -/
theorem coe_rowMax (K h r : ℕ) (hr : r < K) :
    Finset.fold max ⊥ (fun j : Fin K => logitE I h r j) Finset.univ = ((rowMax I K h r : ℝ) : EReal) := by
  obtain ⟨M, hM⟩ := fold_max_logit I K h r hr
  unfold rowMax
  rw [hM, EReal.toReal_coe]

/-- The sum of a row's weights relative to its greatest logit. -/
def rowSum (K h r : ℕ) : ℝ := ∑ j : Fin K, weight I (rowMax I K h r) h r j

/-- A row's sum of weights is not zero. -/
theorem rowSum_ne (K h r : ℕ) (hr : r < K) : rowSum I K h r ≠ 0 := (sum_weight_pos I K _ h r hr).ne'

/-- The gradient of a logit as jax writes it through the quotient, computed on coerced reals. -/
theorem coe_dlogit (K h r j : ℕ) (hr : r < K) :
    (Ideal.div ((dprob I h r j : ℝ) : EReal) ((rowSum I K h r : ℝ) : EReal)
        + ∑ _u : Fin 1, -∑ x : Fin K, ((dprob I h r x : ℝ) : EReal)
            * Ideal.div 1 (((rowSum I K h r : ℝ) : EReal) * ((rowSum I K h r : ℝ) : EReal))
            * ((weight I (rowMax I K h r) h r x : ℝ) : EReal))
      * ((weight I (rowMax I K h r) h r j : ℝ) : EReal) = ((dlogit I K h r j : ℝ) : EReal) := by
  have hz := rowSum_ne I K h r hr
  have h1 : Ideal.div 1 (((rowSum I K h r : ℝ) : EReal) * ((rowSum I K h r : ℝ) : EReal))
      = ((1 / (rowSum I K h r * rowSum I K h r) : ℝ) : EReal) := by
    rw [← EReal.coe_mul, ← EReal.coe_one, div_coe_ne 1 _ (mul_ne_zero hz hz)]
  rw [h1, div_coe_ne _ _ hz]
  simp only [Finset.univ_unique, Finset.sum_singleton, ← EReal.coe_mul]
  rw [coe_sum, ← EReal.coe_neg, ← EReal.coe_add, ← EReal.coe_mul, dlogit_of_quotient I K (rowMax I K h r) h r j hr (rowSum I K h r) rfl]

/-- A column's sum of negated gradients, the column summed once more over one position. -/
theorem coe_ddV (K S h j : ℕ) (f : Fin 512 → EReal) (hf : ∀ r, f r = ((dlogit I K h (S + r) j : ℝ) : EReal)) :
    ∑ _u : Fin 1, ∑ r : Fin 512, -f r = ((-∑ r : Fin 512, dlogit I K h (S + r) j : ℝ) : EReal) := by
  simp only [Finset.univ_unique, Finset.sum_singleton, hf, ← EReal.coe_neg]
  rw [coe_sum, Finset.sum_neg_distrib]

/-- A row's sum of gradients, the row summed once more over one position, is zero. -/
theorem coe_row (K h r : ℕ) (hr : r < K) (f : Fin K → EReal) (hf : ∀ j, f j = ((dlogit I K h r j : ℝ) : EReal)) :
    ∑ _u : Fin 1, ∑ j : Fin K, f j = 0 := by
  simp only [Finset.univ_unique, Finset.sum_singleton, hf]
  rw [coe_sum, sum_dlogit I K h r hr, EReal.coe_zero]

/-! ## The results of the rows `S` to `S + 511` of a call over the first `K` positions -/

/-- The gradient of the queries. -/
def dqV (K r e : ℕ) : ℝ := (∑ j : Fin K, dlogit I K (e / 128) r j * I.kv j e) * I.sc

/-- The rows' part of the gradient of the keys. -/
def dkV (K S j e : ℕ) : ℝ := ∑ r : Fin 512, dlogit I K (e / 128) (S + r) j * (I.q (S + r) e * I.sc)

/-- The rows' part of the gradient of the values. -/
def dvV (S j e : ℕ) : ℝ := ∑ r : Fin 512, prob I (e / 128) (S + r) j * I.dout (S + r) e

/-- The rows' part of the gradient of the running sums of the log gates, at a position. -/
def ddV (K S h j : ℕ) : ℝ := -∑ r : Fin 512, dlogit I K h (S + r) j

end Cert.Softmax
-- ==== Proof.Finite.lean ====
/- What the precondition says: every entry of the four arguments that the values depend on is a real number. From it the
   arguments as real functions of two numbers. -/
module

public import proofs.«01_k».proof.Pre_finite
public import proofs.«01_k».proof.Pre_finite_later
public import proofs.«01_k».proof.Proof.Gen.Pre_finite
public import proofs.«01_k».proof.Proof.Gen.Pre_finite_later
public import proofs.«01_k».proof.Proof.Softmax
public import Idealize.ShloMosaic.Lib.Pointwise
public import Idealize.ShloMosaic.Lib.ReduceAll

@[expose] public section

noncomputable section

namespace Cert.Softmax

open Idealize.ShloMosaic

/-- An extended real whose absolute value is below +∞ is a real number. -/
theorem eq_coe_of_finite (x : EReal)
    (h : FloatOps.cmpf (F := Ideal) (φ := .f32) .olt (FloatOps.hostAbsf (F := Ideal) (φ := .f32) x) (Ideal.ofBits .f32 0x7F800000#32) = 1#1) :
    x = ((x.toReal : ℝ) : EReal) := by
  have htop : Ideal.ofBits .f32 0x7F800000#32 = (⊤ : EReal) := by
    simp [Ideal.ofBits, Ideal.ieee]
  rw [htop] at h
  have h' : Ideal.cmp .olt (max x (-x)) ⊤ = 1#1 := h
  induction x with
  | bot => exact absurd h' (by simp [Ideal.cmp])
  | top => exact absurd h' (by simp [Ideal.cmp])
  | coe x => rw [EReal.toReal_coe]

/-- The shape of the queries. -/
abbrev Sq : Shape := ⟨2, ![2048, 2048]⟩
/-- The shape of the keys and values side by side. -/
abbrev Swide : Shape := ⟨2, ![2048, 4096]⟩
/-- The shape of the cumulated decay. -/
abbrev Sgate : Shape := ⟨2, ![16, 2048]⟩

/-- Every entry of an array is a real number. -/
def IsReal {s : Shape} (x : s.Idx → EReal) : Prop := ∀ i, x i = (((x i).toReal : ℝ) : EReal)

instance : Subsingleton (Cert.Pre_finite.S_).Idx := ⟨fun a b => funext fun k => k.elim0⟩

/-- The first call's precondition says that each argument is real. -/
theorem real_of_pre (q : FVec Ideal Sq .f32) (kv : FVec Ideal Swide .bf16) (dc : FVec Ideal Sgate .f32) (d0 : FVec Ideal Sq .bf16)
    (h : Cert.Pre_finite.fn (F := Ideal) q kv dc d0 = fun _ => 1#1) :
    IsReal (s := Sq) q ∧ IsReal (s := Swide) kv ∧ IsReal (s := Sgate) dc ∧ IsReal (s := Sq) d0 := by
  have h0 := congrFun h (fun a => a.elim0)
  unfold Cert.Pre_finite.fn Cert.Pre_finite.fn_part1 at h0
  dsimp only at h0
  simp only [andi_apply, IntOp.andi_eq_one] at h0
  obtain ⟨⟨⟨h1, h2⟩, h3⟩, h4⟩ := h0
  exact ⟨fun i => eq_coe_of_finite _ (Host.reduce_andi_all _ _ _ _ _ h1 i),
    fun i => eq_coe_of_finite _ (Host.reduce_andi_all _ _ _ _ _ h2 i),
    fun i => eq_coe_of_finite _ (Host.reduce_andi_all _ _ _ _ _ h3 i),
    fun i => eq_coe_of_finite _ (Host.reduce_andi_all _ _ _ _ _ h4 i)⟩

/-- A later call's precondition says that each argument is real. -/
theorem real_of_pre_later (q : FVec Ideal Sq .f32) (kv : FVec Ideal Swide .bf16) (dc : FVec Ideal Sgate .f32) (d0 : FVec Ideal Sq .bf16)
    (e0 e1 e2 e3) (h : Cert.Pre_finite_later.fn (F := Ideal) q kv dc d0 e0 e1 e2 e3 = fun _ => 1#1) :
    IsReal (s := Sq) q ∧ IsReal (s := Swide) kv ∧ IsReal (s := Sgate) dc ∧ IsReal (s := Sq) d0 :=
  real_of_pre q kv dc d0 h

/-- The two-dimensional index of coordinates `a` and `b`. -/
def at2 (n0 n1 : ℕ) (a b : ℕ) (h : a < n0 ∧ b < n1) : (⟨2, ![n0, n1]⟩ : Shape).Idx := ix2 ⟨a, h.1⟩ ⟨b, h.2⟩

/-- An array as a real function of two numbers, zero outside it. -/
def realAt (n0 n1 : ℕ) (x : (⟨2, ![n0, n1]⟩ : Shape).Idx → EReal) (a b : ℕ) : ℝ :=
  if h : a < n0 ∧ b < n1 then (x (at2 n0 n1 a b h)).toReal else 0

/-- An entry of a real array of two axes is a real number. -/
theorem IsReal.at {n0 n1 : ℕ} {x : (⟨2, ![n0, n1]⟩ : Shape).Idx → EReal} (hx : IsReal x) (a : Fin n0) (b : Fin n1) :
    x (ix2 a b) = ((realAt n0 n1 x a b : ℝ) : EReal) := by
  unfold realAt
  rw [dif_pos ⟨a.2, b.2⟩]
  exact hx _

/-- The scale 1/√128 rounded to a float, as a real number. -/
def scale : ℝ := (Ideal.ofBits .f32 1035273459#32 : EReal).toReal

/-- The scale's bits are the real number `scale`. -/
theorem scale_eq : (Ideal.ofBits .f32 1035273459#32 : EReal) = ((scale : ℝ) : EReal) := by
  unfold scale
  simp [Ideal.ofBits, Ideal.ieee, -EReal.coe_mul]

/-- The arguments as real functions. -/
def inp (q : FVec Ideal Sq .f32) (kv : FVec Ideal Swide .bf16) (dc : FVec Ideal Sgate .f32) (d0 : FVec Ideal Sq .bf16) : Inp where
  sc := scale
  q := realAt 2048 2048 q
  kv := realAt 2048 4096 kv
  dc := realAt 16 2048 dc
  dout := realAt 2048 2048 d0

end Cert.Softmax

end
-- ==== Proof.Lse.lean ====
/- The log-sums the host prepares for the kernel, as the reference's own lines compute them: the row's maximum plus the
   logarithm of the sum of the exponentials relative to it. -/
module

public import proofs.«01_k».proof.Proof.Gen.Attn4Ideal
public import proofs.«01_k».proof.Proof.Finite
public import Idealize.ShloMosaic.Lib.WordCmp

@[expose] public section

set_option maxRecDepth 16384

noncomputable section

namespace Cert.Softmax

open Cert.Attn4Ideal Cert.Attn4Ideal.Gen Idealize.ShloMosaic

/-- The host's masked logits. -/
def hostLogits (q : FVec Ideal S2048x2048 .f32) (kv : FVec Ideal S2048x4096 .bf16) (dc : FVec Ideal S16x2048 .f32) :
    FVec Ideal S16x2048x2048 .f32 :=
  select (broadcastInDim S16x2048x2048 ![1, 2] bcast_S2048x2048_S16x2048x2048_1_2
      (cmpi .sge (broadcastInDim S2048x2048 ![0, 1] bcast_S2048x1_S2048x2048_0_1 (broadcastInDim S2048x1 ![0] bcast_S2048_S2048x1_0 (iotaInDim S2048 32 0)))
        (broadcastInDim S2048x2048 ![0, 1] bcast_S1x2048_S2048x2048_0_1 (broadcastInDim S1x2048 ![1] bcast_S2048_S1x2048_1 (iotaInDim S2048 32 0)))))
    (subf (addf (Host.dotGeneral dot_S2048x16x128_S2048x16x128_S16x2048x2048_2_2_0_0_1_1 none
          (mulf (shapeCast S2048x16x128 q shapeCasts_S2048x2048_S2048x16x128)
            (broadcastInDim S2048x16x128 ![] bcast_S_S2048x16x128 (constant S_ .f32 0x3DB504F3#32)))
          (shapeCast S2048x16x128 (extf .f32 (extractStridedSlice S2048x2048 ![0, 0] kv slices_S2048x4096_S2048x2048_0_0) bitsLt_bf16_f32 : FVec Ideal S2048x2048 .f32) shapeCasts_S2048x2048_S2048x16x128))
        (broadcastInDim S16x2048x2048 ![0, 1, 2] bcast_S16x2048x1_S16x2048x2048_0_1_2 (broadcastInDim S16x2048x1 ![0, 1] bcast_S16x2048_S16x2048x1_0_1 dc)))
      (broadcastInDim S16x2048x2048 ![0, 1, 2] bcast_S16x1x2048_S16x2048x2048_0_1_2 (broadcastInDim S16x1x2048 ![0, 2] bcast_S16x2048_S16x1x2048_0_2 dc)))
    (broadcastInDim S16x2048x2048 ![] bcast_S_S16x2048x2048 (constant S_ .f32 0xFF800000#32))

/-- The greatest logit of each row. -/
def hostMax (x : FVec Ideal S16x2048x2048 .f32) : FVec Ideal S16x2048x1 .f32 :=
  broadcastInDim S16x2048x1 ![0, 1] bcast_S16x2048_S16x2048x1_0_1 (Host.reduce FloatOps.maximumf x (constant (F := Ideal) S_ .f32 0xFF800000#32) reducesTo_S16x2048x2048_S16x2048_d2 h_S_)

/-- The row's log-sum: the maximum and the logarithm of the sum relative to it. -/
def hostLse (x : FVec Ideal S16x2048x2048 .f32) (mx : FVec Ideal S16x2048x1 .f32) : FVec Ideal S16x2048x1 .f32 :=
  addf mx (Host.log (broadcastInDim S16x2048x1 ![0, 1] bcast_S16x2048_S16x2048x1_0_1
    (Host.reduceAdd (Host.exp (subf x (broadcastInDim S16x2048x2048 ![0, 1, 2] bcast_S16x2048x1_S16x2048x2048_0_1_2 mx))) (constant (F := Ideal) S_ .f32 0x00000000#32) reducesTo_S16x2048x2048_S16x2048_d2 h_S_)))

variable (q : FVec Ideal S2048x2048 .f32) (kv : FVec Ideal S2048x4096 .bf16) (dc : FVec Ideal S16x2048 .f32) (d0 : FVec Ideal S2048x2048 .bf16)

/-- The bits of negative infinity. -/
theorem ofBits_bot : (Ideal.ofBits .f32 4286578688#32 : EReal) = ⊥ := by
  simp [Ideal.ofBits, Ideal.ieee]

/-- Selecting on a comparison that holds exactly for visible positions. -/
theorem select_visible (c : BitVec 1) (r j : ℕ) (hc : c = 1#1 ↔ j ≤ r) (x : ℝ) :
    Scalar.select c ((x : ℝ) : EReal) ⊥ = if j ≤ r then ((x : ℝ) : EReal) else ⊥ := by
  unfold Scalar.select
  by_cases h : j ≤ r
  · rw [if_pos h]; rw [hc.mpr h]; rfl
  · rw [if_neg h]
    have : c ≠ 1#1 := fun e => h (hc.mp e)
    have e0 : ∀ b : BitVec 1, b ≠ 1#1 → b = 0#1 := by decide
    rw [e0 c this]; rfl

/-- Selecting what vanishes outside the visible positions changes nothing. -/
theorem select_hidden (c : BitVec 1) (r j : ℕ) (hc : c = 1#1 ↔ j ≤ r) (x : ℝ) (hx : ¬j ≤ r → x = 0) :
    Scalar.select c ((x : ℝ) : EReal) 0 = ((x : ℝ) : EReal) := by
  unfold Scalar.select
  by_cases h : j ≤ r
  · rw [hc.mpr h]; rfl
  · have : c ≠ 1#1 := fun e => h (hc.mp e)
    have e0 : ∀ b : BitVec 1, b ≠ 1#1 → b = 0#1 := by decide
    rw [e0 c this, hx h]; rfl

/-- The maximum over the last of three axes, read at an index. -/
theorem reduce_max_last {n0 n1 n2 : ℕ} (x : (⟨3, ![n0, n1, n2]⟩ : Shape).Idx → EReal) {u : Shape} (b : u.Idx → EReal)
    (hr : (⟨3, ![n0, n1, n2]⟩ : Shape).ReducesTo [2] ⟨2, ![n0, n1]⟩) (hu : 0 < u.numel) (h : Fin n0) (r : Fin n1) :
    Host.reduce (FloatOps.maximumf (F := Ideal) (φ := .f32)) x b hr hu (ix2 h r)
      = Finset.fold max (b (Shape.Idx.first hu)) (fun j : Fin n2 => x (ix3 h r j)) Finset.univ := by
  rw [Host.reduce_eq_fold]
  exact Shape.ReducesTo.fold_fiber_r3_a2 hr (ix2 h r) _ _ _

/-- The maximum with −∞ changes nothing. -/
theorem max_with_bot (a : EReal) :
    FloatOps.maximumf (F := Ideal) (φ := .f32) (FloatOps.ofBits (F := Ideal) .f32 0xFF800000#32) a = a := by
  show max (Ideal.ofBits .f32 4286578688#32) a = a
  rw [ofBits_bot]
  exact max_eq_right bot_le

/-- Adding words adds their numbers. -/
theorem word_add (a b : ℕ) : IntOp.addi (BitVec.ofNat 32 a) (BitVec.ofNat 32 b) = BitVec.ofNat 32 (a + b) :=
  (BitVec.ofNat_add a b).symm

/-- Words below 2³¹ compare as numbers. -/
theorem word_sge (a b : ℕ) (ha : a < 4096) (hb : b < 4096) :
    IntOp.cmpi .sge (BitVec.ofNat 32 a) (BitVec.ofNat 32 b) = 1#1 ↔ b ≤ a :=
  WordCmp.cmpi_sge_ofNat_eq_one_iff (by omega) (by omega)

/-- Comparing small words compares their numbers. -/
theorem word_sle (a b : ℕ) (ha : a < 4096) (hb : b < 4096) :
    IntOp.cmpi .sle (BitVec.ofNat 32 a) (BitVec.ofNat 32 b) = 1#1 ↔ a ≤ b :=
  WordCmp.cmpi_sle_ofNat_eq_one_iff (by omega) (by omega)

/-- The host's logits as extended reals: the masked ones are negative infinity. -/
theorem hostLogits_apply (hq : IsReal q) (hk : IsReal kv) (hd : IsReal dc) (h : Fin 16) (r j : Fin 2048) :
    hostLogits q kv dc (ix3 h r j) = logitE (inp q kv dc d0) h r j := by
  pointwise [hostLogits]
  rw [ofBits_bot, scale_eq]
  simp only [hq.at, hk.at, hd.at]
  have e := coe_logit (inp q kv dc d0) h r j
  have e' := select_visible (IntOp.cmpi .sge (BitVec.ofNat 32 ↑r) (BitVec.ofNat 32 ↑j)) r j
    (WordCmp.cmpi_sge_ofNat_eq_one_iff (by have := r.2; omega) (by have := j.2; omega)) (logit (inp q kv dc d0) h r j)
  rw [← e] at e'
  exact e'.trans (by unfold logitE; rw [← e])

/-- The host's row maximum, as a fold. -/
theorem hostMax_apply (x : FVec Ideal S16x2048x2048 .f32) (h : Fin 16) (r : Fin 2048) :
    hostMax x (ix3 h r 0) = Finset.fold max ⊥ (fun j : Fin 2048 => x (ix3 h r j)) Finset.univ := by
  pointwise [hostMax]
  rw [ofBits_bot]

/-- The host's log-sum-exp, entry by entry. -/
theorem hostLse_eq (x : FVec Ideal S16x2048x2048 .f32) (mx : FVec Ideal S16x2048x1 .f32) (h : Fin 16) (r : Fin 2048) :
    hostLse x mx (ix3 h r 0) = mx (ix3 h r 0) + Ideal.log (∑ j : Fin 2048, Ideal.exp (x (ix3 h r j) - mx (ix3 h r 0))) := by
  pointwise [hostLse]

/-- The log-sum of a row from its logits. -/
theorem lse_of_logits (I : Inp) (K h r : ℕ) (hr : r < K) (f : Fin K → EReal) (hf : ∀ j, f j = logitE I h r j) (mx : EReal)
    (hmx : mx = Finset.fold max ⊥ f Finset.univ) :
    ∃ M : ℝ, mx + Ideal.log (∑ j : Fin K, Ideal.exp (f j - mx))
      = ((M : ℝ) : EReal) + ((Real.log (∑ j : Fin K, weight I M h r j) : ℝ) : EReal) := by
  obtain ⟨M, hM⟩ := fold_max_logit I K h r hr
  have e : f = fun j : Fin K => logitE I h r j := funext hf
  rw [e, hM] at hmx
  refine ⟨M, ?_⟩
  rw [hmx, e]
  simp only [exp_logitE_sub]
  rw [coe_sum, log_coe_pos _ (sum_weight_pos I K M h r hr)]

/-- The host's log-sum-exp is the logarithm of a row's total weight, at some real shift. -/
theorem hostLse_apply (hq : IsReal q) (hk : IsReal kv) (hd : IsReal dc) (h : Fin 16) (r : Fin 2048) :
    ∃ M : ℝ, hostLse (hostLogits q kv dc) (hostMax (hostLogits q kv dc)) (ix3 h r 0)
      = ((M : ℝ) : EReal) + ((Real.log (∑ j : Fin 2048, weight (inp q kv dc d0) M h r j) : ℝ) : EReal) := by
  rw [hostLse_eq]
  exact lse_of_logits _ 2048 h r r.2 (fun j => hostLogits q kv dc (ix3 h r j)) (fun j => hostLogits_apply q kv dc d0 hq hk hd h r j) _
    (hostMax_apply _ h r)

end Cert.Softmax

end
-- ==== Proof.Tile6.lean ====
module

public import proofs.«01_k».proof.Proof.Gen.Attn6Ideal.Value
public import proofs.«01_k».proof.Proof.Lse
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The call of the attention backward kernel over the rows 1536 to 2047, the positions being the first 2048: what one
  tile of 256 rows computes, at an index, and what the tile's blocks hold of the arrays.
-/

set_option maxRecDepth 16384

noncomputable section

namespace Cert.Attn6Ideal.Proof

open Cert.Attn6Ideal Cert.Attn6Ideal.Gen Cert.Softmax Idealize.ShloMosaic Idealize.ShloMosaic.TcCoe Idealize.SL.Sem

/-- The number of a row of a tile, as the kernel computes it in words. -/
theorem tile_row (i r R : ℕ) (hi : 256 * (6 + i) = R) :
    IntOp.addi (Scalar.muli (Scalar.addi 6#32 (BitVec.ofNat 32 i)) 256#32) (BitVec.ofNat 32 r) = BitVec.ofNat 32 (R + r) := by
  subst hi
  show (6#32 + BitVec.ofNat 32 i) * 256#32 + BitVec.ofNat 32 r = _
  rw [Nat.mul_comm, BitVec.ofNat_add, BitVec.ofNat_mul, BitVec.ofNat_add]

section Tile
variable (I : Inp) (h R : ℕ)

/-- The tile's exponential is the attention weight: nothing after the row, the row's log-sum-exp taken off. -/
theorem tile_prob (i : grid0.Coords) (hi : 256 * (6 + (i 1).val) = R) (v5 : Vec Ideal S256x128 .f32) (v9 : Vec Ideal S2048x128 .bf16)
    (v11 : Vec Ideal S1x256x1 .f32) (v15 : Vec Ideal S1x1x2048 .f32) (v26 : Vec Ideal S1x256x1 .f32) (hsc : I.sc = scale)
    (h5 : ∀ r x, v5 (ix2 r x) = ((I.q (R + r.val) (h * 128 + x.val) : ℝ) : EReal))
    (h9 : ∀ j x, v9 (ix2 j x) = ((I.kv j.val (h * 128 + x.val) : ℝ) : EReal))
    (h11 : ∀ r, v11 (ix3 0 r 0) = ((I.dc h (R + r.val) : ℝ) : EReal))
    (h15 : ∀ j, v15 (ix3 0 0 j) = ((I.dc h j.val : ℝ) : EReal))
    (h26 : ∀ r : Fin 256, ∃ M : ℝ, v26 (ix3 0 r 0) = ((M : ℝ) : EReal) + ((Real.log (∑ j' : Fin 2048, weight I M h (R + r.val) j') : ℝ) : EReal))
    (r : Fin 256) (j : Fin 2048) :
    k0_pay6 (F := Ideal) i v5 v9 v11 v15 v26 (ix2 r j) = ((prob I h (R + r.val) j.val : ℝ) : EReal) := by
  have hi1 : (i 1).val < 2 := (i 1).isLt
  have hR : R + r.val < 2048 := by have := r.2; omega
  obtain ⟨M, hM⟩ := h26 r
  rw [← exp_logitE_lse I 2048 M h (R + r.val) j.val hR, ← hM]
  pointwise [k0_pay6, k0_pay5]
  rw [show (Named.named (F := Ideal) (φ := .f32) κ "mask" 4048155338#32 : EReal) = ⊥ from IdealRules.named_const.ideal_named_scalar _ _ _ _ rfl]
  simp only [h5, h9, h11, h15, scale_eq, ← hsc, coe_logit]
  rw [tile_row (i 1).val r.val R hi, select_visible _ (R + r.val) j.val (word_sle j.val (R + r.val) (by have := j.2; omega) (by omega))]
  rfl

/-- The tile's gradient of the logits. -/
theorem tile_dlogit (v30 : FVec Ideal S256x2048 .f32) (v31 : Vec Ideal S256x128 .bf16) (v32 : Vec Ideal S2048x128 .bf16)
    (h30 : ∀ r j, v30 (ix2 r j) = ((prob I h (R + r.val) j.val : ℝ) : EReal))
    (h31 : ∀ r x, v31 (ix2 r x) = ((I.dout (R + r.val) (h * 128 + x.val) : ℝ) : EReal))
    (h32 : ∀ j x, v32 (ix2 j x) = ((I.kv j.val (2048 + (h * 128 + x.val)) : ℝ) : EReal))
    (r : Fin 256) (j : Fin 2048) :
    k0_pay7 (F := Ideal) v30 v31 v32 (ix2 r j) = ((dlogit I 2048 h (R + r.val) j.val : ℝ) : EReal) := by
  pointwise [k0_pay7]
  simp only [h30, h31, h32, coe_dprob, ← EReal.coe_mul, coe_sum, ← EReal.coe_sub]
  rfl

/-- The tile's rows of the gradient of the queries. -/
theorem tile_dq (v30 : FVec Ideal S256x2048 .f32) (v31 : Vec Ideal S256x128 .bf16) (v32 v41 : Vec Ideal S2048x128 .bf16)
    (hd : ∀ r j, k0_pay7 (F := Ideal) v30 v31 v32 (ix2 r j) = ((dlogit I 2048 h (R + r.val) j.val : ℝ) : EReal)) (hsc : I.sc = scale)
    (h41 : ∀ j x, v41 (ix2 j x) = ((I.kv j.val (h * 128 + x.val) : ℝ) : EReal)) (r : Fin 256) (x : Fin 128) :
    k0_pay9 (F := Ideal) v30 v31 v32 v41 (ix2 r x) = ((dqV I 2048 (R + r.val) (h * 128 + x.val) : ℝ) : EReal) := by
  pointwise [k0_pay9, k0_pay8]
  simp only [hd, h41, scale_eq, ← hsc, ← EReal.coe_mul, coe_sum]
  unfold dqV
  rw [show (h * 128 + x.val) / 128 = h by have := x.2; omega]

/-- The tile adds its rows' part to the gradient of the keys. -/
theorem tile_dk (v8 : FVec Ideal S256x128 .bf16) (v30 : FVec Ideal S256x2048 .f32) (v31 : Vec Ideal S256x128 .bf16) (v32 : Vec Ideal S2048x128 .bf16) (v47 : Vec Ideal S2048x128 .f32)
    (hd : ∀ r j, k0_pay7 (F := Ideal) v30 v31 v32 (ix2 r j) = ((dlogit I 2048 h (R + r.val) j.val : ℝ) : EReal))
    (h8 : ∀ r x, v8 (ix2 r x) = ((I.q (R + r.val) (h * 128 + x.val) * I.sc : ℝ) : EReal)) (j : Fin 2048) (x : Fin 128) :
    k0_pay10 (F := Ideal) v8 v30 v31 v32 v47 (ix2 j x) = v47 (ix2 j x) + ((∑ r : Fin 256, dlogit I 2048 h (R + r.val) j.val * (I.q (R + r.val) (h * 128 + x.val) * I.sc) : ℝ) : EReal) := by
  pointwise [k0_pay10, k0_pay8]
  simp only [hd, h8, ← EReal.coe_mul, coe_sum]

/-- The tile adds its rows' part to the gradient of the values. -/
theorem tile_dv (v30 : FVec Ideal S256x2048 .f32) (v31 : Vec Ideal S256x128 .bf16) (v53 : Vec Ideal S2048x128 .f32)
    (h30 : ∀ r j, v30 (ix2 r j) = ((prob I h (R + r.val) j.val : ℝ) : EReal))
    (h31 : ∀ r x, v31 (ix2 r x) = ((I.dout (R + r.val) (h * 128 + x.val) : ℝ) : EReal)) (j : Fin 2048) (x : Fin 128) :
    k0_pay11 (F := Ideal) v30 v31 v53 (ix2 j x) = v53 (ix2 j x) + ((∑ r : Fin 256, prob I h (R + r.val) j.val * I.dout (R + r.val) (h * 128 + x.val) : ℝ) : EReal) := by
  pointwise [k0_pay11]
  simp only [h30, h31, ← EReal.coe_mul, coe_sum]

/-- The tile takes its rows' gradients of the logits off the gradient at the positions. -/
theorem tile_dd (v30 : FVec Ideal S256x2048 .f32) (v31 : Vec Ideal S256x128 .bf16) (v32 : Vec Ideal S2048x128 .bf16) (v60 : Vec Ideal S1x2048 .f32)
    (hd : ∀ r j, k0_pay7 (F := Ideal) v30 v31 v32 (ix2 r j) = ((dlogit I 2048 h (R + r.val) j.val : ℝ) : EReal)) (j : Fin 2048) :
    k0_pay12 (F := Ideal) v30 v31 v32 v60 (ix2 0 j) = v60 (ix2 0 j) - ((∑ r : Fin 256, dlogit I 2048 h (R + r.val) j.val : ℝ) : EReal) := by
  pointwise [k0_pay12]
  simp only [hd, ← EReal.coe_mul, coe_sum]
end Tile

/-! ## The blocks -/

/-- The queries' block at a grid point. -/
theorem idx0 : ∀ t : Fin grid0.N, win0_0.index t 0 = 6 + t.val % 2 ∧ win0_0.index t 1 = t.val / 2 := by decide +kernel
/-- The keys' block at a grid point. -/
theorem idx1 : ∀ t : Fin grid0.N, win0_1.index t 0 = 0 ∧ win0_1.index t 1 = t.val / 2 := by decide +kernel
/-- The values' block at a grid point. -/
theorem idx2 : ∀ t : Fin grid0.N, win0_2.index t 0 = 0 ∧ win0_2.index t 1 = 16 + t.val / 2 := by decide +kernel
/-- The rows' decay block at a grid point. -/
theorem idx3 : ∀ t : Fin grid0.N, win0_3.index t 0 = t.val / 2 ∧ win0_3.index t 1 = 6 + t.val % 2 ∧ win0_3.index t 2 = 0 := by decide +kernel
/-- The columns' decay block at a grid point. -/
theorem idx4 : ∀ t : Fin grid0.N, win0_4.index t 0 = t.val / 2 ∧ win0_4.index t 1 = 0 ∧ win0_4.index t 2 = 0 := by decide +kernel
/-- The log-sum-exp's block at a grid point. -/
theorem idx5 : ∀ t : Fin grid0.N, win0_5.index t 0 = t.val / 2 ∧ win0_5.index t 1 = 6 + t.val % 2 ∧ win0_5.index t 2 = 0 := by decide +kernel
/-- The incoming gradient's block at a grid point. -/
theorem idx6 : ∀ t : Fin grid0.N, win0_6.index t 0 = 6 + t.val % 2 ∧ win0_6.index t 1 = t.val / 2 := by decide +kernel

/-- The tile's queries. -/
theorem read_q (A : S2048x2048.Idx → EReal) (t : Fin cfg0.N) (r : Fin 256) (x : Fin 128) :
    ((cfg0.win 0).blk t).view.read (Elt Ideal) A (ix2 r x) = A (ix2 ⟨1536 + 256 * (t.val % 2) + r.val, by have := r.2; omega⟩ ⟨t.val / 2 * 128 + x.val, by have := t.isLt; have : cfg0.N = 32 := rfl; have := x.2; omega⟩) := by
  show A _ = A _
  blk_ext [idx0 t]

/-- The head's keys. -/
theorem read_k (A : S2048x4096.Idx → EReal) (t : Fin cfg0.N) (j : Fin 2048) (x : Fin 128) :
    ((cfg0.win 1).blk t).view.read (Elt Ideal) A (ix2 j x) = A (ix2 j ⟨t.val / 2 * 128 + x.val, by have := t.isLt; have : cfg0.N = 32 := rfl; have := x.2; omega⟩) := by
  show A _ = A _
  blk_ext [idx1 t]

/-- The head's values. -/
theorem read_v (A : S2048x4096.Idx → EReal) (t : Fin cfg0.N) (j : Fin 2048) (x : Fin 128) :
    ((cfg0.win 2).blk t).view.read (Elt Ideal) A (ix2 j x) = A (ix2 j ⟨2048 + (t.val / 2 * 128 + x.val), by have := t.isLt; have : cfg0.N = 32 := rfl; have := x.2; omega⟩) := by
  show A _ = A _
  blk_ext [idx2 t]

/-- The head's running sums of the log gates at the tile's rows. -/
theorem read_dc (A : S16x2048x1.Idx → EReal) (t : Fin cfg0.N) (r : Fin 256) :
    ((cfg0.win 3).blk t).view.read (Elt Ideal) A (ix3 0 r 0) = A (ix3 ⟨t.val / 2, by have := t.isLt; have : cfg0.N = 32 := rfl; omega⟩ ⟨1536 + 256 * (t.val % 2) + r.val, by have := r.2; omega⟩ 0) := by
  show A _ = A _
  blk_ext [idx3 t]

/-- The head's running sums of the log gates at the positions. -/
theorem read_dr (A : S16x1x2048.Idx → EReal) (t : Fin cfg0.N) (j : Fin 2048) :
    ((cfg0.win 4).blk t).view.read (Elt Ideal) A (ix3 0 0 j) = A (ix3 ⟨t.val / 2, by have := t.isLt; have : cfg0.N = 32 := rfl; omega⟩ 0 j) := by
  show A _ = A _
  blk_ext [idx4 t]

/-- The log-sum-exps of the tile's rows. -/
theorem read_lse (A : S16x2048x1.Idx → EReal) (t : Fin cfg0.N) (r : Fin 256) :
    ((cfg0.win 5).blk t).view.read (Elt Ideal) A (ix3 0 r 0) = A (ix3 ⟨t.val / 2, by have := t.isLt; have : cfg0.N = 32 := rfl; omega⟩ ⟨1536 + 256 * (t.val % 2) + r.val, by have := r.2; omega⟩ 0) := by
  show A _ = A _
  blk_ext [idx5 t]

/-- The tile's rows of the gradient of the output. -/
theorem read_do (A : S2048x2048.Idx → EReal) (t : Fin cfg0.N) (r : Fin 256) (x : Fin 128) :
    ((cfg0.win 6).blk t).view.read (Elt Ideal) A (ix2 r x) = A (ix2 ⟨1536 + 256 * (t.val % 2) + r.val, by have := r.2; omega⟩ ⟨t.val / 2 * 128 + x.val, by have := t.isLt; have : cfg0.N = 32 := rfl; have := x.2; omega⟩) := by
  show A _ = A _
  blk_ext [idx6 t]

/-! ## What the host prepares -/

variable (m : (ℓ : Loc nD τ sig) → Buf (Elt Ideal) ℓ)

/-- The log-sum-exps the host computes before the call. -/
theorem V_lse (c : Dev nD) : (V m c main_v31 : FVec Ideal S16x2048x1 .f32)
    = hostLse (hostLogits (m (c.tc.loc main_arg0)) (m (c.tc.loc main_arg1)) (m (c.tc.loc main_arg2)))
       (hostMax (hostLogits (m (c.tc.loc main_arg0)) (m (c.tc.loc main_arg1)) (m (c.tc.loc main_arg2)))) := by
  unfold hostLse hostMax hostLogits
  show StableHlo.after (hostOps0 ++ (hostOps0_1 ++ (hostOps0_2 ++ []))) _ _ = _
  simp only [List.cons_append, List.nil_append, List.append_nil]
  after_reads_simp
  rfl

/-- The running sums as a column. -/
theorem V_dcol (c : Dev nD) : (V m c main_v0 : FVec Ideal S16x2048x1 .f32)
    = shapeCast S16x2048x1 (m (c.tc.loc main_arg2) : FVec Ideal S16x2048 .f32) shapeCasts_S16x2048_S16x2048x1 := by
  show StableHlo.after (hostOps0 ++ (hostOps0_1 ++ (hostOps0_2 ++ []))) _ _ = _
  simp only [List.cons_append, List.nil_append, List.append_nil]
  after_reads_simp
  rfl

/-- The running sums as a row. -/
theorem V_drow (c : Dev nD) : (V m c main_v1 : FVec Ideal S16x1x2048 .f32)
    = shapeCast S16x1x2048 (m (c.tc.loc main_arg2) : FVec Ideal S16x2048 .f32) shapeCasts_S16x2048_S16x1x2048 := by
  show StableHlo.after (hostOps0 ++ (hostOps0_1 ++ (hostOps0_2 ++ []))) _ _ = _
  simp only [List.cons_append, List.nil_append, List.append_nil]
  after_reads_simp
  rfl

/-- The decay laid out as a column per head. -/
theorem dcol_apply (x : FVec Ideal S16x2048 .f32) (h : Fin 16) (r : Fin 2048) :
    shapeCast S16x2048x1 x shapeCasts_S16x2048_S16x2048x1 (ix3 h r 0) = x (ix2 h r) := by
  pointwise

/-- The decay laid out as a row per head. -/
theorem drow_apply (x : FVec Ideal S16x2048 .f32) (h : Fin 16) (r : Fin 2048) :
    shapeCast S16x1x2048 x shapeCasts_S16x2048_S16x1x2048 (ix3 h 0 r) = x (ix2 h r) := by
  pointwise

end Cert.Attn6Ideal.Proof
-- ==== Proof.Kern6.lean ====
module

public import proofs.«01_k».proof.Proof.Tile6

@[expose] public section

/-!
  The call of the attention backward kernel over the rows 1536 to 2047, the positions being the first 2048: what the
  grid's points leave and what the result arrays end holding. The grid is sixteen heads by two tiles of 256 rows.
-/

set_option maxRecDepth 16384

noncomputable section

namespace Cert.Attn6Ideal.Proof

open Cert.Attn6Ideal Cert.Attn6Ideal.Gen Cert.Softmax Idealize.ShloMosaic Idealize.ShloMosaic.TcCoe Idealize.SL.Sem

variable (m : (ℓ : Loc nD τ sig) → Buf (Elt Ideal) ℓ)

/-- The arguments of a core as real functions. -/
def args (c : Dev nD) : Inp :=
  inp (m (c.tc.loc main_arg0)) (m (c.tc.loc main_arg1)) (m (c.tc.loc main_arg2)) (m (c.tc.loc main_arg3))

/-- The four arguments of a core hold real numbers. -/
def RealArgs (c : Dev nD) : Prop :=
  IsReal (s := Sq) (m (c.tc.loc main_arg0)) ∧ IsReal (s := Swide) (m (c.tc.loc main_arg1))
    ∧ IsReal (s := Sgate) (m (c.tc.loc main_arg2)) ∧ IsReal (s := Sq) (m (c.tc.loc main_arg3))

/-- The tile of queries at a grid point. -/
theorem coords_tile : ∀ t : Fin grid0.N, (grid0.coords t 1).val = t.val % 2 := by decide +kernel

variable (c : Dev nD) (hr : RealArgs m c) (t : Fin cfg0.N)
include hr

/-- The tile's queries as real numbers. -/
theorem at_q (r : Fin 256) (x : Fin 128) :
    (iblk m c 0 t : Vec Ideal S256x128 .f32) (ix2 r x) = (((args m c).q ((1536 + 256 * (t.val % 2)) + r.val) (t.val / 2 * 128 + x.val) : ℝ) : EReal) := by
  have e := read_q (V m c main_arg0) t r x
  rw [V_main_arg0] at e
  exact e.trans (hr.1.at _ _)

/-- The head's keys as real numbers. -/
theorem at_k (j : Fin 2048) (x : Fin 128) :
    (iblk m c 1 t : Vec Ideal S2048x128 .bf16) (ix2 j x) = (((args m c).kv j.val (t.val / 2 * 128 + x.val) : ℝ) : EReal) := by
  have e := read_k (V m c main_arg1) t j x
  rw [V_main_arg1] at e
  exact e.trans (hr.2.1.at _ _)

/-- The head's values as real numbers. -/
theorem at_v (j : Fin 2048) (x : Fin 128) :
    (iblk m c 2 t : Vec Ideal S2048x128 .bf16) (ix2 j x) = (((args m c).kv j.val (2048 + (t.val / 2 * 128 + x.val)) : ℝ) : EReal) := by
  have e := read_v (V m c main_arg1) t j x
  rw [V_main_arg1] at e
  exact e.trans (hr.2.1.at _ _)

/-- The tile's cumulated decay, along the rows, as real numbers. -/
theorem at_dc (r : Fin 256) :
    (iblk m c 3 t : Vec Ideal S1x256x1 .f32) (ix3 0 r 0) = (((args m c).dc (t.val / 2) ((1536 + 256 * (t.val % 2)) + r.val) : ℝ) : EReal) := by
  have e := read_dc (V m c main_v0) t r
  rw [V_dcol, dcol_apply] at e
  exact e.trans (hr.2.2.1.at _ _)

/-- The head's cumulated decay, along the columns, as real numbers. -/
theorem at_dr (j : Fin 2048) :
    (iblk m c 4 t : Vec Ideal S1x1x2048 .f32) (ix3 0 0 j) = (((args m c).dc (t.val / 2) j.val : ℝ) : EReal) := by
  have e := read_dr (V m c main_v1) t j
  rw [V_drow, drow_apply] at e
  exact e.trans (hr.2.2.1.at _ _)

/-- The tile's log-sum-exp: the logarithm of a row's total weight, at some real shift. -/
theorem at_lse (r : Fin 256) : ∃ M : ℝ, (iblk m c 5 t : Vec Ideal S1x256x1 .f32) (ix3 0 r 0)
    = ((M : ℝ) : EReal) + ((Real.log (∑ j' : Fin 2048, weight (args m c) M (t.val / 2) ((1536 + 256 * (t.val % 2)) + r.val) j') : ℝ) : EReal) := by
  have e := read_lse (V m c main_v31) t r
  obtain ⟨M, hM⟩ := hostLse_apply (m (c.tc.loc main_arg0)) (m (c.tc.loc main_arg1)) (m (c.tc.loc main_arg2)) (m (c.tc.loc main_arg3)) hr.1 hr.2.1 hr.2.2.1 ⟨t.val / 2, by have := t.isLt; have : cfg0.N = 32 := rfl; omega⟩ ⟨1536 + 256 * (t.val % 2) + r.val, by have := r.2; omega⟩
  exact ⟨M, e.trans ((congrFun (V_lse m c) _).trans hM)⟩

/-- The tile's incoming gradient as real numbers. -/
theorem at_do (r : Fin 256) (x : Fin 128) :
    (iblk m c 6 t : Vec Ideal S256x128 .bf16) (ix2 r x) = (((args m c).dout ((1536 + 256 * (t.val % 2)) + r.val) (t.val / 2 * 128 + x.val) : ℝ) : EReal) := by
  have e := read_do (V m c main_arg3) t r x
  rw [V_main_arg3] at e
  exact e.trans (hr.2.2.2.at _ _)

omit hr in
/-- The weights of a point's tile. -/
def probT : FVec Ideal S256x2048 .f32 :=
  k0_pay6 (F := Ideal) (grid0.coords t) (iblk m c 0 t) (iblk m c 1 t) (iblk m c 3 t) (iblk m c 4 t) (iblk m c 5 t)

/-- The kernel's probabilities over the tile are the real ones. -/
theorem probT_apply (r : Fin 256) (j : Fin 2048) :
    probT m c t (ix2 r j) = ((prob (args m c) (t.val / 2) ((1536 + 256 * (t.val % 2)) + r.val) j.val : ℝ) : EReal) :=
  tile_prob (args m c) (t.val / 2) (1536 + 256 * (t.val % 2)) (grid0.coords t) (by rw [coords_tile]; omega) _ _ _ _ _ rfl
    (at_q m c hr t) (at_k m c hr t) (at_dc m c hr t) (at_dr m c hr t) (at_lse m c hr t) r j

/-- The kernel's logit gradients over the tile are the real ones. -/
theorem dlogitT_apply (r : Fin 256) (j : Fin 2048) :
    k0_pay7 (F := Ideal) (probT m c t) (iblk m c 6 t) (iblk m c 2 t) (ix2 r j) = ((dlogit (args m c) 2048 (t.val / 2) ((1536 + 256 * (t.val % 2)) + r.val) j.val : ℝ) : EReal) :=
  tile_dlogit (args m c) (t.val / 2) (1536 + 256 * (t.val % 2)) _ _ _ (probT_apply m c hr t) (at_do m c hr t) (at_v m c hr t) r j

/-- The tile's scaled queries as real numbers. -/
theorem scaledT_apply (r : Fin 256) (x : Fin 128) :
    k0_pay5 (F := Ideal) (iblk m c 0 t) (ix2 r x) = (((args m c).q ((1536 + 256 * (t.val % 2)) + r.val) (t.val / 2 * 128 + x.val) * (args m c).sc : ℝ) : EReal) := by
  pointwise [k0_pay5]
  rw [EReal.coe_mul, ← at_q m c hr t r x, scale_eq]
  rfl

/-- What a point's rows add to the gradient of the keys. -/
theorem dkT_apply (acc : Vec Ideal S2048x128 .f32) (j : Fin 2048) (x : Fin 128) :
    k0_pay10 (F := Ideal) (k0_pay5 (iblk m c 0 t)) (probT m c t) (iblk m c 6 t) (iblk m c 2 t) acc (ix2 j x)
      = acc (ix2 j x) + ((∑ r : Fin 256, dlogit (args m c) 2048 (t.val / 2) ((1536 + 256 * (t.val % 2)) + r.val) j.val * ((args m c).q ((1536 + 256 * (t.val % 2)) + r.val) (t.val / 2 * 128 + x.val) * (args m c).sc) : ℝ) : EReal) :=
  tile_dk (args m c) (t.val / 2) (1536 + 256 * (t.val % 2)) _ _ _ _ acc (dlogitT_apply m c hr t) (scaledT_apply m c hr t) j x

/-- What a point's rows add to the gradient of the values. -/
theorem dvT_apply (acc : Vec Ideal S2048x128 .f32) (j : Fin 2048) (x : Fin 128) :
    k0_pay11 (F := Ideal) (probT m c t) (iblk m c 6 t) acc (ix2 j x)
      = acc (ix2 j x) + ((∑ r : Fin 256, prob (args m c) (t.val / 2) ((1536 + 256 * (t.val % 2)) + r.val) j.val * (args m c).dout ((1536 + 256 * (t.val % 2)) + r.val) (t.val / 2 * 128 + x.val) : ℝ) : EReal) :=
  tile_dv (args m c) (t.val / 2) (1536 + 256 * (t.val % 2)) _ _ acc (probT_apply m c hr t) (at_do m c hr t) j x

/-- What a point's rows take off the gradient at the positions. -/
theorem ddT_apply (acc : Vec Ideal S1x2048 .f32) (j : Fin 2048) :
    k0_pay12 (F := Ideal) (probT m c t) (iblk m c 6 t) (iblk m c 2 t) acc (ix2 0 j)
      = acc (ix2 0 j) - ((∑ r : Fin 256, dlogit (args m c) 2048 (t.val / 2) ((1536 + 256 * (t.val % 2)) + r.val) j.val : ℝ) : EReal) :=
  tile_dd (args m c) (t.val / 2) (1536 + 256 * (t.val % 2)) _ _ _ acc (dlogitT_apply m c hr t) j

/-- A point's rows of the gradient of the queries. -/
theorem dqT_apply (r : Fin 256) (x : Fin 128) :
    k0_pay9 (F := Ideal) (probT m c t) (iblk m c 6 t) (iblk m c 2 t) (iblk m c 1 t) (ix2 r x)
      = ((dqV (args m c) 2048 ((1536 + 256 * (t.val % 2)) + r.val) (t.val / 2 * 128 + x.val) : ℝ) : EReal) :=
  tile_dq (args m c) (t.val / 2) (1536 + 256 * (t.val % 2)) _ _ _ _ (dlogitT_apply m c hr t) rfl (at_k m c hr t) r x
omit hr

/-! ## What the points leave -/

/-- The keys' gradient after the first tile of a head. -/
theorem dk_first (h0 : t.val % 2 = 0) :
    ((outsAt0 m c t.val t.isLt).2.2.2.2.1 : Vec Ideal S2048x128 .f32) = k0_pay10 (F := Ideal) (k0_pay5 (iblk m c 0 t)) (probT m c t) (iblk m c 6 t) (iblk m c 2 t) (k0_pay2 (F := Ideal)) := by
  rw [outsAt0_A m c t h0 (by omega)]
  frame_out
  try rfl

/-- The keys' gradient after the second tile of a head. -/
theorem dk_second (h0 : t.val % 2 = 1) :
    ((outsAt0 m c t.val t.isLt).2.1 : Vec Ideal S2048x128 .f32) = k0_pay10 (F := Ideal) (k0_pay5 (iblk m c 0 t)) (probT m c t) (iblk m c 6 t) (iblk m c 2 t) (outsAt0 m c (t.val - 1) (by have := t.isLt; omega)).2.2.2.2.1 := by
  rw [outsAt0_B m c t (by omega) h0]
  frame_out
  simp only [read_unread_whole]
  try rfl

/-- The values' gradient after the first tile of a head. -/
theorem dv_first (h0 : t.val % 2 = 0) :
    ((outsAt0 m c t.val t.isLt).2.2.2.2.2.1 : Vec Ideal S2048x128 .f32) = k0_pay11 (F := Ideal) (probT m c t) (iblk m c 6 t) (k0_pay3 (F := Ideal)) := by
  rw [outsAt0_A m c t h0 (by omega)]
  frame_out
  try rfl

/-- The values' gradient after the second tile of a head. -/
theorem dv_second (h0 : t.val % 2 = 1) :
    ((outsAt0 m c t.val t.isLt).2.2.1 : Vec Ideal S2048x128 .f32) = k0_pay11 (F := Ideal) (probT m c t) (iblk m c 6 t) (outsAt0 m c (t.val - 1) (by have := t.isLt; omega)).2.2.2.2.2.1 := by
  rw [outsAt0_B m c t (by omega) h0]
  frame_out
  simp only [read_unread_whole]
  try rfl

/-- The decay's gradient after the first tile of a head. -/
theorem dd_first (h0 : t.val % 2 = 0) :
    ((outsAt0 m c t.val t.isLt).2.2.2.2.2.2 : Vec Ideal S1x2048 .f32) = k0_pay12 (F := Ideal) (probT m c t) (iblk m c 6 t) (iblk m c 2 t) (k0_pay4 (F := Ideal)) := by
  rw [outsAt0_A m c t h0 (by omega)]
  frame_out
  try rfl

/-- The decay's gradient after the second tile of a head. -/
theorem dd_second (h0 : t.val % 2 = 1) :
    ((outsAt0 m c t.val t.isLt).2.2.2.1 : Vec Ideal S1x1x2048 .f32) = k0_pay1 (F := Ideal) (k0_pay12 (F := Ideal) (probT m c t) (iblk m c 6 t) (iblk m c 2 t) (outsAt0 m c (t.val - 1) (by have := t.isLt; omega)).2.2.2.2.2.2) := by
  rw [outsAt0_B m c t (by omega) h0]
  frame_out
  simp only [read_unread_whole]
  try rfl

/-- The queries' gradient at a grid point is the kernel's formula over the tile. -/
theorem dq_point : ((outsAt0 m c t.val t.isLt).1 : Vec Ideal S256x128 .bf16) = k0_pay9 (F := Ideal) (probT m c t) (iblk m c 6 t) (iblk m c 2 t) (iblk m c 1 t) := by
  by_cases h0 : t.val % 2 = 0
  · rw [outsAt0_A m c t h0 (by omega)]
    frame_out
    try rfl
  · rw [outsAt0_B m c t h0 (by omega)]
    frame_out
    try rfl

end Cert.Attn6Ideal.Proof
-- ==== Proof.Arr6.lean ====
module

public import proofs.«01_k».proof.Proof.Kern6

@[expose] public section

/-!
  The call of the attention backward kernel over the rows 1536 to 2047, the positions being the first 2048: the four
  result arrays after the run, at an index.
-/

set_option maxRecDepth 16384

noncomputable section

namespace Cert.Attn6Ideal.Proof

open Cert.Attn6Ideal Cert.Attn6Ideal.Gen Cert.Softmax Idealize.ShloMosaic Idealize.ShloMosaic.TcCoe Idealize.SL.Sem

variable (m : (ℓ : Loc nD τ sig) → Buf (Elt Ideal) ℓ)
variable (c : Dev nD)

/-- The gradient of the queries in the rows of the call. -/
def endDq (i : S2048x2048.Idx) : EReal := ((dqV (args m c) 2048 (i 0).val (i 1).val : ℝ) : EReal)

/-- The gradient of the keys of the call. -/
def endDk (i : S2048x2048.Idx) : EReal := ((dkV (args m c) 2048 1536 (i 0).val (i 1).val : ℝ) : EReal)

/-- The gradient of the values of the call. -/
def endDv (i : S2048x2048.Idx) : EReal := ((dvV (args m c) 1536 (i 0).val (i 1).val : ℝ) : EReal)

/-- The gradient of the running sums of the log gates of the call. -/
def endDd (i : S16x1x2048.Idx) : EReal := ((ddV (args m c) 2048 1536 (i 0).val (i 2).val : ℝ) : EReal)

/-- A sum over 512 rows is the sum over the first 256 and the sum over the second. -/
theorem sum_rows (f : ℕ → ℝ) : (∑ r : Fin 256, f (1536 + 256 * 0 + r.val)) + ∑ r : Fin 256, f (1536 + 256 * 1 + r.val) = ∑ r : Fin 512, f (1536 + r.val) := by
  refine ((Fin.sum_univ_add (a := 256) (b := 256) _).trans ?_).symm
  simp only [Fin.val_castAdd, Fin.val_natAdd, ← Nat.add_assoc]

variable (hr : RealArgs m c) (t : Fin cfg0.N)
include hr

/-- What the kernel leaves for the keys' gradient at the last tile of a head, as a real sum. -/
theorem dk_out (h0 : t.val % 2 = 1) (j : Fin 2048) (x : Fin 128) :
    ((outsAt0 m c t.val t.isLt).2.1 : Vec Ideal S2048x128 .f32) (ix2 j x) = endDk m c (ix2 j ⟨t.val / 2 * 128 + x.val, by have := t.isLt; have : cfg0.N = 32 := rfl; have := x.2; omega⟩) := by
  have ht : t.val - 1 < cfg0.N := by have := t.isLt; omega
  have e := (congrFun (dk_first m c ⟨t.val - 1, ht⟩ (by show (t.val - 1) % 2 = 0; omega)) (ix2 j x)).trans
    (dkT_apply m c hr ⟨t.val - 1, ht⟩ _ j x)
  show _ = ((dkV (args m c) 2048 1536 j.val (t.val / 2 * 128 + x.val) : ℝ) : EReal)
  rw [dk_second m c t h0, dkT_apply m c hr t]
  refine (congrArg (· + _) e).trans ?_
  have ec : k0_pay2 (F := Ideal) (ix2 j x) = (0 : EReal) := by pointwise [k0_pay2]
  simp only [show (t.val - 1) % 2 = 0 by omega, h0, show (t.val - 1) / 2 = t.val / 2 by omega]
  rw [ec, zero_add, ← EReal.coe_add]
  refine congrArg _ ?_
  unfold dkV
  rw [show (t.val / 2 * 128 + x.val) / 128 = t.val / 2 by have := x.2; omega]
  exact sum_rows (fun r => dlogit (args m c) 2048 (t.val / 2) r j.val * ((args m c).q r (t.val / 2 * 128 + x.val) * (args m c).sc))

/-- The gradient of the keys after the call. -/
theorem dk_array : (dats m 0 c).arrAt 8 cfg0.N = endDk m c := by
  have e : ∀ t : Fin grid0.N, win0_8.index t 0 = 0 ∧ win0_8.index t 1 = t.val / 2 := by decide +kernel
  refine (dats m 0 c).arrAt_eq_of_covers 8 (endDk m c) (by decide +kernel) (fun t hf y => ?_)
  have h0 : t.val % 2 = 1 := (flush0_8 t).mp hf
  blk_simp
  rw [after0_8]
  rw [show y = ix2 (y 0) (y 1) from by funext a; fin_cases a <;> rfl]
  refine (dk_out m c hr t h0 (y 0) (y 1)).trans (congrArg (endDk m c) ?_)
  blk_ext [e t]

/-- What the kernel leaves for the values' gradient at the last tile of a head, as a real sum. -/
theorem dv_out (h0 : t.val % 2 = 1) (j : Fin 2048) (x : Fin 128) :
    ((outsAt0 m c t.val t.isLt).2.2.1 : Vec Ideal S2048x128 .f32) (ix2 j x) = endDv m c (ix2 j ⟨t.val / 2 * 128 + x.val, by have := t.isLt; have : cfg0.N = 32 := rfl; have := x.2; omega⟩) := by
  have ht : t.val - 1 < cfg0.N := by have := t.isLt; omega
  have e := (congrFun (dv_first m c ⟨t.val - 1, ht⟩ (by show (t.val - 1) % 2 = 0; omega)) (ix2 j x)).trans
    (dvT_apply m c hr ⟨t.val - 1, ht⟩ _ j x)
  show _ = ((dvV (args m c) 1536 j.val (t.val / 2 * 128 + x.val) : ℝ) : EReal)
  rw [dv_second m c t h0, dvT_apply m c hr t]
  refine (congrArg (· + _) e).trans ?_
  have ec : k0_pay3 (F := Ideal) (ix2 j x) = (0 : EReal) := by pointwise [k0_pay3]
  simp only [show (t.val - 1) % 2 = 0 by omega, h0, show (t.val - 1) / 2 = t.val / 2 by omega]
  rw [ec, zero_add, ← EReal.coe_add]
  refine congrArg _ ?_
  unfold dvV
  rw [show (t.val / 2 * 128 + x.val) / 128 = t.val / 2 by have := x.2; omega]
  exact sum_rows (fun r => prob (args m c) (t.val / 2) r j.val * (args m c).dout r (t.val / 2 * 128 + x.val))

/-- The gradient of the values after the call. -/
theorem dv_array : (dats m 0 c).arrAt 9 cfg0.N = endDv m c := by
  have e : ∀ t : Fin grid0.N, win0_9.index t 0 = 0 ∧ win0_9.index t 1 = t.val / 2 := by decide +kernel
  refine (dats m 0 c).arrAt_eq_of_covers 9 (endDv m c) (by decide +kernel) (fun t hf y => ?_)
  have h0 : t.val % 2 = 1 := (flush0_9 t).mp hf
  blk_simp
  rw [after0_9]
  rw [show y = ix2 (y 0) (y 1) from by funext a; fin_cases a <;> rfl]
  refine (dv_out m c hr t h0 (y 0) (y 1)).trans (congrArg (endDv m c) ?_)
  blk_ext [e t]

/-- What the kernel leaves for the decay's gradient at the last tile of a head, as a real sum. -/
theorem dd_out (h0 : t.val % 2 = 1) (j : Fin 2048) :
    ((outsAt0 m c t.val t.isLt).2.2.2.1 : Vec Ideal S1x1x2048 .f32) (ix3 0 0 j) = endDd m c (ix3 ⟨t.val / 2, by have := t.isLt; have : cfg0.N = 32 := rfl; omega⟩ 0 j) := by
  have ht : t.val - 1 < cfg0.N := by have := t.isLt; omega
  have e := (congrFun (dd_first m c ⟨t.val - 1, ht⟩ (by show (t.val - 1) % 2 = 0; omega)) (ix2 0 j)).trans
    (ddT_apply m c hr ⟨t.val - 1, ht⟩ _ j)
  show _ = ((ddV (args m c) 2048 1536 (t.val / 2) j.val : ℝ) : EReal)
  rw [dd_second m c t h0]
  have e1 : ∀ v : Vec Ideal S1x2048 .f32, k0_pay1 (F := Ideal) v (ix3 0 0 j) = v (ix2 0 j) := fun v => by pointwise [k0_pay1]
  rw [e1, ddT_apply m c hr t]
  refine (congrArg (· - _) e).trans ?_
  have ec : k0_pay4 (F := Ideal) (ix2 0 j) = (0 : EReal) := by pointwise [k0_pay4]
  simp only [show (t.val - 1) % 2 = 0 by omega, h0, show (t.val - 1) / 2 = t.val / 2 by omega]
  rw [ec, zero_sub, sub_eq_add_neg, ← EReal.coe_neg, ← EReal.coe_neg, ← EReal.coe_add]
  refine congrArg _ ?_
  unfold ddV
  rw [← neg_add]
  exact congrArg _ (sum_rows (fun r => dlogit (args m c) 2048 (t.val / 2) r j.val))

/-- The gradient of the running sums of the log gates after the call. -/
theorem dd_array : (dats m 0 c).arrAt 10 cfg0.N = endDd m c := by
  have e : ∀ t : Fin grid0.N, win0_10.index t 0 = t.val / 2 ∧ win0_10.index t 1 = 0 ∧ win0_10.index t 2 = 0 := by decide +kernel
  refine (dats m 0 c).arrAt_eq_of_covers 10 (endDd m c) (by decide +kernel) (fun t hf y => ?_)
  have h0 : t.val % 2 = 1 := (flush0_10 t).mp hf
  blk_simp
  rw [after0_10]
  rw [show y = ix3 0 0 (y 2) from by funext a; fin_cases a; exact Subsingleton.elim (α := Fin 1) _ _; exact Subsingleton.elim (α := Fin 1) _ _; rfl]
  refine (dd_out m c hr t h0 (y 2)).trans (congrArg (endDd m c) ?_)
  blk_ext [e t]

/-- What the kernel leaves for the queries' gradient at a tile, as a real sum. -/
theorem dq_out (r : Fin 256) (x : Fin 128) :
    ((outsAt0 m c t.val t.isLt).1 : Vec Ideal S256x128 .bf16) (ix2 r x) = endDq m c (ix2 ⟨1536 + 256 * (t.val % 2) + r.val, by have := r.2; omega⟩ ⟨t.val / 2 * 128 + x.val, by have := t.isLt; have : cfg0.N = 32 := rfl; have := x.2; omega⟩) := by
  rw [dq_point m c t]
  exact dqT_apply m c hr t r x

/-- The gradient of the queries after the call: the call's rows of it are written, the other rows kept. -/
theorem dq_array : (dats m 0 c).arrAt 7 cfg0.N = fun i : S2048x2048.Idx => if 1536 ≤ (i 0).val then endDq m c i else (dats m 0 c).A 7 i := by
  have e : ∀ t : Fin grid0.N, win0_7.index t 0 = 6 + t.val % 2 ∧ win0_7.index t 1 = t.val / 2 := by decide +kernel
  refine ((dats m 0 c).arrAt_eq_of_coversWhere 7 (endDq m c) (P := fun i : S2048x2048.Idx => 1536 ≤ (i 0).val) (fun β => 6 ≤ β 0) (by decide +kernel) (fun t hf y => ?_) (fun j => by blk_simp [Pipeline.Window.cell_apply]; omega)).trans ?_
  · blk_simp
    rw [after0_7]
    rw [show y = ix2 (y 0) (y 1) from by funext a; fin_cases a <;> rfl]
    refine (dq_out m c hr t (y 0) (y 1)).trans (congrArg (endDq m c) ?_)
    blk_ext [e t]
  · rfl

end Cert.Attn6Ideal.Proof
-- ==== Proof.Ref6.lean ====
/- The reference of the call over rows 1536 to 2047, read one operation after the other: the logits, their maximum, the
   weights, the gradients, and the four results. Every value is a real number. -/
module

public import proofs.«01_k».proof.Proof.Gen.AttnGrad6Ideal.Read
public import proofs.«01_k».proof.Proof.Lse

@[expose] public section

set_option maxRecDepth 16384

noncomputable section

namespace Cert.AttnGrad6Ideal.Proof

open Cert.AttnGrad6Ideal Cert.AttnGrad6Ideal.Gen Cert.AttnGrad6Ideal.Read Cert.Softmax Idealize.ShloMosaic

variable (x0 : FVec Ideal S2048x2048 .f32) (x1 : FVec Ideal S2048x4096 .bf16) (x2 : FVec Ideal S16x2048 .f32) (x3 : FVec Ideal S2048x2048 .bf16)

/-- The reference's logits: the masked ones are negative infinity. -/
theorem logits_apply (h0 : IsReal x0) (h1 : IsReal x1) (h2 : IsReal x2) (h : Fin 16) (r : Fin 512) (j : Fin 2048) :
    val_main_v27_0 (F := Ideal) x0 x1 x2 (ix3 h r j) = logitE (inp x0 x1 x2 x3) h (1536 + r.val) j := by
  pointwise [val_main_v27_0, val_main_v27_1, val_main_v26, val_main_v24, val_main_v21, val_main_v20, val_main_v19, val_main_c, val_main_v18, val_main_v25, val_main_v23, val_main_v22, val_main_v17, val_main_v14, val_main_v10, val_main_v7, val_main_v5, val_main_v4, val_main_v6, val_main_cst, val_main_v8, val_main_v1, val_main_v0, val_main_v13, val_main_v12, val_main_v11, val_main_v16, val_main_v15, val_main_call0_v2, val_main_call0_v0, val_main_cst_0]
  simp only [h0.at, h1.at, h2.at]
  rw [word_add]
  show Scalar.select _ _ (Ideal.ofBits .f32 4286578688#32) = _
  rw [ofBits_bot, scale_eq]
  have e := coe_logit (inp x0 x1 x2 x3) h (1536 + r.val) j
  have e' := select_visible (IntOp.cmpi .sge (BitVec.ofNat 32 (1536 + r.val)) (BitVec.ofNat 32 ↑j)) (1536 + r.val) j
    (word_sge _ _ (by have := r.2; omega) (by have := j.2; omega)) (logit (inp x0 x1 x2 x3) h (1536 + r.val) j)
  rw [← e] at e'
  exact e'.trans (by unfold logitE; rw [← e])

/-- A row's maximum, of any array. -/
theorem max_of (x : FVec Ideal S16x512x2048 .f32) (h : Fin 16) (r : Fin 512) :
    Host.reduce (FloatOps.maximumf (F := Ideal)) x (constant (F := Ideal) S_ .f32 0xFF800000#32) reducesTo_S16x512x2048_S16x512_d2 h_S_ (ix2 h r)
      = Finset.fold max ⊥ (fun j : Fin 2048 => x (ix3 h r j)) Finset.univ := by
  rw [reduce_max_last]
  exact congrArg (fun z => Finset.fold max z _ _) ofBits_bot

/-- The reference's row maximum, as a fold. -/
theorem max_fold (h : Fin 16) (r : Fin 512) :
    val_main_v28 (F := Ideal) x0 x1 x2 (ix2 h r) = Finset.fold max ⊥ (fun j : Fin 2048 => val_main_v27_0 (F := Ideal) x0 x1 x2 (ix3 h r j)) Finset.univ := by
  unfold val_main_v28 val_main_cst_1
  exact max_of _ h r

/-- The row maximum the gradient recomputes is the forward one. -/
theorem max_twice (i : S16x512.Idx) : val_main_v35 (F := Ideal) x0 x1 x2 i = val_main_v28 (F := Ideal) x0 x1 x2 i := by
  rw [val_main_v35_apply, val_main_v34_apply, val_main_cst_3_apply]
  exact max_with_bot _

/-- The maximum of a row's logits is a real number. -/
theorem max_logits (h0 : IsReal x0) (h1 : IsReal x1) (h2 : IsReal x2) (h : Fin 16) (r : Fin 512) :
    Finset.fold max ⊥ (fun j : Fin 2048 => val_main_v27_0 (F := Ideal) x0 x1 x2 (ix3 h r j)) Finset.univ
      = ((rowMax (inp x0 x1 x2 x3) 2048 h (1536 + r.val) : ℝ) : EReal) := by
  rw [← coe_rowMax _ _ _ _ (by have := r.2; omega)]
  exact congrArg (fun f => Finset.fold max ⊥ f Finset.univ) (funext fun j => logits_apply x0 x1 x2 x3 h0 h1 h2 h r j)

/-- The reference's row maximum is a real number. -/
theorem max_apply (h0 : IsReal x0) (h1 : IsReal x1) (h2 : IsReal x2) (h : Fin 16) (r : Fin 512) :
    val_main_v35 (F := Ideal) x0 x1 x2 (ix2 h r) = ((rowMax (inp x0 x1 x2 x3) 2048 h (1536 + r.val) : ℝ) : EReal) := by
  rw [max_twice, max_fold, max_logits x0 x1 x2 x3 h0 h1 h2]

/-- The reference's weights as real numbers. -/
theorem weight_apply (h0 : IsReal x0) (h1 : IsReal x1) (h2 : IsReal x2) (h : Fin 16) (r : Fin 512) (j : Fin 2048) :
    val_main_v48 (F := Ideal) x0 x1 x2 (ix3 h r j)
      = ((weight (inp x0 x1 x2 x3) (rowMax (inp x0 x1 x2 x3) 2048 h (1536 + r.val)) h (1536 + r.val) j : ℝ) : EReal) := by
  pointwise [val_main_v48, val_main_v47, val_main_v46, val_main_v45]
  rw [logits_apply x0 x1 x2 x3 h0 h1 h2, max_apply x0 x1 x2 x3 h0 h1 h2]
  exact exp_logitE_sub _ _ _ _ _

/-- The reference's row sums as real numbers. -/
theorem sum_apply (h0 : IsReal x0) (h1 : IsReal x1) (h2 : IsReal x2) (h : Fin 16) (r : Fin 512) :
    val_main_v49 (F := Ideal) x0 x1 x2 (ix2 h r) = ((rowSum (inp x0 x1 x2 x3) 2048 h (1536 + r.val) : ℝ) : EReal) := by
  pointwise [val_main_v49, val_main_cst_9]
  simp only [weight_apply x0 x1 x2 x3 h0 h1 h2]
  exact coe_sum _

/-- The reference's probabilities as real numbers. -/
theorem prob_apply (h0 : IsReal x0) (h1 : IsReal x1) (h2 : IsReal x2) (h : Fin 16) (r : Fin 512) (j : Fin 2048) :
    val_main_v52 (F := Ideal) x0 x1 x2 (ix3 h r j) = ((prob (inp x0 x1 x2 x3) h (1536 + r.val) j : ℝ) : EReal) := by
  pointwise [val_main_v52, val_main_v51, val_main_v50]
  rw [weight_apply x0 x1 x2 x3 h0 h1 h2, sum_apply x0 x1 x2 x3 h0 h1 h2]
  have hr : 1536 + r.val < 2048 := by have := r.2; omega
  exact (div_coe_ne _ _ (rowSum_ne _ _ _ _ hr)).trans (congrArg _ (weight_div _ 2048 _ _ _ _ hr))

/-- The gradient of the reference's probabilities. -/
theorem dprob_apply (h1 : IsReal x1) (h3 : IsReal x3) (h : Fin 16) (r : Fin 512) (j : Fin 2048) :
    val_main_v63 (F := Ideal) x1 x3 (ix3 h r j) = ((dprob (inp x0 x1 x2 x3) h (1536 + r.val) j : ℝ) : EReal) := by
  pointwise [val_main_v63, val_main_v62, val_main_v61, val_main_v60, val_main_v59, val_main_v9, val_main_v3, val_main_v2]
  simp only [h1.at, h3.at]
  exact coe_dprob (inp x0 x1 x2 x3) h (1536 + r.val) j

/-- The gradient of the reference's logits. -/
theorem dlogit_apply (h0 : IsReal x0) (h1 : IsReal x1) (h2 : IsReal x2) (h3 : IsReal x3) (h : Fin 16) (r : Fin 512) (j : Fin 2048) :
    val_main_v78 (F := Ideal) x0 x1 x2 x3 (ix3 h r j) = ((dlogit (inp x0 x1 x2 x3) 2048 h (1536 + r.val) j : ℝ) : EReal) := by
  pointwise [val_main_v78, val_main_v27_1, val_main_v26, val_main_v24, val_main_v21, val_main_v20, val_main_v19, val_main_c, val_main_v18, val_main_v25, val_main_v23, val_main_v22, val_main_v77, val_main_v76, val_main_v73, val_main_v72, val_main_v50, val_main_v75, val_main_v74, val_main_v71, val_main_v70, val_main_v69, val_main_v68, val_main_v67, val_main_v66, val_main_v55, val_main_v54, val_main_cst_10, val_main_v53, val_main_cst_11, val_main_cst_12, val_main_call1_v0, val_main_call1_cst]
  simp only [dprob_apply x0 x1 x2 x3 h1 h3, weight_apply x0 x1 x2 x3 h0 h1 h2, sum_apply x0 x1 x2 x3 h0 h1 h2]
  have hr : 1536 + r.val < 2048 := by have := r.2; omega
  have e := coe_dlogit (inp x0 x1 x2 x3) 2048 h (1536 + r.val) j hr
  rw [word_add]
  refine (congrArg (fun z : EReal => Scalar.select (IntOp.cmpi .sge (BitVec.ofNat 32 (1536 + r.val)) (BitVec.ofNat 32 ↑j)) z 0) e).trans ?_
  exact select_hidden _ (1536 + r.val) j (word_sge _ _ (by have := r.2; omega) (by have := j.2; omega)) _
    (fun hj => dlogit_hidden _ _ _ _ _ (by omega))

/-- The logit gradients summed over the rows. -/
theorem column_apply (h0 : IsReal x0) (h1 : IsReal x1) (h2 : IsReal x2) (h3 : IsReal x3) (h : Fin 16) (j : Fin 2048) :
    val_main_v82 (F := Ideal) x0 x1 x2 x3 (ix2 h j) = ((ddV (inp x0 x1 x2 x3) 2048 1536 h j : ℝ) : EReal) := by
  pointwise [val_main_v82, val_main_v81, val_main_v80, val_main_v79, val_main_cst_13, val_main_cst_14]
  exact coe_ddV (inp x0 x1 x2 x3) 2048 1536 h j _ (fun r => dlogit_apply x0 x1 x2 x3 h0 h1 h2 h3 h r j)

/-- The logit gradients summed over the columns. -/
theorem row_apply (h0 : IsReal x0) (h1 : IsReal x1) (h2 : IsReal x2) (h3 : IsReal x3) (h : Fin 16) (r : Fin 512) :
    val_main_v85 (F := Ideal) x0 x1 x2 x3 (ix2 h r) = 0 := by
  pointwise [val_main_v85, val_main_v84, val_main_v83, val_main_cst_15, val_main_cst_16]
  exact coe_row (inp x0 x1 x2 x3) 2048 h (1536 + r.val) (by have := r.2; omega) _ (fun j => dlogit_apply x0 x1 x2 x3 h0 h1 h2 h3 h r j)

/-- The row sums placed at the rows the call takes, zero elsewhere. -/
theorem padded_apply (h0 : IsReal x0) (h1 : IsReal x1) (h2 : IsReal x2) (h3 : IsReal x3) (h : Fin 16) (j : Fin 2048) :
    val_main_v86 (F := Ideal) x0 x1 x2 x3 (ix2 h j) = 0 := by
  have e : val_main_v85 (F := Ideal) x0 x1 x2 x3 = fun _ => (0 : EReal) := funext fun i => by
    rw [eq_ix2 i]; exact row_apply x0 x1 x2 x3 h0 h1 h2 h3 _ _
  unfold val_main_v86
  rw [e, pad_apply]
  split_ifs
  · rfl
  · pointwise [val_main_cst_17]

/-- The gradient of the cumulated decay. -/
theorem ddrow_apply (h0 : IsReal x0) (h1 : IsReal x1) (h2 : IsReal x2) (h3 : IsReal x3) (h : Fin 16) (j : Fin 2048) :
    val_main_v87 (F := Ideal) x0 x1 x2 x3 (ix2 h j) = ((ddV (inp x0 x1 x2 x3) 2048 1536 h j : ℝ) : EReal) := by
  pointwise [val_main_v87]
  rw [column_apply x0 x1 x2 x3 h0 h1 h2 h3, padded_apply x0 x1 x2 x3 h0 h1 h2 h3]
  exact add_zero _

/-- The gradient of the keys. -/
theorem dk_apply (h0 : IsReal x0) (h1 : IsReal x1) (h2 : IsReal x2) (h3 : IsReal x3) (j : Fin 2048) (e : Fin 2048) :
    val_main_v93 (F := Ideal) x0 x1 x2 x3 (ix2 j e) = ((dkV (inp x0 x1 x2 x3) 2048 1536 j e : ℝ) : EReal) := by
  pointwise [val_main_v93, val_main_v89, val_main_v88, val_main_v7, val_main_v5, val_main_v4, val_main_v6, val_main_cst]
  simp only [dlogit_apply x0 x1 x2 x3 h0 h1 h2 h3, h0.at, scale_eq, ← EReal.coe_mul]
  unfold dkV
  exact coe_sum _

/-- The gradient of the values. -/
theorem dv_apply (h0 : IsReal x0) (h1 : IsReal x1) (h2 : IsReal x2) (h3 : IsReal x3) (j : Fin 2048) (e : Fin 2048) :
    val_main_v92 (F := Ideal) x0 x1 x2 x3 (ix2 j e) = ((dvV (inp x0 x1 x2 x3) 1536 j e : ℝ) : EReal) := by
  pointwise [val_main_v92, val_main_v65, val_main_v64, val_main_v62, val_main_v61, val_main_v60, val_main_v59]
  simp only [prob_apply x0 x1 x2 x3 h0 h1 h2, h3.at, ← EReal.coe_mul]
  unfold dvV
  simp only [mul_comm (prob _ _ _ _)]
  exact coe_sum _

/-- The gradient of the queries. -/
theorem dq_apply (h0 : IsReal x0) (h1 : IsReal x1) (h2 : IsReal x2) (h3 : IsReal x3) (r : Fin 512) (e : Fin 2048) :
    val_main_v97 (F := Ideal) x0 x1 x2 x3 (ix2 r e) = ((dqV (inp x0 x1 x2 x3) 2048 (1536 + r.val) e : ℝ) : EReal) := by
  pointwise [val_main_v97, val_main_v96, val_main_v95, val_main_v91, val_main_v90, val_main_v8, val_main_v1, val_main_v0, val_main_v94, val_main_cst_18]
  simp only [dlogit_apply x0 x1 x2 x3 h0 h1 h2 h3, h1.at, scale_eq, ← EReal.coe_mul]
  unfold dqV
  rw [EReal.coe_mul, ← coe_sum]
  rfl

/-- The reference's first result as real sums. -/
theorem result0_apply (h0 : IsReal x0) (h1 : IsReal x1) (h2 : IsReal x2) (h3 : IsReal x3) (i e : Fin 2048) (hi : 1536 ≤ i.val) :
    val_main_v100 (F := Ideal) x0 x1 x2 x3 (ix2 i e) = ((dqV (inp x0 x1 x2 x3) 2048 i e : ℝ) : EReal) := by
  pointwise [val_main_v100, val_main_v99, val_main_cst_19]
  rw [dif_neg (by omega), dq_apply x0 x1 x2 x3 h0 h1 h2 h3]
  exact congrArg (fun n : ℕ => ((dqV (inp x0 x1 x2 x3) 2048 n e : ℝ) : EReal)) (show 1536 + (i.val - 1536) = i.val by omega)

/-- The reference's fourth result as real sums. -/
theorem result3_apply (h0 : IsReal x0) (h1 : IsReal x1) (h2 : IsReal x2) (h3 : IsReal x3) (h : Fin 16) (u : Fin 1) (j : Fin 2048) :
    val_main_v98 (F := Ideal) x0 x1 x2 x3 (ix3 h u j) = ((ddV (inp x0 x1 x2 x3) 2048 1536 h j : ℝ) : EReal) := by
  pointwise [val_main_v98]
  exact ddrow_apply x0 x1 x2 x3 h0 h1 h2 h3 h j

end Cert.AttnGrad6Ideal.Proof
-- ==== Proof.Eq6.lean ====
module

public import proofs.«01_k».proof.Proof.Arr6
public import proofs.«01_k».proof.Proof.Ref6
public import proofs.«01_k».proof.Defs
public import proofs.«01_k».proof.Proof.Gen.Attn6.Frame
public import proofs.«01_k».proof.Proof.Gen.Attn6Ideal.Frame
public import proofs.«01_k».proof.Proof.Gen.Pre_finite
public import proofs.«01_k».proof.Proof.Gen.On_rows_written

@[expose] public section

/-!
  The claims about the call of the attention backward kernel over the rows 1536 to 2047: the four result arrays of the call and
  the four results of the reference are the same functions of the arguments.
-/

set_option maxRecDepth 16384

noncomputable section

namespace Cert.Proof.Call6

open Cert.Attn6Ideal Cert.Attn6Ideal.Gen Cert.Attn6Ideal.Proof Cert.Attn6Ideal.Value Cert.Softmax Idealize.ShloMosaic Idealize.ShloMosaic.TcCoe Idealize.SL.Sem

variable (m : (ℓ : Loc nD τ sig) → Buf (Elt Ideal) ℓ) (c : Dev nD) (hr : RealArgs m c)
include hr

/-- The gradient with respect to the queries, on the rows the call writes. -/
theorem dq_eq (i : S2048x2048.Idx) (h : 1536 ≤ (i 0).val) :
    (Cert.AttnGrad6Ideal.Read.val_main_v100 (F := Ideal) (m (c.tc.loc main_arg0)) (m (c.tc.loc main_arg1)) (m (c.tc.loc main_arg2)) (m (c.tc.loc main_arg3)) : S2048x2048.Idx → EReal) i = ((dats m 0 c).arrAt 7 cfg0.N : S2048x2048.Idx → EReal) i := by
  have hi : i = ix2 (i 0) (i 1) := by
    funext a
    fin_cases a <;> rfl
  rw [dq_array m c hr]
  show _ = if 1536 ≤ (i 0).val then endDq m c i else (dats m 0 c).A 7 i
  rw [if_pos h, hi]
  exact Cert.AttnGrad6Ideal.Proof.result0_apply _ _ _ _ hr.1 hr.2.1 hr.2.2.1 hr.2.2.2 (i 0) (i 1) h

/-- The gradient with respect to the keys. -/
theorem dk_eq : (Cert.AttnGrad6Ideal.Read.val_main_v93 (F := Ideal) (m (c.tc.loc main_arg0)) (m (c.tc.loc main_arg1)) (m (c.tc.loc main_arg2)) (m (c.tc.loc main_arg3)) : S2048x2048.Idx → EReal) = ((dats m 0 c).arrAt 8 cfg0.N : S2048x2048.Idx → EReal) := by
  funext i
  have hi : i = ix2 (i 0) (i 1) := by
    funext a
    fin_cases a <;> rfl
  rw [dk_array m c hr, hi]
  exact Cert.AttnGrad6Ideal.Proof.dk_apply _ _ _ _ hr.1 hr.2.1 hr.2.2.1 hr.2.2.2 (i 0) (i 1)

/-- The gradient with respect to the values. -/
theorem dv_eq : (Cert.AttnGrad6Ideal.Read.val_main_v92 (F := Ideal) (m (c.tc.loc main_arg0)) (m (c.tc.loc main_arg1)) (m (c.tc.loc main_arg2)) (m (c.tc.loc main_arg3)) : S2048x2048.Idx → EReal) = ((dats m 0 c).arrAt 9 cfg0.N : S2048x2048.Idx → EReal) := by
  funext i
  have hi : i = ix2 (i 0) (i 1) := by
    funext a
    fin_cases a <;> rfl
  rw [dv_array m c hr, hi]
  exact Cert.AttnGrad6Ideal.Proof.dv_apply _ _ _ _ hr.1 hr.2.1 hr.2.2.1 hr.2.2.2 (i 0) (i 1)

/-- The gradient with respect to the cumulative decay. -/
theorem dd_eq : (Cert.AttnGrad6Ideal.Read.val_main_v98 (F := Ideal) (m (c.tc.loc main_arg0)) (m (c.tc.loc main_arg1)) (m (c.tc.loc main_arg2)) (m (c.tc.loc main_arg3)) : S16x1x2048.Idx → EReal) = ((dats m 0 c).arrAt 10 cfg0.N : S16x1x2048.Idx → EReal) := by
  funext i
  have hi : i = ix3 (i 0) (i 1) (i 2) := by
    funext a
    fin_cases a <;> rfl
  rw [dd_array m c hr, hi]
  exact Cert.AttnGrad6Ideal.Proof.result3_apply _ _ _ _ hr.1 hr.2.1 hr.2.2.1 hr.2.2.2 (i 0) (i 1) (i 2)

omit hr in
/-- Under the precondition the arguments are real numbers. -/
theorem real (h : Cert.Pre_Attn6Ideal_finite m) : RealArgs m c :=
  Cert.Softmax.real_of_pre _ _ _ _ (h c)

omit hr in
/-- Where the first mask holds the row is one of the last 512. -/
theorem row_of_mask (a : FVec Ideal S2048x2048 .f32) (b : FVec Ideal S2048x4096 .bf16) (d : FVec Ideal S16x2048 .f32)
    (e : FVec Ideal S2048x2048 .bf16) (i : S2048x2048.Idx) (h : (Cert.On_rows_written.fn (F := Ideal) a b d e).1 i = 1#1) :
    1536 ≤ (i 0).val :=
  (word_sge (i 0).val 1536 (lt_trans (i 0).2 (by decide)) (by decide)).1 h

omit hr in
/-- The call computes the reference's four results, the first on the rows the call writes. -/
theorem algebraic : Cert.algebraic_Attn6Ideal_AttnGrad6Ideal_on_rows_written_pre_finite := by
  intro m g m' g' hpre hargs
  refine ⟨fun c => (dats m 0 c).arrAt 7 cfg0.N, fun c => (dats m 0 c).arrAt 8 cfg0.N, fun c => (dats m 0 c).arrAt 9 cfg0.N,
    fun c => (dats m 0 c).arrAt 10 cfg0.N, (θ_run _ _ _).mono (fun r h c => ?_) (run_blocks m g),
    (θ_run _ _ _).mono (fun r h c => ?_) (Cert.AttnGrad6Ideal.Value.run m' g')⟩
  · obtain ⟨r0, r1, r2, r3, rest⟩ := h c
    exact ⟨fun i _ => congrFun r0 i, fun i _ => congrFun r1 i, fun i _ => congrFun r2 i, fun i _ => congrFun r3 i, rest⟩
  have hr := real m c hpre
  obtain ⟨a0, a1, a2, a3⟩ := hargs c
  obtain ⟨r0, r1, r2, r3, rest⟩ := h c
  refine ⟨fun i hi => (congrFun r0 i).trans ?_, fun i _ => (congrFun r1 i).trans ?_, fun i _ => (congrFun r2 i).trans ?_,
    fun i _ => (congrFun r3 i).trans ?_, rest⟩
  · rw [Cert.AttnGrad6Ideal.Read.val_main_v100_eq, a0, a1, a2, a3]
    exact dq_eq m c hr i (row_of_mask _ _ _ _ i hi)
  · rw [Cert.AttnGrad6Ideal.Read.val_main_v93_eq, a0, a1, a2, a3]
    exact congrFun (dk_eq m c hr) i
  · rw [Cert.AttnGrad6Ideal.Read.val_main_v92_eq, a0, a1, a2, a3]
    exact congrFun (dv_eq m c hr) i
  · rw [Cert.AttnGrad6Ideal.Read.val_main_v98_eq, a0, a1, a2, a3]
    exact congrFun (dd_eq m c hr) i

omit hr in
/-- The idealization names the mask constant minus infinity. -/
theorem preserves : Cert.preserves_Attn6_Attn6Ideal :=
  IdealRules.named_const.statement Cert.Attn6Ideal.κ "mask" .f32 0xF149F2CA#32 ⊥ rfl

omit hr in
/-- The reference leaves its arguments and every counter as they were, from any memory. -/
theorem frame_ref (m : (ℓ : Loc Cert.AttnGrad6Ideal.nD Cert.AttnGrad6Ideal.τ Cert.AttnGrad6Ideal.sig) → Buf (Elt Ideal) ℓ) (g : Dev Cert.AttnGrad6Ideal.nD → PrngReg) :
    θ_run (Cert.AttnGrad6Ideal.defs (F := Ideal)) (onTc (τ := Cert.AttnGrad6Ideal.τ) (Cert.AttnGrad6Ideal.main (F := Ideal))) ⟨m, fun _ => 0, g⟩ (fun r => (∀ c : Dev Cert.AttnGrad6Ideal.nD,
      r.2.mem ((c.tc : Thread Cert.AttnGrad6Ideal.nD Cert.AttnGrad6Ideal.τ).loc Cert.AttnGrad6Ideal.main_arg0) = m ((c.tc : Thread Cert.AttnGrad6Ideal.nD Cert.AttnGrad6Ideal.τ).loc Cert.AttnGrad6Ideal.main_arg0)
      ∧ r.2.mem ((c.tc : Thread Cert.AttnGrad6Ideal.nD Cert.AttnGrad6Ideal.τ).loc Cert.AttnGrad6Ideal.main_arg1) = m ((c.tc : Thread Cert.AttnGrad6Ideal.nD Cert.AttnGrad6Ideal.τ).loc Cert.AttnGrad6Ideal.main_arg1)
      ∧ r.2.mem ((c.tc : Thread Cert.AttnGrad6Ideal.nD Cert.AttnGrad6Ideal.τ).loc Cert.AttnGrad6Ideal.main_arg2) = m ((c.tc : Thread Cert.AttnGrad6Ideal.nD Cert.AttnGrad6Ideal.τ).loc Cert.AttnGrad6Ideal.main_arg2)
      ∧ r.2.mem ((c.tc : Thread Cert.AttnGrad6Ideal.nD Cert.AttnGrad6Ideal.τ).loc Cert.AttnGrad6Ideal.main_arg3) = m ((c.tc : Thread Cert.AttnGrad6Ideal.nD Cert.AttnGrad6Ideal.τ).loc Cert.AttnGrad6Ideal.main_arg3))
      ∧ r.2.sem = fun _ => 0) :=
  (θ_run Cert.AttnGrad6Ideal.defs _ _).mono (fun r h => ⟨fun c => (h c).2.2.2.2, sem_eq_zero_of_no_sems (by decide) r.2⟩) (Cert.AttnGrad6Ideal.Value.run m g)

end Cert.Proof.Call6

end
-- ==== Proof.Tile4.lean ====
module

public import proofs.«01_k».proof.Proof.Gen.Attn4Ideal.Value
public import proofs.«01_k».proof.Proof.Lse
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The call of the attention backward kernel over the rows 1024 to 1535, the positions being the first 1536: what one
  tile of 256 rows computes, at an index, and what the tile's blocks hold of the arrays.
-/

set_option maxRecDepth 16384

noncomputable section

namespace Cert.Attn4Ideal.Proof

open Cert.Attn4Ideal Cert.Attn4Ideal.Gen Cert.Softmax Idealize.ShloMosaic Idealize.ShloMosaic.TcCoe Idealize.SL.Sem

/-- The number of a row of a tile, as the kernel computes it in words. -/
theorem tile_row (i r R : ℕ) (hi : 256 * (4 + i) = R) :
    IntOp.addi (Scalar.muli (Scalar.addi 4#32 (BitVec.ofNat 32 i)) 256#32) (BitVec.ofNat 32 r) = BitVec.ofNat 32 (R + r) := by
  subst hi
  show (4#32 + BitVec.ofNat 32 i) * 256#32 + BitVec.ofNat 32 r = _
  rw [Nat.mul_comm, BitVec.ofNat_add, BitVec.ofNat_mul, BitVec.ofNat_add]

section Tile
variable (I : Inp) (h R : ℕ)

/-- The tile's exponential is the attention weight: nothing after the row, the row's log-sum-exp taken off. -/
theorem tile_prob (i : grid0.Coords) (hi : 256 * (4 + (i 1).val) = R) (v5 : Vec Ideal S256x128 .f32) (v9 : Vec Ideal S1536x128 .bf16)
    (v11 : Vec Ideal S1x256x1 .f32) (v15 : Vec Ideal S1x1x1536 .f32) (v26 : Vec Ideal S1x256x1 .f32) (hsc : I.sc = scale)
    (h5 : ∀ r x, v5 (ix2 r x) = ((I.q (R + r.val) (h * 128 + x.val) : ℝ) : EReal))
    (h9 : ∀ j x, v9 (ix2 j x) = ((I.kv j.val (h * 128 + x.val) : ℝ) : EReal))
    (h11 : ∀ r, v11 (ix3 0 r 0) = ((I.dc h (R + r.val) : ℝ) : EReal))
    (h15 : ∀ j, v15 (ix3 0 0 j) = ((I.dc h j.val : ℝ) : EReal))
    (h26 : ∀ r : Fin 256, ∃ M : ℝ, v26 (ix3 0 r 0) = ((M : ℝ) : EReal) + ((Real.log (∑ j' : Fin 2048, weight I M h (R + r.val) j') : ℝ) : EReal))
    (r : Fin 256) (j : Fin 1536) :
    k0_pay6 (F := Ideal) i v5 v9 v11 v15 v26 (ix2 r j) = ((prob I h (R + r.val) j.val : ℝ) : EReal) := by
  have hi1 : (i 1).val < 2 := (i 1).isLt
  have hR : R + r.val < 2048 := by have := r.2; omega
  obtain ⟨M, hM⟩ := h26 r
  rw [← exp_logitE_lse I 2048 M h (R + r.val) j.val hR, ← hM]
  pointwise [k0_pay6, k0_pay5]
  rw [show (Named.named (F := Ideal) (φ := .f32) κ "mask" 4048155338#32 : EReal) = ⊥ from IdealRules.named_const.ideal_named_scalar _ _ _ _ rfl]
  simp only [h5, h9, h11, h15, scale_eq, ← hsc, coe_logit]
  rw [tile_row (i 1).val r.val R hi, select_visible _ (R + r.val) j.val (word_sle j.val (R + r.val) (by have := j.2; omega) (by omega))]
  rfl

/-- The tile's gradient of the logits. -/
theorem tile_dlogit (v30 : FVec Ideal S256x1536 .f32) (v31 : Vec Ideal S256x128 .bf16) (v32 : Vec Ideal S1536x128 .bf16)
    (h30 : ∀ r j, v30 (ix2 r j) = ((prob I h (R + r.val) j.val : ℝ) : EReal))
    (h31 : ∀ r x, v31 (ix2 r x) = ((I.dout (R + r.val) (h * 128 + x.val) : ℝ) : EReal))
    (h32 : ∀ j x, v32 (ix2 j x) = ((I.kv j.val (2048 + (h * 128 + x.val)) : ℝ) : EReal))
    (r : Fin 256) (j : Fin 1536) :
    k0_pay7 (F := Ideal) v30 v31 v32 (ix2 r j) = ((dlogit I 1536 h (R + r.val) j.val : ℝ) : EReal) := by
  pointwise [k0_pay7]
  simp only [h30, h31, h32, coe_dprob, ← EReal.coe_mul, coe_sum, ← EReal.coe_sub]
  rfl

/-- The tile's rows of the gradient of the queries. -/
theorem tile_dq (v30 : FVec Ideal S256x1536 .f32) (v31 : Vec Ideal S256x128 .bf16) (v32 v41 : Vec Ideal S1536x128 .bf16)
    (hd : ∀ r j, k0_pay7 (F := Ideal) v30 v31 v32 (ix2 r j) = ((dlogit I 1536 h (R + r.val) j.val : ℝ) : EReal)) (hsc : I.sc = scale)
    (h41 : ∀ j x, v41 (ix2 j x) = ((I.kv j.val (h * 128 + x.val) : ℝ) : EReal)) (r : Fin 256) (x : Fin 128) :
    k0_pay9 (F := Ideal) v30 v31 v32 v41 (ix2 r x) = ((dqV I 1536 (R + r.val) (h * 128 + x.val) : ℝ) : EReal) := by
  pointwise [k0_pay9, k0_pay8]
  simp only [hd, h41, scale_eq, ← hsc, ← EReal.coe_mul, coe_sum]
  unfold dqV
  rw [show (h * 128 + x.val) / 128 = h by have := x.2; omega]

/-- The tile adds its rows' part to the gradient of the keys. -/
theorem tile_dk (v8 : FVec Ideal S256x128 .bf16) (v30 : FVec Ideal S256x1536 .f32) (v31 : Vec Ideal S256x128 .bf16) (v32 : Vec Ideal S1536x128 .bf16) (v47 : Vec Ideal S1536x128 .f32)
    (hd : ∀ r j, k0_pay7 (F := Ideal) v30 v31 v32 (ix2 r j) = ((dlogit I 1536 h (R + r.val) j.val : ℝ) : EReal))
    (h8 : ∀ r x, v8 (ix2 r x) = ((I.q (R + r.val) (h * 128 + x.val) * I.sc : ℝ) : EReal)) (j : Fin 1536) (x : Fin 128) :
    k0_pay10 (F := Ideal) v8 v30 v31 v32 v47 (ix2 j x) = v47 (ix2 j x) + ((∑ r : Fin 256, dlogit I 1536 h (R + r.val) j.val * (I.q (R + r.val) (h * 128 + x.val) * I.sc) : ℝ) : EReal) := by
  pointwise [k0_pay10, k0_pay8]
  simp only [hd, h8, ← EReal.coe_mul, coe_sum]

/-- The tile adds its rows' part to the gradient of the values. -/
theorem tile_dv (v30 : FVec Ideal S256x1536 .f32) (v31 : Vec Ideal S256x128 .bf16) (v53 : Vec Ideal S1536x128 .f32)
    (h30 : ∀ r j, v30 (ix2 r j) = ((prob I h (R + r.val) j.val : ℝ) : EReal))
    (h31 : ∀ r x, v31 (ix2 r x) = ((I.dout (R + r.val) (h * 128 + x.val) : ℝ) : EReal)) (j : Fin 1536) (x : Fin 128) :
    k0_pay11 (F := Ideal) v30 v31 v53 (ix2 j x) = v53 (ix2 j x) + ((∑ r : Fin 256, prob I h (R + r.val) j.val * I.dout (R + r.val) (h * 128 + x.val) : ℝ) : EReal) := by
  pointwise [k0_pay11]
  simp only [h30, h31, ← EReal.coe_mul, coe_sum]

/-- The tile takes its rows' gradients of the logits off the gradient at the positions. -/
theorem tile_dd (v30 : FVec Ideal S256x1536 .f32) (v31 : Vec Ideal S256x128 .bf16) (v32 : Vec Ideal S1536x128 .bf16) (v60 : Vec Ideal S1x1536 .f32)
    (hd : ∀ r j, k0_pay7 (F := Ideal) v30 v31 v32 (ix2 r j) = ((dlogit I 1536 h (R + r.val) j.val : ℝ) : EReal)) (j : Fin 1536) :
    k0_pay12 (F := Ideal) v30 v31 v32 v60 (ix2 0 j) = v60 (ix2 0 j) - ((∑ r : Fin 256, dlogit I 1536 h (R + r.val) j.val : ℝ) : EReal) := by
  pointwise [k0_pay12]
  simp only [hd, ← EReal.coe_mul, coe_sum]
end Tile

/-! ## The blocks -/

/-- The queries' block at a grid point. -/
theorem idx0 : ∀ t : Fin grid0.N, win0_0.index t 0 = 4 + t.val % 2 ∧ win0_0.index t 1 = t.val / 2 := by decide +kernel
/-- The keys' block at a grid point. -/
theorem idx1 : ∀ t : Fin grid0.N, win0_1.index t 0 = 0 ∧ win0_1.index t 1 = t.val / 2 := by decide +kernel
/-- The values' block at a grid point. -/
theorem idx2 : ∀ t : Fin grid0.N, win0_2.index t 0 = 0 ∧ win0_2.index t 1 = 16 + t.val / 2 := by decide +kernel
/-- The rows' decay block at a grid point. -/
theorem idx3 : ∀ t : Fin grid0.N, win0_3.index t 0 = t.val / 2 ∧ win0_3.index t 1 = 4 + t.val % 2 ∧ win0_3.index t 2 = 0 := by decide +kernel
/-- The columns' decay block at a grid point. -/
theorem idx4 : ∀ t : Fin grid0.N, win0_4.index t 0 = t.val / 2 ∧ win0_4.index t 1 = 0 ∧ win0_4.index t 2 = 0 := by decide +kernel
/-- The log-sum-exp's block at a grid point. -/
theorem idx5 : ∀ t : Fin grid0.N, win0_5.index t 0 = t.val / 2 ∧ win0_5.index t 1 = 4 + t.val % 2 ∧ win0_5.index t 2 = 0 := by decide +kernel
/-- The incoming gradient's block at a grid point. -/
theorem idx6 : ∀ t : Fin grid0.N, win0_6.index t 0 = 4 + t.val % 2 ∧ win0_6.index t 1 = t.val / 2 := by decide +kernel

/-- The tile's queries. -/
theorem read_q (A : S2048x2048.Idx → EReal) (t : Fin cfg0.N) (r : Fin 256) (x : Fin 128) :
    ((cfg0.win 0).blk t).view.read (Elt Ideal) A (ix2 r x) = A (ix2 ⟨1024 + 256 * (t.val % 2) + r.val, by have := r.2; omega⟩ ⟨t.val / 2 * 128 + x.val, by have := t.isLt; have : cfg0.N = 32 := rfl; have := x.2; omega⟩) := by
  show A _ = A _
  blk_ext [idx0 t]

/-- The head's keys. -/
theorem read_k (A : S2048x4096.Idx → EReal) (t : Fin cfg0.N) (j : Fin 1536) (x : Fin 128) :
    (cfg0.win 1).fill (cfg0.grid.coords t) dflt0_1 (((cfg0.win 1).blk t).view.read (Elt Ideal) A) (ix2 j x) = A (ix2 ⟨j.val, by have := j.2; omega⟩ ⟨t.val / 2 * 128 + x.val, by have := t.isLt; have : cfg0.N = 32 := rfl; have := x.2; omega⟩) := by
  unfold Pipeline.Window.fill
  rw [dif_pos (moved0_1 t _)]
  show A _ = A _
  blk_ext [idx1 t]

/-- The head's values. -/
theorem read_v (A : S2048x4096.Idx → EReal) (t : Fin cfg0.N) (j : Fin 1536) (x : Fin 128) :
    (cfg0.win 2).fill (cfg0.grid.coords t) dflt0_2 (((cfg0.win 2).blk t).view.read (Elt Ideal) A) (ix2 j x) = A (ix2 ⟨j.val, by have := j.2; omega⟩ ⟨2048 + (t.val / 2 * 128 + x.val), by have := t.isLt; have : cfg0.N = 32 := rfl; have := x.2; omega⟩) := by
  unfold Pipeline.Window.fill
  rw [dif_pos (moved0_2 t _)]
  show A _ = A _
  blk_ext [idx2 t]

/-- The head's running sums of the log gates at the tile's rows. -/
theorem read_dc (A : S16x2048x1.Idx → EReal) (t : Fin cfg0.N) (r : Fin 256) :
    ((cfg0.win 3).blk t).view.read (Elt Ideal) A (ix3 0 r 0) = A (ix3 ⟨t.val / 2, by have := t.isLt; have : cfg0.N = 32 := rfl; omega⟩ ⟨1024 + 256 * (t.val % 2) + r.val, by have := r.2; omega⟩ 0) := by
  show A _ = A _
  blk_ext [idx3 t]

/-- The head's running sums of the log gates at the positions. -/
theorem read_dr (A : S16x1x2048.Idx → EReal) (t : Fin cfg0.N) (j : Fin 1536) :
    (cfg0.win 4).fill (cfg0.grid.coords t) dflt0_4 (((cfg0.win 4).blk t).view.read (Elt Ideal) A) (ix3 0 0 j) = A (ix3 ⟨t.val / 2, by have := t.isLt; have : cfg0.N = 32 := rfl; omega⟩ 0 ⟨j.val, by have := j.2; omega⟩) := by
  unfold Pipeline.Window.fill
  rw [dif_pos (moved0_4 t _)]
  show A _ = A _
  blk_ext [idx4 t]

/-- The log-sum-exps of the tile's rows. -/
theorem read_lse (A : S16x2048x1.Idx → EReal) (t : Fin cfg0.N) (r : Fin 256) :
    ((cfg0.win 5).blk t).view.read (Elt Ideal) A (ix3 0 r 0) = A (ix3 ⟨t.val / 2, by have := t.isLt; have : cfg0.N = 32 := rfl; omega⟩ ⟨1024 + 256 * (t.val % 2) + r.val, by have := r.2; omega⟩ 0) := by
  show A _ = A _
  blk_ext [idx5 t]

/-- The tile's rows of the gradient of the output. -/
theorem read_do (A : S2048x2048.Idx → EReal) (t : Fin cfg0.N) (r : Fin 256) (x : Fin 128) :
    ((cfg0.win 6).blk t).view.read (Elt Ideal) A (ix2 r x) = A (ix2 ⟨1024 + 256 * (t.val % 2) + r.val, by have := r.2; omega⟩ ⟨t.val / 2 * 128 + x.val, by have := t.isLt; have : cfg0.N = 32 := rfl; have := x.2; omega⟩) := by
  show A _ = A _
  blk_ext [idx6 t]

/-- The keys' gradient's block at a grid point. -/
theorem idx7 : ∀ t : Fin grid0.N, win0_7.index t 0 = 0 ∧ win0_7.index t 1 = t.val / 2 := by decide +kernel
/-- The values' gradient's block at a grid point. -/
theorem idx8 : ∀ t : Fin grid0.N, win0_8.index t 0 = 0 ∧ win0_8.index t 1 = t.val / 2 := by decide +kernel
/-- The decay gradient's block at a grid point. -/
theorem idx9 : ∀ t : Fin grid0.N, win0_9.index t 0 = t.val / 2 ∧ win0_9.index t 1 = 0 ∧ win0_9.index t 2 = 0 := by decide +kernel

/-- The gradient of the keys as the rows after left it. -/
theorem read_dk (A : S2048x2048.Idx → EReal) (t : Fin cfg0.N) (j : Fin 1536) (x : Fin 128) :
    (cfg0.win 7).fill (cfg0.grid.coords t) dflt0_7 (((cfg0.win 7).blk t).view.read (Elt Ideal) A) (ix2 j x) = A (ix2 ⟨j.val, by have := j.2; omega⟩ ⟨t.val / 2 * 128 + x.val, by have := t.isLt; have : cfg0.N = 32 := rfl; have := x.2; omega⟩) := by
  unfold Pipeline.Window.fill
  rw [dif_pos (moved0_7 t _)]
  show A _ = A _
  blk_ext [idx7 t]

/-- The gradient of the values as the rows after left it. -/
theorem read_dv (A : S2048x2048.Idx → EReal) (t : Fin cfg0.N) (j : Fin 1536) (x : Fin 128) :
    (cfg0.win 8).fill (cfg0.grid.coords t) dflt0_8 (((cfg0.win 8).blk t).view.read (Elt Ideal) A) (ix2 j x) = A (ix2 ⟨j.val, by have := j.2; omega⟩ ⟨t.val / 2 * 128 + x.val, by have := t.isLt; have : cfg0.N = 32 := rfl; have := x.2; omega⟩) := by
  unfold Pipeline.Window.fill
  rw [dif_pos (moved0_8 t _)]
  show A _ = A _
  blk_ext [idx8 t]

/-- The gradient at the positions as the rows after left it. -/
theorem read_dd (A : S16x1x2048.Idx → EReal) (t : Fin cfg0.N) (j : Fin 1536) :
    (cfg0.win 9).fill (cfg0.grid.coords t) dflt0_9 (((cfg0.win 9).blk t).view.read (Elt Ideal) A) (ix3 0 0 j) = A (ix3 ⟨t.val / 2, by have := t.isLt; have : cfg0.N = 32 := rfl; omega⟩ 0 ⟨j.val, by have := j.2; omega⟩) := by
  unfold Pipeline.Window.fill
  rw [dif_pos (moved0_9 t _)]
  show A _ = A _
  blk_ext [idx9 t]

/-! ## What the host prepares -/

variable (m : (ℓ : Loc nD τ sig) → Buf (Elt Ideal) ℓ)

/-- The log-sum-exps the host computes before the call. -/
theorem V_lse (c : Dev nD) : (V m c main_v31 : FVec Ideal S16x2048x1 .f32)
    = hostLse (hostLogits (m (c.tc.loc main_arg0)) (m (c.tc.loc main_arg1)) (m (c.tc.loc main_arg2)))
       (hostMax (hostLogits (m (c.tc.loc main_arg0)) (m (c.tc.loc main_arg1)) (m (c.tc.loc main_arg2)))) := by
  unfold hostLse hostMax hostLogits
  show StableHlo.after (hostOps0 ++ (hostOps0_1 ++ (hostOps0_2 ++ []))) _ _ = _
  simp only [List.cons_append, List.nil_append, List.append_nil]
  after_reads_simp
  rfl

/-- The running sums as a column. -/
theorem V_dcol (c : Dev nD) : (V m c main_v0 : FVec Ideal S16x2048x1 .f32)
    = shapeCast S16x2048x1 (m (c.tc.loc main_arg2) : FVec Ideal S16x2048 .f32) shapeCasts_S16x2048_S16x2048x1 := by
  show StableHlo.after (hostOps0 ++ (hostOps0_1 ++ (hostOps0_2 ++ []))) _ _ = _
  simp only [List.cons_append, List.nil_append, List.append_nil]
  after_reads_simp
  rfl

/-- The running sums as a row. -/
theorem V_drow (c : Dev nD) : (V m c main_v1 : FVec Ideal S16x1x2048 .f32)
    = shapeCast S16x1x2048 (m (c.tc.loc main_arg2) : FVec Ideal S16x2048 .f32) shapeCasts_S16x2048_S16x1x2048 := by
  show StableHlo.after (hostOps0 ++ (hostOps0_1 ++ (hostOps0_2 ++ []))) _ _ = _
  simp only [List.cons_append, List.nil_append, List.append_nil]
  after_reads_simp
  rfl

/-- The decay laid out as a column per head. -/
theorem dcol_apply (x : FVec Ideal S16x2048 .f32) (h : Fin 16) (r : Fin 2048) :
    shapeCast S16x2048x1 x shapeCasts_S16x2048_S16x2048x1 (ix3 h r 0) = x (ix2 h r) := by
  pointwise

/-- The decay laid out as a row per head. -/
theorem drow_apply (x : FVec Ideal S16x2048 .f32) (h : Fin 16) (r : Fin 2048) :
    shapeCast S16x1x2048 x shapeCasts_S16x2048_S16x1x2048 (ix3 h 0 r) = x (ix2 h r) := by
  pointwise

end Cert.Attn4Ideal.Proof
-- ==== Proof.Kern4.lean ====
module

public import proofs.«01_k».proof.Proof.Tile4

@[expose] public section

/-!
  The call of the attention backward kernel over the rows 1024 to 1535, the positions being the first 1536: what the
  grid's points leave and what the result arrays end holding. The grid is sixteen heads by two tiles of 256 rows.
-/

set_option maxRecDepth 16384

noncomputable section

namespace Cert.Attn4Ideal.Proof

open Cert.Attn4Ideal Cert.Attn4Ideal.Gen Cert.Softmax Idealize.ShloMosaic Idealize.ShloMosaic.TcCoe Idealize.SL.Sem

variable (m : (ℓ : Loc nD τ sig) → Buf (Elt Ideal) ℓ)

/-- The arguments of a core as real functions. -/
def args (c : Dev nD) : Inp :=
  inp (m (c.tc.loc main_arg0)) (m (c.tc.loc main_arg1)) (m (c.tc.loc main_arg2)) (m (c.tc.loc main_arg3))

/-- The four arguments of a core hold real numbers. -/
def RealArgs (c : Dev nD) : Prop :=
  IsReal (s := Sq) (m (c.tc.loc main_arg0)) ∧ IsReal (s := Swide) (m (c.tc.loc main_arg1))
    ∧ IsReal (s := Sgate) (m (c.tc.loc main_arg2)) ∧ IsReal (s := Sq) (m (c.tc.loc main_arg3))

/-- The tile of queries at a grid point. -/
theorem coords_tile : ∀ t : Fin grid0.N, (grid0.coords t 1).val = t.val % 2 := by decide +kernel

variable (c : Dev nD) (hr : RealArgs m c) (t : Fin cfg0.N)
include hr

/-- The tile's queries as real numbers. -/
theorem at_q (r : Fin 256) (x : Fin 128) :
    (iblk m c 0 t : Vec Ideal S256x128 .f32) (ix2 r x) = (((args m c).q ((1024 + 256 * (t.val % 2)) + r.val) (t.val / 2 * 128 + x.val) : ℝ) : EReal) := by
  have e := read_q (V m c main_arg0) t r x
  rw [V_main_arg0] at e
  exact e.trans (hr.1.at _ _)

/-- The head's keys as real numbers. -/
theorem at_k (j : Fin 1536) (x : Fin 128) :
    (X0_1 m c t : Vec Ideal S1536x128 .bf16) (ix2 j x) = (((args m c).kv j.val (t.val / 2 * 128 + x.val) : ℝ) : EReal) := by
  have e := read_k (V m c main_arg1) t j x
  rw [V_main_arg1] at e
  exact e.trans (hr.2.1.at _ _)

/-- The head's values as real numbers. -/
theorem at_v (j : Fin 1536) (x : Fin 128) :
    (X0_2 m c t : Vec Ideal S1536x128 .bf16) (ix2 j x) = (((args m c).kv j.val (2048 + (t.val / 2 * 128 + x.val)) : ℝ) : EReal) := by
  have e := read_v (V m c main_arg1) t j x
  rw [V_main_arg1] at e
  exact e.trans (hr.2.1.at _ _)

/-- The tile's cumulated decay, along the rows, as real numbers. -/
theorem at_dc (r : Fin 256) :
    (iblk m c 3 t : Vec Ideal S1x256x1 .f32) (ix3 0 r 0) = (((args m c).dc (t.val / 2) ((1024 + 256 * (t.val % 2)) + r.val) : ℝ) : EReal) := by
  have e := read_dc (V m c main_v0) t r
  rw [V_dcol, dcol_apply] at e
  exact e.trans (hr.2.2.1.at _ _)

/-- The head's cumulated decay, along the columns, as real numbers. -/
theorem at_dr (j : Fin 1536) :
    (X0_4 m c t : Vec Ideal S1x1x1536 .f32) (ix3 0 0 j) = (((args m c).dc (t.val / 2) j.val : ℝ) : EReal) := by
  have e := read_dr (V m c main_v1) t j
  rw [V_drow, drow_apply] at e
  exact e.trans (hr.2.2.1.at _ _)

/-- The tile's log-sum-exp: the logarithm of a row's total weight, at some real shift. -/
theorem at_lse (r : Fin 256) : ∃ M : ℝ, (iblk m c 5 t : Vec Ideal S1x256x1 .f32) (ix3 0 r 0)
    = ((M : ℝ) : EReal) + ((Real.log (∑ j' : Fin 2048, weight (args m c) M (t.val / 2) ((1024 + 256 * (t.val % 2)) + r.val) j') : ℝ) : EReal) := by
  have e := read_lse (V m c main_v31) t r
  obtain ⟨M, hM⟩ := hostLse_apply (m (c.tc.loc main_arg0)) (m (c.tc.loc main_arg1)) (m (c.tc.loc main_arg2)) (m (c.tc.loc main_arg3)) hr.1 hr.2.1 hr.2.2.1 ⟨t.val / 2, by have := t.isLt; have : cfg0.N = 32 := rfl; omega⟩ ⟨1024 + 256 * (t.val % 2) + r.val, by have := r.2; omega⟩
  exact ⟨M, e.trans ((congrFun (V_lse m c) _).trans hM)⟩

/-- The tile's incoming gradient as real numbers. -/
theorem at_do (r : Fin 256) (x : Fin 128) :
    (iblk m c 6 t : Vec Ideal S256x128 .bf16) (ix2 r x) = (((args m c).dout ((1024 + 256 * (t.val % 2)) + r.val) (t.val / 2 * 128 + x.val) : ℝ) : EReal) := by
  have e := read_do (V m c main_arg3) t r x
  rw [V_main_arg3] at e
  exact e.trans (hr.2.2.2.at _ _)

omit hr in
/-- The weights of a point's tile. -/
def probT : FVec Ideal S256x1536 .f32 :=
  k0_pay6 (F := Ideal) (grid0.coords t) (iblk m c 0 t) (X0_1 m c t) (iblk m c 3 t) (X0_4 m c t) (iblk m c 5 t)

/-- The kernel's probabilities over the tile are the real ones. -/
theorem probT_apply (r : Fin 256) (j : Fin 1536) :
    probT m c t (ix2 r j) = ((prob (args m c) (t.val / 2) ((1024 + 256 * (t.val % 2)) + r.val) j.val : ℝ) : EReal) :=
  tile_prob (args m c) (t.val / 2) (1024 + 256 * (t.val % 2)) (grid0.coords t) (by rw [coords_tile]; omega) _ _ _ _ _ rfl
    (at_q m c hr t) (at_k m c hr t) (at_dc m c hr t) (at_dr m c hr t) (at_lse m c hr t) r j

/-- The kernel's logit gradients over the tile are the real ones. -/
theorem dlogitT_apply (r : Fin 256) (j : Fin 1536) :
    k0_pay7 (F := Ideal) (probT m c t) (iblk m c 6 t) (X0_2 m c t) (ix2 r j) = ((dlogit (args m c) 1536 (t.val / 2) ((1024 + 256 * (t.val % 2)) + r.val) j.val : ℝ) : EReal) :=
  tile_dlogit (args m c) (t.val / 2) (1024 + 256 * (t.val % 2)) _ _ _ (probT_apply m c hr t) (at_do m c hr t) (at_v m c hr t) r j

/-- The tile's scaled queries as real numbers. -/
theorem scaledT_apply (r : Fin 256) (x : Fin 128) :
    k0_pay5 (F := Ideal) (iblk m c 0 t) (ix2 r x) = (((args m c).q ((1024 + 256 * (t.val % 2)) + r.val) (t.val / 2 * 128 + x.val) * (args m c).sc : ℝ) : EReal) := by
  pointwise [k0_pay5]
  rw [EReal.coe_mul, ← at_q m c hr t r x, scale_eq]
  rfl

/-- What a point's rows add to the gradient of the keys. -/
theorem dkT_apply (acc : Vec Ideal S1536x128 .f32) (j : Fin 1536) (x : Fin 128) :
    k0_pay10 (F := Ideal) (k0_pay5 (iblk m c 0 t)) (probT m c t) (iblk m c 6 t) (X0_2 m c t) acc (ix2 j x)
      = acc (ix2 j x) + ((∑ r : Fin 256, dlogit (args m c) 1536 (t.val / 2) ((1024 + 256 * (t.val % 2)) + r.val) j.val * ((args m c).q ((1024 + 256 * (t.val % 2)) + r.val) (t.val / 2 * 128 + x.val) * (args m c).sc) : ℝ) : EReal) :=
  tile_dk (args m c) (t.val / 2) (1024 + 256 * (t.val % 2)) _ _ _ _ acc (dlogitT_apply m c hr t) (scaledT_apply m c hr t) j x

/-- What a point's rows add to the gradient of the values. -/
theorem dvT_apply (acc : Vec Ideal S1536x128 .f32) (j : Fin 1536) (x : Fin 128) :
    k0_pay11 (F := Ideal) (probT m c t) (iblk m c 6 t) acc (ix2 j x)
      = acc (ix2 j x) + ((∑ r : Fin 256, prob (args m c) (t.val / 2) ((1024 + 256 * (t.val % 2)) + r.val) j.val * (args m c).dout ((1024 + 256 * (t.val % 2)) + r.val) (t.val / 2 * 128 + x.val) : ℝ) : EReal) :=
  tile_dv (args m c) (t.val / 2) (1024 + 256 * (t.val % 2)) _ _ acc (probT_apply m c hr t) (at_do m c hr t) j x

/-- What a point's rows take off the gradient at the positions. -/
theorem ddT_apply (acc : Vec Ideal S1x1536 .f32) (j : Fin 1536) :
    k0_pay12 (F := Ideal) (probT m c t) (iblk m c 6 t) (X0_2 m c t) acc (ix2 0 j)
      = acc (ix2 0 j) - ((∑ r : Fin 256, dlogit (args m c) 1536 (t.val / 2) ((1024 + 256 * (t.val % 2)) + r.val) j.val : ℝ) : EReal) :=
  tile_dd (args m c) (t.val / 2) (1024 + 256 * (t.val % 2)) _ _ _ acc (dlogitT_apply m c hr t) j

/-- A point's rows of the gradient of the queries. -/
theorem dqT_apply (r : Fin 256) (x : Fin 128) :
    k0_pay9 (F := Ideal) (probT m c t) (iblk m c 6 t) (X0_2 m c t) (X0_1 m c t) (ix2 r x)
      = ((dqV (args m c) 1536 ((1024 + 256 * (t.val % 2)) + r.val) (t.val / 2 * 128 + x.val) : ℝ) : EReal) :=
  tile_dq (args m c) (t.val / 2) (1024 + 256 * (t.val % 2)) _ _ _ _ (dlogitT_apply m c hr t) rfl (at_k m c hr t) r x
omit hr

/-! ## What the points leave -/

/-- The keys' gradient after the first tile of a head. -/
theorem dk_first (h0 : t.val % 2 = 0) :
    ((outsAt0 m c t.val t.isLt).2.2.2.2.1 : Vec Ideal S1536x128 .f32) = k0_pay10 (F := Ideal) (k0_pay5 (iblk m c 0 t)) (probT m c t) (iblk m c 6 t) (X0_2 m c t) (k0_pay2 (F := Ideal) (X0_7 m c t)) := by
  rw [outsAt0_A m c t h0 (by omega)]
  frame_out
  try rfl

/-- The keys' gradient after the second tile of a head. -/
theorem dk_second (h0 : t.val % 2 = 1) :
    ((outsAt0 m c t.val t.isLt).2.1 : Vec Ideal S1536x128 .f32) = k0_pay10 (F := Ideal) (k0_pay5 (iblk m c 0 t)) (probT m c t) (iblk m c 6 t) (X0_2 m c t) (outsAt0 m c (t.val - 1) (by have := t.isLt; omega)).2.2.2.2.1 := by
  rw [outsAt0_B m c t (by omega) h0]
  frame_out
  simp only [read_unread_whole]
  try rfl

/-- The values' gradient after the first tile of a head. -/
theorem dv_first (h0 : t.val % 2 = 0) :
    ((outsAt0 m c t.val t.isLt).2.2.2.2.2.1 : Vec Ideal S1536x128 .f32) = k0_pay11 (F := Ideal) (probT m c t) (iblk m c 6 t) (k0_pay3 (F := Ideal) (X0_8 m c t)) := by
  rw [outsAt0_A m c t h0 (by omega)]
  frame_out
  try rfl

/-- The values' gradient after the second tile of a head. -/
theorem dv_second (h0 : t.val % 2 = 1) :
    ((outsAt0 m c t.val t.isLt).2.2.1 : Vec Ideal S1536x128 .f32) = k0_pay11 (F := Ideal) (probT m c t) (iblk m c 6 t) (outsAt0 m c (t.val - 1) (by have := t.isLt; omega)).2.2.2.2.2.1 := by
  rw [outsAt0_B m c t (by omega) h0]
  frame_out
  simp only [read_unread_whole]
  try rfl

/-- The decay's gradient after the first tile of a head. -/
theorem dd_first (h0 : t.val % 2 = 0) :
    ((outsAt0 m c t.val t.isLt).2.2.2.2.2.2 : Vec Ideal S1x1536 .f32) = k0_pay12 (F := Ideal) (probT m c t) (iblk m c 6 t) (X0_2 m c t) (k0_pay4 (F := Ideal) (X0_9 m c t)) := by
  rw [outsAt0_A m c t h0 (by omega)]
  frame_out
  try rfl

/-- The decay's gradient after the second tile of a head. -/
theorem dd_second (h0 : t.val % 2 = 1) :
    ((outsAt0 m c t.val t.isLt).2.2.2.1 : Vec Ideal S1x1x1536 .f32) = k0_pay1 (F := Ideal) (k0_pay12 (F := Ideal) (probT m c t) (iblk m c 6 t) (X0_2 m c t) (outsAt0 m c (t.val - 1) (by have := t.isLt; omega)).2.2.2.2.2.2) := by
  rw [outsAt0_B m c t (by omega) h0]
  frame_out
  simp only [read_unread_whole]
  try rfl

/-- The queries' gradient at a grid point is the kernel's formula over the tile. -/
theorem dq_point : ((outsAt0 m c t.val t.isLt).1 : Vec Ideal S256x128 .bf16) = k0_pay9 (F := Ideal) (probT m c t) (iblk m c 6 t) (X0_2 m c t) (X0_1 m c t) := by
  by_cases h0 : t.val % 2 = 0
  · rw [outsAt0_A m c t h0 (by omega)]
    frame_out
    try rfl
  · rw [outsAt0_B m c t h0 (by omega)]
    frame_out
    try rfl

end Cert.Attn4Ideal.Proof
-- ==== Proof.Arr4.lean ====
module

public import proofs.«01_k».proof.Proof.Kern4

@[expose] public section

/-!
  The call of the attention backward kernel over the rows 1024 to 1535, the positions being the first 1536: the four
  result arrays after the run, at an index.
-/

set_option maxRecDepth 16384

noncomputable section

namespace Cert.Attn4Ideal.Proof

open Cert.Attn4Ideal Cert.Attn4Ideal.Gen Cert.Softmax Idealize.ShloMosaic Idealize.ShloMosaic.TcCoe Idealize.SL.Sem

variable (m : (ℓ : Loc nD τ sig) → Buf (Elt Ideal) ℓ)
variable (c : Dev nD)

/-- The gradient of the queries in the rows of the call. -/
def endDq (i : S2048x2048.Idx) : EReal := ((dqV (args m c) 1536 (i 0).val (i 1).val : ℝ) : EReal)

/-- The gradient of the keys as the rows after left it. -/
def carryDk : S2048x2048.Idx → EReal := m (c.tc.loc main_arg5)

/-- The gradient of the keys after the call, at the positions it takes part in. -/
def endDk (i : S2048x2048.Idx) : EReal := carryDk m c i + ((dkV (args m c) 1536 1024 (i 0).val (i 1).val : ℝ) : EReal)

/-- The second result before the kernel runs is the keys' gradient it is handed. -/
theorem V_out1 : (V m c main_v32_1 : S2048x2048.Idx → EReal) = carryDk m c := by
  show StableHlo.after (hostOps0 ++ (hostOps0_1 ++ (hostOps0_2 ++ []))) _ _ = _
  simp only [List.cons_append, List.nil_append, List.append_nil]
  after_reads_simp
  rfl

/-- The gradient of the values as the rows after left it. -/
def carryDv : S2048x2048.Idx → EReal := m (c.tc.loc main_arg6)

/-- The gradient of the values after the call, at the positions it takes part in. -/
def endDv (i : S2048x2048.Idx) : EReal := carryDv m c i + ((dvV (args m c) 1024 (i 0).val (i 1).val : ℝ) : EReal)

/-- The third result before the kernel runs is the values' gradient it is handed. -/
theorem V_out2 : (V m c main_v32_2 : S2048x2048.Idx → EReal) = carryDv m c := by
  show StableHlo.after (hostOps0 ++ (hostOps0_1 ++ (hostOps0_2 ++ []))) _ _ = _
  simp only [List.cons_append, List.nil_append, List.append_nil]
  after_reads_simp
  rfl

/-- The gradient of the running sums of the log gates as the rows after left it. -/
def carryDd : S16x1x2048.Idx → EReal := m (c.tc.loc main_arg7)

/-- The gradient of the running sums of the log gates after the call, at the positions it takes part in. -/
def endDd (i : S16x1x2048.Idx) : EReal := carryDd m c i + ((ddV (args m c) 1536 1024 (i 0).val (i 2).val : ℝ) : EReal)

/-- The fourth result before the kernel runs is the columns' decay gradient it is handed. -/
theorem V_out3 : (V m c main_v32_3 : S16x1x2048.Idx → EReal) = carryDd m c := by
  show StableHlo.after (hostOps0 ++ (hostOps0_1 ++ (hostOps0_2 ++ []))) _ _ = _
  simp only [List.cons_append, List.nil_append, List.append_nil]
  after_reads_simp
  rfl

/-- The gradient of the queries as the rows after left it. -/
def carryDq : S2048x2048.Idx → EReal := m (c.tc.loc main_arg4)

/-- The first result before the kernel runs is the queries' gradient it is handed. -/
theorem V_out0 : (V m c main_v32_0 : S2048x2048.Idx → EReal) = carryDq m c := by
  show StableHlo.after (hostOps0 ++ (hostOps0_1 ++ (hostOps0_2 ++ []))) _ _ = _
  simp only [List.cons_append, List.nil_append, List.append_nil]
  after_reads_simp
  rfl

/-- A sum over 512 rows is the sum over the first 256 and the sum over the second. -/
theorem sum_rows (f : ℕ → ℝ) : (∑ r : Fin 256, f (1024 + 256 * 0 + r.val)) + ∑ r : Fin 256, f (1024 + 256 * 1 + r.val) = ∑ r : Fin 512, f (1024 + r.val) := by
  refine ((Fin.sum_univ_add (a := 256) (b := 256) _).trans ?_).symm
  simp only [Fin.val_castAdd, Fin.val_natAdd, ← Nat.add_assoc]

variable (hr : RealArgs m c) (t : Fin cfg0.N)
include hr

/-- What the kernel leaves for the keys' gradient at the last tile of a head, as a real sum. -/
theorem dk_out (h0 : t.val % 2 = 1) (j : Fin 1536) (x : Fin 128) :
    ((outsAt0 m c t.val t.isLt).2.1 : Vec Ideal S1536x128 .f32) (ix2 j x) = endDk m c (ix2 ⟨j.val, by have := j.2; omega⟩ ⟨t.val / 2 * 128 + x.val, by have := t.isLt; have : cfg0.N = 32 := rfl; have := x.2; omega⟩) := by
  have ht : t.val - 1 < cfg0.N := by have := t.isLt; omega
  have e := (congrFun (dk_first m c ⟨t.val - 1, ht⟩ (by show (t.val - 1) % 2 = 0; omega)) (ix2 j x)).trans
    (dkT_apply m c hr ⟨t.val - 1, ht⟩ _ j x)
  show _ = carryDk m c _ + ((dkV (args m c) 1536 1024 j.val (t.val / 2 * 128 + x.val) : ℝ) : EReal)
  rw [dk_second m c t h0, dkT_apply m c hr t]
  refine (congrArg (· + _) e).trans ?_
  have e7 := read_dk (V m c main_arg5) ⟨t.val - 1, ht⟩ j x
  rw [V_main_arg5] at e7
  have ec : k0_pay2 (F := Ideal) (X0_7 m c ⟨t.val - 1, ht⟩) (ix2 j x) = (X0_7 m c ⟨t.val - 1, ht⟩ : Vec Ideal S1536x128 .f32) (ix2 j x) := by pointwise [k0_pay2]
  simp only [show (t.val - 1) % 2 = 0 by omega, h0, show (t.val - 1) / 2 = t.val / 2 by omega] at e7 ⊢
  rw [add_assoc, ← EReal.coe_add]
  refine congr (congrArg _ (ec.trans e7)) (congrArg _ ?_)
  unfold dkV
  rw [show (t.val / 2 * 128 + x.val) / 128 = t.val / 2 by have := x.2; omega]
  exact sum_rows (fun r => dlogit (args m c) 1536 (t.val / 2) r j.val * ((args m c).q r (t.val / 2 * 128 + x.val) * (args m c).sc))

/-- The gradient of the keys after the call. -/
theorem dk_array : (dats m 0 c).arrAt 11 cfg0.N = fun i : S2048x2048.Idx => if (i 0).val < 1536 then endDk m c i else carryDk m c i := by
  have e : ∀ t : Fin grid0.N, win0_11.index t 0 = 0 ∧ win0_11.index t 1 = t.val / 2 := by decide +kernel
  refine ((dats m 0 c).arrAt_eq_of_coversWhere 11 (endDk m c) (P := fun i : S2048x2048.Idx => (i 0).val < 1536) (fun β => β 0 = 0) (by decide +kernel) (fun t hf y => ?_) (fun j => by blk_simp [Pipeline.Window.cell_apply]; omega)).trans ?_
  · have h0 : t.val % 2 = 1 := (flush0_11 t).mp hf
    blk_simp
    rw [after0_11]
    generalize hz : (cfg0.win 11).xinj (cfg0.grid.coords t) y = z
    have z0 : (z 0).val = (y 0).val := by rw [← hz]
    have z1 : (z 1).val = (y 1).val := by rw [← hz]
    rw [show z = ix2 (z 0) (z 1) from by funext a; fin_cases a <;> rfl]
    refine (dk_out m c hr t h0 (z 0) (z 1)).trans (congrArg (endDk m c) ?_)
    blk_ext [e t]
  · rw [← V_out1]
    rfl

/-- What the kernel leaves for the values' gradient at the last tile of a head, as a real sum. -/
theorem dv_out (h0 : t.val % 2 = 1) (j : Fin 1536) (x : Fin 128) :
    ((outsAt0 m c t.val t.isLt).2.2.1 : Vec Ideal S1536x128 .f32) (ix2 j x) = endDv m c (ix2 ⟨j.val, by have := j.2; omega⟩ ⟨t.val / 2 * 128 + x.val, by have := t.isLt; have : cfg0.N = 32 := rfl; have := x.2; omega⟩) := by
  have ht : t.val - 1 < cfg0.N := by have := t.isLt; omega
  have e := (congrFun (dv_first m c ⟨t.val - 1, ht⟩ (by show (t.val - 1) % 2 = 0; omega)) (ix2 j x)).trans
    (dvT_apply m c hr ⟨t.val - 1, ht⟩ _ j x)
  show _ = carryDv m c _ + ((dvV (args m c) 1024 j.val (t.val / 2 * 128 + x.val) : ℝ) : EReal)
  rw [dv_second m c t h0, dvT_apply m c hr t]
  refine (congrArg (· + _) e).trans ?_
  have e7 := read_dv (V m c main_arg6) ⟨t.val - 1, ht⟩ j x
  rw [V_main_arg6] at e7
  have ec : k0_pay3 (F := Ideal) (X0_8 m c ⟨t.val - 1, ht⟩) (ix2 j x) = (X0_8 m c ⟨t.val - 1, ht⟩ : Vec Ideal S1536x128 .f32) (ix2 j x) := by pointwise [k0_pay3]
  simp only [show (t.val - 1) % 2 = 0 by omega, h0, show (t.val - 1) / 2 = t.val / 2 by omega] at e7 ⊢
  rw [add_assoc, ← EReal.coe_add]
  refine congr (congrArg _ (ec.trans e7)) (congrArg _ ?_)
  unfold dvV
  rw [show (t.val / 2 * 128 + x.val) / 128 = t.val / 2 by have := x.2; omega]
  exact sum_rows (fun r => prob (args m c) (t.val / 2) r j.val * (args m c).dout r (t.val / 2 * 128 + x.val))

/-- The gradient of the values after the call. -/
theorem dv_array : (dats m 0 c).arrAt 12 cfg0.N = fun i : S2048x2048.Idx => if (i 0).val < 1536 then endDv m c i else carryDv m c i := by
  have e : ∀ t : Fin grid0.N, win0_12.index t 0 = 0 ∧ win0_12.index t 1 = t.val / 2 := by decide +kernel
  refine ((dats m 0 c).arrAt_eq_of_coversWhere 12 (endDv m c) (P := fun i : S2048x2048.Idx => (i 0).val < 1536) (fun β => β 0 = 0) (by decide +kernel) (fun t hf y => ?_) (fun j => by blk_simp [Pipeline.Window.cell_apply]; omega)).trans ?_
  · have h0 : t.val % 2 = 1 := (flush0_12 t).mp hf
    blk_simp
    rw [after0_12]
    generalize hz : (cfg0.win 12).xinj (cfg0.grid.coords t) y = z
    have z0 : (z 0).val = (y 0).val := by rw [← hz]
    have z1 : (z 1).val = (y 1).val := by rw [← hz]
    rw [show z = ix2 (z 0) (z 1) from by funext a; fin_cases a <;> rfl]
    refine (dv_out m c hr t h0 (z 0) (z 1)).trans (congrArg (endDv m c) ?_)
    blk_ext [e t]
  · rw [← V_out2]
    rfl

/-- What the kernel leaves for the decay's gradient at the last tile of a head, as a real sum. -/
theorem dd_out (h0 : t.val % 2 = 1) (j : Fin 1536) :
    ((outsAt0 m c t.val t.isLt).2.2.2.1 : Vec Ideal S1x1x1536 .f32) (ix3 0 0 j) = endDd m c (ix3 ⟨t.val / 2, by have := t.isLt; have : cfg0.N = 32 := rfl; omega⟩ 0 ⟨j.val, by have := j.2; omega⟩) := by
  have ht : t.val - 1 < cfg0.N := by have := t.isLt; omega
  have e := (congrFun (dd_first m c ⟨t.val - 1, ht⟩ (by show (t.val - 1) % 2 = 0; omega)) (ix2 0 j)).trans
    (ddT_apply m c hr ⟨t.val - 1, ht⟩ _ j)
  show _ = carryDd m c _ + ((ddV (args m c) 1536 1024 (t.val / 2) j.val : ℝ) : EReal)
  rw [dd_second m c t h0]
  have e1 : ∀ v : Vec Ideal S1x1536 .f32, k0_pay1 (F := Ideal) v (ix3 0 0 j) = v (ix2 0 j) := fun v => by pointwise [k0_pay1]
  rw [e1, ddT_apply m c hr t]
  refine (congrArg (· - _) e).trans ?_
  have e7 := read_dd (V m c main_arg7) ⟨t.val - 1, ht⟩ j
  rw [V_main_arg7] at e7
  have ec : k0_pay4 (F := Ideal) (X0_9 m c ⟨t.val - 1, ht⟩) (ix2 0 j) = (X0_9 m c ⟨t.val - 1, ht⟩ : Vec Ideal S1x1x1536 .f32) (ix3 0 0 j) := by pointwise [k0_pay4]
  simp only [show (t.val - 1) % 2 = 0 by omega, h0, show (t.val - 1) / 2 = t.val / 2 by omega] at e7 ⊢
  rw [sub_eq_add_neg, sub_eq_add_neg, ← EReal.coe_neg, ← EReal.coe_neg, add_assoc, ← EReal.coe_add]
  refine congr (congrArg _ (ec.trans e7)) (congrArg _ ?_)
  unfold ddV
  rw [← neg_add]
  exact congrArg _ (sum_rows (fun r => dlogit (args m c) 1536 (t.val / 2) r j.val))

/-- The gradient of the running sums of the log gates after the call. -/
theorem dd_array : (dats m 0 c).arrAt 13 cfg0.N = fun i : S16x1x2048.Idx => if (i 2).val < 1536 then endDd m c i else carryDd m c i := by
  have e : ∀ t : Fin grid0.N, win0_13.index t 0 = t.val / 2 ∧ win0_13.index t 1 = 0 ∧ win0_13.index t 2 = 0 := by decide +kernel
  refine ((dats m 0 c).arrAt_eq_of_coversWhere 13 (endDd m c) (P := fun i : S16x1x2048.Idx => (i 2).val < 1536) (fun β => β 2 = 0) (by decide +kernel) (fun t hf y => ?_) (fun j => by blk_simp [Pipeline.Window.cell_apply]; omega)).trans ?_
  · have h0 : t.val % 2 = 1 := (flush0_13 t).mp hf
    blk_simp
    rw [after0_13]
    generalize hz : (cfg0.win 13).xinj (cfg0.grid.coords t) y = z
    have z2 : (z 2).val = (y 2).val := by rw [← hz]
    rw [show z = ix3 0 0 (z 2) from by funext a; fin_cases a; exact Subsingleton.elim (α := Fin 1) _ _; exact Subsingleton.elim (α := Fin 1) _ _; rfl]
    have y0 : (y 0).val = 0 := by have h1 : (z 0).val = (y 0).val := (by rw [← hz]); have h2 : (z 0).val < 1 := (z 0).isLt; omega
    have y1 : (y 1).val = 0 := by have h1 : (z 1).val = (y 1).val := (by rw [← hz]); have h2 : (z 1).val < 1 := (z 1).isLt; omega
    refine (dd_out m c hr t h0 (z 2)).trans (congrArg (endDd m c) ?_)
    blk_ext [e t]
  · rw [← V_out3]
    rfl

/-- What the kernel leaves for the queries' gradient at a tile, as a real sum. -/
theorem dq_out (r : Fin 256) (x : Fin 128) :
    ((outsAt0 m c t.val t.isLt).1 : Vec Ideal S256x128 .bf16) (ix2 r x) = endDq m c (ix2 ⟨1024 + 256 * (t.val % 2) + r.val, by have := r.2; omega⟩ ⟨t.val / 2 * 128 + x.val, by have := t.isLt; have : cfg0.N = 32 := rfl; have := x.2; omega⟩) := by
  rw [dq_point m c t]
  exact dqT_apply m c hr t r x

/-- The gradient of the queries after the call: the call's rows of it are written, the other rows kept. -/
theorem dq_array : (dats m 0 c).arrAt 10 cfg0.N = fun i : S2048x2048.Idx => if 1024 ≤ (i 0).val ∧ (i 0).val < 1536 then endDq m c i else carryDq m c i := by
  have e : ∀ t : Fin grid0.N, win0_10.index t 0 = 4 + t.val % 2 ∧ win0_10.index t 1 = t.val / 2 := by decide +kernel
  refine ((dats m 0 c).arrAt_eq_of_coversWhere 10 (endDq m c) (P := fun i : S2048x2048.Idx => 1024 ≤ (i 0).val ∧ (i 0).val < 1536) (fun β => 4 ≤ β 0 ∧ β 0 < 6) (by decide +kernel) (fun t hf y => ?_) (fun j => by blk_simp [Pipeline.Window.cell_apply]; omega)).trans ?_
  · blk_simp
    rw [after0_10]
    rw [show y = ix2 (y 0) (y 1) from by funext a; fin_cases a <;> rfl]
    refine (dq_out m c hr t (y 0) (y 1)).trans (congrArg (endDq m c) ?_)
    blk_ext [e t]
  · rw [← V_out0]
    rfl

end Cert.Attn4Ideal.Proof
-- ==== Proof.Ref4.lean ====
/- The reference of the call over rows 1024 to 1535, read one operation after the other: the logits, their maximum, the
   weights, the gradients, and the four results. Every value is a real number. -/
module

public import proofs.«01_k».proof.Proof.Gen.AttnGrad4Ideal.Read
public import proofs.«01_k».proof.Proof.Lse

@[expose] public section

set_option maxRecDepth 16384

noncomputable section

namespace Cert.AttnGrad4Ideal.Proof

open Cert.AttnGrad4Ideal Cert.AttnGrad4Ideal.Gen Cert.AttnGrad4Ideal.Read Cert.Softmax Idealize.ShloMosaic

variable (x0 : FVec Ideal S2048x2048 .f32) (x1 : FVec Ideal S2048x4096 .bf16) (x2 : FVec Ideal S16x2048 .f32) (x3 : FVec Ideal S2048x2048 .bf16)

/-- The reference's logits: the masked ones are negative infinity. -/
theorem logits_apply (h0 : IsReal x0) (h1 : IsReal x1) (h2 : IsReal x2) (h : Fin 16) (r : Fin 512) (j : Fin 1536) :
    val_main_v28_0 (F := Ideal) x0 x1 x2 (ix3 h r j) = logitE (inp x0 x1 x2 x3) h (1024 + r.val) j := by
  pointwise [val_main_v28_0, val_main_v28_1, val_main_v27, val_main_v25, val_main_v22, val_main_v21, val_main_v20, val_main_c, val_main_v19, val_main_v26, val_main_v24, val_main_v23, val_main_v18, val_main_v15, val_main_v11, val_main_v8, val_main_v6, val_main_v4, val_main_v7, val_main_cst, val_main_v9, val_main_v1, val_main_v0, val_main_v14, val_main_v13, val_main_v12, val_main_v5, val_main_v17, val_main_v16, val_main_call0_v2, val_main_call0_v0, val_main_cst_0]
  simp only [h0.at, h1.at, h2.at]
  rw [word_add]
  show Scalar.select _ _ (Ideal.ofBits .f32 4286578688#32) = _
  rw [ofBits_bot, scale_eq]
  have e := coe_logit (inp x0 x1 x2 x3) h (1024 + r.val) j
  have e' := select_visible (IntOp.cmpi .sge (BitVec.ofNat 32 (1024 + r.val)) (BitVec.ofNat 32 ↑j)) (1024 + r.val) j
    (word_sge _ _ (by have := r.2; omega) (by have := j.2; omega)) (logit (inp x0 x1 x2 x3) h (1024 + r.val) j)
  rw [← e] at e'
  exact e'.trans (by unfold logitE; rw [← e])

/-- A row's maximum, of any array. -/
theorem max_of (x : FVec Ideal S16x512x1536 .f32) (h : Fin 16) (r : Fin 512) :
    Host.reduce (FloatOps.maximumf (F := Ideal)) x (constant (F := Ideal) S_ .f32 0xFF800000#32) reducesTo_S16x512x1536_S16x512_d2 h_S_ (ix2 h r)
      = Finset.fold max ⊥ (fun j : Fin 1536 => x (ix3 h r j)) Finset.univ := by
  rw [reduce_max_last]
  exact congrArg (fun z => Finset.fold max z _ _) ofBits_bot

/-- The reference's row maximum, as a fold. -/
theorem max_fold (h : Fin 16) (r : Fin 512) :
    val_main_v29 (F := Ideal) x0 x1 x2 (ix2 h r) = Finset.fold max ⊥ (fun j : Fin 1536 => val_main_v28_0 (F := Ideal) x0 x1 x2 (ix3 h r j)) Finset.univ := by
  unfold val_main_v29 val_main_cst_1
  exact max_of _ h r

/-- The row maximum the gradient recomputes is the forward one. -/
theorem max_twice (i : S16x512.Idx) : val_main_v36 (F := Ideal) x0 x1 x2 i = val_main_v29 (F := Ideal) x0 x1 x2 i := by
  rw [val_main_v36_apply, val_main_v35_apply, val_main_cst_3_apply]
  exact max_with_bot _

/-- The maximum of a row's logits is a real number. -/
theorem max_logits (h0 : IsReal x0) (h1 : IsReal x1) (h2 : IsReal x2) (h : Fin 16) (r : Fin 512) :
    Finset.fold max ⊥ (fun j : Fin 1536 => val_main_v28_0 (F := Ideal) x0 x1 x2 (ix3 h r j)) Finset.univ
      = ((rowMax (inp x0 x1 x2 x3) 1536 h (1024 + r.val) : ℝ) : EReal) := by
  rw [← coe_rowMax _ _ _ _ (by have := r.2; omega)]
  exact congrArg (fun f => Finset.fold max ⊥ f Finset.univ) (funext fun j => logits_apply x0 x1 x2 x3 h0 h1 h2 h r j)

/-- The reference's row maximum is a real number. -/
theorem max_apply (h0 : IsReal x0) (h1 : IsReal x1) (h2 : IsReal x2) (h : Fin 16) (r : Fin 512) :
    val_main_v36 (F := Ideal) x0 x1 x2 (ix2 h r) = ((rowMax (inp x0 x1 x2 x3) 1536 h (1024 + r.val) : ℝ) : EReal) := by
  rw [max_twice, max_fold, max_logits x0 x1 x2 x3 h0 h1 h2]

/-- The reference's weights as real numbers. -/
theorem weight_apply (h0 : IsReal x0) (h1 : IsReal x1) (h2 : IsReal x2) (h : Fin 16) (r : Fin 512) (j : Fin 1536) :
    val_main_v49 (F := Ideal) x0 x1 x2 (ix3 h r j)
      = ((weight (inp x0 x1 x2 x3) (rowMax (inp x0 x1 x2 x3) 1536 h (1024 + r.val)) h (1024 + r.val) j : ℝ) : EReal) := by
  pointwise [val_main_v49, val_main_v48, val_main_v47, val_main_v46]
  rw [logits_apply x0 x1 x2 x3 h0 h1 h2, max_apply x0 x1 x2 x3 h0 h1 h2]
  exact exp_logitE_sub _ _ _ _ _

/-- The reference's row sums as real numbers. -/
theorem sum_apply (h0 : IsReal x0) (h1 : IsReal x1) (h2 : IsReal x2) (h : Fin 16) (r : Fin 512) :
    val_main_v50 (F := Ideal) x0 x1 x2 (ix2 h r) = ((rowSum (inp x0 x1 x2 x3) 1536 h (1024 + r.val) : ℝ) : EReal) := by
  pointwise [val_main_v50, val_main_cst_9]
  simp only [weight_apply x0 x1 x2 x3 h0 h1 h2]
  exact coe_sum _

/-- The reference's probabilities as real numbers. -/
theorem prob_apply (h0 : IsReal x0) (h1 : IsReal x1) (h2 : IsReal x2) (h : Fin 16) (r : Fin 512) (j : Fin 1536) :
    val_main_v53 (F := Ideal) x0 x1 x2 (ix3 h r j) = ((prob (inp x0 x1 x2 x3) h (1024 + r.val) j : ℝ) : EReal) := by
  pointwise [val_main_v53, val_main_v52, val_main_v51]
  rw [weight_apply x0 x1 x2 x3 h0 h1 h2, sum_apply x0 x1 x2 x3 h0 h1 h2]
  have hr : 1024 + r.val < 1536 := by have := r.2; omega
  exact (div_coe_ne _ _ (rowSum_ne _ _ _ _ hr)).trans (congrArg _ (weight_div _ 1536 _ _ _ _ hr))

/-- The gradient of the reference's probabilities. -/
theorem dprob_apply (h1 : IsReal x1) (h3 : IsReal x3) (h : Fin 16) (r : Fin 512) (j : Fin 1536) :
    val_main_v64 (F := Ideal) x1 x3 (ix3 h r j) = ((dprob (inp x0 x1 x2 x3) h (1024 + r.val) j : ℝ) : EReal) := by
  pointwise [val_main_v64, val_main_v63, val_main_v62, val_main_v61, val_main_v60, val_main_v10, val_main_v3, val_main_v2]
  simp only [h1.at, h3.at]
  exact coe_dprob (inp x0 x1 x2 x3) h (1024 + r.val) j

/-- The gradient of the reference's logits. -/
theorem dlogit_apply (h0 : IsReal x0) (h1 : IsReal x1) (h2 : IsReal x2) (h3 : IsReal x3) (h : Fin 16) (r : Fin 512) (j : Fin 1536) :
    val_main_v79 (F := Ideal) x0 x1 x2 x3 (ix3 h r j) = ((dlogit (inp x0 x1 x2 x3) 1536 h (1024 + r.val) j : ℝ) : EReal) := by
  pointwise [val_main_v79, val_main_v28_1, val_main_v27, val_main_v25, val_main_v22, val_main_v21, val_main_v20, val_main_c, val_main_v19, val_main_v26, val_main_v24, val_main_v23, val_main_v78, val_main_v77, val_main_v74, val_main_v73, val_main_v51, val_main_v76, val_main_v75, val_main_v72, val_main_v71, val_main_v70, val_main_v69, val_main_v68, val_main_v67, val_main_v56, val_main_v55, val_main_cst_10, val_main_v54, val_main_cst_11, val_main_cst_12, val_main_call1_v0, val_main_call1_cst]
  simp only [dprob_apply x0 x1 x2 x3 h1 h3, weight_apply x0 x1 x2 x3 h0 h1 h2, sum_apply x0 x1 x2 x3 h0 h1 h2]
  have hr : 1024 + r.val < 1536 := by have := r.2; omega
  have e := coe_dlogit (inp x0 x1 x2 x3) 1536 h (1024 + r.val) j hr
  rw [word_add]
  refine (congrArg (fun z : EReal => Scalar.select (IntOp.cmpi .sge (BitVec.ofNat 32 (1024 + r.val)) (BitVec.ofNat 32 ↑j)) z 0) e).trans ?_
  exact select_hidden _ (1024 + r.val) j (word_sge _ _ (by have := r.2; omega) (by have := j.2; omega)) _
    (fun hj => dlogit_hidden _ _ _ _ _ (by omega))

/-- The logit gradients summed over the rows. -/
theorem column_apply (h0 : IsReal x0) (h1 : IsReal x1) (h2 : IsReal x2) (h3 : IsReal x3) (h : Fin 16) (j : Fin 1536) :
    val_main_v83 (F := Ideal) x0 x1 x2 x3 (ix2 h j) = ((ddV (inp x0 x1 x2 x3) 1536 1024 h j : ℝ) : EReal) := by
  pointwise [val_main_v83, val_main_v82, val_main_v81, val_main_v80, val_main_cst_13, val_main_cst_14]
  exact coe_ddV (inp x0 x1 x2 x3) 1536 1024 h j _ (fun r => dlogit_apply x0 x1 x2 x3 h0 h1 h2 h3 h r j)

/-- The logit gradients summed over the columns. -/
theorem row_apply (h0 : IsReal x0) (h1 : IsReal x1) (h2 : IsReal x2) (h3 : IsReal x3) (h : Fin 16) (r : Fin 512) :
    val_main_v86 (F := Ideal) x0 x1 x2 x3 (ix2 h r) = 0 := by
  pointwise [val_main_v86, val_main_v85, val_main_v84, val_main_cst_15, val_main_cst_16]
  exact coe_row (inp x0 x1 x2 x3) 1536 h (1024 + r.val) (by have := r.2; omega) _ (fun j => dlogit_apply x0 x1 x2 x3 h0 h1 h2 h3 h r j)

/-- The row sums placed at the rows the call takes, zero elsewhere. -/
theorem padded_apply (h0 : IsReal x0) (h1 : IsReal x1) (h2 : IsReal x2) (h3 : IsReal x3) (h : Fin 16) (j : Fin 1536) :
    val_main_v87 (F := Ideal) x0 x1 x2 x3 (ix2 h j) = 0 := by
  have e : val_main_v86 (F := Ideal) x0 x1 x2 x3 = fun _ => (0 : EReal) := funext fun i => by
    rw [eq_ix2 i]; exact row_apply x0 x1 x2 x3 h0 h1 h2 h3 _ _
  unfold val_main_v87
  rw [e, pad_apply]
  split_ifs
  · rfl
  · pointwise [val_main_cst_17]

/-- The gradient of the cumulated decay. -/
theorem ddrow_apply (h0 : IsReal x0) (h1 : IsReal x1) (h2 : IsReal x2) (h3 : IsReal x3) (h : Fin 16) (j : Fin 1536) :
    val_main_v88 (F := Ideal) x0 x1 x2 x3 (ix2 h j) = ((ddV (inp x0 x1 x2 x3) 1536 1024 h j : ℝ) : EReal) := by
  pointwise [val_main_v88]
  rw [column_apply x0 x1 x2 x3 h0 h1 h2 h3, padded_apply x0 x1 x2 x3 h0 h1 h2 h3]
  exact add_zero _

/-- The gradient of the keys. -/
theorem dk_apply (h0 : IsReal x0) (h1 : IsReal x1) (h2 : IsReal x2) (h3 : IsReal x3) (j : Fin 1536) (e : Fin 2048) :
    val_main_v94 (F := Ideal) x0 x1 x2 x3 (ix2 j e) = ((dkV (inp x0 x1 x2 x3) 1536 1024 j e : ℝ) : EReal) := by
  pointwise [val_main_v94, val_main_v90, val_main_v89, val_main_v8, val_main_v6, val_main_v4, val_main_v7, val_main_cst]
  simp only [dlogit_apply x0 x1 x2 x3 h0 h1 h2 h3, h0.at, scale_eq, ← EReal.coe_mul]
  unfold dkV
  exact coe_sum _

/-- The gradient of the values. -/
theorem dv_apply (h0 : IsReal x0) (h1 : IsReal x1) (h2 : IsReal x2) (h3 : IsReal x3) (j : Fin 1536) (e : Fin 2048) :
    val_main_v93 (F := Ideal) x0 x1 x2 x3 (ix2 j e) = ((dvV (inp x0 x1 x2 x3) 1024 j e : ℝ) : EReal) := by
  pointwise [val_main_v93, val_main_v66, val_main_v65, val_main_v63, val_main_v62, val_main_v61, val_main_v60]
  simp only [prob_apply x0 x1 x2 x3 h0 h1 h2, h3.at, ← EReal.coe_mul]
  unfold dvV
  simp only [mul_comm (prob _ _ _ _)]
  exact coe_sum _

/-- The gradient of the queries. -/
theorem dq_apply (h0 : IsReal x0) (h1 : IsReal x1) (h2 : IsReal x2) (h3 : IsReal x3) (r : Fin 512) (e : Fin 2048) :
    val_main_v98 (F := Ideal) x0 x1 x2 x3 (ix2 r e) = ((dqV (inp x0 x1 x2 x3) 1536 (1024 + r.val) e : ℝ) : EReal) := by
  pointwise [val_main_v98, val_main_v97, val_main_v96, val_main_v92, val_main_v91, val_main_v9, val_main_v1, val_main_v0, val_main_v95, val_main_cst_18]
  simp only [dlogit_apply x0 x1 x2 x3 h0 h1 h2 h3, h1.at, scale_eq, ← EReal.coe_mul]
  unfold dqV
  rw [EReal.coe_mul, ← coe_sum]
  rfl

/-! ## The results: the part added to what the earlier calls left -/

variable (x4 : FVec Ideal S2048x2048 .bf16) (x5 x6 : FVec Ideal S2048x2048 .f32) (x7 : FVec Ideal S16x1x2048 .f32)

/-- The reference's first result as real sums. -/
theorem result0_apply (h0 : IsReal x0) (h1 : IsReal x1) (h2 : IsReal x2) (h3 : IsReal x3) (i e : Fin 2048) :
    val_main_v102 (F := Ideal) x0 x1 x2 x3 x4 (ix2 i e)
      = if 1024 ≤ i.val ∧ i.val < 1536 then ((dqV (inp x0 x1 x2 x3) 1536 i e : ℝ) : EReal) else x4 (ix2 i e) := by
  pointwise [val_main_v102, val_main_v100, val_main_v101]
  by_cases hc : 1024 ≤ i.val ∧ i.val < 1536
  · rw [if_pos hc, dif_neg (by omega), dif_pos (by omega), dq_apply x0 x1 x2 x3 h0 h1 h2 h3]
    exact congrArg (fun n : ℕ => ((dqV (inp x0 x1 x2 x3) 1536 n e : ℝ) : EReal)) (show 1024 + (i.val - 1024) = i.val by omega)
  · rw [if_neg hc]
    by_cases hl : i.val < 1024
    · rw [dif_pos hl]
    · rw [dif_neg hl, dif_neg (by omega)]
      exact congrArg (fun n => x4 (ix2 n e)) (Fin.ext (show 1536 + (i.val - 1024 - 512) = i.val by omega))

/-- The reference's second result as real sums. -/
theorem result1_apply (h0 : IsReal x0) (h1 : IsReal x1) (h2 : IsReal x2) (h3 : IsReal x3) (i e : Fin 2048) :
    val_main_v106 (F := Ideal) x0 x1 x2 x3 x5 (ix2 i e)
      = if i.val < 1536 then x5 (ix2 i e) + ((dkV (inp x0 x1 x2 x3) 1536 1024 i e : ℝ) : EReal) else x5 (ix2 i e) := by
  pointwise [val_main_v106, val_main_v104, val_main_v103, val_main_v105]
  by_cases hc : i.val < 1536
  · rw [if_pos hc, dif_pos hc, dk_apply x0 x1 x2 x3 h0 h1 h2 h3]
  · rw [if_neg hc, dif_neg hc]
    exact congrArg (fun n => x5 (ix2 n e)) (Fin.ext (show 1536 + (i.val - 1536) = i.val by omega))

/-- The reference's third result as real sums. -/
theorem result2_apply (h0 : IsReal x0) (h1 : IsReal x1) (h2 : IsReal x2) (h3 : IsReal x3) (i e : Fin 2048) :
    val_main_v110 (F := Ideal) x0 x1 x2 x3 x6 (ix2 i e)
      = if i.val < 1536 then x6 (ix2 i e) + ((dvV (inp x0 x1 x2 x3) 1024 i e : ℝ) : EReal) else x6 (ix2 i e) := by
  pointwise [val_main_v110, val_main_v108, val_main_v107, val_main_v109]
  by_cases hc : i.val < 1536
  · rw [if_pos hc, dif_pos hc, dv_apply x0 x1 x2 x3 h0 h1 h2 h3]
  · rw [if_neg hc, dif_neg hc]
    exact congrArg (fun n => x6 (ix2 n e)) (Fin.ext (show 1536 + (i.val - 1536) = i.val by omega))

/-- The reference's fourth result as real sums. -/
theorem result3_apply (h0 : IsReal x0) (h1 : IsReal x1) (h2 : IsReal x2) (h3 : IsReal x3) (h : Fin 16) (u : Fin 1) (j : Fin 2048) :
    val_main_v114 (F := Ideal) x0 x1 x2 x3 x7 (ix3 h u j)
      = if j.val < 1536 then x7 (ix3 h u j) + ((ddV (inp x0 x1 x2 x3) 1536 1024 h j : ℝ) : EReal) else x7 (ix3 h u j) := by
  obtain rfl : u = 0 := Subsingleton.elim _ _
  pointwise [val_main_v114, val_main_v112, val_main_v111, val_main_v99, val_main_v113]
  by_cases hc : j.val < 1536
  · rw [if_pos hc, dif_pos hc, ddrow_apply x0 x1 x2 x3 h0 h1 h2 h3]
  · rw [if_neg hc, dif_neg hc]
    exact congrArg (fun n => x7 (ix3 h 0 n)) (Fin.ext (show 1536 + (j.val - 1536) = j.val by omega))

end Cert.AttnGrad4Ideal.Proof
-- ==== Proof.Eq4.lean ====
module

public import proofs.«01_k».proof.Proof.Arr4
public import proofs.«01_k».proof.Proof.Ref4
public import proofs.«01_k».proof.Defs
public import proofs.«01_k».proof.Proof.Gen.Attn4.Frame
public import proofs.«01_k».proof.Proof.Gen.Attn4Ideal.Frame
public import proofs.«01_k».proof.Proof.Gen.Pre_finite_later

@[expose] public section

/-!
  The claims about the call of the attention backward kernel over the rows 1024 to 1535: the four result arrays of the call and
  the four results of the reference are the same functions of the arguments.
-/

set_option maxRecDepth 16384

noncomputable section

namespace Cert.Proof.Call4

open Cert.Attn4Ideal Cert.Attn4Ideal.Gen Cert.Attn4Ideal.Proof Cert.Attn4Ideal.Value Cert.Softmax Idealize.ShloMosaic Idealize.ShloMosaic.TcCoe Idealize.SL.Sem

variable (m : (ℓ : Loc nD τ sig) → Buf (Elt Ideal) ℓ) (c : Dev nD) (hr : RealArgs m c)
include hr

/-- The gradient with respect to the queries. -/
theorem dq_eq : (Cert.AttnGrad4Ideal.Read.val_main_v102 (F := Ideal) (m (c.tc.loc main_arg0)) (m (c.tc.loc main_arg1)) (m (c.tc.loc main_arg2)) (m (c.tc.loc main_arg3)) (m (c.tc.loc main_arg4)) : S2048x2048.Idx → EReal) = ((dats m 0 c).arrAt 10 cfg0.N : S2048x2048.Idx → EReal) := by
  funext i
  have hi : i = ix2 (i 0) (i 1) := by
    funext a
    fin_cases a <;> rfl
  rw [dq_array m c hr, hi]
  exact Cert.AttnGrad4Ideal.Proof.result0_apply _ _ _ _ _ hr.1 hr.2.1 hr.2.2.1 hr.2.2.2 (i 0) (i 1)

/-- The gradient with respect to the keys. -/
theorem dk_eq : (Cert.AttnGrad4Ideal.Read.val_main_v106 (F := Ideal) (m (c.tc.loc main_arg0)) (m (c.tc.loc main_arg1)) (m (c.tc.loc main_arg2)) (m (c.tc.loc main_arg3)) (m (c.tc.loc main_arg5)) : S2048x2048.Idx → EReal) = ((dats m 0 c).arrAt 11 cfg0.N : S2048x2048.Idx → EReal) := by
  funext i
  have hi : i = ix2 (i 0) (i 1) := by
    funext a
    fin_cases a <;> rfl
  rw [dk_array m c hr, hi]
  exact Cert.AttnGrad4Ideal.Proof.result1_apply _ _ _ _ _ hr.1 hr.2.1 hr.2.2.1 hr.2.2.2 (i 0) (i 1)

/-- The gradient with respect to the values. -/
theorem dv_eq : (Cert.AttnGrad4Ideal.Read.val_main_v110 (F := Ideal) (m (c.tc.loc main_arg0)) (m (c.tc.loc main_arg1)) (m (c.tc.loc main_arg2)) (m (c.tc.loc main_arg3)) (m (c.tc.loc main_arg6)) : S2048x2048.Idx → EReal) = ((dats m 0 c).arrAt 12 cfg0.N : S2048x2048.Idx → EReal) := by
  funext i
  have hi : i = ix2 (i 0) (i 1) := by
    funext a
    fin_cases a <;> rfl
  rw [dv_array m c hr, hi]
  exact Cert.AttnGrad4Ideal.Proof.result2_apply _ _ _ _ _ hr.1 hr.2.1 hr.2.2.1 hr.2.2.2 (i 0) (i 1)

/-- The gradient with respect to the cumulative decay. -/
theorem dd_eq : (Cert.AttnGrad4Ideal.Read.val_main_v114 (F := Ideal) (m (c.tc.loc main_arg0)) (m (c.tc.loc main_arg1)) (m (c.tc.loc main_arg2)) (m (c.tc.loc main_arg3)) (m (c.tc.loc main_arg7)) : S16x1x2048.Idx → EReal) = ((dats m 0 c).arrAt 13 cfg0.N : S16x1x2048.Idx → EReal) := by
  funext i
  have hi : i = ix3 (i 0) (i 1) (i 2) := by
    funext a
    fin_cases a <;> rfl
  rw [dd_array m c hr, hi]
  exact Cert.AttnGrad4Ideal.Proof.result3_apply _ _ _ _ _ hr.1 hr.2.1 hr.2.2.1 hr.2.2.2 (i 0) (i 1) (i 2)

omit hr in
/-- Under the precondition the arguments are real numbers. -/
theorem real (h : Cert.Pre_Attn4Ideal_finite_later m) : RealArgs m c :=
  Cert.Softmax.real_of_pre_later _ _ _ _ _ _ _ _ (h c)

omit hr in
/-- The call computes the reference's four results. -/
theorem algebraic : Cert.algebraic_Attn4Ideal_AttnGrad4Ideal_pre_finite_later := by
  intro m g m' g' hpre hargs
  refine ⟨fun c => (dats m 0 c).arrAt 10 cfg0.N, fun c => (dats m 0 c).arrAt 11 cfg0.N, fun c => (dats m 0 c).arrAt 12 cfg0.N,
    fun c => (dats m 0 c).arrAt 13 cfg0.N, run_blocks m g, (θ_run _ _ _).mono (fun r h c => ?_) (Cert.AttnGrad4Ideal.Value.run m' g')⟩
  have hr := real m c hpre
  obtain ⟨a0, a1, a2, a3, a4, a5, a6, a7⟩ := hargs c
  obtain ⟨r0, r1, r2, r3, rest⟩ := h c
  refine ⟨r0.trans ?_, r1.trans ?_, r2.trans ?_, r3.trans ?_, rest⟩
  · rw [Cert.AttnGrad4Ideal.Read.val_main_v102_eq, a0, a1, a2, a3, a4]
    exact dq_eq m c hr
  · rw [Cert.AttnGrad4Ideal.Read.val_main_v106_eq, a0, a1, a2, a3, a5]
    exact dk_eq m c hr
  · rw [Cert.AttnGrad4Ideal.Read.val_main_v110_eq, a0, a1, a2, a3, a6]
    exact dv_eq m c hr
  · rw [Cert.AttnGrad4Ideal.Read.val_main_v114_eq, a0, a1, a2, a3, a7]
    exact dd_eq m c hr

omit hr in
/-- The idealization names the mask constant minus infinity. -/
theorem preserves : Cert.preserves_Attn4_Attn4Ideal :=
  IdealRules.named_const.statement Cert.Attn4Ideal.κ "mask" .f32 0xF149F2CA#32 ⊥ rfl

omit hr in
/-- The reference leaves its arguments and every counter as they were, from any memory. -/
theorem frame_ref (m : (ℓ : Loc Cert.AttnGrad4Ideal.nD Cert.AttnGrad4Ideal.τ Cert.AttnGrad4Ideal.sig) → Buf (Elt Ideal) ℓ) (g : Dev Cert.AttnGrad4Ideal.nD → PrngReg) :
    θ_run (Cert.AttnGrad4Ideal.defs (F := Ideal)) (onTc (τ := Cert.AttnGrad4Ideal.τ) (Cert.AttnGrad4Ideal.main (F := Ideal))) ⟨m, fun _ => 0, g⟩ (fun r => (∀ c : Dev Cert.AttnGrad4Ideal.nD,
      r.2.mem ((c.tc : Thread Cert.AttnGrad4Ideal.nD Cert.AttnGrad4Ideal.τ).loc Cert.AttnGrad4Ideal.main_arg0) = m ((c.tc : Thread Cert.AttnGrad4Ideal.nD Cert.AttnGrad4Ideal.τ).loc Cert.AttnGrad4Ideal.main_arg0)
      ∧ r.2.mem ((c.tc : Thread Cert.AttnGrad4Ideal.nD Cert.AttnGrad4Ideal.τ).loc Cert.AttnGrad4Ideal.main_arg1) = m ((c.tc : Thread Cert.AttnGrad4Ideal.nD Cert.AttnGrad4Ideal.τ).loc Cert.AttnGrad4Ideal.main_arg1)
      ∧ r.2.mem ((c.tc : Thread Cert.AttnGrad4Ideal.nD Cert.AttnGrad4Ideal.τ).loc Cert.AttnGrad4Ideal.main_arg2) = m ((c.tc : Thread Cert.AttnGrad4Ideal.nD Cert.AttnGrad4Ideal.τ).loc Cert.AttnGrad4Ideal.main_arg2)
      ∧ r.2.mem ((c.tc : Thread Cert.AttnGrad4Ideal.nD Cert.AttnGrad4Ideal.τ).loc Cert.AttnGrad4Ideal.main_arg3) = m ((c.tc : Thread Cert.AttnGrad4Ideal.nD Cert.AttnGrad4Ideal.τ).loc Cert.AttnGrad4Ideal.main_arg3)
      ∧ r.2.mem ((c.tc : Thread Cert.AttnGrad4Ideal.nD Cert.AttnGrad4Ideal.τ).loc Cert.AttnGrad4Ideal.main_arg4) = m ((c.tc : Thread Cert.AttnGrad4Ideal.nD Cert.AttnGrad4Ideal.τ).loc Cert.AttnGrad4Ideal.main_arg4)
      ∧ r.2.mem ((c.tc : Thread Cert.AttnGrad4Ideal.nD Cert.AttnGrad4Ideal.τ).loc Cert.AttnGrad4Ideal.main_arg5) = m ((c.tc : Thread Cert.AttnGrad4Ideal.nD Cert.AttnGrad4Ideal.τ).loc Cert.AttnGrad4Ideal.main_arg5)
      ∧ r.2.mem ((c.tc : Thread Cert.AttnGrad4Ideal.nD Cert.AttnGrad4Ideal.τ).loc Cert.AttnGrad4Ideal.main_arg6) = m ((c.tc : Thread Cert.AttnGrad4Ideal.nD Cert.AttnGrad4Ideal.τ).loc Cert.AttnGrad4Ideal.main_arg6)
      ∧ r.2.mem ((c.tc : Thread Cert.AttnGrad4Ideal.nD Cert.AttnGrad4Ideal.τ).loc Cert.AttnGrad4Ideal.main_arg7) = m ((c.tc : Thread Cert.AttnGrad4Ideal.nD Cert.AttnGrad4Ideal.τ).loc Cert.AttnGrad4Ideal.main_arg7))
      ∧ r.2.sem = fun _ => 0) :=
  (θ_run Cert.AttnGrad4Ideal.defs _ _).mono (fun r h => ⟨fun c => (h c).2.2.2.2, sem_eq_zero_of_no_sems (by decide) r.2⟩) (Cert.AttnGrad4Ideal.Value.run m g)

end Cert.Proof.Call4

end
-- ==== Proof.Tile2.lean ====
module

public import proofs.«01_k».proof.Proof.Gen.Attn2Ideal.Value
public import proofs.«01_k».proof.Proof.Lse
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The call of the attention backward kernel over the rows 512 to 1023, the positions being the first 1024: what one
  tile of 256 rows computes, at an index, and what the tile's blocks hold of the arrays.
-/

set_option maxRecDepth 16384

noncomputable section

namespace Cert.Attn2Ideal.Proof

open Cert.Attn2Ideal Cert.Attn2Ideal.Gen Cert.Softmax Idealize.ShloMosaic Idealize.ShloMosaic.TcCoe Idealize.SL.Sem

/-- The number of a row of a tile, as the kernel computes it in words. -/
theorem tile_row (i r R : ℕ) (hi : 256 * (2 + i) = R) :
    IntOp.addi (Scalar.muli (Scalar.addi 2#32 (BitVec.ofNat 32 i)) 256#32) (BitVec.ofNat 32 r) = BitVec.ofNat 32 (R + r) := by
  subst hi
  show (2#32 + BitVec.ofNat 32 i) * 256#32 + BitVec.ofNat 32 r = _
  rw [Nat.mul_comm, BitVec.ofNat_add, BitVec.ofNat_mul, BitVec.ofNat_add]

section Tile
variable (I : Inp) (h R : ℕ)

/-- The tile's exponential is the attention weight: nothing after the row, the row's log-sum-exp taken off. -/
theorem tile_prob (i : grid0.Coords) (hi : 256 * (2 + (i 1).val) = R) (v5 : Vec Ideal S256x128 .f32) (v9 : Vec Ideal S1024x128 .bf16)
    (v11 : Vec Ideal S1x256x1 .f32) (v15 : Vec Ideal S1x1x1024 .f32) (v26 : Vec Ideal S1x256x1 .f32) (hsc : I.sc = scale)
    (h5 : ∀ r x, v5 (ix2 r x) = ((I.q (R + r.val) (h * 128 + x.val) : ℝ) : EReal))
    (h9 : ∀ j x, v9 (ix2 j x) = ((I.kv j.val (h * 128 + x.val) : ℝ) : EReal))
    (h11 : ∀ r, v11 (ix3 0 r 0) = ((I.dc h (R + r.val) : ℝ) : EReal))
    (h15 : ∀ j, v15 (ix3 0 0 j) = ((I.dc h j.val : ℝ) : EReal))
    (h26 : ∀ r : Fin 256, ∃ M : ℝ, v26 (ix3 0 r 0) = ((M : ℝ) : EReal) + ((Real.log (∑ j' : Fin 2048, weight I M h (R + r.val) j') : ℝ) : EReal))
    (r : Fin 256) (j : Fin 1024) :
    k0_pay6 (F := Ideal) i v5 v9 v11 v15 v26 (ix2 r j) = ((prob I h (R + r.val) j.val : ℝ) : EReal) := by
  have hi1 : (i 1).val < 2 := (i 1).isLt
  have hR : R + r.val < 2048 := by have := r.2; omega
  obtain ⟨M, hM⟩ := h26 r
  rw [← exp_logitE_lse I 2048 M h (R + r.val) j.val hR, ← hM]
  pointwise [k0_pay6, k0_pay5]
  rw [show (Named.named (F := Ideal) (φ := .f32) κ "mask" 4048155338#32 : EReal) = ⊥ from IdealRules.named_const.ideal_named_scalar _ _ _ _ rfl]
  simp only [h5, h9, h11, h15, scale_eq, ← hsc, coe_logit]
  rw [tile_row (i 1).val r.val R hi, select_visible _ (R + r.val) j.val (word_sle j.val (R + r.val) (by have := j.2; omega) (by omega))]
  rfl

/-- The tile's gradient of the logits. -/
theorem tile_dlogit (v30 : FVec Ideal S256x1024 .f32) (v31 : Vec Ideal S256x128 .bf16) (v32 : Vec Ideal S1024x128 .bf16)
    (h30 : ∀ r j, v30 (ix2 r j) = ((prob I h (R + r.val) j.val : ℝ) : EReal))
    (h31 : ∀ r x, v31 (ix2 r x) = ((I.dout (R + r.val) (h * 128 + x.val) : ℝ) : EReal))
    (h32 : ∀ j x, v32 (ix2 j x) = ((I.kv j.val (2048 + (h * 128 + x.val)) : ℝ) : EReal))
    (r : Fin 256) (j : Fin 1024) :
    k0_pay7 (F := Ideal) v30 v31 v32 (ix2 r j) = ((dlogit I 1024 h (R + r.val) j.val : ℝ) : EReal) := by
  pointwise [k0_pay7]
  simp only [h30, h31, h32, coe_dprob, ← EReal.coe_mul, coe_sum, ← EReal.coe_sub]
  rfl

/-- The tile's rows of the gradient of the queries. -/
theorem tile_dq (v30 : FVec Ideal S256x1024 .f32) (v31 : Vec Ideal S256x128 .bf16) (v32 v41 : Vec Ideal S1024x128 .bf16)
    (hd : ∀ r j, k0_pay7 (F := Ideal) v30 v31 v32 (ix2 r j) = ((dlogit I 1024 h (R + r.val) j.val : ℝ) : EReal)) (hsc : I.sc = scale)
    (h41 : ∀ j x, v41 (ix2 j x) = ((I.kv j.val (h * 128 + x.val) : ℝ) : EReal)) (r : Fin 256) (x : Fin 128) :
    k0_pay9 (F := Ideal) v30 v31 v32 v41 (ix2 r x) = ((dqV I 1024 (R + r.val) (h * 128 + x.val) : ℝ) : EReal) := by
  pointwise [k0_pay9, k0_pay8]
  simp only [hd, h41, scale_eq, ← hsc, ← EReal.coe_mul, coe_sum]
  unfold dqV
  rw [show (h * 128 + x.val) / 128 = h by have := x.2; omega]

/-- The tile adds its rows' part to the gradient of the keys. -/
theorem tile_dk (v8 : FVec Ideal S256x128 .bf16) (v30 : FVec Ideal S256x1024 .f32) (v31 : Vec Ideal S256x128 .bf16) (v32 : Vec Ideal S1024x128 .bf16) (v47 : Vec Ideal S1024x128 .f32)
    (hd : ∀ r j, k0_pay7 (F := Ideal) v30 v31 v32 (ix2 r j) = ((dlogit I 1024 h (R + r.val) j.val : ℝ) : EReal))
    (h8 : ∀ r x, v8 (ix2 r x) = ((I.q (R + r.val) (h * 128 + x.val) * I.sc : ℝ) : EReal)) (j : Fin 1024) (x : Fin 128) :
    k0_pay10 (F := Ideal) v8 v30 v31 v32 v47 (ix2 j x) = v47 (ix2 j x) + ((∑ r : Fin 256, dlogit I 1024 h (R + r.val) j.val * (I.q (R + r.val) (h * 128 + x.val) * I.sc) : ℝ) : EReal) := by
  pointwise [k0_pay10, k0_pay8]
  simp only [hd, h8, ← EReal.coe_mul, coe_sum]

/-- The tile adds its rows' part to the gradient of the values. -/
theorem tile_dv (v30 : FVec Ideal S256x1024 .f32) (v31 : Vec Ideal S256x128 .bf16) (v53 : Vec Ideal S1024x128 .f32)
    (h30 : ∀ r j, v30 (ix2 r j) = ((prob I h (R + r.val) j.val : ℝ) : EReal))
    (h31 : ∀ r x, v31 (ix2 r x) = ((I.dout (R + r.val) (h * 128 + x.val) : ℝ) : EReal)) (j : Fin 1024) (x : Fin 128) :
    k0_pay11 (F := Ideal) v30 v31 v53 (ix2 j x) = v53 (ix2 j x) + ((∑ r : Fin 256, prob I h (R + r.val) j.val * I.dout (R + r.val) (h * 128 + x.val) : ℝ) : EReal) := by
  pointwise [k0_pay11]
  simp only [h30, h31, ← EReal.coe_mul, coe_sum]

/-- The tile takes its rows' gradients of the logits off the gradient at the positions. -/
theorem tile_dd (v30 : FVec Ideal S256x1024 .f32) (v31 : Vec Ideal S256x128 .bf16) (v32 : Vec Ideal S1024x128 .bf16) (v60 : Vec Ideal S1x1024 .f32)
    (hd : ∀ r j, k0_pay7 (F := Ideal) v30 v31 v32 (ix2 r j) = ((dlogit I 1024 h (R + r.val) j.val : ℝ) : EReal)) (j : Fin 1024) :
    k0_pay12 (F := Ideal) v30 v31 v32 v60 (ix2 0 j) = v60 (ix2 0 j) - ((∑ r : Fin 256, dlogit I 1024 h (R + r.val) j.val : ℝ) : EReal) := by
  pointwise [k0_pay12]
  simp only [hd, ← EReal.coe_mul, coe_sum]
end Tile

/-! ## The blocks -/

/-- The queries' block at a grid point. -/
theorem idx0 : ∀ t : Fin grid0.N, win0_0.index t 0 = 2 + t.val % 2 ∧ win0_0.index t 1 = t.val / 2 := by decide +kernel
/-- The keys' block at a grid point. -/
theorem idx1 : ∀ t : Fin grid0.N, win0_1.index t 0 = 0 ∧ win0_1.index t 1 = t.val / 2 := by decide +kernel
/-- The values' block at a grid point. -/
theorem idx2 : ∀ t : Fin grid0.N, win0_2.index t 0 = 0 ∧ win0_2.index t 1 = 16 + t.val / 2 := by decide +kernel
/-- The rows' decay block at a grid point. -/
theorem idx3 : ∀ t : Fin grid0.N, win0_3.index t 0 = t.val / 2 ∧ win0_3.index t 1 = 2 + t.val % 2 ∧ win0_3.index t 2 = 0 := by decide +kernel
/-- The columns' decay block at a grid point. -/
theorem idx4 : ∀ t : Fin grid0.N, win0_4.index t 0 = t.val / 2 ∧ win0_4.index t 1 = 0 ∧ win0_4.index t 2 = 0 := by decide +kernel
/-- The log-sum-exp's block at a grid point. -/
theorem idx5 : ∀ t : Fin grid0.N, win0_5.index t 0 = t.val / 2 ∧ win0_5.index t 1 = 2 + t.val % 2 ∧ win0_5.index t 2 = 0 := by decide +kernel
/-- The incoming gradient's block at a grid point. -/
theorem idx6 : ∀ t : Fin grid0.N, win0_6.index t 0 = 2 + t.val % 2 ∧ win0_6.index t 1 = t.val / 2 := by decide +kernel

/-- The tile's queries. -/
theorem read_q (A : S2048x2048.Idx → EReal) (t : Fin cfg0.N) (r : Fin 256) (x : Fin 128) :
    ((cfg0.win 0).blk t).view.read (Elt Ideal) A (ix2 r x) = A (ix2 ⟨512 + 256 * (t.val % 2) + r.val, by have := r.2; omega⟩ ⟨t.val / 2 * 128 + x.val, by have := t.isLt; have : cfg0.N = 32 := rfl; have := x.2; omega⟩) := by
  show A _ = A _
  blk_ext [idx0 t]

/-- The head's keys. -/
theorem read_k (A : S2048x4096.Idx → EReal) (t : Fin cfg0.N) (j : Fin 1024) (x : Fin 128) :
    ((cfg0.win 1).blk t).view.read (Elt Ideal) A (ix2 j x) = A (ix2 ⟨j.val, by have := j.2; omega⟩ ⟨t.val / 2 * 128 + x.val, by have := t.isLt; have : cfg0.N = 32 := rfl; have := x.2; omega⟩) := by
  show A _ = A _
  blk_ext [idx1 t]

/-- The head's values. -/
theorem read_v (A : S2048x4096.Idx → EReal) (t : Fin cfg0.N) (j : Fin 1024) (x : Fin 128) :
    ((cfg0.win 2).blk t).view.read (Elt Ideal) A (ix2 j x) = A (ix2 ⟨j.val, by have := j.2; omega⟩ ⟨2048 + (t.val / 2 * 128 + x.val), by have := t.isLt; have : cfg0.N = 32 := rfl; have := x.2; omega⟩) := by
  show A _ = A _
  blk_ext [idx2 t]

/-- The head's running sums of the log gates at the tile's rows. -/
theorem read_dc (A : S16x2048x1.Idx → EReal) (t : Fin cfg0.N) (r : Fin 256) :
    ((cfg0.win 3).blk t).view.read (Elt Ideal) A (ix3 0 r 0) = A (ix3 ⟨t.val / 2, by have := t.isLt; have : cfg0.N = 32 := rfl; omega⟩ ⟨512 + 256 * (t.val % 2) + r.val, by have := r.2; omega⟩ 0) := by
  show A _ = A _
  blk_ext [idx3 t]

/-- The head's running sums of the log gates at the positions. -/
theorem read_dr (A : S16x1x2048.Idx → EReal) (t : Fin cfg0.N) (j : Fin 1024) :
    ((cfg0.win 4).blk t).view.read (Elt Ideal) A (ix3 0 0 j) = A (ix3 ⟨t.val / 2, by have := t.isLt; have : cfg0.N = 32 := rfl; omega⟩ 0 ⟨j.val, by have := j.2; omega⟩) := by
  show A _ = A _
  blk_ext [idx4 t]

/-- The log-sum-exps of the tile's rows. -/
theorem read_lse (A : S16x2048x1.Idx → EReal) (t : Fin cfg0.N) (r : Fin 256) :
    ((cfg0.win 5).blk t).view.read (Elt Ideal) A (ix3 0 r 0) = A (ix3 ⟨t.val / 2, by have := t.isLt; have : cfg0.N = 32 := rfl; omega⟩ ⟨512 + 256 * (t.val % 2) + r.val, by have := r.2; omega⟩ 0) := by
  show A _ = A _
  blk_ext [idx5 t]

/-- The tile's rows of the gradient of the output. -/
theorem read_do (A : S2048x2048.Idx → EReal) (t : Fin cfg0.N) (r : Fin 256) (x : Fin 128) :
    ((cfg0.win 6).blk t).view.read (Elt Ideal) A (ix2 r x) = A (ix2 ⟨512 + 256 * (t.val % 2) + r.val, by have := r.2; omega⟩ ⟨t.val / 2 * 128 + x.val, by have := t.isLt; have : cfg0.N = 32 := rfl; have := x.2; omega⟩) := by
  show A _ = A _
  blk_ext [idx6 t]

/-- The keys' gradient's block at a grid point. -/
theorem idx7 : ∀ t : Fin grid0.N, win0_7.index t 0 = 0 ∧ win0_7.index t 1 = t.val / 2 := by decide +kernel
/-- The values' gradient's block at a grid point. -/
theorem idx8 : ∀ t : Fin grid0.N, win0_8.index t 0 = 0 ∧ win0_8.index t 1 = t.val / 2 := by decide +kernel
/-- The decay gradient's block at a grid point. -/
theorem idx9 : ∀ t : Fin grid0.N, win0_9.index t 0 = t.val / 2 ∧ win0_9.index t 1 = 0 ∧ win0_9.index t 2 = 0 := by decide +kernel

/-- The gradient of the keys as the rows after left it. -/
theorem read_dk (A : S2048x2048.Idx → EReal) (t : Fin cfg0.N) (j : Fin 1024) (x : Fin 128) :
    ((cfg0.win 7).blk t).view.read (Elt Ideal) A (ix2 j x) = A (ix2 ⟨j.val, by have := j.2; omega⟩ ⟨t.val / 2 * 128 + x.val, by have := t.isLt; have : cfg0.N = 32 := rfl; have := x.2; omega⟩) := by
  show A _ = A _
  blk_ext [idx7 t]

/-- The gradient of the values as the rows after left it. -/
theorem read_dv (A : S2048x2048.Idx → EReal) (t : Fin cfg0.N) (j : Fin 1024) (x : Fin 128) :
    ((cfg0.win 8).blk t).view.read (Elt Ideal) A (ix2 j x) = A (ix2 ⟨j.val, by have := j.2; omega⟩ ⟨t.val / 2 * 128 + x.val, by have := t.isLt; have : cfg0.N = 32 := rfl; have := x.2; omega⟩) := by
  show A _ = A _
  blk_ext [idx8 t]

/-- The gradient at the positions as the rows after left it. -/
theorem read_dd (A : S16x1x2048.Idx → EReal) (t : Fin cfg0.N) (j : Fin 1024) :
    ((cfg0.win 9).blk t).view.read (Elt Ideal) A (ix3 0 0 j) = A (ix3 ⟨t.val / 2, by have := t.isLt; have : cfg0.N = 32 := rfl; omega⟩ 0 ⟨j.val, by have := j.2; omega⟩) := by
  show A _ = A _
  blk_ext [idx9 t]

/-! ## What the host prepares -/

variable (m : (ℓ : Loc nD τ sig) → Buf (Elt Ideal) ℓ)

/-- The log-sum-exps the host computes before the call. -/
theorem V_lse (c : Dev nD) : (V m c main_v31 : FVec Ideal S16x2048x1 .f32)
    = hostLse (hostLogits (m (c.tc.loc main_arg0)) (m (c.tc.loc main_arg1)) (m (c.tc.loc main_arg2)))
       (hostMax (hostLogits (m (c.tc.loc main_arg0)) (m (c.tc.loc main_arg1)) (m (c.tc.loc main_arg2)))) := by
  unfold hostLse hostMax hostLogits
  show StableHlo.after (hostOps0 ++ (hostOps0_1 ++ (hostOps0_2 ++ []))) _ _ = _
  simp only [List.cons_append, List.nil_append, List.append_nil]
  after_reads_simp
  rfl

/-- The running sums as a column. -/
theorem V_dcol (c : Dev nD) : (V m c main_v0 : FVec Ideal S16x2048x1 .f32)
    = shapeCast S16x2048x1 (m (c.tc.loc main_arg2) : FVec Ideal S16x2048 .f32) shapeCasts_S16x2048_S16x2048x1 := by
  show StableHlo.after (hostOps0 ++ (hostOps0_1 ++ (hostOps0_2 ++ []))) _ _ = _
  simp only [List.cons_append, List.nil_append, List.append_nil]
  after_reads_simp
  rfl

/-- The running sums as a row. -/
theorem V_drow (c : Dev nD) : (V m c main_v1 : FVec Ideal S16x1x2048 .f32)
    = shapeCast S16x1x2048 (m (c.tc.loc main_arg2) : FVec Ideal S16x2048 .f32) shapeCasts_S16x2048_S16x1x2048 := by
  show StableHlo.after (hostOps0 ++ (hostOps0_1 ++ (hostOps0_2 ++ []))) _ _ = _
  simp only [List.cons_append, List.nil_append, List.append_nil]
  after_reads_simp
  rfl

/-- The decay laid out as a column per head. -/
theorem dcol_apply (x : FVec Ideal S16x2048 .f32) (h : Fin 16) (r : Fin 2048) :
    shapeCast S16x2048x1 x shapeCasts_S16x2048_S16x2048x1 (ix3 h r 0) = x (ix2 h r) := by
  pointwise

/-- The decay laid out as a row per head. -/
theorem drow_apply (x : FVec Ideal S16x2048 .f32) (h : Fin 16) (r : Fin 2048) :
    shapeCast S16x1x2048 x shapeCasts_S16x2048_S16x1x2048 (ix3 h 0 r) = x (ix2 h r) := by
  pointwise

end Cert.Attn2Ideal.Proof
-- ==== Proof.Kern2.lean ====
module

public import proofs.«01_k».proof.Proof.Tile2

@[expose] public section

/-!
  The call of the attention backward kernel over the rows 512 to 1023, the positions being the first 1024: what the
  grid's points leave and what the result arrays end holding. The grid is sixteen heads by two tiles of 256 rows.
-/

set_option maxRecDepth 16384

noncomputable section

namespace Cert.Attn2Ideal.Proof

open Cert.Attn2Ideal Cert.Attn2Ideal.Gen Cert.Softmax Idealize.ShloMosaic Idealize.ShloMosaic.TcCoe Idealize.SL.Sem

variable (m : (ℓ : Loc nD τ sig) → Buf (Elt Ideal) ℓ)

/-- The arguments of a core as real functions. -/
def args (c : Dev nD) : Inp :=
  inp (m (c.tc.loc main_arg0)) (m (c.tc.loc main_arg1)) (m (c.tc.loc main_arg2)) (m (c.tc.loc main_arg3))

/-- The four arguments of a core hold real numbers. -/
def RealArgs (c : Dev nD) : Prop :=
  IsReal (s := Sq) (m (c.tc.loc main_arg0)) ∧ IsReal (s := Swide) (m (c.tc.loc main_arg1))
    ∧ IsReal (s := Sgate) (m (c.tc.loc main_arg2)) ∧ IsReal (s := Sq) (m (c.tc.loc main_arg3))

/-- The tile of queries at a grid point. -/
theorem coords_tile : ∀ t : Fin grid0.N, (grid0.coords t 1).val = t.val % 2 := by decide +kernel

variable (c : Dev nD) (hr : RealArgs m c) (t : Fin cfg0.N)
include hr

/-- The tile's queries as real numbers. -/
theorem at_q (r : Fin 256) (x : Fin 128) :
    (iblk m c 0 t : Vec Ideal S256x128 .f32) (ix2 r x) = (((args m c).q ((512 + 256 * (t.val % 2)) + r.val) (t.val / 2 * 128 + x.val) : ℝ) : EReal) := by
  have e := read_q (V m c main_arg0) t r x
  rw [V_main_arg0] at e
  exact e.trans (hr.1.at _ _)

/-- The head's keys as real numbers. -/
theorem at_k (j : Fin 1024) (x : Fin 128) :
    (iblk m c 1 t : Vec Ideal S1024x128 .bf16) (ix2 j x) = (((args m c).kv j.val (t.val / 2 * 128 + x.val) : ℝ) : EReal) := by
  have e := read_k (V m c main_arg1) t j x
  rw [V_main_arg1] at e
  exact e.trans (hr.2.1.at _ _)

/-- The head's values as real numbers. -/
theorem at_v (j : Fin 1024) (x : Fin 128) :
    (iblk m c 2 t : Vec Ideal S1024x128 .bf16) (ix2 j x) = (((args m c).kv j.val (2048 + (t.val / 2 * 128 + x.val)) : ℝ) : EReal) := by
  have e := read_v (V m c main_arg1) t j x
  rw [V_main_arg1] at e
  exact e.trans (hr.2.1.at _ _)

/-- The tile's cumulated decay, along the rows, as real numbers. -/
theorem at_dc (r : Fin 256) :
    (iblk m c 3 t : Vec Ideal S1x256x1 .f32) (ix3 0 r 0) = (((args m c).dc (t.val / 2) ((512 + 256 * (t.val % 2)) + r.val) : ℝ) : EReal) := by
  have e := read_dc (V m c main_v0) t r
  rw [V_dcol, dcol_apply] at e
  exact e.trans (hr.2.2.1.at _ _)

/-- The head's cumulated decay, along the columns, as real numbers. -/
theorem at_dr (j : Fin 1024) :
    (iblk m c 4 t : Vec Ideal S1x1x1024 .f32) (ix3 0 0 j) = (((args m c).dc (t.val / 2) j.val : ℝ) : EReal) := by
  have e := read_dr (V m c main_v1) t j
  rw [V_drow, drow_apply] at e
  exact e.trans (hr.2.2.1.at _ _)

/-- The tile's log-sum-exp: the logarithm of a row's total weight, at some real shift. -/
theorem at_lse (r : Fin 256) : ∃ M : ℝ, (iblk m c 5 t : Vec Ideal S1x256x1 .f32) (ix3 0 r 0)
    = ((M : ℝ) : EReal) + ((Real.log (∑ j' : Fin 2048, weight (args m c) M (t.val / 2) ((512 + 256 * (t.val % 2)) + r.val) j') : ℝ) : EReal) := by
  have e := read_lse (V m c main_v31) t r
  obtain ⟨M, hM⟩ := hostLse_apply (m (c.tc.loc main_arg0)) (m (c.tc.loc main_arg1)) (m (c.tc.loc main_arg2)) (m (c.tc.loc main_arg3)) hr.1 hr.2.1 hr.2.2.1 ⟨t.val / 2, by have := t.isLt; have : cfg0.N = 32 := rfl; omega⟩ ⟨512 + 256 * (t.val % 2) + r.val, by have := r.2; omega⟩
  exact ⟨M, e.trans ((congrFun (V_lse m c) _).trans hM)⟩

/-- The tile's incoming gradient as real numbers. -/
theorem at_do (r : Fin 256) (x : Fin 128) :
    (iblk m c 6 t : Vec Ideal S256x128 .bf16) (ix2 r x) = (((args m c).dout ((512 + 256 * (t.val % 2)) + r.val) (t.val / 2 * 128 + x.val) : ℝ) : EReal) := by
  have e := read_do (V m c main_arg3) t r x
  rw [V_main_arg3] at e
  exact e.trans (hr.2.2.2.at _ _)

omit hr in
/-- The weights of a point's tile. -/
def probT : FVec Ideal S256x1024 .f32 :=
  k0_pay6 (F := Ideal) (grid0.coords t) (iblk m c 0 t) (iblk m c 1 t) (iblk m c 3 t) (iblk m c 4 t) (iblk m c 5 t)

/-- The kernel's probabilities over the tile are the real ones. -/
theorem probT_apply (r : Fin 256) (j : Fin 1024) :
    probT m c t (ix2 r j) = ((prob (args m c) (t.val / 2) ((512 + 256 * (t.val % 2)) + r.val) j.val : ℝ) : EReal) :=
  tile_prob (args m c) (t.val / 2) (512 + 256 * (t.val % 2)) (grid0.coords t) (by rw [coords_tile]; omega) _ _ _ _ _ rfl
    (at_q m c hr t) (at_k m c hr t) (at_dc m c hr t) (at_dr m c hr t) (at_lse m c hr t) r j

/-- The kernel's logit gradients over the tile are the real ones. -/
theorem dlogitT_apply (r : Fin 256) (j : Fin 1024) :
    k0_pay7 (F := Ideal) (probT m c t) (iblk m c 6 t) (iblk m c 2 t) (ix2 r j) = ((dlogit (args m c) 1024 (t.val / 2) ((512 + 256 * (t.val % 2)) + r.val) j.val : ℝ) : EReal) :=
  tile_dlogit (args m c) (t.val / 2) (512 + 256 * (t.val % 2)) _ _ _ (probT_apply m c hr t) (at_do m c hr t) (at_v m c hr t) r j

/-- The tile's scaled queries as real numbers. -/
theorem scaledT_apply (r : Fin 256) (x : Fin 128) :
    k0_pay5 (F := Ideal) (iblk m c 0 t) (ix2 r x) = (((args m c).q ((512 + 256 * (t.val % 2)) + r.val) (t.val / 2 * 128 + x.val) * (args m c).sc : ℝ) : EReal) := by
  pointwise [k0_pay5]
  rw [EReal.coe_mul, ← at_q m c hr t r x, scale_eq]
  rfl

/-- What a point's rows add to the gradient of the keys. -/
theorem dkT_apply (acc : Vec Ideal S1024x128 .f32) (j : Fin 1024) (x : Fin 128) :
    k0_pay10 (F := Ideal) (k0_pay5 (iblk m c 0 t)) (probT m c t) (iblk m c 6 t) (iblk m c 2 t) acc (ix2 j x)
      = acc (ix2 j x) + ((∑ r : Fin 256, dlogit (args m c) 1024 (t.val / 2) ((512 + 256 * (t.val % 2)) + r.val) j.val * ((args m c).q ((512 + 256 * (t.val % 2)) + r.val) (t.val / 2 * 128 + x.val) * (args m c).sc) : ℝ) : EReal) :=
  tile_dk (args m c) (t.val / 2) (512 + 256 * (t.val % 2)) _ _ _ _ acc (dlogitT_apply m c hr t) (scaledT_apply m c hr t) j x

/-- What a point's rows add to the gradient of the values. -/
theorem dvT_apply (acc : Vec Ideal S1024x128 .f32) (j : Fin 1024) (x : Fin 128) :
    k0_pay11 (F := Ideal) (probT m c t) (iblk m c 6 t) acc (ix2 j x)
      = acc (ix2 j x) + ((∑ r : Fin 256, prob (args m c) (t.val / 2) ((512 + 256 * (t.val % 2)) + r.val) j.val * (args m c).dout ((512 + 256 * (t.val % 2)) + r.val) (t.val / 2 * 128 + x.val) : ℝ) : EReal) :=
  tile_dv (args m c) (t.val / 2) (512 + 256 * (t.val % 2)) _ _ acc (probT_apply m c hr t) (at_do m c hr t) j x

/-- What a point's rows take off the gradient at the positions. -/
theorem ddT_apply (acc : Vec Ideal S1x1024 .f32) (j : Fin 1024) :
    k0_pay12 (F := Ideal) (probT m c t) (iblk m c 6 t) (iblk m c 2 t) acc (ix2 0 j)
      = acc (ix2 0 j) - ((∑ r : Fin 256, dlogit (args m c) 1024 (t.val / 2) ((512 + 256 * (t.val % 2)) + r.val) j.val : ℝ) : EReal) :=
  tile_dd (args m c) (t.val / 2) (512 + 256 * (t.val % 2)) _ _ _ acc (dlogitT_apply m c hr t) j

/-- A point's rows of the gradient of the queries. -/
theorem dqT_apply (r : Fin 256) (x : Fin 128) :
    k0_pay9 (F := Ideal) (probT m c t) (iblk m c 6 t) (iblk m c 2 t) (iblk m c 1 t) (ix2 r x)
      = ((dqV (args m c) 1024 ((512 + 256 * (t.val % 2)) + r.val) (t.val / 2 * 128 + x.val) : ℝ) : EReal) :=
  tile_dq (args m c) (t.val / 2) (512 + 256 * (t.val % 2)) _ _ _ _ (dlogitT_apply m c hr t) rfl (at_k m c hr t) r x
omit hr

/-! ## What the points leave -/

/-- The keys' gradient after the first tile of a head. -/
theorem dk_first (h0 : t.val % 2 = 0) :
    ((outsAt0 m c t.val t.isLt).2.2.2.2.1 : Vec Ideal S1024x128 .f32) = k0_pay10 (F := Ideal) (k0_pay5 (iblk m c 0 t)) (probT m c t) (iblk m c 6 t) (iblk m c 2 t) (k0_pay2 (F := Ideal) (iblk m c 7 t)) := by
  rw [outsAt0_A m c t h0 (by omega)]
  frame_out
  try rfl

/-- The keys' gradient after the second tile of a head. -/
theorem dk_second (h0 : t.val % 2 = 1) :
    ((outsAt0 m c t.val t.isLt).2.1 : Vec Ideal S1024x128 .f32) = k0_pay10 (F := Ideal) (k0_pay5 (iblk m c 0 t)) (probT m c t) (iblk m c 6 t) (iblk m c 2 t) (outsAt0 m c (t.val - 1) (by have := t.isLt; omega)).2.2.2.2.1 := by
  rw [outsAt0_B m c t (by omega) h0]
  frame_out
  simp only [read_unread_whole]
  try rfl

/-- The values' gradient after the first tile of a head. -/
theorem dv_first (h0 : t.val % 2 = 0) :
    ((outsAt0 m c t.val t.isLt).2.2.2.2.2.1 : Vec Ideal S1024x128 .f32) = k0_pay11 (F := Ideal) (probT m c t) (iblk m c 6 t) (k0_pay3 (F := Ideal) (iblk m c 8 t)) := by
  rw [outsAt0_A m c t h0 (by omega)]
  frame_out
  try rfl

/-- The values' gradient after the second tile of a head. -/
theorem dv_second (h0 : t.val % 2 = 1) :
    ((outsAt0 m c t.val t.isLt).2.2.1 : Vec Ideal S1024x128 .f32) = k0_pay11 (F := Ideal) (probT m c t) (iblk m c 6 t) (outsAt0 m c (t.val - 1) (by have := t.isLt; omega)).2.2.2.2.2.1 := by
  rw [outsAt0_B m c t (by omega) h0]
  frame_out
  simp only [read_unread_whole]
  try rfl

/-- The decay's gradient after the first tile of a head. -/
theorem dd_first (h0 : t.val % 2 = 0) :
    ((outsAt0 m c t.val t.isLt).2.2.2.2.2.2 : Vec Ideal S1x1024 .f32) = k0_pay12 (F := Ideal) (probT m c t) (iblk m c 6 t) (iblk m c 2 t) (k0_pay4 (F := Ideal) (iblk m c 9 t)) := by
  rw [outsAt0_A m c t h0 (by omega)]
  frame_out
  try rfl

/-- The decay's gradient after the second tile of a head. -/
theorem dd_second (h0 : t.val % 2 = 1) :
    ((outsAt0 m c t.val t.isLt).2.2.2.1 : Vec Ideal S1x1x1024 .f32) = k0_pay1 (F := Ideal) (k0_pay12 (F := Ideal) (probT m c t) (iblk m c 6 t) (iblk m c 2 t) (outsAt0 m c (t.val - 1) (by have := t.isLt; omega)).2.2.2.2.2.2) := by
  rw [outsAt0_B m c t (by omega) h0]
  frame_out
  simp only [read_unread_whole]
  try rfl

/-- The queries' gradient at a grid point is the kernel's formula over the tile. -/
theorem dq_point : ((outsAt0 m c t.val t.isLt).1 : Vec Ideal S256x128 .bf16) = k0_pay9 (F := Ideal) (probT m c t) (iblk m c 6 t) (iblk m c 2 t) (iblk m c 1 t) := by
  by_cases h0 : t.val % 2 = 0
  · rw [outsAt0_A m c t h0 (by omega)]
    frame_out
    try rfl
  · rw [outsAt0_B m c t h0 (by omega)]
    frame_out
    try rfl

end Cert.Attn2Ideal.Proof
-- ==== Proof.Arr2.lean ====
module

public import proofs.«01_k».proof.Proof.Kern2

@[expose] public section

/-!
  The call of the attention backward kernel over the rows 512 to 1023, the positions being the first 1024: the four
  result arrays after the run, at an index.
-/

set_option maxRecDepth 16384

noncomputable section

namespace Cert.Attn2Ideal.Proof

open Cert.Attn2Ideal Cert.Attn2Ideal.Gen Cert.Softmax Idealize.ShloMosaic Idealize.ShloMosaic.TcCoe Idealize.SL.Sem

variable (m : (ℓ : Loc nD τ sig) → Buf (Elt Ideal) ℓ)
variable (c : Dev nD)

/-- The gradient of the queries in the rows of the call. -/
def endDq (i : S2048x2048.Idx) : EReal := ((dqV (args m c) 1024 (i 0).val (i 1).val : ℝ) : EReal)

/-- The gradient of the keys as the rows after left it. -/
def carryDk : S2048x2048.Idx → EReal := m (c.tc.loc main_arg5)

/-- The gradient of the keys after the call, at the positions it takes part in. -/
def endDk (i : S2048x2048.Idx) : EReal := carryDk m c i + ((dkV (args m c) 1024 512 (i 0).val (i 1).val : ℝ) : EReal)

/-- The second result before the kernel runs is the keys' gradient it is handed. -/
theorem V_out1 : (V m c main_v32_1 : S2048x2048.Idx → EReal) = carryDk m c := by
  show StableHlo.after (hostOps0 ++ (hostOps0_1 ++ (hostOps0_2 ++ []))) _ _ = _
  simp only [List.cons_append, List.nil_append, List.append_nil]
  after_reads_simp
  rfl

/-- The gradient of the values as the rows after left it. -/
def carryDv : S2048x2048.Idx → EReal := m (c.tc.loc main_arg6)

/-- The gradient of the values after the call, at the positions it takes part in. -/
def endDv (i : S2048x2048.Idx) : EReal := carryDv m c i + ((dvV (args m c) 512 (i 0).val (i 1).val : ℝ) : EReal)

/-- The third result before the kernel runs is the values' gradient it is handed. -/
theorem V_out2 : (V m c main_v32_2 : S2048x2048.Idx → EReal) = carryDv m c := by
  show StableHlo.after (hostOps0 ++ (hostOps0_1 ++ (hostOps0_2 ++ []))) _ _ = _
  simp only [List.cons_append, List.nil_append, List.append_nil]
  after_reads_simp
  rfl

/-- The gradient of the running sums of the log gates as the rows after left it. -/
def carryDd : S16x1x2048.Idx → EReal := m (c.tc.loc main_arg7)

/-- The gradient of the running sums of the log gates after the call, at the positions it takes part in. -/
def endDd (i : S16x1x2048.Idx) : EReal := carryDd m c i + ((ddV (args m c) 1024 512 (i 0).val (i 2).val : ℝ) : EReal)

/-- The fourth result before the kernel runs is the columns' decay gradient it is handed. -/
theorem V_out3 : (V m c main_v32_3 : S16x1x2048.Idx → EReal) = carryDd m c := by
  show StableHlo.after (hostOps0 ++ (hostOps0_1 ++ (hostOps0_2 ++ []))) _ _ = _
  simp only [List.cons_append, List.nil_append, List.append_nil]
  after_reads_simp
  rfl

/-- The gradient of the queries as the rows after left it. -/
def carryDq : S2048x2048.Idx → EReal := m (c.tc.loc main_arg4)

/-- The first result before the kernel runs is the queries' gradient it is handed. -/
theorem V_out0 : (V m c main_v32_0 : S2048x2048.Idx → EReal) = carryDq m c := by
  show StableHlo.after (hostOps0 ++ (hostOps0_1 ++ (hostOps0_2 ++ []))) _ _ = _
  simp only [List.cons_append, List.nil_append, List.append_nil]
  after_reads_simp
  rfl

/-- A sum over 512 rows is the sum over the first 256 and the sum over the second. -/
theorem sum_rows (f : ℕ → ℝ) : (∑ r : Fin 256, f (512 + 256 * 0 + r.val)) + ∑ r : Fin 256, f (512 + 256 * 1 + r.val) = ∑ r : Fin 512, f (512 + r.val) := by
  refine ((Fin.sum_univ_add (a := 256) (b := 256) _).trans ?_).symm
  simp only [Fin.val_castAdd, Fin.val_natAdd, ← Nat.add_assoc]

variable (hr : RealArgs m c) (t : Fin cfg0.N)
include hr

/-- What the kernel leaves for the keys' gradient at the last tile of a head, as a real sum. -/
theorem dk_out (h0 : t.val % 2 = 1) (j : Fin 1024) (x : Fin 128) :
    ((outsAt0 m c t.val t.isLt).2.1 : Vec Ideal S1024x128 .f32) (ix2 j x) = endDk m c (ix2 ⟨j.val, by have := j.2; omega⟩ ⟨t.val / 2 * 128 + x.val, by have := t.isLt; have : cfg0.N = 32 := rfl; have := x.2; omega⟩) := by
  have ht : t.val - 1 < cfg0.N := by have := t.isLt; omega
  have e := (congrFun (dk_first m c ⟨t.val - 1, ht⟩ (by show (t.val - 1) % 2 = 0; omega)) (ix2 j x)).trans
    (dkT_apply m c hr ⟨t.val - 1, ht⟩ _ j x)
  show _ = carryDk m c _ + ((dkV (args m c) 1024 512 j.val (t.val / 2 * 128 + x.val) : ℝ) : EReal)
  rw [dk_second m c t h0, dkT_apply m c hr t]
  refine (congrArg (· + _) e).trans ?_
  have e7 := read_dk (V m c main_arg5) ⟨t.val - 1, ht⟩ j x
  rw [V_main_arg5] at e7
  have ec : k0_pay2 (F := Ideal) (iblk m c 7 ⟨t.val - 1, ht⟩) (ix2 j x) = (iblk m c 7 ⟨t.val - 1, ht⟩ : Vec Ideal S1024x128 .f32) (ix2 j x) := by pointwise [k0_pay2]
  simp only [show (t.val - 1) % 2 = 0 by omega, h0, show (t.val - 1) / 2 = t.val / 2 by omega] at e7 ⊢
  rw [add_assoc, ← EReal.coe_add]
  refine congr (congrArg _ (ec.trans e7)) (congrArg _ ?_)
  unfold dkV
  rw [show (t.val / 2 * 128 + x.val) / 128 = t.val / 2 by have := x.2; omega]
  exact sum_rows (fun r => dlogit (args m c) 1024 (t.val / 2) r j.val * ((args m c).q r (t.val / 2 * 128 + x.val) * (args m c).sc))

/-- The gradient of the keys after the call. -/
theorem dk_array : (dats m 0 c).arrAt 11 cfg0.N = fun i : S2048x2048.Idx => if (i 0).val < 1024 then endDk m c i else carryDk m c i := by
  have e : ∀ t : Fin grid0.N, win0_11.index t 0 = 0 ∧ win0_11.index t 1 = t.val / 2 := by decide +kernel
  refine ((dats m 0 c).arrAt_eq_of_coversWhere 11 (endDk m c) (P := fun i : S2048x2048.Idx => (i 0).val < 1024) (fun β => β 0 = 0) (by decide +kernel) (fun t hf y => ?_) (fun j => by blk_simp [Pipeline.Window.cell_apply]; omega)).trans ?_
  · have h0 : t.val % 2 = 1 := (flush0_11 t).mp hf
    blk_simp
    rw [after0_11]
    rw [show y = ix2 (y 0) (y 1) from by funext a; fin_cases a <;> rfl]
    refine (dk_out m c hr t h0 (y 0) (y 1)).trans (congrArg (endDk m c) ?_)
    blk_ext [e t]
  · rw [← V_out1]
    rfl

/-- What the kernel leaves for the values' gradient at the last tile of a head, as a real sum. -/
theorem dv_out (h0 : t.val % 2 = 1) (j : Fin 1024) (x : Fin 128) :
    ((outsAt0 m c t.val t.isLt).2.2.1 : Vec Ideal S1024x128 .f32) (ix2 j x) = endDv m c (ix2 ⟨j.val, by have := j.2; omega⟩ ⟨t.val / 2 * 128 + x.val, by have := t.isLt; have : cfg0.N = 32 := rfl; have := x.2; omega⟩) := by
  have ht : t.val - 1 < cfg0.N := by have := t.isLt; omega
  have e := (congrFun (dv_first m c ⟨t.val - 1, ht⟩ (by show (t.val - 1) % 2 = 0; omega)) (ix2 j x)).trans
    (dvT_apply m c hr ⟨t.val - 1, ht⟩ _ j x)
  show _ = carryDv m c _ + ((dvV (args m c) 512 j.val (t.val / 2 * 128 + x.val) : ℝ) : EReal)
  rw [dv_second m c t h0, dvT_apply m c hr t]
  refine (congrArg (· + _) e).trans ?_
  have e7 := read_dv (V m c main_arg6) ⟨t.val - 1, ht⟩ j x
  rw [V_main_arg6] at e7
  have ec : k0_pay3 (F := Ideal) (iblk m c 8 ⟨t.val - 1, ht⟩) (ix2 j x) = (iblk m c 8 ⟨t.val - 1, ht⟩ : Vec Ideal S1024x128 .f32) (ix2 j x) := by pointwise [k0_pay3]
  simp only [show (t.val - 1) % 2 = 0 by omega, h0, show (t.val - 1) / 2 = t.val / 2 by omega] at e7 ⊢
  rw [add_assoc, ← EReal.coe_add]
  refine congr (congrArg _ (ec.trans e7)) (congrArg _ ?_)
  unfold dvV
  rw [show (t.val / 2 * 128 + x.val) / 128 = t.val / 2 by have := x.2; omega]
  exact sum_rows (fun r => prob (args m c) (t.val / 2) r j.val * (args m c).dout r (t.val / 2 * 128 + x.val))

/-- The gradient of the values after the call. -/
theorem dv_array : (dats m 0 c).arrAt 12 cfg0.N = fun i : S2048x2048.Idx => if (i 0).val < 1024 then endDv m c i else carryDv m c i := by
  have e : ∀ t : Fin grid0.N, win0_12.index t 0 = 0 ∧ win0_12.index t 1 = t.val / 2 := by decide +kernel
  refine ((dats m 0 c).arrAt_eq_of_coversWhere 12 (endDv m c) (P := fun i : S2048x2048.Idx => (i 0).val < 1024) (fun β => β 0 = 0) (by decide +kernel) (fun t hf y => ?_) (fun j => by blk_simp [Pipeline.Window.cell_apply]; omega)).trans ?_
  · have h0 : t.val % 2 = 1 := (flush0_12 t).mp hf
    blk_simp
    rw [after0_12]
    rw [show y = ix2 (y 0) (y 1) from by funext a; fin_cases a <;> rfl]
    refine (dv_out m c hr t h0 (y 0) (y 1)).trans (congrArg (endDv m c) ?_)
    blk_ext [e t]
  · rw [← V_out2]
    rfl

/-- What the kernel leaves for the decay's gradient at the last tile of a head, as a real sum. -/
theorem dd_out (h0 : t.val % 2 = 1) (j : Fin 1024) :
    ((outsAt0 m c t.val t.isLt).2.2.2.1 : Vec Ideal S1x1x1024 .f32) (ix3 0 0 j) = endDd m c (ix3 ⟨t.val / 2, by have := t.isLt; have : cfg0.N = 32 := rfl; omega⟩ 0 ⟨j.val, by have := j.2; omega⟩) := by
  have ht : t.val - 1 < cfg0.N := by have := t.isLt; omega
  have e := (congrFun (dd_first m c ⟨t.val - 1, ht⟩ (by show (t.val - 1) % 2 = 0; omega)) (ix2 0 j)).trans
    (ddT_apply m c hr ⟨t.val - 1, ht⟩ _ j)
  show _ = carryDd m c _ + ((ddV (args m c) 1024 512 (t.val / 2) j.val : ℝ) : EReal)
  rw [dd_second m c t h0]
  have e1 : ∀ v : Vec Ideal S1x1024 .f32, k0_pay1 (F := Ideal) v (ix3 0 0 j) = v (ix2 0 j) := fun v => by pointwise [k0_pay1]
  rw [e1, ddT_apply m c hr t]
  refine (congrArg (· - _) e).trans ?_
  have e7 := read_dd (V m c main_arg7) ⟨t.val - 1, ht⟩ j
  rw [V_main_arg7] at e7
  have ec : k0_pay4 (F := Ideal) (iblk m c 9 ⟨t.val - 1, ht⟩) (ix2 0 j) = (iblk m c 9 ⟨t.val - 1, ht⟩ : Vec Ideal S1x1x1024 .f32) (ix3 0 0 j) := by pointwise [k0_pay4]
  simp only [show (t.val - 1) % 2 = 0 by omega, h0, show (t.val - 1) / 2 = t.val / 2 by omega] at e7 ⊢
  rw [sub_eq_add_neg, sub_eq_add_neg, ← EReal.coe_neg, ← EReal.coe_neg, add_assoc, ← EReal.coe_add]
  refine congr (congrArg _ (ec.trans e7)) (congrArg _ ?_)
  unfold ddV
  rw [← neg_add]
  exact congrArg _ (sum_rows (fun r => dlogit (args m c) 1024 (t.val / 2) r j.val))

/-- The gradient of the running sums of the log gates after the call. -/
theorem dd_array : (dats m 0 c).arrAt 13 cfg0.N = fun i : S16x1x2048.Idx => if (i 2).val < 1024 then endDd m c i else carryDd m c i := by
  have e : ∀ t : Fin grid0.N, win0_13.index t 0 = t.val / 2 ∧ win0_13.index t 1 = 0 ∧ win0_13.index t 2 = 0 := by decide +kernel
  refine ((dats m 0 c).arrAt_eq_of_coversWhere 13 (endDd m c) (P := fun i : S16x1x2048.Idx => (i 2).val < 1024) (fun β => β 2 = 0) (by decide +kernel) (fun t hf y => ?_) (fun j => by blk_simp [Pipeline.Window.cell_apply]; omega)).trans ?_
  · have h0 : t.val % 2 = 1 := (flush0_13 t).mp hf
    blk_simp
    rw [after0_13]
    rw [show y = ix3 0 0 (y 2) from by funext a; fin_cases a; exact Subsingleton.elim (α := Fin 1) _ _; exact Subsingleton.elim (α := Fin 1) _ _; rfl]
    refine (dd_out m c hr t h0 (y 2)).trans (congrArg (endDd m c) ?_)
    blk_ext [e t]
  · rw [← V_out3]
    rfl

/-- What the kernel leaves for the queries' gradient at a tile, as a real sum. -/
theorem dq_out (r : Fin 256) (x : Fin 128) :
    ((outsAt0 m c t.val t.isLt).1 : Vec Ideal S256x128 .bf16) (ix2 r x) = endDq m c (ix2 ⟨512 + 256 * (t.val % 2) + r.val, by have := r.2; omega⟩ ⟨t.val / 2 * 128 + x.val, by have := t.isLt; have : cfg0.N = 32 := rfl; have := x.2; omega⟩) := by
  rw [dq_point m c t]
  exact dqT_apply m c hr t r x

/-- The gradient of the queries after the call: the call's rows of it are written, the other rows kept. -/
theorem dq_array : (dats m 0 c).arrAt 10 cfg0.N = fun i : S2048x2048.Idx => if 512 ≤ (i 0).val ∧ (i 0).val < 1024 then endDq m c i else carryDq m c i := by
  have e : ∀ t : Fin grid0.N, win0_10.index t 0 = 2 + t.val % 2 ∧ win0_10.index t 1 = t.val / 2 := by decide +kernel
  refine ((dats m 0 c).arrAt_eq_of_coversWhere 10 (endDq m c) (P := fun i : S2048x2048.Idx => 512 ≤ (i 0).val ∧ (i 0).val < 1024) (fun β => 2 ≤ β 0 ∧ β 0 < 4) (by decide +kernel) (fun t hf y => ?_) (fun j => by blk_simp [Pipeline.Window.cell_apply]; omega)).trans ?_
  · blk_simp
    rw [after0_10]
    rw [show y = ix2 (y 0) (y 1) from by funext a; fin_cases a <;> rfl]
    refine (dq_out m c hr t (y 0) (y 1)).trans (congrArg (endDq m c) ?_)
    blk_ext [e t]
  · rw [← V_out0]
    rfl

end Cert.Attn2Ideal.Proof
-- ==== Proof.Ref2.lean ====
/- The reference of the call over rows 512 to 1023, read one operation after the other: the logits, their maximum, the
   weights, the gradients, and the four results. Every value is a real number. -/
module

public import proofs.«01_k».proof.Proof.Gen.AttnGrad2Ideal.Read
public import proofs.«01_k».proof.Proof.Lse

@[expose] public section

set_option maxRecDepth 16384

noncomputable section

namespace Cert.AttnGrad2Ideal.Proof

open Cert.AttnGrad2Ideal Cert.AttnGrad2Ideal.Gen Cert.AttnGrad2Ideal.Read Cert.Softmax Idealize.ShloMosaic

variable (x0 : FVec Ideal S2048x2048 .f32) (x1 : FVec Ideal S2048x4096 .bf16) (x2 : FVec Ideal S16x2048 .f32) (x3 : FVec Ideal S2048x2048 .bf16)

/-- The reference's logits: the masked ones are negative infinity. -/
theorem logits_apply (h0 : IsReal x0) (h1 : IsReal x1) (h2 : IsReal x2) (h : Fin 16) (r : Fin 512) (j : Fin 1024) :
    val_main_v28_0 (F := Ideal) x0 x1 x2 (ix3 h r j) = logitE (inp x0 x1 x2 x3) h (512 + r.val) j := by
  pointwise [val_main_v28_0, val_main_v28_1, val_main_v27, val_main_v25, val_main_v22, val_main_v21, val_main_v20, val_main_c, val_main_v19, val_main_v26, val_main_v24, val_main_v23, val_main_v18, val_main_v15, val_main_v11, val_main_v8, val_main_v6, val_main_v4, val_main_v7, val_main_cst, val_main_v9, val_main_v1, val_main_v0, val_main_v14, val_main_v13, val_main_v12, val_main_v5, val_main_v17, val_main_v16, val_main_call0_v2, val_main_call0_v0, val_main_cst_0]
  simp only [h0.at, h1.at, h2.at]
  rw [word_add]
  show Scalar.select _ _ (Ideal.ofBits .f32 4286578688#32) = _
  rw [ofBits_bot, scale_eq]
  have e := coe_logit (inp x0 x1 x2 x3) h (512 + r.val) j
  have e' := select_visible (IntOp.cmpi .sge (BitVec.ofNat 32 (512 + r.val)) (BitVec.ofNat 32 ↑j)) (512 + r.val) j
    (word_sge _ _ (by have := r.2; omega) (by have := j.2; omega)) (logit (inp x0 x1 x2 x3) h (512 + r.val) j)
  rw [← e] at e'
  exact e'.trans (by unfold logitE; rw [← e])

/-- A row's maximum, of any array. -/
theorem max_of (x : FVec Ideal S16x512x1024 .f32) (h : Fin 16) (r : Fin 512) :
    Host.reduce (FloatOps.maximumf (F := Ideal)) x (constant (F := Ideal) S_ .f32 0xFF800000#32) reducesTo_S16x512x1024_S16x512_d2 h_S_ (ix2 h r)
      = Finset.fold max ⊥ (fun j : Fin 1024 => x (ix3 h r j)) Finset.univ := by
  rw [reduce_max_last]
  exact congrArg (fun z => Finset.fold max z _ _) ofBits_bot

/-- The reference's row maximum, as a fold. -/
theorem max_fold (h : Fin 16) (r : Fin 512) :
    val_main_v29 (F := Ideal) x0 x1 x2 (ix2 h r) = Finset.fold max ⊥ (fun j : Fin 1024 => val_main_v28_0 (F := Ideal) x0 x1 x2 (ix3 h r j)) Finset.univ := by
  unfold val_main_v29 val_main_cst_1
  exact max_of _ h r

/-- The row maximum the gradient recomputes is the forward one. -/
theorem max_twice (i : S16x512.Idx) : val_main_v36 (F := Ideal) x0 x1 x2 i = val_main_v29 (F := Ideal) x0 x1 x2 i := by
  rw [val_main_v36_apply, val_main_v35_apply, val_main_cst_3_apply]
  exact max_with_bot _

/-- The maximum of a row's logits is a real number. -/
theorem max_logits (h0 : IsReal x0) (h1 : IsReal x1) (h2 : IsReal x2) (h : Fin 16) (r : Fin 512) :
    Finset.fold max ⊥ (fun j : Fin 1024 => val_main_v28_0 (F := Ideal) x0 x1 x2 (ix3 h r j)) Finset.univ
      = ((rowMax (inp x0 x1 x2 x3) 1024 h (512 + r.val) : ℝ) : EReal) := by
  rw [← coe_rowMax _ _ _ _ (by have := r.2; omega)]
  exact congrArg (fun f => Finset.fold max ⊥ f Finset.univ) (funext fun j => logits_apply x0 x1 x2 x3 h0 h1 h2 h r j)

/-- The reference's row maximum is a real number. -/
theorem max_apply (h0 : IsReal x0) (h1 : IsReal x1) (h2 : IsReal x2) (h : Fin 16) (r : Fin 512) :
    val_main_v36 (F := Ideal) x0 x1 x2 (ix2 h r) = ((rowMax (inp x0 x1 x2 x3) 1024 h (512 + r.val) : ℝ) : EReal) := by
  rw [max_twice, max_fold, max_logits x0 x1 x2 x3 h0 h1 h2]

/-- The reference's weights as real numbers. -/
theorem weight_apply (h0 : IsReal x0) (h1 : IsReal x1) (h2 : IsReal x2) (h : Fin 16) (r : Fin 512) (j : Fin 1024) :
    val_main_v49 (F := Ideal) x0 x1 x2 (ix3 h r j)
      = ((weight (inp x0 x1 x2 x3) (rowMax (inp x0 x1 x2 x3) 1024 h (512 + r.val)) h (512 + r.val) j : ℝ) : EReal) := by
  pointwise [val_main_v49, val_main_v48, val_main_v47, val_main_v46]
  rw [logits_apply x0 x1 x2 x3 h0 h1 h2, max_apply x0 x1 x2 x3 h0 h1 h2]
  exact exp_logitE_sub _ _ _ _ _

/-- The reference's row sums as real numbers. -/
theorem sum_apply (h0 : IsReal x0) (h1 : IsReal x1) (h2 : IsReal x2) (h : Fin 16) (r : Fin 512) :
    val_main_v50 (F := Ideal) x0 x1 x2 (ix2 h r) = ((rowSum (inp x0 x1 x2 x3) 1024 h (512 + r.val) : ℝ) : EReal) := by
  pointwise [val_main_v50, val_main_cst_9]
  simp only [weight_apply x0 x1 x2 x3 h0 h1 h2]
  exact coe_sum _

/-- The reference's probabilities as real numbers. -/
theorem prob_apply (h0 : IsReal x0) (h1 : IsReal x1) (h2 : IsReal x2) (h : Fin 16) (r : Fin 512) (j : Fin 1024) :
    val_main_v53 (F := Ideal) x0 x1 x2 (ix3 h r j) = ((prob (inp x0 x1 x2 x3) h (512 + r.val) j : ℝ) : EReal) := by
  pointwise [val_main_v53, val_main_v52, val_main_v51]
  rw [weight_apply x0 x1 x2 x3 h0 h1 h2, sum_apply x0 x1 x2 x3 h0 h1 h2]
  have hr : 512 + r.val < 1024 := by have := r.2; omega
  exact (div_coe_ne _ _ (rowSum_ne _ _ _ _ hr)).trans (congrArg _ (weight_div _ 1024 _ _ _ _ hr))

/-- The gradient of the reference's probabilities. -/
theorem dprob_apply (h1 : IsReal x1) (h3 : IsReal x3) (h : Fin 16) (r : Fin 512) (j : Fin 1024) :
    val_main_v64 (F := Ideal) x1 x3 (ix3 h r j) = ((dprob (inp x0 x1 x2 x3) h (512 + r.val) j : ℝ) : EReal) := by
  pointwise [val_main_v64, val_main_v63, val_main_v62, val_main_v61, val_main_v60, val_main_v10, val_main_v3, val_main_v2]
  simp only [h1.at, h3.at]
  exact coe_dprob (inp x0 x1 x2 x3) h (512 + r.val) j

/-- The gradient of the reference's logits. -/
theorem dlogit_apply (h0 : IsReal x0) (h1 : IsReal x1) (h2 : IsReal x2) (h3 : IsReal x3) (h : Fin 16) (r : Fin 512) (j : Fin 1024) :
    val_main_v79 (F := Ideal) x0 x1 x2 x3 (ix3 h r j) = ((dlogit (inp x0 x1 x2 x3) 1024 h (512 + r.val) j : ℝ) : EReal) := by
  pointwise [val_main_v79, val_main_v28_1, val_main_v27, val_main_v25, val_main_v22, val_main_v21, val_main_v20, val_main_c, val_main_v19, val_main_v26, val_main_v24, val_main_v23, val_main_v78, val_main_v77, val_main_v74, val_main_v73, val_main_v51, val_main_v76, val_main_v75, val_main_v72, val_main_v71, val_main_v70, val_main_v69, val_main_v68, val_main_v67, val_main_v56, val_main_v55, val_main_cst_10, val_main_v54, val_main_cst_11, val_main_cst_12, val_main_call1_v0, val_main_call1_cst]
  simp only [dprob_apply x0 x1 x2 x3 h1 h3, weight_apply x0 x1 x2 x3 h0 h1 h2, sum_apply x0 x1 x2 x3 h0 h1 h2]
  have hr : 512 + r.val < 1024 := by have := r.2; omega
  have e := coe_dlogit (inp x0 x1 x2 x3) 1024 h (512 + r.val) j hr
  rw [word_add]
  refine (congrArg (fun z : EReal => Scalar.select (IntOp.cmpi .sge (BitVec.ofNat 32 (512 + r.val)) (BitVec.ofNat 32 ↑j)) z 0) e).trans ?_
  exact select_hidden _ (512 + r.val) j (word_sge _ _ (by have := r.2; omega) (by have := j.2; omega)) _
    (fun hj => dlogit_hidden _ _ _ _ _ (by omega))

/-- The logit gradients summed over the rows. -/
theorem column_apply (h0 : IsReal x0) (h1 : IsReal x1) (h2 : IsReal x2) (h3 : IsReal x3) (h : Fin 16) (j : Fin 1024) :
    val_main_v83 (F := Ideal) x0 x1 x2 x3 (ix2 h j) = ((ddV (inp x0 x1 x2 x3) 1024 512 h j : ℝ) : EReal) := by
  pointwise [val_main_v83, val_main_v82, val_main_v81, val_main_v80, val_main_cst_13, val_main_cst_14]
  exact coe_ddV (inp x0 x1 x2 x3) 1024 512 h j _ (fun r => dlogit_apply x0 x1 x2 x3 h0 h1 h2 h3 h r j)

/-- The logit gradients summed over the columns. -/
theorem row_apply (h0 : IsReal x0) (h1 : IsReal x1) (h2 : IsReal x2) (h3 : IsReal x3) (h : Fin 16) (r : Fin 512) :
    val_main_v86 (F := Ideal) x0 x1 x2 x3 (ix2 h r) = 0 := by
  pointwise [val_main_v86, val_main_v85, val_main_v84, val_main_cst_15, val_main_cst_16]
  exact coe_row (inp x0 x1 x2 x3) 1024 h (512 + r.val) (by have := r.2; omega) _ (fun j => dlogit_apply x0 x1 x2 x3 h0 h1 h2 h3 h r j)

/-- The row sums placed at the rows the call takes, zero elsewhere. -/
theorem padded_apply (h0 : IsReal x0) (h1 : IsReal x1) (h2 : IsReal x2) (h3 : IsReal x3) (h : Fin 16) (j : Fin 1024) :
    val_main_v87 (F := Ideal) x0 x1 x2 x3 (ix2 h j) = 0 := by
  have e : val_main_v86 (F := Ideal) x0 x1 x2 x3 = fun _ => (0 : EReal) := funext fun i => by
    rw [eq_ix2 i]; exact row_apply x0 x1 x2 x3 h0 h1 h2 h3 _ _
  unfold val_main_v87
  rw [e, pad_apply]
  split_ifs
  · rfl
  · pointwise [val_main_cst_17]

/-- The gradient of the cumulated decay. -/
theorem ddrow_apply (h0 : IsReal x0) (h1 : IsReal x1) (h2 : IsReal x2) (h3 : IsReal x3) (h : Fin 16) (j : Fin 1024) :
    val_main_v88 (F := Ideal) x0 x1 x2 x3 (ix2 h j) = ((ddV (inp x0 x1 x2 x3) 1024 512 h j : ℝ) : EReal) := by
  pointwise [val_main_v88]
  rw [column_apply x0 x1 x2 x3 h0 h1 h2 h3, padded_apply x0 x1 x2 x3 h0 h1 h2 h3]
  exact add_zero _

/-- The gradient of the keys. -/
theorem dk_apply (h0 : IsReal x0) (h1 : IsReal x1) (h2 : IsReal x2) (h3 : IsReal x3) (j : Fin 1024) (e : Fin 2048) :
    val_main_v94 (F := Ideal) x0 x1 x2 x3 (ix2 j e) = ((dkV (inp x0 x1 x2 x3) 1024 512 j e : ℝ) : EReal) := by
  pointwise [val_main_v94, val_main_v90, val_main_v89, val_main_v8, val_main_v6, val_main_v4, val_main_v7, val_main_cst]
  simp only [dlogit_apply x0 x1 x2 x3 h0 h1 h2 h3, h0.at, scale_eq, ← EReal.coe_mul]
  unfold dkV
  exact coe_sum _

/-- The gradient of the values. -/
theorem dv_apply (h0 : IsReal x0) (h1 : IsReal x1) (h2 : IsReal x2) (h3 : IsReal x3) (j : Fin 1024) (e : Fin 2048) :
    val_main_v93 (F := Ideal) x0 x1 x2 x3 (ix2 j e) = ((dvV (inp x0 x1 x2 x3) 512 j e : ℝ) : EReal) := by
  pointwise [val_main_v93, val_main_v66, val_main_v65, val_main_v63, val_main_v62, val_main_v61, val_main_v60]
  simp only [prob_apply x0 x1 x2 x3 h0 h1 h2, h3.at, ← EReal.coe_mul]
  unfold dvV
  simp only [mul_comm (prob _ _ _ _)]
  exact coe_sum _

/-- The gradient of the queries. -/
theorem dq_apply (h0 : IsReal x0) (h1 : IsReal x1) (h2 : IsReal x2) (h3 : IsReal x3) (r : Fin 512) (e : Fin 2048) :
    val_main_v98 (F := Ideal) x0 x1 x2 x3 (ix2 r e) = ((dqV (inp x0 x1 x2 x3) 1024 (512 + r.val) e : ℝ) : EReal) := by
  pointwise [val_main_v98, val_main_v97, val_main_v96, val_main_v92, val_main_v91, val_main_v9, val_main_v1, val_main_v0, val_main_v95, val_main_cst_18]
  simp only [dlogit_apply x0 x1 x2 x3 h0 h1 h2 h3, h1.at, scale_eq, ← EReal.coe_mul]
  unfold dqV
  rw [EReal.coe_mul, ← coe_sum]
  rfl

/-! ## The results: the part added to what the earlier calls left -/

variable (x4 : FVec Ideal S2048x2048 .bf16) (x5 x6 : FVec Ideal S2048x2048 .f32) (x7 : FVec Ideal S16x1x2048 .f32)

/-- The reference's first result as real sums. -/
theorem result0_apply (h0 : IsReal x0) (h1 : IsReal x1) (h2 : IsReal x2) (h3 : IsReal x3) (i e : Fin 2048) :
    val_main_v102 (F := Ideal) x0 x1 x2 x3 x4 (ix2 i e)
      = if 512 ≤ i.val ∧ i.val < 1024 then ((dqV (inp x0 x1 x2 x3) 1024 i e : ℝ) : EReal) else x4 (ix2 i e) := by
  pointwise [val_main_v102, val_main_v100, val_main_v101]
  by_cases hc : 512 ≤ i.val ∧ i.val < 1024
  · rw [if_pos hc, dif_neg (by omega), dif_pos (by omega), dq_apply x0 x1 x2 x3 h0 h1 h2 h3]
    exact congrArg (fun n : ℕ => ((dqV (inp x0 x1 x2 x3) 1024 n e : ℝ) : EReal)) (show 512 + (i.val - 512) = i.val by omega)
  · rw [if_neg hc]
    by_cases hl : i.val < 512
    · rw [dif_pos hl]
    · rw [dif_neg hl, dif_neg (by omega)]
      exact congrArg (fun n => x4 (ix2 n e)) (Fin.ext (show 1024 + (i.val - 512 - 512) = i.val by omega))

/-- The reference's second result as real sums. -/
theorem result1_apply (h0 : IsReal x0) (h1 : IsReal x1) (h2 : IsReal x2) (h3 : IsReal x3) (i e : Fin 2048) :
    val_main_v106 (F := Ideal) x0 x1 x2 x3 x5 (ix2 i e)
      = if i.val < 1024 then x5 (ix2 i e) + ((dkV (inp x0 x1 x2 x3) 1024 512 i e : ℝ) : EReal) else x5 (ix2 i e) := by
  pointwise [val_main_v106, val_main_v104, val_main_v103, val_main_v105]
  by_cases hc : i.val < 1024
  · rw [if_pos hc, dif_pos hc, dk_apply x0 x1 x2 x3 h0 h1 h2 h3]
  · rw [if_neg hc, dif_neg hc]
    exact congrArg (fun n => x5 (ix2 n e)) (Fin.ext (show 1024 + (i.val - 1024) = i.val by omega))

/-- The reference's third result as real sums. -/
theorem result2_apply (h0 : IsReal x0) (h1 : IsReal x1) (h2 : IsReal x2) (h3 : IsReal x3) (i e : Fin 2048) :
    val_main_v110 (F := Ideal) x0 x1 x2 x3 x6 (ix2 i e)
      = if i.val < 1024 then x6 (ix2 i e) + ((dvV (inp x0 x1 x2 x3) 512 i e : ℝ) : EReal) else x6 (ix2 i e) := by
  pointwise [val_main_v110, val_main_v108, val_main_v107, val_main_v109]
  by_cases hc : i.val < 1024
  · rw [if_pos hc, dif_pos hc, dv_apply x0 x1 x2 x3 h0 h1 h2 h3]
  · rw [if_neg hc, dif_neg hc]
    exact congrArg (fun n => x6 (ix2 n e)) (Fin.ext (show 1024 + (i.val - 1024) = i.val by omega))

/-- The reference's fourth result as real sums. -/
theorem result3_apply (h0 : IsReal x0) (h1 : IsReal x1) (h2 : IsReal x2) (h3 : IsReal x3) (h : Fin 16) (u : Fin 1) (j : Fin 2048) :
    val_main_v114 (F := Ideal) x0 x1 x2 x3 x7 (ix3 h u j)
      = if j.val < 1024 then x7 (ix3 h u j) + ((ddV (inp x0 x1 x2 x3) 1024 512 h j : ℝ) : EReal) else x7 (ix3 h u j) := by
  obtain rfl : u = 0 := Subsingleton.elim _ _
  pointwise [val_main_v114, val_main_v112, val_main_v111, val_main_v99, val_main_v113]
  by_cases hc : j.val < 1024
  · rw [if_pos hc, dif_pos hc, ddrow_apply x0 x1 x2 x3 h0 h1 h2 h3]
  · rw [if_neg hc, dif_neg hc]
    exact congrArg (fun n => x7 (ix3 h 0 n)) (Fin.ext (show 1024 + (j.val - 1024) = j.val by omega))

end Cert.AttnGrad2Ideal.Proof
-- ==== Proof.Eq2.lean ====
module

public import proofs.«01_k».proof.Proof.Arr2
public import proofs.«01_k».proof.Proof.Ref2
public import proofs.«01_k».proof.Defs
public import proofs.«01_k».proof.Proof.Gen.Attn2.Frame
public import proofs.«01_k».proof.Proof.Gen.Attn2Ideal.Frame
public import proofs.«01_k».proof.Proof.Gen.Pre_finite_later

@[expose] public section

/-!
  The claims about the call of the attention backward kernel over the rows 512 to 1023: the four result arrays of the call and
  the four results of the reference are the same functions of the arguments.
-/

set_option maxRecDepth 16384

noncomputable section

namespace Cert.Proof.Call2

open Cert.Attn2Ideal Cert.Attn2Ideal.Gen Cert.Attn2Ideal.Proof Cert.Attn2Ideal.Value Cert.Softmax Idealize.ShloMosaic Idealize.ShloMosaic.TcCoe Idealize.SL.Sem

variable (m : (ℓ : Loc nD τ sig) → Buf (Elt Ideal) ℓ) (c : Dev nD) (hr : RealArgs m c)
include hr

/-- The gradient with respect to the queries. -/
theorem dq_eq : (Cert.AttnGrad2Ideal.Read.val_main_v102 (F := Ideal) (m (c.tc.loc main_arg0)) (m (c.tc.loc main_arg1)) (m (c.tc.loc main_arg2)) (m (c.tc.loc main_arg3)) (m (c.tc.loc main_arg4)) : S2048x2048.Idx → EReal) = ((dats m 0 c).arrAt 10 cfg0.N : S2048x2048.Idx → EReal) := by
  funext i
  have hi : i = ix2 (i 0) (i 1) := by
    funext a
    fin_cases a <;> rfl
  rw [dq_array m c hr, hi]
  exact Cert.AttnGrad2Ideal.Proof.result0_apply _ _ _ _ _ hr.1 hr.2.1 hr.2.2.1 hr.2.2.2 (i 0) (i 1)

/-- The gradient with respect to the keys. -/
theorem dk_eq : (Cert.AttnGrad2Ideal.Read.val_main_v106 (F := Ideal) (m (c.tc.loc main_arg0)) (m (c.tc.loc main_arg1)) (m (c.tc.loc main_arg2)) (m (c.tc.loc main_arg3)) (m (c.tc.loc main_arg5)) : S2048x2048.Idx → EReal) = ((dats m 0 c).arrAt 11 cfg0.N : S2048x2048.Idx → EReal) := by
  funext i
  have hi : i = ix2 (i 0) (i 1) := by
    funext a
    fin_cases a <;> rfl
  rw [dk_array m c hr, hi]
  exact Cert.AttnGrad2Ideal.Proof.result1_apply _ _ _ _ _ hr.1 hr.2.1 hr.2.2.1 hr.2.2.2 (i 0) (i 1)

/-- The gradient with respect to the values. -/
theorem dv_eq : (Cert.AttnGrad2Ideal.Read.val_main_v110 (F := Ideal) (m (c.tc.loc main_arg0)) (m (c.tc.loc main_arg1)) (m (c.tc.loc main_arg2)) (m (c.tc.loc main_arg3)) (m (c.tc.loc main_arg6)) : S2048x2048.Idx → EReal) = ((dats m 0 c).arrAt 12 cfg0.N : S2048x2048.Idx → EReal) := by
  funext i
  have hi : i = ix2 (i 0) (i 1) := by
    funext a
    fin_cases a <;> rfl
  rw [dv_array m c hr, hi]
  exact Cert.AttnGrad2Ideal.Proof.result2_apply _ _ _ _ _ hr.1 hr.2.1 hr.2.2.1 hr.2.2.2 (i 0) (i 1)

/-- The gradient with respect to the cumulative decay. -/
theorem dd_eq : (Cert.AttnGrad2Ideal.Read.val_main_v114 (F := Ideal) (m (c.tc.loc main_arg0)) (m (c.tc.loc main_arg1)) (m (c.tc.loc main_arg2)) (m (c.tc.loc main_arg3)) (m (c.tc.loc main_arg7)) : S16x1x2048.Idx → EReal) = ((dats m 0 c).arrAt 13 cfg0.N : S16x1x2048.Idx → EReal) := by
  funext i
  have hi : i = ix3 (i 0) (i 1) (i 2) := by
    funext a
    fin_cases a <;> rfl
  rw [dd_array m c hr, hi]
  exact Cert.AttnGrad2Ideal.Proof.result3_apply _ _ _ _ _ hr.1 hr.2.1 hr.2.2.1 hr.2.2.2 (i 0) (i 1) (i 2)

omit hr in
/-- Under the precondition the arguments are real numbers. -/
theorem real (h : Cert.Pre_Attn2Ideal_finite_later m) : RealArgs m c :=
  Cert.Softmax.real_of_pre_later _ _ _ _ _ _ _ _ (h c)

omit hr in
/-- The call computes the reference's four results. -/
theorem algebraic : Cert.algebraic_Attn2Ideal_AttnGrad2Ideal_pre_finite_later := by
  intro m g m' g' hpre hargs
  refine ⟨fun c => (dats m 0 c).arrAt 10 cfg0.N, fun c => (dats m 0 c).arrAt 11 cfg0.N, fun c => (dats m 0 c).arrAt 12 cfg0.N,
    fun c => (dats m 0 c).arrAt 13 cfg0.N, run_blocks m g, (θ_run _ _ _).mono (fun r h c => ?_) (Cert.AttnGrad2Ideal.Value.run m' g')⟩
  have hr := real m c hpre
  obtain ⟨a0, a1, a2, a3, a4, a5, a6, a7⟩ := hargs c
  obtain ⟨r0, r1, r2, r3, rest⟩ := h c
  refine ⟨r0.trans ?_, r1.trans ?_, r2.trans ?_, r3.trans ?_, rest⟩
  · rw [Cert.AttnGrad2Ideal.Read.val_main_v102_eq, a0, a1, a2, a3, a4]
    exact dq_eq m c hr
  · rw [Cert.AttnGrad2Ideal.Read.val_main_v106_eq, a0, a1, a2, a3, a5]
    exact dk_eq m c hr
  · rw [Cert.AttnGrad2Ideal.Read.val_main_v110_eq, a0, a1, a2, a3, a6]
    exact dv_eq m c hr
  · rw [Cert.AttnGrad2Ideal.Read.val_main_v114_eq, a0, a1, a2, a3, a7]
    exact dd_eq m c hr

omit hr in
/-- The idealization names the mask constant minus infinity. -/
theorem preserves : Cert.preserves_Attn2_Attn2Ideal :=
  IdealRules.named_const.statement Cert.Attn2Ideal.κ "mask" .f32 0xF149F2CA#32 ⊥ rfl

omit hr in
/-- The reference leaves its arguments and every counter as they were, from any memory. -/
theorem frame_ref (m : (ℓ : Loc Cert.AttnGrad2Ideal.nD Cert.AttnGrad2Ideal.τ Cert.AttnGrad2Ideal.sig) → Buf (Elt Ideal) ℓ) (g : Dev Cert.AttnGrad2Ideal.nD → PrngReg) :
    θ_run (Cert.AttnGrad2Ideal.defs (F := Ideal)) (onTc (τ := Cert.AttnGrad2Ideal.τ) (Cert.AttnGrad2Ideal.main (F := Ideal))) ⟨m, fun _ => 0, g⟩ (fun r => (∀ c : Dev Cert.AttnGrad2Ideal.nD,
      r.2.mem ((c.tc : Thread Cert.AttnGrad2Ideal.nD Cert.AttnGrad2Ideal.τ).loc Cert.AttnGrad2Ideal.main_arg0) = m ((c.tc : Thread Cert.AttnGrad2Ideal.nD Cert.AttnGrad2Ideal.τ).loc Cert.AttnGrad2Ideal.main_arg0)
      ∧ r.2.mem ((c.tc : Thread Cert.AttnGrad2Ideal.nD Cert.AttnGrad2Ideal.τ).loc Cert.AttnGrad2Ideal.main_arg1) = m ((c.tc : Thread Cert.AttnGrad2Ideal.nD Cert.AttnGrad2Ideal.τ).loc Cert.AttnGrad2Ideal.main_arg1)
      ∧ r.2.mem ((c.tc : Thread Cert.AttnGrad2Ideal.nD Cert.AttnGrad2Ideal.τ).loc Cert.AttnGrad2Ideal.main_arg2) = m ((c.tc : Thread Cert.AttnGrad2Ideal.nD Cert.AttnGrad2Ideal.τ).loc Cert.AttnGrad2Ideal.main_arg2)
      ∧ r.2.mem ((c.tc : Thread Cert.AttnGrad2Ideal.nD Cert.AttnGrad2Ideal.τ).loc Cert.AttnGrad2Ideal.main_arg3) = m ((c.tc : Thread Cert.AttnGrad2Ideal.nD Cert.AttnGrad2Ideal.τ).loc Cert.AttnGrad2Ideal.main_arg3)
      ∧ r.2.mem ((c.tc : Thread Cert.AttnGrad2Ideal.nD Cert.AttnGrad2Ideal.τ).loc Cert.AttnGrad2Ideal.main_arg4) = m ((c.tc : Thread Cert.AttnGrad2Ideal.nD Cert.AttnGrad2Ideal.τ).loc Cert.AttnGrad2Ideal.main_arg4)
      ∧ r.2.mem ((c.tc : Thread Cert.AttnGrad2Ideal.nD Cert.AttnGrad2Ideal.τ).loc Cert.AttnGrad2Ideal.main_arg5) = m ((c.tc : Thread Cert.AttnGrad2Ideal.nD Cert.AttnGrad2Ideal.τ).loc Cert.AttnGrad2Ideal.main_arg5)
      ∧ r.2.mem ((c.tc : Thread Cert.AttnGrad2Ideal.nD Cert.AttnGrad2Ideal.τ).loc Cert.AttnGrad2Ideal.main_arg6) = m ((c.tc : Thread Cert.AttnGrad2Ideal.nD Cert.AttnGrad2Ideal.τ).loc Cert.AttnGrad2Ideal.main_arg6)
      ∧ r.2.mem ((c.tc : Thread Cert.AttnGrad2Ideal.nD Cert.AttnGrad2Ideal.τ).loc Cert.AttnGrad2Ideal.main_arg7) = m ((c.tc : Thread Cert.AttnGrad2Ideal.nD Cert.AttnGrad2Ideal.τ).loc Cert.AttnGrad2Ideal.main_arg7))
      ∧ r.2.sem = fun _ => 0) :=
  (θ_run Cert.AttnGrad2Ideal.defs _ _).mono (fun r h => ⟨fun c => (h c).2.2.2.2, sem_eq_zero_of_no_sems (by decide) r.2⟩) (Cert.AttnGrad2Ideal.Value.run m g)

end Cert.Proof.Call2

end
-- ==== Proof.Tile0.lean ====
module

public import proofs.«01_k».proof.Proof.Gen.Attn0Ideal.Value
public import proofs.«01_k».proof.Proof.Lse
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The call of the attention backward kernel over the rows 0 to 511, the positions being the first 512: what one
  tile of 256 rows computes, at an index, and what the tile's blocks hold of the arrays.
-/

set_option maxRecDepth 16384

noncomputable section

namespace Cert.Attn0Ideal.Proof

open Cert.Attn0Ideal Cert.Attn0Ideal.Gen Cert.Softmax Idealize.ShloMosaic Idealize.ShloMosaic.TcCoe Idealize.SL.Sem

/-- The number of a row of a tile, as the kernel computes it in words. -/
theorem tile_row (i r R : ℕ) (hi : 256 * i = R) :
    IntOp.addi (Scalar.muli (Scalar.addi 0#32 (BitVec.ofNat 32 i)) 256#32) (BitVec.ofNat 32 r) = BitVec.ofNat 32 (R + r) := by
  subst hi
  show (0#32 + BitVec.ofNat 32 i) * 256#32 + BitVec.ofNat 32 r = _
  rw [BitVec.zero_add]
  rw [Nat.mul_comm, BitVec.ofNat_add, BitVec.ofNat_mul]

section Tile
variable (I : Inp) (h R : ℕ)

/-- The tile's exponential is the attention weight: nothing after the row, the row's log-sum-exp taken off. -/
theorem tile_prob (i : grid0.Coords) (hi : 256 * (i 1).val = R) (v5 : Vec Ideal S256x128 .f32) (v9 : Vec Ideal S512x128 .bf16)
    (v11 : Vec Ideal S1x256x1 .f32) (v15 : Vec Ideal S1x1x512 .f32) (v26 : Vec Ideal S1x256x1 .f32) (hsc : I.sc = scale)
    (h5 : ∀ r x, v5 (ix2 r x) = ((I.q (R + r.val) (h * 128 + x.val) : ℝ) : EReal))
    (h9 : ∀ j x, v9 (ix2 j x) = ((I.kv j.val (h * 128 + x.val) : ℝ) : EReal))
    (h11 : ∀ r, v11 (ix3 0 r 0) = ((I.dc h (R + r.val) : ℝ) : EReal))
    (h15 : ∀ j, v15 (ix3 0 0 j) = ((I.dc h j.val : ℝ) : EReal))
    (h26 : ∀ r : Fin 256, ∃ M : ℝ, v26 (ix3 0 r 0) = ((M : ℝ) : EReal) + ((Real.log (∑ j' : Fin 2048, weight I M h (R + r.val) j') : ℝ) : EReal))
    (r : Fin 256) (j : Fin 512) :
    k0_pay6 (F := Ideal) i v5 v9 v11 v15 v26 (ix2 r j) = ((prob I h (R + r.val) j.val : ℝ) : EReal) := by
  have hi1 : (i 1).val < 2 := (i 1).isLt
  have hR : R + r.val < 2048 := by have := r.2; omega
  obtain ⟨M, hM⟩ := h26 r
  rw [← exp_logitE_lse I 2048 M h (R + r.val) j.val hR, ← hM]
  pointwise [k0_pay6, k0_pay5]
  rw [show (Named.named (F := Ideal) (φ := .f32) κ "mask" 4048155338#32 : EReal) = ⊥ from IdealRules.named_const.ideal_named_scalar _ _ _ _ rfl]
  simp only [h5, h9, h11, h15, scale_eq, ← hsc, coe_logit]
  rw [tile_row (i 1).val r.val R hi, select_visible _ (R + r.val) j.val (word_sle j.val (R + r.val) (by have := j.2; omega) (by omega))]
  rfl

/-- The tile's gradient of the logits. -/
theorem tile_dlogit (v30 : FVec Ideal S256x512 .f32) (v31 : Vec Ideal S256x128 .bf16) (v32 : Vec Ideal S512x128 .bf16)
    (h30 : ∀ r j, v30 (ix2 r j) = ((prob I h (R + r.val) j.val : ℝ) : EReal))
    (h31 : ∀ r x, v31 (ix2 r x) = ((I.dout (R + r.val) (h * 128 + x.val) : ℝ) : EReal))
    (h32 : ∀ j x, v32 (ix2 j x) = ((I.kv j.val (2048 + (h * 128 + x.val)) : ℝ) : EReal))
    (r : Fin 256) (j : Fin 512) :
    k0_pay7 (F := Ideal) v30 v31 v32 (ix2 r j) = ((dlogit I 512 h (R + r.val) j.val : ℝ) : EReal) := by
  pointwise [k0_pay7]
  simp only [h30, h31, h32, coe_dprob, ← EReal.coe_mul, coe_sum, ← EReal.coe_sub]
  rfl

/-- The tile's rows of the gradient of the queries. -/
theorem tile_dq (v30 : FVec Ideal S256x512 .f32) (v31 : Vec Ideal S256x128 .bf16) (v32 v41 : Vec Ideal S512x128 .bf16)
    (hd : ∀ r j, k0_pay7 (F := Ideal) v30 v31 v32 (ix2 r j) = ((dlogit I 512 h (R + r.val) j.val : ℝ) : EReal)) (hsc : I.sc = scale)
    (h41 : ∀ j x, v41 (ix2 j x) = ((I.kv j.val (h * 128 + x.val) : ℝ) : EReal)) (r : Fin 256) (x : Fin 128) :
    k0_pay9 (F := Ideal) v30 v31 v32 v41 (ix2 r x) = ((dqV I 512 (R + r.val) (h * 128 + x.val) : ℝ) : EReal) := by
  pointwise [k0_pay9, k0_pay8]
  simp only [hd, h41, scale_eq, ← hsc, ← EReal.coe_mul, coe_sum]
  unfold dqV
  rw [show (h * 128 + x.val) / 128 = h by have := x.2; omega]

/-- The tile adds its rows' part to the gradient of the keys. -/
theorem tile_dk (v8 : FVec Ideal S256x128 .bf16) (v30 : FVec Ideal S256x512 .f32) (v31 : Vec Ideal S256x128 .bf16) (v32 : Vec Ideal S512x128 .bf16) (v47 : Vec Ideal S512x128 .f32)
    (hd : ∀ r j, k0_pay7 (F := Ideal) v30 v31 v32 (ix2 r j) = ((dlogit I 512 h (R + r.val) j.val : ℝ) : EReal))
    (h8 : ∀ r x, v8 (ix2 r x) = ((I.q (R + r.val) (h * 128 + x.val) * I.sc : ℝ) : EReal)) (j : Fin 512) (x : Fin 128) :
    k0_pay10 (F := Ideal) v8 v30 v31 v32 v47 (ix2 j x) = v47 (ix2 j x) + ((∑ r : Fin 256, dlogit I 512 h (R + r.val) j.val * (I.q (R + r.val) (h * 128 + x.val) * I.sc) : ℝ) : EReal) := by
  pointwise [k0_pay10, k0_pay8]
  simp only [hd, h8, ← EReal.coe_mul, coe_sum]

/-- The tile adds its rows' part to the gradient of the values. -/
theorem tile_dv (v30 : FVec Ideal S256x512 .f32) (v31 : Vec Ideal S256x128 .bf16) (v53 : Vec Ideal S512x128 .f32)
    (h30 : ∀ r j, v30 (ix2 r j) = ((prob I h (R + r.val) j.val : ℝ) : EReal))
    (h31 : ∀ r x, v31 (ix2 r x) = ((I.dout (R + r.val) (h * 128 + x.val) : ℝ) : EReal)) (j : Fin 512) (x : Fin 128) :
    k0_pay11 (F := Ideal) v30 v31 v53 (ix2 j x) = v53 (ix2 j x) + ((∑ r : Fin 256, prob I h (R + r.val) j.val * I.dout (R + r.val) (h * 128 + x.val) : ℝ) : EReal) := by
  pointwise [k0_pay11]
  simp only [h30, h31, ← EReal.coe_mul, coe_sum]

/-- The tile takes its rows' gradients of the logits off the gradient at the positions. -/
theorem tile_dd (v30 : FVec Ideal S256x512 .f32) (v31 : Vec Ideal S256x128 .bf16) (v32 : Vec Ideal S512x128 .bf16) (v60 : Vec Ideal S1x512 .f32)
    (hd : ∀ r j, k0_pay7 (F := Ideal) v30 v31 v32 (ix2 r j) = ((dlogit I 512 h (R + r.val) j.val : ℝ) : EReal)) (j : Fin 512) :
    k0_pay12 (F := Ideal) v30 v31 v32 v60 (ix2 0 j) = v60 (ix2 0 j) - ((∑ r : Fin 256, dlogit I 512 h (R + r.val) j.val : ℝ) : EReal) := by
  pointwise [k0_pay12]
  simp only [hd, ← EReal.coe_mul, coe_sum]
end Tile

/-! ## The blocks -/

/-- The queries' block at a grid point. -/
theorem idx0 : ∀ t : Fin grid0.N, win0_0.index t 0 = t.val % 2 ∧ win0_0.index t 1 = t.val / 2 := by decide +kernel
/-- The keys' block at a grid point. -/
theorem idx1 : ∀ t : Fin grid0.N, win0_1.index t 0 = 0 ∧ win0_1.index t 1 = t.val / 2 := by decide +kernel
/-- The values' block at a grid point. -/
theorem idx2 : ∀ t : Fin grid0.N, win0_2.index t 0 = 0 ∧ win0_2.index t 1 = 16 + t.val / 2 := by decide +kernel
/-- The rows' decay block at a grid point. -/
theorem idx3 : ∀ t : Fin grid0.N, win0_3.index t 0 = t.val / 2 ∧ win0_3.index t 1 = t.val % 2 ∧ win0_3.index t 2 = 0 := by decide +kernel
/-- The columns' decay block at a grid point. -/
theorem idx4 : ∀ t : Fin grid0.N, win0_4.index t 0 = t.val / 2 ∧ win0_4.index t 1 = 0 ∧ win0_4.index t 2 = 0 := by decide +kernel
/-- The log-sum-exp's block at a grid point. -/
theorem idx5 : ∀ t : Fin grid0.N, win0_5.index t 0 = t.val / 2 ∧ win0_5.index t 1 = t.val % 2 ∧ win0_5.index t 2 = 0 := by decide +kernel
/-- The incoming gradient's block at a grid point. -/
theorem idx6 : ∀ t : Fin grid0.N, win0_6.index t 0 = t.val % 2 ∧ win0_6.index t 1 = t.val / 2 := by decide +kernel

/-- The tile's queries. -/
theorem read_q (A : S2048x2048.Idx → EReal) (t : Fin cfg0.N) (r : Fin 256) (x : Fin 128) :
    ((cfg0.win 0).blk t).view.read (Elt Ideal) A (ix2 r x) = A (ix2 ⟨256 * (t.val % 2) + r.val, by have := r.2; omega⟩ ⟨t.val / 2 * 128 + x.val, by have := t.isLt; have : cfg0.N = 32 := rfl; have := x.2; omega⟩) := by
  show A _ = A _
  blk_ext [idx0 t]

/-- The head's keys. -/
theorem read_k (A : S2048x4096.Idx → EReal) (t : Fin cfg0.N) (j : Fin 512) (x : Fin 128) :
    ((cfg0.win 1).blk t).view.read (Elt Ideal) A (ix2 j x) = A (ix2 ⟨j.val, by have := j.2; omega⟩ ⟨t.val / 2 * 128 + x.val, by have := t.isLt; have : cfg0.N = 32 := rfl; have := x.2; omega⟩) := by
  show A _ = A _
  blk_ext [idx1 t]

/-- The head's values. -/
theorem read_v (A : S2048x4096.Idx → EReal) (t : Fin cfg0.N) (j : Fin 512) (x : Fin 128) :
    ((cfg0.win 2).blk t).view.read (Elt Ideal) A (ix2 j x) = A (ix2 ⟨j.val, by have := j.2; omega⟩ ⟨2048 + (t.val / 2 * 128 + x.val), by have := t.isLt; have : cfg0.N = 32 := rfl; have := x.2; omega⟩) := by
  show A _ = A _
  blk_ext [idx2 t]

/-- The head's running sums of the log gates at the tile's rows. -/
theorem read_dc (A : S16x2048x1.Idx → EReal) (t : Fin cfg0.N) (r : Fin 256) :
    ((cfg0.win 3).blk t).view.read (Elt Ideal) A (ix3 0 r 0) = A (ix3 ⟨t.val / 2, by have := t.isLt; have : cfg0.N = 32 := rfl; omega⟩ ⟨256 * (t.val % 2) + r.val, by have := r.2; omega⟩ 0) := by
  show A _ = A _
  blk_ext [idx3 t]

/-- The head's running sums of the log gates at the positions. -/
theorem read_dr (A : S16x1x2048.Idx → EReal) (t : Fin cfg0.N) (j : Fin 512) :
    ((cfg0.win 4).blk t).view.read (Elt Ideal) A (ix3 0 0 j) = A (ix3 ⟨t.val / 2, by have := t.isLt; have : cfg0.N = 32 := rfl; omega⟩ 0 ⟨j.val, by have := j.2; omega⟩) := by
  show A _ = A _
  blk_ext [idx4 t]

/-- The log-sum-exps of the tile's rows. -/
theorem read_lse (A : S16x2048x1.Idx → EReal) (t : Fin cfg0.N) (r : Fin 256) :
    ((cfg0.win 5).blk t).view.read (Elt Ideal) A (ix3 0 r 0) = A (ix3 ⟨t.val / 2, by have := t.isLt; have : cfg0.N = 32 := rfl; omega⟩ ⟨256 * (t.val % 2) + r.val, by have := r.2; omega⟩ 0) := by
  show A _ = A _
  blk_ext [idx5 t]

/-- The tile's rows of the gradient of the output. -/
theorem read_do (A : S2048x2048.Idx → EReal) (t : Fin cfg0.N) (r : Fin 256) (x : Fin 128) :
    ((cfg0.win 6).blk t).view.read (Elt Ideal) A (ix2 r x) = A (ix2 ⟨256 * (t.val % 2) + r.val, by have := r.2; omega⟩ ⟨t.val / 2 * 128 + x.val, by have := t.isLt; have : cfg0.N = 32 := rfl; have := x.2; omega⟩) := by
  show A _ = A _
  blk_ext [idx6 t]

/-- The keys' gradient's block at a grid point. -/
theorem idx7 : ∀ t : Fin grid0.N, win0_7.index t 0 = 0 ∧ win0_7.index t 1 = t.val / 2 := by decide +kernel
/-- The values' gradient's block at a grid point. -/
theorem idx8 : ∀ t : Fin grid0.N, win0_8.index t 0 = 0 ∧ win0_8.index t 1 = t.val / 2 := by decide +kernel
/-- The decay gradient's block at a grid point. -/
theorem idx9 : ∀ t : Fin grid0.N, win0_9.index t 0 = t.val / 2 ∧ win0_9.index t 1 = 0 ∧ win0_9.index t 2 = 0 := by decide +kernel

/-- The gradient of the keys as the rows after left it. -/
theorem read_dk (A : S2048x2048.Idx → EReal) (t : Fin cfg0.N) (j : Fin 512) (x : Fin 128) :
    ((cfg0.win 7).blk t).view.read (Elt Ideal) A (ix2 j x) = A (ix2 ⟨j.val, by have := j.2; omega⟩ ⟨t.val / 2 * 128 + x.val, by have := t.isLt; have : cfg0.N = 32 := rfl; have := x.2; omega⟩) := by
  show A _ = A _
  blk_ext [idx7 t]

/-- The gradient of the values as the rows after left it. -/
theorem read_dv (A : S2048x2048.Idx → EReal) (t : Fin cfg0.N) (j : Fin 512) (x : Fin 128) :
    ((cfg0.win 8).blk t).view.read (Elt Ideal) A (ix2 j x) = A (ix2 ⟨j.val, by have := j.2; omega⟩ ⟨t.val / 2 * 128 + x.val, by have := t.isLt; have : cfg0.N = 32 := rfl; have := x.2; omega⟩) := by
  show A _ = A _
  blk_ext [idx8 t]

/-- The gradient at the positions as the rows after left it. -/
theorem read_dd (A : S16x1x2048.Idx → EReal) (t : Fin cfg0.N) (j : Fin 512) :
    ((cfg0.win 9).blk t).view.read (Elt Ideal) A (ix3 0 0 j) = A (ix3 ⟨t.val / 2, by have := t.isLt; have : cfg0.N = 32 := rfl; omega⟩ 0 ⟨j.val, by have := j.2; omega⟩) := by
  show A _ = A _
  blk_ext [idx9 t]

/-! ## What the host prepares -/

variable (m : (ℓ : Loc nD τ sig) → Buf (Elt Ideal) ℓ)

/-- The log-sum-exps the host computes before the call. -/
theorem V_lse (c : Dev nD) : (V m c main_v31 : FVec Ideal S16x2048x1 .f32)
    = hostLse (hostLogits (m (c.tc.loc main_arg0)) (m (c.tc.loc main_arg1)) (m (c.tc.loc main_arg2)))
       (hostMax (hostLogits (m (c.tc.loc main_arg0)) (m (c.tc.loc main_arg1)) (m (c.tc.loc main_arg2)))) := by
  unfold hostLse hostMax hostLogits
  show StableHlo.after (hostOps0 ++ (hostOps0_1 ++ (hostOps0_2 ++ []))) _ _ = _
  simp only [List.cons_append, List.nil_append, List.append_nil]
  after_reads_simp
  rfl

/-- The running sums as a column. -/
theorem V_dcol (c : Dev nD) : (V m c main_v0 : FVec Ideal S16x2048x1 .f32)
    = shapeCast S16x2048x1 (m (c.tc.loc main_arg2) : FVec Ideal S16x2048 .f32) shapeCasts_S16x2048_S16x2048x1 := by
  show StableHlo.after (hostOps0 ++ (hostOps0_1 ++ (hostOps0_2 ++ []))) _ _ = _
  simp only [List.cons_append, List.nil_append, List.append_nil]
  after_reads_simp
  rfl

/-- The running sums as a row. -/
theorem V_drow (c : Dev nD) : (V m c main_v1 : FVec Ideal S16x1x2048 .f32)
    = shapeCast S16x1x2048 (m (c.tc.loc main_arg2) : FVec Ideal S16x2048 .f32) shapeCasts_S16x2048_S16x1x2048 := by
  show StableHlo.after (hostOps0 ++ (hostOps0_1 ++ (hostOps0_2 ++ []))) _ _ = _
  simp only [List.cons_append, List.nil_append, List.append_nil]
  after_reads_simp
  rfl

/-- The decay laid out as a column per head. -/
theorem dcol_apply (x : FVec Ideal S16x2048 .f32) (h : Fin 16) (r : Fin 2048) :
    shapeCast S16x2048x1 x shapeCasts_S16x2048_S16x2048x1 (ix3 h r 0) = x (ix2 h r) := by
  pointwise

/-- The decay laid out as a row per head. -/
theorem drow_apply (x : FVec Ideal S16x2048 .f32) (h : Fin 16) (r : Fin 2048) :
    shapeCast S16x1x2048 x shapeCasts_S16x2048_S16x1x2048 (ix3 h 0 r) = x (ix2 h r) := by
  pointwise

end Cert.Attn0Ideal.Proof
-- ==== Proof.Kern0.lean ====
module

public import proofs.«01_k».proof.Proof.Tile0

@[expose] public section

/-!
  The call of the attention backward kernel over the rows 0 to 511, the positions being the first 512: what the
  grid's points leave and what the result arrays end holding. The grid is sixteen heads by two tiles of 256 rows.
-/

set_option maxRecDepth 16384

noncomputable section

namespace Cert.Attn0Ideal.Proof

open Cert.Attn0Ideal Cert.Attn0Ideal.Gen Cert.Softmax Idealize.ShloMosaic Idealize.ShloMosaic.TcCoe Idealize.SL.Sem

variable (m : (ℓ : Loc nD τ sig) → Buf (Elt Ideal) ℓ)

/-- The arguments of a core as real functions. -/
def args (c : Dev nD) : Inp :=
  inp (m (c.tc.loc main_arg0)) (m (c.tc.loc main_arg1)) (m (c.tc.loc main_arg2)) (m (c.tc.loc main_arg3))

/-- The four arguments of a core hold real numbers. -/
def RealArgs (c : Dev nD) : Prop :=
  IsReal (s := Sq) (m (c.tc.loc main_arg0)) ∧ IsReal (s := Swide) (m (c.tc.loc main_arg1))
    ∧ IsReal (s := Sgate) (m (c.tc.loc main_arg2)) ∧ IsReal (s := Sq) (m (c.tc.loc main_arg3))

/-- The tile of queries at a grid point. -/
theorem coords_tile : ∀ t : Fin grid0.N, (grid0.coords t 1).val = t.val % 2 := by decide +kernel

variable (c : Dev nD) (hr : RealArgs m c) (t : Fin cfg0.N)
include hr

/-- The tile's queries as real numbers. -/
theorem at_q (r : Fin 256) (x : Fin 128) :
    (iblk m c 0 t : Vec Ideal S256x128 .f32) (ix2 r x) = (((args m c).q ((256 * (t.val % 2)) + r.val) (t.val / 2 * 128 + x.val) : ℝ) : EReal) := by
  have e := read_q (V m c main_arg0) t r x
  rw [V_main_arg0] at e
  exact e.trans (hr.1.at _ _)

/-- The head's keys as real numbers. -/
theorem at_k (j : Fin 512) (x : Fin 128) :
    (iblk m c 1 t : Vec Ideal S512x128 .bf16) (ix2 j x) = (((args m c).kv j.val (t.val / 2 * 128 + x.val) : ℝ) : EReal) := by
  have e := read_k (V m c main_arg1) t j x
  rw [V_main_arg1] at e
  exact e.trans (hr.2.1.at _ _)

/-- The head's values as real numbers. -/
theorem at_v (j : Fin 512) (x : Fin 128) :
    (iblk m c 2 t : Vec Ideal S512x128 .bf16) (ix2 j x) = (((args m c).kv j.val (2048 + (t.val / 2 * 128 + x.val)) : ℝ) : EReal) := by
  have e := read_v (V m c main_arg1) t j x
  rw [V_main_arg1] at e
  exact e.trans (hr.2.1.at _ _)

/-- The tile's cumulated decay, along the rows, as real numbers. -/
theorem at_dc (r : Fin 256) :
    (iblk m c 3 t : Vec Ideal S1x256x1 .f32) (ix3 0 r 0) = (((args m c).dc (t.val / 2) ((256 * (t.val % 2)) + r.val) : ℝ) : EReal) := by
  have e := read_dc (V m c main_v0) t r
  rw [V_dcol, dcol_apply] at e
  exact e.trans (hr.2.2.1.at _ _)

/-- The head's cumulated decay, along the columns, as real numbers. -/
theorem at_dr (j : Fin 512) :
    (iblk m c 4 t : Vec Ideal S1x1x512 .f32) (ix3 0 0 j) = (((args m c).dc (t.val / 2) j.val : ℝ) : EReal) := by
  have e := read_dr (V m c main_v1) t j
  rw [V_drow, drow_apply] at e
  exact e.trans (hr.2.2.1.at _ _)

/-- The tile's log-sum-exp: the logarithm of a row's total weight, at some real shift. -/
theorem at_lse (r : Fin 256) : ∃ M : ℝ, (iblk m c 5 t : Vec Ideal S1x256x1 .f32) (ix3 0 r 0)
    = ((M : ℝ) : EReal) + ((Real.log (∑ j' : Fin 2048, weight (args m c) M (t.val / 2) ((256 * (t.val % 2)) + r.val) j') : ℝ) : EReal) := by
  have e := read_lse (V m c main_v31) t r
  obtain ⟨M, hM⟩ := hostLse_apply (m (c.tc.loc main_arg0)) (m (c.tc.loc main_arg1)) (m (c.tc.loc main_arg2)) (m (c.tc.loc main_arg3)) hr.1 hr.2.1 hr.2.2.1 ⟨t.val / 2, by have := t.isLt; have : cfg0.N = 32 := rfl; omega⟩ ⟨256 * (t.val % 2) + r.val, by have := r.2; omega⟩
  exact ⟨M, e.trans ((congrFun (V_lse m c) _).trans hM)⟩

/-- The tile's incoming gradient as real numbers. -/
theorem at_do (r : Fin 256) (x : Fin 128) :
    (iblk m c 6 t : Vec Ideal S256x128 .bf16) (ix2 r x) = (((args m c).dout ((256 * (t.val % 2)) + r.val) (t.val / 2 * 128 + x.val) : ℝ) : EReal) := by
  have e := read_do (V m c main_arg3) t r x
  rw [V_main_arg3] at e
  exact e.trans (hr.2.2.2.at _ _)

omit hr in
/-- The weights of a point's tile. -/
def probT : FVec Ideal S256x512 .f32 :=
  k0_pay6 (F := Ideal) (grid0.coords t) (iblk m c 0 t) (iblk m c 1 t) (iblk m c 3 t) (iblk m c 4 t) (iblk m c 5 t)

/-- The kernel's probabilities over the tile are the real ones. -/
theorem probT_apply (r : Fin 256) (j : Fin 512) :
    probT m c t (ix2 r j) = ((prob (args m c) (t.val / 2) ((256 * (t.val % 2)) + r.val) j.val : ℝ) : EReal) :=
  tile_prob (args m c) (t.val / 2) (256 * (t.val % 2)) (grid0.coords t) (by rw [coords_tile]) _ _ _ _ _ rfl
    (at_q m c hr t) (at_k m c hr t) (at_dc m c hr t) (at_dr m c hr t) (at_lse m c hr t) r j

/-- The kernel's logit gradients over the tile are the real ones. -/
theorem dlogitT_apply (r : Fin 256) (j : Fin 512) :
    k0_pay7 (F := Ideal) (probT m c t) (iblk m c 6 t) (iblk m c 2 t) (ix2 r j) = ((dlogit (args m c) 512 (t.val / 2) ((256 * (t.val % 2)) + r.val) j.val : ℝ) : EReal) :=
  tile_dlogit (args m c) (t.val / 2) (256 * (t.val % 2)) _ _ _ (probT_apply m c hr t) (at_do m c hr t) (at_v m c hr t) r j

/-- The tile's scaled queries as real numbers. -/
theorem scaledT_apply (r : Fin 256) (x : Fin 128) :
    k0_pay5 (F := Ideal) (iblk m c 0 t) (ix2 r x) = (((args m c).q ((256 * (t.val % 2)) + r.val) (t.val / 2 * 128 + x.val) * (args m c).sc : ℝ) : EReal) := by
  pointwise [k0_pay5]
  rw [EReal.coe_mul, ← at_q m c hr t r x, scale_eq]
  rfl

/-- What a point's rows add to the gradient of the keys. -/
theorem dkT_apply (acc : Vec Ideal S512x128 .f32) (j : Fin 512) (x : Fin 128) :
    k0_pay10 (F := Ideal) (k0_pay5 (iblk m c 0 t)) (probT m c t) (iblk m c 6 t) (iblk m c 2 t) acc (ix2 j x)
      = acc (ix2 j x) + ((∑ r : Fin 256, dlogit (args m c) 512 (t.val / 2) ((256 * (t.val % 2)) + r.val) j.val * ((args m c).q ((256 * (t.val % 2)) + r.val) (t.val / 2 * 128 + x.val) * (args m c).sc) : ℝ) : EReal) :=
  tile_dk (args m c) (t.val / 2) (256 * (t.val % 2)) _ _ _ _ acc (dlogitT_apply m c hr t) (scaledT_apply m c hr t) j x

/-- What a point's rows add to the gradient of the values. -/
theorem dvT_apply (acc : Vec Ideal S512x128 .f32) (j : Fin 512) (x : Fin 128) :
    k0_pay11 (F := Ideal) (probT m c t) (iblk m c 6 t) acc (ix2 j x)
      = acc (ix2 j x) + ((∑ r : Fin 256, prob (args m c) (t.val / 2) ((256 * (t.val % 2)) + r.val) j.val * (args m c).dout ((256 * (t.val % 2)) + r.val) (t.val / 2 * 128 + x.val) : ℝ) : EReal) :=
  tile_dv (args m c) (t.val / 2) (256 * (t.val % 2)) _ _ acc (probT_apply m c hr t) (at_do m c hr t) j x

/-- What a point's rows take off the gradient at the positions. -/
theorem ddT_apply (acc : Vec Ideal S1x512 .f32) (j : Fin 512) :
    k0_pay12 (F := Ideal) (probT m c t) (iblk m c 6 t) (iblk m c 2 t) acc (ix2 0 j)
      = acc (ix2 0 j) - ((∑ r : Fin 256, dlogit (args m c) 512 (t.val / 2) ((256 * (t.val % 2)) + r.val) j.val : ℝ) : EReal) :=
  tile_dd (args m c) (t.val / 2) (256 * (t.val % 2)) _ _ _ acc (dlogitT_apply m c hr t) j

/-- A point's rows of the gradient of the queries. -/
theorem dqT_apply (r : Fin 256) (x : Fin 128) :
    k0_pay9 (F := Ideal) (probT m c t) (iblk m c 6 t) (iblk m c 2 t) (iblk m c 1 t) (ix2 r x)
      = ((dqV (args m c) 512 ((256 * (t.val % 2)) + r.val) (t.val / 2 * 128 + x.val) : ℝ) : EReal) :=
  tile_dq (args m c) (t.val / 2) (256 * (t.val % 2)) _ _ _ _ (dlogitT_apply m c hr t) rfl (at_k m c hr t) r x
omit hr

/-! ## What the points leave -/

/-- The keys' gradient after the first tile of a head. -/
theorem dk_first (h0 : t.val % 2 = 0) :
    ((outsAt0 m c t.val t.isLt).2.2.2.2.1 : Vec Ideal S512x128 .f32) = k0_pay10 (F := Ideal) (k0_pay5 (iblk m c 0 t)) (probT m c t) (iblk m c 6 t) (iblk m c 2 t) (k0_pay2 (F := Ideal) (iblk m c 7 t)) := by
  rw [outsAt0_A m c t h0 (by omega)]
  frame_out
  try rfl

/-- The keys' gradient after the second tile of a head. -/
theorem dk_second (h0 : t.val % 2 = 1) :
    ((outsAt0 m c t.val t.isLt).2.1 : Vec Ideal S512x128 .f32) = k0_pay10 (F := Ideal) (k0_pay5 (iblk m c 0 t)) (probT m c t) (iblk m c 6 t) (iblk m c 2 t) (outsAt0 m c (t.val - 1) (by have := t.isLt; omega)).2.2.2.2.1 := by
  rw [outsAt0_B m c t (by omega) h0]
  frame_out
  simp only [read_unread_whole]
  try rfl

/-- The values' gradient after the first tile of a head. -/
theorem dv_first (h0 : t.val % 2 = 0) :
    ((outsAt0 m c t.val t.isLt).2.2.2.2.2.1 : Vec Ideal S512x128 .f32) = k0_pay11 (F := Ideal) (probT m c t) (iblk m c 6 t) (k0_pay3 (F := Ideal) (iblk m c 8 t)) := by
  rw [outsAt0_A m c t h0 (by omega)]
  frame_out
  try rfl

/-- The values' gradient after the second tile of a head. -/
theorem dv_second (h0 : t.val % 2 = 1) :
    ((outsAt0 m c t.val t.isLt).2.2.1 : Vec Ideal S512x128 .f32) = k0_pay11 (F := Ideal) (probT m c t) (iblk m c 6 t) (outsAt0 m c (t.val - 1) (by have := t.isLt; omega)).2.2.2.2.2.1 := by
  rw [outsAt0_B m c t (by omega) h0]
  frame_out
  simp only [read_unread_whole]
  try rfl

/-- The decay's gradient after the first tile of a head. -/
theorem dd_first (h0 : t.val % 2 = 0) :
    ((outsAt0 m c t.val t.isLt).2.2.2.2.2.2 : Vec Ideal S1x512 .f32) = k0_pay12 (F := Ideal) (probT m c t) (iblk m c 6 t) (iblk m c 2 t) (k0_pay4 (F := Ideal) (iblk m c 9 t)) := by
  rw [outsAt0_A m c t h0 (by omega)]
  frame_out
  try rfl

/-- The decay's gradient after the second tile of a head. -/
theorem dd_second (h0 : t.val % 2 = 1) :
    ((outsAt0 m c t.val t.isLt).2.2.2.1 : Vec Ideal S1x1x512 .f32) = k0_pay1 (F := Ideal) (k0_pay12 (F := Ideal) (probT m c t) (iblk m c 6 t) (iblk m c 2 t) (outsAt0 m c (t.val - 1) (by have := t.isLt; omega)).2.2.2.2.2.2) := by
  rw [outsAt0_B m c t (by omega) h0]
  frame_out
  simp only [read_unread_whole]
  try rfl

/-- The queries' gradient at a grid point is the kernel's formula over the tile. -/
theorem dq_point : ((outsAt0 m c t.val t.isLt).1 : Vec Ideal S256x128 .bf16) = k0_pay9 (F := Ideal) (probT m c t) (iblk m c 6 t) (iblk m c 2 t) (iblk m c 1 t) := by
  by_cases h0 : t.val % 2 = 0
  · rw [outsAt0_A m c t h0 (by omega)]
    frame_out
    try rfl
  · rw [outsAt0_B m c t h0 (by omega)]
    frame_out
    try rfl

end Cert.Attn0Ideal.Proof
-- ==== Proof.Arr0.lean ====
module

public import proofs.«01_k».proof.Proof.Kern0

@[expose] public section

/-!
  The call of the attention backward kernel over the rows 0 to 511, the positions being the first 512: the four
  result arrays after the run, at an index.
-/

set_option maxRecDepth 16384

noncomputable section

namespace Cert.Attn0Ideal.Proof

open Cert.Attn0Ideal Cert.Attn0Ideal.Gen Cert.Softmax Idealize.ShloMosaic Idealize.ShloMosaic.TcCoe Idealize.SL.Sem

variable (m : (ℓ : Loc nD τ sig) → Buf (Elt Ideal) ℓ)
variable (c : Dev nD)

/-- The gradient of the queries in the rows of the call. -/
def endDq (i : S2048x2048.Idx) : EReal := ((dqV (args m c) 512 (i 0).val (i 1).val : ℝ) : EReal)

/-- The gradient of the keys as the rows after left it. -/
def carryDk : S2048x2048.Idx → EReal := m (c.tc.loc main_arg5)

/-- The gradient of the keys after the call, at the positions it takes part in. -/
def endDk (i : S2048x2048.Idx) : EReal := carryDk m c i + ((dkV (args m c) 512 0 (i 0).val (i 1).val : ℝ) : EReal)

/-- The second result before the kernel runs is the keys' gradient it is handed. -/
theorem V_out1 : (V m c main_v32_1 : S2048x2048.Idx → EReal) = carryDk m c := by
  show StableHlo.after (hostOps0 ++ (hostOps0_1 ++ (hostOps0_2 ++ []))) _ _ = _
  simp only [List.cons_append, List.nil_append, List.append_nil]
  after_reads_simp
  rfl

/-- The gradient of the values as the rows after left it. -/
def carryDv : S2048x2048.Idx → EReal := m (c.tc.loc main_arg6)

/-- The gradient of the values after the call, at the positions it takes part in. -/
def endDv (i : S2048x2048.Idx) : EReal := carryDv m c i + ((dvV (args m c) 0 (i 0).val (i 1).val : ℝ) : EReal)

/-- The third result before the kernel runs is the values' gradient it is handed. -/
theorem V_out2 : (V m c main_v32_2 : S2048x2048.Idx → EReal) = carryDv m c := by
  show StableHlo.after (hostOps0 ++ (hostOps0_1 ++ (hostOps0_2 ++ []))) _ _ = _
  simp only [List.cons_append, List.nil_append, List.append_nil]
  after_reads_simp
  rfl

/-- The gradient of the running sums of the log gates as the rows after left it. -/
def carryDd : S16x1x2048.Idx → EReal := m (c.tc.loc main_arg7)

/-- The gradient of the running sums of the log gates after the call, at the positions it takes part in. -/
def endDd (i : S16x1x2048.Idx) : EReal := carryDd m c i + ((ddV (args m c) 512 0 (i 0).val (i 2).val : ℝ) : EReal)

/-- The fourth result before the kernel runs is the columns' decay gradient it is handed. -/
theorem V_out3 : (V m c main_v32_3 : S16x1x2048.Idx → EReal) = carryDd m c := by
  show StableHlo.after (hostOps0 ++ (hostOps0_1 ++ (hostOps0_2 ++ []))) _ _ = _
  simp only [List.cons_append, List.nil_append, List.append_nil]
  after_reads_simp
  rfl

/-- The gradient of the queries as the rows after left it. -/
def carryDq : S2048x2048.Idx → EReal := m (c.tc.loc main_arg4)

/-- The first result before the kernel runs is the queries' gradient it is handed. -/
theorem V_out0 : (V m c main_v32_0 : S2048x2048.Idx → EReal) = carryDq m c := by
  show StableHlo.after (hostOps0 ++ (hostOps0_1 ++ (hostOps0_2 ++ []))) _ _ = _
  simp only [List.cons_append, List.nil_append, List.append_nil]
  after_reads_simp
  rfl

/-- A sum over 512 rows is the sum over the first 256 and the sum over the second. -/
theorem sum_rows (f : ℕ → ℝ) : (∑ r : Fin 256, f (0 + 256 * 0 + r.val)) + ∑ r : Fin 256, f (0 + 256 * 1 + r.val) = ∑ r : Fin 512, f (0 + r.val) := by
  refine ((Fin.sum_univ_add (a := 256) (b := 256) _).trans ?_).symm
  simp only [Fin.val_castAdd, Fin.val_natAdd, ← Nat.add_assoc]

variable (hr : RealArgs m c) (t : Fin cfg0.N)
include hr

/-- What the kernel leaves for the keys' gradient at the last tile of a head, as a real sum. -/
theorem dk_out (h0 : t.val % 2 = 1) (j : Fin 512) (x : Fin 128) :
    ((outsAt0 m c t.val t.isLt).2.1 : Vec Ideal S512x128 .f32) (ix2 j x) = endDk m c (ix2 ⟨j.val, by have := j.2; omega⟩ ⟨t.val / 2 * 128 + x.val, by have := t.isLt; have : cfg0.N = 32 := rfl; have := x.2; omega⟩) := by
  have ht : t.val - 1 < cfg0.N := by have := t.isLt; omega
  have e := (congrFun (dk_first m c ⟨t.val - 1, ht⟩ (by show (t.val - 1) % 2 = 0; omega)) (ix2 j x)).trans
    (dkT_apply m c hr ⟨t.val - 1, ht⟩ _ j x)
  show _ = carryDk m c _ + ((dkV (args m c) 512 0 j.val (t.val / 2 * 128 + x.val) : ℝ) : EReal)
  rw [dk_second m c t h0, dkT_apply m c hr t]
  refine (congrArg (· + _) e).trans ?_
  have e7 := read_dk (V m c main_arg5) ⟨t.val - 1, ht⟩ j x
  rw [V_main_arg5] at e7
  have ec : k0_pay2 (F := Ideal) (iblk m c 7 ⟨t.val - 1, ht⟩) (ix2 j x) = (iblk m c 7 ⟨t.val - 1, ht⟩ : Vec Ideal S512x128 .f32) (ix2 j x) := by pointwise [k0_pay2]
  simp only [show (t.val - 1) % 2 = 0 by omega, h0, show (t.val - 1) / 2 = t.val / 2 by omega] at e7 ⊢
  rw [add_assoc, ← EReal.coe_add]
  refine congr (congrArg _ (ec.trans e7)) (congrArg _ ?_)
  unfold dkV
  rw [show (t.val / 2 * 128 + x.val) / 128 = t.val / 2 by have := x.2; omega]
  exact sum_rows (fun r => dlogit (args m c) 512 (t.val / 2) r j.val * ((args m c).q r (t.val / 2 * 128 + x.val) * (args m c).sc))

/-- The gradient of the keys after the call. -/
theorem dk_array : (dats m 0 c).arrAt 11 cfg0.N = fun i : S2048x2048.Idx => if (i 0).val < 512 then endDk m c i else carryDk m c i := by
  have e : ∀ t : Fin grid0.N, win0_11.index t 0 = 0 ∧ win0_11.index t 1 = t.val / 2 := by decide +kernel
  refine ((dats m 0 c).arrAt_eq_of_coversWhere 11 (endDk m c) (P := fun i : S2048x2048.Idx => (i 0).val < 512) (fun β => β 0 = 0) (by decide +kernel) (fun t hf y => ?_) (fun j => by blk_simp [Pipeline.Window.cell_apply]; omega)).trans ?_
  · have h0 : t.val % 2 = 1 := (flush0_11 t).mp hf
    blk_simp
    rw [after0_11]
    rw [show y = ix2 (y 0) (y 1) from by funext a; fin_cases a <;> rfl]
    refine (dk_out m c hr t h0 (y 0) (y 1)).trans (congrArg (endDk m c) ?_)
    blk_ext [e t]
  · rw [← V_out1]
    rfl

/-- What the kernel leaves for the values' gradient at the last tile of a head, as a real sum. -/
theorem dv_out (h0 : t.val % 2 = 1) (j : Fin 512) (x : Fin 128) :
    ((outsAt0 m c t.val t.isLt).2.2.1 : Vec Ideal S512x128 .f32) (ix2 j x) = endDv m c (ix2 ⟨j.val, by have := j.2; omega⟩ ⟨t.val / 2 * 128 + x.val, by have := t.isLt; have : cfg0.N = 32 := rfl; have := x.2; omega⟩) := by
  have ht : t.val - 1 < cfg0.N := by have := t.isLt; omega
  have e := (congrFun (dv_first m c ⟨t.val - 1, ht⟩ (by show (t.val - 1) % 2 = 0; omega)) (ix2 j x)).trans
    (dvT_apply m c hr ⟨t.val - 1, ht⟩ _ j x)
  show _ = carryDv m c _ + ((dvV (args m c) 0 j.val (t.val / 2 * 128 + x.val) : ℝ) : EReal)
  rw [dv_second m c t h0, dvT_apply m c hr t]
  refine (congrArg (· + _) e).trans ?_
  have e7 := read_dv (V m c main_arg6) ⟨t.val - 1, ht⟩ j x
  rw [V_main_arg6] at e7
  have ec : k0_pay3 (F := Ideal) (iblk m c 8 ⟨t.val - 1, ht⟩) (ix2 j x) = (iblk m c 8 ⟨t.val - 1, ht⟩ : Vec Ideal S512x128 .f32) (ix2 j x) := by pointwise [k0_pay3]
  simp only [show (t.val - 1) % 2 = 0 by omega, h0, show (t.val - 1) / 2 = t.val / 2 by omega] at e7 ⊢
  rw [add_assoc, ← EReal.coe_add]
  refine congr (congrArg _ (ec.trans e7)) (congrArg _ ?_)
  unfold dvV
  rw [show (t.val / 2 * 128 + x.val) / 128 = t.val / 2 by have := x.2; omega]
  exact sum_rows (fun r => prob (args m c) (t.val / 2) r j.val * (args m c).dout r (t.val / 2 * 128 + x.val))

/-- The gradient of the values after the call. -/
theorem dv_array : (dats m 0 c).arrAt 12 cfg0.N = fun i : S2048x2048.Idx => if (i 0).val < 512 then endDv m c i else carryDv m c i := by
  have e : ∀ t : Fin grid0.N, win0_12.index t 0 = 0 ∧ win0_12.index t 1 = t.val / 2 := by decide +kernel
  refine ((dats m 0 c).arrAt_eq_of_coversWhere 12 (endDv m c) (P := fun i : S2048x2048.Idx => (i 0).val < 512) (fun β => β 0 = 0) (by decide +kernel) (fun t hf y => ?_) (fun j => by blk_simp [Pipeline.Window.cell_apply]; omega)).trans ?_
  · have h0 : t.val % 2 = 1 := (flush0_12 t).mp hf
    blk_simp
    rw [after0_12]
    rw [show y = ix2 (y 0) (y 1) from by funext a; fin_cases a <;> rfl]
    refine (dv_out m c hr t h0 (y 0) (y 1)).trans (congrArg (endDv m c) ?_)
    blk_ext [e t]
  · rw [← V_out2]
    rfl

/-- What the kernel leaves for the decay's gradient at the last tile of a head, as a real sum. -/
theorem dd_out (h0 : t.val % 2 = 1) (j : Fin 512) :
    ((outsAt0 m c t.val t.isLt).2.2.2.1 : Vec Ideal S1x1x512 .f32) (ix3 0 0 j) = endDd m c (ix3 ⟨t.val / 2, by have := t.isLt; have : cfg0.N = 32 := rfl; omega⟩ 0 ⟨j.val, by have := j.2; omega⟩) := by
  have ht : t.val - 1 < cfg0.N := by have := t.isLt; omega
  have e := (congrFun (dd_first m c ⟨t.val - 1, ht⟩ (by show (t.val - 1) % 2 = 0; omega)) (ix2 0 j)).trans
    (ddT_apply m c hr ⟨t.val - 1, ht⟩ _ j)
  show _ = carryDd m c _ + ((ddV (args m c) 512 0 (t.val / 2) j.val : ℝ) : EReal)
  rw [dd_second m c t h0]
  have e1 : ∀ v : Vec Ideal S1x512 .f32, k0_pay1 (F := Ideal) v (ix3 0 0 j) = v (ix2 0 j) := fun v => by pointwise [k0_pay1]
  rw [e1, ddT_apply m c hr t]
  refine (congrArg (· - _) e).trans ?_
  have e7 := read_dd (V m c main_arg7) ⟨t.val - 1, ht⟩ j
  rw [V_main_arg7] at e7
  have ec : k0_pay4 (F := Ideal) (iblk m c 9 ⟨t.val - 1, ht⟩) (ix2 0 j) = (iblk m c 9 ⟨t.val - 1, ht⟩ : Vec Ideal S1x1x512 .f32) (ix3 0 0 j) := by pointwise [k0_pay4]
  simp only [show (t.val - 1) % 2 = 0 by omega, h0, show (t.val - 1) / 2 = t.val / 2 by omega] at e7 ⊢
  rw [sub_eq_add_neg, sub_eq_add_neg, ← EReal.coe_neg, ← EReal.coe_neg, add_assoc, ← EReal.coe_add]
  refine congr (congrArg _ (ec.trans e7)) (congrArg _ ?_)
  unfold ddV
  rw [← neg_add]
  exact congrArg _ (sum_rows (fun r => dlogit (args m c) 512 (t.val / 2) r j.val))

/-- The gradient of the running sums of the log gates after the call. -/
theorem dd_array : (dats m 0 c).arrAt 13 cfg0.N = fun i : S16x1x2048.Idx => if (i 2).val < 512 then endDd m c i else carryDd m c i := by
  have e : ∀ t : Fin grid0.N, win0_13.index t 0 = t.val / 2 ∧ win0_13.index t 1 = 0 ∧ win0_13.index t 2 = 0 := by decide +kernel
  refine ((dats m 0 c).arrAt_eq_of_coversWhere 13 (endDd m c) (P := fun i : S16x1x2048.Idx => (i 2).val < 512) (fun β => β 2 = 0) (by decide +kernel) (fun t hf y => ?_) (fun j => by blk_simp [Pipeline.Window.cell_apply]; omega)).trans ?_
  · have h0 : t.val % 2 = 1 := (flush0_13 t).mp hf
    blk_simp
    rw [after0_13]
    rw [show y = ix3 0 0 (y 2) from by funext a; fin_cases a; exact Subsingleton.elim (α := Fin 1) _ _; exact Subsingleton.elim (α := Fin 1) _ _; rfl]
    refine (dd_out m c hr t h0 (y 2)).trans (congrArg (endDd m c) ?_)
    blk_ext [e t]
  · rw [← V_out3]
    rfl

/-- What the kernel leaves for the queries' gradient at a tile, as a real sum. -/
theorem dq_out (r : Fin 256) (x : Fin 128) :
    ((outsAt0 m c t.val t.isLt).1 : Vec Ideal S256x128 .bf16) (ix2 r x) = endDq m c (ix2 ⟨256 * (t.val % 2) + r.val, by have := r.2; omega⟩ ⟨t.val / 2 * 128 + x.val, by have := t.isLt; have : cfg0.N = 32 := rfl; have := x.2; omega⟩) := by
  rw [dq_point m c t]
  exact dqT_apply m c hr t r x

/-- The gradient of the queries after the call: the call's rows of it are written, the other rows kept. -/
theorem dq_array : (dats m 0 c).arrAt 10 cfg0.N = fun i : S2048x2048.Idx => if (i 0).val < 512 then endDq m c i else carryDq m c i := by
  have e : ∀ t : Fin grid0.N, win0_10.index t 0 = t.val % 2 ∧ win0_10.index t 1 = t.val / 2 := by decide +kernel
  refine ((dats m 0 c).arrAt_eq_of_coversWhere 10 (endDq m c) (P := fun i : S2048x2048.Idx => (i 0).val < 512) (fun β => β 0 < 2) (by decide +kernel) (fun t hf y => ?_) (fun j => by blk_simp [Pipeline.Window.cell_apply]; omega)).trans ?_
  · blk_simp
    rw [after0_10]
    rw [show y = ix2 (y 0) (y 1) from by funext a; fin_cases a <;> rfl]
    refine (dq_out m c hr t (y 0) (y 1)).trans (congrArg (endDq m c) ?_)
    blk_ext [e t]
  · rw [← V_out0]
    rfl

end Cert.Attn0Ideal.Proof
-- ==== Proof.Ref0.lean ====
/- The reference of the call over rows 0 to 511, read one operation after the other: the logits, their maximum, the
   weights, the gradients, and the four results. Every value is a real number. -/
module

public import proofs.«01_k».proof.Proof.Gen.AttnGrad0Ideal.Read
public import proofs.«01_k».proof.Proof.Lse

@[expose] public section

set_option maxRecDepth 16384

noncomputable section

namespace Cert.AttnGrad0Ideal.Proof

open Cert.AttnGrad0Ideal Cert.AttnGrad0Ideal.Gen Cert.AttnGrad0Ideal.Read Cert.Softmax Idealize.ShloMosaic

variable (x0 : FVec Ideal S2048x2048 .f32) (x1 : FVec Ideal S2048x4096 .bf16) (x2 : FVec Ideal S16x2048 .f32) (x3 : FVec Ideal S2048x2048 .bf16)

/-- The reference's logits: the masked ones are negative infinity. -/
theorem logits_apply (h0 : IsReal x0) (h1 : IsReal x1) (h2 : IsReal x2) (h : Fin 16) (r : Fin 512) (j : Fin 512) :
    val_main_v25_0 (F := Ideal) x0 x1 x2 (ix3 h r j) = logitE (inp x0 x1 x2 x3) h r.val j := by
  simp only [Nat.zero_add]
  pointwise [val_main_v25_0, val_main_v25_1, val_main_v24, val_main_v22, val_main_v19, val_main_v18, val_main_v23, val_main_v21, val_main_v20, val_main_v17, val_main_v14, val_main_v11, val_main_v8, val_main_v6, val_main_v4, val_main_v7, val_main_cst, val_main_v9, val_main_v1, val_main_v0, val_main_v13, val_main_v12, val_main_v5, val_main_v16, val_main_v15, val_main_call0_v2, val_main_call0_v0, val_main_cst_0]
  simp only [h0.at, h1.at, h2.at]
  show Scalar.select _ _ (Ideal.ofBits .f32 4286578688#32) = _
  rw [ofBits_bot, scale_eq]
  have e := coe_logit (inp x0 x1 x2 x3) h (r.val) j
  have e' := select_visible (IntOp.cmpi .sge (BitVec.ofNat 32 (r.val)) (BitVec.ofNat 32 ↑j)) (r.val) j
    (word_sge _ _ (by have := r.2; omega) (by have := j.2; omega)) (logit (inp x0 x1 x2 x3) h (r.val) j)
  rw [← e] at e'
  exact e'.trans (by unfold logitE; rw [← e])

/-- A row's maximum, of any array. -/
theorem max_of (x : FVec Ideal S16x512x512 .f32) (h : Fin 16) (r : Fin 512) :
    Host.reduce (FloatOps.maximumf (F := Ideal)) x (constant (F := Ideal) S_ .f32 0xFF800000#32) reducesTo_S16x512x512_S16x512_d2 h_S_ (ix2 h r)
      = Finset.fold max ⊥ (fun j : Fin 512 => x (ix3 h r j)) Finset.univ := by
  rw [reduce_max_last]
  exact congrArg (fun z => Finset.fold max z _ _) ofBits_bot

/-- The reference's row maximum, as a fold. -/
theorem max_fold (h : Fin 16) (r : Fin 512) :
    val_main_v26 (F := Ideal) x0 x1 x2 (ix2 h r) = Finset.fold max ⊥ (fun j : Fin 512 => val_main_v25_0 (F := Ideal) x0 x1 x2 (ix3 h r j)) Finset.univ := by
  unfold val_main_v26 val_main_cst_1
  exact max_of _ h r

/-- The row maximum the gradient recomputes is the forward one. -/
theorem max_twice (i : S16x512.Idx) : val_main_v33 (F := Ideal) x0 x1 x2 i = val_main_v26 (F := Ideal) x0 x1 x2 i := by
  rw [val_main_v33_apply, val_main_v32_apply, val_main_cst_3_apply]
  exact max_with_bot _

/-- The maximum of a row's logits is a real number. -/
theorem max_logits (h0 : IsReal x0) (h1 : IsReal x1) (h2 : IsReal x2) (h : Fin 16) (r : Fin 512) :
    Finset.fold max ⊥ (fun j : Fin 512 => val_main_v25_0 (F := Ideal) x0 x1 x2 (ix3 h r j)) Finset.univ
      = ((rowMax (inp x0 x1 x2 x3) 512 h r.val : ℝ) : EReal) := by
  rw [← coe_rowMax _ _ _ _ (by have := r.2; omega)]
  exact congrArg (fun f => Finset.fold max ⊥ f Finset.univ) (funext fun j => logits_apply x0 x1 x2 x3 h0 h1 h2 h r j)

/-- The reference's row maximum is a real number. -/
theorem max_apply (h0 : IsReal x0) (h1 : IsReal x1) (h2 : IsReal x2) (h : Fin 16) (r : Fin 512) :
    val_main_v33 (F := Ideal) x0 x1 x2 (ix2 h r) = ((rowMax (inp x0 x1 x2 x3) 512 h r.val : ℝ) : EReal) := by
  rw [max_twice, max_fold, max_logits x0 x1 x2 x3 h0 h1 h2]

/-- The reference's weights as real numbers. -/
theorem weight_apply (h0 : IsReal x0) (h1 : IsReal x1) (h2 : IsReal x2) (h : Fin 16) (r : Fin 512) (j : Fin 512) :
    val_main_v46 (F := Ideal) x0 x1 x2 (ix3 h r j)
      = ((weight (inp x0 x1 x2 x3) (rowMax (inp x0 x1 x2 x3) 512 h r.val) h r.val j : ℝ) : EReal) := by
  pointwise [val_main_v46, val_main_v45, val_main_v44, val_main_v43]
  rw [logits_apply x0 x1 x2 x3 h0 h1 h2, max_apply x0 x1 x2 x3 h0 h1 h2]
  exact exp_logitE_sub _ _ _ _ _

/-- The reference's row sums as real numbers. -/
theorem sum_apply (h0 : IsReal x0) (h1 : IsReal x1) (h2 : IsReal x2) (h : Fin 16) (r : Fin 512) :
    val_main_v47 (F := Ideal) x0 x1 x2 (ix2 h r) = ((rowSum (inp x0 x1 x2 x3) 512 h r.val : ℝ) : EReal) := by
  pointwise [val_main_v47, val_main_cst_9]
  simp only [weight_apply x0 x1 x2 x3 h0 h1 h2]
  exact coe_sum _

/-- The reference's probabilities as real numbers. -/
theorem prob_apply (h0 : IsReal x0) (h1 : IsReal x1) (h2 : IsReal x2) (h : Fin 16) (r : Fin 512) (j : Fin 512) :
    val_main_v50 (F := Ideal) x0 x1 x2 (ix3 h r j) = ((prob (inp x0 x1 x2 x3) h r.val j : ℝ) : EReal) := by
  pointwise [val_main_v50, val_main_v49, val_main_v48]
  rw [weight_apply x0 x1 x2 x3 h0 h1 h2, sum_apply x0 x1 x2 x3 h0 h1 h2]
  have hr : r.val < 512 := by have := r.2; omega
  exact (div_coe_ne _ _ (rowSum_ne _ _ _ _ hr)).trans (congrArg _ (weight_div _ 512 _ _ _ _ hr))

/-- The gradient of the reference's probabilities. -/
theorem dprob_apply (h1 : IsReal x1) (h3 : IsReal x3) (h : Fin 16) (r : Fin 512) (j : Fin 512) :
    val_main_v61 (F := Ideal) x1 x3 (ix3 h r j) = ((dprob (inp x0 x1 x2 x3) h r.val j : ℝ) : EReal) := by
  simp only [Nat.zero_add]
  pointwise [val_main_v61, val_main_v60, val_main_v59, val_main_v58, val_main_v57, val_main_v10, val_main_v3, val_main_v2]
  simp only [h1.at, h3.at]
  exact coe_dprob (inp x0 x1 x2 x3) h (r.val) j

/-- The gradient of the reference's logits. -/
theorem dlogit_apply (h0 : IsReal x0) (h1 : IsReal x1) (h2 : IsReal x2) (h3 : IsReal x3) (h : Fin 16) (r : Fin 512) (j : Fin 512) :
    val_main_v76 (F := Ideal) x0 x1 x2 x3 (ix3 h r j) = ((dlogit (inp x0 x1 x2 x3) 512 h r.val j : ℝ) : EReal) := by
  pointwise [val_main_v76, val_main_v25_1, val_main_v24, val_main_v22, val_main_v19, val_main_v18, val_main_v23, val_main_v21, val_main_v20, val_main_v75, val_main_v74, val_main_v71, val_main_v70, val_main_v48, val_main_v73, val_main_v72, val_main_v69, val_main_v68, val_main_v67, val_main_v66, val_main_v65, val_main_v64, val_main_v53, val_main_v52, val_main_cst_10, val_main_v51, val_main_cst_11, val_main_cst_12, val_main_call1_v0, val_main_call1_cst]
  simp only [dprob_apply x0 x1 x2 x3 h1 h3, weight_apply x0 x1 x2 x3 h0 h1 h2, sum_apply x0 x1 x2 x3 h0 h1 h2]
  have hr : r.val < 512 := by have := r.2; omega
  have e := coe_dlogit (inp x0 x1 x2 x3) 512 h r.val j hr
  refine (congrArg (fun z : EReal => Scalar.select (IntOp.cmpi .sge (BitVec.ofNat 32 (r.val)) (BitVec.ofNat 32 ↑j)) z 0) e).trans ?_
  exact select_hidden _ (r.val) j (word_sge _ _ (by have := r.2; omega) (by have := j.2; omega)) _
    (fun hj => dlogit_hidden _ _ _ _ _ (by omega))

/-- The logit gradients summed over the rows. -/
theorem column_apply (h0 : IsReal x0) (h1 : IsReal x1) (h2 : IsReal x2) (h3 : IsReal x3) (h : Fin 16) (j : Fin 512) :
    val_main_v80 (F := Ideal) x0 x1 x2 x3 (ix2 h j) = ((ddV (inp x0 x1 x2 x3) 512 0 h j : ℝ) : EReal) := by
  pointwise [val_main_v80, val_main_v79, val_main_v78, val_main_v77, val_main_cst_13, val_main_cst_14]
  exact coe_ddV (inp x0 x1 x2 x3) 512 0 h j _ (fun r => by rw [dlogit_apply x0 x1 x2 x3 h0 h1 h2 h3 h r j, Nat.zero_add])

/-- The logit gradients summed over the columns. -/
theorem row_apply (h0 : IsReal x0) (h1 : IsReal x1) (h2 : IsReal x2) (h3 : IsReal x3) (h : Fin 16) (r : Fin 512) :
    val_main_v83 (F := Ideal) x0 x1 x2 x3 (ix2 h r) = 0 := by
  pointwise [val_main_v83, val_main_v82, val_main_v81, val_main_cst_15, val_main_cst_16]
  exact coe_row (inp x0 x1 x2 x3) 512 h r.val (by have := r.2; omega) _ (fun j => dlogit_apply x0 x1 x2 x3 h0 h1 h2 h3 h r j)

/-- The gradient of the cumulated decay. -/
theorem ddrow_apply (h0 : IsReal x0) (h1 : IsReal x1) (h2 : IsReal x2) (h3 : IsReal x3) (h : Fin 16) (j : Fin 512) :
    val_main_v84 (F := Ideal) x0 x1 x2 x3 (ix2 h j) = ((ddV (inp x0 x1 x2 x3) 512 0 h j : ℝ) : EReal) := by
  pointwise [val_main_v84]
  rw [column_apply x0 x1 x2 x3 h0 h1 h2 h3, row_apply x0 x1 x2 x3 h0 h1 h2 h3]
  exact add_zero _

/-- The gradient of the keys. -/
theorem dk_apply (h0 : IsReal x0) (h1 : IsReal x1) (h2 : IsReal x2) (h3 : IsReal x3) (j : Fin 512) (e : Fin 2048) :
    val_main_v90 (F := Ideal) x0 x1 x2 x3 (ix2 j e) = ((dkV (inp x0 x1 x2 x3) 512 0 j e : ℝ) : EReal) := by
  pointwise [val_main_v90, val_main_v86, val_main_v85, val_main_v8, val_main_v6, val_main_v4, val_main_v7, val_main_cst]
  simp only [dlogit_apply x0 x1 x2 x3 h0 h1 h2 h3, h0.at, scale_eq, ← EReal.coe_mul]
  unfold dkV
  simp only [Nat.zero_add]
  exact coe_sum _

/-- The gradient of the values. -/
theorem dv_apply (h0 : IsReal x0) (h1 : IsReal x1) (h2 : IsReal x2) (h3 : IsReal x3) (j : Fin 512) (e : Fin 2048) :
    val_main_v89 (F := Ideal) x0 x1 x2 x3 (ix2 j e) = ((dvV (inp x0 x1 x2 x3) 0 j e : ℝ) : EReal) := by
  pointwise [val_main_v89, val_main_v63, val_main_v62, val_main_v60, val_main_v59, val_main_v58, val_main_v57]
  simp only [prob_apply x0 x1 x2 x3 h0 h1 h2, h3.at, ← EReal.coe_mul]
  unfold dvV
  simp only [Nat.zero_add]
  simp only [Nat.zero_add, mul_comm (prob _ _ _ _)]
  exact coe_sum _

/-- The gradient of the queries. -/
theorem dq_apply (h0 : IsReal x0) (h1 : IsReal x1) (h2 : IsReal x2) (h3 : IsReal x3) (r : Fin 512) (e : Fin 2048) :
    val_main_v94 (F := Ideal) x0 x1 x2 x3 (ix2 r e) = ((dqV (inp x0 x1 x2 x3) 512 r.val e : ℝ) : EReal) := by
  pointwise [val_main_v94, val_main_v93, val_main_v92, val_main_v88, val_main_v87, val_main_v9, val_main_v1, val_main_v0, val_main_v91, val_main_cst_17]
  simp only [dlogit_apply x0 x1 x2 x3 h0 h1 h2 h3, h1.at, scale_eq, ← EReal.coe_mul]
  unfold dqV
  rw [EReal.coe_mul, ← coe_sum]
  rfl

/-! ## The results: the part added to what the earlier calls left -/

variable (x4 : FVec Ideal S2048x2048 .bf16) (x5 x6 : FVec Ideal S2048x2048 .f32) (x7 : FVec Ideal S16x1x2048 .f32)

/-- The reference's first result as real sums. -/
theorem result0_apply (h0 : IsReal x0) (h1 : IsReal x1) (h2 : IsReal x2) (h3 : IsReal x3) (i e : Fin 2048) :
    val_main_v98 (F := Ideal) x0 x1 x2 x3 x4 (ix2 i e)
      = if i.val < 512 then ((dqV (inp x0 x1 x2 x3) 512 i e : ℝ) : EReal) else x4 (ix2 i e) := by
  pointwise [val_main_v98, val_main_v96, val_main_v97]
  by_cases hc : i.val < 512
  · rw [if_pos hc, dif_neg (by omega), dif_pos (by omega), dq_apply x0 x1 x2 x3 h0 h1 h2 h3]
  · rw [if_neg hc]
    rw [dif_neg (by omega), dif_neg hc]
    exact congrArg (fun n => x4 (ix2 n e)) (Fin.ext (show 512 + (i.val - 512) = i.val by omega))

/-- The reference's second result as real sums. -/
theorem result1_apply (h0 : IsReal x0) (h1 : IsReal x1) (h2 : IsReal x2) (h3 : IsReal x3) (i e : Fin 2048) :
    val_main_v102 (F := Ideal) x0 x1 x2 x3 x5 (ix2 i e)
      = if i.val < 512 then x5 (ix2 i e) + ((dkV (inp x0 x1 x2 x3) 512 0 i e : ℝ) : EReal) else x5 (ix2 i e) := by
  pointwise [val_main_v102, val_main_v100, val_main_v99, val_main_v101]
  by_cases hc : i.val < 512
  · rw [if_pos hc, dif_pos hc, dk_apply x0 x1 x2 x3 h0 h1 h2 h3]
  · rw [if_neg hc, dif_neg hc]
    exact congrArg (fun n => x5 (ix2 n e)) (Fin.ext (show 512 + (i.val - 512) = i.val by omega))

/-- The reference's third result as real sums. -/
theorem result2_apply (h0 : IsReal x0) (h1 : IsReal x1) (h2 : IsReal x2) (h3 : IsReal x3) (i e : Fin 2048) :
    val_main_v106 (F := Ideal) x0 x1 x2 x3 x6 (ix2 i e)
      = if i.val < 512 then x6 (ix2 i e) + ((dvV (inp x0 x1 x2 x3) 0 i e : ℝ) : EReal) else x6 (ix2 i e) := by
  pointwise [val_main_v106, val_main_v104, val_main_v103, val_main_v105]
  by_cases hc : i.val < 512
  · rw [if_pos hc, dif_pos hc, dv_apply x0 x1 x2 x3 h0 h1 h2 h3]
  · rw [if_neg hc, dif_neg hc]
    exact congrArg (fun n => x6 (ix2 n e)) (Fin.ext (show 512 + (i.val - 512) = i.val by omega))

/-- The reference's fourth result as real sums. -/
theorem result3_apply (h0 : IsReal x0) (h1 : IsReal x1) (h2 : IsReal x2) (h3 : IsReal x3) (h : Fin 16) (u : Fin 1) (j : Fin 2048) :
    val_main_v110 (F := Ideal) x0 x1 x2 x3 x7 (ix3 h u j)
      = if j.val < 512 then x7 (ix3 h u j) + ((ddV (inp x0 x1 x2 x3) 512 0 h j : ℝ) : EReal) else x7 (ix3 h u j) := by
  obtain rfl : u = 0 := Subsingleton.elim _ _
  pointwise [val_main_v110, val_main_v108, val_main_v107, val_main_v95, val_main_v109]
  by_cases hc : j.val < 512
  · rw [if_pos hc, dif_pos hc, ddrow_apply x0 x1 x2 x3 h0 h1 h2 h3]
  · rw [if_neg hc, dif_neg hc]
    exact congrArg (fun n => x7 (ix3 h 0 n)) (Fin.ext (show 512 + (j.val - 512) = j.val by omega))

end Cert.AttnGrad0Ideal.Proof
-- ==== Proof.Eq0.lean ====
module

public import proofs.«01_k».proof.Proof.Arr0
public import proofs.«01_k».proof.Proof.Ref0
public import proofs.«01_k».proof.Defs
public import proofs.«01_k».proof.Proof.Gen.Attn0.Frame
public import proofs.«01_k».proof.Proof.Gen.Attn0Ideal.Frame
public import proofs.«01_k».proof.Proof.Gen.Pre_finite_later

@[expose] public section

/-!
  The claims about the call of the attention backward kernel over the rows 0 to 511: the four result arrays of the call and
  the four results of the reference are the same functions of the arguments.
-/

set_option maxRecDepth 16384

noncomputable section

namespace Cert.Proof.Call0

open Cert.Attn0Ideal Cert.Attn0Ideal.Gen Cert.Attn0Ideal.Proof Cert.Attn0Ideal.Value Cert.Softmax Idealize.ShloMosaic Idealize.ShloMosaic.TcCoe Idealize.SL.Sem

variable (m : (ℓ : Loc nD τ sig) → Buf (Elt Ideal) ℓ) (c : Dev nD) (hr : RealArgs m c)
include hr

/-- The gradient with respect to the queries. -/
theorem dq_eq : (Cert.AttnGrad0Ideal.Read.val_main_v98 (F := Ideal) (m (c.tc.loc main_arg0)) (m (c.tc.loc main_arg1)) (m (c.tc.loc main_arg2)) (m (c.tc.loc main_arg3)) (m (c.tc.loc main_arg4)) : S2048x2048.Idx → EReal) = ((dats m 0 c).arrAt 10 cfg0.N : S2048x2048.Idx → EReal) := by
  funext i
  have hi : i = ix2 (i 0) (i 1) := by
    funext a
    fin_cases a <;> rfl
  rw [dq_array m c hr, hi]
  exact Cert.AttnGrad0Ideal.Proof.result0_apply _ _ _ _ _ hr.1 hr.2.1 hr.2.2.1 hr.2.2.2 (i 0) (i 1)

/-- The gradient with respect to the keys. -/
theorem dk_eq : (Cert.AttnGrad0Ideal.Read.val_main_v102 (F := Ideal) (m (c.tc.loc main_arg0)) (m (c.tc.loc main_arg1)) (m (c.tc.loc main_arg2)) (m (c.tc.loc main_arg3)) (m (c.tc.loc main_arg5)) : S2048x2048.Idx → EReal) = ((dats m 0 c).arrAt 11 cfg0.N : S2048x2048.Idx → EReal) := by
  funext i
  have hi : i = ix2 (i 0) (i 1) := by
    funext a
    fin_cases a <;> rfl
  rw [dk_array m c hr, hi]
  exact Cert.AttnGrad0Ideal.Proof.result1_apply _ _ _ _ _ hr.1 hr.2.1 hr.2.2.1 hr.2.2.2 (i 0) (i 1)

/-- The gradient with respect to the values. -/
theorem dv_eq : (Cert.AttnGrad0Ideal.Read.val_main_v106 (F := Ideal) (m (c.tc.loc main_arg0)) (m (c.tc.loc main_arg1)) (m (c.tc.loc main_arg2)) (m (c.tc.loc main_arg3)) (m (c.tc.loc main_arg6)) : S2048x2048.Idx → EReal) = ((dats m 0 c).arrAt 12 cfg0.N : S2048x2048.Idx → EReal) := by
  funext i
  have hi : i = ix2 (i 0) (i 1) := by
    funext a
    fin_cases a <;> rfl
  rw [dv_array m c hr, hi]
  exact Cert.AttnGrad0Ideal.Proof.result2_apply _ _ _ _ _ hr.1 hr.2.1 hr.2.2.1 hr.2.2.2 (i 0) (i 1)

/-- The gradient with respect to the cumulative decay. -/
theorem dd_eq : (Cert.AttnGrad0Ideal.Read.val_main_v110 (F := Ideal) (m (c.tc.loc main_arg0)) (m (c.tc.loc main_arg1)) (m (c.tc.loc main_arg2)) (m (c.tc.loc main_arg3)) (m (c.tc.loc main_arg7)) : S16x1x2048.Idx → EReal) = ((dats m 0 c).arrAt 13 cfg0.N : S16x1x2048.Idx → EReal) := by
  funext i
  have hi : i = ix3 (i 0) (i 1) (i 2) := by
    funext a
    fin_cases a <;> rfl
  rw [dd_array m c hr, hi]
  exact Cert.AttnGrad0Ideal.Proof.result3_apply _ _ _ _ _ hr.1 hr.2.1 hr.2.2.1 hr.2.2.2 (i 0) (i 1) (i 2)

omit hr in
/-- Under the precondition the arguments are real numbers. -/
theorem real (h : Cert.Pre_Attn0Ideal_finite_later m) : RealArgs m c :=
  Cert.Softmax.real_of_pre_later _ _ _ _ _ _ _ _ (h c)

omit hr in
/-- The call computes the reference's four results. -/
theorem algebraic : Cert.algebraic_Attn0Ideal_AttnGrad0Ideal_pre_finite_later := by
  intro m g m' g' hpre hargs
  refine ⟨fun c => (dats m 0 c).arrAt 10 cfg0.N, fun c => (dats m 0 c).arrAt 11 cfg0.N, fun c => (dats m 0 c).arrAt 12 cfg0.N,
    fun c => (dats m 0 c).arrAt 13 cfg0.N, run_blocks m g, (θ_run _ _ _).mono (fun r h c => ?_) (Cert.AttnGrad0Ideal.Value.run m' g')⟩
  have hr := real m c hpre
  obtain ⟨a0, a1, a2, a3, a4, a5, a6, a7⟩ := hargs c
  obtain ⟨r0, r1, r2, r3, rest⟩ := h c
  refine ⟨r0.trans ?_, r1.trans ?_, r2.trans ?_, r3.trans ?_, rest⟩
  · rw [Cert.AttnGrad0Ideal.Read.val_main_v98_eq, a0, a1, a2, a3, a4]
    exact dq_eq m c hr
  · rw [Cert.AttnGrad0Ideal.Read.val_main_v102_eq, a0, a1, a2, a3, a5]
    exact dk_eq m c hr
  · rw [Cert.AttnGrad0Ideal.Read.val_main_v106_eq, a0, a1, a2, a3, a6]
    exact dv_eq m c hr
  · rw [Cert.AttnGrad0Ideal.Read.val_main_v110_eq, a0, a1, a2, a3, a7]
    exact dd_eq m c hr

omit hr in
/-- The idealization names the mask constant minus infinity. -/
theorem preserves : Cert.preserves_Attn0_Attn0Ideal :=
  IdealRules.named_const.statement Cert.Attn0Ideal.κ "mask" .f32 0xF149F2CA#32 ⊥ rfl

omit hr in
/-- The reference leaves its arguments and every counter as they were, from any memory. -/
theorem frame_ref (m : (ℓ : Loc Cert.AttnGrad0Ideal.nD Cert.AttnGrad0Ideal.τ Cert.AttnGrad0Ideal.sig) → Buf (Elt Ideal) ℓ) (g : Dev Cert.AttnGrad0Ideal.nD → PrngReg) :
    θ_run (Cert.AttnGrad0Ideal.defs (F := Ideal)) (onTc (τ := Cert.AttnGrad0Ideal.τ) (Cert.AttnGrad0Ideal.main (F := Ideal))) ⟨m, fun _ => 0, g⟩ (fun r => (∀ c : Dev Cert.AttnGrad0Ideal.nD,
      r.2.mem ((c.tc : Thread Cert.AttnGrad0Ideal.nD Cert.AttnGrad0Ideal.τ).loc Cert.AttnGrad0Ideal.main_arg0) = m ((c.tc : Thread Cert.AttnGrad0Ideal.nD Cert.AttnGrad0Ideal.τ).loc Cert.AttnGrad0Ideal.main_arg0)
      ∧ r.2.mem ((c.tc : Thread Cert.AttnGrad0Ideal.nD Cert.AttnGrad0Ideal.τ).loc Cert.AttnGrad0Ideal.main_arg1) = m ((c.tc : Thread Cert.AttnGrad0Ideal.nD Cert.AttnGrad0Ideal.τ).loc Cert.AttnGrad0Ideal.main_arg1)
      ∧ r.2.mem ((c.tc : Thread Cert.AttnGrad0Ideal.nD Cert.AttnGrad0Ideal.τ).loc Cert.AttnGrad0Ideal.main_arg2) = m ((c.tc : Thread Cert.AttnGrad0Ideal.nD Cert.AttnGrad0Ideal.τ).loc Cert.AttnGrad0Ideal.main_arg2)
      ∧ r.2.mem ((c.tc : Thread Cert.AttnGrad0Ideal.nD Cert.AttnGrad0Ideal.τ).loc Cert.AttnGrad0Ideal.main_arg3) = m ((c.tc : Thread Cert.AttnGrad0Ideal.nD Cert.AttnGrad0Ideal.τ).loc Cert.AttnGrad0Ideal.main_arg3)
      ∧ r.2.mem ((c.tc : Thread Cert.AttnGrad0Ideal.nD Cert.AttnGrad0Ideal.τ).loc Cert.AttnGrad0Ideal.main_arg4) = m ((c.tc : Thread Cert.AttnGrad0Ideal.nD Cert.AttnGrad0Ideal.τ).loc Cert.AttnGrad0Ideal.main_arg4)
      ∧ r.2.mem ((c.tc : Thread Cert.AttnGrad0Ideal.nD Cert.AttnGrad0Ideal.τ).loc Cert.AttnGrad0Ideal.main_arg5) = m ((c.tc : Thread Cert.AttnGrad0Ideal.nD Cert.AttnGrad0Ideal.τ).loc Cert.AttnGrad0Ideal.main_arg5)
      ∧ r.2.mem ((c.tc : Thread Cert.AttnGrad0Ideal.nD Cert.AttnGrad0Ideal.τ).loc Cert.AttnGrad0Ideal.main_arg6) = m ((c.tc : Thread Cert.AttnGrad0Ideal.nD Cert.AttnGrad0Ideal.τ).loc Cert.AttnGrad0Ideal.main_arg6)
      ∧ r.2.mem ((c.tc : Thread Cert.AttnGrad0Ideal.nD Cert.AttnGrad0Ideal.τ).loc Cert.AttnGrad0Ideal.main_arg7) = m ((c.tc : Thread Cert.AttnGrad0Ideal.nD Cert.AttnGrad0Ideal.τ).loc Cert.AttnGrad0Ideal.main_arg7))
      ∧ r.2.sem = fun _ => 0) :=
  (θ_run Cert.AttnGrad0Ideal.defs _ _).mono (fun r h => ⟨fun c => (h c).2.2.2.2, sem_eq_zero_of_no_sems (by decide) r.2⟩) (Cert.AttnGrad0Ideal.Value.run m g)

end Cert.Proof.Call0

end
-- ==== Proof.Up.lean ====
module

public import proofs.«01_k».proof.Defs
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The first product of the MLP and the squared rectifier of it, over weights in eight blocks of 1024 columns: a tile of
  1024 × 1024 at each grid point.
-/

set_option maxRecDepth 16384

noncomputable section

namespace Cert.UpIdeal.Proof

open Cert.UpIdeal Cert.UpIdeal.Gen Cert.UpIdeal.Value Idealize.ShloMosaic Idealize.ShloMosaic.TcCoe Idealize.SL.Sem
open Cert.UpRefIdeal.Read

variable (m : (ℓ : Loc nD τ sig) → Buf (Elt Ideal) ℓ) (c : Dev nD)

/-- The block that holds a column of the whole array. -/
def block (j : Fin 8192) : Fin 8 := ⟨j.val / 1024, by omega⟩

/-- The column of its block that a column of the whole array is. -/
def col (j : Fin 8192) : Fin 1024 := ⟨j.val % 1024, by omega⟩

/-- The product of a row of the input with a column of the weights. -/
def product (a : S2048x2048.Idx → EReal) (w : S8x2048x1024.Idx → EReal) (i : S2048x8192.Idx) : EReal :=
  ∑ t : Fin 2048, a (ix2 (i 0) t) * w (ix3 (block (i 1)) t (col (i 1)))

/-- The squared rectifier of the product. -/
def squared (a : S2048x2048.Idx → EReal) (w : S8x2048x1024.Idx → EReal) (i : S2048x8192.Idx) : EReal :=
  max (product a w i) 0 * max (product a w i) 0

/-- What one grid point writes of the product, at an index of the tile. -/
theorem tile (x0 : Vec Ideal S1024x2048 .bf16) (x1 : Vec Ideal S1x2048x1024 .bf16) (r s : Fin 1024) :
    out0_2 (F := Ideal) x0 x1 (ix2 r s) = ∑ t : Fin 2048, (x0 (ix2 r t) : EReal) * x1 (ix3 0 t s) := by
  unfold out0_2
  rw [View.canon_unit_zero]
  · pointwise [k0_pay2, k0_pay1, View.ld_unit_zero]
  · funext a; fin_cases a <;> rfl

/-- What one grid point writes of the squared rectifier, at an index of the tile. -/
theorem tile_squared (x0 : Vec Ideal S1024x2048 .bf16) (x1 : Vec Ideal S1x2048x1024 .bf16) (r s : Fin 1024) :
    out0_3 (F := Ideal) x0 x1 (ix2 r s)
      = max (∑ t : Fin 2048, (x0 (ix2 r t) : EReal) * x1 (ix3 0 t s)) 0 * max (∑ t : Fin 2048, (x0 (ix2 r t) : EReal) * x1 (ix3 0 t s)) 0 := by
  unfold out0_3
  rw [View.canon_unit_zero]
  · pointwise [k0_pay3, k0_pay1, View.ld_unit_zero]
  · funext a; fin_cases a <;> rfl

/-- The rows of the input that a grid point reads. -/
abbrev rows (t : Fin grid0.N) : Vec Ideal S1024x2048 .bf16 := iblk m c 0 t

/-- The columns of the weights that a grid point reads. -/
abbrev cols (t : Fin grid0.N) : Vec Ideal S1x2048x1024 .bf16 := iblk m c 1 t

/-- The product of a row and a column of a grid point's blocks is the product at the index of the whole array. -/
theorem sums (t : Fin grid0.N) (r s : Fin 1024) (i : S2048x8192.Idx) (h0 : (i 0).val = win0_0.index t 0 * 1024 + r.val)
    (h1 : (i 1).val = win0_1.index t 0 * 1024 + s.val) :
    ∑ k : Fin 2048, (rows m c t (ix2 r k) : EReal) * cols m c t (ix3 0 k s)
      = product (m (c.tc.loc main_arg0)) (m (c.tc.loc main_arg1)) i := by
  have e0 : ∀ t : Fin grid0.N, win0_0.index t 1 = 0 := by decide +kernel
  have e1 : ∀ t : Fin grid0.N, win0_1.index t 1 = 0 ∧ win0_1.index t 2 = 0 := by decide +kernel
  have r0 (k : Fin 2048) : rows m c t (ix2 r k) = (m (c.tc.loc main_arg0) : S2048x2048.Idx → EReal) (ix2 (i 0) k) := by
    refine (congrFun (congrArg (((cfg0.win 0).blk t).view.read (Elt Ideal)) (V_main_arg0 m c)) _).trans ?_
    show (m (c.tc.loc main_arg0) : S2048x2048.Idx → EReal) _ = (m (c.tc.loc main_arg0) : S2048x2048.Idx → EReal) _
    blk_ext [e0 t, h0]
  have r1 (k : Fin 2048) : cols m c t (ix3 0 k s) = (m (c.tc.loc main_arg1) : S8x2048x1024.Idx → EReal) (ix3 (block (i 1)) k (col (i 1))) := by
    refine (congrFun (congrArg (((cfg0.win 1).blk t).view.read (Elt Ideal)) (V_main_arg1 m c)) _).trans ?_
    show (m (c.tc.loc main_arg1) : S8x2048x1024.Idx → EReal) _ = (m (c.tc.loc main_arg1) : S8x2048x1024.Idx → EReal) _
    blk_ext [e1 t, block, col, h1]
  exact Finset.sum_congr rfl fun k _ => congrArg₂ (· * ·) (r0 k) (r1 k)

/-- The product after the run. -/
theorem array : (dats m 0 c).arrAt 2 cfg0.N = product (m (c.tc.loc main_arg0)) (m (c.tc.loc main_arg1)) := by
  have e : ∀ t : Fin grid0.N, win0_0.index t 0 = win0_2.index t 0 ∧ win0_1.index t 0 = win0_2.index t 1 := by decide +kernel
  refine (dats m 0 c).arrAt_eq_of_covers 2 _ (by decide +kernel) (fun t hf y => ?_)
  blk_simp
  rw [after0_2]
  rw [show y = ix2 (y 0) (y 1) from by funext a; fin_cases a <;> rfl]
  refine (tile _ _ (y 0) (y 1)).trans (sums m c t (y 0) (y 1) _ ?_ ?_)
  · rw [(e t).1]
    blk_simp
  · rw [(e t).2]
    blk_simp

/-- The squared rectifier after the run. -/
theorem array_squared : (dats m 0 c).arrAt 3 cfg0.N = squared (m (c.tc.loc main_arg0)) (m (c.tc.loc main_arg1)) := by
  have e : ∀ t : Fin grid0.N, win0_0.index t 0 = win0_3.index t 0 ∧ win0_1.index t 0 = win0_3.index t 1 := by decide +kernel
  refine (dats m 0 c).arrAt_eq_of_covers 3 _ (by decide +kernel) (fun t hf y => ?_)
  blk_simp
  rw [after0_3]
  rw [show y = ix2 (y 0) (y 1) from by funext a; fin_cases a <;> rfl]
  refine (tile_squared _ _ (y 0) (y 1)).trans (congrArg (fun x : EReal => max x 0 * max x 0) (sums m c t (y 0) (y 1) _ ?_ ?_))
  · rw [(e t).1]
    blk_simp
  · rw [(e t).2]
    blk_simp

/-- The reference's product. -/
theorem reference (a : S2048x2048.Idx → EReal) (w : S8x2048x1024.Idx → EReal) :
    (val_main_v6 (F := Ideal) a w : S2048x8192.Idx → EReal) = product a w := by
  funext i
  pointwise [val_main_v6, val_main_v4, val_main_v3, val_main_v2, val_main_v1, val_main_v0]
  rfl

/-- The reference's squared rectifier. -/
theorem reference_squared (a : S2048x2048.Idx → EReal) (w : S8x2048x1024.Idx → EReal) :
    (val_main_v8 (F := Ideal) a w : S2048x8192.Idx → EReal) = squared a w := by
  funext i
  pointwise [val_main_v8, val_main_v7, val_main_v5, val_main_call0_v0, val_main_call0_cst, val_main_v4, val_main_v3, val_main_v2, val_main_v1, val_main_v0]
  rfl

/-- The call computes the reference's two results. -/
theorem algebraic : Cert.algebraic_UpIdeal_UpRefIdeal := by
  intro m g m' g' _ hargs
  refine ⟨fun c => (dats m 0 c).arrAt 2 cfg0.N, fun c => (dats m 0 c).arrAt 3 cfg0.N, run_blocks m g, (θ_run _ _ _).mono (fun r h c => ?_) (Cert.UpRefIdeal.Value.run m' g')⟩
  obtain ⟨a0, a1⟩ := hargs c
  obtain ⟨r0, r1, rest⟩ := h c
  refine ⟨r0.trans ?_, r1.trans ?_, rest⟩
  · rw [val_main_v6_eq, a0, a1]
    exact (reference _ _).trans (array m c).symm
  · rw [val_main_v8_eq, a0, a1]
    exact (reference_squared _ _).trans (array_squared m c).symm

/-- The idealization replaces nothing. -/
theorem preserves : Cert.preserves_Up_UpIdeal := trivial

end Cert.UpIdeal.Proof

namespace Cert.UpRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2.2, sem_eq_zero_of_no_sems (by decide) r.2⟩) (Value.run m g)

end Cert.UpRefIdeal.Proof

end
-- ==== Proof.Blocks.lean ====
module

public import Idealize.ShloMosaic.Lib.Pointwise

@[expose] public section

/-!
  A sum over a long row as a sum of the sums over its equal parts.
-/

noncomputable section

namespace Cert.Blocks

/-- A sum of equal parts is the sum over the whole. -/
theorem sum_parts (p n : ℕ) (f : Fin (p * n) → EReal) :
    ∑ q : Fin p, ∑ k : Fin n, f ⟨q.val * n + k.val, by have := q.isLt; have := k.isLt; nlinarith⟩ = ∑ k, f k := by
  rw [← Fintype.sum_prod_type' (f := fun (q : Fin p) (k : Fin n) => f ⟨q.val * n + k.val, by have := q.isLt; have := k.isLt; nlinarith⟩)]
  exact Fintype.sum_equiv finProdFinEquiv _ _ (fun x => congrArg f (Fin.ext (by simp [finProdFinEquiv]; ring)))

end Cert.Blocks

end
-- ==== Proof.Down.lean ====
module

public import proofs.«01_k».proof.Defs
public import proofs.«01_k».proof.Proof.Blocks
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The second product of the MLP: a tile of 1024 × 1024, summed over four grid points of 2048 terms each.
-/

set_option maxRecDepth 16384

noncomputable section

namespace Cert.DownIdeal.Proof

open Cert.DownIdeal Cert.DownIdeal.Gen Cert.DownIdeal.Value Idealize.ShloMosaic Idealize.ShloMosaic.TcCoe Idealize.SL.Sem
open Cert.DownRefIdeal.Read

variable (m : (ℓ : Loc nD τ sig) → Buf (Elt Ideal) ℓ) (c : Dev nD)

/-- The rows of the input that a grid point reads. -/
abbrev rows (t : Fin cfg0.N) : Vec Ideal S1024x2048 .bf16 := iblk m c 0 t

/-- The columns of the weights that a grid point reads. -/
abbrev cols (t : Fin cfg0.N) : Vec Ideal S1x2048x1024 .bf16 := iblk m c 1 t

/-- A quarter of the product of a row of the input with a column of the weights. -/
def part (a : S2048x8192.Idx → EReal) (w : S1x8192x2048.Idx → EReal) (i : S2048x2048.Idx) (q : Fin 4) : EReal :=
  ∑ k : Fin 2048, a (ix2 (i 0) (⟨q.val * 2048 + k.val, by omega⟩ : Fin 8192)) * w (ix3 0 (⟨q.val * 2048 + k.val, by omega⟩ : Fin 8192) (i 1))

/-- The product of a row of the input with a column of the weights. -/
def product (a : S2048x8192.Idx → EReal) (w : S1x8192x2048.Idx → EReal) (i : S2048x2048.Idx) : EReal :=
  ∑ t : Fin 8192, a (ix2 (i 0) t) * w (ix3 0 t (i 1))

/-- The four quarters. -/
theorem product_eq (a : S2048x8192.Idx → EReal) (w : S1x8192x2048.Idx → EReal) (i : S2048x2048.Idx) :
    part a w i 0 + part a w i 1 + part a w i 2 + part a w i 3 = product a w i := by
  rw [← Fin.sum_univ_four (part a w i)]
  exact Cert.Blocks.sum_parts 4 2048 (fun t => a (ix2 (i 0) t) * w (ix3 0 t (i 1)))

/-- The product of a row and a column of a grid point's blocks is the point's quarter. -/
theorem sums (t : Fin cfg0.N) (r s : Fin 1024) (i : S2048x2048.Idx) (q : Fin 4) (hq : t.val % 4 = q.val)
    (h0 : (i 0).val = t.val / 8 * 1024 + r.val) (h1 : (i 1).val = t.val / 4 % 2 * 1024 + s.val) :
    ∑ k : Fin 2048, (rows m c t (ix2 r k) : EReal) * cols m c t (ix3 0 k s)
      = part (m (c.tc.loc main_arg0)) (m (c.tc.loc main_arg1)) i q := by
  have e0 : ∀ t : Fin grid0.N, win0_0.index t 0 = t.val / 8 ∧ win0_0.index t 1 = t.val % 4 := by decide +kernel
  have e1 : ∀ t : Fin grid0.N, win0_1.index t 0 = 0 ∧ win0_1.index t 1 = t.val % 4 ∧ win0_1.index t 2 = t.val / 4 % 2 := by decide +kernel
  have r0 (k : Fin 2048) : rows m c t (ix2 r k) = (m (c.tc.loc main_arg0) : S2048x8192.Idx → EReal) (ix2 (i 0) (⟨q.val * 2048 + k.val, by omega⟩ : Fin 8192)) := by
    refine (congrFun (congrArg (((cfg0.win 0).blk t).view.read (Elt Ideal)) (V_main_arg0 m c)) _).trans ?_
    show (m (c.tc.loc main_arg0) : S2048x8192.Idx → EReal) _ = (m (c.tc.loc main_arg0) : S2048x8192.Idx → EReal) _
    blk_ext [e0 t, h0, hq]
  have r1 (k : Fin 2048) : cols m c t (ix3 0 k s) = (m (c.tc.loc main_arg1) : S1x8192x2048.Idx → EReal) (ix3 0 (⟨q.val * 2048 + k.val, by omega⟩ : Fin 8192) (i 1)) := by
    refine (congrFun (congrArg (((cfg0.win 1).blk t).view.read (Elt Ideal)) (V_main_arg1 m c)) _).trans ?_
    show (m (c.tc.loc main_arg1) : S1x8192x2048.Idx → EReal) _ = (m (c.tc.loc main_arg1) : S1x8192x2048.Idx → EReal) _
    blk_ext [e1 t, h1, hq]
  exact Finset.sum_congr rfl fun k _ => congrArg₂ (· * ·) (r0 k) (r1 k)

/-- The first quarter of a tile, at an index. -/
theorem pay_first (x0 : Vec Ideal S1024x2048 .bf16) (x1 : Vec Ideal S1x2048x1024 .bf16) (r s : Fin 1024) :
    (k0_pay2 (F := Ideal) x0 x1 : Vec Ideal S1024x1024 .f32) (ix2 r s) = ∑ k : Fin 2048, (x0 (ix2 r k) : EReal) * x1 (ix3 0 k s) := by
  pointwise [k0_pay2, k0_pay1]

/-- A further quarter added to the sum, at an index. -/
theorem pay_next (x0 : Vec Ideal S1024x2048 .bf16) (x1 : Vec Ideal S1x2048x1024 .bf16) (x : Vec Ideal S1024x1024 .f32) (r s : Fin 1024) :
    (k0_pay3 (F := Ideal) x0 x1 x : Vec Ideal S1024x1024 .f32) (ix2 r s) = (x (ix2 r s) : EReal) + ∑ k : Fin 2048, (x0 (ix2 r k) : EReal) * x1 (ix3 0 k s) := by
  pointwise [k0_pay3, k0_pay1]

/-- The last quarter added to the sum, at an index. -/
theorem pay_last (x0 : Vec Ideal S1024x2048 .bf16) (x1 : Vec Ideal S1x2048x1024 .bf16) (x : Vec Ideal S1024x1024 .f32) (r s : Fin 1024) :
    (k0_pay4 (F := Ideal) x0 x1 x : Vec Ideal S1024x1024 .f32) (ix2 r s) = (x (ix2 r s) : EReal) + ∑ k : Fin 2048, (x0 (ix2 r k) : EReal) * x1 (ix3 0 k s) := by
  pointwise [k0_pay4, k0_pay1]

/-- What the sum holds after the first of a tile's grid points. -/
theorem first (t : Fin cfg0.N) (h : t.val % 4 = 0) :
    ((outsAt0 m c t.val t.isLt).2 : Vec Ideal S1024x1024 .f32) = k0_pay2 (F := Ideal) (rows m c t) (cols m c t) := by
  rw [outsAt0_A m c t h (by omega) (by omega)]
  frame_out
  try rfl

/-- What the sum holds after the second and third. -/
theorem next (t : Fin cfg0.N) (h : 1 ≤ t.val % 4 ∧ t.val % 4 ≤ 2) :
    ((outsAt0 m c t.val t.isLt).2 : Vec Ideal S1024x1024 .f32)
      = k0_pay3 (F := Ideal) (rows m c t) (cols m c t) (outsAt0 m c (t.val - 1) (by have := t.isLt; omega)).2 := by
  rw [outsAt0_B m c t (by omega) h (by omega)]
  frame_out
  simp only [read_unread_whole]
  try rfl

/-- What the last writes. -/
theorem last (t : Fin cfg0.N) (h : t.val % 4 = 3) :
    ((outsAt0 m c t.val t.isLt).1 : Vec Ideal S1024x1024 .f32)
      = k0_pay4 (F := Ideal) (rows m c t) (cols m c t) (outsAt0 m c (t.val - 1) (by have := t.isLt; omega)).2 := by
  rw [outsAt0_C m c t (by omega) (by omega) h]
  frame_out
  simp only [read_unread_whole]
  try rfl

/-- What the last of a tile's grid points writes is the product, at an index of the tile. -/
theorem written (t : Fin cfg0.N) (h : t.val % 4 = 3) (r s : Fin 1024) (i : S2048x2048.Idx)
    (h0 : (i 0).val = t.val / 8 * 1024 + r.val) (h1 : (i 1).val = t.val / 4 % 2 * 1024 + s.val) :
    ((outsAt0 m c t.val t.isLt).1 : Vec Ideal S1024x1024 .f32) (ix2 r s) = product (m (c.tc.loc main_arg0)) (m (c.tc.loc main_arg1)) i := by
  have ht := t.isLt
  let t2 : Fin cfg0.N := ⟨t.val - 1, by omega⟩
  let t1 : Fin cfg0.N := ⟨t.val - 1 - 1, by omega⟩
  let t0 : Fin cfg0.N := ⟨t.val - 1 - 1 - 1, by omega⟩
  have s2 := next m c t2 (by show 1 ≤ (t.val - 1) % 4 ∧ (t.val - 1) % 4 ≤ 2; omega)
  have s1 := next m c t1 (by show 1 ≤ (t.val - 1 - 1) % 4 ∧ (t.val - 1 - 1) % 4 ≤ 2; omega)
  have s0 := first m c t0 (by show (t.val - 1 - 1 - 1) % 4 = 0; omega)
  rw [← product_eq, last m c t h, pay_last, sums m c t r s i 3 h h0 h1]
  refine congrArg (· + part _ _ i 3) ?_
  refine (congrFun s2 _).trans ?_
  rw [pay_next, sums m c t2 r s i 2 (by show (t.val - 1) % 4 = 2; omega) (by rw [h0]; show _ = (t.val - 1) / 8 * 1024 + _; omega) (by rw [h1]; show _ = (t.val - 1) / 4 % 2 * 1024 + _; omega)]
  refine congrArg (· + part _ _ i 2) ?_
  refine (congrFun s1 _).trans ?_
  rw [pay_next, sums m c t1 r s i 1 (by show (t.val - 1 - 1) % 4 = 1; omega) (by rw [h0]; show _ = (t.val - 1 - 1) / 8 * 1024 + _; omega) (by rw [h1]; show _ = (t.val - 1 - 1) / 4 % 2 * 1024 + _; omega)]
  refine congrArg (· + part _ _ i 1) ?_
  refine (congrFun s0 _).trans ?_
  rw [pay_first, sums m c t0 r s i 0 (by show (t.val - 1 - 1 - 1) % 4 = 0; omega) (by rw [h0]; show _ = (t.val - 1 - 1 - 1) / 8 * 1024 + _; omega) (by rw [h1]; show _ = (t.val - 1 - 1 - 1) / 4 % 2 * 1024 + _; omega)]

/-- The result array after the run. -/
theorem array : (dats m 0 c).arrAt 2 cfg0.N = product (m (c.tc.loc main_arg0)) (m (c.tc.loc main_arg1)) := by
  have e : ∀ t : Fin grid0.N, win0_2.index t 0 = t.val / 8 ∧ win0_2.index t 1 = t.val / 4 % 2 := by decide +kernel
  refine (dats m 0 c).arrAt_eq_of_covers 2 _ (by decide +kernel) (fun t hf y => ?_)
  have hm := (flush0_2 t).mp hf
  blk_simp
  rw [after0_2]
  rw [show y = ix2 (y 0) (y 1) from by funext a; fin_cases a <;> rfl]
  refine written m c t hm (y 0) (y 1) _ ?_ ?_
  · rw [← (e t).1]
    blk_simp
  · rw [← (e t).2]
    blk_simp

/-- The reference's result. -/
theorem reference (a : S2048x8192.Idx → EReal) (w : S1x8192x2048.Idx → EReal) :
    (val_main_v3 (F := Ideal) a w : S2048x2048.Idx → EReal) = product a w := by
  funext i
  pointwise [val_main_v3, val_main_v1, val_main_v2, val_main_v0]
  rfl

/-- The call computes the reference's result. -/
theorem algebraic : Cert.algebraic_DownIdeal_DownRefIdeal := by
  intro m g m' g' _ hargs
  refine ⟨fun c => (dats m 0 c).arrAt 2 cfg0.N, run_blocks m g, (θ_run _ _ _).mono (fun r h c => ?_) (Cert.DownRefIdeal.Value.run m' g')⟩
  obtain ⟨a0, a1⟩ := hargs c
  obtain ⟨r0, rest⟩ := h c
  refine ⟨r0.trans ?_, rest⟩
  rw [val_main_v3_eq, a0, a1]
  exact (reference _ _).trans (array m c).symm

/-- The idealization replaces nothing. -/
theorem preserves : Cert.preserves_Down_DownIdeal := trivial

end Cert.DownIdeal.Proof

namespace Cert.DownRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.DownRefIdeal.Proof

end
-- ==== Proof.In.lean ====
module

public import proofs.«01_k».proof.Defs
public import proofs.«01_k».proof.Proof.Gen.In.Frame
public import proofs.«01_k».proof.Proof.Gen.InIdeal.Value
public import proofs.«01_k».proof.Proof.Gen.InRefIdeal.Run
public import proofs.«01_k».proof.Proof.Gen.InRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The recurrence's input product, over weights in eight blocks of 1024 columns: a tile of 1024 × 1024 at each grid point.
-/

set_option maxRecDepth 16384

noncomputable section

namespace Cert.InIdeal.Proof

open Cert.InIdeal Cert.InIdeal.Gen Cert.InIdeal.Value Idealize.ShloMosaic Idealize.ShloMosaic.TcCoe Idealize.SL.Sem
open Cert.InRefIdeal.Read

variable (m : (ℓ : Loc nD τ sig) → Buf (Elt Ideal) ℓ) (c : Dev nD)

/-- The block that holds a column of the whole array. -/
def block (j : Fin 8192) : Fin 8 := ⟨j.val / 1024, by omega⟩

/-- The column of its block that a column of the whole array is. -/
def col (j : Fin 8192) : Fin 1024 := ⟨j.val % 1024, by omega⟩

/-- The product of a row of the input with a column of the weights. -/
def product (a : S2048x2048.Idx → EReal) (w : S8x2048x1024.Idx → EReal) (i : S2048x8192.Idx) : EReal :=
  ∑ t : Fin 2048, a (ix2 (i 0) t) * w (ix3 (block (i 1)) t (col (i 1)))

/-- What one grid point writes, at an index of the tile. -/
theorem tile (x0 : Vec Ideal S1024x2048 .bf16) (x1 : Vec Ideal S1x2048x1024 .bf16) (r : Fin 1024) (s : Fin 1024) :
    out0_2 (F := Ideal) x0 x1 (ix2 r s) = ∑ t : Fin 2048, (x0 (ix2 r t) : EReal) * x1 (ix3 0 t s) := by
  unfold out0_2
  rw [View.canon_unit_zero]
  · pointwise [k0_pay1, View.ld_unit_zero]
  · funext a; fin_cases a <;> rfl

/-- The result array after the run. -/
theorem array : (dats m 0 c).arrAt 2 cfg0.N = product (m (c.tc.loc main_arg0)) (m (c.tc.loc main_arg1)) := by
  have e0 : ∀ t : Fin grid0.N, win0_0.index t 0 = win0_2.index t 0 ∧ win0_0.index t 1 = 0 := by decide +kernel
  have e1 : ∀ t : Fin grid0.N, win0_1.index t 0 = win0_2.index t 1 ∧ win0_1.index t 1 = 0 ∧ win0_1.index t 2 = 0 := by decide +kernel
  refine (dats m 0 c).arrAt_eq_of_covers 2 _ (by decide +kernel) (fun t hf y => ?_)
  blk_simp
  rw [after0_2]
  rw [show y = ix2 (y 0) (y 1) from by funext a; fin_cases a <;> rfl]
  refine (tile _ _ (y 0) (y 1)).trans ?_
  have r0 (k : Fin 2048) : (iblk m c 0 t : Vec Ideal S1024x2048 .bf16) (ix2 (y 0) k) = (m (c.tc.loc main_arg0) : S2048x2048.Idx → EReal) (ix2 ((win0_2.blk t).view.emb (ix2 (y 0) (y 1)) 0) k) := by
    refine (congrFun (congrArg (((cfg0.win 0).blk t).view.read (Elt Ideal)) (V_main_arg0 m c)) _).trans ?_
    show (m (c.tc.loc main_arg0) : S2048x2048.Idx → EReal) _ = (m (c.tc.loc main_arg0) : S2048x2048.Idx → EReal) _
    blk_ext [e0 t]
  have r1 (k : Fin 2048) : (iblk m c 1 t : Vec Ideal S1x2048x1024 .bf16) (ix3 0 k (y 1)) = (m (c.tc.loc main_arg1) : S8x2048x1024.Idx → EReal) (ix3 (block ((win0_2.blk t).view.emb (ix2 (y 0) (y 1)) 1)) k (col ((win0_2.blk t).view.emb (ix2 (y 0) (y 1)) 1))) := by
    refine (congrFun (congrArg (((cfg0.win 1).blk t).view.read (Elt Ideal)) (V_main_arg1 m c)) _).trans ?_
    show (m (c.tc.loc main_arg1) : S8x2048x1024.Idx → EReal) _ = (m (c.tc.loc main_arg1) : S8x2048x1024.Idx → EReal) _
    blk_ext [e1 t, block, col]
  exact Finset.sum_congr rfl fun k _ => congrArg₂ (· * ·) (r0 k) (r1 k)

/-- The reference's result. -/
theorem reference (a : S2048x2048.Idx → EReal) (w : S8x2048x1024.Idx → EReal) :
    (val_main_v4 (F := Ideal) a w : S2048x8192.Idx → EReal) = product a w := by
  funext i
  pointwise [val_main_v4, val_main_v2, val_main_v3, val_main_v1, val_main_v0]
  rfl

/-- The call computes the reference's result. -/
theorem algebraic : Cert.algebraic_InIdeal_InRefIdeal := by
  intro m g m' g' _ hargs
  refine ⟨fun c => (dats m 0 c).arrAt 2 cfg0.N, run_blocks m g, (θ_run _ _ _).mono (fun r h c => ?_) (Cert.InRefIdeal.Value.run m' g')⟩
  obtain ⟨a0, a1⟩ := hargs c
  obtain ⟨r0, rest⟩ := h c
  refine ⟨r0.trans ?_, rest⟩
  rw [val_main_v4_eq, a0, a1]
  exact (reference _ _).trans (array m c).symm

/-- The idealization replaces nothing. -/
theorem preserves : Cert.preserves_In_InIdeal := trivial

end Cert.InIdeal.Proof

namespace Cert.InRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.InRefIdeal.Proof

end
-- ==== Proof.Proj.lean ====
module

public import proofs.«01_k».proof.Defs
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  A square projection: a tile of 1024 × 1024 of the product at each grid point.
-/

set_option maxRecDepth 16384

noncomputable section

namespace Cert.ProjIdeal.Proof

open Cert.ProjIdeal Cert.ProjIdeal.Gen Cert.ProjIdeal.Value Idealize.ShloMosaic Idealize.ShloMosaic.TcCoe Idealize.SL.Sem
open Cert.ProjRefIdeal.Read

variable (m : (ℓ : Loc nD τ sig) → Buf (Elt Ideal) ℓ) (c : Dev nD)

/-- The product of a row of the input with a column of the weights. -/
def product (a : S2048x2048.Idx → EReal) (w : S1x2048x2048.Idx → EReal) (i : S2048x2048.Idx) : EReal :=
  ∑ t : Fin 2048, a (ix2 (i 0) t) * w (ix3 0 t (i 1))

/-- What one grid point writes, at an index of the tile. -/
theorem tile (x0 : Vec Ideal S1024x2048 .bf16) (x1 : Vec Ideal S1x2048x1024 .bf16) (r : Fin 1024) (s : Fin 1024) :
    out0_2 (F := Ideal) x0 x1 (ix2 r s) = ∑ t : Fin 2048, (x0 (ix2 r t) : EReal) * x1 (ix3 0 t s) := by
  unfold out0_2
  rw [View.canon_unit_zero]
  · pointwise [k0_pay1, View.ld_unit_zero]
  · funext a; fin_cases a <;> rfl

/-- The result array after the run. -/
theorem array : (dats m 0 c).arrAt 2 cfg0.N = product (m (c.tc.loc main_arg0)) (m (c.tc.loc main_arg1)) := by
  have e0 : ∀ t : Fin grid0.N, win0_0.index t 0 = win0_2.index t 0 ∧ win0_0.index t 1 = 0 := by decide +kernel
  have e1 : ∀ t : Fin grid0.N, win0_1.index t 0 = 0 ∧ win0_1.index t 1 = 0 ∧ win0_1.index t 2 = win0_2.index t 1 := by decide +kernel
  refine (dats m 0 c).arrAt_eq_of_covers 2 _ (by decide +kernel) (fun t hf y => ?_)
  blk_simp
  rw [after0_2]
  rw [show y = ix2 (y 0) (y 1) from by funext a; fin_cases a <;> rfl]
  refine (tile _ _ (y 0) (y 1)).trans ?_
  have r0 (k : Fin 2048) : (iblk m c 0 t : Vec Ideal S1024x2048 .bf16) (ix2 (y 0) k) = (m (c.tc.loc main_arg0) : S2048x2048.Idx → EReal) (ix2 ((win0_2.blk t).view.emb (ix2 (y 0) (y 1)) 0) k) := by
    refine (congrFun (congrArg (((cfg0.win 0).blk t).view.read (Elt Ideal)) (V_main_arg0 m c)) _).trans ?_
    show (m (c.tc.loc main_arg0) : S2048x2048.Idx → EReal) _ = (m (c.tc.loc main_arg0) : S2048x2048.Idx → EReal) _
    blk_ext [e0 t]
  have r1 (k : Fin 2048) : (iblk m c 1 t : Vec Ideal S1x2048x1024 .bf16) (ix3 0 k (y 1)) = (m (c.tc.loc main_arg1) : S1x2048x2048.Idx → EReal) (ix3 0 k ((win0_2.blk t).view.emb (ix2 (y 0) (y 1)) 1)) := by
    refine (congrFun (congrArg (((cfg0.win 1).blk t).view.read (Elt Ideal)) (V_main_arg1 m c)) _).trans ?_
    show (m (c.tc.loc main_arg1) : S1x2048x2048.Idx → EReal) _ = (m (c.tc.loc main_arg1) : S1x2048x2048.Idx → EReal) _
    blk_ext [e1 t]
  exact Finset.sum_congr rfl fun k _ => congrArg₂ (· * ·) (r0 k) (r1 k)

/-- The reference's result. -/
theorem reference (a : S2048x2048.Idx → EReal) (w : S1x2048x2048.Idx → EReal) :
    (val_main_v3 (F := Ideal) a w : S2048x2048.Idx → EReal) = product a w := by
  funext i
  pointwise [val_main_v3, val_main_v1, val_main_v2, val_main_v0]
  rfl

/-- The call computes the reference's result. -/
theorem algebraic : Cert.algebraic_ProjIdeal_ProjRefIdeal := by
  intro m g m' g' _ hargs
  refine ⟨fun c => (dats m 0 c).arrAt 2 cfg0.N, run_blocks m g, (θ_run _ _ _).mono (fun r h c => ?_) (Cert.ProjRefIdeal.Value.run m' g')⟩
  obtain ⟨a0, a1⟩ := hargs c
  obtain ⟨r0, rest⟩ := h c
  refine ⟨r0.trans ?_, rest⟩
  rw [val_main_v3_eq, a0, a1]
  exact (reference _ _).trans (array m c).symm

/-- The idealization replaces nothing. -/
theorem preserves : Cert.preserves_Proj_ProjIdeal := trivial

end Cert.ProjIdeal.Proof

namespace Cert.ProjRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.ProjRefIdeal.Proof

end
-- ==== Proof.Kv.lean ====
module

public import proofs.«01_k».proof.Defs
public import proofs.«01_k».proof.Proof.Gen.Kv.Frame
public import proofs.«01_k».proof.Proof.Gen.KvIdeal.Value
public import proofs.«01_k».proof.Proof.Gen.KvRefIdeal.Run
public import proofs.«01_k».proof.Proof.Gen.KvRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The keys' and values' product, over weights in two blocks: a tile of 1024 × 1024 at each grid point.
-/

set_option maxRecDepth 16384

noncomputable section

namespace Cert.KvIdeal.Proof

open Cert.KvIdeal Cert.KvIdeal.Gen Cert.KvIdeal.Value Idealize.ShloMosaic Idealize.ShloMosaic.TcCoe Idealize.SL.Sem
open Cert.KvRefIdeal.Read

variable (m : (ℓ : Loc nD τ sig) → Buf (Elt Ideal) ℓ) (c : Dev nD)

/-- The block that holds a column of the whole array. -/
def block (j : Fin 4096) : Fin 2 := ⟨j.val / 2048, by omega⟩

/-- The column of its block that a column of the whole array is. -/
def col (j : Fin 4096) : Fin 2048 := ⟨j.val % 2048, by omega⟩

/-- The product of a row of the input with a column of the weights. -/
def product (a : S2048x2048.Idx → EReal) (w : S2x2048x2048.Idx → EReal) (i : S2048x4096.Idx) : EReal :=
  ∑ t : Fin 2048, a (ix2 (i 0) t) * w (ix3 (block (i 1)) t (col (i 1)))

/-- What one grid point writes, at an index of the tile. -/
theorem tile (x0 : Vec Ideal S1024x2048 .bf16) (x1 : Vec Ideal S1x2048x1024 .bf16) (r : Fin 1024) (s : Fin 1024) :
    out0_2 (F := Ideal) x0 x1 (ix2 r s) = ∑ t : Fin 2048, (x0 (ix2 r t) : EReal) * x1 (ix3 0 t s) := by
  unfold out0_2
  rw [View.canon_unit_zero]
  · pointwise [k0_pay1, View.ld_unit_zero]
  · funext a; fin_cases a <;> rfl

/-- The result array after the run. -/
theorem array : (dats m 0 c).arrAt 2 cfg0.N = product (m (c.tc.loc main_arg0)) (m (c.tc.loc main_arg1)) := by
  have e0 : ∀ t : Fin grid0.N, win0_0.index t 0 = win0_2.index t 0 ∧ win0_0.index t 1 = 0 := by decide +kernel
  have e1 : ∀ t : Fin grid0.N, win0_1.index t 0 = win0_2.index t 1 / 2 ∧ win0_1.index t 1 = 0 ∧ win0_1.index t 2 = win0_2.index t 1 % 2 := by decide +kernel
  refine (dats m 0 c).arrAt_eq_of_covers 2 _ (by decide +kernel) (fun t hf y => ?_)
  blk_simp
  rw [after0_2]
  rw [show y = ix2 (y 0) (y 1) from by funext a; fin_cases a <;> rfl]
  refine (tile _ _ (y 0) (y 1)).trans ?_
  have r0 (k : Fin 2048) : (iblk m c 0 t : Vec Ideal S1024x2048 .bf16) (ix2 (y 0) k) = (m (c.tc.loc main_arg0) : S2048x2048.Idx → EReal) (ix2 ((win0_2.blk t).view.emb (ix2 (y 0) (y 1)) 0) k) := by
    refine (congrFun (congrArg (((cfg0.win 0).blk t).view.read (Elt Ideal)) (V_main_arg0 m c)) _).trans ?_
    show (m (c.tc.loc main_arg0) : S2048x2048.Idx → EReal) _ = (m (c.tc.loc main_arg0) : S2048x2048.Idx → EReal) _
    blk_ext [e0 t]
  have r1 (k : Fin 2048) : (iblk m c 1 t : Vec Ideal S1x2048x1024 .bf16) (ix3 0 k (y 1)) = (m (c.tc.loc main_arg1) : S2x2048x2048.Idx → EReal) (ix3 (block ((win0_2.blk t).view.emb (ix2 (y 0) (y 1)) 1)) k (col ((win0_2.blk t).view.emb (ix2 (y 0) (y 1)) 1))) := by
    refine (congrFun (congrArg (((cfg0.win 1).blk t).view.read (Elt Ideal)) (V_main_arg1 m c)) _).trans ?_
    show (m (c.tc.loc main_arg1) : S2x2048x2048.Idx → EReal) _ = (m (c.tc.loc main_arg1) : S2x2048x2048.Idx → EReal) _
    blk_ext [e1 t, block, col]
  exact Finset.sum_congr rfl fun k _ => congrArg₂ (· * ·) (r0 k) (r1 k)

/-- The reference's result. -/
theorem reference (a : S2048x2048.Idx → EReal) (w : S2x2048x2048.Idx → EReal) :
    (val_main_v5 (F := Ideal) a w : S2048x4096.Idx → EReal) = product a w := by
  funext i
  pointwise [val_main_v5, val_main_v4, val_main_v2, val_main_v3, val_main_v1, val_main_v0]
  rfl

/-- The call computes the reference's result. -/
theorem algebraic : Cert.algebraic_KvIdeal_KvRefIdeal := by
  intro m g m' g' _ hargs
  refine ⟨fun c => (dats m 0 c).arrAt 2 cfg0.N, run_blocks m g, (θ_run _ _ _).mono (fun r h c => ?_) (Cert.KvRefIdeal.Value.run m' g')⟩
  obtain ⟨a0, a1⟩ := hargs c
  obtain ⟨r0, rest⟩ := h c
  refine ⟨r0.trans ?_, rest⟩
  rw [val_main_v5_eq, a0, a1]
  exact (reference _ _).trans (array m c).symm

/-- The idealization replaces nothing. -/
theorem preserves : Cert.preserves_Kv_KvIdeal := trivial

end Cert.KvIdeal.Proof

namespace Cert.KvRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.KvRefIdeal.Proof

end
-- ==== Proof.Ple.lean ====
module

public import proofs.«01_k».proof.Defs
public import proofs.«01_k».proof.Proof.Gen.Ple.Frame
public import proofs.«01_k».proof.Proof.Gen.PleIdeal.Value
public import proofs.«01_k».proof.Proof.Gen.PleRefIdeal.Run
public import proofs.«01_k».proof.Proof.Gen.PleRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The product of the per-layer embedding, over weights in eight blocks of 256 columns: a tile of 1024 × 256 at each grid
  point.
-/

set_option maxRecDepth 16384

noncomputable section

namespace Cert.PleIdeal.Proof

open Cert.PleIdeal Cert.PleIdeal.Gen Cert.PleIdeal.Value Idealize.ShloMosaic Idealize.ShloMosaic.TcCoe Idealize.SL.Sem
open Cert.PleRefIdeal.Read

variable (m : (ℓ : Loc nD τ sig) → Buf (Elt Ideal) ℓ) (c : Dev nD)

/-- The block that holds a column of the whole array. -/
def block (j : Fin 2048) : Fin 8 := ⟨j.val / 256, by omega⟩

/-- The column of its block that a column of the whole array is. -/
def col (j : Fin 2048) : Fin 256 := ⟨j.val % 256, by omega⟩

/-- The product of a row of the input with a column of the weights. -/
def product (a : S2048x256.Idx → EReal) (w : S8x256x256.Idx → EReal) (i : S2048x2048.Idx) : EReal :=
  ∑ t : Fin 256, a (ix2 (i 0) t) * w (ix3 (block (i 1)) t (col (i 1)))

/-- What one grid point writes, at an index of the tile. -/
theorem tile (x0 : Vec Ideal S1024x256 .bf16) (x1 : Vec Ideal S1x256x256 .bf16) (r : Fin 1024) (s : Fin 256) :
    out0_2 (F := Ideal) x0 x1 (ix2 r s) = ∑ t : Fin 256, (x0 (ix2 r t) : EReal) * x1 (ix3 0 t s) := by
  unfold out0_2
  rw [View.canon_unit_zero]
  · pointwise [k0_pay1, View.ld_unit_zero]
  · funext a; fin_cases a <;> rfl

/-- The result array after the run. -/
theorem array : (dats m 0 c).arrAt 2 cfg0.N = product (m (c.tc.loc main_arg0)) (m (c.tc.loc main_arg1)) := by
  have e0 : ∀ t : Fin grid0.N, win0_0.index t 0 = win0_2.index t 0 ∧ win0_0.index t 1 = 0 := by decide +kernel
  have e1 : ∀ t : Fin grid0.N, win0_1.index t 0 = win0_2.index t 1 ∧ win0_1.index t 1 = 0 ∧ win0_1.index t 2 = 0 := by decide +kernel
  refine (dats m 0 c).arrAt_eq_of_covers 2 _ (by decide +kernel) (fun t hf y => ?_)
  blk_simp
  rw [after0_2]
  rw [show y = ix2 (y 0) (y 1) from by funext a; fin_cases a <;> rfl]
  refine (tile _ _ (y 0) (y 1)).trans ?_
  have r0 (k : Fin 256) : (iblk m c 0 t : Vec Ideal S1024x256 .bf16) (ix2 (y 0) k) = (m (c.tc.loc main_arg0) : S2048x256.Idx → EReal) (ix2 ((win0_2.blk t).view.emb (ix2 (y 0) (y 1)) 0) k) := by
    refine (congrFun (congrArg (((cfg0.win 0).blk t).view.read (Elt Ideal)) (V_main_arg0 m c)) _).trans ?_
    show (m (c.tc.loc main_arg0) : S2048x256.Idx → EReal) _ = (m (c.tc.loc main_arg0) : S2048x256.Idx → EReal) _
    blk_ext [e0 t]
  have r1 (k : Fin 256) : (iblk m c 1 t : Vec Ideal S1x256x256 .bf16) (ix3 0 k (y 1)) = (m (c.tc.loc main_arg1) : S8x256x256.Idx → EReal) (ix3 (block ((win0_2.blk t).view.emb (ix2 (y 0) (y 1)) 1)) k (col ((win0_2.blk t).view.emb (ix2 (y 0) (y 1)) 1))) := by
    refine (congrFun (congrArg (((cfg0.win 1).blk t).view.read (Elt Ideal)) (V_main_arg1 m c)) _).trans ?_
    show (m (c.tc.loc main_arg1) : S8x256x256.Idx → EReal) _ = (m (c.tc.loc main_arg1) : S8x256x256.Idx → EReal) _
    blk_ext [e1 t, block, col]
  exact Finset.sum_congr rfl fun k _ => congrArg₂ (· * ·) (r0 k) (r1 k)

/-- The reference's result. -/
theorem reference (a : S2048x256.Idx → EReal) (w : S8x256x256.Idx → EReal) :
    (val_main_v4 (F := Ideal) a w : S2048x2048.Idx → EReal) = product a w := by
  funext i
  pointwise [val_main_v4, val_main_v2, val_main_v3, val_main_v1, val_main_v0]
  rfl

/-- The call computes the reference's result. -/
theorem algebraic : Cert.algebraic_PleIdeal_PleRefIdeal := by
  intro m g m' g' _ hargs
  refine ⟨fun c => (dats m 0 c).arrAt 2 cfg0.N, run_blocks m g, (θ_run _ _ _).mono (fun r h c => ?_) (Cert.PleRefIdeal.Value.run m' g')⟩
  obtain ⟨a0, a1⟩ := hargs c
  obtain ⟨r0, rest⟩ := h c
  refine ⟨r0.trans ?_, rest⟩
  rw [val_main_v4_eq, a0, a1]
  exact (reference _ _).trans (array m c).symm

/-- The idealization replaces nothing. -/
theorem preserves : Cert.preserves_Ple_PleIdeal := trivial

end Cert.PleIdeal.Proof

namespace Cert.PleRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.PleRefIdeal.Proof

end
-- ==== Proof.DownW.lean ====
module

public import proofs.«01_k».proof.Defs
public import proofs.«01_k».proof.Proof.Gen.DownW.Frame
public import proofs.«01_k».proof.Proof.Gen.DownWIdeal.Value
public import proofs.«01_k».proof.Proof.Gen.DownWRefIdeal.Run
public import proofs.«01_k».proof.Proof.Gen.DownWRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of the second product of the MLP with respect to its weights: a product over the positions, a tile of
  1024 × 1024 weights at each grid point.
-/

set_option maxRecDepth 16384

noncomputable section

namespace Cert.DownWIdeal.Proof

open Cert.DownWIdeal Cert.DownWIdeal.Gen Cert.DownWIdeal.Value Idealize.ShloMosaic Idealize.ShloMosaic.TcCoe Idealize.SL.Sem
open Cert.DownWRefIdeal.Read

variable (m : (ℓ : Loc nD τ sig) → Buf (Elt Ideal) ℓ) (c : Dev nD)

/-- The gradient at a weight: over the positions, the input times the incoming gradient. -/
def grad (a : S2048x8192.Idx → EReal) (dy : S2048x2048.Idx → EReal) (i : S1x8192x2048.Idx) : EReal :=
  ∑ t : Fin 2048, a (ix2 t (i 1)) * dy (ix2 t (i 2))

/-- What one grid point writes, at an index of the tile. -/
theorem tile (x0 : Vec Ideal S2048x1024 .bf16) (x1 : Vec Ideal S2048x1024 .bf16) (u : Fin 1) (r : Fin 1024) (s : Fin 1024) :
    out0_2 (F := Ideal) x0 x1 (ix3 u r s) = ∑ t : Fin 2048, (x0 (ix2 t r) : EReal) * x1 (ix2 t s) := by
  obtain rfl : u = 0 := Subsingleton.elim _ _
  unfold out0_2
  rw [View.canon_unit_zero]
  · pointwise [k0_pay1, View.ld_unit_zero]
  · funext a; fin_cases a <;> rfl

/-- The result array after the run. -/
theorem array : (dats m 0 c).arrAt 2 cfg0.N = grad (m (c.tc.loc main_arg0)) (m (c.tc.loc main_arg1)) := by
  have e0 : ∀ t : Fin grid0.N, win0_0.index t 0 = 0 ∧ win0_0.index t 1 = win0_2.index t 1 := by decide +kernel
  have e1 : ∀ t : Fin grid0.N, win0_1.index t 0 = 0 ∧ win0_1.index t 1 = win0_2.index t 2 ∧ win0_2.index t 0 = 0 := by decide +kernel
  refine (dats m 0 c).arrAt_eq_of_covers 2 _ (by decide +kernel) (fun t hf y => ?_)
  blk_simp
  rw [after0_2]
  rw [show y = ix3 (y 0) (y 1) (y 2) from by funext a; fin_cases a <;> rfl]
  refine (tile _ _ (y 0) (y 1) (y 2)).trans ?_
  have r0 (k : Fin 2048) : (iblk m c 0 t : Vec Ideal S2048x1024 .bf16) (ix2 k (y 1)) = (m (c.tc.loc main_arg0) : S2048x8192.Idx → EReal) (ix2 k ((win0_2.blk t).view.emb (ix3 (y 0) (y 1) (y 2)) 1)) := by
    refine (congrFun (congrArg (((cfg0.win 0).blk t).view.read (Elt Ideal)) (V_main_arg0 m c)) _).trans ?_
    show (m (c.tc.loc main_arg0) : S2048x8192.Idx → EReal) _ = (m (c.tc.loc main_arg0) : S2048x8192.Idx → EReal) _
    blk_ext [e0 t]
  have r1 (k : Fin 2048) : (iblk m c 1 t : Vec Ideal S2048x1024 .bf16) (ix2 k (y 2)) = (m (c.tc.loc main_arg1) : S2048x2048.Idx → EReal) (ix2 k ((win0_2.blk t).view.emb (ix3 (y 0) (y 1) (y 2)) 2)) := by
    refine (congrFun (congrArg (((cfg0.win 1).blk t).view.read (Elt Ideal)) (V_main_arg1 m c)) _).trans ?_
    show (m (c.tc.loc main_arg1) : S2048x2048.Idx → EReal) _ = (m (c.tc.loc main_arg1) : S2048x2048.Idx → EReal) _
    blk_ext [e1 t]
  exact Finset.sum_congr rfl fun k _ => congrArg₂ (· * ·) (r0 k) (r1 k)

/-- The reference's result. -/
theorem reference (a : S2048x8192.Idx → EReal) (dy : S2048x2048.Idx → EReal) :
    (val_main_v7 (F := Ideal) a dy : S1x8192x2048.Idx → EReal) = grad a dy := by
  funext i
  pointwise [val_main_v7, val_main_v6, val_main_v5, val_main_v4, val_main_v3, val_main_v1]
  exact Finset.sum_congr rfl fun _ _ => mul_comm _ _

/-- The call computes the reference's result. -/
theorem algebraic : Cert.algebraic_DownWIdeal_DownWRefIdeal := by
  intro m g m' g' _ hargs
  refine ⟨fun c => (dats m 0 c).arrAt 2 cfg0.N, run_blocks m g, (θ_run _ _ _).mono (fun r h c => ?_) (Cert.DownWRefIdeal.Value.run m' g')⟩
  obtain ⟨a0, a1⟩ := hargs c
  obtain ⟨r0, rest⟩ := h c
  refine ⟨r0.trans ?_, rest⟩
  rw [val_main_v7_eq, a0, a1]
  exact (reference _ _).trans (array m c).symm

/-- The idealization replaces nothing. -/
theorem preserves : Cert.preserves_DownW_DownWIdeal := trivial

end Cert.DownWIdeal.Proof

namespace Cert.DownWRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.DownWRefIdeal.Proof

end
-- ==== Proof.DownX.lean ====
module

public import proofs.«01_k».proof.Defs
public import proofs.«01_k».proof.Proof.Gen.DownX.Frame
public import proofs.«01_k».proof.Proof.Gen.DownXIdeal.Value
public import proofs.«01_k».proof.Proof.Gen.DownXRefIdeal.Run
public import proofs.«01_k».proof.Proof.Gen.DownXRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of the second product of the MLP with respect to the squared rectifier's argument: a product over the
  columns, a tile of 1024 × 1024 at each grid point, times the derivative of the squared rectifier.
-/

set_option maxRecDepth 16384

noncomputable section

namespace Cert.DownXIdeal.Proof

open Cert.DownXIdeal Cert.DownXIdeal.Gen Cert.DownXIdeal.Value Idealize.ShloMosaic Idealize.ShloMosaic.TcCoe Idealize.SL.Sem
open Cert.DownXRefIdeal.Read

variable (m : (ℓ : Loc nD τ sig) → Buf (Elt Ideal) ℓ) (c : Dev nD)

/-- The gradient with respect to the squared rectifier's value: over the columns, the incoming gradient times the weight. -/
def back (w : S1x8192x2048.Idx → EReal) (dy : S2048x2048.Idx → EReal) (i : S2048x8192.Idx) : EReal :=
  ∑ t : Fin 2048, dy (ix2 (i 0) t) * w (ix3 0 (i 1) t)

/-- The gradient with respect to the squared rectifier's argument. -/
def grad (pre : S2048x8192.Idx → EReal) (w : S1x8192x2048.Idx → EReal) (dy : S2048x2048.Idx → EReal) (i : S2048x8192.Idx) : EReal :=
  back w dy i * 2 * max (pre i) 0

/-- The constant 2 of the call. -/
theorem two : (Ideal.ofBits .f32 1073741824#32 : EReal) = 2 := by
  have h : (8388608 : ℝ) * (2 ^ 22)⁻¹ = 2 := by norm_num
  refine Eq.trans ?_ (congrArg (fun x : ℝ => (x : EReal)) h)
  simp [Ideal.ofBits, Ideal.ieee]

/-- The derivative of a square, as two equal terms where the rectifier is open and as twice the rectifier's value. -/
theorem twice (p g : EReal) : (if 0 < p then max p 0 * g + g * max p 0 else 0) = g * 2 * max p 0 := by
  split
  next h =>
    rw [max_eq_left h.le, mul_comm p g, mul_assoc, mul_comm 2 p, ← mul_assoc, ← one_add_one_eq_two, EReal.left_distrib_of_nonneg zero_le_one zero_le_one, mul_one]
  next h => rw [max_eq_right (not_lt.mp h), mul_zero]

/-- What one grid point writes, at an index of the tile. -/
theorem tile (x0 : Vec Ideal S1024x2048 .bf16) (x1 : Vec Ideal S1x1024x2048 .bf16) (x2 : Vec Ideal S1024x1024 .bf16) (r : Fin 1024) (s : Fin 1024) :
    out0_3 (F := Ideal) x0 x1 x2 (ix2 r s) = (∑ t : Fin 2048, (x0 (ix2 r t) : EReal) * x1 (ix3 0 s t)) * 2 * max (x2 (ix2 r s) : EReal) 0 := by
  unfold out0_3
  rw [View.canon_unit_zero]
  · pointwise [k0_pay1, View.ld_unit_zero]
    rw [two]
  · funext a; fin_cases a <;> rfl

/-- The result array after the run. -/
theorem array : (dats m 0 c).arrAt 3 cfg0.N = grad (m (c.tc.loc main_arg0)) (m (c.tc.loc main_arg1)) (m (c.tc.loc main_arg2)) := by
  have e0 : ∀ t : Fin grid0.N, win0_0.index t 0 = win0_3.index t 0 ∧ win0_0.index t 1 = 0 := by decide +kernel
  have e1 : ∀ t : Fin grid0.N, win0_1.index t 0 = 0 ∧ win0_1.index t 1 = win0_3.index t 1 ∧ win0_1.index t 2 = 0 := by decide +kernel
  have e2 : ∀ t : Fin grid0.N, win0_2.index t 0 = win0_3.index t 0 ∧ win0_2.index t 1 = win0_3.index t 1 := by decide +kernel
  refine (dats m 0 c).arrAt_eq_of_covers 3 _ (by decide +kernel) (fun t hf y => ?_)
  blk_simp
  rw [after0_3]
  rw [show y = ix2 (y 0) (y 1) from by funext a; fin_cases a <;> rfl]
  refine (tile _ _ _ (y 0) (y 1)).trans ?_
  have r0 (k : Fin 2048) : (iblk m c 0 t : Vec Ideal S1024x2048 .bf16) (ix2 (y 0) k) = (m (c.tc.loc main_arg2) : S2048x2048.Idx → EReal) (ix2 ((win0_3.blk t).view.emb (ix2 (y 0) (y 1)) 0) k) := by
    refine (congrFun (congrArg (((cfg0.win 0).blk t).view.read (Elt Ideal)) (V_main_arg2 m c)) _).trans ?_
    show (m (c.tc.loc main_arg2) : S2048x2048.Idx → EReal) _ = (m (c.tc.loc main_arg2) : S2048x2048.Idx → EReal) _
    blk_ext [e0 t]
  have r1 (k : Fin 2048) : (iblk m c 1 t : Vec Ideal S1x1024x2048 .bf16) (ix3 0 (y 1) k) = (m (c.tc.loc main_arg1) : S1x8192x2048.Idx → EReal) (ix3 0 ((win0_3.blk t).view.emb (ix2 (y 0) (y 1)) 1) k) := by
    refine (congrFun (congrArg (((cfg0.win 1).blk t).view.read (Elt Ideal)) (V_main_arg1 m c)) _).trans ?_
    show (m (c.tc.loc main_arg1) : S1x8192x2048.Idx → EReal) _ = (m (c.tc.loc main_arg1) : S1x8192x2048.Idx → EReal) _
    blk_ext [e1 t]
  have r2 : (iblk m c 2 t : Vec Ideal S1024x1024 .bf16) (ix2 (y 0) (y 1)) = (m (c.tc.loc main_arg0) : S2048x8192.Idx → EReal) ((win0_3.blk t).view.emb (ix2 (y 0) (y 1))) := by
    refine (congrFun (congrArg (((cfg0.win 2).blk t).view.read (Elt Ideal)) (V_main_arg0 m c)) _).trans ?_
    show (m (c.tc.loc main_arg0) : S2048x8192.Idx → EReal) _ = (m (c.tc.loc main_arg0) : S2048x8192.Idx → EReal) _
    blk_ext [e2 t]
  exact congrArg₂ (fun p q : EReal => p * 2 * max q 0) (Finset.sum_congr rfl fun k _ => congrArg₂ (· * ·) (r0 k) (r1 k)) r2

/-- The reference's result. -/
theorem reference (pre : S2048x8192.Idx → EReal) (w : S1x8192x2048.Idx → EReal) (dy : S2048x2048.Idx → EReal) :
    (val_main_v16 (F := Ideal) pre w dy : S2048x8192.Idx → EReal) = grad pre w dy := by
  funext i
  pointwise [val_main_v16, val_main_v15, val_main_v14, val_main_v13, val_main_v12, val_main_v11, val_main_v10, val_main_v9, val_main_v5, val_main_v4, val_main_v3, val_main_v2, val_main_v1, val_main_v0, val_main_cst, val_main_cst_1, val_main_call0_v0, val_main_call0_cst]
  exact twice _ _

/-- The call computes the reference's result. -/
theorem algebraic : Cert.algebraic_DownXIdeal_DownXRefIdeal := by
  intro m g m' g' _ hargs
  refine ⟨fun c => (dats m 0 c).arrAt 3 cfg0.N, run_blocks m g, (θ_run _ _ _).mono (fun r h c => ?_) (Cert.DownXRefIdeal.Value.run m' g')⟩
  obtain ⟨a0, a1, a2⟩ := hargs c
  obtain ⟨r0, rest⟩ := h c
  refine ⟨r0.trans ?_, rest⟩
  rw [val_main_v16_eq, a0, a1, a2]
  exact (reference _ _ _).trans (array m c).symm

/-- The idealization replaces nothing. -/
theorem preserves : Cert.preserves_DownX_DownXIdeal := trivial

end Cert.DownXIdeal.Proof

namespace Cert.DownXRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) :=
  (θ_run defs _ _).mono (fun r h => ⟨fun c => (h c).2, sem_eq_zero_of_no_sems (by decide) r.2⟩) (Value.run m g)

end Cert.DownXRefIdeal.Proof

end
-- ==== Proof.UpW.lean ====
module

public import proofs.«01_k».proof.Defs
public import proofs.«01_k».proof.Proof.Gen.UpW.Frame
public import proofs.«01_k».proof.Proof.Gen.UpWIdeal.Value
public import proofs.«01_k».proof.Proof.Gen.UpWRefIdeal.Run
public import proofs.«01_k».proof.Proof.Gen.UpWRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of the first product of the MLP with respect to its weights, in eight blocks of 1024 columns: a product
  over the positions, a tile of 1024 × 1024 weights at each grid point.
-/

set_option maxRecDepth 16384

noncomputable section

namespace Cert.UpWIdeal.Proof

open Cert.UpWIdeal Cert.UpWIdeal.Gen Cert.UpWIdeal.Value Idealize.ShloMosaic Idealize.ShloMosaic.TcCoe Idealize.SL.Sem
open Cert.UpWRefIdeal.Read

variable (m : (ℓ : Loc nD τ sig) → Buf (Elt Ideal) ℓ) (c : Dev nD)

/-- The column of the whole array that a column of a block is. -/
def col (g : Fin 8) (s : Fin 1024) : Fin 8192 := ⟨g.val * 1024 + s.val, by omega⟩

/-- The gradient at a weight: over the positions, the input times the incoming gradient. -/
def grad (a : S2048x2048.Idx → EReal) (dy : S2048x8192.Idx → EReal) (i : S8x2048x1024.Idx) : EReal :=
  ∑ t : Fin 2048, a (ix2 t (i 1)) * dy (ix2 t (col (i 0) (i 2)))

/-- What one grid point writes, at an index of the tile. -/
theorem tile (x0 : Vec Ideal S2048x1024 .bf16) (x1 : Vec Ideal S2048x1024 .bf16) (u : Fin 1) (r : Fin 1024) (s : Fin 1024) :
    out0_2 (F := Ideal) x0 x1 (ix3 u r s) = ∑ t : Fin 2048, (x0 (ix2 t r) : EReal) * x1 (ix2 t s) := by
  obtain rfl : u = 0 := Subsingleton.elim _ _
  unfold out0_2
  rw [View.canon_unit_zero]
  · pointwise [k0_pay1, View.ld_unit_zero]
  · funext a; fin_cases a <;> rfl

/-- The result array after the run. -/
theorem array : (dats m 0 c).arrAt 2 cfg0.N = grad (m (c.tc.loc main_arg0)) (m (c.tc.loc main_arg1)) := by
  have e0 : ∀ t : Fin grid0.N, win0_0.index t 0 = 0 ∧ win0_0.index t 1 = win0_2.index t 1 := by decide +kernel
  have e1 : ∀ t : Fin grid0.N, win0_1.index t 0 = 0 ∧ win0_1.index t 1 = win0_2.index t 0 ∧ win0_2.index t 2 = 0 := by decide +kernel
  refine (dats m 0 c).arrAt_eq_of_covers 2 _ (by decide +kernel) (fun t hf y => ?_)
  blk_simp
  rw [after0_2]
  rw [show y = ix3 (y 0) (y 1) (y 2) from by funext a; fin_cases a <;> rfl]
  refine (tile _ _ (y 0) (y 1) (y 2)).trans ?_
  have r0 (k : Fin 2048) : (iblk m c 0 t : Vec Ideal S2048x1024 .bf16) (ix2 k (y 1)) = (m (c.tc.loc main_arg0) : S2048x2048.Idx → EReal) (ix2 k ((win0_2.blk t).view.emb (ix3 (y 0) (y 1) (y 2)) 1)) := by
    refine (congrFun (congrArg (((cfg0.win 0).blk t).view.read (Elt Ideal)) (V_main_arg0 m c)) _).trans ?_
    show (m (c.tc.loc main_arg0) : S2048x2048.Idx → EReal) _ = (m (c.tc.loc main_arg0) : S2048x2048.Idx → EReal) _
    blk_ext [e0 t]
  have r1 (k : Fin 2048) : (iblk m c 1 t : Vec Ideal S2048x1024 .bf16) (ix2 k (y 2)) = (m (c.tc.loc main_arg1) : S2048x8192.Idx → EReal) (ix2 k (col ((win0_2.blk t).view.emb (ix3 (y 0) (y 1) (y 2)) 0) ((win0_2.blk t).view.emb (ix3 (y 0) (y 1) (y 2)) 2))) := by
    refine (congrFun (congrArg (((cfg0.win 1).blk t).view.read (Elt Ideal)) (V_main_arg1 m c)) _).trans ?_
    show (m (c.tc.loc main_arg1) : S2048x8192.Idx → EReal) _ = (m (c.tc.loc main_arg1) : S2048x8192.Idx → EReal) _
    blk_ext [e1 t, col]
  exact Finset.sum_congr rfl fun k _ => congrArg₂ (· * ·) (r0 k) (r1 k)

/-- The reference's result. -/
theorem reference (a : S2048x2048.Idx → EReal) (dy : S2048x8192.Idx → EReal) :
    (val_main_v8 (F := Ideal) a dy : S8x2048x1024.Idx → EReal) = grad a dy := by
  funext i
  pointwise [val_main_v8, val_main_v7, val_main_v6, val_main_v5, val_main_v4, val_main_v3, val_main_v1]
  exact Finset.sum_congr rfl fun _ _ => mul_comm _ _

/-- The call computes the reference's result. -/
theorem algebraic : Cert.algebraic_UpWIdeal_UpWRefIdeal := by
  intro m g m' g' _ hargs
  refine ⟨fun c => (dats m 0 c).arrAt 2 cfg0.N, run_blocks m g, (θ_run _ _ _).mono (fun r h c => ?_) (Cert.UpWRefIdeal.Value.run m' g')⟩
  obtain ⟨a0, a1⟩ := hargs c
  obtain ⟨r0, rest⟩ := h c
  refine ⟨r0.trans ?_, rest⟩
  rw [val_main_v8_eq, a0, a1]
  exact (reference _ _).trans (array m c).symm

/-- The idealization replaces nothing. -/
theorem preserves : Cert.preserves_UpW_UpWIdeal := trivial

end Cert.UpWIdeal.Proof

namespace Cert.UpWRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.UpWRefIdeal.Proof

end
-- ==== Proof.UpX.lean ====
module

public import proofs.«01_k».proof.Defs
public import proofs.«01_k».proof.Proof.Blocks
public import proofs.«01_k».proof.Proof.Gen.UpX.Frame
public import proofs.«01_k».proof.Proof.Gen.UpXIdeal.Value
public import proofs.«01_k».proof.Proof.Gen.UpXRefIdeal.Run
public import proofs.«01_k».proof.Proof.Gen.UpXRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of the first product of the MLP with respect to its input: a tile of 1024 × 1024, summed over four grid
  points, each of which takes two of the eight blocks of 1024 columns.
-/

set_option maxRecDepth 16384

noncomputable section

namespace Cert.UpXIdeal.Proof

open Cert.UpXIdeal Cert.UpXIdeal.Gen Cert.UpXIdeal.Value Idealize.ShloMosaic Idealize.ShloMosaic.TcCoe Idealize.SL.Sem
open Cert.UpXRefIdeal.Read

variable (m : (ℓ : Loc nD τ sig) → Buf (Elt Ideal) ℓ) (c : Dev nD)

/-- The rows of the incoming gradient that a grid point reads. -/
abbrev rows (t : Fin cfg0.N) : Vec Ideal S1024x2048 .bf16 := iblk m c 0 t

/-- The two blocks of the weights that a grid point reads. -/
abbrev cols (t : Fin cfg0.N) : Vec Ideal S2x1024x1024 .bf16 := iblk m c 1 t

/-- The first half of the columns of the rows. -/
def lowRows (x : Vec Ideal S1024x2048 .bf16) : Vec Ideal S1024x1024 .bf16 :=
  View.ld x (Rect.unit ![0, 0] ![1024, 1024] inb_S1024x2048_S1024x1024_0_0)

/-- The second half. -/
def highRows (x : Vec Ideal S1024x2048 .bf16) : Vec Ideal S1024x1024 .bf16 :=
  View.ld x (Rect.unit ![0, 1024] ![1024, 1024] inb_S1024x2048_S1024x1024_0_1024)

/-- The first block of the weights. -/
def lowCols (x : Vec Ideal S2x1024x1024 .bf16) : Vec Ideal S1x1024x1024 .bf16 :=
  View.ld x (Rect.unit ![0, 0, 0] ![1, 1024, 1024] inb_S2x1024x1024_S1x1024x1024_0_0_0)

/-- The second block. -/
def highCols (x : Vec Ideal S2x1024x1024 .bf16) : Vec Ideal S1x1024x1024 .bf16 :=
  View.ld x (Rect.unit ![1, 0, 0] ![1, 1024, 1024] inb_S2x1024x1024_S1x1024x1024_1_0_0)

/-- An entry of the first half of the rows' block. -/
theorem lowRows_apply (x : Vec Ideal S1024x2048 .bf16) (r k : Fin 1024) : lowRows x (ix2 r k) = x (ix2 r (⟨k.val, by omega⟩ : Fin 2048)) := by
  refine congrArg x ?_
  funext a; fin_cases a <;> apply Fin.ext <;> simp

/-- An entry of the second half of the rows' block. -/
theorem highRows_apply (x : Vec Ideal S1024x2048 .bf16) (r k : Fin 1024) : highRows x (ix2 r k) = x (ix2 r (⟨1024 + k.val, by omega⟩ : Fin 2048)) := by
  refine congrArg x ?_
  funext a; fin_cases a <;> apply Fin.ext <;> simp

/-- An entry of the first half of the weights' block. -/
theorem lowCols_apply (x : Vec Ideal S2x1024x1024 .bf16) (s k : Fin 1024) : lowCols x (ix3 0 s k) = x (ix3 0 s k) := by
  refine congrArg x ?_
  funext a; fin_cases a <;> apply Fin.ext <;> simp

/-- An entry of the second half of the weights' block. -/
theorem highCols_apply (x : Vec Ideal S2x1024x1024 .bf16) (s k : Fin 1024) : highCols x (ix3 0 s k) = x (ix3 1 s k) := by
  refine congrArg x ?_
  funext a; fin_cases a <;> apply Fin.ext <;> simp

/-- The term of one of the 8192 columns: the incoming gradient times the weight. -/
def term (dy : S2048x8192.Idx → EReal) (w : S8x2048x1024.Idx → EReal) (i : S2048x2048.Idx) (x : Fin 8192) : EReal :=
  dy (ix2 (i 0) x) * w (ix3 (⟨x.val / 1024, by omega⟩ : Fin 8) (i 1) (⟨x.val % 1024, by omega⟩ : Fin 1024))

/-- The gradient at a position: the sum of the terms of all columns. -/
def grad (dy : S2048x8192.Idx → EReal) (w : S8x2048x1024.Idx → EReal) (i : S2048x2048.Idx) : EReal :=
  ∑ x : Fin 8192, term dy w i x

/-- The sum of the terms of a block of 1024 columns. -/
def part (dy : S2048x8192.Idx → EReal) (w : S8x2048x1024.Idx → EReal) (i : S2048x2048.Idx) (q : Fin 8) : EReal :=
  ∑ k : Fin 1024, term dy w i ⟨q.val * 1024 + k.val, by omega⟩

/-- The eight blocks, two at a time. -/
theorem grad_eq (dy : S2048x8192.Idx → EReal) (w : S8x2048x1024.Idx → EReal) (i : S2048x2048.Idx) :
    (part dy w i 0 + part dy w i 1) + (part dy w i 2 + part dy w i 3) + (part dy w i 4 + part dy w i 5) + (part dy w i 6 + part dy w i 7) = grad dy w i := by
  refine Eq.trans ?_ (Cert.Blocks.sum_parts 8 1024 (term dy w i))
  refine Eq.trans ?_ (Fin.sum_univ_eight (part dy w i)).symm
  simp only [add_assoc]

/-- The index maps of the two operands. -/
theorem e0 : ∀ t : Fin grid0.N, win0_0.index t 0 = t.val / 8 ∧ win0_0.index t 1 = t.val % 4 := by decide +kernel

/-- The weights' block at a grid point. -/
theorem e1 : ∀ t : Fin grid0.N, win0_1.index t 0 = t.val % 4 ∧ win0_1.index t 1 = t.val / 4 % 2 ∧ win0_1.index t 2 = 0 := by decide +kernel

/-- The product over the first block of columns of a grid point. -/
theorem sums_low (t : Fin cfg0.N) (r s : Fin 1024) (i : S2048x2048.Idx) (q : Fin 8) (hq : q.val = 2 * (t.val % 4))
    (h0 : (i 0).val = t.val / 8 * 1024 + r.val) (h1 : (i 1).val = t.val / 4 % 2 * 1024 + s.val) :
    ∑ k : Fin 1024, (lowRows (rows m c t) (ix2 r k) : EReal) * lowCols (cols m c t) (ix3 0 s k)
      = part (m (c.tc.loc main_arg1)) (m (c.tc.loc main_arg0)) i q := by
  refine Finset.sum_congr rfl fun k _ => congrArg₂ (· * ·) ?_ ?_
  · rw [lowRows_apply]
    refine (congrFun (congrArg (((cfg0.win 0).blk t).view.read (Elt Ideal)) (V_main_arg1 m c)) _).trans ?_
    show (m (c.tc.loc main_arg1) : S2048x8192.Idx → EReal) _ = (m (c.tc.loc main_arg1) : S2048x8192.Idx → EReal) _
    blk_ext [e0 t, h0, hq]
  · rw [lowCols_apply]
    refine (congrFun (congrArg (((cfg0.win 1).blk t).view.read (Elt Ideal)) (V_main_arg0 m c)) _).trans ?_
    show (m (c.tc.loc main_arg0) : S8x2048x1024.Idx → EReal) _ = (m (c.tc.loc main_arg0) : S8x2048x1024.Idx → EReal) _
    blk_ext [e1 t, h1, hq]

/-- The product over the second. -/
theorem sums_high (t : Fin cfg0.N) (r s : Fin 1024) (i : S2048x2048.Idx) (q : Fin 8) (hq : q.val = 2 * (t.val % 4) + 1)
    (h0 : (i 0).val = t.val / 8 * 1024 + r.val) (h1 : (i 1).val = t.val / 4 % 2 * 1024 + s.val) :
    ∑ k : Fin 1024, (highRows (rows m c t) (ix2 r k) : EReal) * highCols (cols m c t) (ix3 0 s k)
      = part (m (c.tc.loc main_arg1)) (m (c.tc.loc main_arg0)) i q := by
  refine Finset.sum_congr rfl fun k _ => congrArg₂ (· * ·) ?_ ?_
  · rw [highRows_apply]
    refine (congrFun (congrArg (((cfg0.win 0).blk t).view.read (Elt Ideal)) (V_main_arg1 m c)) _).trans ?_
    show (m (c.tc.loc main_arg1) : S2048x8192.Idx → EReal) _ = (m (c.tc.loc main_arg1) : S2048x8192.Idx → EReal) _
    blk_ext [e0 t, h0, hq]
  · rw [highCols_apply]
    refine (congrFun (congrArg (((cfg0.win 1).blk t).view.read (Elt Ideal)) (V_main_arg0 m c)) _).trans ?_
    show (m (c.tc.loc main_arg0) : S8x2048x1024.Idx → EReal) _ = (m (c.tc.loc main_arg0) : S8x2048x1024.Idx → EReal) _
    blk_ext [e1 t, h1, hq]

/-- The product of one grid point, at an index of the tile. -/
theorem pay (x0 x2 : Vec Ideal S1024x1024 .bf16) (x1 x3 : Vec Ideal S1x1024x1024 .bf16) (r s : Fin 1024) :
    (k0_pay1 (F := Ideal) x0 x1 x2 x3 : Vec Ideal S1024x1024 .f32) (ix2 r s)
      = (∑ k : Fin 1024, (x0 (ix2 r k) : EReal) * x1 (ix3 0 s k)) + ∑ k : Fin 1024, (x2 (ix2 r k) : EReal) * x3 (ix3 0 s k) := by
  pointwise [k0_pay1]

/-- The first product of a tile. -/
theorem pay_first (x0 x2 : Vec Ideal S1024x1024 .bf16) (x1 x3 : Vec Ideal S1x1024x1024 .bf16) (r s : Fin 1024) :
    (k0_pay2 (F := Ideal) x0 x1 x2 x3 : Vec Ideal S1024x1024 .f32) (ix2 r s) = (k0_pay1 (F := Ideal) x0 x1 x2 x3 : Vec Ideal S1024x1024 .f32) (ix2 r s) := by
  pointwise [k0_pay2]

/-- A further product added to the sum. -/
theorem pay_next (x0 x2 : Vec Ideal S1024x1024 .bf16) (x1 x3 : Vec Ideal S1x1024x1024 .bf16) (x : Vec Ideal S1024x1024 .f32) (r s : Fin 1024) :
    (k0_pay3 (F := Ideal) x0 x1 x2 x3 x : Vec Ideal S1024x1024 .f32) (ix2 r s) = (x (ix2 r s) : EReal) + (k0_pay1 (F := Ideal) x0 x1 x2 x3 : Vec Ideal S1024x1024 .f32) (ix2 r s) := by
  pointwise [k0_pay3]

/-- The last product added to the sum. -/
theorem pay_last (x0 x2 : Vec Ideal S1024x1024 .bf16) (x1 x3 : Vec Ideal S1x1024x1024 .bf16) (x : Vec Ideal S1024x1024 .f32) (r s : Fin 1024) :
    (k0_pay4 (F := Ideal) x0 x1 x2 x3 x : Vec Ideal S1024x1024 .bf16) (ix2 r s) = (x (ix2 r s) : EReal) + (k0_pay1 (F := Ideal) x0 x1 x2 x3 : Vec Ideal S1024x1024 .f32) (ix2 r s) := by
  pointwise [k0_pay4]

/-- The product of a grid point. -/
abbrev step (t : Fin cfg0.N) : Vec Ideal S1024x1024 .f32 :=
  k0_pay1 (F := Ideal) (lowRows (rows m c t)) (lowCols (cols m c t)) (highRows (rows m c t)) (highCols (cols m c t))

/-- It sums two of the eight blocks of columns. -/
theorem step_apply (t : Fin cfg0.N) (r s : Fin 1024) (i : S2048x2048.Idx) (p q : Fin 8) (hp : p.val = 2 * (t.val % 4)) (hq : q.val = 2 * (t.val % 4) + 1)
    (h0 : (i 0).val = t.val / 8 * 1024 + r.val) (h1 : (i 1).val = t.val / 4 % 2 * 1024 + s.val) :
    (step m c t : Vec Ideal S1024x1024 .f32) (ix2 r s)
      = part (m (c.tc.loc main_arg1)) (m (c.tc.loc main_arg0)) i p + part (m (c.tc.loc main_arg1)) (m (c.tc.loc main_arg0)) i q := by
  refine (pay _ _ _ _ r s).trans ?_
  rw [sums_low m c t r s i p hp h0 h1, sums_high m c t r s i q hq h0 h1]

/-- What the sum holds after the first of a tile's grid points. -/
theorem first (t : Fin cfg0.N) (h : t.val % 4 = 0) (r s : Fin 1024) :
    ((outsAt0 m c t.val t.isLt).2 : Vec Ideal S1024x1024 .f32) (ix2 r s) = step m c t (ix2 r s) := by
  refine Eq.trans (congrFun (?_ : ((outsAt0 m c t.val t.isLt).2 : Vec Ideal S1024x1024 .f32) = k0_pay2 (F := Ideal) (lowRows (rows m c t)) (lowCols (cols m c t)) (highRows (rows m c t)) (highCols (cols m c t))) _) (pay_first _ _ _ _ r s)
  rw [outsAt0_A m c t h (by omega) (by omega)]
  frame_out
  try rfl

/-- What it holds after the second and third. -/
theorem next (t : Fin cfg0.N) (h : 1 ≤ t.val % 4 ∧ t.val % 4 ≤ 2) (r s : Fin 1024) :
    ((outsAt0 m c t.val t.isLt).2 : Vec Ideal S1024x1024 .f32) (ix2 r s)
      = ((outsAt0 m c (t.val - 1) (by have := t.isLt; omega)).2 : Vec Ideal S1024x1024 .f32) (ix2 r s) + (step m c t (ix2 r s) : EReal) := by
  refine Eq.trans (congrFun (?_ : ((outsAt0 m c t.val t.isLt).2 : Vec Ideal S1024x1024 .f32) = k0_pay3 (F := Ideal) (lowRows (rows m c t)) (lowCols (cols m c t)) (highRows (rows m c t)) (highCols (cols m c t)) (outsAt0 m c (t.val - 1) (by have := t.isLt; omega)).2) _) (pay_next _ _ _ _ _ r s)
  rw [outsAt0_B m c t (by omega) h (by omega)]
  frame_out
  simp only [read_unread_whole]
  try rfl

/-- What the last writes. -/
theorem last (t : Fin cfg0.N) (h : t.val % 4 = 3) (r s : Fin 1024) :
    ((outsAt0 m c t.val t.isLt).1 : Vec Ideal S1024x1024 .bf16) (ix2 r s)
      = ((outsAt0 m c (t.val - 1) (by have := t.isLt; omega)).2 : Vec Ideal S1024x1024 .f32) (ix2 r s) + (step m c t (ix2 r s) : EReal) := by
  refine Eq.trans (congrFun (?_ : ((outsAt0 m c t.val t.isLt).1 : Vec Ideal S1024x1024 .bf16) = k0_pay4 (F := Ideal) (lowRows (rows m c t)) (lowCols (cols m c t)) (highRows (rows m c t)) (highCols (cols m c t)) (outsAt0 m c (t.val - 1) (by have := t.isLt; omega)).2) _) (pay_last _ _ _ _ _ r s)
  rw [outsAt0_C m c t (by omega) (by omega) h]
  frame_out
  simp only [read_unread_whole]
  try rfl

/-- What the last of a tile's grid points writes is the gradient, at an index of the tile. -/
theorem written (t : Fin cfg0.N) (h : t.val % 4 = 3) (r s : Fin 1024) (i : S2048x2048.Idx)
    (h0 : (i 0).val = t.val / 8 * 1024 + r.val) (h1 : (i 1).val = t.val / 4 % 2 * 1024 + s.val) :
    ((outsAt0 m c t.val t.isLt).1 : Vec Ideal S1024x1024 .bf16) (ix2 r s) = grad (m (c.tc.loc main_arg1)) (m (c.tc.loc main_arg0)) i := by
  have ht := t.isLt
  let t2 : Fin cfg0.N := ⟨t.val - 1, by omega⟩
  let t1 : Fin cfg0.N := ⟨t.val - 1 - 1, by omega⟩
  let t0 : Fin cfg0.N := ⟨t.val - 1 - 1 - 1, by omega⟩
  have s2 := next m c t2 (by show 1 ≤ (t.val - 1) % 4 ∧ (t.val - 1) % 4 ≤ 2; omega) r s
  have s1 := next m c t1 (by show 1 ≤ (t.val - 1 - 1) % 4 ∧ (t.val - 1 - 1) % 4 ≤ 2; omega) r s
  have s0 := first m c t0 (by show (t.val - 1 - 1 - 1) % 4 = 0; omega) r s
  have a3 := step_apply m c t r s i 6 7 (by rw [h]; rfl) (by rw [h]; rfl) h0 h1
  have a2 := step_apply m c t2 r s i 4 5 (by show 4 = 2 * ((t.val - 1) % 4); omega) (by show 5 = 2 * ((t.val - 1) % 4) + 1; omega)
    (by rw [h0]; show _ = (t.val - 1) / 8 * 1024 + _; omega) (by rw [h1]; show _ = (t.val - 1) / 4 % 2 * 1024 + _; omega)
  have a1 := step_apply m c t1 r s i 2 3 (by show 2 = 2 * ((t.val - 1 - 1) % 4); omega) (by show 3 = 2 * ((t.val - 1 - 1) % 4) + 1; omega)
    (by rw [h0]; show _ = (t.val - 1 - 1) / 8 * 1024 + _; omega) (by rw [h1]; show _ = (t.val - 1 - 1) / 4 % 2 * 1024 + _; omega)
  have a0 := step_apply m c t0 r s i 0 1 (by show 0 = 2 * ((t.val - 1 - 1 - 1) % 4); omega) (by show 1 = 2 * ((t.val - 1 - 1 - 1) % 4) + 1; omega)
    (by rw [h0]; show _ = (t.val - 1 - 1 - 1) / 8 * 1024 + _; omega) (by rw [h1]; show _ = (t.val - 1 - 1 - 1) / 4 % 2 * 1024 + _; omega)
  rw [← grad_eq]
  exact (last m c t h r s).trans (congrArg₂ (· + ·) (s2.trans (congrArg₂ (· + ·) (s1.trans (congrArg₂ (· + ·) (s0.trans a0) a1)) a2)) a3)

/-- The result array after the run. -/
theorem array : (dats m 0 c).arrAt 2 cfg0.N = grad (m (c.tc.loc main_arg1)) (m (c.tc.loc main_arg0)) := by
  have e : ∀ t : Fin grid0.N, win0_2.index t 0 = t.val / 8 ∧ win0_2.index t 1 = t.val / 4 % 2 := by decide +kernel
  refine (dats m 0 c).arrAt_eq_of_covers 2 _ (by decide +kernel) (fun t hf y => ?_)
  have hm := (flush0_2 t).mp hf
  blk_simp
  rw [after0_2]
  rw [show y = ix2 (y 0) (y 1) from by funext a; fin_cases a <;> rfl]
  refine written m c t hm (y 0) (y 1) _ ?_ ?_
  · rw [← (e t).1]
    blk_simp
  · rw [← (e t).2]
    blk_simp

/-- The reference's result. -/
theorem reference (w : S8x2048x1024.Idx → EReal) (dy : S2048x8192.Idx → EReal) :
    (val_main_v7 (F := Ideal) w dy : S2048x2048.Idx → EReal) = grad dy w := by
  funext i
  pointwise [val_main_v7, val_main_v6, val_main_v5, val_main_v3, val_main_v1, val_main_v0]
  rfl

/-- The call computes the reference's result. -/
theorem algebraic : Cert.algebraic_UpXIdeal_UpXRefIdeal := by
  intro m g m' g' _ hargs
  refine ⟨fun c => (dats m 0 c).arrAt 2 cfg0.N, run_blocks m g, (θ_run _ _ _).mono (fun r h c => ?_) (Cert.UpXRefIdeal.Value.run m' g')⟩
  obtain ⟨a0, a1⟩ := hargs c
  obtain ⟨r0, rest⟩ := h c
  refine ⟨r0.trans ?_, rest⟩
  rw [val_main_v7_eq, a0, a1]
  exact (reference _ _).trans (array m c).symm

/-- The idealization replaces nothing. -/
theorem preserves : Cert.preserves_UpX_UpXIdeal := trivial

end Cert.UpXIdeal.Proof

namespace Cert.UpXRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.UpXRefIdeal.Proof

end
-- ==== Proof.InW.lean ====
module

public import proofs.«01_k».proof.Defs
public import proofs.«01_k».proof.Proof.Gen.InW.Frame
public import proofs.«01_k».proof.Proof.Gen.InWIdeal.Value
public import proofs.«01_k».proof.Proof.Gen.InWRefIdeal.Run
public import proofs.«01_k».proof.Proof.Gen.InWRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of the recurrence's input product with respect to its weights, in eight blocks of 1024 columns: a product
  over the positions, a tile of 1024 × 1024 weights at each grid point. The incoming gradient is stored as four arrays
  of 2048 columns, each of which two blocks share.
-/

set_option maxRecDepth 16384

noncomputable section

namespace Cert.InWIdeal.Proof

open Cert.InWIdeal Cert.InWIdeal.Gen Cert.InWIdeal.Value Idealize.ShloMosaic Idealize.ShloMosaic.TcCoe Idealize.SL.Sem
open Cert.InWRefIdeal.Read

variable (m : (ℓ : Loc nD τ sig) → Buf (Elt Ideal) ℓ) (c : Dev nD)

/-- The array of the four that holds a column of a block. -/
def part (g : Fin 8) (s : Fin 1024) : Fin 4 := ⟨(g.val * 1024 + s.val) / 2048, by omega⟩

/-- The column of that array that a column of the block is. -/
def col (g : Fin 8) (s : Fin 1024) : Fin 2048 := ⟨(g.val * 1024 + s.val) % 2048, by omega⟩

/-- The gradient at a weight: over the positions, the input times the incoming gradient. -/
def grad (a : S2048x2048.Idx → EReal) (dy : S4x2048x2048.Idx → EReal) (i : S8x2048x1024.Idx) : EReal :=
  ∑ t : Fin 2048, a (ix2 t (i 1)) * dy (ix3 (part (i 0) (i 2)) t (col (i 0) (i 2)))

/-- What one grid point writes, at an index of the tile. -/
theorem tile (x0 : Vec Ideal S2048x1024 .bf16) (x1 : Vec Ideal S1x2048x1024 .bf16) (u : Fin 1) (r : Fin 1024) (s : Fin 1024) :
    out0_2 (F := Ideal) x0 x1 (ix3 u r s) = ∑ t : Fin 2048, (x0 (ix2 t r) : EReal) * x1 (ix3 0 t s) := by
  obtain rfl : u = 0 := Subsingleton.elim _ _
  unfold out0_2
  rw [View.canon_unit_zero]
  · pointwise [k0_pay1, View.ld_unit_zero]
  · funext a; fin_cases a <;> rfl

/-- The result array after the run. -/
theorem array : (dats m 0 c).arrAt 2 cfg0.N = grad (m (c.tc.loc main_arg0)) (m (c.tc.loc main_arg1)) := by
  have e0 : ∀ t : Fin grid0.N, win0_0.index t 0 = 0 ∧ win0_0.index t 1 = win0_2.index t 1 := by decide +kernel
  have e1 : ∀ t : Fin grid0.N, win0_1.index t 0 = win0_2.index t 0 / 2 ∧ win0_1.index t 1 = 0 ∧ win0_1.index t 2 = win0_2.index t 0 % 2 ∧ win0_2.index t 2 = 0 := by decide +kernel
  refine (dats m 0 c).arrAt_eq_of_covers 2 _ (by decide +kernel) (fun t hf y => ?_)
  blk_simp
  rw [after0_2]
  rw [show y = ix3 (y 0) (y 1) (y 2) from by funext a; fin_cases a <;> rfl]
  refine (tile _ _ (y 0) (y 1) (y 2)).trans ?_
  have r0 (k : Fin 2048) : (iblk m c 0 t : Vec Ideal S2048x1024 .bf16) (ix2 k (y 1)) = (m (c.tc.loc main_arg0) : S2048x2048.Idx → EReal) (ix2 k ((win0_2.blk t).view.emb (ix3 (y 0) (y 1) (y 2)) 1)) := by
    refine (congrFun (congrArg (((cfg0.win 0).blk t).view.read (Elt Ideal)) (V_main_arg0 m c)) _).trans ?_
    show (m (c.tc.loc main_arg0) : S2048x2048.Idx → EReal) _ = (m (c.tc.loc main_arg0) : S2048x2048.Idx → EReal) _
    blk_ext [e0 t]
  have r1 (k : Fin 2048) : (iblk m c 1 t : Vec Ideal S1x2048x1024 .bf16) (ix3 0 k (y 2)) = (m (c.tc.loc main_arg1) : S4x2048x2048.Idx → EReal) (ix3 (part ((win0_2.blk t).view.emb (ix3 (y 0) (y 1) (y 2)) 0) ((win0_2.blk t).view.emb (ix3 (y 0) (y 1) (y 2)) 2)) k (col ((win0_2.blk t).view.emb (ix3 (y 0) (y 1) (y 2)) 0) ((win0_2.blk t).view.emb (ix3 (y 0) (y 1) (y 2)) 2))) := by
    refine (congrFun (congrArg (((cfg0.win 1).blk t).view.read (Elt Ideal)) (V_main_arg1 m c)) _).trans ?_
    show (m (c.tc.loc main_arg1) : S4x2048x2048.Idx → EReal) _ = (m (c.tc.loc main_arg1) : S4x2048x2048.Idx → EReal) _
    blk_ext [e1 t, part, col]
  exact Finset.sum_congr rfl fun k _ => congrArg₂ (· * ·) (r0 k) (r1 k)

/-- The reference's result. -/
theorem reference (a : S2048x2048.Idx → EReal) (dy : S4x2048x2048.Idx → EReal) :
    (val_main_v10 (F := Ideal) a dy : S8x2048x1024.Idx → EReal) = grad a dy := by
  funext i
  pointwise [val_main_v10, val_main_v9, val_main_v8, val_main_v7, val_main_v6, val_main_v5, val_main_v3, val_main_v1, val_main_v0]
  exact Finset.sum_congr rfl fun _ _ => mul_comm _ _

/-- The call computes the reference's result. -/
theorem algebraic : Cert.algebraic_InWIdeal_InWRefIdeal := by
  intro m g m' g' _ hargs
  refine ⟨fun c => (dats m 0 c).arrAt 2 cfg0.N, run_blocks m g, (θ_run _ _ _).mono (fun r h c => ?_) (Cert.InWRefIdeal.Value.run m' g')⟩
  obtain ⟨a0, a1⟩ := hargs c
  obtain ⟨r0, rest⟩ := h c
  refine ⟨r0.trans ?_, rest⟩
  rw [val_main_v10_eq, a0, a1]
  exact (reference _ _).trans (array m c).symm

/-- The idealization replaces nothing. -/
theorem preserves : Cert.preserves_InW_InWIdeal := trivial

end Cert.InWIdeal.Proof

namespace Cert.InWRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.InWRefIdeal.Proof

end
-- ==== Proof.InX.lean ====
module

public import proofs.«01_k».proof.Defs
public import proofs.«01_k».proof.Proof.Blocks
public import proofs.«01_k».proof.Proof.Gen.InX.Frame
public import proofs.«01_k».proof.Proof.Gen.InXIdeal.Value
public import proofs.«01_k».proof.Proof.Gen.InXRefIdeal.Run
public import proofs.«01_k».proof.Proof.Gen.InXRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of the recurrence's input product with respect to its input: a tile of 1024 × 1024, summed over four grid
  points, each of which takes two of the eight blocks of 1024 columns. The incoming gradient is stored as four arrays
  of 2048 columns, one for each of the four points.
-/

set_option maxRecDepth 16384

noncomputable section

namespace Cert.InXIdeal.Proof

open Cert.InXIdeal Cert.InXIdeal.Gen Cert.InXIdeal.Value Idealize.ShloMosaic Idealize.ShloMosaic.TcCoe Idealize.SL.Sem
open Cert.InXRefIdeal.Read

variable (m : (ℓ : Loc nD τ sig) → Buf (Elt Ideal) ℓ) (c : Dev nD)

/-- The rows of the incoming gradient that a grid point reads. -/
abbrev rows (t : Fin cfg0.N) : Vec Ideal S1x1024x2048 .bf16 := iblk m c 0 t

/-- The two blocks of the weights that a grid point reads. -/
abbrev cols (t : Fin cfg0.N) : Vec Ideal S2x1024x1024 .bf16 := iblk m c 1 t

/-- The first half of the columns of the rows. -/
def lowRows (x : Vec Ideal S1x1024x2048 .bf16) : Vec Ideal S1x1024x1024 .bf16 :=
  View.ld x (Rect.unit ![0, 0, 0] ![1, 1024, 1024] inb_S1x1024x2048_S1x1024x1024_0_0_0)

/-- The second half. -/
def highRows (x : Vec Ideal S1x1024x2048 .bf16) : Vec Ideal S1x1024x1024 .bf16 :=
  View.ld x (Rect.unit ![0, 0, 1024] ![1, 1024, 1024] inb_S1x1024x2048_S1x1024x1024_0_0_1024)

/-- The first block of the weights. -/
def lowCols (x : Vec Ideal S2x1024x1024 .bf16) : Vec Ideal S1x1024x1024 .bf16 :=
  View.ld x (Rect.unit ![0, 0, 0] ![1, 1024, 1024] inb_S2x1024x1024_S1x1024x1024_0_0_0)

/-- The second block. -/
def highCols (x : Vec Ideal S2x1024x1024 .bf16) : Vec Ideal S1x1024x1024 .bf16 :=
  View.ld x (Rect.unit ![1, 0, 0] ![1, 1024, 1024] inb_S2x1024x1024_S1x1024x1024_1_0_0)

/-- An entry of the first half of the rows' block. -/
theorem lowRows_apply (x : Vec Ideal S1x1024x2048 .bf16) (r k : Fin 1024) : lowRows x (ix3 0 r k) = x (ix3 0 r (⟨k.val, by omega⟩ : Fin 2048)) := by
  refine congrArg x ?_
  funext a; fin_cases a <;> apply Fin.ext <;> simp

/-- An entry of the second half of the rows' block. -/
theorem highRows_apply (x : Vec Ideal S1x1024x2048 .bf16) (r k : Fin 1024) : highRows x (ix3 0 r k) = x (ix3 0 r (⟨1024 + k.val, by omega⟩ : Fin 2048)) := by
  refine congrArg x ?_
  funext a; fin_cases a <;> apply Fin.ext <;> simp

/-- An entry of the first half of the weights' block. -/
theorem lowCols_apply (x : Vec Ideal S2x1024x1024 .bf16) (s k : Fin 1024) : lowCols x (ix3 0 s k) = x (ix3 0 s k) := by
  refine congrArg x ?_
  funext a; fin_cases a <;> apply Fin.ext <;> simp

/-- An entry of the second half of the weights' block. -/
theorem highCols_apply (x : Vec Ideal S2x1024x1024 .bf16) (s k : Fin 1024) : highCols x (ix3 0 s k) = x (ix3 1 s k) := by
  refine congrArg x ?_
  funext a; fin_cases a <;> apply Fin.ext <;> simp

/-- The term of one of the 8192 columns: the incoming gradient times the weight. -/
def term (dy : S4x2048x2048.Idx → EReal) (w : S8x2048x1024.Idx → EReal) (i : S2048x2048.Idx) (x : Fin 8192) : EReal :=
  dy (ix3 (⟨x.val / 2048, by omega⟩ : Fin 4) (i 0) (⟨x.val % 2048, by omega⟩ : Fin 2048)) * w (ix3 (⟨x.val / 1024, by omega⟩ : Fin 8) (i 1) (⟨x.val % 1024, by omega⟩ : Fin 1024))

/-- The gradient at a position: the sum of the terms of all columns. -/
def grad (dy : S4x2048x2048.Idx → EReal) (w : S8x2048x1024.Idx → EReal) (i : S2048x2048.Idx) : EReal :=
  ∑ x : Fin 8192, term dy w i x

/-- The sum of the terms of a block of 1024 columns. -/
def part (dy : S4x2048x2048.Idx → EReal) (w : S8x2048x1024.Idx → EReal) (i : S2048x2048.Idx) (q : Fin 8) : EReal :=
  ∑ k : Fin 1024, term dy w i ⟨q.val * 1024 + k.val, by omega⟩

/-- The eight blocks, two at a time. -/
theorem grad_eq (dy : S4x2048x2048.Idx → EReal) (w : S8x2048x1024.Idx → EReal) (i : S2048x2048.Idx) :
    (part dy w i 0 + part dy w i 1) + (part dy w i 2 + part dy w i 3) + (part dy w i 4 + part dy w i 5) + (part dy w i 6 + part dy w i 7) = grad dy w i := by
  refine Eq.trans ?_ (Cert.Blocks.sum_parts 8 1024 (term dy w i))
  refine Eq.trans ?_ (Fin.sum_univ_eight (part dy w i)).symm
  simp only [add_assoc]

/-- The index maps of the two operands. -/
theorem e0 : ∀ t : Fin grid0.N, win0_0.index t 0 = t.val % 4 ∧ win0_0.index t 1 = t.val / 8 ∧ win0_0.index t 2 = 0 := by decide +kernel

/-- The weights' block at a grid point. -/
theorem e1 : ∀ t : Fin grid0.N, win0_1.index t 0 = t.val % 4 ∧ win0_1.index t 1 = t.val / 4 % 2 ∧ win0_1.index t 2 = 0 := by decide +kernel

/-- The product over the first block of columns of a grid point. -/
theorem sums_low (t : Fin cfg0.N) (r s : Fin 1024) (i : S2048x2048.Idx) (q : Fin 8) (hq : q.val = 2 * (t.val % 4))
    (h0 : (i 0).val = t.val / 8 * 1024 + r.val) (h1 : (i 1).val = t.val / 4 % 2 * 1024 + s.val) :
    ∑ k : Fin 1024, (lowRows (rows m c t) (ix3 0 r k) : EReal) * lowCols (cols m c t) (ix3 0 s k)
      = part (m (c.tc.loc main_arg1)) (m (c.tc.loc main_arg0)) i q := by
  refine Finset.sum_congr rfl fun k _ => congrArg₂ (· * ·) ?_ ?_
  · rw [lowRows_apply]
    refine (congrFun (congrArg (((cfg0.win 0).blk t).view.read (Elt Ideal)) (V_main_arg1 m c)) _).trans ?_
    show (m (c.tc.loc main_arg1) : S4x2048x2048.Idx → EReal) _ = (m (c.tc.loc main_arg1) : S4x2048x2048.Idx → EReal) _
    blk_ext [e0 t, h0, hq]
  · rw [lowCols_apply]
    refine (congrFun (congrArg (((cfg0.win 1).blk t).view.read (Elt Ideal)) (V_main_arg0 m c)) _).trans ?_
    show (m (c.tc.loc main_arg0) : S8x2048x1024.Idx → EReal) _ = (m (c.tc.loc main_arg0) : S8x2048x1024.Idx → EReal) _
    blk_ext [e1 t, h1, hq]

/-- The product over the second. -/
theorem sums_high (t : Fin cfg0.N) (r s : Fin 1024) (i : S2048x2048.Idx) (q : Fin 8) (hq : q.val = 2 * (t.val % 4) + 1)
    (h0 : (i 0).val = t.val / 8 * 1024 + r.val) (h1 : (i 1).val = t.val / 4 % 2 * 1024 + s.val) :
    ∑ k : Fin 1024, (highRows (rows m c t) (ix3 0 r k) : EReal) * highCols (cols m c t) (ix3 0 s k)
      = part (m (c.tc.loc main_arg1)) (m (c.tc.loc main_arg0)) i q := by
  refine Finset.sum_congr rfl fun k _ => congrArg₂ (· * ·) ?_ ?_
  · rw [highRows_apply]
    refine (congrFun (congrArg (((cfg0.win 0).blk t).view.read (Elt Ideal)) (V_main_arg1 m c)) _).trans ?_
    show (m (c.tc.loc main_arg1) : S4x2048x2048.Idx → EReal) _ = (m (c.tc.loc main_arg1) : S4x2048x2048.Idx → EReal) _
    blk_ext [e0 t, h0, hq]
  · rw [highCols_apply]
    refine (congrFun (congrArg (((cfg0.win 1).blk t).view.read (Elt Ideal)) (V_main_arg0 m c)) _).trans ?_
    show (m (c.tc.loc main_arg0) : S8x2048x1024.Idx → EReal) _ = (m (c.tc.loc main_arg0) : S8x2048x1024.Idx → EReal) _
    blk_ext [e1 t, h1, hq]

/-- The product of one grid point, at an index of the tile. -/
theorem pay (x0 x2 : Vec Ideal S1x1024x1024 .bf16) (x1 x3 : Vec Ideal S1x1024x1024 .bf16) (r s : Fin 1024) :
    (k0_pay1 (F := Ideal) x0 x1 x2 x3 : Vec Ideal S1024x1024 .f32) (ix2 r s)
      = (∑ k : Fin 1024, (x0 (ix3 0 r k) : EReal) * x1 (ix3 0 s k)) + ∑ k : Fin 1024, (x2 (ix3 0 r k) : EReal) * x3 (ix3 0 s k) := by
  pointwise [k0_pay1]

/-- The first product of a tile. -/
theorem pay_first (x0 x2 : Vec Ideal S1x1024x1024 .bf16) (x1 x3 : Vec Ideal S1x1024x1024 .bf16) (r s : Fin 1024) :
    (k0_pay2 (F := Ideal) x0 x1 x2 x3 : Vec Ideal S1024x1024 .f32) (ix2 r s) = (k0_pay1 (F := Ideal) x0 x1 x2 x3 : Vec Ideal S1024x1024 .f32) (ix2 r s) := by
  pointwise [k0_pay2]

/-- A further product added to the sum. -/
theorem pay_next (x0 x2 : Vec Ideal S1x1024x1024 .bf16) (x1 x3 : Vec Ideal S1x1024x1024 .bf16) (x : Vec Ideal S1024x1024 .f32) (r s : Fin 1024) :
    (k0_pay3 (F := Ideal) x0 x1 x2 x3 x : Vec Ideal S1024x1024 .f32) (ix2 r s) = (x (ix2 r s) : EReal) + (k0_pay1 (F := Ideal) x0 x1 x2 x3 : Vec Ideal S1024x1024 .f32) (ix2 r s) := by
  pointwise [k0_pay3]

/-- The last product added to the sum. -/
theorem pay_last (x0 x2 : Vec Ideal S1x1024x1024 .bf16) (x1 x3 : Vec Ideal S1x1024x1024 .bf16) (x : Vec Ideal S1024x1024 .f32) (r s : Fin 1024) :
    (k0_pay4 (F := Ideal) x0 x1 x2 x3 x : Vec Ideal S1024x1024 .bf16) (ix2 r s) = (x (ix2 r s) : EReal) + (k0_pay1 (F := Ideal) x0 x1 x2 x3 : Vec Ideal S1024x1024 .f32) (ix2 r s) := by
  pointwise [k0_pay4]

/-- The product of a grid point. -/
abbrev step (t : Fin cfg0.N) : Vec Ideal S1024x1024 .f32 :=
  k0_pay1 (F := Ideal) (lowRows (rows m c t)) (lowCols (cols m c t)) (highRows (rows m c t)) (highCols (cols m c t))

/-- It sums two of the eight blocks of columns. -/
theorem step_apply (t : Fin cfg0.N) (r s : Fin 1024) (i : S2048x2048.Idx) (p q : Fin 8) (hp : p.val = 2 * (t.val % 4)) (hq : q.val = 2 * (t.val % 4) + 1)
    (h0 : (i 0).val = t.val / 8 * 1024 + r.val) (h1 : (i 1).val = t.val / 4 % 2 * 1024 + s.val) :
    (step m c t : Vec Ideal S1024x1024 .f32) (ix2 r s)
      = part (m (c.tc.loc main_arg1)) (m (c.tc.loc main_arg0)) i p + part (m (c.tc.loc main_arg1)) (m (c.tc.loc main_arg0)) i q := by
  refine (pay _ _ _ _ r s).trans ?_
  rw [sums_low m c t r s i p hp h0 h1, sums_high m c t r s i q hq h0 h1]

/-- What the sum holds after the first of a tile's grid points. -/
theorem first (t : Fin cfg0.N) (h : t.val % 4 = 0) (r s : Fin 1024) :
    ((outsAt0 m c t.val t.isLt).2 : Vec Ideal S1024x1024 .f32) (ix2 r s) = step m c t (ix2 r s) := by
  refine Eq.trans (congrFun (?_ : ((outsAt0 m c t.val t.isLt).2 : Vec Ideal S1024x1024 .f32) = k0_pay2 (F := Ideal) (lowRows (rows m c t)) (lowCols (cols m c t)) (highRows (rows m c t)) (highCols (cols m c t))) _) (pay_first _ _ _ _ r s)
  rw [outsAt0_A m c t h (by omega) (by omega)]
  frame_out
  try rfl

/-- What it holds after the second and third. -/
theorem next (t : Fin cfg0.N) (h : 1 ≤ t.val % 4 ∧ t.val % 4 ≤ 2) (r s : Fin 1024) :
    ((outsAt0 m c t.val t.isLt).2 : Vec Ideal S1024x1024 .f32) (ix2 r s)
      = ((outsAt0 m c (t.val - 1) (by have := t.isLt; omega)).2 : Vec Ideal S1024x1024 .f32) (ix2 r s) + (step m c t (ix2 r s) : EReal) := by
  refine Eq.trans (congrFun (?_ : ((outsAt0 m c t.val t.isLt).2 : Vec Ideal S1024x1024 .f32) = k0_pay3 (F := Ideal) (lowRows (rows m c t)) (lowCols (cols m c t)) (highRows (rows m c t)) (highCols (cols m c t)) (outsAt0 m c (t.val - 1) (by have := t.isLt; omega)).2) _) (pay_next _ _ _ _ _ r s)
  rw [outsAt0_B m c t (by omega) h (by omega)]
  frame_out
  simp only [read_unread_whole]
  try rfl

/-- What the last writes. -/
theorem last (t : Fin cfg0.N) (h : t.val % 4 = 3) (r s : Fin 1024) :
    ((outsAt0 m c t.val t.isLt).1 : Vec Ideal S1024x1024 .bf16) (ix2 r s)
      = ((outsAt0 m c (t.val - 1) (by have := t.isLt; omega)).2 : Vec Ideal S1024x1024 .f32) (ix2 r s) + (step m c t (ix2 r s) : EReal) := by
  refine Eq.trans (congrFun (?_ : ((outsAt0 m c t.val t.isLt).1 : Vec Ideal S1024x1024 .bf16) = k0_pay4 (F := Ideal) (lowRows (rows m c t)) (lowCols (cols m c t)) (highRows (rows m c t)) (highCols (cols m c t)) (outsAt0 m c (t.val - 1) (by have := t.isLt; omega)).2) _) (pay_last _ _ _ _ _ r s)
  rw [outsAt0_C m c t (by omega) (by omega) h]
  frame_out
  simp only [read_unread_whole]
  try rfl

/-- What the last of a tile's grid points writes is the gradient, at an index of the tile. -/
theorem written (t : Fin cfg0.N) (h : t.val % 4 = 3) (r s : Fin 1024) (i : S2048x2048.Idx)
    (h0 : (i 0).val = t.val / 8 * 1024 + r.val) (h1 : (i 1).val = t.val / 4 % 2 * 1024 + s.val) :
    ((outsAt0 m c t.val t.isLt).1 : Vec Ideal S1024x1024 .bf16) (ix2 r s) = grad (m (c.tc.loc main_arg1)) (m (c.tc.loc main_arg0)) i := by
  have ht := t.isLt
  let t2 : Fin cfg0.N := ⟨t.val - 1, by omega⟩
  let t1 : Fin cfg0.N := ⟨t.val - 1 - 1, by omega⟩
  let t0 : Fin cfg0.N := ⟨t.val - 1 - 1 - 1, by omega⟩
  have s2 := next m c t2 (by show 1 ≤ (t.val - 1) % 4 ∧ (t.val - 1) % 4 ≤ 2; omega) r s
  have s1 := next m c t1 (by show 1 ≤ (t.val - 1 - 1) % 4 ∧ (t.val - 1 - 1) % 4 ≤ 2; omega) r s
  have s0 := first m c t0 (by show (t.val - 1 - 1 - 1) % 4 = 0; omega) r s
  have a3 := step_apply m c t r s i 6 7 (by rw [h]; rfl) (by rw [h]; rfl) h0 h1
  have a2 := step_apply m c t2 r s i 4 5 (by show 4 = 2 * ((t.val - 1) % 4); omega) (by show 5 = 2 * ((t.val - 1) % 4) + 1; omega)
    (by rw [h0]; show _ = (t.val - 1) / 8 * 1024 + _; omega) (by rw [h1]; show _ = (t.val - 1) / 4 % 2 * 1024 + _; omega)
  have a1 := step_apply m c t1 r s i 2 3 (by show 2 = 2 * ((t.val - 1 - 1) % 4); omega) (by show 3 = 2 * ((t.val - 1 - 1) % 4) + 1; omega)
    (by rw [h0]; show _ = (t.val - 1 - 1) / 8 * 1024 + _; omega) (by rw [h1]; show _ = (t.val - 1 - 1) / 4 % 2 * 1024 + _; omega)
  have a0 := step_apply m c t0 r s i 0 1 (by show 0 = 2 * ((t.val - 1 - 1 - 1) % 4); omega) (by show 1 = 2 * ((t.val - 1 - 1 - 1) % 4) + 1; omega)
    (by rw [h0]; show _ = (t.val - 1 - 1 - 1) / 8 * 1024 + _; omega) (by rw [h1]; show _ = (t.val - 1 - 1 - 1) / 4 % 2 * 1024 + _; omega)
  rw [← grad_eq]
  exact (last m c t h r s).trans (congrArg₂ (· + ·) (s2.trans (congrArg₂ (· + ·) (s1.trans (congrArg₂ (· + ·) (s0.trans a0) a1)) a2)) a3)

/-- The result array after the run. -/
theorem array : (dats m 0 c).arrAt 2 cfg0.N = grad (m (c.tc.loc main_arg1)) (m (c.tc.loc main_arg0)) := by
  have e : ∀ t : Fin grid0.N, win0_2.index t 0 = t.val / 8 ∧ win0_2.index t 1 = t.val / 4 % 2 := by decide +kernel
  refine (dats m 0 c).arrAt_eq_of_covers 2 _ (by decide +kernel) (fun t hf y => ?_)
  have hm := (flush0_2 t).mp hf
  blk_simp
  rw [after0_2]
  rw [show y = ix2 (y 0) (y 1) from by funext a; fin_cases a <;> rfl]
  refine written m c t hm (y 0) (y 1) _ ?_ ?_
  · rw [← (e t).1]
    blk_simp
  · rw [← (e t).2]
    blk_simp

/-- The reference's result. -/
theorem reference (w : S8x2048x1024.Idx → EReal) (dy : S4x2048x2048.Idx → EReal) :
    (val_main_v9 (F := Ideal) w dy : S2048x2048.Idx → EReal) = grad dy w := by
  funext i
  pointwise [val_main_v9, val_main_v8, val_main_v7, val_main_v5, val_main_v1, val_main_v3, val_main_v0, val_main_v2]
  rfl

/-- The call computes the reference's result. -/
theorem algebraic : Cert.algebraic_InXIdeal_InXRefIdeal := by
  intro m g m' g' _ hargs
  refine ⟨fun c => (dats m 0 c).arrAt 2 cfg0.N, run_blocks m g, (θ_run _ _ _).mono (fun r h c => ?_) (Cert.InXRefIdeal.Value.run m' g')⟩
  obtain ⟨a0, a1⟩ := hargs c
  obtain ⟨r0, rest⟩ := h c
  refine ⟨r0.trans ?_, rest⟩
  rw [val_main_v9_eq, a0, a1]
  exact (reference _ _).trans (array m c).symm

/-- The idealization replaces nothing. -/
theorem preserves : Cert.preserves_InX_InXIdeal := trivial

end Cert.InXIdeal.Proof

namespace Cert.InXRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.InXRefIdeal.Proof

end
-- ==== Proof.ProjW.lean ====
module

public import proofs.«01_k».proof.Defs
public import proofs.«01_k».proof.Proof.Gen.ProjW.Frame
public import proofs.«01_k».proof.Proof.Gen.ProjWIdeal.Value
public import proofs.«01_k».proof.Proof.Gen.ProjWRefIdeal.Run
public import proofs.«01_k».proof.Proof.Gen.ProjWRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of a square projection with respect to its weights: a product over the positions, a tile of 1024 × 1024
  weights at each grid point.
-/

set_option maxRecDepth 16384

noncomputable section

namespace Cert.ProjWIdeal.Proof

open Cert.ProjWIdeal Cert.ProjWIdeal.Gen Cert.ProjWIdeal.Value Idealize.ShloMosaic Idealize.ShloMosaic.TcCoe Idealize.SL.Sem
open Cert.ProjWRefIdeal.Read

variable (m : (ℓ : Loc nD τ sig) → Buf (Elt Ideal) ℓ) (c : Dev nD)

/-- The gradient at a weight: over the positions, the input times the incoming gradient. -/
def grad (a : S2048x2048.Idx → EReal) (dy : S2048x2048.Idx → EReal) (i : S1x2048x2048.Idx) : EReal :=
  ∑ t : Fin 2048, a (ix2 t (i 1)) * dy (ix2 t (i 2))

/-- What one grid point writes, at an index of the tile. -/
theorem tile (x0 : Vec Ideal S2048x1024 .bf16) (x1 : Vec Ideal S2048x1024 .bf16) (u : Fin 1) (r : Fin 1024) (s : Fin 1024) :
    out0_2 (F := Ideal) x0 x1 (ix3 u r s) = ∑ t : Fin 2048, (x0 (ix2 t r) : EReal) * x1 (ix2 t s) := by
  obtain rfl : u = 0 := Subsingleton.elim _ _
  unfold out0_2
  rw [View.canon_unit_zero]
  · pointwise [k0_pay1, View.ld_unit_zero]
  · funext a; fin_cases a <;> rfl

/-- The result array after the run. -/
theorem array : (dats m 0 c).arrAt 2 cfg0.N = grad (m (c.tc.loc main_arg0)) (m (c.tc.loc main_arg1)) := by
  have e0 : ∀ t : Fin grid0.N, win0_0.index t 0 = 0 ∧ win0_0.index t 1 = win0_2.index t 1 := by decide +kernel
  have e1 : ∀ t : Fin grid0.N, win0_1.index t 0 = 0 ∧ win0_1.index t 1 = win0_2.index t 2 ∧ win0_2.index t 0 = 0 := by decide +kernel
  refine (dats m 0 c).arrAt_eq_of_covers 2 _ (by decide +kernel) (fun t hf y => ?_)
  blk_simp
  rw [after0_2]
  rw [show y = ix3 (y 0) (y 1) (y 2) from by funext a; fin_cases a <;> rfl]
  refine (tile _ _ (y 0) (y 1) (y 2)).trans ?_
  have r0 (k : Fin 2048) : (iblk m c 0 t : Vec Ideal S2048x1024 .bf16) (ix2 k (y 1)) = (m (c.tc.loc main_arg0) : S2048x2048.Idx → EReal) (ix2 k ((win0_2.blk t).view.emb (ix3 (y 0) (y 1) (y 2)) 1)) := by
    refine (congrFun (congrArg (((cfg0.win 0).blk t).view.read (Elt Ideal)) (V_main_arg0 m c)) _).trans ?_
    show (m (c.tc.loc main_arg0) : S2048x2048.Idx → EReal) _ = (m (c.tc.loc main_arg0) : S2048x2048.Idx → EReal) _
    blk_ext [e0 t]
  have r1 (k : Fin 2048) : (iblk m c 1 t : Vec Ideal S2048x1024 .bf16) (ix2 k (y 2)) = (m (c.tc.loc main_arg1) : S2048x2048.Idx → EReal) (ix2 k ((win0_2.blk t).view.emb (ix3 (y 0) (y 1) (y 2)) 2)) := by
    refine (congrFun (congrArg (((cfg0.win 1).blk t).view.read (Elt Ideal)) (V_main_arg1 m c)) _).trans ?_
    show (m (c.tc.loc main_arg1) : S2048x2048.Idx → EReal) _ = (m (c.tc.loc main_arg1) : S2048x2048.Idx → EReal) _
    blk_ext [e1 t]
  exact Finset.sum_congr rfl fun k _ => congrArg₂ (· * ·) (r0 k) (r1 k)

/-- The reference's result. -/
theorem reference (a : S2048x2048.Idx → EReal) (dy : S2048x2048.Idx → EReal) :
    (val_main_v7 (F := Ideal) a dy : S1x2048x2048.Idx → EReal) = grad a dy := by
  funext i
  pointwise [val_main_v7, val_main_v6, val_main_v5, val_main_v4, val_main_v3, val_main_v1]
  exact Finset.sum_congr rfl fun _ _ => mul_comm _ _

/-- The call computes the reference's result. -/
theorem algebraic : Cert.algebraic_ProjWIdeal_ProjWRefIdeal := by
  intro m g m' g' _ hargs
  refine ⟨fun c => (dats m 0 c).arrAt 2 cfg0.N, run_blocks m g, (θ_run _ _ _).mono (fun r h c => ?_) (Cert.ProjWRefIdeal.Value.run m' g')⟩
  obtain ⟨a0, a1⟩ := hargs c
  obtain ⟨r0, rest⟩ := h c
  refine ⟨r0.trans ?_, rest⟩
  rw [val_main_v7_eq, a0, a1]
  exact (reference _ _).trans (array m c).symm

/-- The idealization replaces nothing. -/
theorem preserves : Cert.preserves_ProjW_ProjWIdeal := trivial

end Cert.ProjWIdeal.Proof

namespace Cert.ProjWRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.ProjWRefIdeal.Proof

end
-- ==== Proof.ProjX.lean ====
module

public import proofs.«01_k».proof.Defs
public import proofs.«01_k».proof.Proof.Gen.ProjX.Frame
public import proofs.«01_k».proof.Proof.Gen.ProjXIdeal.Value
public import proofs.«01_k».proof.Proof.Gen.ProjXRefIdeal.Run
public import proofs.«01_k».proof.Proof.Gen.ProjXRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of a square projection with respect to its input: a product over the columns, a tile of 1024 × 1024 at
  each grid point.
-/

set_option maxRecDepth 16384

noncomputable section

namespace Cert.ProjXIdeal.Proof

open Cert.ProjXIdeal Cert.ProjXIdeal.Gen Cert.ProjXIdeal.Value Idealize.ShloMosaic Idealize.ShloMosaic.TcCoe Idealize.SL.Sem
open Cert.ProjXRefIdeal.Read

variable (m : (ℓ : Loc nD τ sig) → Buf (Elt Ideal) ℓ) (c : Dev nD)

/-- The gradient at a position: over the columns, the incoming gradient times the weight. -/
def grad (dy : S2048x2048.Idx → EReal) (w : S1x2048x2048.Idx → EReal) (i : S2048x2048.Idx) : EReal :=
  ∑ t : Fin 2048, dy (ix2 (i 0) t) * w (ix3 0 (i 1) t)

/-- What one grid point writes, at an index of the tile. -/
theorem tile (x0 : Vec Ideal S1024x2048 .bf16) (x1 : Vec Ideal S1x1024x2048 .bf16) (r : Fin 1024) (s : Fin 1024) :
    out0_2 (F := Ideal) x0 x1 (ix2 r s) = ∑ t : Fin 2048, (x0 (ix2 r t) : EReal) * x1 (ix3 0 s t) := by
  unfold out0_2
  rw [View.canon_unit_zero]
  · pointwise [k0_pay1, View.ld_unit_zero]
  · funext a; fin_cases a <;> rfl

/-- The result array after the run. -/
theorem array : (dats m 0 c).arrAt 2 cfg0.N = grad (m (c.tc.loc main_arg1)) (m (c.tc.loc main_arg0)) := by
  have e0 : ∀ t : Fin grid0.N, win0_0.index t 0 = win0_2.index t 0 ∧ win0_0.index t 1 = 0 := by decide +kernel
  have e1 : ∀ t : Fin grid0.N, win0_1.index t 0 = 0 ∧ win0_1.index t 1 = win0_2.index t 1 ∧ win0_1.index t 2 = 0 := by decide +kernel
  refine (dats m 0 c).arrAt_eq_of_covers 2 _ (by decide +kernel) (fun t hf y => ?_)
  blk_simp
  rw [after0_2]
  rw [show y = ix2 (y 0) (y 1) from by funext a; fin_cases a <;> rfl]
  refine (tile _ _ (y 0) (y 1)).trans ?_
  have r0 (k : Fin 2048) : (iblk m c 0 t : Vec Ideal S1024x2048 .bf16) (ix2 (y 0) k) = (m (c.tc.loc main_arg1) : S2048x2048.Idx → EReal) (ix2 ((win0_2.blk t).view.emb (ix2 (y 0) (y 1)) 0) k) := by
    refine (congrFun (congrArg (((cfg0.win 0).blk t).view.read (Elt Ideal)) (V_main_arg1 m c)) _).trans ?_
    show (m (c.tc.loc main_arg1) : S2048x2048.Idx → EReal) _ = (m (c.tc.loc main_arg1) : S2048x2048.Idx → EReal) _
    blk_ext [e0 t]
  have r1 (k : Fin 2048) : (iblk m c 1 t : Vec Ideal S1x1024x2048 .bf16) (ix3 0 (y 1) k) = (m (c.tc.loc main_arg0) : S1x2048x2048.Idx → EReal) (ix3 0 ((win0_2.blk t).view.emb (ix2 (y 0) (y 1)) 1) k) := by
    refine (congrFun (congrArg (((cfg0.win 1).blk t).view.read (Elt Ideal)) (V_main_arg0 m c)) _).trans ?_
    show (m (c.tc.loc main_arg0) : S1x2048x2048.Idx → EReal) _ = (m (c.tc.loc main_arg0) : S1x2048x2048.Idx → EReal) _
    blk_ext [e1 t]
  exact Finset.sum_congr rfl fun k _ => congrArg₂ (· * ·) (r0 k) (r1 k)

/-- The reference's result. -/
theorem reference (w : S1x2048x2048.Idx → EReal) (dy : S2048x2048.Idx → EReal) :
    (val_main_v6 (F := Ideal) w dy : S2048x2048.Idx → EReal) = grad dy w := by
  funext i
  pointwise [val_main_v6, val_main_v5, val_main_v4, val_main_v2, val_main_v0]
  rfl

/-- The call computes the reference's result. -/
theorem algebraic : Cert.algebraic_ProjXIdeal_ProjXRefIdeal := by
  intro m g m' g' _ hargs
  refine ⟨fun c => (dats m 0 c).arrAt 2 cfg0.N, run_blocks m g, (θ_run _ _ _).mono (fun r h c => ?_) (Cert.ProjXRefIdeal.Value.run m' g')⟩
  obtain ⟨a0, a1⟩ := hargs c
  obtain ⟨r0, rest⟩ := h c
  refine ⟨r0.trans ?_, rest⟩
  rw [val_main_v6_eq, a0, a1]
  exact (reference _ _).trans (array m c).symm

/-- The idealization replaces nothing. -/
theorem preserves : Cert.preserves_ProjX_ProjXIdeal := trivial

end Cert.ProjXIdeal.Proof

namespace Cert.ProjXRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.ProjXRefIdeal.Proof

end
-- ==== Proof.KvW.lean ====
module

public import proofs.«01_k».proof.Defs
public import proofs.«01_k».proof.Proof.Gen.KvW.Frame
public import proofs.«01_k».proof.Proof.Gen.KvWIdeal.Value
public import proofs.«01_k».proof.Proof.Gen.KvWRefIdeal.Run
public import proofs.«01_k».proof.Proof.Gen.KvWRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of the keys' and values' product with respect to its weights: a product over the positions for each of the
  two, a tile of 1024 × 2048 weights at each grid point.
-/

set_option maxRecDepth 16384

noncomputable section

namespace Cert.KvWIdeal.Proof

open Cert.KvWIdeal Cert.KvWIdeal.Gen Cert.KvWIdeal.Value Idealize.ShloMosaic Idealize.ShloMosaic.TcCoe Idealize.SL.Sem
open Cert.KvWRefIdeal.Read

variable (m : (ℓ : Loc nD τ sig) → Buf (Elt Ideal) ℓ) (c : Dev nD)

/-- The gradient at a weight: over the positions, the input times the incoming gradient. -/
def grad (a : S2048x2048.Idx → EReal) (dy : S2x2048x2048.Idx → EReal) (i : S2x2048x2048.Idx) : EReal :=
  ∑ t : Fin 2048, a (ix2 t (i 1)) * dy (ix3 (i 0) t (i 2))

/-- What one grid point writes, at an index of the tile. -/
theorem tile (x0 : Vec Ideal S2048x1024 .bf16) (x1 : Vec Ideal S1x2048x2048 .bf16) (u : Fin 1) (r : Fin 1024) (s : Fin 2048) :
    out0_2 (F := Ideal) x0 x1 (ix3 u r s) = ∑ t : Fin 2048, (x0 (ix2 t r) : EReal) * x1 (ix3 0 t s) := by
  obtain rfl : u = 0 := Subsingleton.elim _ _
  unfold out0_2
  rw [View.canon_unit_zero]
  · pointwise [k0_pay1, View.ld_unit_zero]
  · funext a; fin_cases a <;> rfl

/-- The result array after the run. -/
theorem array : (dats m 0 c).arrAt 2 cfg0.N = grad (m (c.tc.loc main_arg0)) (m (c.tc.loc main_arg1)) := by
  have e0 : ∀ t : Fin grid0.N, win0_0.index t 0 = 0 ∧ win0_0.index t 1 = win0_2.index t 1 := by decide +kernel
  have e1 : ∀ t : Fin grid0.N, win0_1.index t 0 = win0_2.index t 0 ∧ win0_1.index t 1 = 0 ∧ win0_1.index t 2 = win0_2.index t 2 := by decide +kernel
  refine (dats m 0 c).arrAt_eq_of_covers 2 _ (by decide +kernel) (fun t hf y => ?_)
  blk_simp
  rw [after0_2]
  rw [show y = ix3 (y 0) (y 1) (y 2) from by funext a; fin_cases a <;> rfl]
  refine (tile _ _ (y 0) (y 1) (y 2)).trans ?_
  have r0 (k : Fin 2048) : (iblk m c 0 t : Vec Ideal S2048x1024 .bf16) (ix2 k (y 1)) = (m (c.tc.loc main_arg0) : S2048x2048.Idx → EReal) (ix2 k ((win0_2.blk t).view.emb (ix3 (y 0) (y 1) (y 2)) 1)) := by
    refine (congrFun (congrArg (((cfg0.win 0).blk t).view.read (Elt Ideal)) (V_main_arg0 m c)) _).trans ?_
    show (m (c.tc.loc main_arg0) : S2048x2048.Idx → EReal) _ = (m (c.tc.loc main_arg0) : S2048x2048.Idx → EReal) _
    blk_ext [e0 t]
  have r1 (k : Fin 2048) : (iblk m c 1 t : Vec Ideal S1x2048x2048 .bf16) (ix3 0 k (y 2)) = (m (c.tc.loc main_arg1) : S2x2048x2048.Idx → EReal) (ix3 ((win0_2.blk t).view.emb (ix3 (y 0) (y 1) (y 2)) 0) k ((win0_2.blk t).view.emb (ix3 (y 0) (y 1) (y 2)) 2)) := by
    refine (congrFun (congrArg (((cfg0.win 1).blk t).view.read (Elt Ideal)) (V_main_arg1 m c)) _).trans ?_
    show (m (c.tc.loc main_arg1) : S2x2048x2048.Idx → EReal) _ = (m (c.tc.loc main_arg1) : S2x2048x2048.Idx → EReal) _
    blk_ext [e1 t]
  exact Finset.sum_congr rfl fun k _ => congrArg₂ (· * ·) (r0 k) (r1 k)

/-- The reference's result. -/
theorem reference (a : S2048x2048.Idx → EReal) (dy : S2x2048x2048.Idx → EReal) :
    (val_main_v8 (F := Ideal) a dy : S2x2048x2048.Idx → EReal) = grad a dy := by
  funext i
  pointwise [val_main_v8, val_main_v7, val_main_v6, val_main_v5, val_main_v1, val_main_v4]
  exact Finset.sum_congr rfl fun _ _ => mul_comm _ _

/-- The call computes the reference's result. -/
theorem algebraic : Cert.algebraic_KvWIdeal_KvWRefIdeal := by
  intro m g m' g' _ hargs
  refine ⟨fun c => (dats m 0 c).arrAt 2 cfg0.N, run_blocks m g, (θ_run _ _ _).mono (fun r h c => ?_) (Cert.KvWRefIdeal.Value.run m' g')⟩
  obtain ⟨a0, a1⟩ := hargs c
  obtain ⟨r0, rest⟩ := h c
  refine ⟨r0.trans ?_, rest⟩
  rw [val_main_v8_eq, a0, a1]
  exact (reference _ _).trans (array m c).symm

/-- The idealization replaces nothing. -/
theorem preserves : Cert.preserves_KvW_KvWIdeal := trivial

end Cert.KvWIdeal.Proof

namespace Cert.KvWRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.KvWRefIdeal.Proof

end
-- ==== Proof.KvX.lean ====
module

public import proofs.«01_k».proof.Defs
public import proofs.«01_k».proof.Proof.Gen.KvX.Frame
public import proofs.«01_k».proof.Proof.Gen.KvXIdeal.Value
public import proofs.«01_k».proof.Proof.Gen.KvXRefIdeal.Run
public import proofs.«01_k».proof.Proof.Gen.KvXRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of the keys' and values' product with respect to its input, added to the gradient that comes from the
  forget gate: a tile of 1024 × 1024, summed over two grid points, one for the keys and one for the values.
-/

set_option maxRecDepth 16384

noncomputable section

namespace Cert.KvXIdeal.Proof

open Cert.KvXIdeal Cert.KvXIdeal.Gen Cert.KvXIdeal.Value Idealize.ShloMosaic Idealize.ShloMosaic.TcCoe Idealize.SL.Sem
open Cert.KvXRefIdeal.Read

variable (m : (ℓ : Loc nD τ sig) → Buf (Elt Ideal) ℓ) (c : Dev nD)

/-- The rows of the incoming gradient that a grid point reads. -/
abbrev rows (t : Fin cfg0.N) : Vec Ideal S1x1024x2048 .bf16 := iblk m c 0 t

/-- The rows of the weights that a grid point reads. -/
abbrev cols (t : Fin cfg0.N) : Vec Ideal S1x1024x2048 .bf16 := iblk m c 1 t

/-- The tile of the other gradient. -/
abbrev other (t : Fin cfg0.N) : Vec Ideal S1024x1024 .f32 := iblk m c 2 t

/-- The gradient that one of the two products hands on: over the columns, the incoming gradient times the weight. -/
def part (dy w : S2x2048x2048.Idx → EReal) (i : S2048x2048.Idx) (q : Fin 2) : EReal :=
  ∑ k : Fin 2048, dy (ix3 q (i 0) k) * w (ix3 q (i 1) k)

/-- The gradient at a position: of the keys' product, of the values' and of the forget gate. -/
def grad (dy w : S2x2048x2048.Idx → EReal) (du : S2048x2048.Idx → EReal) (i : S2048x2048.Idx) : EReal :=
  part dy w i 0 + part dy w i 1 + du i

/-- The product of a grid point's blocks is that of the keys or of the values. -/
theorem sums (t : Fin cfg0.N) (r s : Fin 1024) (i : S2048x2048.Idx) (q : Fin 2) (hq : t.val % 2 = q.val)
    (h0 : (i 0).val = t.val / 4 * 1024 + r.val) (h1 : (i 1).val = t.val / 2 % 2 * 1024 + s.val) :
    ∑ k : Fin 2048, (rows m c t (ix3 0 r k) : EReal) * cols m c t (ix3 0 s k)
      = part (m (c.tc.loc main_arg1)) (m (c.tc.loc main_arg0)) i q := by
  have e0 : ∀ t : Fin grid0.N, win0_0.index t 0 = t.val % 2 ∧ win0_0.index t 1 = t.val / 4 ∧ win0_0.index t 2 = 0 := by decide +kernel
  have e1 : ∀ t : Fin grid0.N, win0_1.index t 0 = t.val % 2 ∧ win0_1.index t 1 = t.val / 2 % 2 ∧ win0_1.index t 2 = 0 := by decide +kernel
  refine Finset.sum_congr rfl fun k _ => congrArg₂ (· * ·) ?_ ?_
  · refine (congrFun (congrArg (((cfg0.win 0).blk t).view.read (Elt Ideal)) (V_main_arg1 m c)) _).trans ?_
    show (m (c.tc.loc main_arg1) : S2x2048x2048.Idx → EReal) _ = (m (c.tc.loc main_arg1) : S2x2048x2048.Idx → EReal) _
    blk_ext [e0 t, h0, hq]
  · refine (congrFun (congrArg (((cfg0.win 1).blk t).view.read (Elt Ideal)) (V_main_arg0 m c)) _).trans ?_
    show (m (c.tc.loc main_arg0) : S2x2048x2048.Idx → EReal) _ = (m (c.tc.loc main_arg0) : S2x2048x2048.Idx → EReal) _
    blk_ext [e1 t, h1, hq]

/-- The other gradient, at the index of the whole array. -/
theorem other_apply (t : Fin cfg0.N) (r s : Fin 1024) (i : S2048x2048.Idx)
    (h0 : (i 0).val = t.val / 4 * 1024 + r.val) (h1 : (i 1).val = t.val / 2 % 2 * 1024 + s.val) :
    (other m c t (ix2 r s) : EReal) = (m (c.tc.loc main_arg2) : S2048x2048.Idx → EReal) i := by
  have e2 : ∀ t : Fin grid0.N, win0_2.index t 0 = t.val / 4 ∧ win0_2.index t 1 = t.val / 2 % 2 := by decide +kernel
  refine (congrFun (congrArg (((cfg0.win 2).blk t).view.read (Elt Ideal)) (V_main_arg2 m c)) _).trans ?_
  show (m (c.tc.loc main_arg2) : S2048x2048.Idx → EReal) _ = (m (c.tc.loc main_arg2) : S2048x2048.Idx → EReal) _
  blk_ext [e2 t, h0, h1]

/-- The first product of a tile, at an index. -/
theorem pay_first (x0 x1 : Vec Ideal S1x1024x2048 .bf16) (r s : Fin 1024) :
    (k0_pay2 (F := Ideal) x0 x1 : Vec Ideal S1024x1024 .f32) (ix2 r s) = ∑ k : Fin 2048, (x0 (ix3 0 r k) : EReal) * x1 (ix3 0 s k) := by
  pointwise [k0_pay2, k0_pay1]

/-- The second product and the other gradient added to the sum, at an index. -/
theorem pay_last (x0 x1 : Vec Ideal S1x1024x2048 .bf16) (x y : Vec Ideal S1024x1024 .f32) (r s : Fin 1024) :
    (k0_pay4 (F := Ideal) x0 x1 x y : Vec Ideal S1024x1024 .bf16) (ix2 r s)
      = ((x (ix2 r s) : EReal) + ∑ k : Fin 2048, (x0 (ix3 0 r k) : EReal) * x1 (ix3 0 s k)) + y (ix2 r s) := by
  pointwise [k0_pay4, k0_pay1]

/-- What the sum holds after the first of a tile's two grid points. -/
theorem first (t : Fin cfg0.N) (h : t.val % 2 = 0) :
    ((outsAt0 m c t.val t.isLt).2 : Vec Ideal S1024x1024 .f32) = k0_pay2 (F := Ideal) (rows m c t) (cols m c t) := by
  rw [outsAt0_A m c t h (by omega)]
  frame_out
  try rfl

/-- What the second writes. -/
theorem last (t : Fin cfg0.N) (h : t.val % 2 = 1) :
    ((outsAt0 m c t.val t.isLt).1 : Vec Ideal S1024x1024 .bf16)
      = k0_pay4 (F := Ideal) (rows m c t) (cols m c t) (outsAt0 m c (t.val - 1) (by have := t.isLt; omega)).2 (other m c t) := by
  rw [outsAt0_B m c t (by omega) h]
  frame_out
  simp only [read_unread_whole]
  try rfl

/-- What the second grid point of a tile writes is the gradient, at an index of the tile. -/
theorem written (t : Fin cfg0.N) (h : t.val % 2 = 1) (r s : Fin 1024) (i : S2048x2048.Idx)
    (h0 : (i 0).val = t.val / 4 * 1024 + r.val) (h1 : (i 1).val = t.val / 2 % 2 * 1024 + s.val) :
    ((outsAt0 m c t.val t.isLt).1 : Vec Ideal S1024x1024 .bf16) (ix2 r s)
      = grad (m (c.tc.loc main_arg1)) (m (c.tc.loc main_arg0)) (m (c.tc.loc main_arg2)) i := by
  have ht := t.isLt
  let t0 : Fin cfg0.N := ⟨t.val - 1, by omega⟩
  have s0 := first m c t0 (by show (t.val - 1) % 2 = 0; omega)
  have a0 := (pay_first (rows m c t0) (cols m c t0) r s).trans (sums m c t0 r s i 0 (by show (t.val - 1) % 2 = 0; omega)
    (by rw [h0]; show _ = (t.val - 1) / 4 * 1024 + _; omega) (by rw [h1]; show _ = (t.val - 1) / 2 % 2 * 1024 + _; omega))
  rw [last m c t h]
  refine (pay_last _ _ _ _ r s).trans ?_
  exact congrArg₂ (· + ·) (congrArg₂ (· + ·) ((congrFun s0 _).trans a0) (sums m c t r s i 1 h h0 h1)) (other_apply m c t r s i h0 h1)

/-- The result array after the run. -/
theorem array : (dats m 0 c).arrAt 3 cfg0.N = grad (m (c.tc.loc main_arg1)) (m (c.tc.loc main_arg0)) (m (c.tc.loc main_arg2)) := by
  have e : ∀ t : Fin grid0.N, win0_3.index t 0 = t.val / 4 ∧ win0_3.index t 1 = t.val / 2 % 2 := by decide +kernel
  refine (dats m 0 c).arrAt_eq_of_covers 3 _ (by decide +kernel) (fun t hf y => ?_)
  have hm := (flush0_3 t).mp hf
  blk_simp
  rw [after0_3]
  rw [show y = ix2 (y 0) (y 1) from by funext a; fin_cases a <;> rfl]
  refine written m c t hm (y 0) (y 1) _ ?_ ?_
  · rw [← (e t).1]
    blk_simp
  · rw [← (e t).2]
    blk_simp

/-- The reference's result. -/
theorem reference (w dy : S2x2048x2048.Idx → EReal) (du : S2048x2048.Idx → EReal) :
    (val_main_v20 (F := Ideal) w dy du : S2048x2048.Idx → EReal) = grad dy w du := by
  funext i
  pointwise [val_main_v20, val_main_v19, val_main_v18, val_main_v8, val_main_v17, val_main_v7, val_main_v5, val_main_v16, val_main_v14, val_main_v1, val_main_v3, val_main_v10, val_main_v12, val_main_v0, val_main_v2, val_main_v9, val_main_v11]
  rfl

/-- The call computes the reference's result. -/
theorem algebraic : Cert.algebraic_KvXIdeal_KvXRefIdeal := by
  intro m g m' g' _ hargs
  refine ⟨fun c => (dats m 0 c).arrAt 3 cfg0.N, run_blocks m g, (θ_run _ _ _).mono (fun r h c => ?_) (Cert.KvXRefIdeal.Value.run m' g')⟩
  obtain ⟨a0, a1, a2⟩ := hargs c
  obtain ⟨r0, rest⟩ := h c
  refine ⟨r0.trans ?_, rest⟩
  rw [val_main_v20_eq, a0, a1, a2]
  exact (reference _ _ _).trans (array m c).symm

/-- The idealization replaces nothing. -/
theorem preserves : Cert.preserves_KvX_KvXIdeal := trivial

end Cert.KvXIdeal.Proof

namespace Cert.KvXRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) :=
  (θ_run defs _ _).mono (fun r h => ⟨fun c => (h c).2, sem_eq_zero_of_no_sems (by decide) r.2⟩) (Value.run m g)

end Cert.KvXRefIdeal.Proof

end
-- ==== Proof.PleW.lean ====
module

public import proofs.«01_k».proof.Defs
public import proofs.«01_k».proof.Proof.Gen.PleW.Frame
public import proofs.«01_k».proof.Proof.Gen.PleWIdeal.Value
public import proofs.«01_k».proof.Proof.Gen.PleWRefIdeal.Run
public import proofs.«01_k».proof.Proof.Gen.PleWRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The gradient of the product of the per-layer embedding with respect to its weights, in eight blocks of 256 columns: a
  product over the positions, one block at each grid point.
-/

set_option maxRecDepth 16384

noncomputable section

namespace Cert.PleWIdeal.Proof

open Cert.PleWIdeal Cert.PleWIdeal.Gen Cert.PleWIdeal.Value Idealize.ShloMosaic Idealize.ShloMosaic.TcCoe Idealize.SL.Sem
open Cert.PleWRefIdeal.Read

variable (m : (ℓ : Loc nD τ sig) → Buf (Elt Ideal) ℓ) (c : Dev nD)

/-- The column of the whole array that a column of a block is. -/
def col (g : Fin 8) (s : Fin 256) : Fin 2048 := ⟨g.val * 256 + s.val, by omega⟩

/-- The gradient at a weight: over the positions, the input times the incoming gradient. -/
def grad (a : S2048x256.Idx → EReal) (dy : S2048x2048.Idx → EReal) (i : S8x256x256.Idx) : EReal :=
  ∑ t : Fin 2048, a (ix2 t (i 1)) * dy (ix2 t (col (i 0) (i 2)))

/-- What one grid point writes, at an index of the tile. -/
theorem tile (x0 : Vec Ideal S2048x256 .bf16) (x1 : Vec Ideal S2048x256 .bf16) (u : Fin 1) (r : Fin 256) (s : Fin 256) :
    out0_2 (F := Ideal) x0 x1 (ix3 u r s) = ∑ t : Fin 2048, (x0 (ix2 t r) : EReal) * x1 (ix2 t s) := by
  obtain rfl : u = 0 := Subsingleton.elim _ _
  unfold out0_2
  rw [View.canon_unit_zero]
  · pointwise [k0_pay1, View.ld_unit_zero]
  · funext a; fin_cases a <;> rfl

/-- The result array after the run. -/
theorem array : (dats m 0 c).arrAt 2 cfg0.N = grad (m (c.tc.loc main_arg0)) (m (c.tc.loc main_arg1)) := by
  have e0 : ∀ t : Fin grid0.N, win0_0.index t 0 = 0 ∧ win0_0.index t 1 = win0_2.index t 1 := by decide +kernel
  have e1 : ∀ t : Fin grid0.N, win0_1.index t 0 = 0 ∧ win0_1.index t 1 = win0_2.index t 0 ∧ win0_2.index t 2 = 0 := by decide +kernel
  refine (dats m 0 c).arrAt_eq_of_covers 2 _ (by decide +kernel) (fun t hf y => ?_)
  blk_simp
  rw [after0_2]
  rw [show y = ix3 (y 0) (y 1) (y 2) from by funext a; fin_cases a <;> rfl]
  refine (tile _ _ (y 0) (y 1) (y 2)).trans ?_
  have r0 (k : Fin 2048) : (iblk m c 0 t : Vec Ideal S2048x256 .bf16) (ix2 k (y 1)) = (m (c.tc.loc main_arg0) : S2048x256.Idx → EReal) (ix2 k ((win0_2.blk t).view.emb (ix3 (y 0) (y 1) (y 2)) 1)) := by
    refine (congrFun (congrArg (((cfg0.win 0).blk t).view.read (Elt Ideal)) (V_main_arg0 m c)) _).trans ?_
    show (m (c.tc.loc main_arg0) : S2048x256.Idx → EReal) _ = (m (c.tc.loc main_arg0) : S2048x256.Idx → EReal) _
    blk_ext [e0 t]
  have r1 (k : Fin 2048) : (iblk m c 1 t : Vec Ideal S2048x256 .bf16) (ix2 k (y 2)) = (m (c.tc.loc main_arg1) : S2048x2048.Idx → EReal) (ix2 k (col ((win0_2.blk t).view.emb (ix3 (y 0) (y 1) (y 2)) 0) ((win0_2.blk t).view.emb (ix3 (y 0) (y 1) (y 2)) 2))) := by
    refine (congrFun (congrArg (((cfg0.win 1).blk t).view.read (Elt Ideal)) (V_main_arg1 m c)) _).trans ?_
    show (m (c.tc.loc main_arg1) : S2048x2048.Idx → EReal) _ = (m (c.tc.loc main_arg1) : S2048x2048.Idx → EReal) _
    blk_ext [e1 t, col]
  exact Finset.sum_congr rfl fun k _ => congrArg₂ (· * ·) (r0 k) (r1 k)

/-- The reference's result. -/
theorem reference (a : S2048x256.Idx → EReal) (dy : S2048x2048.Idx → EReal) :
    (val_main_v8 (F := Ideal) a dy : S8x256x256.Idx → EReal) = grad a dy := by
  funext i
  pointwise [val_main_v8, val_main_v7, val_main_v6, val_main_v5, val_main_v4, val_main_v3, val_main_v1]
  exact Finset.sum_congr rfl fun _ _ => mul_comm _ _

/-- The call computes the reference's result. -/
theorem algebraic : Cert.algebraic_PleWIdeal_PleWRefIdeal := by
  intro m g m' g' _ hargs
  refine ⟨fun c => (dats m 0 c).arrAt 2 cfg0.N, run_blocks m g, (θ_run _ _ _).mono (fun r h c => ?_) (Cert.PleWRefIdeal.Value.run m' g')⟩
  obtain ⟨a0, a1⟩ := hargs c
  obtain ⟨r0, rest⟩ := h c
  refine ⟨r0.trans ?_, rest⟩
  rw [val_main_v8_eq, a0, a1]
  exact (reference _ _).trans (array m c).symm

/-- The idealization replaces nothing. -/
theorem preserves : Cert.preserves_PleW_PleWIdeal := trivial

end Cert.PleWIdeal.Proof

namespace Cert.PleWRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h c).2, sem_eq_zero_of_no_sems (by decide) r.2⟩) (Value.run m g)

end Cert.PleWRefIdeal.Proof

end
-- ==== Proof.Adam.lean ====
module

public import Idealize.ShloMosaic.Lib.Pointwise

@[expose] public section

/-!
  One entry's step of the optimiser: the two moments and the change of the weight.
-/

noncomputable section

namespace Cert.Adam

open Idealize.ShloMosaic

/-- The first moment after a gradient. -/
def first (x g : EReal) : EReal := Ideal.ofBits .f32 0x3F666666#32 * x + Ideal.ofBits .f32 0x3DCCCCCD#32 * g

/-- The second moment after a gradient. -/
def second (y g : EReal) : EReal := Ideal.ofBits .f32 0x3F7FBE77#32 * y + Ideal.ofBits .f32 0x3A83126F#32 * (g * g)

/-- The change of a weight, of its two moments. -/
def change (w x y : EReal) : EReal :=
  Ideal.ofBits .f32 0xBA83126F#32 * (Ideal.div (Ideal.div x (Ideal.ofBits .f32 0x3F26BD02#32))
    (Ideal.sqrt (Ideal.div y (Ideal.ofBits .f32 0x3C231ACC#32)) + Ideal.ofBits .f32 0x322BCC77#32) + Ideal.ofBits .f32 0x3C23D70A#32 * w)

/-- The senders' gradients of an entry of one layer, summed. -/
def total {n a b : ℕ} (p : (⟨3, ![n, a, b]⟩ : Shape).Idx → EReal) (i : (⟨3, ![1, a, b]⟩ : Shape).Idx) : EReal :=
  ∑ s : Fin n, p (ix3 s (i 1) (i 2))

/-- The senders' gradients of an entry of two layers, summed: each layer has senders of its own. -/
def total₂ {n₀ n₁ a b : ℕ} (p₀ : (⟨3, ![n₀, a, b]⟩ : Shape).Idx → EReal) (p₁ : (⟨3, ![n₁, a, b]⟩ : Shape).Idx → EReal)
    (i : (⟨3, ![2, a, b]⟩ : Shape).Idx) : EReal :=
  if (i 0).val = 0 then ∑ s : Fin n₀, p₀ (ix3 s (i 1) (i 2)) else ∑ s : Fin n₁, p₁ (ix3 s (i 1) (i 2))

/-- The first moments after the step, of the summed gradients `g`. -/
def moment {S : Shape} (g x : S.Idx → EReal) (i : S.Idx) : EReal := first (x i) (g i)

/-- The second moments after the step. -/
def square {S : Shape} (g y : S.Idx → EReal) (i : S.Idx) : EReal := second (y i) (g i)

/-- The change of the weights. -/
def delta {S : Shape} (g w x y : S.Idx → EReal) (i : S.Idx) : EReal := change (w i) (moment g x i) (square g y i)

/-- The change of a weight, of equal entries. -/
theorem change_congr {w w' x x' y y' : EReal} (hw : w = w') (hx : x = x') (hy : y = y') : change w x y = change w' x' y' := by
  rw [hw, hx, hy]

/-- A sum over four, in order. -/
theorem sum_four (f : Fin 4 → EReal) : f 0 + f 1 + f 2 + f 3 = ∑ s : Fin 4, f s := (Fin.sum_univ_four f).symm

/-- A sum over eight, in order. -/
theorem sum_eight (f : Fin 8 → EReal) : f 0 + f 1 + f 2 + f 3 + f 4 + f 5 + f 6 + f 7 = ∑ s : Fin 8, f s :=
  (Fin.sum_univ_eight f).symm

end Cert.Adam

end
-- ==== Proof.StepRows.lean ====
module

public import proofs.«01_k».proof.Defs
public import proofs.«01_k».proof.Proof.Gen.StepRows.Frame
public import proofs.«01_k».proof.Proof.Gen.StepRowsIdeal.Value
public import proofs.«01_k».proof.Proof.Gen.StepRowsRefIdeal.Run
public import proofs.«01_k».proof.Proof.Gen.StepRowsRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead
public import proofs.«01_k».proof.Proof.Adam

@[expose] public section

/-!
  The optimiser's step for a square matrix cut by rows: the senders' gradients summed,
  the two moments, and the change of the weights, a block of 128 rows at each grid point.
-/

set_option maxRecDepth 16384

noncomputable section

namespace Cert.StepRowsIdeal.Proof

open Cert.StepRowsIdeal Cert.StepRowsIdeal.Gen Cert.StepRowsIdeal.Value Idealize.ShloMosaic Idealize.ShloMosaic.TcCoe Idealize.SL.Sem
open Cert.StepRowsRefIdeal.Read

variable (m : (ℓ : Loc nD τ sig) → Buf (Elt Ideal) ℓ) (c : Dev nD)

/-- The senders' blocks at a grid point. -/
abbrev parts (t : Fin cfg0.N) : Vec Ideal S8x128x2048 .bf16 := iblk m c 0 t

section

variable (t : Fin cfg0.N) (u : Fin 1) (r : Fin 128) (k : Fin 2048) (i : S1x256x2048.Idx) (h1 : (i 1).val = t.val * 128 + r.val) (h2 : (i 2).val = k.val)
include h1 h2

/-- The senders' entries of a grid point, summed. -/
theorem at_p : ∑ s : Fin 8, (parts m c t (ix3 s r k) : EReal) = Cert.Adam.total (n := 8) (m (c.tc.loc main_arg0)) i := by
  have e : ∀ t : Fin grid0.N, win0_0.index t 0 = 0 ∧ win0_0.index t 1 = t.val ∧ win0_0.index t 2 = 0 := by decide +kernel
  refine Finset.sum_congr rfl fun s _ => ?_
  refine (congrFun (congrArg (((cfg0.win 0).blk t).view.read (Elt Ideal)) (V_main_arg0 m c)) _).trans ?_
  show ((m (c.tc.loc main_arg0)) : S8x256x2048.Idx → EReal) _ = ((m (c.tc.loc main_arg0)) : S8x256x2048.Idx → EReal) _
  blk_ext [e t, h1, h2]

/-- The weights at a grid point. -/
theorem at_w : (iblk m c 1 t : Vec Ideal S1x128x2048 .f32) (ix3 0 r k) = (m (c.tc.loc main_arg1) : S1x256x2048.Idx → EReal) i := by
  have e : ∀ t : Fin grid0.N, win0_1.index t 0 = 0 ∧ win0_1.index t 1 = t.val ∧ win0_1.index t 2 = 0 := by decide +kernel
  refine (congrFun (congrArg (((cfg0.win 1).blk t).view.read (Elt Ideal)) (V_main_arg1 m c)) _).trans ?_
  show (m (c.tc.loc main_arg1) : S1x256x2048.Idx → EReal) _ = (m (c.tc.loc main_arg1) : S1x256x2048.Idx → EReal) _
  blk_ext [e t, h1, h2]

/-- The first moments at a grid point. -/
theorem at_x : (iblk m c 2 t : Vec Ideal S1x128x2048 .f32) (ix3 0 r k) = (m (c.tc.loc main_arg2) : S1x256x2048.Idx → EReal) i := by
  have e : ∀ t : Fin grid0.N, win0_2.index t 0 = 0 ∧ win0_2.index t 1 = t.val ∧ win0_2.index t 2 = 0 := by decide +kernel
  refine (congrFun (congrArg (((cfg0.win 2).blk t).view.read (Elt Ideal)) (V_main_arg2 m c)) _).trans ?_
  show (m (c.tc.loc main_arg2) : S1x256x2048.Idx → EReal) _ = (m (c.tc.loc main_arg2) : S1x256x2048.Idx → EReal) _
  blk_ext [e t, h1, h2]

/-- The second moments at a grid point. -/
theorem at_y : (iblk m c 3 t : Vec Ideal S1x128x2048 .f32) (ix3 0 r k) = (m (c.tc.loc main_arg3) : S1x256x2048.Idx → EReal) i := by
  have e : ∀ t : Fin grid0.N, win0_3.index t 0 = 0 ∧ win0_3.index t 1 = t.val ∧ win0_3.index t 2 = 0 := by decide +kernel
  refine (congrFun (congrArg (((cfg0.win 3).blk t).view.read (Elt Ideal)) (V_main_arg3 m c)) _).trans ?_
  show (m (c.tc.loc main_arg3) : S1x256x2048.Idx → EReal) _ = (m (c.tc.loc main_arg3) : S1x256x2048.Idx → EReal) _
  blk_ext [e t, h1, h2]

/-- What a grid point leaves for the summed gradient. -/
theorem left_g : (((outsAt0 m c t).1) : Vec Ideal S1x128x2048 .f32) (ix3 u r k) = Cert.Adam.total (n := 8) (m (c.tc.loc main_arg0)) i := by
  obtain rfl : u = 0 := Subsingleton.elim _ _
  refine Eq.trans ?_ (at_p m c t r k i h1 h2)
  rw [← Cert.Adam.sum_eight]
  unfold outsAt0
  dsimp only
  frame_out
  pointwise [k0_pay1, k0_pay2, k0_pay3, k0_pay4, k0_pay5, k0_pay6, k0_pay7, k0_pay8]

/-- What a grid point leaves for the change of the weights. -/
theorem left_d : (((outsAt0 m c t).2.1) : Vec Ideal S1x128x2048 .f32) (ix3 u r k) = Cert.Adam.delta (Cert.Adam.total (n := 8) (m (c.tc.loc main_arg0))) (m (c.tc.loc main_arg1)) (m (c.tc.loc main_arg2)) (m (c.tc.loc main_arg3)) i := by
  obtain rfl : u = 0 := Subsingleton.elim _ _
  refine Eq.trans ?_ (Cert.Adam.change_congr (at_w m c t r k i h1 h2) (congrArg₂ Cert.Adam.first (at_x m c t r k i h1 h2) (at_p m c t r k i h1 h2)) (congrArg₂ Cert.Adam.second (at_y m c t r k i h1 h2) (at_p m c t r k i h1 h2)))
  unfold Cert.Adam.change Cert.Adam.first Cert.Adam.second
  rw [← Cert.Adam.sum_eight]
  unfold outsAt0
  dsimp only
  frame_out
  pointwise [k0_pay1, k0_pay2, k0_pay3, k0_pay4, k0_pay5, k0_pay6, k0_pay7, k0_pay8]

/-- What a grid point leaves for the first moments. -/
theorem left_m : (((outsAt0 m c t).2.2.1) : Vec Ideal S1x128x2048 .f32) (ix3 u r k) = Cert.Adam.moment (Cert.Adam.total (n := 8) (m (c.tc.loc main_arg0))) (m (c.tc.loc main_arg2)) i := by
  obtain rfl : u = 0 := Subsingleton.elim _ _
  refine Eq.trans ?_ (congrArg₂ Cert.Adam.first (at_x m c t r k i h1 h2) (at_p m c t r k i h1 h2))
  unfold Cert.Adam.first
  rw [← Cert.Adam.sum_eight]
  unfold outsAt0
  dsimp only
  frame_out
  pointwise [k0_pay1, k0_pay2, k0_pay3, k0_pay4, k0_pay5, k0_pay6, k0_pay7, k0_pay8]

/-- What a grid point leaves for the second moments. -/
theorem left_v : (((outsAt0 m c t).2.2.2) : Vec Ideal S1x128x2048 .f32) (ix3 u r k) = Cert.Adam.square (Cert.Adam.total (n := 8) (m (c.tc.loc main_arg0))) (m (c.tc.loc main_arg3)) i := by
  obtain rfl : u = 0 := Subsingleton.elim _ _
  refine Eq.trans ?_ (congrArg₂ Cert.Adam.second (at_y m c t r k i h1 h2) (at_p m c t r k i h1 h2))
  unfold Cert.Adam.second
  rw [← Cert.Adam.sum_eight]
  unfold outsAt0
  dsimp only
  frame_out
  pointwise [k0_pay1, k0_pay2, k0_pay3, k0_pay4, k0_pay5, k0_pay6, k0_pay7, k0_pay8]

end

/-- The array of the summed gradient after the run. -/
theorem array_g : (dats m 0 c).arrAt 4 cfg0.N = Cert.Adam.total (n := 8) (m (c.tc.loc main_arg0)) := by
  have e : ∀ t : Fin grid0.N, win0_4.index t 0 = 0 ∧ win0_4.index t 1 = t.val ∧ win0_4.index t 2 = 0 := by decide +kernel
  refine (dats m 0 c).arrAt_eq_of_covers 4 _ (by decide +kernel) (fun t hf y => ?_)
  blk_simp
  rw [after0_4, show y = ix3 (y 0) (y 1) (y 2) from by funext a; fin_cases a <;> rfl]
  refine left_g m c t (y 0) (y 1) (y 2) _ ?_ ?_
  · blk_simp
    rw [(e t).2.1]
  · blk_simp
    rw [(e t).2.2]
    omega

/-- The array of the change of the weights after the run. -/
theorem array_d : (dats m 0 c).arrAt 5 cfg0.N = Cert.Adam.delta (Cert.Adam.total (n := 8) (m (c.tc.loc main_arg0))) (m (c.tc.loc main_arg1)) (m (c.tc.loc main_arg2)) (m (c.tc.loc main_arg3)) := by
  have e : ∀ t : Fin grid0.N, win0_5.index t 0 = 0 ∧ win0_5.index t 1 = t.val ∧ win0_5.index t 2 = 0 := by decide +kernel
  refine (dats m 0 c).arrAt_eq_of_covers 5 _ (by decide +kernel) (fun t hf y => ?_)
  blk_simp
  rw [after0_5, show y = ix3 (y 0) (y 1) (y 2) from by funext a; fin_cases a <;> rfl]
  refine left_d m c t (y 0) (y 1) (y 2) _ ?_ ?_
  · blk_simp
    rw [(e t).2.1]
  · blk_simp
    rw [(e t).2.2]
    omega

/-- The array of the first moments after the run. -/
theorem array_m : (dats m 0 c).arrAt 6 cfg0.N = Cert.Adam.moment (Cert.Adam.total (n := 8) (m (c.tc.loc main_arg0))) (m (c.tc.loc main_arg2)) := by
  have e : ∀ t : Fin grid0.N, win0_6.index t 0 = 0 ∧ win0_6.index t 1 = t.val ∧ win0_6.index t 2 = 0 := by decide +kernel
  refine (dats m 0 c).arrAt_eq_of_covers 6 _ (by decide +kernel) (fun t hf y => ?_)
  blk_simp
  rw [after0_6, show y = ix3 (y 0) (y 1) (y 2) from by funext a; fin_cases a <;> rfl]
  refine left_m m c t (y 0) (y 1) (y 2) _ ?_ ?_
  · blk_simp
    rw [(e t).2.1]
  · blk_simp
    rw [(e t).2.2]
    omega

/-- The array of the second moments after the run. -/
theorem array_v : (dats m 0 c).arrAt 7 cfg0.N = Cert.Adam.square (Cert.Adam.total (n := 8) (m (c.tc.loc main_arg0))) (m (c.tc.loc main_arg3)) := by
  have e : ∀ t : Fin grid0.N, win0_7.index t 0 = 0 ∧ win0_7.index t 1 = t.val ∧ win0_7.index t 2 = 0 := by decide +kernel
  refine (dats m 0 c).arrAt_eq_of_covers 7 _ (by decide +kernel) (fun t hf y => ?_)
  blk_simp
  rw [after0_7, show y = ix3 (y 0) (y 1) (y 2) from by funext a; fin_cases a <;> rfl]
  refine left_v m c t (y 0) (y 1) (y 2) _ ?_ ?_
  · blk_simp
    rw [(e t).2.1]
  · blk_simp
    rw [(e t).2.2]
    omega

/-- The reference's array of the summed gradient. -/
theorem ref_g (p : S8x256x2048.Idx → EReal) : (val_main_v2 (F := Ideal) p : S1x256x2048.Idx → EReal) = Cert.Adam.total p := by
  funext i
  pointwise [val_main_v0, val_main_v1, val_main_v2, val_main_cst]
  rfl

/-- The reference's array of the change of the weights. -/
theorem ref_d (p : S8x256x2048.Idx → EReal) (w x y : S1x256x2048.Idx → EReal) : (val_main_v26 (F := Ideal) p w x y : S1x256x2048.Idx → EReal) = Cert.Adam.delta (Cert.Adam.total p) w x y := by
  funext i
  pointwise [val_main_v0, val_main_v1, val_main_v2, val_main_cst, val_main_cst_0, val_main_cst_1, val_main_cst_2, val_main_cst_3, val_main_cst_4, val_main_cst_5, val_main_cst_6, val_main_cst_7, val_main_cst_8, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  rfl

/-- The reference's array of the first moments. -/
theorem ref_m (p : S8x256x2048.Idx → EReal) (x : S1x256x2048.Idx → EReal) : (val_main_v7 (F := Ideal) p x : S1x256x2048.Idx → EReal) = Cert.Adam.moment (Cert.Adam.total p) x := by
  funext i
  pointwise [val_main_v0, val_main_v1, val_main_v2, val_main_cst, val_main_cst_0, val_main_cst_1, val_main_cst_2, val_main_cst_3, val_main_cst_4, val_main_cst_5, val_main_cst_6, val_main_cst_7, val_main_cst_8, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  rfl

/-- The reference's array of the second moments. -/
theorem ref_v (p : S8x256x2048.Idx → EReal) (y : S1x256x2048.Idx → EReal) : (val_main_v13 (F := Ideal) p y : S1x256x2048.Idx → EReal) = Cert.Adam.square (Cert.Adam.total p) y := by
  funext i
  pointwise [val_main_v0, val_main_v1, val_main_v2, val_main_cst, val_main_cst_0, val_main_cst_1, val_main_cst_2, val_main_cst_3, val_main_cst_4, val_main_cst_5, val_main_cst_6, val_main_cst_7, val_main_cst_8, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  rfl

/-- The call computes the reference's results. -/
theorem algebraic : Cert.algebraic_StepRowsIdeal_StepRowsRefIdeal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    run_blocks m g, (θ_run _ _ _).mono (fun r h c => ?_) (Cert.StepRowsRefIdeal.Value.run m' g')⟩
  obtain ⟨a0, a1, a2, a3⟩ := hargs c
  obtain ⟨r0, r1, r2, r3, rest⟩ := h c
  refine ⟨r0.trans ?_, r1.trans ?_, r2.trans ?_, r3.trans ?_, rest⟩
  · rw [val_main_v2_eq, a0]
    exact (ref_g _).trans (array_g m c).symm
  · rw [val_main_v26_eq, a0, a1, a2, a3]
    exact (ref_d _ _ _ _).trans (array_d m c).symm
  · rw [val_main_v7_eq, a0, a2]
    exact (ref_m _ _).trans (array_m m c).symm
  · rw [val_main_v13_eq, a0, a3]
    exact (ref_v _ _).trans (array_v m c).symm

/-- The idealization replaces nothing. -/
theorem preserves : Cert.preserves_StepRows_StepRowsIdeal := trivial

end Cert.StepRowsIdeal.Proof

namespace Cert.StepRowsRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => (h c).2.2.2.2, sem_eq_zero_of_no_sems (by decide) r.2⟩) (Value.run m g)

end Cert.StepRowsRefIdeal.Proof

end
-- ==== Proof.StepIn.lean ====
module

public import proofs.«01_k».proof.Defs
public import proofs.«01_k».proof.Proof.Gen.StepIn.Frame
public import proofs.«01_k».proof.Proof.Gen.StepInIdeal.Value
public import proofs.«01_k».proof.Proof.Gen.StepInRefIdeal.Run
public import proofs.«01_k».proof.Proof.Gen.StepInRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead
public import proofs.«01_k».proof.Proof.Adam

@[expose] public section

/-!
  The optimiser's step for the recurrence's first matrix, over four pairs of senders: the senders' gradients summed,
  the two moments, and the change of the weights, a block of 256 rows at each grid point.
-/

set_option maxRecDepth 16384

noncomputable section

namespace Cert.StepInIdeal.Proof

open Cert.StepInIdeal Cert.StepInIdeal.Gen Cert.StepInIdeal.Value Idealize.ShloMosaic Idealize.ShloMosaic.TcCoe Idealize.SL.Sem
open Cert.StepInRefIdeal.Read

variable (m : (ℓ : Loc nD τ sig) → Buf (Elt Ideal) ℓ) (c : Dev nD)

/-- The senders' blocks at a grid point. -/
abbrev parts (t : Fin cfg0.N) : Vec Ideal S4x256x1024 .bf16 := iblk m c 0 t

section

variable (t : Fin cfg0.N) (u : Fin 1) (r : Fin 256) (k : Fin 1024) (i : S1x2048x1024.Idx) (h1 : (i 1).val = t.val * 256 + r.val) (h2 : (i 2).val = k.val)
include h1 h2

/-- The senders' entries of a grid point, summed. -/
theorem at_p : ∑ s : Fin 4, (parts m c t (ix3 s r k) : EReal) = Cert.Adam.total (n := 4) (m (c.tc.loc main_arg0)) i := by
  have e : ∀ t : Fin grid0.N, win0_0.index t 0 = 0 ∧ win0_0.index t 1 = t.val ∧ win0_0.index t 2 = 0 := by decide +kernel
  refine Finset.sum_congr rfl fun s _ => ?_
  refine (congrFun (congrArg (((cfg0.win 0).blk t).view.read (Elt Ideal)) (V_main_arg0 m c)) _).trans ?_
  show ((m (c.tc.loc main_arg0)) : S4x2048x1024.Idx → EReal) _ = ((m (c.tc.loc main_arg0)) : S4x2048x1024.Idx → EReal) _
  blk_ext [e t, h1, h2]

/-- The weights at a grid point. -/
theorem at_w : (iblk m c 1 t : Vec Ideal S1x256x1024 .f32) (ix3 0 r k) = (m (c.tc.loc main_arg1) : S1x2048x1024.Idx → EReal) i := by
  have e : ∀ t : Fin grid0.N, win0_1.index t 0 = 0 ∧ win0_1.index t 1 = t.val ∧ win0_1.index t 2 = 0 := by decide +kernel
  refine (congrFun (congrArg (((cfg0.win 1).blk t).view.read (Elt Ideal)) (V_main_arg1 m c)) _).trans ?_
  show (m (c.tc.loc main_arg1) : S1x2048x1024.Idx → EReal) _ = (m (c.tc.loc main_arg1) : S1x2048x1024.Idx → EReal) _
  blk_ext [e t, h1, h2]

/-- The first moments at a grid point. -/
theorem at_x : (iblk m c 2 t : Vec Ideal S1x256x1024 .f32) (ix3 0 r k) = (m (c.tc.loc main_arg2) : S1x2048x1024.Idx → EReal) i := by
  have e : ∀ t : Fin grid0.N, win0_2.index t 0 = 0 ∧ win0_2.index t 1 = t.val ∧ win0_2.index t 2 = 0 := by decide +kernel
  refine (congrFun (congrArg (((cfg0.win 2).blk t).view.read (Elt Ideal)) (V_main_arg2 m c)) _).trans ?_
  show (m (c.tc.loc main_arg2) : S1x2048x1024.Idx → EReal) _ = (m (c.tc.loc main_arg2) : S1x2048x1024.Idx → EReal) _
  blk_ext [e t, h1, h2]

/-- The second moments at a grid point. -/
theorem at_y : (iblk m c 3 t : Vec Ideal S1x256x1024 .f32) (ix3 0 r k) = (m (c.tc.loc main_arg3) : S1x2048x1024.Idx → EReal) i := by
  have e : ∀ t : Fin grid0.N, win0_3.index t 0 = 0 ∧ win0_3.index t 1 = t.val ∧ win0_3.index t 2 = 0 := by decide +kernel
  refine (congrFun (congrArg (((cfg0.win 3).blk t).view.read (Elt Ideal)) (V_main_arg3 m c)) _).trans ?_
  show (m (c.tc.loc main_arg3) : S1x2048x1024.Idx → EReal) _ = (m (c.tc.loc main_arg3) : S1x2048x1024.Idx → EReal) _
  blk_ext [e t, h1, h2]

/-- What a grid point leaves for the summed gradient. -/
theorem left_g : (((outsAt0 m c t).1) : Vec Ideal S1x256x1024 .f32) (ix3 u r k) = Cert.Adam.total (n := 4) (m (c.tc.loc main_arg0)) i := by
  obtain rfl : u = 0 := Subsingleton.elim _ _
  refine Eq.trans ?_ (at_p m c t r k i h1 h2)
  rw [← Cert.Adam.sum_four]
  unfold outsAt0
  dsimp only
  frame_out
  pointwise [k0_pay1, k0_pay2, k0_pay3, k0_pay4, k0_pay5, k0_pay6, k0_pay7, k0_pay8, k0_pay9]

/-- What a grid point leaves for the change of the weights. -/
theorem left_d : (((outsAt0 m c t).2.1) : Vec Ideal S1x256x1024 .f32) (ix3 u r k) = Cert.Adam.delta (Cert.Adam.total (n := 4) (m (c.tc.loc main_arg0))) (m (c.tc.loc main_arg1)) (m (c.tc.loc main_arg2)) (m (c.tc.loc main_arg3)) i := by
  obtain rfl : u = 0 := Subsingleton.elim _ _
  refine Eq.trans ?_ (Cert.Adam.change_congr (at_w m c t r k i h1 h2) (congrArg₂ Cert.Adam.first (at_x m c t r k i h1 h2) (at_p m c t r k i h1 h2)) (congrArg₂ Cert.Adam.second (at_y m c t r k i h1 h2) (at_p m c t r k i h1 h2)))
  unfold Cert.Adam.change Cert.Adam.first Cert.Adam.second
  rw [← Cert.Adam.sum_four]
  unfold outsAt0
  dsimp only
  frame_out
  pointwise [k0_pay1, k0_pay2, k0_pay3, k0_pay4, k0_pay5, k0_pay6, k0_pay7, k0_pay8, k0_pay9]

/-- What a grid point leaves for the first moments. -/
theorem left_m : (((outsAt0 m c t).2.2.1) : Vec Ideal S1x256x1024 .f32) (ix3 u r k) = Cert.Adam.moment (Cert.Adam.total (n := 4) (m (c.tc.loc main_arg0))) (m (c.tc.loc main_arg2)) i := by
  obtain rfl : u = 0 := Subsingleton.elim _ _
  refine Eq.trans ?_ (congrArg₂ Cert.Adam.first (at_x m c t r k i h1 h2) (at_p m c t r k i h1 h2))
  unfold Cert.Adam.first
  rw [← Cert.Adam.sum_four]
  unfold outsAt0
  dsimp only
  frame_out
  pointwise [k0_pay1, k0_pay2, k0_pay3, k0_pay4, k0_pay5, k0_pay6, k0_pay7, k0_pay8, k0_pay9]

/-- What a grid point leaves for the second moments. -/
theorem left_v : (((outsAt0 m c t).2.2.2) : Vec Ideal S1x256x1024 .f32) (ix3 u r k) = Cert.Adam.square (Cert.Adam.total (n := 4) (m (c.tc.loc main_arg0))) (m (c.tc.loc main_arg3)) i := by
  obtain rfl : u = 0 := Subsingleton.elim _ _
  refine Eq.trans ?_ (congrArg₂ Cert.Adam.second (at_y m c t r k i h1 h2) (at_p m c t r k i h1 h2))
  unfold Cert.Adam.second
  rw [← Cert.Adam.sum_four]
  unfold outsAt0
  dsimp only
  frame_out
  pointwise [k0_pay1, k0_pay2, k0_pay3, k0_pay4, k0_pay5, k0_pay6, k0_pay7, k0_pay8, k0_pay9]

end

/-- The array of the summed gradient after the run. -/
theorem array_g : (dats m 0 c).arrAt 4 cfg0.N = Cert.Adam.total (n := 4) (m (c.tc.loc main_arg0)) := by
  have e : ∀ t : Fin grid0.N, win0_4.index t 0 = 0 ∧ win0_4.index t 1 = t.val ∧ win0_4.index t 2 = 0 := by decide +kernel
  refine (dats m 0 c).arrAt_eq_of_covers 4 _ (by decide +kernel) (fun t hf y => ?_)
  blk_simp
  rw [after0_4, show y = ix3 (y 0) (y 1) (y 2) from by funext a; fin_cases a <;> rfl]
  refine left_g m c t (y 0) (y 1) (y 2) _ ?_ ?_
  · blk_simp
    rw [(e t).2.1]
  · blk_simp
    rw [(e t).2.2]
    omega

/-- The array of the change of the weights after the run. -/
theorem array_d : (dats m 0 c).arrAt 5 cfg0.N = Cert.Adam.delta (Cert.Adam.total (n := 4) (m (c.tc.loc main_arg0))) (m (c.tc.loc main_arg1)) (m (c.tc.loc main_arg2)) (m (c.tc.loc main_arg3)) := by
  have e : ∀ t : Fin grid0.N, win0_5.index t 0 = 0 ∧ win0_5.index t 1 = t.val ∧ win0_5.index t 2 = 0 := by decide +kernel
  refine (dats m 0 c).arrAt_eq_of_covers 5 _ (by decide +kernel) (fun t hf y => ?_)
  blk_simp
  rw [after0_5, show y = ix3 (y 0) (y 1) (y 2) from by funext a; fin_cases a <;> rfl]
  refine left_d m c t (y 0) (y 1) (y 2) _ ?_ ?_
  · blk_simp
    rw [(e t).2.1]
  · blk_simp
    rw [(e t).2.2]
    omega

/-- The array of the first moments after the run. -/
theorem array_m : (dats m 0 c).arrAt 6 cfg0.N = Cert.Adam.moment (Cert.Adam.total (n := 4) (m (c.tc.loc main_arg0))) (m (c.tc.loc main_arg2)) := by
  have e : ∀ t : Fin grid0.N, win0_6.index t 0 = 0 ∧ win0_6.index t 1 = t.val ∧ win0_6.index t 2 = 0 := by decide +kernel
  refine (dats m 0 c).arrAt_eq_of_covers 6 _ (by decide +kernel) (fun t hf y => ?_)
  blk_simp
  rw [after0_6, show y = ix3 (y 0) (y 1) (y 2) from by funext a; fin_cases a <;> rfl]
  refine left_m m c t (y 0) (y 1) (y 2) _ ?_ ?_
  · blk_simp
    rw [(e t).2.1]
  · blk_simp
    rw [(e t).2.2]
    omega

/-- The array of the second moments after the run. -/
theorem array_v : (dats m 0 c).arrAt 7 cfg0.N = Cert.Adam.square (Cert.Adam.total (n := 4) (m (c.tc.loc main_arg0))) (m (c.tc.loc main_arg3)) := by
  have e : ∀ t : Fin grid0.N, win0_7.index t 0 = 0 ∧ win0_7.index t 1 = t.val ∧ win0_7.index t 2 = 0 := by decide +kernel
  refine (dats m 0 c).arrAt_eq_of_covers 7 _ (by decide +kernel) (fun t hf y => ?_)
  blk_simp
  rw [after0_7, show y = ix3 (y 0) (y 1) (y 2) from by funext a; fin_cases a <;> rfl]
  refine left_v m c t (y 0) (y 1) (y 2) _ ?_ ?_
  · blk_simp
    rw [(e t).2.1]
  · blk_simp
    rw [(e t).2.2]
    omega

/-- The reference's array of the summed gradient. -/
theorem ref_g (p : S4x2048x1024.Idx → EReal) : (val_main_v2 (F := Ideal) p : S1x2048x1024.Idx → EReal) = Cert.Adam.total p := by
  funext i
  pointwise [val_main_v0, val_main_v1, val_main_v2, val_main_cst]
  rfl

/-- The reference's array of the change of the weights. -/
theorem ref_d (p : S4x2048x1024.Idx → EReal) (w x y : S1x2048x1024.Idx → EReal) : (val_main_v26 (F := Ideal) p w x y : S1x2048x1024.Idx → EReal) = Cert.Adam.delta (Cert.Adam.total p) w x y := by
  funext i
  pointwise [val_main_v0, val_main_v1, val_main_v2, val_main_cst, val_main_cst_0, val_main_cst_1, val_main_cst_2, val_main_cst_3, val_main_cst_4, val_main_cst_5, val_main_cst_6, val_main_cst_7, val_main_cst_8, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  rfl

/-- The reference's array of the first moments. -/
theorem ref_m (p : S4x2048x1024.Idx → EReal) (x : S1x2048x1024.Idx → EReal) : (val_main_v7 (F := Ideal) p x : S1x2048x1024.Idx → EReal) = Cert.Adam.moment (Cert.Adam.total p) x := by
  funext i
  pointwise [val_main_v0, val_main_v1, val_main_v2, val_main_cst, val_main_cst_0, val_main_cst_1, val_main_cst_2, val_main_cst_3, val_main_cst_4, val_main_cst_5, val_main_cst_6, val_main_cst_7, val_main_cst_8, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  rfl

/-- The reference's array of the second moments. -/
theorem ref_v (p : S4x2048x1024.Idx → EReal) (y : S1x2048x1024.Idx → EReal) : (val_main_v13 (F := Ideal) p y : S1x2048x1024.Idx → EReal) = Cert.Adam.square (Cert.Adam.total p) y := by
  funext i
  pointwise [val_main_v0, val_main_v1, val_main_v2, val_main_cst, val_main_cst_0, val_main_cst_1, val_main_cst_2, val_main_cst_3, val_main_cst_4, val_main_cst_5, val_main_cst_6, val_main_cst_7, val_main_cst_8, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  rfl

/-- The call computes the reference's results. -/
theorem algebraic : Cert.algebraic_StepInIdeal_StepInRefIdeal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    run_blocks m g, (θ_run _ _ _).mono (fun r h c => ?_) (Cert.StepInRefIdeal.Value.run m' g')⟩
  obtain ⟨a0, a1, a2, a3⟩ := hargs c
  obtain ⟨r0, r1, r2, r3, rest⟩ := h c
  refine ⟨r0.trans ?_, r1.trans ?_, r2.trans ?_, r3.trans ?_, rest⟩
  · rw [val_main_v2_eq, a0]
    exact (ref_g _).trans (array_g m c).symm
  · rw [val_main_v26_eq, a0, a1, a2, a3]
    exact (ref_d _ _ _ _).trans (array_d m c).symm
  · rw [val_main_v7_eq, a0, a2]
    exact (ref_m _ _).trans (array_m m c).symm
  · rw [val_main_v13_eq, a0, a3]
    exact (ref_v _ _).trans (array_v m c).symm

/-- The idealization replaces nothing. -/
theorem preserves : Cert.preserves_StepIn_StepInIdeal := trivial

end Cert.StepInIdeal.Proof

namespace Cert.StepInRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => (h c).2.2.2.2, sem_eq_zero_of_no_sems (by decide) r.2⟩) (Value.run m g)

end Cert.StepInRefIdeal.Proof

end
-- ==== Proof.StepKvf.lean ====
module

public import proofs.«01_k».proof.Defs
public import proofs.«01_k».proof.Proof.Gen.StepKvf.Frame
public import proofs.«01_k».proof.Proof.Gen.StepKvfIdeal.Value
public import proofs.«01_k».proof.Proof.Gen.StepKvfRefIdeal.Run
public import proofs.«01_k».proof.Proof.Gen.StepKvfRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead
public import proofs.«01_k».proof.Proof.Adam

@[expose] public section

/-!
  The optimiser's step for the matrix of the keys, the values and the forget gate: the senders' gradients summed,
  the two moments, and the change of the weights, a block of 256 rows at each grid point.
-/

set_option maxRecDepth 16384

noncomputable section

namespace Cert.StepKvfIdeal.Proof

open Cert.StepKvfIdeal Cert.StepKvfIdeal.Gen Cert.StepKvfIdeal.Value Idealize.ShloMosaic Idealize.ShloMosaic.TcCoe Idealize.SL.Sem
open Cert.StepKvfRefIdeal.Read

variable (m : (ℓ : Loc nD τ sig) → Buf (Elt Ideal) ℓ) (c : Dev nD)

/-- The senders' blocks at a grid point. -/
abbrev parts (t : Fin cfg0.N) : Vec Ideal S8x256x514 .bf16 := iblk m c 0 t

section

variable (t : Fin cfg0.N) (u : Fin 1) (r : Fin 256) (k : Fin 514) (i : S1x2048x514.Idx) (h1 : (i 1).val = t.val * 256 + r.val) (h2 : (i 2).val = k.val)
include h1 h2

/-- The senders' entries of a grid point, summed. -/
theorem at_p : ∑ s : Fin 8, (parts m c t (ix3 s r k) : EReal) = Cert.Adam.total (n := 8) (m (c.tc.loc main_arg0)) i := by
  have e : ∀ t : Fin grid0.N, win0_0.index t 0 = 0 ∧ win0_0.index t 1 = t.val ∧ win0_0.index t 2 = 0 := by decide +kernel
  refine Finset.sum_congr rfl fun s _ => ?_
  refine (congrFun (congrArg (((cfg0.win 0).blk t).view.read (Elt Ideal)) (V_main_arg0 m c)) _).trans ?_
  show ((m (c.tc.loc main_arg0)) : S8x2048x514.Idx → EReal) _ = ((m (c.tc.loc main_arg0)) : S8x2048x514.Idx → EReal) _
  blk_ext [e t, h1, h2]

/-- The weights at a grid point. -/
theorem at_w : (iblk m c 1 t : Vec Ideal S1x256x514 .f32) (ix3 0 r k) = (m (c.tc.loc main_arg1) : S1x2048x514.Idx → EReal) i := by
  have e : ∀ t : Fin grid0.N, win0_1.index t 0 = 0 ∧ win0_1.index t 1 = t.val ∧ win0_1.index t 2 = 0 := by decide +kernel
  refine (congrFun (congrArg (((cfg0.win 1).blk t).view.read (Elt Ideal)) (V_main_arg1 m c)) _).trans ?_
  show (m (c.tc.loc main_arg1) : S1x2048x514.Idx → EReal) _ = (m (c.tc.loc main_arg1) : S1x2048x514.Idx → EReal) _
  blk_ext [e t, h1, h2]

/-- The first moments at a grid point. -/
theorem at_x : (iblk m c 2 t : Vec Ideal S1x256x514 .f32) (ix3 0 r k) = (m (c.tc.loc main_arg2) : S1x2048x514.Idx → EReal) i := by
  have e : ∀ t : Fin grid0.N, win0_2.index t 0 = 0 ∧ win0_2.index t 1 = t.val ∧ win0_2.index t 2 = 0 := by decide +kernel
  refine (congrFun (congrArg (((cfg0.win 2).blk t).view.read (Elt Ideal)) (V_main_arg2 m c)) _).trans ?_
  show (m (c.tc.loc main_arg2) : S1x2048x514.Idx → EReal) _ = (m (c.tc.loc main_arg2) : S1x2048x514.Idx → EReal) _
  blk_ext [e t, h1, h2]

/-- The second moments at a grid point. -/
theorem at_y : (iblk m c 3 t : Vec Ideal S1x256x514 .f32) (ix3 0 r k) = (m (c.tc.loc main_arg3) : S1x2048x514.Idx → EReal) i := by
  have e : ∀ t : Fin grid0.N, win0_3.index t 0 = 0 ∧ win0_3.index t 1 = t.val ∧ win0_3.index t 2 = 0 := by decide +kernel
  refine (congrFun (congrArg (((cfg0.win 3).blk t).view.read (Elt Ideal)) (V_main_arg3 m c)) _).trans ?_
  show (m (c.tc.loc main_arg3) : S1x2048x514.Idx → EReal) _ = (m (c.tc.loc main_arg3) : S1x2048x514.Idx → EReal) _
  blk_ext [e t, h1, h2]

/-- What a grid point leaves for the summed gradient. -/
theorem left_g : (((outsAt0 m c t).1) : Vec Ideal S1x256x514 .f32) (ix3 u r k) = Cert.Adam.total (n := 8) (m (c.tc.loc main_arg0)) i := by
  obtain rfl : u = 0 := Subsingleton.elim _ _
  refine Eq.trans ?_ (at_p m c t r k i h1 h2)
  rw [← Cert.Adam.sum_eight]
  unfold outsAt0
  dsimp only
  frame_out
  pointwise [k0_pay1, k0_pay2, k0_pay3, k0_pay4, k0_pay5, k0_pay6, k0_pay7, k0_pay8]

/-- What a grid point leaves for the change of the weights. -/
theorem left_d : (((outsAt0 m c t).2.1) : Vec Ideal S1x256x514 .f32) (ix3 u r k) = Cert.Adam.delta (Cert.Adam.total (n := 8) (m (c.tc.loc main_arg0))) (m (c.tc.loc main_arg1)) (m (c.tc.loc main_arg2)) (m (c.tc.loc main_arg3)) i := by
  obtain rfl : u = 0 := Subsingleton.elim _ _
  refine Eq.trans ?_ (Cert.Adam.change_congr (at_w m c t r k i h1 h2) (congrArg₂ Cert.Adam.first (at_x m c t r k i h1 h2) (at_p m c t r k i h1 h2)) (congrArg₂ Cert.Adam.second (at_y m c t r k i h1 h2) (at_p m c t r k i h1 h2)))
  unfold Cert.Adam.change Cert.Adam.first Cert.Adam.second
  rw [← Cert.Adam.sum_eight]
  unfold outsAt0
  dsimp only
  frame_out
  pointwise [k0_pay1, k0_pay2, k0_pay3, k0_pay4, k0_pay5, k0_pay6, k0_pay7, k0_pay8]

/-- What a grid point leaves for the first moments. -/
theorem left_m : (((outsAt0 m c t).2.2.1) : Vec Ideal S1x256x514 .f32) (ix3 u r k) = Cert.Adam.moment (Cert.Adam.total (n := 8) (m (c.tc.loc main_arg0))) (m (c.tc.loc main_arg2)) i := by
  obtain rfl : u = 0 := Subsingleton.elim _ _
  refine Eq.trans ?_ (congrArg₂ Cert.Adam.first (at_x m c t r k i h1 h2) (at_p m c t r k i h1 h2))
  unfold Cert.Adam.first
  rw [← Cert.Adam.sum_eight]
  unfold outsAt0
  dsimp only
  frame_out
  pointwise [k0_pay1, k0_pay2, k0_pay3, k0_pay4, k0_pay5, k0_pay6, k0_pay7, k0_pay8]

/-- What a grid point leaves for the second moments. -/
theorem left_v : (((outsAt0 m c t).2.2.2) : Vec Ideal S1x256x514 .f32) (ix3 u r k) = Cert.Adam.square (Cert.Adam.total (n := 8) (m (c.tc.loc main_arg0))) (m (c.tc.loc main_arg3)) i := by
  obtain rfl : u = 0 := Subsingleton.elim _ _
  refine Eq.trans ?_ (congrArg₂ Cert.Adam.second (at_y m c t r k i h1 h2) (at_p m c t r k i h1 h2))
  unfold Cert.Adam.second
  rw [← Cert.Adam.sum_eight]
  unfold outsAt0
  dsimp only
  frame_out
  pointwise [k0_pay1, k0_pay2, k0_pay3, k0_pay4, k0_pay5, k0_pay6, k0_pay7, k0_pay8]

end

/-- The array of the summed gradient after the run. -/
theorem array_g : (dats m 0 c).arrAt 4 cfg0.N = Cert.Adam.total (n := 8) (m (c.tc.loc main_arg0)) := by
  have e : ∀ t : Fin grid0.N, win0_4.index t 0 = 0 ∧ win0_4.index t 1 = t.val ∧ win0_4.index t 2 = 0 := by decide +kernel
  refine (dats m 0 c).arrAt_eq_of_covers 4 _ (by decide +kernel) (fun t hf y => ?_)
  blk_simp
  rw [after0_4, show y = ix3 (y 0) (y 1) (y 2) from by funext a; fin_cases a <;> rfl]
  refine left_g m c t (y 0) (y 1) (y 2) _ ?_ ?_
  · blk_simp
    rw [(e t).2.1]
  · blk_simp
    rw [(e t).2.2]
    omega

/-- The array of the change of the weights after the run. -/
theorem array_d : (dats m 0 c).arrAt 5 cfg0.N = Cert.Adam.delta (Cert.Adam.total (n := 8) (m (c.tc.loc main_arg0))) (m (c.tc.loc main_arg1)) (m (c.tc.loc main_arg2)) (m (c.tc.loc main_arg3)) := by
  have e : ∀ t : Fin grid0.N, win0_5.index t 0 = 0 ∧ win0_5.index t 1 = t.val ∧ win0_5.index t 2 = 0 := by decide +kernel
  refine (dats m 0 c).arrAt_eq_of_covers 5 _ (by decide +kernel) (fun t hf y => ?_)
  blk_simp
  rw [after0_5, show y = ix3 (y 0) (y 1) (y 2) from by funext a; fin_cases a <;> rfl]
  refine left_d m c t (y 0) (y 1) (y 2) _ ?_ ?_
  · blk_simp
    rw [(e t).2.1]
  · blk_simp
    rw [(e t).2.2]
    omega

/-- The array of the first moments after the run. -/
theorem array_m : (dats m 0 c).arrAt 6 cfg0.N = Cert.Adam.moment (Cert.Adam.total (n := 8) (m (c.tc.loc main_arg0))) (m (c.tc.loc main_arg2)) := by
  have e : ∀ t : Fin grid0.N, win0_6.index t 0 = 0 ∧ win0_6.index t 1 = t.val ∧ win0_6.index t 2 = 0 := by decide +kernel
  refine (dats m 0 c).arrAt_eq_of_covers 6 _ (by decide +kernel) (fun t hf y => ?_)
  blk_simp
  rw [after0_6, show y = ix3 (y 0) (y 1) (y 2) from by funext a; fin_cases a <;> rfl]
  refine left_m m c t (y 0) (y 1) (y 2) _ ?_ ?_
  · blk_simp
    rw [(e t).2.1]
  · blk_simp
    rw [(e t).2.2]
    omega

/-- The array of the second moments after the run. -/
theorem array_v : (dats m 0 c).arrAt 7 cfg0.N = Cert.Adam.square (Cert.Adam.total (n := 8) (m (c.tc.loc main_arg0))) (m (c.tc.loc main_arg3)) := by
  have e : ∀ t : Fin grid0.N, win0_7.index t 0 = 0 ∧ win0_7.index t 1 = t.val ∧ win0_7.index t 2 = 0 := by decide +kernel
  refine (dats m 0 c).arrAt_eq_of_covers 7 _ (by decide +kernel) (fun t hf y => ?_)
  blk_simp
  rw [after0_7, show y = ix3 (y 0) (y 1) (y 2) from by funext a; fin_cases a <;> rfl]
  refine left_v m c t (y 0) (y 1) (y 2) _ ?_ ?_
  · blk_simp
    rw [(e t).2.1]
  · blk_simp
    rw [(e t).2.2]
    omega

/-- The reference's array of the summed gradient. -/
theorem ref_g (p : S8x2048x514.Idx → EReal) : (val_main_v2 (F := Ideal) p : S1x2048x514.Idx → EReal) = Cert.Adam.total p := by
  funext i
  pointwise [val_main_v0, val_main_v1, val_main_v2, val_main_cst]
  rfl

/-- The reference's array of the change of the weights. -/
theorem ref_d (p : S8x2048x514.Idx → EReal) (w x y : S1x2048x514.Idx → EReal) : (val_main_v26 (F := Ideal) p w x y : S1x2048x514.Idx → EReal) = Cert.Adam.delta (Cert.Adam.total p) w x y := by
  funext i
  pointwise [val_main_v0, val_main_v1, val_main_v2, val_main_cst, val_main_cst_0, val_main_cst_1, val_main_cst_2, val_main_cst_3, val_main_cst_4, val_main_cst_5, val_main_cst_6, val_main_cst_7, val_main_cst_8, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  rfl

/-- The reference's array of the first moments. -/
theorem ref_m (p : S8x2048x514.Idx → EReal) (x : S1x2048x514.Idx → EReal) : (val_main_v7 (F := Ideal) p x : S1x2048x514.Idx → EReal) = Cert.Adam.moment (Cert.Adam.total p) x := by
  funext i
  pointwise [val_main_v0, val_main_v1, val_main_v2, val_main_cst, val_main_cst_0, val_main_cst_1, val_main_cst_2, val_main_cst_3, val_main_cst_4, val_main_cst_5, val_main_cst_6, val_main_cst_7, val_main_cst_8, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  rfl

/-- The reference's array of the second moments. -/
theorem ref_v (p : S8x2048x514.Idx → EReal) (y : S1x2048x514.Idx → EReal) : (val_main_v13 (F := Ideal) p y : S1x2048x514.Idx → EReal) = Cert.Adam.square (Cert.Adam.total p) y := by
  funext i
  pointwise [val_main_v0, val_main_v1, val_main_v2, val_main_cst, val_main_cst_0, val_main_cst_1, val_main_cst_2, val_main_cst_3, val_main_cst_4, val_main_cst_5, val_main_cst_6, val_main_cst_7, val_main_cst_8, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  rfl

/-- The call computes the reference's results. -/
theorem algebraic : Cert.algebraic_StepKvfIdeal_StepKvfRefIdeal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    run_blocks m g, (θ_run _ _ _).mono (fun r h c => ?_) (Cert.StepKvfRefIdeal.Value.run m' g')⟩
  obtain ⟨a0, a1, a2, a3⟩ := hargs c
  obtain ⟨r0, r1, r2, r3, rest⟩ := h c
  refine ⟨r0.trans ?_, r1.trans ?_, r2.trans ?_, r3.trans ?_, rest⟩
  · rw [val_main_v2_eq, a0]
    exact (ref_g _).trans (array_g m c).symm
  · rw [val_main_v26_eq, a0, a1, a2, a3]
    exact (ref_d _ _ _ _).trans (array_d m c).symm
  · rw [val_main_v7_eq, a0, a2]
    exact (ref_m _ _).trans (array_m m c).symm
  · rw [val_main_v13_eq, a0, a3]
    exact (ref_v _ _).trans (array_v m c).symm

/-- The idealization replaces nothing. -/
theorem preserves : Cert.preserves_StepKvf_StepKvfIdeal := trivial

end Cert.StepKvfIdeal.Proof

namespace Cert.StepKvfRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => (h c).2.2.2.2, sem_eq_zero_of_no_sems (by decide) r.2⟩) (Value.run m g)

end Cert.StepKvfRefIdeal.Proof

end
-- ==== Proof.StepLb.lean ====
module

public import proofs.«01_k».proof.Defs
public import proofs.«01_k».proof.Proof.Gen.StepLb.Frame
public import proofs.«01_k».proof.Proof.Gen.StepLbIdeal.Value
public import proofs.«01_k».proof.Proof.Gen.StepLbRefIdeal.Run
public import proofs.«01_k».proof.Proof.Gen.StepLbRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead
public import proofs.«01_k».proof.Proof.Adam

@[expose] public section

/-!
  The optimiser's step for the lower bounds' logits: the senders' gradients summed,
  the two moments, and the change of the weights, a block of both rows at each grid point.
-/

set_option maxRecDepth 16384

noncomputable section

namespace Cert.StepLbIdeal.Proof

open Cert.StepLbIdeal Cert.StepLbIdeal.Gen Cert.StepLbIdeal.Value Idealize.ShloMosaic Idealize.ShloMosaic.TcCoe Idealize.SL.Sem
open Cert.StepLbRefIdeal.Read

variable (m : (ℓ : Loc nD τ sig) → Buf (Elt Ideal) ℓ) (c : Dev nD)

/-- The senders' blocks at a grid point. -/
abbrev parts (t : Fin cfg0.N) : Vec Ideal S8x2x256 .f32 := iblk m c 0 t

section

variable (t : Fin cfg0.N) (u : Fin 1) (r : Fin 2) (k : Fin 256) (i : S1x2x256.Idx) (h1 : (i 1).val = t.val * 2 + r.val) (h2 : (i 2).val = k.val)
include h1 h2

/-- The senders' entries of a grid point, summed. -/
theorem at_p : ∑ s : Fin 8, (parts m c t (ix3 s r k) : EReal) = Cert.Adam.total (n := 8) (m (c.tc.loc main_arg0)) i := by
  have e : ∀ t : Fin grid0.N, win0_0.index t 0 = 0 ∧ win0_0.index t 1 = t.val ∧ win0_0.index t 2 = 0 := by decide +kernel
  refine Finset.sum_congr rfl fun s _ => ?_
  refine (congrFun (congrArg (((cfg0.win 0).blk t).view.read (Elt Ideal)) (V_main_arg0 m c)) _).trans ?_
  show ((m (c.tc.loc main_arg0)) : S8x2x256.Idx → EReal) _ = ((m (c.tc.loc main_arg0)) : S8x2x256.Idx → EReal) _
  blk_ext [e t, h1, h2]

/-- The weights at a grid point. -/
theorem at_w : (iblk m c 1 t : Vec Ideal S1x2x256 .f32) (ix3 0 r k) = (m (c.tc.loc main_arg1) : S1x2x256.Idx → EReal) i := by
  have e : ∀ t : Fin grid0.N, win0_1.index t 0 = 0 ∧ win0_1.index t 1 = t.val ∧ win0_1.index t 2 = 0 := by decide +kernel
  refine (congrFun (congrArg (((cfg0.win 1).blk t).view.read (Elt Ideal)) (V_main_arg1 m c)) _).trans ?_
  show (m (c.tc.loc main_arg1) : S1x2x256.Idx → EReal) _ = (m (c.tc.loc main_arg1) : S1x2x256.Idx → EReal) _
  blk_ext [e t, h1, h2]

/-- The first moments at a grid point. -/
theorem at_x : (iblk m c 2 t : Vec Ideal S1x2x256 .f32) (ix3 0 r k) = (m (c.tc.loc main_arg2) : S1x2x256.Idx → EReal) i := by
  have e : ∀ t : Fin grid0.N, win0_2.index t 0 = 0 ∧ win0_2.index t 1 = t.val ∧ win0_2.index t 2 = 0 := by decide +kernel
  refine (congrFun (congrArg (((cfg0.win 2).blk t).view.read (Elt Ideal)) (V_main_arg2 m c)) _).trans ?_
  show (m (c.tc.loc main_arg2) : S1x2x256.Idx → EReal) _ = (m (c.tc.loc main_arg2) : S1x2x256.Idx → EReal) _
  blk_ext [e t, h1, h2]

/-- The second moments at a grid point. -/
theorem at_y : (iblk m c 3 t : Vec Ideal S1x2x256 .f32) (ix3 0 r k) = (m (c.tc.loc main_arg3) : S1x2x256.Idx → EReal) i := by
  have e : ∀ t : Fin grid0.N, win0_3.index t 0 = 0 ∧ win0_3.index t 1 = t.val ∧ win0_3.index t 2 = 0 := by decide +kernel
  refine (congrFun (congrArg (((cfg0.win 3).blk t).view.read (Elt Ideal)) (V_main_arg3 m c)) _).trans ?_
  show (m (c.tc.loc main_arg3) : S1x2x256.Idx → EReal) _ = (m (c.tc.loc main_arg3) : S1x2x256.Idx → EReal) _
  blk_ext [e t, h1, h2]

/-- What a grid point leaves for the summed gradient. -/
theorem left_g : (((outsAt0 m c t).1) : Vec Ideal S1x2x256 .f32) (ix3 u r k) = Cert.Adam.total (n := 8) (m (c.tc.loc main_arg0)) i := by
  obtain rfl : u = 0 := Subsingleton.elim _ _
  refine Eq.trans ?_ (at_p m c t r k i h1 h2)
  rw [← Cert.Adam.sum_eight]
  unfold outsAt0
  dsimp only
  frame_out
  pointwise [k0_pay1, k0_pay2, k0_pay3, k0_pay4, k0_pay5, k0_pay6, k0_pay7]

/-- What a grid point leaves for the change of the weights. -/
theorem left_d : (((outsAt0 m c t).2.1) : Vec Ideal S1x2x256 .f32) (ix3 u r k) = Cert.Adam.delta (Cert.Adam.total (n := 8) (m (c.tc.loc main_arg0))) (m (c.tc.loc main_arg1)) (m (c.tc.loc main_arg2)) (m (c.tc.loc main_arg3)) i := by
  obtain rfl : u = 0 := Subsingleton.elim _ _
  refine Eq.trans ?_ (Cert.Adam.change_congr (at_w m c t r k i h1 h2) (congrArg₂ Cert.Adam.first (at_x m c t r k i h1 h2) (at_p m c t r k i h1 h2)) (congrArg₂ Cert.Adam.second (at_y m c t r k i h1 h2) (at_p m c t r k i h1 h2)))
  unfold Cert.Adam.change Cert.Adam.first Cert.Adam.second
  rw [← Cert.Adam.sum_eight]
  unfold outsAt0
  dsimp only
  frame_out
  pointwise [k0_pay1, k0_pay2, k0_pay3, k0_pay4, k0_pay5, k0_pay6, k0_pay7]

/-- What a grid point leaves for the first moments. -/
theorem left_m : (((outsAt0 m c t).2.2.1) : Vec Ideal S1x2x256 .f32) (ix3 u r k) = Cert.Adam.moment (Cert.Adam.total (n := 8) (m (c.tc.loc main_arg0))) (m (c.tc.loc main_arg2)) i := by
  obtain rfl : u = 0 := Subsingleton.elim _ _
  refine Eq.trans ?_ (congrArg₂ Cert.Adam.first (at_x m c t r k i h1 h2) (at_p m c t r k i h1 h2))
  unfold Cert.Adam.first
  rw [← Cert.Adam.sum_eight]
  unfold outsAt0
  dsimp only
  frame_out
  pointwise [k0_pay1, k0_pay2, k0_pay3, k0_pay4, k0_pay5, k0_pay6, k0_pay7]

/-- What a grid point leaves for the second moments. -/
theorem left_v : (((outsAt0 m c t).2.2.2) : Vec Ideal S1x2x256 .f32) (ix3 u r k) = Cert.Adam.square (Cert.Adam.total (n := 8) (m (c.tc.loc main_arg0))) (m (c.tc.loc main_arg3)) i := by
  obtain rfl : u = 0 := Subsingleton.elim _ _
  refine Eq.trans ?_ (congrArg₂ Cert.Adam.second (at_y m c t r k i h1 h2) (at_p m c t r k i h1 h2))
  unfold Cert.Adam.second
  rw [← Cert.Adam.sum_eight]
  unfold outsAt0
  dsimp only
  frame_out
  pointwise [k0_pay1, k0_pay2, k0_pay3, k0_pay4, k0_pay5, k0_pay6, k0_pay7]

end

/-- The array of the summed gradient after the run. -/
theorem array_g : (dats m 0 c).arrAt 4 cfg0.N = Cert.Adam.total (n := 8) (m (c.tc.loc main_arg0)) := by
  have e : ∀ t : Fin grid0.N, win0_4.index t 0 = 0 ∧ win0_4.index t 1 = t.val ∧ win0_4.index t 2 = 0 := by decide +kernel
  refine (dats m 0 c).arrAt_eq_of_covers 4 _ (by decide +kernel) (fun t hf y => ?_)
  blk_simp
  rw [after0_4, show y = ix3 (y 0) (y 1) (y 2) from by funext a; fin_cases a <;> rfl]
  refine left_g m c t (y 0) (y 1) (y 2) _ ?_ ?_
  · blk_simp
    rw [(e t).2.1]
    have := lt_of_lt_of_eq t.isLt (show cfg0.N = 1 from rfl)
    omega
  · blk_simp
    rw [(e t).2.2]
    omega

/-- The array of the change of the weights after the run. -/
theorem array_d : (dats m 0 c).arrAt 5 cfg0.N = Cert.Adam.delta (Cert.Adam.total (n := 8) (m (c.tc.loc main_arg0))) (m (c.tc.loc main_arg1)) (m (c.tc.loc main_arg2)) (m (c.tc.loc main_arg3)) := by
  have e : ∀ t : Fin grid0.N, win0_5.index t 0 = 0 ∧ win0_5.index t 1 = t.val ∧ win0_5.index t 2 = 0 := by decide +kernel
  refine (dats m 0 c).arrAt_eq_of_covers 5 _ (by decide +kernel) (fun t hf y => ?_)
  blk_simp
  rw [after0_5, show y = ix3 (y 0) (y 1) (y 2) from by funext a; fin_cases a <;> rfl]
  refine left_d m c t (y 0) (y 1) (y 2) _ ?_ ?_
  · blk_simp
    rw [(e t).2.1]
    have := lt_of_lt_of_eq t.isLt (show cfg0.N = 1 from rfl)
    omega
  · blk_simp
    rw [(e t).2.2]
    omega

/-- The array of the first moments after the run. -/
theorem array_m : (dats m 0 c).arrAt 6 cfg0.N = Cert.Adam.moment (Cert.Adam.total (n := 8) (m (c.tc.loc main_arg0))) (m (c.tc.loc main_arg2)) := by
  have e : ∀ t : Fin grid0.N, win0_6.index t 0 = 0 ∧ win0_6.index t 1 = t.val ∧ win0_6.index t 2 = 0 := by decide +kernel
  refine (dats m 0 c).arrAt_eq_of_covers 6 _ (by decide +kernel) (fun t hf y => ?_)
  blk_simp
  rw [after0_6, show y = ix3 (y 0) (y 1) (y 2) from by funext a; fin_cases a <;> rfl]
  refine left_m m c t (y 0) (y 1) (y 2) _ ?_ ?_
  · blk_simp
    rw [(e t).2.1]
    have := lt_of_lt_of_eq t.isLt (show cfg0.N = 1 from rfl)
    omega
  · blk_simp
    rw [(e t).2.2]
    omega

/-- The array of the second moments after the run. -/
theorem array_v : (dats m 0 c).arrAt 7 cfg0.N = Cert.Adam.square (Cert.Adam.total (n := 8) (m (c.tc.loc main_arg0))) (m (c.tc.loc main_arg3)) := by
  have e : ∀ t : Fin grid0.N, win0_7.index t 0 = 0 ∧ win0_7.index t 1 = t.val ∧ win0_7.index t 2 = 0 := by decide +kernel
  refine (dats m 0 c).arrAt_eq_of_covers 7 _ (by decide +kernel) (fun t hf y => ?_)
  blk_simp
  rw [after0_7, show y = ix3 (y 0) (y 1) (y 2) from by funext a; fin_cases a <;> rfl]
  refine left_v m c t (y 0) (y 1) (y 2) _ ?_ ?_
  · blk_simp
    rw [(e t).2.1]
    have := lt_of_lt_of_eq t.isLt (show cfg0.N = 1 from rfl)
    omega
  · blk_simp
    rw [(e t).2.2]
    omega

/-- The reference's array of the summed gradient. -/
theorem ref_g (p : S8x2x256.Idx → EReal) : (val_main_v1 (F := Ideal) p : S1x2x256.Idx → EReal) = Cert.Adam.total p := by
  funext i
  pointwise [val_main_v0, val_main_v1, val_main_cst]
  rfl

/-- The reference's array of the change of the weights. -/
theorem ref_d (p : S8x2x256.Idx → EReal) (w x y : S1x2x256.Idx → EReal) : (val_main_v25 (F := Ideal) p w x y : S1x2x256.Idx → EReal) = Cert.Adam.delta (Cert.Adam.total p) w x y := by
  funext i
  pointwise [val_main_v0, val_main_v1, val_main_cst, val_main_cst_0, val_main_cst_1, val_main_cst_2, val_main_cst_3, val_main_cst_4, val_main_cst_5, val_main_cst_6, val_main_cst_7, val_main_cst_8, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  rfl

/-- The reference's array of the first moments. -/
theorem ref_m (p : S8x2x256.Idx → EReal) (x : S1x2x256.Idx → EReal) : (val_main_v6 (F := Ideal) p x : S1x2x256.Idx → EReal) = Cert.Adam.moment (Cert.Adam.total p) x := by
  funext i
  pointwise [val_main_v0, val_main_v1, val_main_cst, val_main_cst_0, val_main_cst_1, val_main_cst_2, val_main_cst_3, val_main_cst_4, val_main_cst_5, val_main_cst_6, val_main_cst_7, val_main_cst_8, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  rfl

/-- The reference's array of the second moments. -/
theorem ref_v (p : S8x2x256.Idx → EReal) (y : S1x2x256.Idx → EReal) : (val_main_v12 (F := Ideal) p y : S1x2x256.Idx → EReal) = Cert.Adam.square (Cert.Adam.total p) y := by
  funext i
  pointwise [val_main_v0, val_main_v1, val_main_cst, val_main_cst_0, val_main_cst_1, val_main_cst_2, val_main_cst_3, val_main_cst_4, val_main_cst_5, val_main_cst_6, val_main_cst_7, val_main_cst_8, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  rfl

/-- The call computes the reference's results. -/
theorem algebraic : Cert.algebraic_StepLbIdeal_StepLbRefIdeal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    run_blocks m g, (θ_run _ _ _).mono (fun r h c => ?_) (Cert.StepLbRefIdeal.Value.run m' g')⟩
  obtain ⟨a0, a1, a2, a3⟩ := hargs c
  obtain ⟨r0, r1, r2, r3, rest⟩ := h c
  refine ⟨r0.trans ?_, r1.trans ?_, r2.trans ?_, r3.trans ?_, rest⟩
  · rw [val_main_v1_eq, a0]
    exact (ref_g _).trans (array_g m c).symm
  · rw [val_main_v25_eq, a0, a1, a2, a3]
    exact (ref_d _ _ _ _).trans (array_d m c).symm
  · rw [val_main_v6_eq, a0, a2]
    exact (ref_m _ _).trans (array_m m c).symm
  · rw [val_main_v12_eq, a0, a3]
    exact (ref_v _ _).trans (array_v m c).symm

/-- The idealization replaces nothing. -/
theorem preserves : Cert.preserves_StepLb_StepLbIdeal := trivial

end Cert.StepLbIdeal.Proof

namespace Cert.StepLbRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => (h c).2.2.2.2, sem_eq_zero_of_no_sems (by decide) r.2⟩) (Value.run m g)

end Cert.StepLbRefIdeal.Proof

end
-- ==== Proof.StepGate.lean ====
module

public import proofs.«01_k».proof.Defs
public import proofs.«01_k».proof.Proof.Gen.StepGate.Frame
public import proofs.«01_k».proof.Proof.Gen.StepGateIdeal.Value
public import proofs.«01_k».proof.Proof.Gen.StepGateRefIdeal.Run
public import proofs.«01_k».proof.Proof.Gen.StepGateRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead
public import proofs.«01_k».proof.Proof.Adam

@[expose] public section

/-!
  The optimiser's step for the per-layer embeddings' gates: each layer's senders' gradients summed,
  the two moments, and the change of the weights, a block of 128 rows of one layer at each grid point.
-/

set_option maxRecDepth 16384

noncomputable section

namespace Cert.StepGateIdeal.Proof

open Cert.StepGateIdeal Cert.StepGateIdeal.Gen Cert.StepGateIdeal.Value Idealize.ShloMosaic Idealize.ShloMosaic.TcCoe Idealize.SL.Sem
open Cert.StepGateRefIdeal.Read

variable (m : (ℓ : Loc nD τ sig) → Buf (Elt Ideal) ℓ) (c : Dev nD)

/-- The first layer's senders' blocks at a grid point. -/
abbrev parts₀ (t : Fin cfg0.N) : Vec Ideal S8x128x2048 .bf16 := iblk m c 0 t

/-- The second layer's senders' blocks at a grid point. -/
abbrev parts₁ (t : Fin cfg0.N) : Vec Ideal S8x128x2048 .bf16 := iblk m c 1 t

section

variable (t : Fin cfg0.N) (u : Fin 1) (r : Fin 128) (k : Fin 2048) (i : S2x256x2048.Idx)
  (h0 : (i 0).val = t.val / 2) (h1 : (i 1).val = t.val % 2 * 128 + r.val) (h2 : (i 2).val = k.val)
include h0 h1 h2

/-- The senders' entries of a grid point of the first layer, summed. -/
theorem at_p₀ (h : t.val < 2) : ∑ s : Fin 8, (parts₀ m c t (ix3 s r k) : EReal) = (Cert.Adam.total₂ (n₀ := 8) (n₁ := 8) (m (c.tc.loc main_arg0)) (m (c.tc.loc main_arg1))) i := by
  have e : ∀ t : Fin grid0.N, t.val < 2 → win0_0.index t 0 = 0 ∧ win0_0.index t 1 = t.val % 2 ∧ win0_0.index t 2 = 0 := by decide +kernel
  refine Eq.trans ?_ (if_pos (by omega)).symm
  refine Finset.sum_congr rfl fun s _ => ?_
  refine (congrFun (congrArg (((cfg0.win 0).blk t).view.read (Elt Ideal)) (V_main_arg0 m c)) _).trans ?_
  show ((m (c.tc.loc main_arg0)) : S8x256x2048.Idx → EReal) _ = ((m (c.tc.loc main_arg0)) : S8x256x2048.Idx → EReal) _
  blk_ext [e t h, h1, h2]

/-- The senders' entries of a grid point of the second layer, summed. -/
theorem at_p₁ (h : 2 ≤ t.val) : ∑ s : Fin 8, (parts₁ m c t (ix3 s r k) : EReal) = (Cert.Adam.total₂ (n₀ := 8) (n₁ := 8) (m (c.tc.loc main_arg0)) (m (c.tc.loc main_arg1))) i := by
  have e : ∀ t : Fin grid0.N, 2 ≤ t.val → win0_1.index t 0 = 0 ∧ win0_1.index t 1 = t.val % 2 ∧ win0_1.index t 2 = 0 := by decide +kernel
  refine Eq.trans ?_ (if_neg (by omega)).symm
  refine Finset.sum_congr rfl fun s _ => ?_
  refine (congrFun (congrArg (((cfg0.win 1).blk t).view.read (Elt Ideal)) (V_main_arg1 m c)) _).trans ?_
  show ((m (c.tc.loc main_arg1)) : S8x256x2048.Idx → EReal) _ = ((m (c.tc.loc main_arg1)) : S8x256x2048.Idx → EReal) _
  blk_ext [e t h, h1, h2]

/-- The weights at a grid point. -/
theorem at_w : (iblk m c 2 t : Vec Ideal S1x128x2048 .f32) (ix3 0 r k) = (m (c.tc.loc main_arg2) : S2x256x2048.Idx → EReal) i := by
  have e : ∀ t : Fin grid0.N, win0_2.index t 0 = t.val / 2 ∧ win0_2.index t 1 = t.val % 2 ∧ win0_2.index t 2 = 0 := by decide +kernel
  refine (congrFun (congrArg (((cfg0.win 2).blk t).view.read (Elt Ideal)) (V_main_arg2 m c)) _).trans ?_
  show (m (c.tc.loc main_arg2) : S2x256x2048.Idx → EReal) _ = (m (c.tc.loc main_arg2) : S2x256x2048.Idx → EReal) _
  blk_ext [e t, h0, h1, h2]

/-- The first moments at a grid point. -/
theorem at_x : (iblk m c 3 t : Vec Ideal S1x128x2048 .f32) (ix3 0 r k) = (m (c.tc.loc main_arg3) : S2x256x2048.Idx → EReal) i := by
  have e : ∀ t : Fin grid0.N, win0_3.index t 0 = t.val / 2 ∧ win0_3.index t 1 = t.val % 2 ∧ win0_3.index t 2 = 0 := by decide +kernel
  refine (congrFun (congrArg (((cfg0.win 3).blk t).view.read (Elt Ideal)) (V_main_arg3 m c)) _).trans ?_
  show (m (c.tc.loc main_arg3) : S2x256x2048.Idx → EReal) _ = (m (c.tc.loc main_arg3) : S2x256x2048.Idx → EReal) _
  blk_ext [e t, h0, h1, h2]

/-- The second moments at a grid point. -/
theorem at_y : (iblk m c 4 t : Vec Ideal S1x128x2048 .f32) (ix3 0 r k) = (m (c.tc.loc main_arg4) : S2x256x2048.Idx → EReal) i := by
  have e : ∀ t : Fin grid0.N, win0_4.index t 0 = t.val / 2 ∧ win0_4.index t 1 = t.val % 2 ∧ win0_4.index t 2 = 0 := by decide +kernel
  refine (congrFun (congrArg (((cfg0.win 4).blk t).view.read (Elt Ideal)) (V_main_arg4 m c)) _).trans ?_
  show (m (c.tc.loc main_arg4) : S2x256x2048.Idx → EReal) _ = (m (c.tc.loc main_arg4) : S2x256x2048.Idx → EReal) _
  blk_ext [e t, h0, h1, h2]

/-- What a grid point leaves for the summed gradient. -/
theorem left_g : (((outsAt0 m c t.val t.isLt).1) : Vec Ideal S1x128x2048 .f32) (ix3 u r k) = Cert.Adam.total₂ (n₀ := 8) (n₁ := 8) (m (c.tc.loc main_arg0)) (m (c.tc.loc main_arg1)) i := by
  obtain rfl : u = 0 := Subsingleton.elim _ _
  have := lt_of_lt_of_eq t.isLt (show cfg0.N = 4 from rfl)
  rcases lt_or_ge t.val 2 with h | h
  · refine Eq.trans ?_ (at_p₀ m c t r k i h0 h1 h2 h)
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (at_p₁ m c t r k i h0 h1 h2 h)
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

/-- What a grid point leaves for the change of the weights. -/
theorem left_d : (((outsAt0 m c t.val t.isLt).2.1) : Vec Ideal S1x128x2048 .f32) (ix3 u r k) = Cert.Adam.delta (Cert.Adam.total₂ (n₀ := 8) (n₁ := 8) (m (c.tc.loc main_arg0)) (m (c.tc.loc main_arg1))) (m (c.tc.loc main_arg2)) (m (c.tc.loc main_arg3)) (m (c.tc.loc main_arg4)) i := by
  obtain rfl : u = 0 := Subsingleton.elim _ _
  have := lt_of_lt_of_eq t.isLt (show cfg0.N = 4 from rfl)
  rcases lt_or_ge t.val 2 with h | h
  · refine Eq.trans ?_ (Cert.Adam.change_congr (at_w m c t r k i h0 h1 h2) (congrArg₂ Cert.Adam.first (at_x m c t r k i h0 h1 h2) (at_p₀ m c t r k i h0 h1 h2 h)) (congrArg₂ Cert.Adam.second (at_y m c t r k i h0 h1 h2) (at_p₀ m c t r k i h0 h1 h2 h)))
    unfold Cert.Adam.change Cert.Adam.first Cert.Adam.second
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (Cert.Adam.change_congr (at_w m c t r k i h0 h1 h2) (congrArg₂ Cert.Adam.first (at_x m c t r k i h0 h1 h2) (at_p₁ m c t r k i h0 h1 h2 h)) (congrArg₂ Cert.Adam.second (at_y m c t r k i h0 h1 h2) (at_p₁ m c t r k i h0 h1 h2 h)))
    unfold Cert.Adam.change Cert.Adam.first Cert.Adam.second
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

/-- What a grid point leaves for the first moments. -/
theorem left_m : (((outsAt0 m c t.val t.isLt).2.2.1) : Vec Ideal S1x128x2048 .f32) (ix3 u r k) = Cert.Adam.moment (Cert.Adam.total₂ (n₀ := 8) (n₁ := 8) (m (c.tc.loc main_arg0)) (m (c.tc.loc main_arg1))) (m (c.tc.loc main_arg3)) i := by
  obtain rfl : u = 0 := Subsingleton.elim _ _
  have := lt_of_lt_of_eq t.isLt (show cfg0.N = 4 from rfl)
  rcases lt_or_ge t.val 2 with h | h
  · refine Eq.trans ?_ (congrArg₂ Cert.Adam.first (at_x m c t r k i h0 h1 h2) (at_p₀ m c t r k i h0 h1 h2 h))
    unfold Cert.Adam.first
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (congrArg₂ Cert.Adam.first (at_x m c t r k i h0 h1 h2) (at_p₁ m c t r k i h0 h1 h2 h))
    unfold Cert.Adam.first
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

/-- What a grid point leaves for the second moments. -/
theorem left_v : (((outsAt0 m c t.val t.isLt).2.2.2) : Vec Ideal S1x128x2048 .f32) (ix3 u r k) = Cert.Adam.square (Cert.Adam.total₂ (n₀ := 8) (n₁ := 8) (m (c.tc.loc main_arg0)) (m (c.tc.loc main_arg1))) (m (c.tc.loc main_arg4)) i := by
  obtain rfl : u = 0 := Subsingleton.elim _ _
  have := lt_of_lt_of_eq t.isLt (show cfg0.N = 4 from rfl)
  rcases lt_or_ge t.val 2 with h | h
  · refine Eq.trans ?_ (congrArg₂ Cert.Adam.second (at_y m c t r k i h0 h1 h2) (at_p₀ m c t r k i h0 h1 h2 h))
    unfold Cert.Adam.second
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (congrArg₂ Cert.Adam.second (at_y m c t r k i h0 h1 h2) (at_p₁ m c t r k i h0 h1 h2 h))
    unfold Cert.Adam.second
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

end

/-- The array of the summed gradient after the run. -/
theorem array_g : (dats m 0 c).arrAt 5 cfg0.N = Cert.Adam.total₂ (n₀ := 8) (n₁ := 8) (m (c.tc.loc main_arg0)) (m (c.tc.loc main_arg1)) := by
  have e : ∀ t : Fin grid0.N, win0_5.index t 0 = t.val / 2 ∧ win0_5.index t 1 = t.val % 2 ∧ win0_5.index t 2 = 0 := by decide +kernel
  refine (dats m 0 c).arrAt_eq_of_covers 5 _ (by decide +kernel) (fun t hf y => ?_)
  blk_simp
  rw [after0_5, show y = ix3 (y 0) (y 1) (y 2) from by funext a; fin_cases a <;> rfl]
  refine left_g m c t (y 0) (y 1) (y 2) _ ?_ ?_ ?_
  · blk_simp
    rw [(e t).1]
  · blk_simp
    rw [(e t).2.1]
  · blk_simp
    rw [(e t).2.2]
    omega

/-- The array of the change of the weights after the run. -/
theorem array_d : (dats m 0 c).arrAt 6 cfg0.N = Cert.Adam.delta (Cert.Adam.total₂ (n₀ := 8) (n₁ := 8) (m (c.tc.loc main_arg0)) (m (c.tc.loc main_arg1))) (m (c.tc.loc main_arg2)) (m (c.tc.loc main_arg3)) (m (c.tc.loc main_arg4)) := by
  have e : ∀ t : Fin grid0.N, win0_6.index t 0 = t.val / 2 ∧ win0_6.index t 1 = t.val % 2 ∧ win0_6.index t 2 = 0 := by decide +kernel
  refine (dats m 0 c).arrAt_eq_of_covers 6 _ (by decide +kernel) (fun t hf y => ?_)
  blk_simp
  rw [after0_6, show y = ix3 (y 0) (y 1) (y 2) from by funext a; fin_cases a <;> rfl]
  refine left_d m c t (y 0) (y 1) (y 2) _ ?_ ?_ ?_
  · blk_simp
    rw [(e t).1]
  · blk_simp
    rw [(e t).2.1]
  · blk_simp
    rw [(e t).2.2]
    omega

/-- The array of the first moments after the run. -/
theorem array_m : (dats m 0 c).arrAt 7 cfg0.N = Cert.Adam.moment (Cert.Adam.total₂ (n₀ := 8) (n₁ := 8) (m (c.tc.loc main_arg0)) (m (c.tc.loc main_arg1))) (m (c.tc.loc main_arg3)) := by
  have e : ∀ t : Fin grid0.N, win0_7.index t 0 = t.val / 2 ∧ win0_7.index t 1 = t.val % 2 ∧ win0_7.index t 2 = 0 := by decide +kernel
  refine (dats m 0 c).arrAt_eq_of_covers 7 _ (by decide +kernel) (fun t hf y => ?_)
  blk_simp
  rw [after0_7, show y = ix3 (y 0) (y 1) (y 2) from by funext a; fin_cases a <;> rfl]
  refine left_m m c t (y 0) (y 1) (y 2) _ ?_ ?_ ?_
  · blk_simp
    rw [(e t).1]
  · blk_simp
    rw [(e t).2.1]
  · blk_simp
    rw [(e t).2.2]
    omega

/-- The array of the second moments after the run. -/
theorem array_v : (dats m 0 c).arrAt 8 cfg0.N = Cert.Adam.square (Cert.Adam.total₂ (n₀ := 8) (n₁ := 8) (m (c.tc.loc main_arg0)) (m (c.tc.loc main_arg1))) (m (c.tc.loc main_arg4)) := by
  have e : ∀ t : Fin grid0.N, win0_8.index t 0 = t.val / 2 ∧ win0_8.index t 1 = t.val % 2 ∧ win0_8.index t 2 = 0 := by decide +kernel
  refine (dats m 0 c).arrAt_eq_of_covers 8 _ (by decide +kernel) (fun t hf y => ?_)
  blk_simp
  rw [after0_8, show y = ix3 (y 0) (y 1) (y 2) from by funext a; fin_cases a <;> rfl]
  refine left_v m c t (y 0) (y 1) (y 2) _ ?_ ?_ ?_
  · blk_simp
    rw [(e t).1]
  · blk_simp
    rw [(e t).2.1]
  · blk_simp
    rw [(e t).2.2]
    omega

/-- The reference's array of the summed gradient. -/
theorem ref_g (p : S8x256x2048.Idx → EReal) (q : S8x256x2048.Idx → EReal) : (val_main_v6 (F := Ideal) p q : S2x256x2048.Idx → EReal) = Cert.Adam.total₂ p q := by
  funext i
  have hi := lt_of_lt_of_eq (i 0).isLt (show S2x256x2048.size 0 = 2 from rfl)
  pointwise [val_main_v0, val_main_v1, val_main_v2, val_main_v3, val_main_v4, val_main_v5, val_main_v6, val_main_cst, val_main_cst_0]
  unfold Cert.Adam.total₂
  by_cases h : (i 0).val = 0
  · rw [dif_pos (by omega), if_pos h]
  · rw [dif_neg (by omega), if_neg h]

/-- The reference's array of the change of the weights. -/
theorem ref_d (p : S8x256x2048.Idx → EReal) (q : S8x256x2048.Idx → EReal) (w x y : S2x256x2048.Idx → EReal) : (val_main_v30 (F := Ideal) p q w x y : S2x256x2048.Idx → EReal) = Cert.Adam.delta (Cert.Adam.total₂ p q) w x y := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The reference's array of the first moments. -/
theorem ref_m (p : S8x256x2048.Idx → EReal) (q : S8x256x2048.Idx → EReal) (x : S2x256x2048.Idx → EReal) : (val_main_v11 (F := Ideal) p q x : S2x256x2048.Idx → EReal) = Cert.Adam.moment (Cert.Adam.total₂ p q) x := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The reference's array of the second moments. -/
theorem ref_v (p : S8x256x2048.Idx → EReal) (q : S8x256x2048.Idx → EReal) (y : S2x256x2048.Idx → EReal) : (val_main_v17 (F := Ideal) p q y : S2x256x2048.Idx → EReal) = Cert.Adam.square (Cert.Adam.total₂ p q) y := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The call computes the reference's results. -/
theorem algebraic : Cert.algebraic_StepGateIdeal_StepGateRefIdeal := by
  intro m g m' g' _ hargs
  refine ⟨fun c => (dats m 0 c).arrAt 5 cfg0.N, fun c => (dats m 0 c).arrAt 6 cfg0.N, fun c => (dats m 0 c).arrAt 7 cfg0.N, fun c => (dats m 0 c).arrAt 8 cfg0.N,
    run_blocks m g, (θ_run _ _ _).mono (fun r h c => ?_) (Cert.StepGateRefIdeal.Value.run m' g')⟩
  obtain ⟨a0, a1, a2, a3, a4⟩ := hargs c
  obtain ⟨r0, r1, r2, r3, rest⟩ := h c
  refine ⟨r0.trans ?_, r1.trans ?_, r2.trans ?_, r3.trans ?_, rest⟩
  · rw [val_main_v6_eq, a0, a1]
    exact (ref_g _ _).trans (array_g m c).symm
  · rw [val_main_v30_eq, a0, a1, a2, a3, a4]
    exact (ref_d _ _ _ _ _).trans (array_d m c).symm
  · rw [val_main_v11_eq, a0, a1, a3]
    exact (ref_m _ _ _).trans (array_m m c).symm
  · rw [val_main_v17_eq, a0, a1, a4]
    exact (ref_v _ _ _).trans (array_v m c).symm

/-- The idealization replaces nothing. -/
theorem preserves : Cert.preserves_StepGate_StepGateIdeal := trivial

end Cert.StepGateIdeal.Proof

namespace Cert.StepGateRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run defs _ _).mono (fun r h => ⟨fun c => (h c).2.2.2.2, sem_eq_zero_of_no_sems (by decide) r.2⟩) (Value.run m g)

end Cert.StepGateRefIdeal.Proof

end
-- ==== Proof.StepPle.lean ====
module

public import proofs.«01_k».proof.Defs
public import proofs.«01_k».proof.Proof.Gen.StepPle.Frame
public import proofs.«01_k».proof.Proof.Gen.StepPleIdeal.Value
public import proofs.«01_k».proof.Proof.Gen.StepPleRefIdeal.Run
public import proofs.«01_k».proof.Proof.Gen.StepPleRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead
public import proofs.«01_k».proof.Proof.Adam

@[expose] public section

/-!
  The optimiser's step for the per-layer embeddings' second matrices: each layer's senders' gradients summed,
  the two moments, and the change of the weights, a block of 256 rows of one layer at each grid point.
-/

set_option maxRecDepth 16384

noncomputable section

namespace Cert.StepPleIdeal.Proof

open Cert.StepPleIdeal Cert.StepPleIdeal.Gen Cert.StepPleIdeal.Value Idealize.ShloMosaic Idealize.ShloMosaic.TcCoe Idealize.SL.Sem
open Cert.StepPleRefIdeal.Read

variable (m : (ℓ : Loc nD τ sig) → Buf (Elt Ideal) ℓ) (c : Dev nD)

/-- The first layer's senders' blocks at a grid point. -/
abbrev parts₀ (t : Fin cfg0.N) : Vec Ideal S8x256x256 .bf16 := iblk m c 0 t

/-- The second layer's senders' blocks at a grid point. -/
abbrev parts₁ (t : Fin cfg0.N) : Vec Ideal S8x256x256 .bf16 := iblk m c 1 t

section

variable (t : Fin cfg0.N) (u : Fin 1) (r : Fin 256) (k : Fin 256) (i : S2x256x256.Idx)
  (h0 : (i 0).val = t.val / 1) (h1 : (i 1).val = t.val % 1 * 256 + r.val) (h2 : (i 2).val = k.val)
include h0 h1 h2

/-- The senders' entries of a grid point of the first layer, summed. -/
theorem at_p₀ (h : t.val < 1) : ∑ s : Fin 8, (parts₀ m c t (ix3 s r k) : EReal) = (Cert.Adam.total₂ (n₀ := 8) (n₁ := 8) (m (c.tc.loc main_arg0)) (m (c.tc.loc main_arg1))) i := by
  have e : ∀ t : Fin grid0.N, t.val < 1 → win0_0.index t 0 = 0 ∧ win0_0.index t 1 = t.val % 1 ∧ win0_0.index t 2 = 0 := by decide +kernel
  refine Eq.trans ?_ (if_pos (by omega)).symm
  refine Finset.sum_congr rfl fun s _ => ?_
  refine (congrFun (congrArg (((cfg0.win 0).blk t).view.read (Elt Ideal)) (V_main_arg0 m c)) _).trans ?_
  show ((m (c.tc.loc main_arg0)) : S8x256x256.Idx → EReal) _ = ((m (c.tc.loc main_arg0)) : S8x256x256.Idx → EReal) _
  blk_ext [e t h, h1, h2]

/-- The senders' entries of a grid point of the second layer, summed. -/
theorem at_p₁ (h : 1 ≤ t.val) : ∑ s : Fin 8, (parts₁ m c t (ix3 s r k) : EReal) = (Cert.Adam.total₂ (n₀ := 8) (n₁ := 8) (m (c.tc.loc main_arg0)) (m (c.tc.loc main_arg1))) i := by
  have e : ∀ t : Fin grid0.N, 1 ≤ t.val → win0_1.index t 0 = 0 ∧ win0_1.index t 1 = t.val % 1 ∧ win0_1.index t 2 = 0 := by decide +kernel
  refine Eq.trans ?_ (if_neg (by omega)).symm
  refine Finset.sum_congr rfl fun s _ => ?_
  refine (congrFun (congrArg (((cfg0.win 1).blk t).view.read (Elt Ideal)) (V_main_arg1 m c)) _).trans ?_
  show ((m (c.tc.loc main_arg1)) : S8x256x256.Idx → EReal) _ = ((m (c.tc.loc main_arg1)) : S8x256x256.Idx → EReal) _
  blk_ext [e t h, h1, h2]

/-- The weights at a grid point. -/
theorem at_w : (iblk m c 2 t : Vec Ideal S1x256x256 .f32) (ix3 0 r k) = (m (c.tc.loc main_arg2) : S2x256x256.Idx → EReal) i := by
  have e : ∀ t : Fin grid0.N, win0_2.index t 0 = t.val / 1 ∧ win0_2.index t 1 = t.val % 1 ∧ win0_2.index t 2 = 0 := by decide +kernel
  refine (congrFun (congrArg (((cfg0.win 2).blk t).view.read (Elt Ideal)) (V_main_arg2 m c)) _).trans ?_
  show (m (c.tc.loc main_arg2) : S2x256x256.Idx → EReal) _ = (m (c.tc.loc main_arg2) : S2x256x256.Idx → EReal) _
  blk_ext [e t, h0, h1, h2]

/-- The first moments at a grid point. -/
theorem at_x : (iblk m c 3 t : Vec Ideal S1x256x256 .f32) (ix3 0 r k) = (m (c.tc.loc main_arg3) : S2x256x256.Idx → EReal) i := by
  have e : ∀ t : Fin grid0.N, win0_3.index t 0 = t.val / 1 ∧ win0_3.index t 1 = t.val % 1 ∧ win0_3.index t 2 = 0 := by decide +kernel
  refine (congrFun (congrArg (((cfg0.win 3).blk t).view.read (Elt Ideal)) (V_main_arg3 m c)) _).trans ?_
  show (m (c.tc.loc main_arg3) : S2x256x256.Idx → EReal) _ = (m (c.tc.loc main_arg3) : S2x256x256.Idx → EReal) _
  blk_ext [e t, h0, h1, h2]

/-- The second moments at a grid point. -/
theorem at_y : (iblk m c 4 t : Vec Ideal S1x256x256 .f32) (ix3 0 r k) = (m (c.tc.loc main_arg4) : S2x256x256.Idx → EReal) i := by
  have e : ∀ t : Fin grid0.N, win0_4.index t 0 = t.val / 1 ∧ win0_4.index t 1 = t.val % 1 ∧ win0_4.index t 2 = 0 := by decide +kernel
  refine (congrFun (congrArg (((cfg0.win 4).blk t).view.read (Elt Ideal)) (V_main_arg4 m c)) _).trans ?_
  show (m (c.tc.loc main_arg4) : S2x256x256.Idx → EReal) _ = (m (c.tc.loc main_arg4) : S2x256x256.Idx → EReal) _
  blk_ext [e t, h0, h1, h2]

/-- What a grid point leaves for the summed gradient. -/
theorem left_g : (((outsAt0 m c t.val t.isLt).1) : Vec Ideal S1x256x256 .f32) (ix3 u r k) = Cert.Adam.total₂ (n₀ := 8) (n₁ := 8) (m (c.tc.loc main_arg0)) (m (c.tc.loc main_arg1)) i := by
  obtain rfl : u = 0 := Subsingleton.elim _ _
  have := lt_of_lt_of_eq t.isLt (show cfg0.N = 2 from rfl)
  rcases lt_or_ge t.val 1 with h | h
  · refine Eq.trans ?_ (at_p₀ m c t r k i h0 h1 h2 h)
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (at_p₁ m c t r k i h0 h1 h2 h)
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

/-- What a grid point leaves for the change of the weights. -/
theorem left_d : (((outsAt0 m c t.val t.isLt).2.1) : Vec Ideal S1x256x256 .f32) (ix3 u r k) = Cert.Adam.delta (Cert.Adam.total₂ (n₀ := 8) (n₁ := 8) (m (c.tc.loc main_arg0)) (m (c.tc.loc main_arg1))) (m (c.tc.loc main_arg2)) (m (c.tc.loc main_arg3)) (m (c.tc.loc main_arg4)) i := by
  obtain rfl : u = 0 := Subsingleton.elim _ _
  have := lt_of_lt_of_eq t.isLt (show cfg0.N = 2 from rfl)
  rcases lt_or_ge t.val 1 with h | h
  · refine Eq.trans ?_ (Cert.Adam.change_congr (at_w m c t r k i h0 h1 h2) (congrArg₂ Cert.Adam.first (at_x m c t r k i h0 h1 h2) (at_p₀ m c t r k i h0 h1 h2 h)) (congrArg₂ Cert.Adam.second (at_y m c t r k i h0 h1 h2) (at_p₀ m c t r k i h0 h1 h2 h)))
    unfold Cert.Adam.change Cert.Adam.first Cert.Adam.second
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (Cert.Adam.change_congr (at_w m c t r k i h0 h1 h2) (congrArg₂ Cert.Adam.first (at_x m c t r k i h0 h1 h2) (at_p₁ m c t r k i h0 h1 h2 h)) (congrArg₂ Cert.Adam.second (at_y m c t r k i h0 h1 h2) (at_p₁ m c t r k i h0 h1 h2 h)))
    unfold Cert.Adam.change Cert.Adam.first Cert.Adam.second
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

/-- What a grid point leaves for the first moments. -/
theorem left_m : (((outsAt0 m c t.val t.isLt).2.2.1) : Vec Ideal S1x256x256 .f32) (ix3 u r k) = Cert.Adam.moment (Cert.Adam.total₂ (n₀ := 8) (n₁ := 8) (m (c.tc.loc main_arg0)) (m (c.tc.loc main_arg1))) (m (c.tc.loc main_arg3)) i := by
  obtain rfl : u = 0 := Subsingleton.elim _ _
  have := lt_of_lt_of_eq t.isLt (show cfg0.N = 2 from rfl)
  rcases lt_or_ge t.val 1 with h | h
  · refine Eq.trans ?_ (congrArg₂ Cert.Adam.first (at_x m c t r k i h0 h1 h2) (at_p₀ m c t r k i h0 h1 h2 h))
    unfold Cert.Adam.first
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (congrArg₂ Cert.Adam.first (at_x m c t r k i h0 h1 h2) (at_p₁ m c t r k i h0 h1 h2 h))
    unfold Cert.Adam.first
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

/-- What a grid point leaves for the second moments. -/
theorem left_v : (((outsAt0 m c t.val t.isLt).2.2.2) : Vec Ideal S1x256x256 .f32) (ix3 u r k) = Cert.Adam.square (Cert.Adam.total₂ (n₀ := 8) (n₁ := 8) (m (c.tc.loc main_arg0)) (m (c.tc.loc main_arg1))) (m (c.tc.loc main_arg4)) i := by
  obtain rfl : u = 0 := Subsingleton.elim _ _
  have := lt_of_lt_of_eq t.isLt (show cfg0.N = 2 from rfl)
  rcases lt_or_ge t.val 1 with h | h
  · refine Eq.trans ?_ (congrArg₂ Cert.Adam.second (at_y m c t r k i h0 h1 h2) (at_p₀ m c t r k i h0 h1 h2 h))
    unfold Cert.Adam.second
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (congrArg₂ Cert.Adam.second (at_y m c t r k i h0 h1 h2) (at_p₁ m c t r k i h0 h1 h2 h))
    unfold Cert.Adam.second
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

end

/-- The array of the summed gradient after the run. -/
theorem array_g : (dats m 0 c).arrAt 5 cfg0.N = Cert.Adam.total₂ (n₀ := 8) (n₁ := 8) (m (c.tc.loc main_arg0)) (m (c.tc.loc main_arg1)) := by
  have e : ∀ t : Fin grid0.N, win0_5.index t 0 = t.val / 1 ∧ win0_5.index t 1 = t.val % 1 ∧ win0_5.index t 2 = 0 := by decide +kernel
  refine (dats m 0 c).arrAt_eq_of_covers 5 _ (by decide +kernel) (fun t hf y => ?_)
  blk_simp
  rw [after0_5, show y = ix3 (y 0) (y 1) (y 2) from by funext a; fin_cases a <;> rfl]
  refine left_g m c t (y 0) (y 1) (y 2) _ ?_ ?_ ?_
  · blk_simp
    rw [(e t).1]
  · blk_simp
    rw [(e t).2.1]
  · blk_simp
    rw [(e t).2.2]
    omega

/-- The array of the change of the weights after the run. -/
theorem array_d : (dats m 0 c).arrAt 6 cfg0.N = Cert.Adam.delta (Cert.Adam.total₂ (n₀ := 8) (n₁ := 8) (m (c.tc.loc main_arg0)) (m (c.tc.loc main_arg1))) (m (c.tc.loc main_arg2)) (m (c.tc.loc main_arg3)) (m (c.tc.loc main_arg4)) := by
  have e : ∀ t : Fin grid0.N, win0_6.index t 0 = t.val / 1 ∧ win0_6.index t 1 = t.val % 1 ∧ win0_6.index t 2 = 0 := by decide +kernel
  refine (dats m 0 c).arrAt_eq_of_covers 6 _ (by decide +kernel) (fun t hf y => ?_)
  blk_simp
  rw [after0_6, show y = ix3 (y 0) (y 1) (y 2) from by funext a; fin_cases a <;> rfl]
  refine left_d m c t (y 0) (y 1) (y 2) _ ?_ ?_ ?_
  · blk_simp
    rw [(e t).1]
  · blk_simp
    rw [(e t).2.1]
  · blk_simp
    rw [(e t).2.2]
    omega

/-- The array of the first moments after the run. -/
theorem array_m : (dats m 0 c).arrAt 7 cfg0.N = Cert.Adam.moment (Cert.Adam.total₂ (n₀ := 8) (n₁ := 8) (m (c.tc.loc main_arg0)) (m (c.tc.loc main_arg1))) (m (c.tc.loc main_arg3)) := by
  have e : ∀ t : Fin grid0.N, win0_7.index t 0 = t.val / 1 ∧ win0_7.index t 1 = t.val % 1 ∧ win0_7.index t 2 = 0 := by decide +kernel
  refine (dats m 0 c).arrAt_eq_of_covers 7 _ (by decide +kernel) (fun t hf y => ?_)
  blk_simp
  rw [after0_7, show y = ix3 (y 0) (y 1) (y 2) from by funext a; fin_cases a <;> rfl]
  refine left_m m c t (y 0) (y 1) (y 2) _ ?_ ?_ ?_
  · blk_simp
    rw [(e t).1]
  · blk_simp
    rw [(e t).2.1]
  · blk_simp
    rw [(e t).2.2]
    omega

/-- The array of the second moments after the run. -/
theorem array_v : (dats m 0 c).arrAt 8 cfg0.N = Cert.Adam.square (Cert.Adam.total₂ (n₀ := 8) (n₁ := 8) (m (c.tc.loc main_arg0)) (m (c.tc.loc main_arg1))) (m (c.tc.loc main_arg4)) := by
  have e : ∀ t : Fin grid0.N, win0_8.index t 0 = t.val / 1 ∧ win0_8.index t 1 = t.val % 1 ∧ win0_8.index t 2 = 0 := by decide +kernel
  refine (dats m 0 c).arrAt_eq_of_covers 8 _ (by decide +kernel) (fun t hf y => ?_)
  blk_simp
  rw [after0_8, show y = ix3 (y 0) (y 1) (y 2) from by funext a; fin_cases a <;> rfl]
  refine left_v m c t (y 0) (y 1) (y 2) _ ?_ ?_ ?_
  · blk_simp
    rw [(e t).1]
  · blk_simp
    rw [(e t).2.1]
  · blk_simp
    rw [(e t).2.2]
    omega

/-- The reference's array of the summed gradient. -/
theorem ref_g (p : S8x256x256.Idx → EReal) (q : S8x256x256.Idx → EReal) : (val_main_v6 (F := Ideal) p q : S2x256x256.Idx → EReal) = Cert.Adam.total₂ p q := by
  funext i
  have hi := lt_of_lt_of_eq (i 0).isLt (show S2x256x256.size 0 = 2 from rfl)
  pointwise [val_main_v0, val_main_v1, val_main_v2, val_main_v3, val_main_v4, val_main_v5, val_main_v6, val_main_cst, val_main_cst_0]
  unfold Cert.Adam.total₂
  by_cases h : (i 0).val = 0
  · rw [dif_pos (by omega), if_pos h]
  · rw [dif_neg (by omega), if_neg h]

/-- The reference's array of the change of the weights. -/
theorem ref_d (p : S8x256x256.Idx → EReal) (q : S8x256x256.Idx → EReal) (w x y : S2x256x256.Idx → EReal) : (val_main_v30 (F := Ideal) p q w x y : S2x256x256.Idx → EReal) = Cert.Adam.delta (Cert.Adam.total₂ p q) w x y := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The reference's array of the first moments. -/
theorem ref_m (p : S8x256x256.Idx → EReal) (q : S8x256x256.Idx → EReal) (x : S2x256x256.Idx → EReal) : (val_main_v11 (F := Ideal) p q x : S2x256x256.Idx → EReal) = Cert.Adam.moment (Cert.Adam.total₂ p q) x := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The reference's array of the second moments. -/
theorem ref_v (p : S8x256x256.Idx → EReal) (q : S8x256x256.Idx → EReal) (y : S2x256x256.Idx → EReal) : (val_main_v17 (F := Ideal) p q y : S2x256x256.Idx → EReal) = Cert.Adam.square (Cert.Adam.total₂ p q) y := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The call computes the reference's results. -/
theorem algebraic : Cert.algebraic_StepPleIdeal_StepPleRefIdeal := by
  intro m g m' g' _ hargs
  refine ⟨fun c => (dats m 0 c).arrAt 5 cfg0.N, fun c => (dats m 0 c).arrAt 6 cfg0.N, fun c => (dats m 0 c).arrAt 7 cfg0.N, fun c => (dats m 0 c).arrAt 8 cfg0.N,
    run_blocks m g, (θ_run _ _ _).mono (fun r h c => ?_) (Cert.StepPleRefIdeal.Value.run m' g')⟩
  obtain ⟨a0, a1, a2, a3, a4⟩ := hargs c
  obtain ⟨r0, r1, r2, r3, rest⟩ := h c
  refine ⟨r0.trans ?_, r1.trans ?_, r2.trans ?_, r3.trans ?_, rest⟩
  · rw [val_main_v6_eq, a0, a1]
    exact (ref_g _ _).trans (array_g m c).symm
  · rw [val_main_v30_eq, a0, a1, a2, a3, a4]
    exact (ref_d _ _ _ _ _).trans (array_d m c).symm
  · rw [val_main_v11_eq, a0, a1, a3]
    exact (ref_m _ _ _).trans (array_m m c).symm
  · rw [val_main_v17_eq, a0, a1, a4]
    exact (ref_v _ _ _).trans (array_v m c).symm

/-- The idealization replaces nothing. -/
theorem preserves : Cert.preserves_StepPle_StepPleIdeal := trivial

end Cert.StepPleIdeal.Proof

namespace Cert.StepPleRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run defs _ _).mono (fun r h => ⟨fun c => (h c).2.2.2.2, sem_eq_zero_of_no_sems (by decide) r.2⟩) (Value.run m g)

end Cert.StepPleRefIdeal.Proof

end
-- ==== Proof.StepDown.lean ====
module

public import proofs.«01_k».proof.Defs
public import proofs.«01_k».proof.Proof.Gen.StepDown.Frame
public import proofs.«01_k».proof.Proof.Gen.StepDownIdeal.Value
public import proofs.«01_k».proof.Proof.Gen.StepDownRefIdeal.Run
public import proofs.«01_k».proof.Proof.Gen.StepDownRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead
public import proofs.«01_k».proof.Proof.Adam

@[expose] public section

/-!
  The optimiser's step for the MLPs' second matrices: each layer's senders' gradients summed,
  the two moments, and the change of the weights, a block of 128 rows of one layer at each grid point.
-/

set_option maxRecDepth 16384

noncomputable section

namespace Cert.StepDownIdeal.Proof

open Cert.StepDownIdeal Cert.StepDownIdeal.Gen Cert.StepDownIdeal.Value Idealize.ShloMosaic Idealize.ShloMosaic.TcCoe Idealize.SL.Sem
open Cert.StepDownRefIdeal.Read

variable (m : (ℓ : Loc nD τ sig) → Buf (Elt Ideal) ℓ) (c : Dev nD)

/-- The first layer's senders' blocks at a grid point. -/
abbrev parts₀ (t : Fin cfg0.N) : Vec Ideal S8x128x2048 .bf16 := iblk m c 0 t

/-- The second layer's senders' blocks at a grid point. -/
abbrev parts₁ (t : Fin cfg0.N) : Vec Ideal S8x128x2048 .bf16 := iblk m c 1 t

section

variable (t : Fin cfg0.N) (u : Fin 1) (r : Fin 128) (k : Fin 2048) (i : S2x1024x2048.Idx)
  (h0 : (i 0).val = t.val / 8) (h1 : (i 1).val = t.val % 8 * 128 + r.val) (h2 : (i 2).val = k.val)
include h0 h1 h2

/-- The senders' entries of a grid point of the first layer, summed. -/
theorem at_p₀ (h : t.val < 8) : ∑ s : Fin 8, (parts₀ m c t (ix3 s r k) : EReal) = (Cert.Adam.total₂ (n₀ := 8) (n₁ := 8) (m (c.tc.loc main_arg0)) (m (c.tc.loc main_arg1))) i := by
  have e : ∀ t : Fin grid0.N, t.val < 8 → win0_0.index t 0 = 0 ∧ win0_0.index t 1 = t.val % 8 ∧ win0_0.index t 2 = 0 := by decide +kernel
  refine Eq.trans ?_ (if_pos (by omega)).symm
  refine Finset.sum_congr rfl fun s _ => ?_
  refine (congrFun (congrArg (((cfg0.win 0).blk t).view.read (Elt Ideal)) (V_main_arg0 m c)) _).trans ?_
  show ((m (c.tc.loc main_arg0)) : S8x1024x2048.Idx → EReal) _ = ((m (c.tc.loc main_arg0)) : S8x1024x2048.Idx → EReal) _
  blk_ext [e t h, h1, h2]

/-- The senders' entries of a grid point of the second layer, summed. -/
theorem at_p₁ (h : 8 ≤ t.val) : ∑ s : Fin 8, (parts₁ m c t (ix3 s r k) : EReal) = (Cert.Adam.total₂ (n₀ := 8) (n₁ := 8) (m (c.tc.loc main_arg0)) (m (c.tc.loc main_arg1))) i := by
  have e : ∀ t : Fin grid0.N, 8 ≤ t.val → win0_1.index t 0 = 0 ∧ win0_1.index t 1 = t.val % 8 ∧ win0_1.index t 2 = 0 := by decide +kernel
  refine Eq.trans ?_ (if_neg (by omega)).symm
  refine Finset.sum_congr rfl fun s _ => ?_
  refine (congrFun (congrArg (((cfg0.win 1).blk t).view.read (Elt Ideal)) (V_main_arg1 m c)) _).trans ?_
  show ((m (c.tc.loc main_arg1)) : S8x1024x2048.Idx → EReal) _ = ((m (c.tc.loc main_arg1)) : S8x1024x2048.Idx → EReal) _
  blk_ext [e t h, h1, h2]

/-- The weights at a grid point. -/
theorem at_w : (iblk m c 2 t : Vec Ideal S1x128x2048 .f32) (ix3 0 r k) = (m (c.tc.loc main_arg2) : S2x1024x2048.Idx → EReal) i := by
  have e : ∀ t : Fin grid0.N, win0_2.index t 0 = t.val / 8 ∧ win0_2.index t 1 = t.val % 8 ∧ win0_2.index t 2 = 0 := by decide +kernel
  refine (congrFun (congrArg (((cfg0.win 2).blk t).view.read (Elt Ideal)) (V_main_arg2 m c)) _).trans ?_
  show (m (c.tc.loc main_arg2) : S2x1024x2048.Idx → EReal) _ = (m (c.tc.loc main_arg2) : S2x1024x2048.Idx → EReal) _
  blk_ext [e t, h0, h1, h2]

/-- The first moments at a grid point. -/
theorem at_x : (iblk m c 3 t : Vec Ideal S1x128x2048 .f32) (ix3 0 r k) = (m (c.tc.loc main_arg3) : S2x1024x2048.Idx → EReal) i := by
  have e : ∀ t : Fin grid0.N, win0_3.index t 0 = t.val / 8 ∧ win0_3.index t 1 = t.val % 8 ∧ win0_3.index t 2 = 0 := by decide +kernel
  refine (congrFun (congrArg (((cfg0.win 3).blk t).view.read (Elt Ideal)) (V_main_arg3 m c)) _).trans ?_
  show (m (c.tc.loc main_arg3) : S2x1024x2048.Idx → EReal) _ = (m (c.tc.loc main_arg3) : S2x1024x2048.Idx → EReal) _
  blk_ext [e t, h0, h1, h2]

/-- The second moments at a grid point. -/
theorem at_y : (iblk m c 4 t : Vec Ideal S1x128x2048 .f32) (ix3 0 r k) = (m (c.tc.loc main_arg4) : S2x1024x2048.Idx → EReal) i := by
  have e : ∀ t : Fin grid0.N, win0_4.index t 0 = t.val / 8 ∧ win0_4.index t 1 = t.val % 8 ∧ win0_4.index t 2 = 0 := by decide +kernel
  refine (congrFun (congrArg (((cfg0.win 4).blk t).view.read (Elt Ideal)) (V_main_arg4 m c)) _).trans ?_
  show (m (c.tc.loc main_arg4) : S2x1024x2048.Idx → EReal) _ = (m (c.tc.loc main_arg4) : S2x1024x2048.Idx → EReal) _
  blk_ext [e t, h0, h1, h2]

/-- What a grid point leaves for the summed gradient. -/
theorem left_g : (((outsAt0 m c t.val t.isLt).1) : Vec Ideal S1x128x2048 .f32) (ix3 u r k) = Cert.Adam.total₂ (n₀ := 8) (n₁ := 8) (m (c.tc.loc main_arg0)) (m (c.tc.loc main_arg1)) i := by
  obtain rfl : u = 0 := Subsingleton.elim _ _
  have := lt_of_lt_of_eq t.isLt (show cfg0.N = 16 from rfl)
  rcases lt_or_ge t.val 8 with h | h
  · refine Eq.trans ?_ (at_p₀ m c t r k i h0 h1 h2 h)
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (at_p₁ m c t r k i h0 h1 h2 h)
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

/-- What a grid point leaves for the change of the weights. -/
theorem left_d : (((outsAt0 m c t.val t.isLt).2.1) : Vec Ideal S1x128x2048 .f32) (ix3 u r k) = Cert.Adam.delta (Cert.Adam.total₂ (n₀ := 8) (n₁ := 8) (m (c.tc.loc main_arg0)) (m (c.tc.loc main_arg1))) (m (c.tc.loc main_arg2)) (m (c.tc.loc main_arg3)) (m (c.tc.loc main_arg4)) i := by
  obtain rfl : u = 0 := Subsingleton.elim _ _
  have := lt_of_lt_of_eq t.isLt (show cfg0.N = 16 from rfl)
  rcases lt_or_ge t.val 8 with h | h
  · refine Eq.trans ?_ (Cert.Adam.change_congr (at_w m c t r k i h0 h1 h2) (congrArg₂ Cert.Adam.first (at_x m c t r k i h0 h1 h2) (at_p₀ m c t r k i h0 h1 h2 h)) (congrArg₂ Cert.Adam.second (at_y m c t r k i h0 h1 h2) (at_p₀ m c t r k i h0 h1 h2 h)))
    unfold Cert.Adam.change Cert.Adam.first Cert.Adam.second
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (Cert.Adam.change_congr (at_w m c t r k i h0 h1 h2) (congrArg₂ Cert.Adam.first (at_x m c t r k i h0 h1 h2) (at_p₁ m c t r k i h0 h1 h2 h)) (congrArg₂ Cert.Adam.second (at_y m c t r k i h0 h1 h2) (at_p₁ m c t r k i h0 h1 h2 h)))
    unfold Cert.Adam.change Cert.Adam.first Cert.Adam.second
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

/-- What a grid point leaves for the first moments. -/
theorem left_m : (((outsAt0 m c t.val t.isLt).2.2.1) : Vec Ideal S1x128x2048 .f32) (ix3 u r k) = Cert.Adam.moment (Cert.Adam.total₂ (n₀ := 8) (n₁ := 8) (m (c.tc.loc main_arg0)) (m (c.tc.loc main_arg1))) (m (c.tc.loc main_arg3)) i := by
  obtain rfl : u = 0 := Subsingleton.elim _ _
  have := lt_of_lt_of_eq t.isLt (show cfg0.N = 16 from rfl)
  rcases lt_or_ge t.val 8 with h | h
  · refine Eq.trans ?_ (congrArg₂ Cert.Adam.first (at_x m c t r k i h0 h1 h2) (at_p₀ m c t r k i h0 h1 h2 h))
    unfold Cert.Adam.first
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (congrArg₂ Cert.Adam.first (at_x m c t r k i h0 h1 h2) (at_p₁ m c t r k i h0 h1 h2 h))
    unfold Cert.Adam.first
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

/-- What a grid point leaves for the second moments. -/
theorem left_v : (((outsAt0 m c t.val t.isLt).2.2.2) : Vec Ideal S1x128x2048 .f32) (ix3 u r k) = Cert.Adam.square (Cert.Adam.total₂ (n₀ := 8) (n₁ := 8) (m (c.tc.loc main_arg0)) (m (c.tc.loc main_arg1))) (m (c.tc.loc main_arg4)) i := by
  obtain rfl : u = 0 := Subsingleton.elim _ _
  have := lt_of_lt_of_eq t.isLt (show cfg0.N = 16 from rfl)
  rcases lt_or_ge t.val 8 with h | h
  · refine Eq.trans ?_ (congrArg₂ Cert.Adam.second (at_y m c t r k i h0 h1 h2) (at_p₀ m c t r k i h0 h1 h2 h))
    unfold Cert.Adam.second
    rw [← Cert.Adam.sum_eight, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
  · refine Eq.trans ?_ (congrArg₂ Cert.Adam.second (at_y m c t r k i h0 h1 h2) (at_p₁ m c t r k i h0 h1 h2 h))
    unfold Cert.Adam.second
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]

end

/-- The array of the summed gradient after the run. -/
theorem array_g : (dats m 0 c).arrAt 5 cfg0.N = Cert.Adam.total₂ (n₀ := 8) (n₁ := 8) (m (c.tc.loc main_arg0)) (m (c.tc.loc main_arg1)) := by
  have e : ∀ t : Fin grid0.N, win0_5.index t 0 = t.val / 8 ∧ win0_5.index t 1 = t.val % 8 ∧ win0_5.index t 2 = 0 := by decide +kernel
  refine (dats m 0 c).arrAt_eq_of_covers 5 _ (by decide +kernel) (fun t hf y => ?_)
  blk_simp
  rw [after0_5, show y = ix3 (y 0) (y 1) (y 2) from by funext a; fin_cases a <;> rfl]
  refine left_g m c t (y 0) (y 1) (y 2) _ ?_ ?_ ?_
  · blk_simp
    rw [(e t).1]
  · blk_simp
    rw [(e t).2.1]
  · blk_simp
    rw [(e t).2.2]
    omega

/-- The array of the change of the weights after the run. -/
theorem array_d : (dats m 0 c).arrAt 6 cfg0.N = Cert.Adam.delta (Cert.Adam.total₂ (n₀ := 8) (n₁ := 8) (m (c.tc.loc main_arg0)) (m (c.tc.loc main_arg1))) (m (c.tc.loc main_arg2)) (m (c.tc.loc main_arg3)) (m (c.tc.loc main_arg4)) := by
  have e : ∀ t : Fin grid0.N, win0_6.index t 0 = t.val / 8 ∧ win0_6.index t 1 = t.val % 8 ∧ win0_6.index t 2 = 0 := by decide +kernel
  refine (dats m 0 c).arrAt_eq_of_covers 6 _ (by decide +kernel) (fun t hf y => ?_)
  blk_simp
  rw [after0_6, show y = ix3 (y 0) (y 1) (y 2) from by funext a; fin_cases a <;> rfl]
  refine left_d m c t (y 0) (y 1) (y 2) _ ?_ ?_ ?_
  · blk_simp
    rw [(e t).1]
  · blk_simp
    rw [(e t).2.1]
  · blk_simp
    rw [(e t).2.2]
    omega

/-- The array of the first moments after the run. -/
theorem array_m : (dats m 0 c).arrAt 7 cfg0.N = Cert.Adam.moment (Cert.Adam.total₂ (n₀ := 8) (n₁ := 8) (m (c.tc.loc main_arg0)) (m (c.tc.loc main_arg1))) (m (c.tc.loc main_arg3)) := by
  have e : ∀ t : Fin grid0.N, win0_7.index t 0 = t.val / 8 ∧ win0_7.index t 1 = t.val % 8 ∧ win0_7.index t 2 = 0 := by decide +kernel
  refine (dats m 0 c).arrAt_eq_of_covers 7 _ (by decide +kernel) (fun t hf y => ?_)
  blk_simp
  rw [after0_7, show y = ix3 (y 0) (y 1) (y 2) from by funext a; fin_cases a <;> rfl]
  refine left_m m c t (y 0) (y 1) (y 2) _ ?_ ?_ ?_
  · blk_simp
    rw [(e t).1]
  · blk_simp
    rw [(e t).2.1]
  · blk_simp
    rw [(e t).2.2]
    omega

/-- The array of the second moments after the run. -/
theorem array_v : (dats m 0 c).arrAt 8 cfg0.N = Cert.Adam.square (Cert.Adam.total₂ (n₀ := 8) (n₁ := 8) (m (c.tc.loc main_arg0)) (m (c.tc.loc main_arg1))) (m (c.tc.loc main_arg4)) := by
  have e : ∀ t : Fin grid0.N, win0_8.index t 0 = t.val / 8 ∧ win0_8.index t 1 = t.val % 8 ∧ win0_8.index t 2 = 0 := by decide +kernel
  refine (dats m 0 c).arrAt_eq_of_covers 8 _ (by decide +kernel) (fun t hf y => ?_)
  blk_simp
  rw [after0_8, show y = ix3 (y 0) (y 1) (y 2) from by funext a; fin_cases a <;> rfl]
  refine left_v m c t (y 0) (y 1) (y 2) _ ?_ ?_ ?_
  · blk_simp
    rw [(e t).1]
  · blk_simp
    rw [(e t).2.1]
  · blk_simp
    rw [(e t).2.2]
    omega

/-- The reference's array of the summed gradient. -/
theorem ref_g (p : S8x1024x2048.Idx → EReal) (q : S8x1024x2048.Idx → EReal) : (val_main_v6 (F := Ideal) p q : S2x1024x2048.Idx → EReal) = Cert.Adam.total₂ p q := by
  funext i
  have hi := lt_of_lt_of_eq (i 0).isLt (show S2x1024x2048.size 0 = 2 from rfl)
  pointwise [val_main_v0, val_main_v1, val_main_v2, val_main_v3, val_main_v4, val_main_v5, val_main_v6, val_main_cst, val_main_cst_0]
  unfold Cert.Adam.total₂
  by_cases h : (i 0).val = 0
  · rw [dif_pos (by omega), if_pos h]
  · rw [dif_neg (by omega), if_neg h]

/-- The reference's array of the change of the weights. -/
theorem ref_d (p : S8x1024x2048.Idx → EReal) (q : S8x1024x2048.Idx → EReal) (w x y : S2x1024x2048.Idx → EReal) : (val_main_v30 (F := Ideal) p q w x y : S2x1024x2048.Idx → EReal) = Cert.Adam.delta (Cert.Adam.total₂ p q) w x y := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The reference's array of the first moments. -/
theorem ref_m (p : S8x1024x2048.Idx → EReal) (q : S8x1024x2048.Idx → EReal) (x : S2x1024x2048.Idx → EReal) : (val_main_v11 (F := Ideal) p q x : S2x1024x2048.Idx → EReal) = Cert.Adam.moment (Cert.Adam.total₂ p q) x := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The reference's array of the second moments. -/
theorem ref_v (p : S8x1024x2048.Idx → EReal) (q : S8x1024x2048.Idx → EReal) (y : S2x1024x2048.Idx → EReal) : (val_main_v17 (F := Ideal) p q y : S2x1024x2048.Idx → EReal) = Cert.Adam.square (Cert.Adam.total₂ p q) y := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The call computes the reference's results. -/
theorem algebraic : Cert.algebraic_StepDownIdeal_StepDownRefIdeal := by
  intro m g m' g' _ hargs
  refine ⟨fun c => (dats m 0 c).arrAt 5 cfg0.N, fun c => (dats m 0 c).arrAt 6 cfg0.N, fun c => (dats m 0 c).arrAt 7 cfg0.N, fun c => (dats m 0 c).arrAt 8 cfg0.N,
    run_blocks m g, (θ_run _ _ _).mono (fun r h c => ?_) (Cert.StepDownRefIdeal.Value.run m' g')⟩
  obtain ⟨a0, a1, a2, a3, a4⟩ := hargs c
  obtain ⟨r0, r1, r2, r3, rest⟩ := h c
  refine ⟨r0.trans ?_, r1.trans ?_, r2.trans ?_, r3.trans ?_, rest⟩
  · rw [val_main_v6_eq, a0, a1]
    exact (ref_g _ _).trans (array_g m c).symm
  · rw [val_main_v30_eq, a0, a1, a2, a3, a4]
    exact (ref_d _ _ _ _ _).trans (array_d m c).symm
  · rw [val_main_v11_eq, a0, a1, a3]
    exact (ref_m _ _ _).trans (array_m m c).symm
  · rw [val_main_v17_eq, a0, a1, a4]
    exact (ref_v _ _ _).trans (array_v m c).symm

/-- The idealization replaces nothing. -/
theorem preserves : Cert.preserves_StepDown_StepDownIdeal := trivial

end Cert.StepDownIdeal.Proof

namespace Cert.StepDownRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run defs _ _).mono (fun r h => ⟨fun c => (h c).2.2.2.2, sem_eq_zero_of_no_sems (by decide) r.2⟩) (Value.run m g)

end Cert.StepDownRefIdeal.Proof

end
-- ==== Proof.StepUp.lean ====
module

public import proofs.«01_k».proof.Defs
public import proofs.«01_k».proof.Proof.Gen.StepUp.Frame
public import proofs.«01_k».proof.Proof.Gen.StepUpIdeal.Value
public import proofs.«01_k».proof.Proof.Gen.StepUpRefIdeal.Run
public import proofs.«01_k».proof.Proof.Gen.StepUpRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead
public import proofs.«01_k».proof.Proof.Adam

@[expose] public section

/-!
  The optimiser's step for the MLPs' first matrices, the first layer's over four pairs of senders: each layer's senders' gradients summed,
  the two moments, and the change of the weights, a block of 256 rows of one layer at each grid point.
-/

set_option maxRecDepth 16384

noncomputable section

namespace Cert.StepUpIdeal.Proof

open Cert.StepUpIdeal Cert.StepUpIdeal.Gen Cert.StepUpIdeal.Value Idealize.ShloMosaic Idealize.ShloMosaic.TcCoe Idealize.SL.Sem
open Cert.StepUpRefIdeal.Read

variable (m : (ℓ : Loc nD τ sig) → Buf (Elt Ideal) ℓ) (c : Dev nD)

/-- The first layer's senders' blocks at a grid point. -/
abbrev parts₀ (t : Fin cfg0.N) : Vec Ideal S4x256x1024 .bf16 := iblk m c 0 t

/-- The second layer's senders' blocks at a grid point. -/
abbrev parts₁ (t : Fin cfg0.N) : Vec Ideal S8x256x1024 .bf16 := iblk m c 1 t

section

variable (t : Fin cfg0.N) (u : Fin 1) (r : Fin 256) (k : Fin 1024) (i : S2x2048x1024.Idx)
  (h0 : (i 0).val = t.val / 8) (h1 : (i 1).val = t.val % 8 * 256 + r.val) (h2 : (i 2).val = k.val)
include h0 h1 h2

/-- The senders' entries of a grid point of the first layer, summed. -/
theorem at_p₀ (h : t.val < 8) : ∑ s : Fin 4, (parts₀ m c t (ix3 s r k) : EReal) = (Cert.Adam.total₂ (n₀ := 4) (n₁ := 8) (m (c.tc.loc main_arg0)) (m (c.tc.loc main_arg1))) i := by
  have e : ∀ t : Fin grid0.N, t.val < 8 → win0_0.index t 0 = 0 ∧ win0_0.index t 1 = t.val % 8 ∧ win0_0.index t 2 = 0 := by decide +kernel
  refine Eq.trans ?_ (if_pos (by omega)).symm
  refine Finset.sum_congr rfl fun s _ => ?_
  refine (congrFun (congrArg (((cfg0.win 0).blk t).view.read (Elt Ideal)) (V_main_arg0 m c)) _).trans ?_
  show ((m (c.tc.loc main_arg0)) : S4x2048x1024.Idx → EReal) _ = ((m (c.tc.loc main_arg0)) : S4x2048x1024.Idx → EReal) _
  blk_ext [e t h, h1, h2]

/-- The senders' entries of a grid point of the second layer, summed. -/
theorem at_p₁ (h : 8 ≤ t.val) : ∑ s : Fin 8, (parts₁ m c t (ix3 s r k) : EReal) = (Cert.Adam.total₂ (n₀ := 4) (n₁ := 8) (m (c.tc.loc main_arg0)) (m (c.tc.loc main_arg1))) i := by
  have e : ∀ t : Fin grid0.N, 8 ≤ t.val → win0_1.index t 0 = 0 ∧ win0_1.index t 1 = t.val % 8 ∧ win0_1.index t 2 = 0 := by decide +kernel
  refine Eq.trans ?_ (if_neg (by omega)).symm
  refine Finset.sum_congr rfl fun s _ => ?_
  refine (congrFun (congrArg (((cfg0.win 1).blk t).view.read (Elt Ideal)) (V_main_arg1 m c)) _).trans ?_
  show ((m (c.tc.loc main_arg1)) : S8x2048x1024.Idx → EReal) _ = ((m (c.tc.loc main_arg1)) : S8x2048x1024.Idx → EReal) _
  blk_ext [e t h, h1, h2]

/-- The weights at a grid point. -/
theorem at_w : (iblk m c 2 t : Vec Ideal S1x256x1024 .f32) (ix3 0 r k) = (m (c.tc.loc main_arg2) : S2x2048x1024.Idx → EReal) i := by
  have e : ∀ t : Fin grid0.N, win0_2.index t 0 = t.val / 8 ∧ win0_2.index t 1 = t.val % 8 ∧ win0_2.index t 2 = 0 := by decide +kernel
  refine (congrFun (congrArg (((cfg0.win 2).blk t).view.read (Elt Ideal)) (V_main_arg2 m c)) _).trans ?_
  show (m (c.tc.loc main_arg2) : S2x2048x1024.Idx → EReal) _ = (m (c.tc.loc main_arg2) : S2x2048x1024.Idx → EReal) _
  blk_ext [e t, h0, h1, h2]

/-- The first moments at a grid point. -/
theorem at_x : (iblk m c 3 t : Vec Ideal S1x256x1024 .f32) (ix3 0 r k) = (m (c.tc.loc main_arg3) : S2x2048x1024.Idx → EReal) i := by
  have e : ∀ t : Fin grid0.N, win0_3.index t 0 = t.val / 8 ∧ win0_3.index t 1 = t.val % 8 ∧ win0_3.index t 2 = 0 := by decide +kernel
  refine (congrFun (congrArg (((cfg0.win 3).blk t).view.read (Elt Ideal)) (V_main_arg3 m c)) _).trans ?_
  show (m (c.tc.loc main_arg3) : S2x2048x1024.Idx → EReal) _ = (m (c.tc.loc main_arg3) : S2x2048x1024.Idx → EReal) _
  blk_ext [e t, h0, h1, h2]

/-- The second moments at a grid point. -/
theorem at_y : (iblk m c 4 t : Vec Ideal S1x256x1024 .f32) (ix3 0 r k) = (m (c.tc.loc main_arg4) : S2x2048x1024.Idx → EReal) i := by
  have e : ∀ t : Fin grid0.N, win0_4.index t 0 = t.val / 8 ∧ win0_4.index t 1 = t.val % 8 ∧ win0_4.index t 2 = 0 := by decide +kernel
  refine (congrFun (congrArg (((cfg0.win 4).blk t).view.read (Elt Ideal)) (V_main_arg4 m c)) _).trans ?_
  show (m (c.tc.loc main_arg4) : S2x2048x1024.Idx → EReal) _ = (m (c.tc.loc main_arg4) : S2x2048x1024.Idx → EReal) _
  blk_ext [e t, h0, h1, h2]

/-- What a grid point leaves for the summed gradient. -/
theorem left_g : (((outsAt0 m c t.val t.isLt).1) : Vec Ideal S1x256x1024 .f32) (ix3 u r k) = Cert.Adam.total₂ (n₀ := 4) (n₁ := 8) (m (c.tc.loc main_arg0)) (m (c.tc.loc main_arg1)) i := by
  obtain rfl : u = 0 := Subsingleton.elim _ _
  have := lt_of_lt_of_eq t.isLt (show cfg0.N = 16 from rfl)
  rcases lt_or_ge t.val 8 with h | h
  · refine Eq.trans ?_ (at_p₀ m c t r k i h0 h1 h2 h)
    rw [← Cert.Adam.sum_four, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  · refine Eq.trans ?_ (at_p₁ m c t r k i h0 h1 h2 h)
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]

/-- What a grid point leaves for the change of the weights. -/
theorem left_d : (((outsAt0 m c t.val t.isLt).2.1) : Vec Ideal S1x256x1024 .f32) (ix3 u r k) = Cert.Adam.delta (Cert.Adam.total₂ (n₀ := 4) (n₁ := 8) (m (c.tc.loc main_arg0)) (m (c.tc.loc main_arg1))) (m (c.tc.loc main_arg2)) (m (c.tc.loc main_arg3)) (m (c.tc.loc main_arg4)) i := by
  obtain rfl : u = 0 := Subsingleton.elim _ _
  have := lt_of_lt_of_eq t.isLt (show cfg0.N = 16 from rfl)
  rcases lt_or_ge t.val 8 with h | h
  · refine Eq.trans ?_ (Cert.Adam.change_congr (at_w m c t r k i h0 h1 h2) (congrArg₂ Cert.Adam.first (at_x m c t r k i h0 h1 h2) (at_p₀ m c t r k i h0 h1 h2 h)) (congrArg₂ Cert.Adam.second (at_y m c t r k i h0 h1 h2) (at_p₀ m c t r k i h0 h1 h2 h)))
    unfold Cert.Adam.change Cert.Adam.first Cert.Adam.second
    rw [← Cert.Adam.sum_four, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  · refine Eq.trans ?_ (Cert.Adam.change_congr (at_w m c t r k i h0 h1 h2) (congrArg₂ Cert.Adam.first (at_x m c t r k i h0 h1 h2) (at_p₁ m c t r k i h0 h1 h2 h)) (congrArg₂ Cert.Adam.second (at_y m c t r k i h0 h1 h2) (at_p₁ m c t r k i h0 h1 h2 h)))
    unfold Cert.Adam.change Cert.Adam.first Cert.Adam.second
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]

/-- What a grid point leaves for the first moments. -/
theorem left_m : (((outsAt0 m c t.val t.isLt).2.2.1) : Vec Ideal S1x256x1024 .f32) (ix3 u r k) = Cert.Adam.moment (Cert.Adam.total₂ (n₀ := 4) (n₁ := 8) (m (c.tc.loc main_arg0)) (m (c.tc.loc main_arg1))) (m (c.tc.loc main_arg3)) i := by
  obtain rfl : u = 0 := Subsingleton.elim _ _
  have := lt_of_lt_of_eq t.isLt (show cfg0.N = 16 from rfl)
  rcases lt_or_ge t.val 8 with h | h
  · refine Eq.trans ?_ (congrArg₂ Cert.Adam.first (at_x m c t r k i h0 h1 h2) (at_p₀ m c t r k i h0 h1 h2 h))
    unfold Cert.Adam.first
    rw [← Cert.Adam.sum_four, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  · refine Eq.trans ?_ (congrArg₂ Cert.Adam.first (at_x m c t r k i h0 h1 h2) (at_p₁ m c t r k i h0 h1 h2 h))
    unfold Cert.Adam.first
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]

/-- What a grid point leaves for the second moments. -/
theorem left_v : (((outsAt0 m c t.val t.isLt).2.2.2) : Vec Ideal S1x256x1024 .f32) (ix3 u r k) = Cert.Adam.square (Cert.Adam.total₂ (n₀ := 4) (n₁ := 8) (m (c.tc.loc main_arg0)) (m (c.tc.loc main_arg1))) (m (c.tc.loc main_arg4)) i := by
  obtain rfl : u = 0 := Subsingleton.elim _ _
  have := lt_of_lt_of_eq t.isLt (show cfg0.N = 16 from rfl)
  rcases lt_or_ge t.val 8 with h | h
  · refine Eq.trans ?_ (congrArg₂ Cert.Adam.second (at_y m c t r k i h0 h1 h2) (at_p₀ m c t r k i h0 h1 h2 h))
    unfold Cert.Adam.second
    rw [← Cert.Adam.sum_four, outsAt0_A m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  · refine Eq.trans ?_ (congrArg₂ Cert.Adam.second (at_y m c t r k i h0 h1 h2) (at_p₁ m c t r k i h0 h1 h2 h))
    unfold Cert.Adam.second
    rw [← Cert.Adam.sum_eight, outsAt0_B m c t (by omega) (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]

end

/-- The array of the summed gradient after the run. -/
theorem array_g : (dats m 0 c).arrAt 5 cfg0.N = Cert.Adam.total₂ (n₀ := 4) (n₁ := 8) (m (c.tc.loc main_arg0)) (m (c.tc.loc main_arg1)) := by
  have e : ∀ t : Fin grid0.N, win0_5.index t 0 = t.val / 8 ∧ win0_5.index t 1 = t.val % 8 ∧ win0_5.index t 2 = 0 := by decide +kernel
  refine (dats m 0 c).arrAt_eq_of_covers 5 _ (by decide +kernel) (fun t hf y => ?_)
  blk_simp
  rw [after0_5, show y = ix3 (y 0) (y 1) (y 2) from by funext a; fin_cases a <;> rfl]
  refine left_g m c t (y 0) (y 1) (y 2) _ ?_ ?_ ?_
  · blk_simp
    rw [(e t).1]
  · blk_simp
    rw [(e t).2.1]
  · blk_simp
    rw [(e t).2.2]
    omega

/-- The array of the change of the weights after the run. -/
theorem array_d : (dats m 0 c).arrAt 6 cfg0.N = Cert.Adam.delta (Cert.Adam.total₂ (n₀ := 4) (n₁ := 8) (m (c.tc.loc main_arg0)) (m (c.tc.loc main_arg1))) (m (c.tc.loc main_arg2)) (m (c.tc.loc main_arg3)) (m (c.tc.loc main_arg4)) := by
  have e : ∀ t : Fin grid0.N, win0_6.index t 0 = t.val / 8 ∧ win0_6.index t 1 = t.val % 8 ∧ win0_6.index t 2 = 0 := by decide +kernel
  refine (dats m 0 c).arrAt_eq_of_covers 6 _ (by decide +kernel) (fun t hf y => ?_)
  blk_simp
  rw [after0_6, show y = ix3 (y 0) (y 1) (y 2) from by funext a; fin_cases a <;> rfl]
  refine left_d m c t (y 0) (y 1) (y 2) _ ?_ ?_ ?_
  · blk_simp
    rw [(e t).1]
  · blk_simp
    rw [(e t).2.1]
  · blk_simp
    rw [(e t).2.2]
    omega

/-- The array of the first moments after the run. -/
theorem array_m : (dats m 0 c).arrAt 7 cfg0.N = Cert.Adam.moment (Cert.Adam.total₂ (n₀ := 4) (n₁ := 8) (m (c.tc.loc main_arg0)) (m (c.tc.loc main_arg1))) (m (c.tc.loc main_arg3)) := by
  have e : ∀ t : Fin grid0.N, win0_7.index t 0 = t.val / 8 ∧ win0_7.index t 1 = t.val % 8 ∧ win0_7.index t 2 = 0 := by decide +kernel
  refine (dats m 0 c).arrAt_eq_of_covers 7 _ (by decide +kernel) (fun t hf y => ?_)
  blk_simp
  rw [after0_7, show y = ix3 (y 0) (y 1) (y 2) from by funext a; fin_cases a <;> rfl]
  refine left_m m c t (y 0) (y 1) (y 2) _ ?_ ?_ ?_
  · blk_simp
    rw [(e t).1]
  · blk_simp
    rw [(e t).2.1]
  · blk_simp
    rw [(e t).2.2]
    omega

/-- The array of the second moments after the run. -/
theorem array_v : (dats m 0 c).arrAt 8 cfg0.N = Cert.Adam.square (Cert.Adam.total₂ (n₀ := 4) (n₁ := 8) (m (c.tc.loc main_arg0)) (m (c.tc.loc main_arg1))) (m (c.tc.loc main_arg4)) := by
  have e : ∀ t : Fin grid0.N, win0_8.index t 0 = t.val / 8 ∧ win0_8.index t 1 = t.val % 8 ∧ win0_8.index t 2 = 0 := by decide +kernel
  refine (dats m 0 c).arrAt_eq_of_covers 8 _ (by decide +kernel) (fun t hf y => ?_)
  blk_simp
  rw [after0_8, show y = ix3 (y 0) (y 1) (y 2) from by funext a; fin_cases a <;> rfl]
  refine left_v m c t (y 0) (y 1) (y 2) _ ?_ ?_ ?_
  · blk_simp
    rw [(e t).1]
  · blk_simp
    rw [(e t).2.1]
  · blk_simp
    rw [(e t).2.2]
    omega

/-- The reference's array of the summed gradient. -/
theorem ref_g (p : S4x2048x1024.Idx → EReal) (q : S8x2048x1024.Idx → EReal) : (val_main_v6 (F := Ideal) p q : S2x2048x1024.Idx → EReal) = Cert.Adam.total₂ p q := by
  funext i
  have hi := lt_of_lt_of_eq (i 0).isLt (show S2x2048x1024.size 0 = 2 from rfl)
  pointwise [val_main_v0, val_main_v1, val_main_v2, val_main_v3, val_main_v4, val_main_v5, val_main_v6, val_main_cst, val_main_cst_0]
  unfold Cert.Adam.total₂
  by_cases h : (i 0).val = 0
  · rw [dif_pos (by omega), if_pos h]
  · rw [dif_neg (by omega), if_neg h]

/-- The reference's array of the change of the weights. -/
theorem ref_d (p : S4x2048x1024.Idx → EReal) (q : S8x2048x1024.Idx → EReal) (w x y : S2x2048x1024.Idx → EReal) : (val_main_v30 (F := Ideal) p q w x y : S2x2048x1024.Idx → EReal) = Cert.Adam.delta (Cert.Adam.total₂ p q) w x y := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The reference's array of the first moments. -/
theorem ref_m (p : S4x2048x1024.Idx → EReal) (q : S8x2048x1024.Idx → EReal) (x : S2x2048x1024.Idx → EReal) : (val_main_v11 (F := Ideal) p q x : S2x2048x1024.Idx → EReal) = Cert.Adam.moment (Cert.Adam.total₂ p q) x := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The reference's array of the second moments. -/
theorem ref_v (p : S4x2048x1024.Idx → EReal) (q : S8x2048x1024.Idx → EReal) (y : S2x2048x1024.Idx → EReal) : (val_main_v17 (F := Ideal) p q y : S2x2048x1024.Idx → EReal) = Cert.Adam.square (Cert.Adam.total₂ p q) y := by
  rw [← ref_g]
  funext i
  pointwise [val_main_cst_1, val_main_cst_2, val_main_cst_3, val_main_cst_4, val_main_cst_5, val_main_cst_6, val_main_cst_7, val_main_cst_8, val_main_cst_9, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The call computes the reference's results. -/
theorem algebraic : Cert.algebraic_StepUpIdeal_StepUpRefIdeal := by
  intro m g m' g' _ hargs
  refine ⟨fun c => (dats m 0 c).arrAt 5 cfg0.N, fun c => (dats m 0 c).arrAt 6 cfg0.N, fun c => (dats m 0 c).arrAt 7 cfg0.N, fun c => (dats m 0 c).arrAt 8 cfg0.N,
    run_blocks m g, (θ_run _ _ _).mono (fun r h c => ?_) (Cert.StepUpRefIdeal.Value.run m' g')⟩
  obtain ⟨a0, a1, a2, a3, a4⟩ := hargs c
  obtain ⟨r0, r1, r2, r3, rest⟩ := h c
  refine ⟨r0.trans ?_, r1.trans ?_, r2.trans ?_, r3.trans ?_, rest⟩
  · rw [val_main_v6_eq, a0, a1]
    exact (ref_g _ _).trans (array_g m c).symm
  · rw [val_main_v30_eq, a0, a1, a2, a3, a4]
    exact (ref_d _ _ _ _ _).trans (array_d m c).symm
  · rw [val_main_v11_eq, a0, a1, a3]
    exact (ref_m _ _ _).trans (array_m m c).symm
  · rw [val_main_v17_eq, a0, a1, a4]
    exact (ref_v _ _ _).trans (array_v m c).symm

/-- The idealization replaces nothing. -/
theorem preserves : Cert.preserves_StepUp_StepUpIdeal := trivial

end Cert.StepUpIdeal.Proof

namespace Cert.StepUpRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run defs _ _).mono (fun r h => ⟨fun c => (h c).2.2.2.2, sem_eq_zero_of_no_sems (by decide) r.2⟩) (Value.run m g)

end Cert.StepUpRefIdeal.Proof

end
-- ==== Proof.StepSmall.lean ====
module

public import proofs.«01_k».proof.Defs
public import proofs.«01_k».proof.Proof.Gen.StepSmall.Frame
public import proofs.«01_k».proof.Proof.Gen.StepSmallIdeal.Value
public import proofs.«01_k».proof.Proof.Gen.StepSmallRefIdeal.Run
public import proofs.«01_k».proof.Proof.Gen.StepSmallRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead
public import proofs.«01_k».proof.Proof.Adam

@[expose] public section

/-!
  The optimiser's step for the seven small vectors, packed in rows: the senders' gradients summed, the two moments,
  and the change of the weights, all rows in one grid point. The vectors are packed before the call; the reference
  packs them in the same order, so the packed arrays are those of its own stages.
-/

set_option maxRecDepth 16384

noncomputable section

namespace Cert.StepSmallIdeal.Proof

open Cert.StepSmallIdeal Cert.StepSmallIdeal.Gen Cert.StepSmallIdeal.Value Idealize.ShloMosaic Idealize.ShloMosaic.TcCoe Idealize.SL.Sem
open Cert.StepSmallRefIdeal.Read

variable (m : (ℓ : Loc nD τ sig) → Buf (Elt Ideal) ℓ) (c : Dev nD)

/-- An array in rows with an axis of one entry before them, against the same entries in rows of that shape at once. -/
theorem in_rows (f : S17408.Idx → EReal) (h : S17408.ShapeCasts S1x136x128) :
    broadcastInDim S1x136x128 ![1, 2] bcast_S136x128_S1x136x128_1_2 (shapeCast S136x128 f shapeCasts_S17408_S136x128)
      = shapeCast S1x136x128 f h := by
  funext i
  pointwise []

/-- The weights in rows. -/
def rows_w : S1x136x128.Idx → EReal := val_main_v6 (F := Ideal) (m (c.tc.loc main_arg1)) (m (c.tc.loc main_arg2)) (m (c.tc.loc main_arg3)) (m (c.tc.loc main_arg4)) (m (c.tc.loc main_arg5)) (m (c.tc.loc main_arg6)) (m (c.tc.loc main_arg7))

set_option maxHeartbeats 1600000 in
/-- The weights as the call takes them. -/
theorem V_w : (V m c main_v7 : S1x136x128.Idx → EReal) = rows_w m c := by
  show StableHlo.after (hostOps0 ++ (hostOps0_1 ++ (hostOps0_2 ++ (hostOps0_3 ++ (hostOps0_4 ++ (hostOps0_5 ++ (hostOps0_6 ++ []))))))) _ _ = _
  simp only [List.cons_append, List.nil_append, List.append_nil]
  after_reads_simp
  exact in_rows _ _

/-- The first moments in rows. -/
def rows_x : S1x136x128.Idx → EReal := val_main_v13 (F := Ideal) (m (c.tc.loc main_arg8)) (m (c.tc.loc main_arg9)) (m (c.tc.loc main_arg10)) (m (c.tc.loc main_arg11)) (m (c.tc.loc main_arg12)) (m (c.tc.loc main_arg13)) (m (c.tc.loc main_arg14))

set_option maxHeartbeats 1600000 in
/-- The first moments as the call takes them. -/
theorem V_x : (V m c main_v15 : S1x136x128.Idx → EReal) = rows_x m c := by
  show StableHlo.after (hostOps0 ++ (hostOps0_1 ++ (hostOps0_2 ++ (hostOps0_3 ++ (hostOps0_4 ++ (hostOps0_5 ++ (hostOps0_6 ++ []))))))) _ _ = _
  simp only [List.cons_append, List.nil_append, List.append_nil]
  after_reads_simp
  exact in_rows _ _

/-- The second moments in rows. -/
def rows_y : S1x136x128.Idx → EReal := val_main_v20 (F := Ideal) (m (c.tc.loc main_arg15)) (m (c.tc.loc main_arg16)) (m (c.tc.loc main_arg17)) (m (c.tc.loc main_arg18)) (m (c.tc.loc main_arg19)) (m (c.tc.loc main_arg20)) (m (c.tc.loc main_arg21))

set_option maxHeartbeats 1600000 in
/-- The second moments as the call takes them. -/
theorem V_y : (V m c main_v23 : S1x136x128.Idx → EReal) = rows_y m c := by
  show StableHlo.after (hostOps0 ++ (hostOps0_1 ++ (hostOps0_2 ++ (hostOps0_3 ++ (hostOps0_4 ++ (hostOps0_5 ++ (hostOps0_6 ++ []))))))) _ _ = _
  simp only [List.cons_append, List.nil_append, List.append_nil]
  after_reads_simp
  exact in_rows _ _

/-- The senders' blocks at a grid point. -/
abbrev parts (t : Fin cfg0.N) : Vec Ideal S8x136x128 .f32 := iblk m c 0 t

section

variable (t : Fin cfg0.N) (u : Fin 1) (r : Fin 136) (k : Fin 128) (i : S1x136x128.Idx) (h1 : (i 1).val = t.val * 136 + r.val) (h2 : (i 2).val = k.val)
include h1 h2

/-- The senders' entries of a grid point, summed. -/
theorem at_p : ∑ s : Fin 8, (parts m c t (ix3 s r k) : EReal) = Cert.Adam.total (n := 8) (m (c.tc.loc main_arg0)) i := by
  have e : ∀ t : Fin grid0.N, win0_0.index t 0 = 0 ∧ win0_0.index t 1 = t.val ∧ win0_0.index t 2 = 0 := by decide +kernel
  refine Finset.sum_congr rfl fun s _ => ?_
  refine (congrFun (congrArg (((cfg0.win 0).blk t).view.read (Elt Ideal)) (V_main_arg0 m c)) _).trans ?_
  show ((m (c.tc.loc main_arg0)) : S8x136x128.Idx → EReal) _ = ((m (c.tc.loc main_arg0)) : S8x136x128.Idx → EReal) _
  blk_ext [e t, h1, h2]

/-- The weights at a grid point. -/
theorem at_w : (iblk m c 1 t : Vec Ideal S1x136x128 .f32) (ix3 0 r k) = rows_w m c i := by
  have e : ∀ t : Fin grid0.N, win0_1.index t 0 = 0 ∧ win0_1.index t 1 = t.val ∧ win0_1.index t 2 = 0 := by decide +kernel
  refine (congrFun (congrArg (((cfg0.win 1).blk t).view.read (Elt Ideal)) (V_w m c)) _).trans ?_
  show rows_w m c _ = rows_w m c _
  blk_ext [e t, h1, h2]

/-- The first moments at a grid point. -/
theorem at_x : (iblk m c 2 t : Vec Ideal S1x136x128 .f32) (ix3 0 r k) = rows_x m c i := by
  have e : ∀ t : Fin grid0.N, win0_2.index t 0 = 0 ∧ win0_2.index t 1 = t.val ∧ win0_2.index t 2 = 0 := by decide +kernel
  refine (congrFun (congrArg (((cfg0.win 2).blk t).view.read (Elt Ideal)) (V_x m c)) _).trans ?_
  show rows_x m c _ = rows_x m c _
  blk_ext [e t, h1, h2]

/-- The second moments at a grid point. -/
theorem at_y : (iblk m c 3 t : Vec Ideal S1x136x128 .f32) (ix3 0 r k) = rows_y m c i := by
  have e : ∀ t : Fin grid0.N, win0_3.index t 0 = 0 ∧ win0_3.index t 1 = t.val ∧ win0_3.index t 2 = 0 := by decide +kernel
  refine (congrFun (congrArg (((cfg0.win 3).blk t).view.read (Elt Ideal)) (V_y m c)) _).trans ?_
  show rows_y m c _ = rows_y m c _
  blk_ext [e t, h1, h2]

/-- What a grid point leaves for the summed gradient. -/
theorem left_g : (((outsAt0 m c t).1) : Vec Ideal S1x136x128 .f32) (ix3 u r k) = Cert.Adam.total (n := 8) (m (c.tc.loc main_arg0)) i := by
  obtain rfl : u = 0 := Subsingleton.elim _ _
  refine Eq.trans ?_ (at_p m c t r k i h1 h2)
  rw [← Cert.Adam.sum_eight]
  unfold outsAt0
  dsimp only
  frame_out
  pointwise [k0_pay1, k0_pay2, k0_pay3, k0_pay4, k0_pay5, k0_pay6, k0_pay7]

/-- What a grid point leaves for the change of the weights. -/
theorem left_d : (((outsAt0 m c t).2.1) : Vec Ideal S1x136x128 .f32) (ix3 u r k) = Cert.Adam.delta (Cert.Adam.total (n := 8) (m (c.tc.loc main_arg0))) (rows_w m c) (rows_x m c) (rows_y m c) i := by
  obtain rfl : u = 0 := Subsingleton.elim _ _
  refine Eq.trans ?_ (Cert.Adam.change_congr (at_w m c t r k i h1 h2) (congrArg₂ Cert.Adam.first (at_x m c t r k i h1 h2) (at_p m c t r k i h1 h2)) (congrArg₂ Cert.Adam.second (at_y m c t r k i h1 h2) (at_p m c t r k i h1 h2)))
  unfold Cert.Adam.change Cert.Adam.first Cert.Adam.second
  rw [← Cert.Adam.sum_eight]
  unfold outsAt0
  dsimp only
  frame_out
  pointwise [k0_pay1, k0_pay2, k0_pay3, k0_pay4, k0_pay5, k0_pay6, k0_pay7]

/-- What a grid point leaves for the first moments. -/
theorem left_m : (((outsAt0 m c t).2.2.1) : Vec Ideal S1x136x128 .f32) (ix3 u r k) = Cert.Adam.moment (Cert.Adam.total (n := 8) (m (c.tc.loc main_arg0))) (rows_x m c) i := by
  obtain rfl : u = 0 := Subsingleton.elim _ _
  refine Eq.trans ?_ (congrArg₂ Cert.Adam.first (at_x m c t r k i h1 h2) (at_p m c t r k i h1 h2))
  unfold Cert.Adam.first
  rw [← Cert.Adam.sum_eight]
  unfold outsAt0
  dsimp only
  frame_out
  pointwise [k0_pay1, k0_pay2, k0_pay3, k0_pay4, k0_pay5, k0_pay6, k0_pay7]

/-- What a grid point leaves for the second moments. -/
theorem left_v : (((outsAt0 m c t).2.2.2) : Vec Ideal S1x136x128 .f32) (ix3 u r k) = Cert.Adam.square (Cert.Adam.total (n := 8) (m (c.tc.loc main_arg0))) (rows_y m c) i := by
  obtain rfl : u = 0 := Subsingleton.elim _ _
  refine Eq.trans ?_ (congrArg₂ Cert.Adam.second (at_y m c t r k i h1 h2) (at_p m c t r k i h1 h2))
  unfold Cert.Adam.second
  rw [← Cert.Adam.sum_eight]
  unfold outsAt0
  dsimp only
  frame_out
  pointwise [k0_pay1, k0_pay2, k0_pay3, k0_pay4, k0_pay5, k0_pay6, k0_pay7]

end

/-- The array of the summed gradient after the run. -/
theorem array_g : (dats m 0 c).arrAt 4 cfg0.N = Cert.Adam.total (n := 8) (m (c.tc.loc main_arg0)) := by
  have e : ∀ t : Fin grid0.N, win0_4.index t 0 = 0 ∧ win0_4.index t 1 = t.val ∧ win0_4.index t 2 = 0 := by decide +kernel
  refine (dats m 0 c).arrAt_eq_of_covers 4 _ (by decide +kernel) (fun t hf y => ?_)
  blk_simp
  rw [after0_4, show y = ix3 (y 0) (y 1) (y 2) from by funext a; fin_cases a <;> rfl]
  refine left_g m c t (y 0) (y 1) (y 2) _ ?_ ?_
  · blk_simp
    rw [(e t).2.1]
    have := lt_of_lt_of_eq t.isLt (show cfg0.N = 1 from rfl)
    omega
  · blk_simp
    rw [(e t).2.2]
    omega

/-- The array of the change of the weights after the run. -/
theorem array_d : (dats m 0 c).arrAt 5 cfg0.N = Cert.Adam.delta (Cert.Adam.total (n := 8) (m (c.tc.loc main_arg0))) (rows_w m c) (rows_x m c) (rows_y m c) := by
  have e : ∀ t : Fin grid0.N, win0_5.index t 0 = 0 ∧ win0_5.index t 1 = t.val ∧ win0_5.index t 2 = 0 := by decide +kernel
  refine (dats m 0 c).arrAt_eq_of_covers 5 _ (by decide +kernel) (fun t hf y => ?_)
  blk_simp
  rw [after0_5, show y = ix3 (y 0) (y 1) (y 2) from by funext a; fin_cases a <;> rfl]
  refine left_d m c t (y 0) (y 1) (y 2) _ ?_ ?_
  · blk_simp
    rw [(e t).2.1]
    have := lt_of_lt_of_eq t.isLt (show cfg0.N = 1 from rfl)
    omega
  · blk_simp
    rw [(e t).2.2]
    omega

/-- The array of the first moments after the run. -/
theorem array_m : (dats m 0 c).arrAt 6 cfg0.N = Cert.Adam.moment (Cert.Adam.total (n := 8) (m (c.tc.loc main_arg0))) (rows_x m c) := by
  have e : ∀ t : Fin grid0.N, win0_6.index t 0 = 0 ∧ win0_6.index t 1 = t.val ∧ win0_6.index t 2 = 0 := by decide +kernel
  refine (dats m 0 c).arrAt_eq_of_covers 6 _ (by decide +kernel) (fun t hf y => ?_)
  blk_simp
  rw [after0_6, show y = ix3 (y 0) (y 1) (y 2) from by funext a; fin_cases a <;> rfl]
  refine left_m m c t (y 0) (y 1) (y 2) _ ?_ ?_
  · blk_simp
    rw [(e t).2.1]
    have := lt_of_lt_of_eq t.isLt (show cfg0.N = 1 from rfl)
    omega
  · blk_simp
    rw [(e t).2.2]
    omega

/-- The array of the second moments after the run. -/
theorem array_v : (dats m 0 c).arrAt 7 cfg0.N = Cert.Adam.square (Cert.Adam.total (n := 8) (m (c.tc.loc main_arg0))) (rows_y m c) := by
  have e : ∀ t : Fin grid0.N, win0_7.index t 0 = 0 ∧ win0_7.index t 1 = t.val ∧ win0_7.index t 2 = 0 := by decide +kernel
  refine (dats m 0 c).arrAt_eq_of_covers 7 _ (by decide +kernel) (fun t hf y => ?_)
  blk_simp
  rw [after0_7, show y = ix3 (y 0) (y 1) (y 2) from by funext a; fin_cases a <;> rfl]
  refine left_v m c t (y 0) (y 1) (y 2) _ ?_ ?_
  · blk_simp
    rw [(e t).2.1]
    have := lt_of_lt_of_eq t.isLt (show cfg0.N = 1 from rfl)
    omega
  · blk_simp
    rw [(e t).2.2]
    omega

/-- The reference's array of the summed gradient. -/
theorem ref_g (p : S8x136x128.Idx → EReal) :
    (val_main_v22 (F := Ideal) p : S1x136x128.Idx → EReal)
      = Cert.Adam.total p := by
  funext i
  pointwise [val_main_v21, val_main_v22, val_main_cst]
  rfl

/-- The reference's array of the change of the weights. -/
theorem ref_d (p : S8x136x128.Idx → EReal)
    (x1 : S2x2048.Idx → EReal) (x2 : S2x2048.Idx → EReal) (x3 : S2x2048.Idx → EReal) (x4 : S1x128.Idx → EReal) (x5 : S2048.Idx → EReal) (x6 : S16.Idx → EReal) (x7 : S2048.Idx → EReal)
    (x8 : S2x2048.Idx → EReal) (x9 : S2x2048.Idx → EReal) (x10 : S2x2048.Idx → EReal) (x11 : S1x128.Idx → EReal) (x12 : S2048.Idx → EReal) (x13 : S16.Idx → EReal) (x14 : S2048.Idx → EReal)
    (x15 : S2x2048.Idx → EReal) (x16 : S2x2048.Idx → EReal) (x17 : S2x2048.Idx → EReal) (x18 : S1x128.Idx → EReal) (x19 : S2048.Idx → EReal) (x20 : S16.Idx → EReal) (x21 : S2048.Idx → EReal) :
    (val_main_v46 (F := Ideal) p x1 x2 x3 x4 x5 x6 x7 x8 x9 x10 x11 x12 x13 x14 x15 x16 x17 x18 x19 x20 x21 : S1x136x128.Idx → EReal)
      = Cert.Adam.delta (Cert.Adam.total p)
      (val_main_v6 (F := Ideal) x1 x2 x3 x4 x5 x6 x7)
      (val_main_v13 (F := Ideal) x8 x9 x10 x11 x12 x13 x14)
      (val_main_v20 (F := Ideal) x15 x16 x17 x18 x19 x20 x21) := by
  funext i
  pointwise [val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_cst, val_main_cst_2, val_main_cst_3, val_main_cst_4, val_main_cst_5, val_main_cst_6, val_main_cst_7, val_main_cst_8, val_main_cst_9, val_main_cst_10]
  rfl

/-- The reference's array of the first moments. -/
theorem ref_m (p : S8x136x128.Idx → EReal) (x8 : S2x2048.Idx → EReal) (x9 : S2x2048.Idx → EReal) (x10 : S2x2048.Idx → EReal) (x11 : S1x128.Idx → EReal) (x12 : S2048.Idx → EReal) (x13 : S16.Idx → EReal) (x14 : S2048.Idx → EReal) :
    (val_main_v27 (F := Ideal) p x8 x9 x10 x11 x12 x13 x14 : S1x136x128.Idx → EReal)
      = Cert.Adam.moment (Cert.Adam.total p) (val_main_v13 (F := Ideal) x8 x9 x10 x11 x12 x13 x14) := by
  funext i
  pointwise [val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_cst, val_main_cst_2, val_main_cst_3, val_main_cst_4, val_main_cst_5, val_main_cst_6, val_main_cst_7, val_main_cst_8, val_main_cst_9, val_main_cst_10]
  rfl

/-- The reference's array of the second moments. -/
theorem ref_v (p : S8x136x128.Idx → EReal) (x15 : S2x2048.Idx → EReal) (x16 : S2x2048.Idx → EReal) (x17 : S2x2048.Idx → EReal) (x18 : S1x128.Idx → EReal) (x19 : S2048.Idx → EReal) (x20 : S16.Idx → EReal) (x21 : S2048.Idx → EReal) :
    (val_main_v33 (F := Ideal) p x15 x16 x17 x18 x19 x20 x21 : S1x136x128.Idx → EReal)
      = Cert.Adam.square (Cert.Adam.total p) (val_main_v20 (F := Ideal) x15 x16 x17 x18 x19 x20 x21) := by
  funext i
  pointwise [val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_cst, val_main_cst_2, val_main_cst_3, val_main_cst_4, val_main_cst_5, val_main_cst_6, val_main_cst_7, val_main_cst_8, val_main_cst_9, val_main_cst_10]
  rfl

/-- The reference's change of the weights, of arguments equal to the call's. -/
theorem ref_d_of {x0 z0 : S8x136x128.Idx → EReal}
    {x1 z1 : S2x2048.Idx → EReal} {x2 z2 : S2x2048.Idx → EReal} {x3 z3 : S2x2048.Idx → EReal} {x4 z4 : S1x128.Idx → EReal} {x5 z5 : S2048.Idx → EReal} {x6 z6 : S16.Idx → EReal} {x7 z7 : S2048.Idx → EReal}
    {x8 z8 : S2x2048.Idx → EReal} {x9 z9 : S2x2048.Idx → EReal} {x10 z10 : S2x2048.Idx → EReal} {x11 z11 : S1x128.Idx → EReal} {x12 z12 : S2048.Idx → EReal} {x13 z13 : S16.Idx → EReal} {x14 z14 : S2048.Idx → EReal}
    {x15 z15 : S2x2048.Idx → EReal} {x16 z16 : S2x2048.Idx → EReal} {x17 z17 : S2x2048.Idx → EReal} {x18 z18 : S1x128.Idx → EReal} {x19 z19 : S2048.Idx → EReal} {x20 z20 : S16.Idx → EReal} {x21 z21 : S2048.Idx → EReal}
    (a0 : z0 = x0) (a1 : z1 = x1) (a2 : z2 = x2) (a3 : z3 = x3) (a4 : z4 = x4) (a5 : z5 = x5) (a6 : z6 = x6) (a7 : z7 = x7) (a8 : z8 = x8) (a9 : z9 = x9) (a10 : z10 = x10) (a11 : z11 = x11) (a12 : z12 = x12) (a13 : z13 = x13) (a14 : z14 = x14) (a15 : z15 = x15) (a16 : z16 = x16) (a17 : z17 = x17) (a18 : z18 = x18) (a19 : z19 = x19) (a20 : z20 = x20) (a21 : z21 = x21) :
    (val_main_v46 (F := Ideal) z0 z1 z2 z3 z4 z5 z6 z7 z8 z9 z10 z11 z12 z13 z14 z15 z16 z17 z18 z19 z20 z21 : S1x136x128.Idx → EReal)
      = Cert.Adam.delta (Cert.Adam.total x0)
      (val_main_v6 (F := Ideal) x1 x2 x3 x4 x5 x6 x7)
      (val_main_v13 (F := Ideal) x8 x9 x10 x11 x12 x13 x14)
      (val_main_v20 (F := Ideal) x15 x16 x17 x18 x19 x20 x21) := by
  subst a0 a1 a2 a3 a4 a5 a6 a7 a8 a9 a10 a11 a12 a13 a14 a15 a16 a17 a18 a19 a20 a21
  exact ref_d _ _ _ _ _ _ _ _ _ _ _ _ _ _ _ _ _ _ _ _ _ _

/-- The reference's first moments, of arguments equal to the call's. -/
theorem ref_m_of {x0 z0 : S8x136x128.Idx → EReal}
    {x8 z8 : S2x2048.Idx → EReal} {x9 z9 : S2x2048.Idx → EReal} {x10 z10 : S2x2048.Idx → EReal} {x11 z11 : S1x128.Idx → EReal} {x12 z12 : S2048.Idx → EReal} {x13 z13 : S16.Idx → EReal} {x14 z14 : S2048.Idx → EReal}
    (a0 : z0 = x0) (a8 : z8 = x8) (a9 : z9 = x9) (a10 : z10 = x10) (a11 : z11 = x11) (a12 : z12 = x12) (a13 : z13 = x13) (a14 : z14 = x14) :
    (val_main_v27 (F := Ideal) z0 z8 z9 z10 z11 z12 z13 z14 : S1x136x128.Idx → EReal)
      = Cert.Adam.moment (Cert.Adam.total x0) (val_main_v13 (F := Ideal) x8 x9 x10 x11 x12 x13 x14) := by
  subst a0 a8 a9 a10 a11 a12 a13 a14
  exact ref_m _ _ _ _ _ _ _ _

/-- The reference's second moments, of arguments equal to the call's. -/
theorem ref_v_of {x0 z0 : S8x136x128.Idx → EReal}
    {x15 z15 : S2x2048.Idx → EReal} {x16 z16 : S2x2048.Idx → EReal} {x17 z17 : S2x2048.Idx → EReal} {x18 z18 : S1x128.Idx → EReal} {x19 z19 : S2048.Idx → EReal} {x20 z20 : S16.Idx → EReal} {x21 z21 : S2048.Idx → EReal}
    (a0 : z0 = x0) (a15 : z15 = x15) (a16 : z16 = x16) (a17 : z17 = x17) (a18 : z18 = x18) (a19 : z19 = x19) (a20 : z20 = x20) (a21 : z21 = x21) :
    (val_main_v33 (F := Ideal) z0 z15 z16 z17 z18 z19 z20 z21 : S1x136x128.Idx → EReal)
      = Cert.Adam.square (Cert.Adam.total x0) (val_main_v20 (F := Ideal) x15 x16 x17 x18 x19 x20 x21) := by
  subst a0 a15 a16 a17 a18 a19 a20 a21
  exact ref_v _ _ _ _ _ _ _ _

/-- The call computes the reference's results. -/
theorem algebraic : Cert.algebraic_StepSmallIdeal_StepSmallRefIdeal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    run_blocks m g, (θ_run _ _ _).mono (fun r h c => ?_) (Cert.StepSmallRefIdeal.Value.run m' g')⟩
  obtain ⟨a0, a1, a2, a3, a4, a5, a6, a7, a8, a9, a10, a11, a12, a13, a14, a15, a16, a17, a18, a19, a20, a21⟩ := hargs c
  obtain ⟨r0, r1, r2, r3, rest⟩ := h c
  refine ⟨r0.trans ?_, r1.trans ?_, r2.trans ?_, r3.trans ?_, rest⟩
  · rw [val_main_v22_eq, a0]
    exact (ref_g _).trans (array_g m c).symm
  · exact (val_main_v46_eq m' c).trans ((ref_d_of a0 a1 a2 a3 a4 a5 a6 a7 a8 a9 a10 a11 a12 a13 a14 a15 a16 a17 a18 a19 a20 a21).trans (array_d m c).symm)
  · exact (ref_m_of a0 a8 a9 a10 a11 a12 a13 a14).trans (array_m m c).symm
  · exact (ref_v_of a0 a15 a16 a17 a18 a19 a20 a21).trans (array_v m c).symm

/-- The idealization replaces nothing. -/
theorem preserves : Cert.preserves_StepSmall_StepSmallIdeal := trivial

end Cert.StepSmallIdeal.Proof

namespace Cert.StepSmallRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)
      ∧ r.2.mem (c.tc.loc main_arg17) = m (c.tc.loc main_arg17)
      ∧ r.2.mem (c.tc.loc main_arg18) = m (c.tc.loc main_arg18)
      ∧ r.2.mem (c.tc.loc main_arg19) = m (c.tc.loc main_arg19)
      ∧ r.2.mem (c.tc.loc main_arg20) = m (c.tc.loc main_arg20)
      ∧ r.2.mem (c.tc.loc main_arg21) = m (c.tc.loc main_arg21))
      ∧ r.2.sem = fun _ => 0) :=
  (θ_run defs _ _).mono (fun r h => ⟨fun c => (h c).2.2.2.2, sem_eq_zero_of_no_sems (by decide) r.2⟩) (Value.run m g)

end Cert.StepSmallRefIdeal.Proof

end
-- ==== Proof.Norm.lean ====
module

public import proofs.«01_k».proof.Defs
public import proofs.«01_k».proof.Proof.Blocks
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The backward pass of an RMS norm: the gradient for the stream, row by row, and the gradient for the gain, summed over
  the 2048 rows in eight tiles of 256.
-/

set_option maxRecDepth 16384

noncomputable section

namespace Cert.NormIdeal.Proof

open Cert.NormIdeal Cert.NormIdeal.Gen Cert.NormIdeal.Value Idealize.ShloMosaic Idealize.ShloMosaic.TcCoe Idealize.SL.Sem

/-- The mean square of a row, with the small constant added. -/
def square (x : Fin 2048 → EReal) : EReal :=
  Ideal.div (∑ k, x k * x k) (Ideal.ofBits FTy.f32 1157627904#32) + Ideal.ofBits FTy.f32 897988541#32

/-- How much the gradient for a row takes off per unit of the row. -/
def slope (x u g : Fin 2048 → EReal) : EReal :=
  Ideal.div ((∑ k, x k * (u k * g k)) * (Ideal.ofBits FTy.f32 3204448256#32 * Ideal.div (Ideal.rsqrt (square x)) (square x)))
    (Ideal.ofBits FTy.f32 1157627904#32)

/-- The gradient for an entry of a row, added to the one that came past the norm. -/
def entry (x u g : Fin 2048 → EReal) (d : EReal) (k : Fin 2048) : EReal :=
  d + (u k * g k * Ideal.rsqrt (square x) + x k * slope x u g + slope x u g * x k)

/-- What a row adds to the gradient for an entry of the gain. -/
def share (x u : Fin 2048 → EReal) (k : Fin 2048) : EReal :=
  x k * Ideal.rsqrt (square x) * u k

/-- The gradient for the stream. -/
def stream (x u d : S2048x2048.Idx → EReal) (g : S1x2048.Idx → EReal) (i : S2048x2048.Idx) : EReal :=
  entry (fun j => x (ix2 (i 0) j)) (fun j => u (ix2 (i 0) j)) (fun j => g (ix2 0 j)) (d i) (i 1)

/-- The gradient for the gain. -/
def gain (x u : S2048x2048.Idx → EReal) (i : S1x2048.Idx) : EReal :=
  ∑ r : Fin 2048, share (fun j => x (ix2 r j)) (fun j => u (ix2 r j)) (i 1)

/-- A tile's part of the gradient for the gain, at an entry. -/
theorem pay_gain (x : Vec Ideal S256x2048 .f32) (u : Vec Ideal S256x2048 .bf16) (k : Fin 2048) :
    (k0_pay6 (F := Ideal) x u : Vec Ideal S1x2048 .f32) (ix2 0 k)
      = ∑ r : Fin 256, share (fun j => x (ix2 r j)) (fun j => u (ix2 r j)) k := by
  pointwise [k0_pay6, k0_pay5, k0_pay4, k0_pay3]
  rfl

/-- A tile's part added to the sum, at an entry. -/
theorem pay_add (x y : Vec Ideal S1x2048 .f32) (k : Fin 2048) :
    (k0_pay2 (F := Ideal) x y : Vec Ideal S1x2048 .f32) (ix2 0 k) = (y (ix2 0 k) : EReal) + x (ix2 0 k) := by
  pointwise [k0_pay2]

/-- The sum begins at zero. -/
theorem pay_zero (k : Fin 2048) : (k0_pay1 (F := Ideal) : Vec Ideal S1x2048 .f32) (ix2 0 k) = (0 : EReal) := by
  pointwise [k0_pay1]

/-- The gradient for the stream, at an entry of a tile. -/
theorem pay_stream (x : Vec Ideal S256x2048 .f32) (u : Vec Ideal S256x2048 .bf16) (d : Vec Ideal S256x2048 .f32) (g : Vec Ideal S1x2048 .f32)
    (r : Fin 256) (k : Fin 2048) :
    (k0_pay7 (F := Ideal) x u d g : Vec Ideal S256x2048 .f32) (ix2 r k)
      = entry (fun j => x (ix2 r j)) (fun j => u (ix2 r j)) (fun j => g (ix2 0 j)) (d (ix2 r k)) k := by
  pointwise [k0_pay7, k0_pay6, k0_pay5, k0_pay4, k0_pay3]
  simp only [Finset.univ_unique, Finset.sum_singleton]
  rfl

/-- The same, as it is kept for the products. -/
theorem pay_kept (x : Vec Ideal S256x2048 .f32) (u : Vec Ideal S256x2048 .bf16) (d : Vec Ideal S256x2048 .f32) (g : Vec Ideal S1x2048 .f32) :
    (k0_pay8 (F := Ideal) x u d g : S256x2048.Idx → EReal) = (k0_pay7 (F := Ideal) x u d g : S256x2048.Idx → EReal) := by
  funext i
  pointwise [k0_pay8]

open Cert.NormRefIdeal.Read in
/-- The reference's gradient for the stream, at an entry. -/
theorem reference_entry (x u d : S2048x2048.Idx → EReal) (g : S1x2048.Idx → EReal) (r k : Fin 2048) :
    (val_main_v38 (F := Ideal) x u d g : S2048x2048.Idx → EReal) (ix2 r k) = stream x u d g (ix2 r k) := by
  pointwise [val_main_v38, val_main_v37, val_main_v36, val_main_v35, val_main_v34, val_main_v33, val_main_v32, val_main_v31, val_main_v30,
    val_main_v29, val_main_v28, val_main_v27, val_main_v26, val_main_v25, val_main_v24, val_main_v22, val_main_v21, val_main_v17, val_main_v14,
    val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_5,
    val_main_cst_6, val_main_cst_7]
  simp only [Finset.univ_unique, Finset.sum_singleton]
  rfl

/-- The reference's gradient for the stream. -/
theorem reference_stream (x u d : S2048x2048.Idx → EReal) (g : S1x2048.Idx → EReal) :
    (Cert.NormRefIdeal.Read.val_main_v38 (F := Ideal) x u d g : S2048x2048.Idx → EReal) = stream x u d g := by
  funext i
  rw [show i = ix2 (i 0) (i 1) from by funext a; fin_cases a <;> rfl]
  exact reference_entry x u d g (i 0) (i 1)

open Cert.NormRefIdeal.Read in
/-- The reference's gradient for the stream, as it is kept for the products. -/
theorem reference_kept (x u d : S2048x2048.Idx → EReal) (g : S1x2048.Idx → EReal) :
    (val_main_v40 (F := Ideal) x u d g : S2048x2048.Idx → EReal) = stream x u d g := by
  rw [← reference_stream]
  funext i
  pointwise [val_main_v40, val_main_v39]
  rfl

open Cert.NormRefIdeal.Read in
/-- The reference's gradient for the gain, at an entry. -/
theorem reference_share (x u : S2048x2048.Idx → EReal) (k : Fin 2048) :
    (val_main_v41 (F := Ideal) x u : S1x2048.Idx → EReal) (ix2 0 k) = gain x u (ix2 0 k) := by
  pointwise [val_main_v41, val_main_v23, val_main_v20, val_main_v19, val_main_v18, val_main_v17, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1, val_main_cst_3, val_main_cst_4]
  simp only [Finset.univ_unique, Finset.sum_singleton]
  rfl

/-- An index into the gain is its place in the one row. -/
theorem one_row (i : S1x2048.Idx) : i = ix2 0 (i 1) := by
  funext a
  fin_cases a
  · exact Fin.ext (by have : (i 0).val < 1 := (i 0).isLt; show (i 0).val = 0; omega)
  · rfl

/-- The reference's gradient for the gain. -/
theorem reference_gain (x u : S2048x2048.Idx → EReal) :
    (Cert.NormRefIdeal.Read.val_main_v41 (F := Ideal) x u : S1x2048.Idx → EReal) = gain x u := by
  funext i
  rw [one_row i]
  exact reference_share x u (i 1)

variable (m : (ℓ : Loc nD τ sig) → Buf (Elt Ideal) ℓ) (c : Dev nD)

/-- The rows of the stream that a grid point reads. -/
abbrev rows (t : Fin cfg0.N) : Vec Ideal S256x2048 .f32 := iblk m c 0 t

/-- The rows of the normed stream's gradient that a grid point reads. -/
abbrev grads (t : Fin cfg0.N) : Vec Ideal S256x2048 .bf16 := iblk m c 1 t

/-- The rows of the gradient past the norm that a grid point reads. -/
abbrev past (t : Fin cfg0.N) : Vec Ideal S256x2048 .f32 := iblk m c 2 t

/-- The gain. -/
abbrev gains (t : Fin cfg0.N) : Vec Ideal S1x2048 .f32 := iblk m c 3 t

/-- What a grid point writes of the gradient for the stream. -/
theorem writes (t : Fin cfg0.N) :
    ((outsAt0 m c t.val t.isLt).1 : Vec Ideal S256x2048 .f32) = k0_pay7 (F := Ideal) (rows m c t) (grads m c t) (past m c t) (gains m c t) := by
  by_cases h : t.val % 8 = 0
  · rw [outsAt0_A m c t h]
    frame_out
    try rfl
  · rw [outsAt0_B m c t h]
    frame_out
    try rfl

/-- What a grid point writes of it for the products. -/
theorem keeps (t : Fin cfg0.N) :
    ((outsAt0 m c t.val t.isLt).2.1 : Vec Ideal S256x2048 .bf16) = k0_pay8 (F := Ideal) (rows m c t) (grads m c t) (past m c t) (gains m c t) := by
  by_cases h : t.val % 8 = 0
  · rw [outsAt0_A m c t h]
    frame_out
    try rfl
  · rw [outsAt0_B m c t h]
    frame_out
    try rfl

/-- What the sum holds after the first grid point. -/
theorem first (t : Fin cfg0.N) (h : t.val % 8 = 0) :
    ((outsAt0 m c t.val t.isLt).2.2 : Vec Ideal S1x2048 .f32) = k0_pay2 (F := Ideal) (k0_pay6 (F := Ideal) (rows m c t) (grads m c t)) (k0_pay1 (F := Ideal)) := by
  rw [outsAt0_A m c t h]
  frame_out

/-- What it holds after a further one. -/
theorem next (t : Fin cfg0.N) (h : ¬t.val % 8 = 0) :
    ((outsAt0 m c t.val t.isLt).2.2 : Vec Ideal S1x2048 .f32)
      = k0_pay2 (F := Ideal) (k0_pay6 (F := Ideal) (rows m c t) (grads m c t)) (outsAt0 m c (t.val - 1) (by have := t.isLt; omega)).2.2 := by
  rw [outsAt0_B m c t h]
  frame_out

/-- A row of a grid point's tile is the row of the stream at its place. -/
theorem at_rows (t : Fin cfg0.N) (r : Fin 256) (k R : Fin 2048) (h : R.val = t.val * 256 + r.val) :
    (rows m c t (ix2 r k) : EReal) = (m (c.tc.loc main_arg0) : S2048x2048.Idx → EReal) (ix2 R k) := by
  have e : ∀ t : Fin grid0.N, win0_0.index t 0 = t.val ∧ win0_0.index t 1 = 0 := by decide +kernel
  refine (congrFun (congrArg (((cfg0.win 0).blk t).view.read (Elt Ideal)) (V_main_arg0 m c)) _).trans ?_
  show (m (c.tc.loc main_arg0) : S2048x2048.Idx → EReal) _ = (m (c.tc.loc main_arg0) : S2048x2048.Idx → EReal) _
  blk_ext [e t, h]

/-- The same of the gradient that the norm gets. -/
theorem at_grads (t : Fin cfg0.N) (r : Fin 256) (k R : Fin 2048) (h : R.val = t.val * 256 + r.val) :
    (grads m c t (ix2 r k) : EReal) = (m (c.tc.loc main_arg1) : S2048x2048.Idx → EReal) (ix2 R k) := by
  have e : ∀ t : Fin grid0.N, win0_1.index t 0 = t.val ∧ win0_1.index t 1 = 0 := by decide +kernel
  refine (congrFun (congrArg (((cfg0.win 1).blk t).view.read (Elt Ideal)) (V_main_arg1 m c)) _).trans ?_
  show (m (c.tc.loc main_arg1) : S2048x2048.Idx → EReal) _ = (m (c.tc.loc main_arg1) : S2048x2048.Idx → EReal) _
  blk_ext [e t, h]

/-- The same of the gradient past the norm. -/
theorem at_past (t : Fin cfg0.N) (r : Fin 256) (k R : Fin 2048) (h : R.val = t.val * 256 + r.val) :
    (past m c t (ix2 r k) : EReal) = (m (c.tc.loc main_arg2) : S2048x2048.Idx → EReal) (ix2 R k) := by
  have e : ∀ t : Fin grid0.N, win0_2.index t 0 = t.val ∧ win0_2.index t 1 = 0 := by decide +kernel
  refine (congrFun (congrArg (((cfg0.win 2).blk t).view.read (Elt Ideal)) (V_main_arg2 m c)) _).trans ?_
  show (m (c.tc.loc main_arg2) : S2048x2048.Idx → EReal) _ = (m (c.tc.loc main_arg2) : S2048x2048.Idx → EReal) _
  blk_ext [e t, h]

/-- Every grid point reads the whole gain. -/
theorem at_gains (t : Fin cfg0.N) (k : Fin 2048) :
    (gains m c t (ix2 0 k) : EReal) = (m (c.tc.loc main_arg3) : S1x2048.Idx → EReal) (ix2 0 k) := by
  have e : ∀ t : Fin grid0.N, win0_3.index t 0 = 0 ∧ win0_3.index t 1 = 0 := by decide +kernel
  refine (congrFun (congrArg (((cfg0.win 3).blk t).view.read (Elt Ideal)) (V_main_arg3 m c)) _).trans ?_
  show (m (c.tc.loc main_arg3) : S1x2048.Idx → EReal) _ = (m (c.tc.loc main_arg3) : S1x2048.Idx → EReal) _
  blk_ext [e t]

/-- The gradient for the stream that the run should leave, from its arguments. -/
abbrev wanted : S2048x2048.Idx → EReal :=
  stream (m (c.tc.loc main_arg0)) (m (c.tc.loc main_arg1)) (m (c.tc.loc main_arg2)) (m (c.tc.loc main_arg3))

/-- What a grid point computes is the gradient for the stream at the tile's place. -/
theorem computed (t : Fin cfg0.N) (r : Fin 256) (k : Fin 2048) (i : S2048x2048.Idx) (h0 : (i 0).val = t.val * 256 + r.val) (h1 : (i 1).val = k.val) :
    (k0_pay7 (F := Ideal) (rows m c t) (grads m c t) (past m c t) (gains m c t) : Vec Ideal S256x2048 .f32) (ix2 r k) = wanted m c i := by
  have ht : t.val < 8 := t.isLt
  have hi : i = ix2 (⟨t.val * 256 + r.val, by omega⟩ : Fin 2048) k := by
    funext a
    fin_cases a
    · exact Fin.ext h0
    · exact Fin.ext h1
  rw [hi, pay_stream, funext fun j => at_rows m c t r j ⟨t.val * 256 + r.val, by omega⟩ rfl,
    funext fun j => at_grads m c t r j ⟨t.val * 256 + r.val, by omega⟩ rfl, funext fun j => at_gains m c t j,
    at_past m c t r k ⟨t.val * 256 + r.val, by omega⟩ rfl]
  rfl

/-- The gradient for the stream after the run. -/
theorem array_stream : (dats m 0 c).arrAt 4 cfg0.N = wanted m c := by
  have e : ∀ t : Fin grid0.N, win0_4.index t 0 = t.val ∧ win0_4.index t 1 = 0 := by decide +kernel
  refine (dats m 0 c).arrAt_eq_of_covers 4 _ (by decide +kernel) (fun t _ y => ?_)
  blk_simp
  rw [after0_4, writes]
  rw [show y = ix2 (y 0) (y 1) from by funext a; fin_cases a <;> rfl]
  refine computed m c t (y 0) (y 1) _ ?_ ?_
  · blk_simp
    rw [(e t).1]
  · blk_simp
    rw [(e t).2]
    omega

/-- The gradient kept for the products, after the run. -/
theorem array_kept : (dats m 0 c).arrAt 5 cfg0.N = wanted m c := by
  have e : ∀ t : Fin grid0.N, win0_5.index t 0 = t.val ∧ win0_5.index t 1 = 0 := by decide +kernel
  refine (dats m 0 c).arrAt_eq_of_covers 5 _ (by decide +kernel) (fun t _ y => ?_)
  blk_simp
  rw [after0_5, keeps]
  refine (congrFun (pay_kept _ _ _ _) y).trans ?_
  rw [show y = ix2 (y 0) (y 1) from by funext a; fin_cases a <;> rfl]
  refine computed m c t (y 0) (y 1) _ ?_ ?_
  · blk_simp
    rw [(e t).1]
  · blk_simp
    rw [(e t).2]
    omega

/-- What the tile of a grid point adds to the gradient for an entry of the gain; zero past the last point. -/
def part (k : Fin 2048) (q : ℕ) : EReal :=
  if h : q < 8 then ∑ r : Fin 256,
    share (fun j => (m (c.tc.loc main_arg0) : S2048x2048.Idx → EReal) (ix2 (⟨q * 256 + r.val, by omega⟩ : Fin 2048) j))
      (fun j => (m (c.tc.loc main_arg1) : S2048x2048.Idx → EReal) (ix2 (⟨q * 256 + r.val, by omega⟩ : Fin 2048) j)) k
  else 0

/-- What a grid point adds. -/
theorem adds (t : Fin cfg0.N) (k : Fin 2048) :
    (k0_pay6 (F := Ideal) (rows m c t) (grads m c t) : Vec Ideal S1x2048 .f32) (ix2 0 k) = part m c k t.val := by
  have ht : t.val < 8 := t.isLt
  rw [pay_gain, part, dif_pos ht]
  refine Finset.sum_congr rfl fun r _ => ?_
  rw [funext fun j => at_rows m c t r j ⟨t.val * 256 + r.val, by omega⟩ rfl, funext fun j => at_grads m c t r j ⟨t.val * 256 + r.val, by omega⟩ rfl]

/-- What the sum holds after a grid point. -/
theorem held (k : Fin 2048) : ∀ (n : ℕ) (h : n < cfg0.N),
    ((outsAt0 m c n h).2.2 : Vec Ideal S1x2048 .f32) (ix2 0 k) = ∑ q ∈ Finset.range (n + 1), part m c k q
  | 0, h => by
    refine (congrFun (first m c ⟨0, h⟩ rfl) _).trans ?_
    rw [pay_add, pay_zero, zero_add, adds, Finset.sum_range_one]
  | n + 1, h => by
    have hn : n + 1 < 8 := h
    refine (congrFun (next m c ⟨n + 1, h⟩ (by show ¬(n + 1) % 8 = 0; omega)) _).trans ?_
    rw [pay_add, adds, Finset.sum_range_succ]
    exact congrArg (· + part m c k (n + 1)) (held k n (by omega))

/-- The gradient for the gain after the run. -/
theorem array_gain : (dats m 0 c).arrAt 6 cfg0.N = gain (m (c.tc.loc main_arg0)) (m (c.tc.loc main_arg1)) := by
  have e : ∀ t : Fin grid0.N, win0_6.index t 0 = 0 ∧ win0_6.index t 1 = 0 := by decide +kernel
  refine (dats m 0 c).arrAt_eq_of_covers 6 _ (by decide +kernel) (fun t hf y => ?_)
  have ht : t.val < 8 := t.isLt
  have h7 : t.val = 7 := by have := (flush0_6 t).mp hf; omega
  blk_simp
  rw [after0_6, one_row y]
  refine (held m c (y 1) t.val t.isLt).trans ?_
  rw [h7, Finset.sum_range]
  refine Eq.trans ?_ (Cert.Blocks.sum_parts 8 256 (fun r : Fin 2048 => share (fun j => (m (c.tc.loc main_arg0) : S2048x2048.Idx → EReal) (ix2 r j))
    (fun j => (m (c.tc.loc main_arg1) : S2048x2048.Idx → EReal) (ix2 r j)) (y 1))) |>.trans ?_
  · exact Finset.sum_congr rfl fun q _ => dif_pos q.isLt
  · refine congrArg (gain (m (c.tc.loc main_arg0)) (m (c.tc.loc main_arg1))) (a₁ := ix2 0 (y 1)) ?_
    blk_ext [e t]

/-- The call computes the reference's gradients. -/
theorem algebraic : Cert.algebraic_NormIdeal_NormRefIdeal := by
  intro m g m' g' _ hargs
  refine ⟨fun c => (dats m 0 c).arrAt 4 cfg0.N, fun c => (dats m 0 c).arrAt 5 cfg0.N, fun c => (dats m 0 c).arrAt 6 cfg0.N, run_blocks m g,
    (θ_run _ _ _).mono (fun r h c => ?_) (Cert.NormRefIdeal.Value.run m' g')⟩
  obtain ⟨a0, a1, a2, a3⟩ := hargs c
  obtain ⟨r0, r1, r2, rest⟩ := h c
  refine ⟨r0.trans ?_, r1.trans ?_, r2.trans ?_, rest⟩
  · rw [Cert.NormRefIdeal.Read.val_main_v38_eq, a0, a1, a2, a3]
    exact (reference_stream _ _ _ _).trans (array_stream m c).symm
  · rw [Cert.NormRefIdeal.Read.val_main_v40_eq, a0, a1, a2, a3]
    exact (reference_kept _ _ _ _).trans (array_kept m c).symm
  · rw [a0, a1]
    exact (reference_gain _ _).trans (array_gain m c).symm

/-- The idealization replaces nothing. -/
theorem preserves : Cert.preserves_Norm_NormIdeal := trivial

end Cert.NormIdeal.Proof

namespace Cert.NormRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => (h c).2.2.2, sem_eq_zero_of_no_sems (by decide) r.2⟩) (Value.run m g)

end Cert.NormRefIdeal.Proof
end
-- ==== Proof.Tail.lean ====
module

public import proofs.«01_k».proof.Defs
public import proofs.«01_k».proof.Proof.Norm
public import proofs.«01_k».proof.Proof.Gen.Tail.Frame
public import proofs.«01_k».proof.Proof.Gen.TailIdeal.Value
public import proofs.«01_k».proof.Proof.Gen.TailRefIdeal.Run
public import proofs.«01_k».proof.Proof.Gen.TailRefIdeal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.StableHlo.RunRead

@[expose] public section

/-!
  The end of the forward pass and the beginning of the backward one: the last layer's embeddings and the last norm, the
  loss, and their gradients, row by row; the gradient for the gain and the loss summed over the 2048 rows in eight tiles
  of 256.
-/

set_option maxRecDepth 16384

noncomputable section

namespace Cert.TailIdeal.Proof

open Cert.TailIdeal Cert.TailIdeal.Gen Cert.TailIdeal.Value Idealize.ShloMosaic Idealize.ShloMosaic.TcCoe Idealize.SL.Sem
open Cert.TailRefIdeal.Read
open Cert.NormIdeal.Proof (square slope share)

/-- What the row is before the last norm: the stream with the gated embeddings added. -/
def state (h p q : Fin 2048 → EReal) (k : Fin 2048) : EReal :=
  h k + q k * Ideal.logistic (p k)

/-- How far the normed row is from the target. -/
def miss (h p q t g : Fin 2048 → EReal) (k : Fin 2048) : EReal :=
  state h p q k * Ideal.rsqrt (square (state h p q)) * g k - t k

/-- The gradient for the normed row. -/
def push (h p q t g : Fin 2048 → EReal) (k : Fin 2048) : EReal :=
  Ideal.div (Ideal.ofBits FTy.f32 1056964608#32) (Ideal.ofBits FTy.f32 1157627904#32)
    * (Ideal.ofBits FTy.f32 1073741824#32 * miss h p q t g k)

/-- How much the gradient takes off per unit of the row. -/
def off (h p q t g : Fin 2048 → EReal) : EReal :=
  slope (state h p q) (push h p q t g) g

/-- The gradient for the row before the norm. -/
def back (h p q t g : Fin 2048 → EReal) (k : Fin 2048) : EReal :=
  push h p q t g k * g k * Ideal.rsqrt (square (state h p q)) + state h p q k * off h p q t g + off h p q t g * state h p q k

/-- The gradient for the gates before their logistic function. -/
def back_gate (h p q t g : Fin 2048 → EReal) (k : Fin 2048) : EReal :=
  q k * back h p q t g k * (Ideal.logistic (p k) * (1 - Ideal.logistic (p k)))

/-- The gradient for the embeddings. -/
def back_up (h p q t g : Fin 2048 → EReal) (k : Fin 2048) : EReal :=
  back h p q t g k * Ideal.logistic (p k)

/-- What a row adds to the gradient for an entry of the gain. -/
def gain_part (h p q t g : Fin 2048 → EReal) (k : Fin 2048) : EReal :=
  share (state h p q) (push h p q t g) k

/-- The mean square of what a row misses. -/
def mean (h p q t g : Fin 2048 → EReal) : EReal :=
  Ideal.div (∑ k, miss h p q t g k * miss h p q t g k) (Ideal.ofBits FTy.f32 1157627904#32)

section Tile

variable (h p q t : Vec Ideal S256x2048 .f32) (g : Vec Ideal S1x2048 .f32)

/-- What a tile writes of the gradient for the stream. -/
abbrev out_row : Vec Ideal S256x2048 .f32 :=
  k0_pay19 g (k0_pay7 h p q) (k0_pay9 h p q) (k0_pay10 h p q) (k0_pay13 h p q t g) k0_pay15 k0_pay16

/-- What it writes of the gradient for the gates. -/
abbrev out_gate : Vec Ideal S256x2048 .bf16 :=
  k0_pay21 q g (k0_pay6 p) (k0_pay7 h p q) (k0_pay9 h p q) (k0_pay10 h p q) (k0_pay13 h p q t g) k0_pay15 k0_pay16

/-- What it writes of the gradient for the embeddings. -/
abbrev out_up : Vec Ideal S256x2048 .bf16 :=
  k0_pay22 g (k0_pay5 p) (k0_pay7 h p q) (k0_pay9 h p q) (k0_pay10 h p q) (k0_pay13 h p q t g) k0_pay15 k0_pay16

/-- What it adds to the gradient for the gain. -/
abbrev out_gain : Vec Ideal S1x2048 .f32 :=
  k0_pay18 (k0_pay11 h p q) (k0_pay13 h p q t g) k0_pay15 k0_pay16

/-- What it adds to the loss. -/
abbrev out_loss : Vec Ideal S1x128 .f32 :=
  k0_pay20 (k0_pay14 h p q t g)

/-- The gradient for the stream, at an entry of a tile. -/
theorem row_at (r : Fin 256) (k : Fin 2048) :
    out_row h p q t g (ix2 r k)
      = back (fun j => h (ix2 r j)) (fun j => p (ix2 r j)) (fun j => q (ix2 r j)) (fun j => t (ix2 r j)) (fun j => g (ix2 0 j)) k := by
  pointwise [out_row, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5]
  simp only [Finset.univ_unique, Finset.sum_singleton]
  rfl

/-- The gradient for the gates, at an entry of a tile. -/
theorem gate_at (r : Fin 256) (k : Fin 2048) :
    out_gate h p q t g (ix2 r k)
      = back_gate (fun j => h (ix2 r j)) (fun j => p (ix2 r j)) (fun j => q (ix2 r j)) (fun j => t (ix2 r j)) (fun j => g (ix2 0 j)) k := by
  pointwise [out_gate, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5]
  simp only [Finset.univ_unique, Finset.sum_singleton]
  rfl

/-- The gradient for the embeddings, at an entry of a tile. -/
theorem up_at (r : Fin 256) (k : Fin 2048) :
    out_up h p q t g (ix2 r k)
      = back_up (fun j => h (ix2 r j)) (fun j => p (ix2 r j)) (fun j => q (ix2 r j)) (fun j => t (ix2 r j)) (fun j => g (ix2 0 j)) k := by
  pointwise [out_up, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5]
  simp only [Finset.univ_unique, Finset.sum_singleton]
  rfl

/-- A tile's part of the gradient for the gain, at an entry. -/
theorem gain_at (k : Fin 2048) :
    out_gain h p q t g (ix2 0 k)
      = ∑ r : Fin 256, gain_part (fun j => h (ix2 r j)) (fun j => p (ix2 r j)) (fun j => q (ix2 r j)) (fun j => t (ix2 r j)) (fun j => g (ix2 0 j)) k := by
  pointwise [out_gain, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5]
  simp only [Finset.univ_unique, Finset.sum_singleton]
  rfl

/-- A tile's part of the loss, in every place it is written to. -/
theorem loss_at (l : Fin 128) :
    out_loss h p q t g (ix2 0 l)
      = ∑ r : Fin 256, Ideal.ofBits FTy.f32 1056964608#32
          * mean (fun j => h (ix2 r j)) (fun j => p (ix2 r j)) (fun j => q (ix2 r j)) (fun j => t (ix2 r j)) (fun j => g (ix2 0 j)) := by
  pointwise [out_loss, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5]
  rfl

/-- A tile's part of the gradient for the gain added to the sum, at an entry. -/
theorem add_gain (x y : Vec Ideal S1x2048 .f32) (k : Fin 2048) : (k0_pay3 (F := Ideal) x y : Vec Ideal S1x2048 .f32) (ix2 0 k) = (y (ix2 0 k) : EReal) + x (ix2 0 k) := by
  pointwise [k0_pay3]

/-- A tile's part of the loss added to the sum. -/
theorem add_loss (x y : Vec Ideal S1x128 .f32) (l : Fin 128) : (k0_pay4 (F := Ideal) x y : Vec Ideal S1x128 .f32) (ix2 0 l) = (y (ix2 0 l) : EReal) + x (ix2 0 l) := by
  pointwise [k0_pay4]

/-- The gradient for the gain begins at zero. -/
theorem zero_gain (k : Fin 2048) : (k0_pay1 (F := Ideal) : Vec Ideal S1x2048 .f32) (ix2 0 k) = (0 : EReal) := by
  pointwise [k0_pay1]

/-- The loss begins at zero. -/
theorem zero_loss (l : Fin 128) : (k0_pay2 (F := Ideal) : Vec Ideal S1x128 .f32) (ix2 0 l) = (0 : EReal) := by
  pointwise [k0_pay2]

end Tile

/-- A function of a row of each of the four arrays and of the gain, at a row of the whole arrays. -/
abbrev whole {β : Type} (f : (h p q t g : Fin 2048 → EReal) → β) (h p q t : S2048x2048.Idx → EReal) (g : S1x2048.Idx → EReal) (R : Fin 2048) : β :=
  f (fun j => h (ix2 R j)) (fun j => p (ix2 R j)) (fun j => q (ix2 R j)) (fun j => t (ix2 R j)) (fun j => g (ix2 0 j))

/-- An index into an array of 2048 × 2048 is its two places. -/
theorem two_places (i : S2048x2048.Idx) : i = ix2 (i 0) (i 1) := by
  funext a
  fin_cases a <;> rfl

/-- An index into one row is its place in it. -/
theorem one_row (n : ℕ) (i : (⟨2, ![1, n]⟩ : Shape).Idx) : i = ix2 0 (i 1) := by
  funext a
  fin_cases a
  · exact Fin.ext (by have : (i 0).val < 1 := (i 0).isLt; show (i 0).val = 0; omega)
  · rfl

section Reference

open Cert.TailRefIdeal.Read

variable (h p q t : S2048x2048.Idx → EReal) (g : S1x2048.Idx → EReal)

/-- The reference's gradient for the stream. -/
theorem ref_row (r k : Fin 2048) : (val_main_v62 (F := Ideal) h p q t g : S2048x2048.Idx → EReal) (ix2 r k) = whole back h p q t g r k := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]
  simp only [Finset.univ_unique, Finset.sum_singleton]
  rfl

/-- The reference's gradient for the gates. -/
theorem ref_gate (r k : Fin 2048) : (val_main_v66 (F := Ideal) h p q t g : S2048x2048.Idx → EReal) (ix2 r k) = whole back_gate h p q t g r k := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]
  simp only [Finset.univ_unique, Finset.sum_singleton]
  rfl

/-- The reference's gradient for the embeddings. -/
theorem ref_up (r k : Fin 2048) : (val_main_v67 (F := Ideal) h p q t g : S2048x2048.Idx → EReal) (ix2 r k) = whole back_up h p q t g r k := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]
  simp only [Finset.univ_unique, Finset.sum_singleton]
  rfl

/-- The reference's gradient for the gain. -/
theorem ref_gain (k : Fin 2048) : (val_main_v68 (F := Ideal) h p q t g : S1x2048.Idx → EReal) (ix2 0 k) = ∑ R : Fin 2048, whole gain_part h p q t g R k := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]
  simp only [Finset.univ_unique, Finset.sum_singleton]
  rfl

/-- The reference's loss, in every place it is written to. -/
theorem ref_loss (l : Fin 128) : (val_main_v69 (F := Ideal) h p q t g : S1x128.Idx → EReal) (ix2 0 l)
    = Ideal.ofBits FTy.f32 1056964608#32 * ∑ R : Fin 2048, whole mean h p q t g R := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]
  rfl

end Reference

/-- The constant in the loss is a half. -/
theorem half : (Ideal.ofBits FTy.f32 1056964608#32 : EReal) = ((1 / 2 : ℝ) : EReal) := by
  simp [Ideal.ofBits, Ideal.ieee, -EReal.coe_mul]
  norm_num

/-- Half of a sum is the sum of the halves. -/
theorem half_sum {n : ℕ} (f : Fin n → EReal) (s : Finset (Fin n)) :
    Ideal.ofBits FTy.f32 1056964608#32 * ∑ R ∈ s, f R = ∑ R ∈ s, Ideal.ofBits FTy.f32 1056964608#32 * f R := by
  rw [half]
  induction s using Finset.induction_on with
  | empty => simp
  | insert a s ha ih => rw [Finset.sum_insert ha, Finset.sum_insert ha, ← ih, EReal.left_distrib_of_nonneg_of_ne_top (EReal.coe_nonneg.mpr (by norm_num)) (EReal.coe_ne_top _)]

/-- Half of the mean square that a row misses. -/
def cost (h p q t g : Fin 2048 → EReal) : EReal :=
  Ideal.ofBits FTy.f32 1056964608#32 * mean h p q t g

/-- The reference's gradient for the stream, as an array. -/
theorem ref_rows (h p q t : S2048x2048.Idx → EReal) (g : S1x2048.Idx → EReal) :
    (val_main_v62 (F := Ideal) h p q t g : S2048x2048.Idx → EReal) = fun i => whole back h p q t g (i 0) (i 1) := by
  funext i
  rw [two_places i]
  exact ref_row h p q t g (i 0) (i 1)

/-- The reference's gradient for the gates, as an array. -/
theorem ref_gates (h p q t : S2048x2048.Idx → EReal) (g : S1x2048.Idx → EReal) :
    (val_main_v66 (F := Ideal) h p q t g : S2048x2048.Idx → EReal) = fun i => whole back_gate h p q t g (i 0) (i 1) := by
  funext i
  rw [two_places i]
  exact ref_gate h p q t g (i 0) (i 1)

/-- The reference's gradient for the embeddings, as an array. -/
theorem ref_ups (h p q t : S2048x2048.Idx → EReal) (g : S1x2048.Idx → EReal) :
    (val_main_v67 (F := Ideal) h p q t g : S2048x2048.Idx → EReal) = fun i => whole back_up h p q t g (i 0) (i 1) := by
  funext i
  rw [two_places i]
  exact ref_up h p q t g (i 0) (i 1)

/-- The reference's gradient for the gain, as an array. -/
theorem ref_gains (h p q t : S2048x2048.Idx → EReal) (g : S1x2048.Idx → EReal) :
    (val_main_v68 (F := Ideal) h p q t g : S1x2048.Idx → EReal)
      = fun i => ∑ R : Fin 2048, whole (fun h p q t g => gain_part h p q t g (i 1)) h p q t g R := by
  funext i
  rw [one_row 2048 i]
  exact ref_gain h p q t g (i 1)

/-- The reference's loss, as an array. -/
theorem ref_losses (h p q t : S2048x2048.Idx → EReal) (g : S1x2048.Idx → EReal) :
    (val_main_v69 (F := Ideal) h p q t g : S1x128.Idx → EReal) = fun _ => ∑ R : Fin 2048, whole cost h p q t g R := by
  funext i
  rw [one_row 128 i]
  exact (ref_loss h p q t g (i 1)).trans (half_sum _ _)

variable (m : (ℓ : Loc nD τ sig) → Buf (Elt Ideal) ℓ) (c : Dev nD)

/-- The rows of the stream that a grid point reads. -/
abbrev rows (t : Fin cfg0.N) : Vec Ideal S256x2048 .f32 := iblk m c 0 t

/-- The rows of the gates that a grid point reads. -/
abbrev gates (t : Fin cfg0.N) : Vec Ideal S256x2048 .f32 := iblk m c 1 t

/-- The rows of the embeddings that a grid point reads. -/
abbrev ups (t : Fin cfg0.N) : Vec Ideal S256x2048 .f32 := iblk m c 2 t

/-- The rows of the target that a grid point reads. -/
abbrev targets (t : Fin cfg0.N) : Vec Ideal S256x2048 .f32 := iblk m c 3 t

/-- The gain. -/
abbrev gains (t : Fin cfg0.N) : Vec Ideal S1x2048 .f32 := iblk m c 4 t

/-- What a grid point writes of the gradient for the stream. -/
theorem writes_row (t : Fin cfg0.N) :
    ((outsAt0 m c t.val t.isLt).1 : Vec Ideal S256x2048 .f32) = out_row (rows m c t) (gates m c t) (ups m c t) (targets m c t) (gains m c t) := by
  by_cases h : t.val % 8 = 0
  · rw [outsAt0_A m c t h]
    frame_out
    try rfl
  · rw [outsAt0_B m c t h]
    frame_out
    try rfl

/-- What a grid point writes of the gradient for the gates. -/
theorem writes_gate (t : Fin cfg0.N) :
    ((outsAt0 m c t.val t.isLt).2.1 : Vec Ideal S256x2048 .bf16) = out_gate (rows m c t) (gates m c t) (ups m c t) (targets m c t) (gains m c t) := by
  by_cases h : t.val % 8 = 0
  · rw [outsAt0_A m c t h]
    frame_out
    try rfl
  · rw [outsAt0_B m c t h]
    frame_out
    try rfl

/-- What a grid point writes of the gradient for the embeddings. -/
theorem writes_up (t : Fin cfg0.N) :
    ((outsAt0 m c t.val t.isLt).2.2.1 : Vec Ideal S256x2048 .bf16) = out_up (rows m c t) (gates m c t) (ups m c t) (targets m c t) (gains m c t) := by
  by_cases h : t.val % 8 = 0
  · rw [outsAt0_A m c t h]
    frame_out
    try rfl
  · rw [outsAt0_B m c t h]
    frame_out
    try rfl

/-- What the sum for the gradient for the gain holds after the first grid point. -/
theorem first_gain (t : Fin cfg0.N) (h : t.val % 8 = 0) :
    ((outsAt0 m c t.val t.isLt).2.2.2.1 : Vec Ideal S1x2048 .f32)
      = k0_pay3 (F := Ideal) (out_gain (rows m c t) (gates m c t) (ups m c t) (targets m c t) (gains m c t)) (k0_pay1 (F := Ideal)) := by
  rw [outsAt0_A m c t h]
  frame_out
  try rfl

/-- What it holds after a further one. -/
theorem next_gain (t : Fin cfg0.N) (h : ¬t.val % 8 = 0) :
    ((outsAt0 m c t.val t.isLt).2.2.2.1 : Vec Ideal S1x2048 .f32)
      = k0_pay3 (F := Ideal) (out_gain (rows m c t) (gates m c t) (ups m c t) (targets m c t) (gains m c t))
        (outsAt0 m c (t.val - 1) (by have := t.isLt; omega)).2.2.2.1 := by
  rw [outsAt0_B m c t h]
  frame_out
  try rfl

/-- What the sum for the loss holds after the first grid point. -/
theorem first_loss (t : Fin cfg0.N) (h : t.val % 8 = 0) :
    ((outsAt0 m c t.val t.isLt).2.2.2.2 : Vec Ideal S1x128 .f32)
      = k0_pay4 (F := Ideal) (out_loss (rows m c t) (gates m c t) (ups m c t) (targets m c t) (gains m c t)) (k0_pay2 (F := Ideal)) := by
  rw [outsAt0_A m c t h]
  frame_out
  try rfl

/-- What it holds after a further one. -/
theorem next_loss (t : Fin cfg0.N) (h : ¬t.val % 8 = 0) :
    ((outsAt0 m c t.val t.isLt).2.2.2.2 : Vec Ideal S1x128 .f32)
      = k0_pay4 (F := Ideal) (out_loss (rows m c t) (gates m c t) (ups m c t) (targets m c t) (gains m c t))
        (outsAt0 m c (t.val - 1) (by have := t.isLt; omega)).2.2.2.2 := by
  rw [outsAt0_B m c t h]
  frame_out
  try rfl

/-- A row of a grid point's tile is the row of the stream at its place. -/
theorem at_rows (t : Fin cfg0.N) (r : Fin 256) (k R : Fin 2048) (h : R.val = t.val * 256 + r.val) :
    (rows m c t (ix2 r k) : EReal) = (m (c.tc.loc main_arg0) : S2048x2048.Idx → EReal) (ix2 R k) := by
  have e : ∀ t : Fin grid0.N, win0_0.index t 0 = t.val ∧ win0_0.index t 1 = 0 := by decide +kernel
  refine (congrFun (congrArg (((cfg0.win 0).blk t).view.read (Elt Ideal)) (V_main_arg0 m c)) _).trans ?_
  show (m (c.tc.loc main_arg0) : S2048x2048.Idx → EReal) _ = (m (c.tc.loc main_arg0) : S2048x2048.Idx → EReal) _
  blk_ext [e t, h]

/-- A row of a grid point's tile is the row of the gates at its place. -/
theorem at_gates (t : Fin cfg0.N) (r : Fin 256) (k R : Fin 2048) (h : R.val = t.val * 256 + r.val) :
    (gates m c t (ix2 r k) : EReal) = (m (c.tc.loc main_arg1) : S2048x2048.Idx → EReal) (ix2 R k) := by
  have e : ∀ t : Fin grid0.N, win0_1.index t 0 = t.val ∧ win0_1.index t 1 = 0 := by decide +kernel
  refine (congrFun (congrArg (((cfg0.win 1).blk t).view.read (Elt Ideal)) (V_main_arg1 m c)) _).trans ?_
  show (m (c.tc.loc main_arg1) : S2048x2048.Idx → EReal) _ = (m (c.tc.loc main_arg1) : S2048x2048.Idx → EReal) _
  blk_ext [e t, h]

/-- A row of a grid point's tile is the row of the embeddings at its place. -/
theorem at_ups (t : Fin cfg0.N) (r : Fin 256) (k R : Fin 2048) (h : R.val = t.val * 256 + r.val) :
    (ups m c t (ix2 r k) : EReal) = (m (c.tc.loc main_arg2) : S2048x2048.Idx → EReal) (ix2 R k) := by
  have e : ∀ t : Fin grid0.N, win0_2.index t 0 = t.val ∧ win0_2.index t 1 = 0 := by decide +kernel
  refine (congrFun (congrArg (((cfg0.win 2).blk t).view.read (Elt Ideal)) (V_main_arg2 m c)) _).trans ?_
  show (m (c.tc.loc main_arg2) : S2048x2048.Idx → EReal) _ = (m (c.tc.loc main_arg2) : S2048x2048.Idx → EReal) _
  blk_ext [e t, h]

/-- A row of a grid point's tile is the row of the target at its place. -/
theorem at_targets (t : Fin cfg0.N) (r : Fin 256) (k R : Fin 2048) (h : R.val = t.val * 256 + r.val) :
    (targets m c t (ix2 r k) : EReal) = (m (c.tc.loc main_arg3) : S2048x2048.Idx → EReal) (ix2 R k) := by
  have e : ∀ t : Fin grid0.N, win0_3.index t 0 = t.val ∧ win0_3.index t 1 = 0 := by decide +kernel
  refine (congrFun (congrArg (((cfg0.win 3).blk t).view.read (Elt Ideal)) (V_main_arg3 m c)) _).trans ?_
  show (m (c.tc.loc main_arg3) : S2048x2048.Idx → EReal) _ = (m (c.tc.loc main_arg3) : S2048x2048.Idx → EReal) _
  blk_ext [e t, h]

/-- Every grid point reads the whole gain. -/
theorem at_gains (t : Fin cfg0.N) (k : Fin 2048) :
    (gains m c t (ix2 0 k) : EReal) = (m (c.tc.loc main_arg4) : S1x2048.Idx → EReal) (ix2 0 k) := by
  have e : ∀ t : Fin grid0.N, win0_4.index t 0 = 0 ∧ win0_4.index t 1 = 0 := by decide +kernel
  refine (congrFun (congrArg (((cfg0.win 4).blk t).view.read (Elt Ideal)) (V_main_arg4 m c)) _).trans ?_
  show (m (c.tc.loc main_arg4) : S1x2048.Idx → EReal) _ = (m (c.tc.loc main_arg4) : S1x2048.Idx → EReal) _
  blk_ext [e t]

/-- A function of the rows, at a row of the arguments. -/
abbrev args {β : Type} (f : (h p q t g : Fin 2048 → EReal) → β) (R : Fin 2048) : β :=
  whole f (m (c.tc.loc main_arg0)) (m (c.tc.loc main_arg1)) (m (c.tc.loc main_arg2)) (m (c.tc.loc main_arg3)) (m (c.tc.loc main_arg4)) R

/-- A function of the rows of a grid point's tiles is the same of the arguments' rows at their place. -/
theorem moved {β : Type} (f : (h p q t g : Fin 2048 → EReal) → β) (t : Fin cfg0.N) (r : Fin 256) (R : Fin 2048) (h : R.val = t.val * 256 + r.val) :
    f (fun j => rows m c t (ix2 r j)) (fun j => gates m c t (ix2 r j)) (fun j => ups m c t (ix2 r j)) (fun j => targets m c t (ix2 r j))
      (fun j => gains m c t (ix2 0 j)) = args m c f R := by
  rw [funext fun j => at_rows m c t r j R h, funext fun j => at_gates m c t r j R h, funext fun j => at_ups m c t r j R h,
    funext fun j => at_targets m c t r j R h, funext fun j => at_gains m c t j]

/-- The gradient for the stream after the run. -/
theorem array_row : (dats m 0 c).arrAt 5 cfg0.N = fun i : S2048x2048.Idx => args m c back (i 0) (i 1) := by
  have e : ∀ t : Fin grid0.N, win0_5.index t 0 = t.val ∧ win0_5.index t 1 = 0 := by decide +kernel
  refine (dats m 0 c).arrAt_eq_of_covers 5 _ (by decide +kernel) (fun t _ y => ?_)
  blk_simp
  rw [after0_5, writes_row]
  rw [show y = ix2 (y 0) (y 1) from by funext a; fin_cases a <;> rfl]
  refine (row_at _ _ _ _ _ (y 0) (y 1)).trans ((congrFun (moved m c back t (y 0) _ ?_) (y 1)).trans (congrArg (args m c back _) (Fin.ext ?_)))
  · blk_simp
    rw [(e t).1]
  · blk_simp
    rw [(e t).2]
    omega

/-- The gradient for the gates after the run. -/
theorem array_gate : (dats m 0 c).arrAt 6 cfg0.N = fun i : S2048x2048.Idx => args m c back_gate (i 0) (i 1) := by
  have e : ∀ t : Fin grid0.N, win0_6.index t 0 = t.val ∧ win0_6.index t 1 = 0 := by decide +kernel
  refine (dats m 0 c).arrAt_eq_of_covers 6 _ (by decide +kernel) (fun t _ y => ?_)
  blk_simp
  rw [after0_6, writes_gate]
  rw [show y = ix2 (y 0) (y 1) from by funext a; fin_cases a <;> rfl]
  refine (gate_at _ _ _ _ _ (y 0) (y 1)).trans ((congrFun (moved m c back_gate t (y 0) _ ?_) (y 1)).trans (congrArg (args m c back_gate _) (Fin.ext ?_)))
  · blk_simp
    rw [(e t).1]
  · blk_simp
    rw [(e t).2]
    omega

/-- The gradient for the embeddings after the run. -/
theorem array_up : (dats m 0 c).arrAt 7 cfg0.N = fun i : S2048x2048.Idx => args m c back_up (i 0) (i 1) := by
  have e : ∀ t : Fin grid0.N, win0_7.index t 0 = t.val ∧ win0_7.index t 1 = 0 := by decide +kernel
  refine (dats m 0 c).arrAt_eq_of_covers 7 _ (by decide +kernel) (fun t _ y => ?_)
  blk_simp
  rw [after0_7, writes_up]
  rw [show y = ix2 (y 0) (y 1) from by funext a; fin_cases a <;> rfl]
  refine (up_at _ _ _ _ _ (y 0) (y 1)).trans ((congrFun (moved m c back_up t (y 0) _ ?_) (y 1)).trans (congrArg (args m c back_up _) (Fin.ext ?_)))
  · blk_simp
    rw [(e t).1]
  · blk_simp
    rw [(e t).2]
    omega

/-- The sum of a function of the rows over a tile; zero past the last tile. -/
def part (f : Fin 2048 → EReal) (q : ℕ) : EReal :=
  if h : q < 8 then ∑ r : Fin 256, f ⟨q * 256 + r.val, by omega⟩ else 0

/-- The tiles' sums make the sum over all rows. -/
theorem parts (f : Fin 2048 → EReal) : ∑ q ∈ Finset.range 8, part f q = ∑ R, f R := by
  rw [Finset.sum_range, ← Cert.Blocks.sum_parts 8 256 f]
  exact Finset.sum_congr rfl fun q _ => dif_pos q.isLt

/-- The sum of a function of the rows of a grid point's tiles. -/
theorem sums (f : (h p q t g : Fin 2048 → EReal) → EReal) (t : Fin cfg0.N) :
    ∑ r : Fin 256, f (fun j => rows m c t (ix2 r j)) (fun j => gates m c t (ix2 r j)) (fun j => ups m c t (ix2 r j)) (fun j => targets m c t (ix2 r j))
      (fun j => gains m c t (ix2 0 j)) = part (args m c f) t.val := by
  have ht : t.val < 8 := t.isLt
  rw [part, dif_pos ht]
  exact Finset.sum_congr rfl fun r _ => moved m c f t r ⟨t.val * 256 + r.val, by omega⟩ rfl

/-- What the sum for the gradient for the gain holds after a grid point. -/
theorem held_gain (k : Fin 2048) : ∀ (n : ℕ) (h : n < cfg0.N),
    ((outsAt0 m c n h).2.2.2.1 : Vec Ideal S1x2048 .f32) (ix2 0 k) = ∑ q ∈ Finset.range (n + 1), part (args m c (fun h p q t g => gain_part h p q t g k)) q
  | 0, h => by
    refine (congrFun (first_gain m c ⟨0, h⟩ rfl) _).trans ?_
    rw [add_gain, zero_gain, zero_add, gain_at, Finset.sum_range_one]
    exact sums m c (fun h p q t g => gain_part h p q t g k) ⟨0, h⟩
  | n + 1, h => by
    have hn : n + 1 < 8 := h
    refine (congrFun (next_gain m c ⟨n + 1, h⟩ (by show ¬(n + 1) % 8 = 0; omega)) _).trans ?_
    rw [add_gain, gain_at, Finset.sum_range_succ]
    exact congrArg₂ (· + ·) (held_gain k n (by omega)) (sums m c (fun h p q t g => gain_part h p q t g k) ⟨n + 1, h⟩)

/-- The gradient for the gain after the run. -/
theorem array_gain : (dats m 0 c).arrAt 8 cfg0.N = fun i : S1x2048.Idx => ∑ R, args m c (fun h p q t g => gain_part h p q t g (i 1)) R := by
  have e : ∀ t : Fin grid0.N, win0_8.index t 0 = 0 ∧ win0_8.index t 1 = 0 := by decide +kernel
  refine (dats m 0 c).arrAt_eq_of_covers 8 _ (by decide +kernel) (fun t hf y => ?_)
  have ht : t.val < 8 := t.isLt
  have h7 : t.val = 7 := by have := (flush0_8 t).mp hf; omega
  blk_simp
  rw [after0_8, one_row _ y]
  refine (held_gain m c (y 1) t.val t.isLt).trans ?_
  rw [h7]
  refine (parts (args m c (fun h p q t g => gain_part h p q t g (y 1)))).trans ?_
  refine congrArg (fun k : Fin 2048 => ∑ R, args m c (fun h p q t g => gain_part h p q t g k) R) (Fin.ext ?_)
  blk_simp
  rw [(e t).2]
  omega

/-- What the sum for the loss holds after a grid point. -/
theorem held_loss (k : Fin 128) : ∀ (n : ℕ) (h : n < cfg0.N),
    ((outsAt0 m c n h).2.2.2.2 : Vec Ideal S1x128 .f32) (ix2 0 k) = ∑ q ∈ Finset.range (n + 1), part (args m c (cost)) q
  | 0, h => by
    refine (congrFun (first_loss m c ⟨0, h⟩ rfl) _).trans ?_
    rw [add_loss, zero_loss, zero_add, loss_at, Finset.sum_range_one]
    exact sums m c (cost) ⟨0, h⟩
  | n + 1, h => by
    have hn : n + 1 < 8 := h
    refine (congrFun (next_loss m c ⟨n + 1, h⟩ (by show ¬(n + 1) % 8 = 0; omega)) _).trans ?_
    rw [add_loss, loss_at, Finset.sum_range_succ]
    exact congrArg₂ (· + ·) (held_loss k n (by omega)) (sums m c (cost) ⟨n + 1, h⟩)

/-- The loss after the run. -/
theorem array_loss : (dats m 0 c).arrAt 9 cfg0.N = fun i : S1x128.Idx => ∑ R, args m c (cost) R := by
  have e : ∀ t : Fin grid0.N, win0_9.index t 0 = 0 ∧ win0_9.index t 1 = 0 := by decide +kernel
  refine (dats m 0 c).arrAt_eq_of_covers 9 _ (by decide +kernel) (fun t hf y => ?_)
  have ht : t.val < 8 := t.isLt
  have h7 : t.val = 7 := by have := (flush0_9 t).mp hf; omega
  blk_simp
  rw [after0_9, one_row _ y]
  refine (held_loss m c (y 1) t.val t.isLt).trans ?_
  rw [h7]
  refine (parts (args m c (cost))).trans ?_
  rfl

/-- The call computes the reference's gradients and its loss. -/
theorem algebraic : Cert.algebraic_TailIdeal_TailRefIdeal := by
  intro m g m' g' _ hargs
  refine ⟨fun c => (dats m 0 c).arrAt 5 cfg0.N, fun c => (dats m 0 c).arrAt 6 cfg0.N, fun c => (dats m 0 c).arrAt 7 cfg0.N, fun c => (dats m 0 c).arrAt 8 cfg0.N, fun c => (dats m 0 c).arrAt 9 cfg0.N, run_blocks m g,
    (θ_run _ _ _).mono (fun r h c => ?_) (Cert.TailRefIdeal.Value.run m' g')⟩
  obtain ⟨a0, a1, a2, a3, a4⟩ := hargs c
  obtain ⟨r0, r1, r2, r3, r4, rest⟩ := h c
  refine ⟨r0.trans ?_, r1.trans ?_, r2.trans ?_, r3.trans ?_, r4.trans ?_, rest⟩
  · rw [val_main_v62_eq, a0, a1, a2, a3, a4]
    exact (ref_rows _ _ _ _ _).trans (array_row m c).symm
  · rw [val_main_v66_eq, a0, a1, a2, a3, a4]
    exact (ref_gates _ _ _ _ _).trans (array_gate m c).symm
  · rw [val_main_v67_eq, a0, a1, a2, a3, a4]
    exact (ref_ups _ _ _ _ _).trans (array_up m c).symm
  · rw [a0, a1, a2, a3, a4]
    exact (val_main_v68_eq (m (c.tc.loc main_arg0)) (m (c.tc.loc main_arg1)) (m (c.tc.loc main_arg2)) (m (c.tc.loc main_arg3)) (m (c.tc.loc main_arg4))).trans
      ((ref_gains _ _ _ _ _).trans (array_gain m c).symm)
  · rw [a0, a1, a2, a3, a4]
    exact (val_main_v69_eq (m (c.tc.loc main_arg0)) (m (c.tc.loc main_arg1)) (m (c.tc.loc main_arg2)) (m (c.tc.loc main_arg3)) (m (c.tc.loc main_arg4))).trans
      ((ref_losses _ _ _ _ _).trans (array_loss m c).symm)

/-- The idealization replaces nothing. -/
theorem preserves : Cert.preserves_Tail_TailIdeal := trivial

end Cert.TailIdeal.Proof

namespace Cert.TailRefIdeal.Proof

open Idealize.ShloMosaic Idealize.ShloMosaic.TcCoe Idealize.SL.Sem

/-- The reference leaves its arguments and every counter as they were, from any memory. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run defs _ _).mono (fun r h => ⟨fun c => (h c).2.2.2.2.2, sem_eq_zero_of_no_sems (by decide) r.2⟩) (Value.run m g)

end Cert.TailRefIdeal.Proof

end
-- ==== Proof.lean ====
module

public import proofs.«01_k».proof.Defs
public import proofs.«01_k».proof.Proof.Eq6
public import proofs.«01_k».proof.Proof.Eq4
public import proofs.«01_k».proof.Proof.Eq2
public import proofs.«01_k».proof.Proof.Eq0
public import proofs.«01_k».proof.Proof.Up
public import proofs.«01_k».proof.Proof.Down
public import proofs.«01_k».proof.Proof.In
public import proofs.«01_k».proof.Proof.Proj
public import proofs.«01_k».proof.Proof.Kv
public import proofs.«01_k».proof.Proof.Ple
public import proofs.«01_k».proof.Proof.DownW
public import proofs.«01_k».proof.Proof.DownX
public import proofs.«01_k».proof.Proof.UpW
public import proofs.«01_k».proof.Proof.UpX
public import proofs.«01_k».proof.Proof.InW
public import proofs.«01_k».proof.Proof.InX
public import proofs.«01_k».proof.Proof.ProjW
public import proofs.«01_k».proof.Proof.ProjX
public import proofs.«01_k».proof.Proof.KvW
public import proofs.«01_k».proof.Proof.KvX
public import proofs.«01_k».proof.Proof.PleW
public import proofs.«01_k».proof.Proof.StepRows
public import proofs.«01_k».proof.Proof.StepIn
public import proofs.«01_k».proof.Proof.StepKvf
public import proofs.«01_k».proof.Proof.StepLb
public import proofs.«01_k».proof.Proof.StepGate
public import proofs.«01_k».proof.Proof.StepPle
public import proofs.«01_k».proof.Proof.StepDown
public import proofs.«01_k».proof.Proof.StepUp
public import proofs.«01_k».proof.Proof.StepSmall
public import proofs.«01_k».proof.Proof.Norm
public import proofs.«01_k».proof.Proof.Tail
public import Idealize.ShloMosaic.Adequacy
public import Idealize.ShloMosaic.Init

@[expose] public section

noncomputable section

namespace Cert.Proof

open Idealize.ShloMosaic Idealize.SL.Sem Cert.Attn6

/-- The certificate: the facts the printed programs take, then the claims in the order they are stated. -/
theorem claim : Cert.Claim := ⟨Cert.Attn6.Gen.facts,
  Cert.Attn6Ideal.Gen.facts,
  Cert.AttnGrad6Ideal.Gen.facts,
  Cert.Attn4.Gen.facts,
  Cert.Attn4Ideal.Gen.facts,
  Cert.AttnGrad4Ideal.Gen.facts,
  Cert.Attn2.Gen.facts,
  Cert.Attn2Ideal.Gen.facts,
  Cert.AttnGrad2Ideal.Gen.facts,
  Cert.Attn0.Gen.facts,
  Cert.Attn0Ideal.Gen.facts,
  Cert.AttnGrad0Ideal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.In.Gen.facts,
  Cert.InIdeal.Gen.facts,
  Cert.InRefIdeal.Gen.facts,
  Cert.Proj.Gen.facts,
  Cert.ProjIdeal.Gen.facts,
  Cert.ProjRefIdeal.Gen.facts,
  Cert.Kv.Gen.facts,
  Cert.KvIdeal.Gen.facts,
  Cert.KvRefIdeal.Gen.facts,
  Cert.Ple.Gen.facts,
  Cert.PleIdeal.Gen.facts,
  Cert.PleRefIdeal.Gen.facts,
  Cert.DownW.Gen.facts,
  Cert.DownWIdeal.Gen.facts,
  Cert.DownWRefIdeal.Gen.facts,
  Cert.DownX.Gen.facts,
  Cert.DownXIdeal.Gen.facts,
  Cert.DownXRefIdeal.Gen.facts,
  Cert.UpW.Gen.facts,
  Cert.UpWIdeal.Gen.facts,
  Cert.UpWRefIdeal.Gen.facts,
  Cert.UpX.Gen.facts,
  Cert.UpXIdeal.Gen.facts,
  Cert.UpXRefIdeal.Gen.facts,
  Cert.InW.Gen.facts,
  Cert.InWIdeal.Gen.facts,
  Cert.InWRefIdeal.Gen.facts,
  Cert.InX.Gen.facts,
  Cert.InXIdeal.Gen.facts,
  Cert.InXRefIdeal.Gen.facts,
  Cert.ProjW.Gen.facts,
  Cert.ProjWIdeal.Gen.facts,
  Cert.ProjWRefIdeal.Gen.facts,
  Cert.ProjX.Gen.facts,
  Cert.ProjXIdeal.Gen.facts,
  Cert.ProjXRefIdeal.Gen.facts,
  Cert.KvW.Gen.facts,
  Cert.KvWIdeal.Gen.facts,
  Cert.KvWRefIdeal.Gen.facts,
  Cert.KvX.Gen.facts,
  Cert.KvXIdeal.Gen.facts,
  Cert.KvXRefIdeal.Gen.facts,
  Cert.PleW.Gen.facts,
  Cert.PleWIdeal.Gen.facts,
  Cert.PleWRefIdeal.Gen.facts,
  Cert.StepRows.Gen.facts,
  Cert.StepRowsIdeal.Gen.facts,
  Cert.StepRowsRefIdeal.Gen.facts,
  Cert.StepIn.Gen.facts,
  Cert.StepInIdeal.Gen.facts,
  Cert.StepInRefIdeal.Gen.facts,
  Cert.StepKvf.Gen.facts,
  Cert.StepKvfIdeal.Gen.facts,
  Cert.StepKvfRefIdeal.Gen.facts,
  Cert.StepLb.Gen.facts,
  Cert.StepLbIdeal.Gen.facts,
  Cert.StepLbRefIdeal.Gen.facts,
  Cert.StepGate.Gen.facts,
  Cert.StepGateIdeal.Gen.facts,
  Cert.StepGateRefIdeal.Gen.facts,
  Cert.StepPle.Gen.facts,
  Cert.StepPleIdeal.Gen.facts,
  Cert.StepPleRefIdeal.Gen.facts,
  Cert.StepDown.Gen.facts,
  Cert.StepDownIdeal.Gen.facts,
  Cert.StepDownRefIdeal.Gen.facts,
  Cert.StepUp.Gen.facts,
  Cert.StepUpIdeal.Gen.facts,
  Cert.StepUpRefIdeal.Gen.facts,
  Cert.StepSmall.Gen.facts,
  Cert.StepSmallIdeal.Gen.facts,
  Cert.StepSmallRefIdeal.Gen.facts,
  Cert.Norm.Gen.facts,
  Cert.NormIdeal.Gen.facts,
  Cert.NormRefIdeal.Gen.facts,
  Cert.Tail.Gen.facts,
  Cert.TailIdeal.Gen.facts,
  Cert.TailRefIdeal.Gen.facts,
  Cert.Pre_finite.Gen.facts,
  Cert.Pre_finite_later.Gen.facts,
  Cert.On_rows_written.Gen.facts,
  fun m g _ => Cert.Attn6.Gen.frame m g,
  fun m g _ => Cert.Attn6Ideal.Gen.frame m g,
  fun m g _ => Cert.Attn6Ideal.Gen.frame m g,
  fun m g _ => Call6.frame_ref m g,
  fun m g _ => Call6.frame_ref m g,
  fun m g _ => Cert.Attn4.Gen.frame m g,
  fun m g _ => Cert.Attn4Ideal.Gen.frame m g,
  fun m g _ => Cert.Attn4Ideal.Gen.frame m g,
  fun m g _ => Call4.frame_ref m g,
  fun m g _ => Call4.frame_ref m g,
  fun m g _ => Cert.Attn2.Gen.frame m g,
  fun m g _ => Cert.Attn2Ideal.Gen.frame m g,
  fun m g _ => Cert.Attn2Ideal.Gen.frame m g,
  fun m g _ => Call2.frame_ref m g,
  fun m g _ => Call2.frame_ref m g,
  fun m g _ => Cert.Attn0.Gen.frame m g,
  fun m g _ => Cert.Attn0Ideal.Gen.frame m g,
  fun m g _ => Cert.Attn0Ideal.Gen.frame m g,
  fun m g _ => Call0.frame_ref m g,
  fun m g _ => Call0.frame_ref m g,
  fun m g _ => Cert.Up.Gen.frame m g,
  fun m g _ => Cert.UpIdeal.Gen.frame m g,
  fun m g _ => Cert.UpRefIdeal.Proof.frame_ref m g,
  fun m g _ => Cert.Down.Gen.frame m g,
  fun m g _ => Cert.DownIdeal.Gen.frame m g,
  fun m g _ => Cert.DownRefIdeal.Proof.frame_ref m g,
  fun m g _ => Cert.In.Gen.frame m g,
  fun m g _ => Cert.InIdeal.Gen.frame m g,
  fun m g _ => Cert.InRefIdeal.Proof.frame_ref m g,
  fun m g _ => Cert.Proj.Gen.frame m g,
  fun m g _ => Cert.ProjIdeal.Gen.frame m g,
  fun m g _ => Cert.ProjRefIdeal.Proof.frame_ref m g,
  fun m g _ => Cert.Kv.Gen.frame m g,
  fun m g _ => Cert.KvIdeal.Gen.frame m g,
  fun m g _ => Cert.KvRefIdeal.Proof.frame_ref m g,
  fun m g _ => Cert.Ple.Gen.frame m g,
  fun m g _ => Cert.PleIdeal.Gen.frame m g,
  fun m g _ => Cert.PleRefIdeal.Proof.frame_ref m g,
  fun m g _ => Cert.DownW.Gen.frame m g,
  fun m g _ => Cert.DownWIdeal.Gen.frame m g,
  fun m g _ => Cert.DownWRefIdeal.Proof.frame_ref m g,
  fun m g _ => Cert.DownX.Gen.frame m g,
  fun m g _ => Cert.DownXIdeal.Gen.frame m g,
  fun m g _ => Cert.DownXRefIdeal.Proof.frame_ref m g,
  fun m g _ => Cert.UpW.Gen.frame m g,
  fun m g _ => Cert.UpWIdeal.Gen.frame m g,
  fun m g _ => Cert.UpWRefIdeal.Proof.frame_ref m g,
  fun m g _ => Cert.UpX.Gen.frame m g,
  fun m g _ => Cert.UpXIdeal.Gen.frame m g,
  fun m g _ => Cert.UpXRefIdeal.Proof.frame_ref m g,
  fun m g _ => Cert.InW.Gen.frame m g,
  fun m g _ => Cert.InWIdeal.Gen.frame m g,
  fun m g _ => Cert.InWRefIdeal.Proof.frame_ref m g,
  fun m g _ => Cert.InX.Gen.frame m g,
  fun m g _ => Cert.InXIdeal.Gen.frame m g,
  fun m g _ => Cert.InXRefIdeal.Proof.frame_ref m g,
  fun m g _ => Cert.ProjW.Gen.frame m g,
  fun m g _ => Cert.ProjWIdeal.Gen.frame m g,
  fun m g _ => Cert.ProjWRefIdeal.Proof.frame_ref m g,
  fun m g _ => Cert.ProjX.Gen.frame m g,
  fun m g _ => Cert.ProjXIdeal.Gen.frame m g,
  fun m g _ => Cert.ProjXRefIdeal.Proof.frame_ref m g,
  fun m g _ => Cert.KvW.Gen.frame m g,
  fun m g _ => Cert.KvWIdeal.Gen.frame m g,
  fun m g _ => Cert.KvWRefIdeal.Proof.frame_ref m g,
  fun m g _ => Cert.KvX.Gen.frame m g,
  fun m g _ => Cert.KvXIdeal.Gen.frame m g,
  fun m g _ => Cert.KvXRefIdeal.Proof.frame_ref m g,
  fun m g _ => Cert.PleW.Gen.frame m g,
  fun m g _ => Cert.PleWIdeal.Gen.frame m g,
  fun m g _ => Cert.PleWRefIdeal.Proof.frame_ref m g,
  fun m g _ => Cert.StepRows.Gen.frame m g,
  fun m g _ => Cert.StepRowsIdeal.Gen.frame m g,
  fun m g _ => Cert.StepRowsRefIdeal.Proof.frame_ref m g,
  fun m g _ => Cert.StepIn.Gen.frame m g,
  fun m g _ => Cert.StepInIdeal.Gen.frame m g,
  fun m g _ => Cert.StepInRefIdeal.Proof.frame_ref m g,
  fun m g _ => Cert.StepKvf.Gen.frame m g,
  fun m g _ => Cert.StepKvfIdeal.Gen.frame m g,
  fun m g _ => Cert.StepKvfRefIdeal.Proof.frame_ref m g,
  fun m g _ => Cert.StepLb.Gen.frame m g,
  fun m g _ => Cert.StepLbIdeal.Gen.frame m g,
  fun m g _ => Cert.StepLbRefIdeal.Proof.frame_ref m g,
  fun m g _ => Cert.StepGate.Gen.frame m g,
  fun m g _ => Cert.StepGateIdeal.Gen.frame m g,
  fun m g _ => Cert.StepGateRefIdeal.Proof.frame_ref m g,
  fun m g _ => Cert.StepPle.Gen.frame m g,
  fun m g _ => Cert.StepPleIdeal.Gen.frame m g,
  fun m g _ => Cert.StepPleRefIdeal.Proof.frame_ref m g,
  fun m g _ => Cert.StepDown.Gen.frame m g,
  fun m g _ => Cert.StepDownIdeal.Gen.frame m g,
  fun m g _ => Cert.StepDownRefIdeal.Proof.frame_ref m g,
  fun m g _ => Cert.StepUp.Gen.frame m g,
  fun m g _ => Cert.StepUpIdeal.Gen.frame m g,
  fun m g _ => Cert.StepUpRefIdeal.Proof.frame_ref m g,
  fun m g _ => Cert.StepSmall.Gen.frame m g,
  fun m g _ => Cert.StepSmallIdeal.Gen.frame m g,
  fun m g _ => Cert.StepSmallRefIdeal.Proof.frame_ref m g,
  fun m g _ => Cert.Norm.Gen.frame m g,
  fun m g _ => Cert.NormIdeal.Gen.frame m g,
  fun m g _ => Cert.NormRefIdeal.Proof.frame_ref m g,
  fun m g _ => Cert.Tail.Gen.frame m g,
  fun m g _ => Cert.TailIdeal.Gen.frame m g,
  fun m g _ => Cert.TailRefIdeal.Proof.frame_ref m g,
  Call6.preserves,
  Call6.algebraic,
  Call4.preserves,
  Call4.algebraic,
  Call2.preserves,
  Call2.algebraic,
  Call0.preserves,
  Call0.algebraic,
  Cert.UpIdeal.Proof.preserves,
  Cert.UpIdeal.Proof.algebraic,
  Cert.DownIdeal.Proof.preserves,
  Cert.DownIdeal.Proof.algebraic,
  Cert.InIdeal.Proof.preserves,
  Cert.InIdeal.Proof.algebraic,
  Cert.ProjIdeal.Proof.preserves,
  Cert.ProjIdeal.Proof.algebraic,
  Cert.KvIdeal.Proof.preserves,
  Cert.KvIdeal.Proof.algebraic,
  Cert.PleIdeal.Proof.preserves,
  Cert.PleIdeal.Proof.algebraic,
  Cert.DownWIdeal.Proof.preserves,
  Cert.DownWIdeal.Proof.algebraic,
  Cert.DownXIdeal.Proof.preserves,
  Cert.DownXIdeal.Proof.algebraic,
  Cert.UpWIdeal.Proof.preserves,
  Cert.UpWIdeal.Proof.algebraic,
  Cert.UpXIdeal.Proof.preserves,
  Cert.UpXIdeal.Proof.algebraic,
  Cert.InWIdeal.Proof.preserves,
  Cert.InWIdeal.Proof.algebraic,
  Cert.InXIdeal.Proof.preserves,
  Cert.InXIdeal.Proof.algebraic,
  Cert.ProjWIdeal.Proof.preserves,
  Cert.ProjWIdeal.Proof.algebraic,
  Cert.ProjXIdeal.Proof.preserves,
  Cert.ProjXIdeal.Proof.algebraic,
  Cert.KvWIdeal.Proof.preserves,
  Cert.KvWIdeal.Proof.algebraic,
  Cert.KvXIdeal.Proof.preserves,
  Cert.KvXIdeal.Proof.algebraic,
  Cert.PleWIdeal.Proof.preserves,
  Cert.PleWIdeal.Proof.algebraic,
  Cert.StepRowsIdeal.Proof.preserves,
  Cert.StepRowsIdeal.Proof.algebraic,
  Cert.StepInIdeal.Proof.preserves,
  Cert.StepInIdeal.Proof.algebraic,
  Cert.StepKvfIdeal.Proof.preserves,
  Cert.StepKvfIdeal.Proof.algebraic,
  Cert.StepLbIdeal.Proof.preserves,
  Cert.StepLbIdeal.Proof.algebraic,
  Cert.StepGateIdeal.Proof.preserves,
  Cert.StepGateIdeal.Proof.algebraic,
  Cert.StepPleIdeal.Proof.preserves,
  Cert.StepPleIdeal.Proof.algebraic,
  Cert.StepDownIdeal.Proof.preserves,
  Cert.StepDownIdeal.Proof.algebraic,
  Cert.StepUpIdeal.Proof.preserves,
  Cert.StepUpIdeal.Proof.algebraic,
  Cert.StepSmallIdeal.Proof.preserves,
  Cert.StepSmallIdeal.Proof.algebraic,
  Cert.NormIdeal.Proof.preserves,
  Cert.NormIdeal.Proof.algebraic,
  Cert.TailIdeal.Proof.preserves,
  Cert.TailIdeal.Proof.algebraic⟩

end Cert.Proof

end
